-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x8x4096 : Shape := ⟨3, ![16, 8, 4096]⟩
abbrev S16 : Shape := ⟨1, ![16]⟩
abbrev S16x4096x3072 : Shape := ⟨3, ![16, 4096, 3072]⟩
abbrev S16x32x24 : Shape := ⟨3, ![16, 32, 24]⟩
abbrev S_ : Shape := ⟨0, ![]⟩

class Facts : Prop where
  bitsLt_bf16_f32 : FTy.bits .bf16 < FTy.bits .f32
  bcast_S_S16x8x4096 : S_.BroadcastsInDim S16x8x4096 (![] : Fin 0 → Fin S16x8x4096.rank)

variable [Facts]

def fn {F : FTy → Type} [FloatOps F] (main_arg0 : FVec F S16x8x4096 .bf16) (main_arg1 : IVec S16 32) (main_arg2 : FVec F S16x4096x3072 .fp8e4m3) (main_arg3 : FVec F S16x32x24 .f32) : IVec S16x8x4096 1 :=
  let main_v0 : FVec F S16x8x4096 .f32 := (extf .f32 · bitsLt_bf16_f32) main_arg0
  let main_v1 : FVec F S16x8x4096 .f32 := Host.absf main_v0
  let main_cst : FVec F S_ .f32 := constant S_ .f32 0x7F7F0000#32
  let main_v2 : FVec F S16x8x4096 .f32 := broadcastInDim S16x8x4096 ![] bcast_S_S16x8x4096 main_cst
  let main_v3 : IVec S16x8x4096 1 := cmpf .ole main_v1 main_v2
  main_v3
-- ==== Kernel.lean ====
abbrev S16x8x4096 : Shape := ⟨3, ![16, 8, 4096]⟩
abbrev S16 : Shape := ⟨1, ![16]⟩
abbrev S16x4096x3072 : Shape := ⟨3, ![16, 4096, 3072]⟩
abbrev S16x32x24 : Shape := ⟨3, ![16, 32, 24]⟩
abbrev S16x8x3072 : Shape := ⟨3, ![16, 8, 3072]⟩
abbrev S17 : Shape := ⟨1, ![17]⟩
abbrev S2x8x512x3072 : Shape := ⟨4, ![2, 8, 512, 3072]⟩
abbrev S16x16x256 : Shape := ⟨3, ![16, 16, 256]⟩
abbrev S32x3072 : Shape := ⟨2, ![32, 3072]⟩
abbrev S_ : Shape := ⟨0, ![]⟩
abbrev S2x8 : Shape := ⟨2, ![2, 8]⟩
abbrev S1 : Shape := ⟨1, ![1]⟩
abbrev S1x1 : Shape := ⟨2, ![1, 1]⟩
abbrev S1x1x512x3072 : Shape := ⟨4, ![1, 1, 512, 3072]⟩
abbrev S512x3072 : Shape := ⟨2, ![512, 3072]⟩
abbrev S1x512x3072 : Shape := ⟨3, ![1, 512, 3072]⟩
abbrev S8x3072 : Shape := ⟨2, ![8, 3072]⟩
abbrev S1x8x3072 : Shape := ⟨3, ![1, 8, 3072]⟩
abbrev S8x128 : Shape := ⟨2, ![8, 128]⟩
abbrev S1x8x128 : Shape := ⟨3, ![1, 8, 128]⟩
abbrev S8 : Shape := ⟨1, ![8]⟩
abbrev S8x1 : Shape := ⟨2, ![8, 1]⟩
abbrev S32x128 : Shape := ⟨2, ![32, 128]⟩
abbrev S16x128 : Shape := ⟨2, ![16, 128]⟩
abbrev S1x16x128 : Shape := ⟨3, ![1, 16, 128]⟩
abbrev S1x32x24 : Shape := ⟨3, ![1, 32, 24]⟩
abbrev S32x24 : Shape := ⟨2, ![32, 24]⟩
abbrev S32x1 : Shape := ⟨2, ![32, 1]⟩
abbrev S1x16x256 : Shape := ⟨3, ![1, 16, 256]⟩
abbrev S16x256 : Shape := ⟨2, ![16, 256]⟩
abbrev S1x1x256x3072 : Shape := ⟨4, ![1, 1, 256, 3072]⟩
abbrev S256x3072 : Shape := ⟨2, ![256, 3072]⟩
abbrev S16x3072 : Shape := ⟨2, ![16, 3072]⟩
abbrev S1x3072 : Shape := ⟨2, ![1, 3072]⟩

abbrev nBuf : Space → Nat
  | .hbm => 5
  | .vmem => 6
  | .smem => 2
  | _ => 0

abbrev bufTy : (tb : Table) → Fin (tcTables nBuf tb) → BufTy
  | .hbm, ⟨0, _⟩ => ⟨S16x8x4096, .bf16⟩
  | .hbm, ⟨1, _⟩ => ⟨S16, .i32⟩
  | .hbm, ⟨2, _⟩ => ⟨S16x4096x3072, .fp8e4m3⟩
  | .hbm, ⟨3, _⟩ => ⟨S16x32x24, .f32⟩
  | .hbm, ⟨4, _⟩ => ⟨S16x8x3072, .bf16⟩
  | .local _ .vmem, ⟨0, _⟩ => ⟨S16x8x4096, .bf16⟩
  | .local _ .vmem, ⟨1, _⟩ => ⟨S16x32x24, .f32⟩
  | .local _ .vmem, ⟨2, _⟩ => ⟨S2x8x512x3072, .fp8e4m3⟩
  | .local _ .vmem, ⟨3, _⟩ => ⟨S16x16x256, .bf16⟩
  | .local _ .vmem, ⟨4, _⟩ => ⟨S32x3072, .f32⟩
  | .local _ .vmem, ⟨5, _⟩ => ⟨S16x8x3072, .bf16⟩
  | .local _ .smem, ⟨0, _⟩ => ⟨S16, .i32⟩
  | .local _ .smem, ⟨1, _⟩ => ⟨S17, .i32⟩
  | _, _ => ⟨S16x8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch2 : Ref sig .tc := ⟨.smem, 0, rfl⟩
abbrev cc0_scratch3 : Ref sig .tc := ⟨.smem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c16_i32 : BitVec 32 := 16#32
  let v0 : BitVec 32 := Scalar.addi c0_i32_0 c16_i32
  let c1_i32 : BitVec 32 := 1#32
  ⟨c0_i32_0, v0, c1_i32⟩
def k0_off1 (arg19 : BitVec 32) : Fin 1 → Nat :=
  let v15 : Index := Scalar.indexCast arg19
  ![v15.toNat]

def k0_chk1 (arg19 : BitVec 32) : Prop :=
  (∀ a, (k0_off1 arg19) a + S1.size a ≤ S17.size a)
theorem k0_off1_inb : ∀ (arg19 : BitVec 32) (k0_hw1 : k0_chk1 arg19), ∀ a, (k0_off1 arg19) a + S1.size a ≤ S17.size a := fun arg19 k0_hw1 => k0_hw1

def k0_off2 (k0_t1 : Fin k0_t1_loop.trips) : Fin 1 → Nat :=
  let c0_i32_0 : BitVec 32 := 0#32
  let c1_i32 : BitVec 32 := 1#32
  let arg18 : BitVec 32 := Scf.iv c0_i32_0 c1_i32 k0_t1
  let v17 : Index := Scalar.indexCast arg18
  ![v17.toNat]
def k0_off3 : Fin 2 → Nat :=
  let c0_i32_19 : BitVec 32 := 0#32
  let c2_i32 : BitVec 32 := 2#32
  let v16 : BitVec 32 := Scalar.remsi c0_i32_19 c2_i32
  let c0_i32_21 : BitVec 32 := 0#32
  ![v16.toNat, 0]
def k0_off4 : Fin 4 → Nat :=
  let c0_i32_19 : BitVec 32 := 0#32
  let c2_i32 : BitVec 32 := 2#32
  let v16 : BitVec 32 := Scalar.remsi c0_i32_19 c2_i32
  let c0_i32_20 : BitVec 32 := 0#32
  let c0_i32_22 : BitVec 32 := 0#32
  let c0_i32_23 : BitVec 32 := 0#32
  ![v16.toNat, 0, 0, 0]
def k0_off5 (v15 : BitVec 32) : Fin 3 → Nat :=
  let c0_i32_24 : BitVec 32 := 0#32
  let c0_i32_25 : BitVec 32 := 0#32
  ![v15.toNat, 0, 0]
def k0_cond1 (v1 : BitVec 32) : BitVec 1 :=
  let c0_i32_2 : BitVec 32 := 0#32
  let v2 : BitVec 1 := Scalar.cmpi .sgt v1 c0_i32_2
  let v3 : BitVec 32 := Scalar.extui v2
  let c0_i32_3 : BitVec 32 := 0#32
  let v4 : BitVec 1 := Scalar.cmpi .ne v3 c0_i32_3
  v4

def k0_chk2 (v1 : BitVec 32) (v15 : BitVec 32) : Prop :=
  (∀ (k0_h1 : k0_cond1 v1 = 1#1), ∀ a, (k0_off5 v15) a + S1x512x3072.size a ≤ S16x4096x3072.size a) ∧
  (∀ (k0_h1 : k0_cond1 v1 = 1#1), ∀ (hinb : ∀ a, (k0_off5 v15) a + S1x512x3072.size a ≤ S16x4096x3072.size a), (Rect.unit (s := S16x4096x3072) (k0_off5 v15) S1x512x3072.size hinb).WholeWords (EltTy.packing .fp8e4m3))
theorem k0_off5_inb : ∀ (v1 : BitVec 32) (v15 : BitVec 32) (k0_hw2 : k0_chk2 v1 v15), ∀ (k0_h1 : k0_cond1 v1 = 1#1), ∀ a, (k0_off5 v15) a + S1x512x3072.size a ≤ S16x4096x3072.size a := fun v1 v15 k0_hw2 k0_h1 => k0_hw2.1 k0_h1
theorem k0_off5_wordsfp8e4m3 : ∀ (v1 : BitVec 32) (v15 : BitVec 32) (k0_hw2 : k0_chk2 v1 v15), ∀ (k0_h1 : k0_cond1 v1 = 1#1), (Rect.unit (s := S16x4096x3072) (k0_off5 v15) S1x512x3072.size (k0_off5_inb v1 v15 k0_hw2 k0_h1)).WholeWords (EltTy.packing .fp8e4m3) := fun v1 v15 k0_hw2 k0_h1 => k0_hw2.2 k0_h1 (k0_off5_inb v1 v15 k0_hw2 k0_h1)

def k0_off6 : Fin 2 → Nat :=
  let c0_i32_27 : BitVec 32 := 0#32
  let c2_i32_28 : BitVec 32 := 2#32
  let v24 : BitVec 32 := Scalar.remsi c0_i32_27 c2_i32_28
  let c1_i32_30 : BitVec 32 := 1#32
  ![v24.toNat, 1]
def k0_off7 : Fin 4 → Nat :=
  let c0_i32_27 : BitVec 32 := 0#32
  let c2_i32_28 : BitVec 32 := 2#32
  let v24 : BitVec 32 := Scalar.remsi c0_i32_27 c2_i32_28
  let c1_i32_29 : BitVec 32 := 1#32
  let c0_i32_31 : BitVec 32 := 0#32
  let c0_i32_32 : BitVec 32 := 0#32
  ![v24.toNat, 1, 0, 0]
def k0_off8 (v23 : BitVec 32) : Fin 3 → Nat :=
  let c512_i32 : BitVec 32 := 512#32
  let c0_i32_33 : BitVec 32 := 0#32
  ![v23.toNat, 512, 0]

def k0_chk3 (v1 : BitVec 32) (v23 : BitVec 32) : Prop :=
  (∀ (k0_h1 : k0_cond1 v1 = 1#1), ∀ a, (k0_off8 v23) a + S1x512x3072.size a ≤ S16x4096x3072.size a) ∧
  (∀ (k0_h1 : k0_cond1 v1 = 1#1), ∀ (hinb : ∀ a, (k0_off8 v23) a + S1x512x3072.size a ≤ S16x4096x3072.size a), (Rect.unit (s := S16x4096x3072) (k0_off8 v23) S1x512x3072.size hinb).WholeWords (EltTy.packing .fp8e4m3))
theorem k0_off8_inb : ∀ (v1 : BitVec 32) (v23 : BitVec 32) (k0_hw3 : k0_chk3 v1 v23), ∀ (k0_h1 : k0_cond1 v1 = 1#1), ∀ a, (k0_off8 v23) a + S1x512x3072.size a ≤ S16x4096x3072.size a := fun v1 v23 k0_hw3 k0_h1 => k0_hw3.1 k0_h1
theorem k0_off8_wordsfp8e4m3 : ∀ (v1 : BitVec 32) (v23 : BitVec 32) (k0_hw3 : k0_chk3 v1 v23), ∀ (k0_h1 : k0_cond1 v1 = 1#1), (Rect.unit (s := S16x4096x3072) (k0_off8 v23) S1x512x3072.size (k0_off8_inb v1 v23 k0_hw3 k0_h1)).WholeWords (EltTy.packing .fp8e4m3) := fun v1 v23 k0_hw3 k0_h1 => k0_hw3.2 k0_h1 (k0_off8_inb v1 v23 k0_hw3 k0_h1)

def k0_off9 : Fin 2 → Nat :=
  let c0_i32_35 : BitVec 32 := 0#32
  let c2_i32_36 : BitVec 32 := 2#32
  let v32 : BitVec 32 := Scalar.remsi c0_i32_35 c2_i32_36
  let c2_i32_38 : BitVec 32 := 2#32
  ![v32.toNat, 2]
def k0_off10 : Fin 4 → Nat :=
  let c0_i32_35 : BitVec 32 := 0#32
  let c2_i32_36 : BitVec 32 := 2#32
  let v32 : BitVec 32 := Scalar.remsi c0_i32_35 c2_i32_36
  let c2_i32_37 : BitVec 32 := 2#32
  let c0_i32_39 : BitVec 32 := 0#32
  let c0_i32_40 : BitVec 32 := 0#32
  ![v32.toNat, 2, 0, 0]
def k0_off11 (v31 : BitVec 32) : Fin 3 → Nat :=
  let c1024_i32 : BitVec 32 := 1024#32
  let c0_i32_41 : BitVec 32 := 0#32
  ![v31.toNat, 1024, 0]

def k0_chk4 (v1 : BitVec 32) (v31 : BitVec 32) : Prop :=
  (∀ (k0_h1 : k0_cond1 v1 = 1#1), ∀ a, (k0_off11 v31) a + S1x512x3072.size a ≤ S16x4096x3072.size a) ∧
  (∀ (k0_h1 : k0_cond1 v1 = 1#1), ∀ (hinb : ∀ a, (k0_off11 v31) a + S1x512x3072.size a ≤ S16x4096x3072.size a), (Rect.unit (s := S16x4096x3072) (k0_off11 v31) S1x512x3072.size hinb).WholeWords (EltTy.packing .fp8e4m3))
theorem k0_off11_inb : ∀ (v1 : BitVec 32) (v31 : BitVec 32) (k0_hw4 : k0_chk4 v1 v31), ∀ (k0_h1 : k0_cond1 v1 = 1#1), ∀ a, (k0_off11 v31) a + S1x512x3072.size a ≤ S16x4096x3072.size a := fun v1 v31 k0_hw4 k0_h1 => k0_hw4.1 k0_h1
theorem k0_off11_wordsfp8e4m3 : ∀ (v1 : BitVec 32) (v31 : BitVec 32) (k0_hw4 : k0_chk4 v1 v31), ∀ (k0_h1 : k0_cond1 v1 = 1#1), (Rect.unit (s := S16x4096x3072) (k0_off11 v31) S1x512x3072.size (k0_off11_inb v1 v31 k0_hw4 k0_h1)).WholeWords (EltTy.packing .fp8e4m3) := fun v1 v31 k0_hw4 k0_h1 => k0_hw4.2 k0_h1 (k0_off11_inb v1 v31 k0_hw4 k0_h1)

def k0_off12 : Fin 2 → Nat :=
  let c0_i32_43 : BitVec 32 := 0#32
  let c2_i32_44 : BitVec 32 := 2#32
  let v40 : BitVec 32 := Scalar.remsi c0_i32_43 c2_i32_44
  let c3_i32_45 : BitVec 32 := 3#32
  ![v40.toNat, 3]
def k0_off13 : Fin 4 → Nat :=
  let c0_i32_43 : BitVec 32 := 0#32
  let c2_i32_44 : BitVec 32 := 2#32
  let v40 : BitVec 32 := Scalar.remsi c0_i32_43 c2_i32_44
  let c3_i32 : BitVec 32 := 3#32
  let c0_i32_46 : BitVec 32 := 0#32
  let c0_i32_47 : BitVec 32 := 0#32
  ![v40.toNat, 3, 0, 0]
def k0_off14 (v39 : BitVec 32) : Fin 3 → Nat :=
  let c1536_i32 : BitVec 32 := 1536#32
  let c0_i32_48 : BitVec 32 := 0#32
  ![v39.toNat, 1536, 0]

def k0_chk5 (v1 : BitVec 32) (v39 : BitVec 32) : Prop :=
  (∀ (k0_h1 : k0_cond1 v1 = 1#1), ∀ a, (k0_off14 v39) a + S1x512x3072.size a ≤ S16x4096x3072.size a) ∧
  (∀ (k0_h1 : k0_cond1 v1 = 1#1), ∀ (hinb : ∀ a, (k0_off14 v39) a + S1x512x3072.size a ≤ S16x4096x3072.size a), (Rect.unit (s := S16x4096x3072) (k0_off14 v39) S1x512x3072.size hinb).WholeWords (EltTy.packing .fp8e4m3))
theorem k0_off14_inb : ∀ (v1 : BitVec 32) (v39 : BitVec 32) (k0_hw5 : k0_chk5 v1 v39), ∀ (k0_h1 : k0_cond1 v1 = 1#1), ∀ a, (k0_off14 v39) a + S1x512x3072.size a ≤ S16x4096x3072.size a := fun v1 v39 k0_hw5 k0_h1 => k0_hw5.1 k0_h1
theorem k0_off14_wordsfp8e4m3 : ∀ (v1 : BitVec 32) (v39 : BitVec 32) (k0_hw5 : k0_chk5 v1 v39), ∀ (k0_h1 : k0_cond1 v1 = 1#1), (Rect.unit (s := S16x4096x3072) (k0_off14 v39) S1x512x3072.size (k0_off14_inb v1 v39 k0_hw5 k0_h1)).WholeWords (EltTy.packing .fp8e4m3) := fun v1 v39 k0_hw5 k0_h1 => k0_hw5.2 k0_h1 (k0_off14_inb v1 v39 k0_hw5 k0_h1)

def k0_off15 : Fin 2 → Nat :=
  let c0_i32_50 : BitVec 32 := 0#32
  let c2_i32_51 : BitVec 32 := 2#32
  let v48 : BitVec 32 := Scalar.remsi c0_i32_50 c2_i32_51
  let c4_i32_52 : BitVec 32 := 4#32
  ![v48.toNat, 4]
def k0_off16 : Fin 4 → Nat :=
  let c0_i32_50 : BitVec 32 := 0#32
  let c2_i32_51 : BitVec 32 := 2#32
  let v48 : BitVec 32 := Scalar.remsi c0_i32_50 c2_i32_51
  let c4_i32 : BitVec 32 := 4#32
  let c0_i32_53 : BitVec 32 := 0#32
  let c0_i32_54 : BitVec 32 := 0#32
  ![v48.toNat, 4, 0, 0]
def k0_off17 (v47 : BitVec 32) : Fin 3 → Nat :=
  let c2048_i32 : BitVec 32 := 2048#32
  let c0_i32_55 : BitVec 32 := 0#32
  ![v47.toNat, 2048, 0]

def k0_chk6 (v1 : BitVec 32) (v47 : BitVec 32) : Prop :=
  (∀ (k0_h1 : k0_cond1 v1 = 1#1), ∀ a, (k0_off17 v47) a + S1x512x3072.size a ≤ S16x4096x3072.size a) ∧
  (∀ (k0_h1 : k0_cond1 v1 = 1#1), ∀ (hinb : ∀ a, (k0_off17 v47) a + S1x512x3072.size a ≤ S16x4096x3072.size a), (Rect.unit (s := S16x4096x3072) (k0_off17 v47) S1x512x3072.size hinb).WholeWords (EltTy.packing .fp8e4m3))
theorem k0_off17_inb : ∀ (v1 : BitVec 32) (v47 : BitVec 32) (k0_hw6 : k0_chk6 v1 v47), ∀ (k0_h1 : k0_cond1 v1 = 1#1), ∀ a, (k0_off17 v47) a + S1x512x3072.size a ≤ S16x4096x3072.size a := fun v1 v47 k0_hw6 k0_h1 => k0_hw6.1 k0_h1
theorem k0_off17_wordsfp8e4m3 : ∀ (v1 : BitVec 32) (v47 : BitVec 32) (k0_hw6 : k0_chk6 v1 v47), ∀ (k0_h1 : k0_cond1 v1 = 1#1), (Rect.unit (s := S16x4096x3072) (k0_off17 v47) S1x512x3072.size (k0_off17_inb v1 v47 k0_hw6 k0_h1)).WholeWords (EltTy.packing .fp8e4m3) := fun v1 v47 k0_hw6 k0_h1 => k0_hw6.2 k0_h1 (k0_off17_inb v1 v47 k0_hw6 k0_h1)

def k0_off18 : Fin 2 → Nat :=
  let c0_i32_57 : BitVec 32 := 0#32
  let c2_i32_58 : BitVec 32 := 2#32
  let v56 : BitVec 32 := Scalar.remsi c0_i32_57 c2_i32_58
  let c5_i32_59 : BitVec 32 := 5#32
  ![v56.toNat, 5]
def k0_off19 : Fin 4 → Nat :=
  let c0_i32_57 : BitVec 32 := 0#32
  let c2_i32_58 : BitVec 32 := 2#32
  let v56 : BitVec 32 := Scalar.remsi c0_i32_57 c2_i32_58
  let c5_i32 : BitVec 32 := 5#32
  let c0_i32_60 : BitVec 32 := 0#32
  let c0_i32_61 : BitVec 32 := 0#32
  ![v56.toNat, 5, 0, 0]
def k0_off20 (v55 : BitVec 32) : Fin 3 → Nat :=
  let c2560_i32 : BitVec 32 := 2560#32
  let c0_i32_62 : BitVec 32 := 0#32
  ![v55.toNat, 2560, 0]

def k0_chk7 (v1 : BitVec 32) (v55 : BitVec 32) : Prop :=
  (∀ (k0_h1 : k0_cond1 v1 = 1#1), ∀ a, (k0_off20 v55) a + S1x512x3072.size a ≤ S16x4096x3072.size a) ∧
  (∀ (k0_h1 : k0_cond1 v1 = 1#1), ∀ (hinb : ∀ a, (k0_off20 v55) a + S1x512x3072.size a ≤ S16x4096x3072.size a), (Rect.unit (s := S16x4096x3072) (k0_off20 v55) S1x512x3072.size hinb).WholeWords (EltTy.packing .fp8e4m3))
theorem k0_off20_inb : ∀ (v1 : BitVec 32) (v55 : BitVec 32) (k0_hw7 : k0_chk7 v1 v55), ∀ (k0_h1 : k0_cond1 v1 = 1#1), ∀ a, (k0_off20 v55) a + S1x512x3072.size a ≤ S16x4096x3072.size a := fun v1 v55 k0_hw7 k0_h1 => k0_hw7.1 k0_h1
theorem k0_off20_wordsfp8e4m3 : ∀ (v1 : BitVec 32) (v55 : BitVec 32) (k0_hw7 : k0_chk7 v1 v55), ∀ (k0_h1 : k0_cond1 v1 = 1#1), (Rect.unit (s := S16x4096x3072) (k0_off20 v55) S1x512x3072.size (k0_off20_inb v1 v55 k0_hw7 k0_h1)).WholeWords (EltTy.packing .fp8e4m3) := fun v1 v55 k0_hw7 k0_h1 => k0_hw7.2 k0_h1 (k0_off20_inb v1 v55 k0_hw7 k0_h1)

def k0_off21 : Fin 2 → Nat :=
  let c0_i32_64 : BitVec 32 := 0#32
  let c2_i32_65 : BitVec 32 := 2#32
  let v64 : BitVec 32 := Scalar.remsi c0_i32_64 c2_i32_65
  let c6_i32_66 : BitVec 32 := 6#32
  ![v64.toNat, 6]
def k0_off22 : Fin 4 → Nat :=
  let c0_i32_64 : BitVec 32 := 0#32
  let c2_i32_65 : BitVec 32 := 2#32
  let v64 : BitVec 32 := Scalar.remsi c0_i32_64 c2_i32_65
  let c6_i32 : BitVec 32 := 6#32
  let c0_i32_67 : BitVec 32 := 0#32
  let c0_i32_68 : BitVec 32 := 0#32
  ![v64.toNat, 6, 0, 0]
def k0_off23 (v63 : BitVec 32) : Fin 3 → Nat :=
  let c3072_i32 : BitVec 32 := 3072#32
  let c0_i32_69 : BitVec 32 := 0#32
  ![v63.toNat, 3072, 0]

def k0_chk8 (v1 : BitVec 32) (v63 : BitVec 32) : Prop :=
  (∀ (k0_h1 : k0_cond1 v1 = 1#1), ∀ a, (k0_off23 v63) a + S1x512x3072.size a ≤ S16x4096x3072.size a) ∧
  (∀ (k0_h1 : k0_cond1 v1 = 1#1), ∀ (hinb : ∀ a, (k0_off23 v63) a + S1x512x3072.size a ≤ S16x4096x3072.size a), (Rect.unit (s := S16x4096x3072) (k0_off23 v63) S1x512x3072.size hinb).WholeWords (EltTy.packing .fp8e4m3))
theorem k0_off23_inb : ∀ (v1 : BitVec 32) (v63 : BitVec 32) (k0_hw8 : k0_chk8 v1 v63), ∀ (k0_h1 : k0_cond1 v1 = 1#1), ∀ a, (k0_off23 v63) a + S1x512x3072.size a ≤ S16x4096x3072.size a := fun v1 v63 k0_hw8 k0_h1 => k0_hw8.1 k0_h1
theorem k0_off23_wordsfp8e4m3 : ∀ (v1 : BitVec 32) (v63 : BitVec 32) (k0_hw8 : k0_chk8 v1 v63), ∀ (k0_h1 : k0_cond1 v1 = 1#1), (Rect.unit (s := S16x4096x3072) (k0_off23 v63) S1x512x3072.size (k0_off23_inb v1 v63 k0_hw8 k0_h1)).WholeWords (EltTy.packing .fp8e4m3) := fun v1 v63 k0_hw8 k0_h1 => k0_hw8.2 k0_h1 (k0_off23_inb v1 v63 k0_hw8 k0_h1)

def k0_off24 : Fin 2 → Nat :=
  let c0_i32_71 : BitVec 32 := 0#32
  let c2_i32_72 : BitVec 32 := 2#32
  let v72 : BitVec 32 := Scalar.remsi c0_i32_71 c2_i32_72
  let c7_i32_73 : BitVec 32 := 7#32
  ![v72.toNat, 7]
def k0_off25 : Fin 4 → Nat :=
  let c0_i32_71 : BitVec 32 := 0#32
  let c2_i32_72 : BitVec 32 := 2#32
  let v72 : BitVec 32 := Scalar.remsi c0_i32_71 c2_i32_72
  let c7_i32 : BitVec 32 := 7#32
  let c0_i32_74 : BitVec 32 := 0#32
  let c0_i32_75 : BitVec 32 := 0#32
  ![v72.toNat, 7, 0, 0]
def k0_off26 (v71 : BitVec 32) : Fin 3 → Nat :=
  let c3584_i32 : BitVec 32 := 3584#32
  let c0_i32_76 : BitVec 32 := 0#32
  ![v71.toNat, 3584, 0]

def k0_chk9 (v1 : BitVec 32) (v71 : BitVec 32) : Prop :=
  (∀ (k0_h1 : k0_cond1 v1 = 1#1), ∀ a, (k0_off26 v71) a + S1x512x3072.size a ≤ S16x4096x3072.size a) ∧
  (∀ (k0_h1 : k0_cond1 v1 = 1#1), ∀ (hinb : ∀ a, (k0_off26 v71) a + S1x512x3072.size a ≤ S16x4096x3072.size a), (Rect.unit (s := S16x4096x3072) (k0_off26 v71) S1x512x3072.size hinb).WholeWords (EltTy.packing .fp8e4m3))
theorem k0_off26_inb : ∀ (v1 : BitVec 32) (v71 : BitVec 32) (k0_hw9 : k0_chk9 v1 v71), ∀ (k0_h1 : k0_cond1 v1 = 1#1), ∀ a, (k0_off26 v71) a + S1x512x3072.size a ≤ S16x4096x3072.size a := fun v1 v71 k0_hw9 k0_h1 => k0_hw9.1 k0_h1
theorem k0_off26_wordsfp8e4m3 : ∀ (v1 : BitVec 32) (v71 : BitVec 32) (k0_hw9 : k0_chk9 v1 v71), ∀ (k0_h1 : k0_cond1 v1 = 1#1), (Rect.unit (s := S16x4096x3072) (k0_off26 v71) S1x512x3072.size (k0_off26_inb v1 v71 k0_hw9 k0_h1)).WholeWords (EltTy.packing .fp8e4m3) := fun v1 v71 k0_hw9 k0_h1 => k0_hw9.2 k0_h1 (k0_off26_inb v1 v71 k0_hw9 k0_h1)

def k0_off27 : Fin 2 → Nat :=
  let c1_i32_19 : BitVec 32 := 1#32
  let c2_i32 : BitVec 32 := 2#32
  let v16 : BitVec 32 := Scalar.remsi c1_i32_19 c2_i32
  let c0_i32_21 : BitVec 32 := 0#32
  ![v16.toNat, 0]
def k0_off28 : Fin 4 → Nat :=
  let c1_i32_19 : BitVec 32 := 1#32
  let c2_i32 : BitVec 32 := 2#32
  let v16 : BitVec 32 := Scalar.remsi c1_i32_19 c2_i32
  let c0_i32_20 : BitVec 32 := 0#32
  let c0_i32_22 : BitVec 32 := 0#32
  let c0_i32_23 : BitVec 32 := 0#32
  ![v16.toNat, 0, 0, 0]
def k0_off29 (v15 : BitVec 32) : Fin 3 → Nat :=
  let c0_i32_24 : BitVec 32 := 0#32
  let c0_i32_25 : BitVec 32 := 0#32
  ![v15.toNat, 0, 0]
def k0_cond2 (v1 : BitVec 32) : BitVec 1 :=
  let c1_i32_4 : BitVec 32 := 1#32
  let v5 : BitVec 1 := Scalar.cmpi .sgt v1 c1_i32_4
  let v6 : BitVec 32 := Scalar.extui v5
  let c0_i32_5 : BitVec 32 := 0#32
  let v7 : BitVec 1 := Scalar.cmpi .ne v6 c0_i32_5
  v7

def k0_chk10 (v1 : BitVec 32) (v15 : BitVec 32) : Prop :=
  (∀ (k0_h2 : k0_cond2 v1 = 1#1), ∀ a, (k0_off29 v15) a + S1x512x3072.size a ≤ S16x4096x3072.size a) ∧
  (∀ (k0_h2 : k0_cond2 v1 = 1#1), ∀ (hinb : ∀ a, (k0_off29 v15) a + S1x512x3072.size a ≤ S16x4096x3072.size a), (Rect.unit (s := S16x4096x3072) (k0_off29 v15) S1x512x3072.size hinb).WholeWords (EltTy.packing .fp8e4m3))
theorem k0_off29_inb : ∀ (v1 : BitVec 32) (v15 : BitVec 32) (k0_hw10 : k0_chk10 v1 v15), ∀ (k0_h2 : k0_cond2 v1 = 1#1), ∀ a, (k0_off29 v15) a + S1x512x3072.size a ≤ S16x4096x3072.size a := fun v1 v15 k0_hw10 k0_h2 => k0_hw10.1 k0_h2
theorem k0_off29_wordsfp8e4m3 : ∀ (v1 : BitVec 32) (v15 : BitVec 32) (k0_hw10 : k0_chk10 v1 v15), ∀ (k0_h2 : k0_cond2 v1 = 1#1), (Rect.unit (s := S16x4096x3072) (k0_off29 v15) S1x512x3072.size (k0_off29_inb v1 v15 k0_hw10 k0_h2)).WholeWords (EltTy.packing .fp8e4m3) := fun v1 v15 k0_hw10 k0_h2 => k0_hw10.2 k0_h2 (k0_off29_inb v1 v15 k0_hw10 k0_h2)

def k0_off30 : Fin 2 → Nat :=
  let c1_i32_27 : BitVec 32 := 1#32
  let c2_i32_28 : BitVec 32 := 2#32
  let v24 : BitVec 32 := Scalar.remsi c1_i32_27 c2_i32_28
  let c1_i32_30 : BitVec 32 := 1#32
  ![v24.toNat, 1]
def k0_off31 : Fin 4 → Nat :=
  let c1_i32_27 : BitVec 32 := 1#32
  let c2_i32_28 : BitVec 32 := 2#32
  let v24 : BitVec 32 := Scalar.remsi c1_i32_27 c2_i32_28
  let c1_i32_29 : BitVec 32 := 1#32
  let c0_i32_31 : BitVec 32 := 0#32
  let c0_i32_32 : BitVec 32 := 0#32
  ![v24.toNat, 1, 0, 0]
def k0_off32 (v23 : BitVec 32) : Fin 3 → Nat :=
  let c512_i32 : BitVec 32 := 512#32
  let c0_i32_33 : BitVec 32 := 0#32
  ![v23.toNat, 512, 0]

def k0_chk11 (v1 : BitVec 32) (v23 : BitVec 32) : Prop :=
  (∀ (k0_h2 : k0_cond2 v1 = 1#1), ∀ a, (k0_off32 v23) a + S1x512x3072.size a ≤ S16x4096x3072.size a) ∧
  (∀ (k0_h2 : k0_cond2 v1 = 1#1), ∀ (hinb : ∀ a, (k0_off32 v23) a + S1x512x3072.size a ≤ S16x4096x3072.size a), (Rect.unit (s := S16x4096x3072) (k0_off32 v23) S1x512x3072.size hinb).WholeWords (EltTy.packing .fp8e4m3))
theorem k0_off32_inb : ∀ (v1 : BitVec 32) (v23 : BitVec 32) (k0_hw11 : k0_chk11 v1 v23), ∀ (k0_h2 : k0_cond2 v1 = 1#1), ∀ a, (k0_off32 v23) a + S1x512x3072.size a ≤ S16x4096x3072.size a := fun v1 v23 k0_hw11 k0_h2 => k0_hw11.1 k0_h2
theorem k0_off32_wordsfp8e4m3 : ∀ (v1 : BitVec 32) (v23 : BitVec 32) (k0_hw11 : k0_chk11 v1 v23), ∀ (k0_h2 : k0_cond2 v1 = 1#1), (Rect.unit (s := S16x4096x3072) (k0_off32 v23) S1x512x3072.size (k0_off32_inb v1 v23 k0_hw11 k0_h2)).WholeWords (EltTy.packing .fp8e4m3) := fun v1 v23 k0_hw11 k0_h2 => k0_hw11.2 k0_h2 (k0_off32_inb v1 v23 k0_hw11 k0_h2)

def k0_off33 : Fin 2 → Nat :=
  let c1_i32_35 : BitVec 32 := 1#32
  let c2_i32_36 : BitVec 32 := 2#32
  let v32 : BitVec 32 := Scalar.remsi c1_i32_35 c2_i32_36
  let c2_i32_38 : BitVec 32 := 2#32
  ![v32.toNat, 2]
def k0_off34 : Fin 4 → Nat :=
  let c1_i32_35 : BitVec 32 := 1#32
  let c2_i32_36 : BitVec 32 := 2#32
  let v32 : BitVec 32 := Scalar.remsi c1_i32_35 c2_i32_36
  let c2_i32_37 : BitVec 32 := 2#32
  let c0_i32_39 : BitVec 32 := 0#32
  let c0_i32_40 : BitVec 32 := 0#32
  ![v32.toNat, 2, 0, 0]
def k0_off35 (v31 : BitVec 32) : Fin 3 → Nat :=
  let c1024_i32 : BitVec 32 := 1024#32
  let c0_i32_41 : BitVec 32 := 0#32
  ![v31.toNat, 1024, 0]

def k0_chk12 (v1 : BitVec 32) (v31 : BitVec 32) : Prop :=
  (∀ (k0_h2 : k0_cond2 v1 = 1#1), ∀ a, (k0_off35 v31) a + S1x512x3072.size a ≤ S16x4096x3072.size a) ∧
  (∀ (k0_h2 : k0_cond2 v1 = 1#1), ∀ (hinb : ∀ a, (k0_off35 v31) a + S1x512x3072.size a ≤ S16x4096x3072.size a), (Rect.unit (s := S16x4096x3072) (k0_off35 v31) S1x512x3072.size hinb).WholeWords (EltTy.packing .fp8e4m3))
theorem k0_off35_inb : ∀ (v1 : BitVec 32) (v31 : BitVec 32) (k0_hw12 : k0_chk12 v1 v31), ∀ (k0_h2 : k0_cond2 v1 = 1#1), ∀ a, (k0_off35 v31) a + S1x512x3072.size a ≤ S16x4096x3072.size a := fun v1 v31 k0_hw12 k0_h2 => k0_hw12.1 k0_h2
theorem k0_off35_wordsfp8e4m3 : ∀ (v1 : BitVec 32) (v31 : BitVec 32) (k0_hw12 : k0_chk12 v1 v31), ∀ (k0_h2 : k0_cond2 v1 = 1#1), (Rect.unit (s := S16x4096x3072) (k0_off35 v31) S1x512x3072.size (k0_off35_inb v1 v31 k0_hw12 k0_h2)).WholeWords (EltTy.packing .fp8e4m3) := fun v1 v31 k0_hw12 k0_h2 => k0_hw12.2 k0_h2 (k0_off35_inb v1 v31 k0_hw12 k0_h2)

def k0_off36 : Fin 2 → Nat :=
  let c1_i32_43 : BitVec 32 := 1#32
  let c2_i32_44 : BitVec 32 := 2#32
  let v40 : BitVec 32 := Scalar.remsi c1_i32_43 c2_i32_44
  let c3_i32_45 : BitVec 32 := 3#32
  ![v40.toNat, 3]
def k0_off37 : Fin 4 → Nat :=
  let c1_i32_43 : BitVec 32 := 1#32
  let c2_i32_44 : BitVec 32 := 2#32
  let v40 : BitVec 32 := Scalar.remsi c1_i32_43 c2_i32_44
  let c3_i32 : BitVec 32 := 3#32
  let c0_i32_46 : BitVec 32 := 0#32
  let c0_i32_47 : BitVec 32 := 0#32
  ![v40.toNat, 3, 0, 0]
def k0_off38 (v39 : BitVec 32) : Fin 3 → Nat :=
  let c1536_i32 : BitVec 32 := 1536#32
  let c0_i32_48 : BitVec 32 := 0#32
  ![v39.toNat, 1536, 0]

def k0_chk13 (v1 : BitVec 32) (v39 : BitVec 32) : Prop :=
  (∀ (k0_h2 : k0_cond2 v1 = 1#1), ∀ a, (k0_off38 v39) a + S1x512x3072.size a ≤ S16x4096x3072.size a) ∧
  (∀ (k0_h2 : k0_cond2 v1 = 1#1), ∀ (hinb : ∀ a, (k0_off38 v39) a + S1x512x3072.size a ≤ S16x4096x3072.size a), (Rect.unit (s := S16x4096x3072) (k0_off38 v39) S1x512x3072.size hinb).WholeWords (EltTy.packing .fp8e4m3))
theorem k0_off38_inb : ∀ (v1 : BitVec 32) (v39 : BitVec 32) (k0_hw13 : k0_chk13 v1 v39), ∀ (k0_h2 : k0_cond2 v1 = 1#1), ∀ a, (k0_off38 v39) a + S1x512x3072.size a ≤ S16x4096x3072.size a := fun v1 v39 k0_hw13 k0_h2 => k0_hw13.1 k0_h2
theorem k0_off38_wordsfp8e4m3 : ∀ (v1 : BitVec 32) (v39 : BitVec 32) (k0_hw13 : k0_chk13 v1 v39), ∀ (k0_h2 : k0_cond2 v1 = 1#1), (Rect.unit (s := S16x4096x3072) (k0_off38 v39) S1x512x3072.size (k0_off38_inb v1 v39 k0_hw13 k0_h2)).WholeWords (EltTy.packing .fp8e4m3) := fun v1 v39 k0_hw13 k0_h2 => k0_hw13.2 k0_h2 (k0_off38_inb v1 v39 k0_hw13 k0_h2)

def k0_off39 : Fin 2 → Nat :=
  let c1_i32_50 : BitVec 32 := 1#32
  let c2_i32_51 : BitVec 32 := 2#32
  let v48 : BitVec 32 := Scalar.remsi c1_i32_50 c2_i32_51
  let c4_i32_52 : BitVec 32 := 4#32
  ![v48.toNat, 4]
def k0_off40 : Fin 4 → Nat :=
  let c1_i32_50 : BitVec 32 := 1#32
  let c2_i32_51 : BitVec 32 := 2#32
  let v48 : BitVec 32 := Scalar.remsi c1_i32_50 c2_i32_51
  let c4_i32 : BitVec 32 := 4#32
  let c0_i32_53 : BitVec 32 := 0#32
  let c0_i32_54 : BitVec 32 := 0#32
  ![v48.toNat, 4, 0, 0]
def k0_off41 (v47 : BitVec 32) : Fin 3 → Nat :=
  let c2048_i32 : BitVec 32 := 2048#32
  let c0_i32_55 : BitVec 32 := 0#32
  ![v47.toNat, 2048, 0]

def k0_chk14 (v1 : BitVec 32) (v47 : BitVec 32) : Prop :=
  (∀ (k0_h2 : k0_cond2 v1 = 1#1), ∀ a, (k0_off41 v47) a + S1x512x3072.size a ≤ S16x4096x3072.size a) ∧
  (∀ (k0_h2 : k0_cond2 v1 = 1#1), ∀ (hinb : ∀ a, (k0_off41 v47) a + S1x512x3072.size a ≤ S16x4096x3072.size a), (Rect.unit (s := S16x4096x3072) (k0_off41 v47) S1x512x3072.size hinb).WholeWords (EltTy.packing .fp8e4m3))
theorem k0_off41_inb : ∀ (v1 : BitVec 32) (v47 : BitVec 32) (k0_hw14 : k0_chk14 v1 v47), ∀ (k0_h2 : k0_cond2 v1 = 1#1), ∀ a, (k0_off41 v47) a + S1x512x3072.size a ≤ S16x4096x3072.size a := fun v1 v47 k0_hw14 k0_h2 => k0_hw14.1 k0_h2
theorem k0_off41_wordsfp8e4m3 : ∀ (v1 : BitVec 32) (v47 : BitVec 32) (k0_hw14 : k0_chk14 v1 v47), ∀ (k0_h2 : k0_cond2 v1 = 1#1), (Rect.unit (s := S16x4096x3072) (k0_off41 v47) S1x512x3072.size (k0_off41_inb v1 v47 k0_hw14 k0_h2)).WholeWords (EltTy.packing .fp8e4m3) := fun v1 v47 k0_hw14 k0_h2 => k0_hw14.2 k0_h2 (k0_off41_inb v1 v47 k0_hw14 k0_h2)

def k0_off42 : Fin 2 → Nat :=
  let c1_i32_57 : BitVec 32 := 1#32
  let c2_i32_58 : BitVec 32 := 2#32
  let v56 : BitVec 32 := Scalar.remsi c1_i32_57 c2_i32_58
  let c5_i32_59 : BitVec 32 := 5#32
  ![v56.toNat, 5]
def k0_off43 : Fin 4 → Nat :=
  let c1_i32_57 : BitVec 32 := 1#32
  let c2_i32_58 : BitVec 32 := 2#32
  let v56 : BitVec 32 := Scalar.remsi c1_i32_57 c2_i32_58
  let c5_i32 : BitVec 32 := 5#32
  let c0_i32_60 : BitVec 32 := 0#32
  let c0_i32_61 : BitVec 32 := 0#32
  ![v56.toNat, 5, 0, 0]
def k0_off44 (v55 : BitVec 32) : Fin 3 → Nat :=
  let c2560_i32 : BitVec 32 := 2560#32
  let c0_i32_62 : BitVec 32 := 0#32
  ![v55.toNat, 2560, 0]

def k0_chk15 (v1 : BitVec 32) (v55 : BitVec 32) : Prop :=
  (∀ (k0_h2 : k0_cond2 v1 = 1#1), ∀ a, (k0_off44 v55) a + S1x512x3072.size a ≤ S16x4096x3072.size a) ∧
  (∀ (k0_h2 : k0_cond2 v1 = 1#1), ∀ (hinb : ∀ a, (k0_off44 v55) a + S1x512x3072.size a ≤ S16x4096x3072.size a), (Rect.unit (s := S16x4096x3072) (k0_off44 v55) S1x512x3072.size hinb).WholeWords (EltTy.packing .fp8e4m3))
theorem k0_off44_inb : ∀ (v1 : BitVec 32) (v55 : BitVec 32) (k0_hw15 : k0_chk15 v1 v55), ∀ (k0_h2 : k0_cond2 v1 = 1#1), ∀ a, (k0_off44 v55) a + S1x512x3072.size a ≤ S16x4096x3072.size a := fun v1 v55 k0_hw15 k0_h2 => k0_hw15.1 k0_h2
theorem k0_off44_wordsfp8e4m3 : ∀ (v1 : BitVec 32) (v55 : BitVec 32) (k0_hw15 : k0_chk15 v1 v55), ∀ (k0_h2 : k0_cond2 v1 = 1#1), (Rect.unit (s := S16x4096x3072) (k0_off44 v55) S1x512x3072.size (k0_off44_inb v1 v55 k0_hw15 k0_h2)).WholeWords (EltTy.packing .fp8e4m3) := fun v1 v55 k0_hw15 k0_h2 => k0_hw15.2 k0_h2 (k0_off44_inb v1 v55 k0_hw15 k0_h2)

def k0_off45 : Fin 2 → Nat :=
  let c1_i32_64 : BitVec 32 := 1#32
  let c2_i32_65 : BitVec 32 := 2#32
  let v64 : BitVec 32 := Scalar.remsi c1_i32_64 c2_i32_65
  let c6_i32_66 : BitVec 32 := 6#32
  ![v64.toNat, 6]
def k0_off46 : Fin 4 → Nat :=
  let c1_i32_64 : BitVec 32 := 1#32
  let c2_i32_65 : BitVec 32 := 2#32
  let v64 : BitVec 32 := Scalar.remsi c1_i32_64 c2_i32_65
  let c6_i32 : BitVec 32 := 6#32
  let c0_i32_67 : BitVec 32 := 0#32
  let c0_i32_68 : BitVec 32 := 0#32
  ![v64.toNat, 6, 0, 0]
def k0_off47 (v63 : BitVec 32) : Fin 3 → Nat :=
  let c3072_i32 : BitVec 32 := 3072#32
  let c0_i32_69 : BitVec 32 := 0#32
  ![v63.toNat, 3072, 0]

def k0_chk16 (v1 : BitVec 32) (v63 : BitVec 32) : Prop :=
  (∀ (k0_h2 : k0_cond2 v1 = 1#1), ∀ a, (k0_off47 v63) a + S1x512x3072.size a ≤ S16x4096x3072.size a) ∧
  (∀ (k0_h2 : k0_cond2 v1 = 1#1), ∀ (hinb : ∀ a, (k0_off47 v63) a + S1x512x3072.size a ≤ S16x4096x3072.size a), (Rect.unit (s := S16x4096x3072) (k0_off47 v63) S1x512x3072.size hinb).WholeWords (EltTy.packing .fp8e4m3))
theorem k0_off47_inb : ∀ (v1 : BitVec 32) (v63 : BitVec 32) (k0_hw16 : k0_chk16 v1 v63), ∀ (k0_h2 : k0_cond2 v1 = 1#1), ∀ a, (k0_off47 v63) a + S1x512x3072.size a ≤ S16x4096x3072.size a := fun v1 v63 k0_hw16 k0_h2 => k0_hw16.1 k0_h2
theorem k0_off47_wordsfp8e4m3 : ∀ (v1 : BitVec 32) (v63 : BitVec 32) (k0_hw16 : k0_chk16 v1 v63), ∀ (k0_h2 : k0_cond2 v1 = 1#1), (Rect.unit (s := S16x4096x3072) (k0_off47 v63) S1x512x3072.size (k0_off47_inb v1 v63 k0_hw16 k0_h2)).WholeWords (EltTy.packing .fp8e4m3) := fun v1 v63 k0_hw16 k0_h2 => k0_hw16.2 k0_h2 (k0_off47_inb v1 v63 k0_hw16 k0_h2)

def k0_off48 : Fin 2 → Nat :=
  let c1_i32_71 : BitVec 32 := 1#32
  let c2_i32_72 : BitVec 32 := 2#32
  let v72 : BitVec 32 := Scalar.remsi c1_i32_71 c2_i32_72
  let c7_i32_73 : BitVec 32 := 7#32
  ![v72.toNat, 7]
def k0_off49 : Fin 4 → Nat :=
  let c1_i32_71 : BitVec 32 := 1#32
  let c2_i32_72 : BitVec 32 := 2#32
  let v72 : BitVec 32 := Scalar.remsi c1_i32_71 c2_i32_72
  let c7_i32 : BitVec 32 := 7#32
  let c0_i32_74 : BitVec 32 := 0#32
  let c0_i32_75 : BitVec 32 := 0#32
  ![v72.toNat, 7, 0, 0]
def k0_off50 (v71 : BitVec 32) : Fin 3 → Nat :=
  let c3584_i32 : BitVec 32 := 3584#32
  let c0_i32_76 : BitVec 32 := 0#32
  ![v71.toNat, 3584, 0]

def k0_chk17 (v1 : BitVec 32) (v71 : BitVec 32) : Prop :=
  (∀ (k0_h2 : k0_cond2 v1 = 1#1), ∀ a, (k0_off50 v71) a + S1x512x3072.size a ≤ S16x4096x3072.size a) ∧
  (∀ (k0_h2 : k0_cond2 v1 = 1#1), ∀ (hinb : ∀ a, (k0_off50 v71) a + S1x512x3072.size a ≤ S16x4096x3072.size a), (Rect.unit (s := S16x4096x3072) (k0_off50 v71) S1x512x3072.size hinb).WholeWords (EltTy.packing .fp8e4m3))
theorem k0_off50_inb : ∀ (v1 : BitVec 32) (v71 : BitVec 32) (k0_hw17 : k0_chk17 v1 v71), ∀ (k0_h2 : k0_cond2 v1 = 1#1), ∀ a, (k0_off50 v71) a + S1x512x3072.size a ≤ S16x4096x3072.size a := fun v1 v71 k0_hw17 k0_h2 => k0_hw17.1 k0_h2
theorem k0_off50_wordsfp8e4m3 : ∀ (v1 : BitVec 32) (v71 : BitVec 32) (k0_hw17 : k0_chk17 v1 v71), ∀ (k0_h2 : k0_cond2 v1 = 1#1), (Rect.unit (s := S16x4096x3072) (k0_off50 v71) S1x512x3072.size (k0_off50_inb v1 v71 k0_hw17 k0_h2)).WholeWords (EltTy.packing .fp8e4m3) := fun v1 v71 k0_hw17 k0_h2 => k0_hw17.2 k0_h2 (k0_off50_inb v1 v71 k0_hw17 k0_h2)

@[reducible] def k0_t2_loop : Scf.Loop 32 :=
  let c0_i32_6 : BitVec 32 := 0#32
  let c16_i32_7 : BitVec 32 := 16#32
  let v8 : BitVec 32 := Scalar.addi c0_i32_6 c16_i32_7
  let c1_i32_8 : BitVec 32 := 1#32
  ⟨c0_i32_6, v8, c1_i32_8⟩
def k0_off51 (k0_t2 : Fin k0_t2_loop.trips) : Fin 1 → Nat :=
  let c0_i32_6 : BitVec 32 := 0#32
  let c1_i32_8 : BitVec 32 := 1#32
  let arg18 : BitVec 32 := Scf.iv c0_i32_6 c1_i32_8 k0_t2
  let v15 : Index := Scalar.indexCast arg18
  ![v15.toNat]
def k0_off52 (k0_t2 : Fin k0_t2_loop.trips) : Fin 3 → Nat :=
  let c0_i32_6 : BitVec 32 := 0#32
  let c1_i32_8 : BitVec 32 := 1#32
  let arg18 : BitVec 32 := Scf.iv c0_i32_6 c1_i32_8 k0_t2
  let v21 : Index := Scalar.indexCast arg18
  let c0 : Index := 0#32
  let c0_21 : Index := 0#32
  ![v21.toNat, 0, 0]
def k0_off53 (k0_t2 : Fin k0_t2_loop.trips) : Fin 3 → Nat :=
  let c0_i32_6 : BitVec 32 := 0#32
  let c1_i32_8 : BitVec 32 := 1#32
  let arg18 : BitVec 32 := Scf.iv c0_i32_6 c1_i32_8 k0_t2
  let c0_i32_22 : BitVec 32 := 0#32
  let c0_i32_23 : BitVec 32 := 0#32
  ![arg18.toNat, 0, 0]
@[reducible] def k0_t3_loop (v1 : BitVec 32) : Scf.Loop 32 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_13 : BitVec 32 := 1#32
  ⟨c0_i32_11, v13, c1_i32_13⟩

def k0_off54 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v15 : Index := Scalar.indexCast arg18
  ![v15.toNat]
def k0_off55 (v16 : BitVec 32) : Fin 3 → Nat :=
  let v19 : Index := Scalar.indexCast v16
  let c0 : Index := 0#32
  let c0_19 : Index := 0#32
  ![v19.toNat, 0, 0]

def k0_off56 (v16 : BitVec 32) : Fin 3 → Nat :=
  let v127 : Index := Scalar.indexCast v16
  let c0_48 : Index := 0#32
  let c128 : Index := 128#32
  ![v127.toNat, 0, 128]
def k0_off57 (v16 : BitVec 32) : Fin 3 → Nat :=
  let v235 : Index := Scalar.indexCast v16
  let c0_86 : Index := 0#32
  let c256 : Index := 256#32
  ![v235.toNat, 0, 256]
def k0_off58 (v16 : BitVec 32) : Fin 3 → Nat :=
  let v343 : Index := Scalar.indexCast v16
  let c0_124 : Index := 0#32
  let c384 : Index := 384#32
  ![v343.toNat, 0, 384]
def k0_off59 (v16 : BitVec 32) : Fin 3 → Nat :=
  let v482 : Index := Scalar.indexCast v16
  let c0_173 : Index := 0#32
  let c512 : Index := 512#32
  ![v482.toNat, 0, 512]
def k0_off60 (v16 : BitVec 32) : Fin 3 → Nat :=
  let v590 : Index := Scalar.indexCast v16
  let c0_211 : Index := 0#32
  let c640 : Index := 640#32
  ![v590.toNat, 0, 640]
def k0_off61 (v16 : BitVec 32) : Fin 3 → Nat :=
  let v698 : Index := Scalar.indexCast v16
  let c0_249 : Index := 0#32
  let c768 : Index := 768#32
  ![v698.toNat, 0, 768]
def k0_off62 (v16 : BitVec 32) : Fin 3 → Nat :=
  let v806 : Index := Scalar.indexCast v16
  let c0_287 : Index := 0#32
  let c896 : Index := 896#32
  ![v806.toNat, 0, 896]
def k0_off63 (v16 : BitVec 32) : Fin 3 → Nat :=
  let v945 : Index := Scalar.indexCast v16
  let c0_335 : Index := 0#32
  let c1024 : Index := 1024#32
  ![v945.toNat, 0, 1024]
def k0_off64 (v16 : BitVec 32) : Fin 3 → Nat :=
  let v1053 : Index := Scalar.indexCast v16
  let c0_373 : Index := 0#32
  let c1152 : Index := 1152#32
  ![v1053.toNat, 0, 1152]
def k0_off65 (v16 : BitVec 32) : Fin 3 → Nat :=
  let v1161 : Index := Scalar.indexCast v16
  let c0_411 : Index := 0#32
  let c1280 : Index := 1280#32
  ![v1161.toNat, 0, 1280]
def k0_off66 (v16 : BitVec 32) : Fin 3 → Nat :=
  let v1269 : Index := Scalar.indexCast v16
  let c0_449 : Index := 0#32
  let c1408 : Index := 1408#32
  ![v1269.toNat, 0, 1408]
def k0_off67 (v16 : BitVec 32) : Fin 3 → Nat :=
  let v1408 : Index := Scalar.indexCast v16
  let c0_497 : Index := 0#32
  let c1536 : Index := 1536#32
  ![v1408.toNat, 0, 1536]
def k0_off68 (v16 : BitVec 32) : Fin 3 → Nat :=
  let v1516 : Index := Scalar.indexCast v16
  let c0_535 : Index := 0#32
  let c1664 : Index := 1664#32
  ![v1516.toNat, 0, 1664]
def k0_off69 (v16 : BitVec 32) : Fin 3 → Nat :=
  let v1624 : Index := Scalar.indexCast v16
  let c0_573 : Index := 0#32
  let c1792 : Index := 1792#32
  ![v1624.toNat, 0, 1792]
def k0_off70 (v16 : BitVec 32) : Fin 3 → Nat :=
  let v1732 : Index := Scalar.indexCast v16
  let c0_611 : Index := 0#32
  let c1920 : Index := 1920#32
  ![v1732.toNat, 0, 1920]
def k0_off71 (v16 : BitVec 32) : Fin 3 → Nat :=
  let v1871 : Index := Scalar.indexCast v16
  let c0_659 : Index := 0#32
  let c2048 : Index := 2048#32
  ![v1871.toNat, 0, 2048]
def k0_off72 (v16 : BitVec 32) : Fin 3 → Nat :=
  let v1979 : Index := Scalar.indexCast v16
  let c0_697 : Index := 0#32
  let c2176 : Index := 2176#32
  ![v1979.toNat, 0, 2176]
def k0_off73 (v16 : BitVec 32) : Fin 3 → Nat :=
  let v2087 : Index := Scalar.indexCast v16
  let c0_735 : Index := 0#32
  let c2304 : Index := 2304#32
  ![v2087.toNat, 0, 2304]
def k0_off74 (v16 : BitVec 32) : Fin 3 → Nat :=
  let v2195 : Index := Scalar.indexCast v16
  let c0_773 : Index := 0#32
  let c2432 : Index := 2432#32
  ![v2195.toNat, 0, 2432]
def k0_off75 (v16 : BitVec 32) : Fin 3 → Nat :=
  let v2334 : Index := Scalar.indexCast v16
  let c0_821 : Index := 0#32
  let c2560 : Index := 2560#32
  ![v2334.toNat, 0, 2560]
def k0_off76 (v16 : BitVec 32) : Fin 3 → Nat :=
  let v2442 : Index := Scalar.indexCast v16
  let c0_859 : Index := 0#32
  let c2688 : Index := 2688#32
  ![v2442.toNat, 0, 2688]
def k0_off77 (v16 : BitVec 32) : Fin 3 → Nat :=
  let v2550 : Index := Scalar.indexCast v16
  let c0_897 : Index := 0#32
  let c2816 : Index := 2816#32
  ![v2550.toNat, 0, 2816]
def k0_off78 (v16 : BitVec 32) : Fin 3 → Nat :=
  let v2658 : Index := Scalar.indexCast v16
  let c0_935 : Index := 0#32
  let c2944 : Index := 2944#32
  ![v2658.toNat, 0, 2944]
def k0_off79 (v16 : BitVec 32) : Fin 3 → Nat :=
  let v2797 : Index := Scalar.indexCast v16
  let c0_983 : Index := 0#32
  let c3072 : Index := 3072#32
  ![v2797.toNat, 0, 3072]
def k0_off80 (v16 : BitVec 32) : Fin 3 → Nat :=
  let v2905 : Index := Scalar.indexCast v16
  let c0_1021 : Index := 0#32
  let c3200 : Index := 3200#32
  ![v2905.toNat, 0, 3200]
def k0_off81 (v16 : BitVec 32) : Fin 3 → Nat :=
  let v3013 : Index := Scalar.indexCast v16
  let c0_1059 : Index := 0#32
  let c3328 : Index := 3328#32
  ![v3013.toNat, 0, 3328]
def k0_off82 (v16 : BitVec 32) : Fin 3 → Nat :=
  let v3121 : Index := Scalar.indexCast v16
  let c0_1097 : Index := 0#32
  let c3456 : Index := 3456#32
  ![v3121.toNat, 0, 3456]
def k0_off83 (v16 : BitVec 32) : Fin 3 → Nat :=
  let v3260 : Index := Scalar.indexCast v16
  let c0_1145 : Index := 0#32
  let c3584 : Index := 3584#32
  ![v3260.toNat, 0, 3584]
def k0_off84 (v16 : BitVec 32) : Fin 3 → Nat :=
  let v3368 : Index := Scalar.indexCast v16
  let c0_1183 : Index := 0#32
  let c3712 : Index := 3712#32
  ![v3368.toNat, 0, 3712]
def k0_off85 (v16 : BitVec 32) : Fin 3 → Nat :=
  let v3476 : Index := Scalar.indexCast v16
  let c0_1221 : Index := 0#32
  let c3840 : Index := 3840#32
  ![v3476.toNat, 0, 3840]
def k0_off86 (v16 : BitVec 32) : Fin 3 → Nat :=
  let v3584 : Index := Scalar.indexCast v16
  let c0_1259 : Index := 0#32
  let c3968 : Index := 3968#32
  ![v3584.toNat, 0, 3968]
def k0_off87 (v16 : BitVec 32) : Fin 3 → Nat :=
  let v3723 : Index := Scalar.indexCast v16
  let c0_1307 : Index := 0#32
  let c0_1308 : Index := 0#32
  ![v3723.toNat, 0, 0]
def k0_off88 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v3871 : Index := Scalar.indexCast arg18
  ![v3871.toNat]
def k0_off89 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1358 : BitVec 32 := 2#32
  let v3873 : BitVec 32 := Scalar.remsi arg18 c2_i32_1358
  let c0_i32_1360 : BitVec 32 := 0#32
  ![v3873.toNat, 0]
def k0_off90 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1358 : BitVec 32 := 2#32
  let v3873 : BitVec 32 := Scalar.remsi arg18 c2_i32_1358
  let c0_i32_1359 : BitVec 32 := 0#32
  let c0_i32_1361 : BitVec 32 := 0#32
  let c0_i32_1362 : BitVec 32 := 0#32
  ![v3873.toNat, 0, 0, 0]
def k0_off91 (v3872 : BitVec 32) : Fin 3 → Nat :=
  let c0_i32_1363 : BitVec 32 := 0#32
  let c0_i32_1364 : BitVec 32 := 0#32
  ![v3872.toNat, 0, 0]

def k0_chk20 (v3872 : BitVec 32) : Prop :=
  (∀ a, (k0_off91 v3872) a + S1x512x3072.size a ≤ S16x4096x3072.size a) ∧
  (∀ (hinb : ∀ a, (k0_off91 v3872) a + S1x512x3072.size a ≤ S16x4096x3072.size a), (Rect.unit (s := S16x4096x3072) (k0_off91 v3872) S1x512x3072.size hinb).WholeWords (EltTy.packing .fp8e4m3))
theorem k0_off91_inb : ∀ (v3872 : BitVec 32) (k0_hw20 : k0_chk20 v3872), ∀ a, (k0_off91 v3872) a + S1x512x3072.size a ≤ S16x4096x3072.size a := fun v3872 k0_hw20 => k0_hw20.1
theorem k0_off91_wordsfp8e4m3 : ∀ (v3872 : BitVec 32) (k0_hw20 : k0_chk20 v3872), (Rect.unit (s := S16x4096x3072) (k0_off91 v3872) S1x512x3072.size (k0_off91_inb v3872 k0_hw20)).WholeWords (EltTy.packing .fp8e4m3) := fun v3872 k0_hw20 => k0_hw20.2 (k0_off91_inb v3872 k0_hw20)

def k0_off92 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v3882 : Index := Scalar.indexCast v17
  let c0_1368 : Index := 0#32
  let c0_1369 : Index := 0#32
  let c0_1370 : Index := 0#32
  ![v3882.toNat, 0, 0, 0]
def k0_off93 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v3898 : Index := Scalar.indexCast v17
  let c0_1379 : Index := 0#32
  let c256_1380 : Index := 256#32
  let c0_1381 : Index := 0#32
  ![v3898.toNat, 0, 256, 0]
def k0_off94 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond4 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1387 : BitVec 32 := 2#32
  let v3912 : BitVec 32 := Scalar.addi arg18 c2_i32_1387
  let v3913 : BitVec 1 := Scalar.cmpi .slt v3912 v1
  let v3914 : BitVec 32 := Scalar.extui v3913
  let c0_i32_1388 : BitVec 32 := 0#32
  let v3915 : BitVec 1 := Scalar.cmpi .ne v3914 c0_i32_1388
  v3915

def k0_off95 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c0_i32_1589 : BitVec 32 := 0#32
  ![v4250.toNat, 0]
def k0_off96 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c0_i32_1588 : BitVec 32 := 0#32
  let c0_i32_1590 : BitVec 32 := 0#32
  let c0_i32_1591 : BitVec 32 := 0#32
  ![v4250.toNat, 0, 0, 0]
def k0_off97 (v4249 : BitVec 32) : Fin 3 → Nat :=
  let c0_i32_1592 : BitVec 32 := 0#32
  let c0_i32_1593 : BitVec 32 := 0#32
  ![v4249.toNat, 0, 0]

def k0_chk21 (v1 : BitVec 32) (k0_t3 : Fin (k0_t3_loop v1).trips) (v4249 : BitVec 32) : Prop :=
  (∀ (k0_h4 : k0_cond4 v1 k0_t3 = 1#1), ∀ a, (k0_off97 v4249) a + S1x512x3072.size a ≤ S16x4096x3072.size a) ∧
  (∀ (k0_h4 : k0_cond4 v1 k0_t3 = 1#1), ∀ (hinb : ∀ a, (k0_off97 v4249) a + S1x512x3072.size a ≤ S16x4096x3072.size a), (Rect.unit (s := S16x4096x3072) (k0_off97 v4249) S1x512x3072.size hinb).WholeWords (EltTy.packing .fp8e4m3))
theorem k0_off97_inb : ∀ (v1 : BitVec 32) (k0_t3 : Fin (k0_t3_loop v1).trips) (v4249 : BitVec 32) (k0_hw21 : k0_chk21 v1 k0_t3 v4249), ∀ (k0_h4 : k0_cond4 v1 k0_t3 = 1#1), ∀ a, (k0_off97 v4249) a + S1x512x3072.size a ≤ S16x4096x3072.size a := fun v1 k0_t3 v4249 k0_hw21 k0_h4 => k0_hw21.1 k0_h4
theorem k0_off97_wordsfp8e4m3 : ∀ (v1 : BitVec 32) (k0_t3 : Fin (k0_t3_loop v1).trips) (v4249 : BitVec 32) (k0_hw21 : k0_chk21 v1 k0_t3 v4249), ∀ (k0_h4 : k0_cond4 v1 k0_t3 = 1#1), (Rect.unit (s := S16x4096x3072) (k0_off97 v4249) S1x512x3072.size (k0_off97_inb v1 k0_t3 v4249 k0_hw21 k0_h4)).WholeWords (EltTy.packing .fp8e4m3) := fun v1 k0_t3 v4249 k0_hw21 k0_h4 => k0_hw21.2 k0_h4 (k0_off97_inb v1 k0_t3 v4249 k0_hw21 k0_h4)

def k0_off98 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v3916 : Index := Scalar.indexCast arg18
  ![v3916.toNat]
def k0_off99 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1389 : BitVec 32 := 2#32
  let v3918 : BitVec 32 := Scalar.remsi arg18 c2_i32_1389
  let c1_i32_1391 : BitVec 32 := 1#32
  ![v3918.toNat, 1]
def k0_off100 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1389 : BitVec 32 := 2#32
  let v3918 : BitVec 32 := Scalar.remsi arg18 c2_i32_1389
  let c1_i32_1390 : BitVec 32 := 1#32
  let c0_i32_1392 : BitVec 32 := 0#32
  let c0_i32_1393 : BitVec 32 := 0#32
  ![v3918.toNat, 1, 0, 0]
def k0_off101 (v3917 : BitVec 32) : Fin 3 → Nat :=
  let c512_i32 : BitVec 32 := 512#32
  let c0_i32_1394 : BitVec 32 := 0#32
  ![v3917.toNat, 512, 0]

def k0_chk22 (v3917 : BitVec 32) : Prop :=
  (∀ a, (k0_off101 v3917) a + S1x512x3072.size a ≤ S16x4096x3072.size a) ∧
  (∀ (hinb : ∀ a, (k0_off101 v3917) a + S1x512x3072.size a ≤ S16x4096x3072.size a), (Rect.unit (s := S16x4096x3072) (k0_off101 v3917) S1x512x3072.size hinb).WholeWords (EltTy.packing .fp8e4m3))
theorem k0_off101_inb : ∀ (v3917 : BitVec 32) (k0_hw22 : k0_chk22 v3917), ∀ a, (k0_off101 v3917) a + S1x512x3072.size a ≤ S16x4096x3072.size a := fun v3917 k0_hw22 => k0_hw22.1
theorem k0_off101_wordsfp8e4m3 : ∀ (v3917 : BitVec 32) (k0_hw22 : k0_chk22 v3917), (Rect.unit (s := S16x4096x3072) (k0_off101 v3917) S1x512x3072.size (k0_off101_inb v3917 k0_hw22)).WholeWords (EltTy.packing .fp8e4m3) := fun v3917 k0_hw22 => k0_hw22.2 (k0_off101_inb v3917 k0_hw22)

def k0_off102 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v3927 : Index := Scalar.indexCast v17
  let c1_1398 : Index := 1#32
  let c0_1399 : Index := 0#32
  let c0_1400 : Index := 0#32
  ![v3927.toNat, 1, 0, 0]
def k0_off103 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v3943 : Index := Scalar.indexCast v17
  let c1_1409 : Index := 1#32
  let c256_1410 : Index := 256#32
  let c0_1411 : Index := 0#32
  ![v3943.toNat, 1, 256, 0]
def k0_off104 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond5 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1417 : BitVec 32 := 2#32
  let v3957 : BitVec 32 := Scalar.addi arg18 c2_i32_1417
  let v3958 : BitVec 1 := Scalar.cmpi .slt v3957 v1
  let v3959 : BitVec 32 := Scalar.extui v3958
  let c0_i32_1418 : BitVec 32 := 0#32
  let v3960 : BitVec 1 := Scalar.cmpi .ne v3959 c0_i32_1418
  v3960

def k0_off105 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c1_i32_1589 : BitVec 32 := 1#32
  ![v4250.toNat, 1]
def k0_off106 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c1_i32_1588 : BitVec 32 := 1#32
  let c0_i32_1590 : BitVec 32 := 0#32
  let c0_i32_1591 : BitVec 32 := 0#32
  ![v4250.toNat, 1, 0, 0]
def k0_off107 (v4249 : BitVec 32) : Fin 3 → Nat :=
  let c512_i32_1592 : BitVec 32 := 512#32
  let c0_i32_1593 : BitVec 32 := 0#32
  ![v4249.toNat, 512, 0]

def k0_chk23 (v1 : BitVec 32) (k0_t3 : Fin (k0_t3_loop v1).trips) (v4249 : BitVec 32) : Prop :=
  (∀ (k0_h5 : k0_cond5 v1 k0_t3 = 1#1), ∀ a, (k0_off107 v4249) a + S1x512x3072.size a ≤ S16x4096x3072.size a) ∧
  (∀ (k0_h5 : k0_cond5 v1 k0_t3 = 1#1), ∀ (hinb : ∀ a, (k0_off107 v4249) a + S1x512x3072.size a ≤ S16x4096x3072.size a), (Rect.unit (s := S16x4096x3072) (k0_off107 v4249) S1x512x3072.size hinb).WholeWords (EltTy.packing .fp8e4m3))
theorem k0_off107_inb : ∀ (v1 : BitVec 32) (k0_t3 : Fin (k0_t3_loop v1).trips) (v4249 : BitVec 32) (k0_hw23 : k0_chk23 v1 k0_t3 v4249), ∀ (k0_h5 : k0_cond5 v1 k0_t3 = 1#1), ∀ a, (k0_off107 v4249) a + S1x512x3072.size a ≤ S16x4096x3072.size a := fun v1 k0_t3 v4249 k0_hw23 k0_h5 => k0_hw23.1 k0_h5
theorem k0_off107_wordsfp8e4m3 : ∀ (v1 : BitVec 32) (k0_t3 : Fin (k0_t3_loop v1).trips) (v4249 : BitVec 32) (k0_hw23 : k0_chk23 v1 k0_t3 v4249), ∀ (k0_h5 : k0_cond5 v1 k0_t3 = 1#1), (Rect.unit (s := S16x4096x3072) (k0_off107 v4249) S1x512x3072.size (k0_off107_inb v1 k0_t3 v4249 k0_hw23 k0_h5)).WholeWords (EltTy.packing .fp8e4m3) := fun v1 k0_t3 v4249 k0_hw23 k0_h5 => k0_hw23.2 k0_h5 (k0_off107_inb v1 k0_t3 v4249 k0_hw23 k0_h5)

def k0_off108 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v3961 : Index := Scalar.indexCast arg18
  ![v3961.toNat]
def k0_off109 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1419 : BitVec 32 := 2#32
  let v3963 : BitVec 32 := Scalar.remsi arg18 c2_i32_1419
  let c2_i32_1421 : BitVec 32 := 2#32
  ![v3963.toNat, 2]
def k0_off110 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1419 : BitVec 32 := 2#32
  let v3963 : BitVec 32 := Scalar.remsi arg18 c2_i32_1419
  let c2_i32_1420 : BitVec 32 := 2#32
  let c0_i32_1422 : BitVec 32 := 0#32
  let c0_i32_1423 : BitVec 32 := 0#32
  ![v3963.toNat, 2, 0, 0]
def k0_off111 (v3962 : BitVec 32) : Fin 3 → Nat :=
  let c1024_i32 : BitVec 32 := 1024#32
  let c0_i32_1424 : BitVec 32 := 0#32
  ![v3962.toNat, 1024, 0]

def k0_chk24 (v3962 : BitVec 32) : Prop :=
  (∀ a, (k0_off111 v3962) a + S1x512x3072.size a ≤ S16x4096x3072.size a) ∧
  (∀ (hinb : ∀ a, (k0_off111 v3962) a + S1x512x3072.size a ≤ S16x4096x3072.size a), (Rect.unit (s := S16x4096x3072) (k0_off111 v3962) S1x512x3072.size hinb).WholeWords (EltTy.packing .fp8e4m3))
theorem k0_off111_inb : ∀ (v3962 : BitVec 32) (k0_hw24 : k0_chk24 v3962), ∀ a, (k0_off111 v3962) a + S1x512x3072.size a ≤ S16x4096x3072.size a := fun v3962 k0_hw24 => k0_hw24.1
theorem k0_off111_wordsfp8e4m3 : ∀ (v3962 : BitVec 32) (k0_hw24 : k0_chk24 v3962), (Rect.unit (s := S16x4096x3072) (k0_off111 v3962) S1x512x3072.size (k0_off111_inb v3962 k0_hw24)).WholeWords (EltTy.packing .fp8e4m3) := fun v3962 k0_hw24 => k0_hw24.2 (k0_off111_inb v3962 k0_hw24)

def k0_off112 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v3972 : Index := Scalar.indexCast v17
  let c2_1428 : Index := 2#32
  let c0_1429 : Index := 0#32
  let c0_1430 : Index := 0#32
  ![v3972.toNat, 2, 0, 0]
def k0_off113 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v3988 : Index := Scalar.indexCast v17
  let c2_1439 : Index := 2#32
  let c256_1440 : Index := 256#32
  let c0_1441 : Index := 0#32
  ![v3988.toNat, 2, 256, 0]
def k0_off114 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond6 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1447 : BitVec 32 := 2#32
  let v4002 : BitVec 32 := Scalar.addi arg18 c2_i32_1447
  let v4003 : BitVec 1 := Scalar.cmpi .slt v4002 v1
  let v4004 : BitVec 32 := Scalar.extui v4003
  let c0_i32_1448 : BitVec 32 := 0#32
  let v4005 : BitVec 1 := Scalar.cmpi .ne v4004 c0_i32_1448
  v4005

def k0_off115 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c2_i32_1589 : BitVec 32 := 2#32
  ![v4250.toNat, 2]
def k0_off116 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c2_i32_1588 : BitVec 32 := 2#32
  let c0_i32_1590 : BitVec 32 := 0#32
  let c0_i32_1591 : BitVec 32 := 0#32
  ![v4250.toNat, 2, 0, 0]
def k0_off117 (v4249 : BitVec 32) : Fin 3 → Nat :=
  let c1024_i32_1592 : BitVec 32 := 1024#32
  let c0_i32_1593 : BitVec 32 := 0#32
  ![v4249.toNat, 1024, 0]

def k0_chk25 (v1 : BitVec 32) (k0_t3 : Fin (k0_t3_loop v1).trips) (v4249 : BitVec 32) : Prop :=
  (∀ (k0_h6 : k0_cond6 v1 k0_t3 = 1#1), ∀ a, (k0_off117 v4249) a + S1x512x3072.size a ≤ S16x4096x3072.size a) ∧
  (∀ (k0_h6 : k0_cond6 v1 k0_t3 = 1#1), ∀ (hinb : ∀ a, (k0_off117 v4249) a + S1x512x3072.size a ≤ S16x4096x3072.size a), (Rect.unit (s := S16x4096x3072) (k0_off117 v4249) S1x512x3072.size hinb).WholeWords (EltTy.packing .fp8e4m3))
theorem k0_off117_inb : ∀ (v1 : BitVec 32) (k0_t3 : Fin (k0_t3_loop v1).trips) (v4249 : BitVec 32) (k0_hw25 : k0_chk25 v1 k0_t3 v4249), ∀ (k0_h6 : k0_cond6 v1 k0_t3 = 1#1), ∀ a, (k0_off117 v4249) a + S1x512x3072.size a ≤ S16x4096x3072.size a := fun v1 k0_t3 v4249 k0_hw25 k0_h6 => k0_hw25.1 k0_h6
theorem k0_off117_wordsfp8e4m3 : ∀ (v1 : BitVec 32) (k0_t3 : Fin (k0_t3_loop v1).trips) (v4249 : BitVec 32) (k0_hw25 : k0_chk25 v1 k0_t3 v4249), ∀ (k0_h6 : k0_cond6 v1 k0_t3 = 1#1), (Rect.unit (s := S16x4096x3072) (k0_off117 v4249) S1x512x3072.size (k0_off117_inb v1 k0_t3 v4249 k0_hw25 k0_h6)).WholeWords (EltTy.packing .fp8e4m3) := fun v1 k0_t3 v4249 k0_hw25 k0_h6 => k0_hw25.2 k0_h6 (k0_off117_inb v1 k0_t3 v4249 k0_hw25 k0_h6)

def k0_off118 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v4006 : Index := Scalar.indexCast arg18
  ![v4006.toNat]
def k0_off119 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1449 : BitVec 32 := 2#32
  let v4008 : BitVec 32 := Scalar.remsi arg18 c2_i32_1449
  let c3_i32_1450 : BitVec 32 := 3#32
  ![v4008.toNat, 3]
def k0_off120 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1449 : BitVec 32 := 2#32
  let v4008 : BitVec 32 := Scalar.remsi arg18 c2_i32_1449
  let c3_i32 : BitVec 32 := 3#32
  let c0_i32_1451 : BitVec 32 := 0#32
  let c0_i32_1452 : BitVec 32 := 0#32
  ![v4008.toNat, 3, 0, 0]
def k0_off121 (v4007 : BitVec 32) : Fin 3 → Nat :=
  let c1536_i32 : BitVec 32 := 1536#32
  let c0_i32_1453 : BitVec 32 := 0#32
  ![v4007.toNat, 1536, 0]

def k0_chk26 (v4007 : BitVec 32) : Prop :=
  (∀ a, (k0_off121 v4007) a + S1x512x3072.size a ≤ S16x4096x3072.size a) ∧
  (∀ (hinb : ∀ a, (k0_off121 v4007) a + S1x512x3072.size a ≤ S16x4096x3072.size a), (Rect.unit (s := S16x4096x3072) (k0_off121 v4007) S1x512x3072.size hinb).WholeWords (EltTy.packing .fp8e4m3))
theorem k0_off121_inb : ∀ (v4007 : BitVec 32) (k0_hw26 : k0_chk26 v4007), ∀ a, (k0_off121 v4007) a + S1x512x3072.size a ≤ S16x4096x3072.size a := fun v4007 k0_hw26 => k0_hw26.1
theorem k0_off121_wordsfp8e4m3 : ∀ (v4007 : BitVec 32) (k0_hw26 : k0_chk26 v4007), (Rect.unit (s := S16x4096x3072) (k0_off121 v4007) S1x512x3072.size (k0_off121_inb v4007 k0_hw26)).WholeWords (EltTy.packing .fp8e4m3) := fun v4007 k0_hw26 => k0_hw26.2 (k0_off121_inb v4007 k0_hw26)

def k0_off122 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4017 : Index := Scalar.indexCast v17
  let c3_1457 : Index := 3#32
  let c0_1458 : Index := 0#32
  let c0_1459 : Index := 0#32
  ![v4017.toNat, 3, 0, 0]
def k0_off123 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4033 : Index := Scalar.indexCast v17
  let c3_1468 : Index := 3#32
  let c256_1469 : Index := 256#32
  let c0_1470 : Index := 0#32
  ![v4033.toNat, 3, 256, 0]
def k0_off124 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond7 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1476 : BitVec 32 := 2#32
  let v4047 : BitVec 32 := Scalar.addi arg18 c2_i32_1476
  let v4048 : BitVec 1 := Scalar.cmpi .slt v4047 v1
  let v4049 : BitVec 32 := Scalar.extui v4048
  let c0_i32_1477 : BitVec 32 := 0#32
  let v4050 : BitVec 1 := Scalar.cmpi .ne v4049 c0_i32_1477
  v4050

def k0_off125 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c3_i32_1589 : BitVec 32 := 3#32
  ![v4250.toNat, 3]
def k0_off126 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c3_i32_1588 : BitVec 32 := 3#32
  let c0_i32_1590 : BitVec 32 := 0#32
  let c0_i32_1591 : BitVec 32 := 0#32
  ![v4250.toNat, 3, 0, 0]
def k0_off127 (v4249 : BitVec 32) : Fin 3 → Nat :=
  let c1536_i32_1592 : BitVec 32 := 1536#32
  let c0_i32_1593 : BitVec 32 := 0#32
  ![v4249.toNat, 1536, 0]

def k0_chk27 (v1 : BitVec 32) (k0_t3 : Fin (k0_t3_loop v1).trips) (v4249 : BitVec 32) : Prop :=
  (∀ (k0_h7 : k0_cond7 v1 k0_t3 = 1#1), ∀ a, (k0_off127 v4249) a + S1x512x3072.size a ≤ S16x4096x3072.size a) ∧
  (∀ (k0_h7 : k0_cond7 v1 k0_t3 = 1#1), ∀ (hinb : ∀ a, (k0_off127 v4249) a + S1x512x3072.size a ≤ S16x4096x3072.size a), (Rect.unit (s := S16x4096x3072) (k0_off127 v4249) S1x512x3072.size hinb).WholeWords (EltTy.packing .fp8e4m3))
theorem k0_off127_inb : ∀ (v1 : BitVec 32) (k0_t3 : Fin (k0_t3_loop v1).trips) (v4249 : BitVec 32) (k0_hw27 : k0_chk27 v1 k0_t3 v4249), ∀ (k0_h7 : k0_cond7 v1 k0_t3 = 1#1), ∀ a, (k0_off127 v4249) a + S1x512x3072.size a ≤ S16x4096x3072.size a := fun v1 k0_t3 v4249 k0_hw27 k0_h7 => k0_hw27.1 k0_h7
theorem k0_off127_wordsfp8e4m3 : ∀ (v1 : BitVec 32) (k0_t3 : Fin (k0_t3_loop v1).trips) (v4249 : BitVec 32) (k0_hw27 : k0_chk27 v1 k0_t3 v4249), ∀ (k0_h7 : k0_cond7 v1 k0_t3 = 1#1), (Rect.unit (s := S16x4096x3072) (k0_off127 v4249) S1x512x3072.size (k0_off127_inb v1 k0_t3 v4249 k0_hw27 k0_h7)).WholeWords (EltTy.packing .fp8e4m3) := fun v1 k0_t3 v4249 k0_hw27 k0_h7 => k0_hw27.2 k0_h7 (k0_off127_inb v1 k0_t3 v4249 k0_hw27 k0_h7)

def k0_off128 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v4051 : Index := Scalar.indexCast arg18
  ![v4051.toNat]
def k0_off129 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1478 : BitVec 32 := 2#32
  let v4053 : BitVec 32 := Scalar.remsi arg18 c2_i32_1478
  let c4_i32_1480 : BitVec 32 := 4#32
  ![v4053.toNat, 4]
def k0_off130 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1478 : BitVec 32 := 2#32
  let v4053 : BitVec 32 := Scalar.remsi arg18 c2_i32_1478
  let c4_i32_1479 : BitVec 32 := 4#32
  let c0_i32_1481 : BitVec 32 := 0#32
  let c0_i32_1482 : BitVec 32 := 0#32
  ![v4053.toNat, 4, 0, 0]
def k0_off131 (v4052 : BitVec 32) : Fin 3 → Nat :=
  let c2048_i32 : BitVec 32 := 2048#32
  let c0_i32_1483 : BitVec 32 := 0#32
  ![v4052.toNat, 2048, 0]

def k0_chk28 (v4052 : BitVec 32) : Prop :=
  (∀ a, (k0_off131 v4052) a + S1x512x3072.size a ≤ S16x4096x3072.size a) ∧
  (∀ (hinb : ∀ a, (k0_off131 v4052) a + S1x512x3072.size a ≤ S16x4096x3072.size a), (Rect.unit (s := S16x4096x3072) (k0_off131 v4052) S1x512x3072.size hinb).WholeWords (EltTy.packing .fp8e4m3))
theorem k0_off131_inb : ∀ (v4052 : BitVec 32) (k0_hw28 : k0_chk28 v4052), ∀ a, (k0_off131 v4052) a + S1x512x3072.size a ≤ S16x4096x3072.size a := fun v4052 k0_hw28 => k0_hw28.1
theorem k0_off131_wordsfp8e4m3 : ∀ (v4052 : BitVec 32) (k0_hw28 : k0_chk28 v4052), (Rect.unit (s := S16x4096x3072) (k0_off131 v4052) S1x512x3072.size (k0_off131_inb v4052 k0_hw28)).WholeWords (EltTy.packing .fp8e4m3) := fun v4052 k0_hw28 => k0_hw28.2 (k0_off131_inb v4052 k0_hw28)

def k0_off132 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4062 : Index := Scalar.indexCast v17
  let c4_1487 : Index := 4#32
  let c0_1488 : Index := 0#32
  let c0_1489 : Index := 0#32
  ![v4062.toNat, 4, 0, 0]
def k0_off133 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4078 : Index := Scalar.indexCast v17
  let c4_1496 : Index := 4#32
  let c256_1497 : Index := 256#32
  let c0_1498 : Index := 0#32
  ![v4078.toNat, 4, 256, 0]
def k0_off134 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond8 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1502 : BitVec 32 := 2#32
  let v4092 : BitVec 32 := Scalar.addi arg18 c2_i32_1502
  let v4093 : BitVec 1 := Scalar.cmpi .slt v4092 v1
  let v4094 : BitVec 32 := Scalar.extui v4093
  let c0_i32_1503 : BitVec 32 := 0#32
  let v4095 : BitVec 1 := Scalar.cmpi .ne v4094 c0_i32_1503
  v4095

def k0_off135 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c4_i32_1589 : BitVec 32 := 4#32
  ![v4250.toNat, 4]
def k0_off136 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c4_i32_1588 : BitVec 32 := 4#32
  let c0_i32_1590 : BitVec 32 := 0#32
  let c0_i32_1591 : BitVec 32 := 0#32
  ![v4250.toNat, 4, 0, 0]
def k0_off137 (v4249 : BitVec 32) : Fin 3 → Nat :=
  let c2048_i32_1592 : BitVec 32 := 2048#32
  let c0_i32_1593 : BitVec 32 := 0#32
  ![v4249.toNat, 2048, 0]

def k0_chk29 (v1 : BitVec 32) (k0_t3 : Fin (k0_t3_loop v1).trips) (v4249 : BitVec 32) : Prop :=
  (∀ (k0_h8 : k0_cond8 v1 k0_t3 = 1#1), ∀ a, (k0_off137 v4249) a + S1x512x3072.size a ≤ S16x4096x3072.size a) ∧
  (∀ (k0_h8 : k0_cond8 v1 k0_t3 = 1#1), ∀ (hinb : ∀ a, (k0_off137 v4249) a + S1x512x3072.size a ≤ S16x4096x3072.size a), (Rect.unit (s := S16x4096x3072) (k0_off137 v4249) S1x512x3072.size hinb).WholeWords (EltTy.packing .fp8e4m3))
theorem k0_off137_inb : ∀ (v1 : BitVec 32) (k0_t3 : Fin (k0_t3_loop v1).trips) (v4249 : BitVec 32) (k0_hw29 : k0_chk29 v1 k0_t3 v4249), ∀ (k0_h8 : k0_cond8 v1 k0_t3 = 1#1), ∀ a, (k0_off137 v4249) a + S1x512x3072.size a ≤ S16x4096x3072.size a := fun v1 k0_t3 v4249 k0_hw29 k0_h8 => k0_hw29.1 k0_h8
theorem k0_off137_wordsfp8e4m3 : ∀ (v1 : BitVec 32) (k0_t3 : Fin (k0_t3_loop v1).trips) (v4249 : BitVec 32) (k0_hw29 : k0_chk29 v1 k0_t3 v4249), ∀ (k0_h8 : k0_cond8 v1 k0_t3 = 1#1), (Rect.unit (s := S16x4096x3072) (k0_off137 v4249) S1x512x3072.size (k0_off137_inb v1 k0_t3 v4249 k0_hw29 k0_h8)).WholeWords (EltTy.packing .fp8e4m3) := fun v1 k0_t3 v4249 k0_hw29 k0_h8 => k0_hw29.2 k0_h8 (k0_off137_inb v1 k0_t3 v4249 k0_hw29 k0_h8)

def k0_off138 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v4096 : Index := Scalar.indexCast arg18
  ![v4096.toNat]
def k0_off139 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1504 : BitVec 32 := 2#32
  let v4098 : BitVec 32 := Scalar.remsi arg18 c2_i32_1504
  let c5_i32_1505 : BitVec 32 := 5#32
  ![v4098.toNat, 5]
def k0_off140 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1504 : BitVec 32 := 2#32
  let v4098 : BitVec 32 := Scalar.remsi arg18 c2_i32_1504
  let c5_i32 : BitVec 32 := 5#32
  let c0_i32_1506 : BitVec 32 := 0#32
  let c0_i32_1507 : BitVec 32 := 0#32
  ![v4098.toNat, 5, 0, 0]
def k0_off141 (v4097 : BitVec 32) : Fin 3 → Nat :=
  let c2560_i32 : BitVec 32 := 2560#32
  let c0_i32_1508 : BitVec 32 := 0#32
  ![v4097.toNat, 2560, 0]

def k0_chk30 (v4097 : BitVec 32) : Prop :=
  (∀ a, (k0_off141 v4097) a + S1x512x3072.size a ≤ S16x4096x3072.size a) ∧
  (∀ (hinb : ∀ a, (k0_off141 v4097) a + S1x512x3072.size a ≤ S16x4096x3072.size a), (Rect.unit (s := S16x4096x3072) (k0_off141 v4097) S1x512x3072.size hinb).WholeWords (EltTy.packing .fp8e4m3))
theorem k0_off141_inb : ∀ (v4097 : BitVec 32) (k0_hw30 : k0_chk30 v4097), ∀ a, (k0_off141 v4097) a + S1x512x3072.size a ≤ S16x4096x3072.size a := fun v4097 k0_hw30 => k0_hw30.1
theorem k0_off141_wordsfp8e4m3 : ∀ (v4097 : BitVec 32) (k0_hw30 : k0_chk30 v4097), (Rect.unit (s := S16x4096x3072) (k0_off141 v4097) S1x512x3072.size (k0_off141_inb v4097 k0_hw30)).WholeWords (EltTy.packing .fp8e4m3) := fun v4097 k0_hw30 => k0_hw30.2 (k0_off141_inb v4097 k0_hw30)

def k0_off142 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4107 : Index := Scalar.indexCast v17
  let c5_1512 : Index := 5#32
  let c0_1513 : Index := 0#32
  let c0_1514 : Index := 0#32
  ![v4107.toNat, 5, 0, 0]
def k0_off143 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4123 : Index := Scalar.indexCast v17
  let c5_1521 : Index := 5#32
  let c256_1522 : Index := 256#32
  let c0_1523 : Index := 0#32
  ![v4123.toNat, 5, 256, 0]
def k0_off144 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond9 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1527 : BitVec 32 := 2#32
  let v4137 : BitVec 32 := Scalar.addi arg18 c2_i32_1527
  let v4138 : BitVec 1 := Scalar.cmpi .slt v4137 v1
  let v4139 : BitVec 32 := Scalar.extui v4138
  let c0_i32_1528 : BitVec 32 := 0#32
  let v4140 : BitVec 1 := Scalar.cmpi .ne v4139 c0_i32_1528
  v4140

def k0_off145 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c5_i32_1589 : BitVec 32 := 5#32
  ![v4250.toNat, 5]
def k0_off146 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c5_i32_1588 : BitVec 32 := 5#32
  let c0_i32_1590 : BitVec 32 := 0#32
  let c0_i32_1591 : BitVec 32 := 0#32
  ![v4250.toNat, 5, 0, 0]
def k0_off147 (v4249 : BitVec 32) : Fin 3 → Nat :=
  let c2560_i32_1592 : BitVec 32 := 2560#32
  let c0_i32_1593 : BitVec 32 := 0#32
  ![v4249.toNat, 2560, 0]

def k0_chk31 (v1 : BitVec 32) (k0_t3 : Fin (k0_t3_loop v1).trips) (v4249 : BitVec 32) : Prop :=
  (∀ (k0_h9 : k0_cond9 v1 k0_t3 = 1#1), ∀ a, (k0_off147 v4249) a + S1x512x3072.size a ≤ S16x4096x3072.size a) ∧
  (∀ (k0_h9 : k0_cond9 v1 k0_t3 = 1#1), ∀ (hinb : ∀ a, (k0_off147 v4249) a + S1x512x3072.size a ≤ S16x4096x3072.size a), (Rect.unit (s := S16x4096x3072) (k0_off147 v4249) S1x512x3072.size hinb).WholeWords (EltTy.packing .fp8e4m3))
theorem k0_off147_inb : ∀ (v1 : BitVec 32) (k0_t3 : Fin (k0_t3_loop v1).trips) (v4249 : BitVec 32) (k0_hw31 : k0_chk31 v1 k0_t3 v4249), ∀ (k0_h9 : k0_cond9 v1 k0_t3 = 1#1), ∀ a, (k0_off147 v4249) a + S1x512x3072.size a ≤ S16x4096x3072.size a := fun v1 k0_t3 v4249 k0_hw31 k0_h9 => k0_hw31.1 k0_h9
theorem k0_off147_wordsfp8e4m3 : ∀ (v1 : BitVec 32) (k0_t3 : Fin (k0_t3_loop v1).trips) (v4249 : BitVec 32) (k0_hw31 : k0_chk31 v1 k0_t3 v4249), ∀ (k0_h9 : k0_cond9 v1 k0_t3 = 1#1), (Rect.unit (s := S16x4096x3072) (k0_off147 v4249) S1x512x3072.size (k0_off147_inb v1 k0_t3 v4249 k0_hw31 k0_h9)).WholeWords (EltTy.packing .fp8e4m3) := fun v1 k0_t3 v4249 k0_hw31 k0_h9 => k0_hw31.2 k0_h9 (k0_off147_inb v1 k0_t3 v4249 k0_hw31 k0_h9)

def k0_off148 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v4141 : Index := Scalar.indexCast arg18
  ![v4141.toNat]
def k0_off149 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1529 : BitVec 32 := 2#32
  let v4143 : BitVec 32 := Scalar.remsi arg18 c2_i32_1529
  let c6_i32_1530 : BitVec 32 := 6#32
  ![v4143.toNat, 6]
def k0_off150 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1529 : BitVec 32 := 2#32
  let v4143 : BitVec 32 := Scalar.remsi arg18 c2_i32_1529
  let c6_i32 : BitVec 32 := 6#32
  let c0_i32_1531 : BitVec 32 := 0#32
  let c0_i32_1532 : BitVec 32 := 0#32
  ![v4143.toNat, 6, 0, 0]
def k0_off151 (v4142 : BitVec 32) : Fin 3 → Nat :=
  let c3072_i32 : BitVec 32 := 3072#32
  let c0_i32_1533 : BitVec 32 := 0#32
  ![v4142.toNat, 3072, 0]

def k0_chk32 (v4142 : BitVec 32) : Prop :=
  (∀ a, (k0_off151 v4142) a + S1x512x3072.size a ≤ S16x4096x3072.size a) ∧
  (∀ (hinb : ∀ a, (k0_off151 v4142) a + S1x512x3072.size a ≤ S16x4096x3072.size a), (Rect.unit (s := S16x4096x3072) (k0_off151 v4142) S1x512x3072.size hinb).WholeWords (EltTy.packing .fp8e4m3))
theorem k0_off151_inb : ∀ (v4142 : BitVec 32) (k0_hw32 : k0_chk32 v4142), ∀ a, (k0_off151 v4142) a + S1x512x3072.size a ≤ S16x4096x3072.size a := fun v4142 k0_hw32 => k0_hw32.1
theorem k0_off151_wordsfp8e4m3 : ∀ (v4142 : BitVec 32) (k0_hw32 : k0_chk32 v4142), (Rect.unit (s := S16x4096x3072) (k0_off151 v4142) S1x512x3072.size (k0_off151_inb v4142 k0_hw32)).WholeWords (EltTy.packing .fp8e4m3) := fun v4142 k0_hw32 => k0_hw32.2 (k0_off151_inb v4142 k0_hw32)

def k0_off152 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4152 : Index := Scalar.indexCast v17
  let c6_1537 : Index := 6#32
  let c0_1538 : Index := 0#32
  let c0_1539 : Index := 0#32
  ![v4152.toNat, 6, 0, 0]
def k0_off153 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4168 : Index := Scalar.indexCast v17
  let c6_1546 : Index := 6#32
  let c256_1547 : Index := 256#32
  let c0_1548 : Index := 0#32
  ![v4168.toNat, 6, 256, 0]
def k0_off154 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond10 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1552 : BitVec 32 := 2#32
  let v4182 : BitVec 32 := Scalar.addi arg18 c2_i32_1552
  let v4183 : BitVec 1 := Scalar.cmpi .slt v4182 v1
  let v4184 : BitVec 32 := Scalar.extui v4183
  let c0_i32_1553 : BitVec 32 := 0#32
  let v4185 : BitVec 1 := Scalar.cmpi .ne v4184 c0_i32_1553
  v4185

def k0_off155 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c6_i32_1589 : BitVec 32 := 6#32
  ![v4250.toNat, 6]
def k0_off156 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c6_i32_1588 : BitVec 32 := 6#32
  let c0_i32_1590 : BitVec 32 := 0#32
  let c0_i32_1591 : BitVec 32 := 0#32
  ![v4250.toNat, 6, 0, 0]
def k0_off157 (v4249 : BitVec 32) : Fin 3 → Nat :=
  let c3072_i32_1592 : BitVec 32 := 3072#32
  let c0_i32_1593 : BitVec 32 := 0#32
  ![v4249.toNat, 3072, 0]

def k0_chk33 (v1 : BitVec 32) (k0_t3 : Fin (k0_t3_loop v1).trips) (v4249 : BitVec 32) : Prop :=
  (∀ (k0_h10 : k0_cond10 v1 k0_t3 = 1#1), ∀ a, (k0_off157 v4249) a + S1x512x3072.size a ≤ S16x4096x3072.size a) ∧
  (∀ (k0_h10 : k0_cond10 v1 k0_t3 = 1#1), ∀ (hinb : ∀ a, (k0_off157 v4249) a + S1x512x3072.size a ≤ S16x4096x3072.size a), (Rect.unit (s := S16x4096x3072) (k0_off157 v4249) S1x512x3072.size hinb).WholeWords (EltTy.packing .fp8e4m3))
theorem k0_off157_inb : ∀ (v1 : BitVec 32) (k0_t3 : Fin (k0_t3_loop v1).trips) (v4249 : BitVec 32) (k0_hw33 : k0_chk33 v1 k0_t3 v4249), ∀ (k0_h10 : k0_cond10 v1 k0_t3 = 1#1), ∀ a, (k0_off157 v4249) a + S1x512x3072.size a ≤ S16x4096x3072.size a := fun v1 k0_t3 v4249 k0_hw33 k0_h10 => k0_hw33.1 k0_h10
theorem k0_off157_wordsfp8e4m3 : ∀ (v1 : BitVec 32) (k0_t3 : Fin (k0_t3_loop v1).trips) (v4249 : BitVec 32) (k0_hw33 : k0_chk33 v1 k0_t3 v4249), ∀ (k0_h10 : k0_cond10 v1 k0_t3 = 1#1), (Rect.unit (s := S16x4096x3072) (k0_off157 v4249) S1x512x3072.size (k0_off157_inb v1 k0_t3 v4249 k0_hw33 k0_h10)).WholeWords (EltTy.packing .fp8e4m3) := fun v1 k0_t3 v4249 k0_hw33 k0_h10 => k0_hw33.2 k0_h10 (k0_off157_inb v1 k0_t3 v4249 k0_hw33 k0_h10)

def k0_off158 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let v4186 : Index := Scalar.indexCast arg18
  ![v4186.toNat]
def k0_off159 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1554 : BitVec 32 := 2#32
  let v4188 : BitVec 32 := Scalar.remsi arg18 c2_i32_1554
  let c7_i32_1555 : BitVec 32 := 7#32
  ![v4188.toNat, 7]
def k0_off160 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1554 : BitVec 32 := 2#32
  let v4188 : BitVec 32 := Scalar.remsi arg18 c2_i32_1554
  let c7_i32 : BitVec 32 := 7#32
  let c0_i32_1556 : BitVec 32 := 0#32
  let c0_i32_1557 : BitVec 32 := 0#32
  ![v4188.toNat, 7, 0, 0]
def k0_off161 (v4187 : BitVec 32) : Fin 3 → Nat :=
  let c3584_i32 : BitVec 32 := 3584#32
  let c0_i32_1558 : BitVec 32 := 0#32
  ![v4187.toNat, 3584, 0]

def k0_chk34 (v4187 : BitVec 32) : Prop :=
  (∀ a, (k0_off161 v4187) a + S1x512x3072.size a ≤ S16x4096x3072.size a) ∧
  (∀ (hinb : ∀ a, (k0_off161 v4187) a + S1x512x3072.size a ≤ S16x4096x3072.size a), (Rect.unit (s := S16x4096x3072) (k0_off161 v4187) S1x512x3072.size hinb).WholeWords (EltTy.packing .fp8e4m3))
theorem k0_off161_inb : ∀ (v4187 : BitVec 32) (k0_hw34 : k0_chk34 v4187), ∀ a, (k0_off161 v4187) a + S1x512x3072.size a ≤ S16x4096x3072.size a := fun v4187 k0_hw34 => k0_hw34.1
theorem k0_off161_wordsfp8e4m3 : ∀ (v4187 : BitVec 32) (k0_hw34 : k0_chk34 v4187), (Rect.unit (s := S16x4096x3072) (k0_off161 v4187) S1x512x3072.size (k0_off161_inb v4187 k0_hw34)).WholeWords (EltTy.packing .fp8e4m3) := fun v4187 k0_hw34 => k0_hw34.2 (k0_off161_inb v4187 k0_hw34)

def k0_off162 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4197 : Index := Scalar.indexCast v17
  let c7_1562 : Index := 7#32
  let c0_1563 : Index := 0#32
  let c0_1564 : Index := 0#32
  ![v4197.toNat, 7, 0, 0]
def k0_off163 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32 : BitVec 32 := 2#32
  let v17 : BitVec 32 := Scalar.remsi arg18 c2_i32
  let v4213 : Index := Scalar.indexCast v17
  let c7_1571 : Index := 7#32
  let c256_1572 : Index := 256#32
  let c0_1573 : Index := 0#32
  ![v4213.toNat, 7, 256, 0]
def k0_off164 (v1 : BitVec 32) (k0_t3 : Fin (k0_t3_loop v1).trips) : Fin 1 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let v4248 : Index := Scalar.indexCast v4247
  ![v4248.toNat]
def k0_cond11 (v1 : BitVec 32) (k0_t3 : Fin (k0_t3_loop v1).trips) : BitVec 1 :=
  let c0_i32_11 : BitVec 32 := 0#32
  let c1_i32_13 : BitVec 32 := 1#32
  let arg18 : BitVec 32 := Scf.iv c0_i32_11 c1_i32_13 k0_t3
  let c2_i32_1577 : BitVec 32 := 2#32
  let v4227 : BitVec 32 := Scalar.addi arg18 c2_i32_1577
  let v4228 : BitVec 1 := Scalar.cmpi .slt v4227 v1
  let v4229 : BitVec 32 := Scalar.extui v4228
  let c0_i32_1578 : BitVec 32 := 0#32
  let v4230 : BitVec 1 := Scalar.cmpi .ne v4229 c0_i32_1578
  v4230

def k0_off165 (v1 : BitVec 32) (k0_t3 : Fin (k0_t3_loop v1).trips) : Fin 2 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c7_i32_1589 : BitVec 32 := 7#32
  ![v4250.toNat, 7]
def k0_off166 (v1 : BitVec 32) (k0_t3 : Fin (k0_t3_loop v1).trips) : Fin 4 → Nat :=
  let c0_i32_11 : BitVec 32 := 0#32
  let c1_i32_13 : BitVec 32 := 1#32
  let arg18 : BitVec 32 := Scf.iv c0_i32_11 c1_i32_13 k0_t3
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c7_i32_1588 : BitVec 32 := 7#32
  let c0_i32_1590 : BitVec 32 := 0#32
  let c0_i32_1591 : BitVec 32 := 0#32
  ![v4250.toNat, 7, 0, 0]
def k0_off167 (v4249 : BitVec 32) : Fin 3 → Nat :=
  let c3584_i32_1592 : BitVec 32 := 3584#32
  let c0_i32_1593 : BitVec 32 := 0#32
  ![v4249.toNat, 3584, 0]

def k0_chk35 (v1 : BitVec 32) (k0_t3 : Fin (k0_t3_loop v1).trips) (v4249 : BitVec 32) : Prop :=
  (∀ (k0_h11 : k0_cond11 v1 k0_t3 = 1#1), ∀ a, (k0_off167 v4249) a + S1x512x3072.size a ≤ S16x4096x3072.size a) ∧
  (∀ (k0_h11 : k0_cond11 v1 k0_t3 = 1#1), ∀ (hinb : ∀ a, (k0_off167 v4249) a + S1x512x3072.size a ≤ S16x4096x3072.size a), (Rect.unit (s := S16x4096x3072) (k0_off167 v4249) S1x512x3072.size hinb).WholeWords (EltTy.packing .fp8e4m3))
theorem k0_off167_inb : ∀ (v1 : BitVec 32) (k0_t3 : Fin (k0_t3_loop v1).trips) (v4249 : BitVec 32) (k0_hw35 : k0_chk35 v1 k0_t3 v4249), ∀ (k0_h11 : k0_cond11 v1 k0_t3 = 1#1), ∀ a, (k0_off167 v4249) a + S1x512x3072.size a ≤ S16x4096x3072.size a := fun v1 k0_t3 v4249 k0_hw35 k0_h11 => k0_hw35.1 k0_h11
theorem k0_off167_wordsfp8e4m3 : ∀ (v1 : BitVec 32) (k0_t3 : Fin (k0_t3_loop v1).trips) (v4249 : BitVec 32) (k0_hw35 : k0_chk35 v1 k0_t3 v4249), ∀ (k0_h11 : k0_cond11 v1 k0_t3 = 1#1), (Rect.unit (s := S16x4096x3072) (k0_off167 v4249) S1x512x3072.size (k0_off167_inb v1 k0_t3 v4249 k0_hw35 k0_h11)).WholeWords (EltTy.packing .fp8e4m3) := fun v1 k0_t3 v4249 k0_hw35 k0_h11 => k0_hw35.2 k0_h11 (k0_off167_inb v1 k0_t3 v4249 k0_hw35 k0_h11)

def k0_off168 (v16 : BitVec 32) : Fin 1 → Nat :=
  let v4232 : Index := Scalar.indexCast v16
  ![v4232.toNat]
def k0_off169 (v16 : BitVec 32) : Fin 3 → Nat :=
  let v4239 : Index := Scalar.indexCast v16
  let c0_1580 : Index := 0#32
  let c0_1581 : Index := 0#32
  ![v4239.toNat, 0, 0]
def k0_off170 (v16 : BitVec 32) : Fin 3 → Nat :=
  let c0_i32_1582 : BitVec 32 := 0#32
  let c0_i32_1583 : BitVec 32 := 0#32
  ![v16.toNat, 0, 0]

def k0_chk19_0 (v16 : BitVec 32) : Prop :=
  (∀ a, (k0_off55 v16) a + S1x8x128.size a ≤ S16x8x4096.size a) ∧
  (∀ a, (k0_off56 v16) a + S1x8x128.size a ≤ S16x8x4096.size a) ∧
  (∀ a, (k0_off57 v16) a + S1x8x128.size a ≤ S16x8x4096.size a) ∧
  (∀ a, (k0_off58 v16) a + S1x8x128.size a ≤ S16x8x4096.size a) ∧
  (∀ a, (k0_off59 v16) a + S1x8x128.size a ≤ S16x8x4096.size a) ∧
  (∀ a, (k0_off60 v16) a + S1x8x128.size a ≤ S16x8x4096.size a) ∧
  (∀ a, (k0_off61 v16) a + S1x8x128.size a ≤ S16x8x4096.size a) ∧
  (∀ a, (k0_off62 v16) a + S1x8x128.size a ≤ S16x8x4096.size a) ∧
  (∀ a, (k0_off63 v16) a + S1x8x128.size a ≤ S16x8x4096.size a) ∧
  (∀ a, (k0_off64 v16) a + S1x8x128.size a ≤ S16x8x4096.size a) ∧
  (∀ a, (k0_off65 v16) a + S1x8x128.size a ≤ S16x8x4096.size a) ∧
  (∀ a, (k0_off66 v16) a + S1x8x128.size a ≤ S16x8x4096.size a) ∧
  (∀ a, (k0_off67 v16) a + S1x8x128.size a ≤ S16x8x4096.size a) ∧
  (∀ a, (k0_off68 v16) a + S1x8x128.size a ≤ S16x8x4096.size a) ∧
  (∀ a, (k0_off69 v16) a + S1x8x128.size a ≤ S16x8x4096.size a) ∧
  (∀ a, (k0_off70 v16) a + S1x8x128.size a ≤ S16x8x4096.size a) ∧
  (∀ a, (k0_off71 v16) a + S1x8x128.size a ≤ S16x8x4096.size a) ∧
  (∀ a, (k0_off72 v16) a + S1x8x128.size a ≤ S16x8x4096.size a) ∧
  (∀ a, (k0_off73 v16) a + S1x8x128.size a ≤ S16x8x4096.size a) ∧
  (∀ a, (k0_off74 v16) a + S1x8x128.size a ≤ S16x8x4096.size a) ∧
  (∀ a, (k0_off75 v16) a + S1x8x128.size a ≤ S16x8x4096.size a) ∧
  (∀ a, (k0_off76 v16) a + S1x8x128.size a ≤ S16x8x4096.size a) ∧
  (∀ a, (k0_off77 v16) a + S1x8x128.size a ≤ S16x8x4096.size a) ∧
  (∀ a, (k0_off78 v16) a + S1x8x128.size a ≤ S16x8x4096.size a) ∧
  (∀ a, (k0_off79 v16) a + S1x8x128.size a ≤ S16x8x4096.size a) ∧
  (∀ a, (k0_off80 v16) a + S1x8x128.size a ≤ S16x8x4096.size a) ∧
  (∀ a, (k0_off81 v16) a + S1x8x128.size a ≤ S16x8x4096.size a) ∧
  (∀ a, (k0_off82 v16) a + S1x8x128.size a ≤ S16x8x4096.size a) ∧
  (∀ a, (k0_off83 v16) a + S1x8x128.size a ≤ S16x8x4096.size a) ∧
  (∀ a, (k0_off84 v16) a + S1x8x128.size a ≤ S16x8x4096.size a) ∧
  (∀ a, (k0_off85 v16) a + S1x8x128.size a ≤ S16x8x4096.size a) ∧
  (∀ a, (k0_off86 v16) a + S1x8x128.size a ≤ S16x8x4096.size a)
def k0_chk19_1 (v16 : BitVec 32) : Prop :=
  (∀ a, (k0_off87 v16) a + S1x32x24.size a ≤ S16x32x24.size a) ∧
  (∀ a, (k0_off168 v16) a + S1.size a ≤ S16.size a) ∧
  (∀ a, (k0_off169 v16) a + S1x8x3072.size a ≤ S16x8x3072.size a) ∧
  (∀ (hinb : ∀ a, (k0_off169 v16) a + S1x8x3072.size a ≤ S16x8x3072.size a), (Rect.unit (s := S16x8x3072) (k0_off169 v16) S1x8x3072.size hinb).PackedRows (EltTy.packing .bf16)) ∧
  (∀ a, (k0_off170 v16) a + S1x8x3072.size a ≤ S16x8x3072.size a) ∧
  (∀ (hinb : ∀ a, (k0_off170 v16) a + S1x8x3072.size a ≤ S16x8x3072.size a), (Rect.unit (s := S16x8x3072) (k0_off170 v16) S1x8x3072.size hinb).WholeWords (EltTy.packing .bf16))
def k0_chk19 (v16 : BitVec 32) : Prop :=
  k0_chk19_0 v16 ∧
  k0_chk19_1 v16
theorem k0_off55_inb : ∀ (v16 : BitVec 32) (k0_hw19 : k0_chk19 v16), ∀ a, (k0_off55 v16) a + S1x8x128.size a ≤ S16x8x4096.size a := fun v16 k0_hw19 => k0_hw19.1.1
theorem k0_off56_inb : ∀ (v16 : BitVec 32) (k0_hw19 : k0_chk19 v16), ∀ a, (k0_off56 v16) a + S1x8x128.size a ≤ S16x8x4096.size a := fun v16 k0_hw19 => k0_hw19.1.2.1
theorem k0_off57_inb : ∀ (v16 : BitVec 32) (k0_hw19 : k0_chk19 v16), ∀ a, (k0_off57 v16) a + S1x8x128.size a ≤ S16x8x4096.size a := fun v16 k0_hw19 => k0_hw19.1.2.2.1
theorem k0_off58_inb : ∀ (v16 : BitVec 32) (k0_hw19 : k0_chk19 v16), ∀ a, (k0_off58 v16) a + S1x8x128.size a ≤ S16x8x4096.size a := fun v16 k0_hw19 => k0_hw19.1.2.2.2.1
theorem k0_off59_inb : ∀ (v16 : BitVec 32) (k0_hw19 : k0_chk19 v16), ∀ a, (k0_off59 v16) a + S1x8x128.size a ≤ S16x8x4096.size a := fun v16 k0_hw19 => k0_hw19.1.2.2.2.2.1
theorem k0_off60_inb : ∀ (v16 : BitVec 32) (k0_hw19 : k0_chk19 v16), ∀ a, (k0_off60 v16) a + S1x8x128.size a ≤ S16x8x4096.size a := fun v16 k0_hw19 => k0_hw19.1.2.2.2.2.2.1
theorem k0_off61_inb : ∀ (v16 : BitVec 32) (k0_hw19 : k0_chk19 v16), ∀ a, (k0_off61 v16) a + S1x8x128.size a ≤ S16x8x4096.size a := fun v16 k0_hw19 => k0_hw19.1.2.2.2.2.2.2.1
theorem k0_off62_inb : ∀ (v16 : BitVec 32) (k0_hw19 : k0_chk19 v16), ∀ a, (k0_off62 v16) a + S1x8x128.size a ≤ S16x8x4096.size a := fun v16 k0_hw19 => k0_hw19.1.2.2.2.2.2.2.2.1
theorem k0_off63_inb : ∀ (v16 : BitVec 32) (k0_hw19 : k0_chk19 v16), ∀ a, (k0_off63 v16) a + S1x8x128.size a ≤ S16x8x4096.size a := fun v16 k0_hw19 => k0_hw19.1.2.2.2.2.2.2.2.2.1
theorem k0_off64_inb : ∀ (v16 : BitVec 32) (k0_hw19 : k0_chk19 v16), ∀ a, (k0_off64 v16) a + S1x8x128.size a ≤ S16x8x4096.size a := fun v16 k0_hw19 => k0_hw19.1.2.2.2.2.2.2.2.2.2.1
theorem k0_off65_inb : ∀ (v16 : BitVec 32) (k0_hw19 : k0_chk19 v16), ∀ a, (k0_off65 v16) a + S1x8x128.size a ≤ S16x8x4096.size a := fun v16 k0_hw19 => k0_hw19.1.2.2.2.2.2.2.2.2.2.2.1
theorem k0_off66_inb : ∀ (v16 : BitVec 32) (k0_hw19 : k0_chk19 v16), ∀ a, (k0_off66 v16) a + S1x8x128.size a ≤ S16x8x4096.size a := fun v16 k0_hw19 => k0_hw19.1.2.2.2.2.2.2.2.2.2.2.2.1
theorem k0_off67_inb : ∀ (v16 : BitVec 32) (k0_hw19 : k0_chk19 v16), ∀ a, (k0_off67 v16) a + S1x8x128.size a ≤ S16x8x4096.size a := fun v16 k0_hw19 => k0_hw19.1.2.2.2.2.2.2.2.2.2.2.2.2.1
theorem k0_off68_inb : ∀ (v16 : BitVec 32) (k0_hw19 : k0_chk19 v16), ∀ a, (k0_off68 v16) a + S1x8x128.size a ≤ S16x8x4096.size a := fun v16 k0_hw19 => k0_hw19.1.2.2.2.2.2.2.2.2.2.2.2.2.2.1
theorem k0_off69_inb : ∀ (v16 : BitVec 32) (k0_hw19 : k0_chk19 v16), ∀ a, (k0_off69 v16) a + S1x8x128.size a ≤ S16x8x4096.size a := fun v16 k0_hw19 => k0_hw19.1.2.2.2.2.2.2.2.2.2.2.2.2.2.2.1
theorem k0_off70_inb : ∀ (v16 : BitVec 32) (k0_hw19 : k0_chk19 v16), ∀ a, (k0_off70 v16) a + S1x8x128.size a ≤ S16x8x4096.size a := fun v16 k0_hw19 => k0_hw19.1.2.2.2.2.2.2.2.2.2.2.2.2.2.2.2.1
theorem k0_off71_inb : ∀ (v16 : BitVec 32) (k0_hw19 : k0_chk19 v16), ∀ a, (k0_off71 v16) a + S1x8x128.size a ≤ S16x8x4096.size a := fun v16 k0_hw19 => k0_hw19.1.2.2.2.2.2.2.2.2.2.2.2.2.2.2.2.2.1
theorem k0_off72_inb : ∀ (v16 : BitVec 32) (k0_hw19 : k0_chk19 v16), ∀ a, (k0_off72 v16) a + S1x8x128.size a ≤ S16x8x4096.size a := fun v16 k0_hw19 => k0_hw19.1.2.2.2.2.2.2.2.2.2.2.2.2.2.2.2.2.2.1
theorem k0_off73_inb : ∀ (v16 : BitVec 32) (k0_hw19 : k0_chk19 v16), ∀ a, (k0_off73 v16) a + S1x8x128.size a ≤ S16x8x4096.size a := fun v16 k0_hw19 => k0_hw19.1.2.2.2.2.2.2.2.2.2.2.2.2.2.2.2.2.2.2.1
theorem k0_off74_inb : ∀ (v16 : BitVec 32) (k0_hw19 : k0_chk19 v16), ∀ a, (k0_off74 v16) a + S1x8x128.size a ≤ S16x8x4096.size a := fun v16 k0_hw19 => k0_hw19.1.2.2.2.2.2.2.2.2.2.2.2.2.2.2.2.2.2.2.2.1
theorem k0_off75_inb : ∀ (v16 : BitVec 32) (k0_hw19 : k0_chk19 v16), ∀ a, (k0_off75 v16) a + S1x8x128.size a ≤ S16x8x4096.size a := fun v16 k0_hw19 => k0_hw19.1.2.2.2.2.2.2.2.2.2.2.2.2.2.2.2.2.2.2.2.2.1
theorem k0_off76_inb : ∀ (v16 : BitVec 32) (k0_hw19 : k0_chk19 v16), ∀ a, (k0_off76 v16) a + S1x8x128.size a ≤ S16x8x4096.size a := fun v16 k0_hw19 => k0_hw19.1.2.2.2.2.2.2.2.2.2.2.2.2.2.2.2.2.2.2.2.2.2.1
theorem k0_off77_inb : ∀ (v16 : BitVec 32) (k0_hw19 : k0_chk19 v16), ∀ a, (k0_off77 v16) a + S1x8x128.size a ≤ S16x8x4096.size a := fun v16 k0_hw19 => k0_hw19.1.2.2.2.2.2.2.2.2.2.2.2.2.2.2.2.2.2.2.2.2.2.2.1
theorem k0_off78_inb : ∀ (v16 : BitVec 32) (k0_hw19 : k0_chk19 v16), ∀ a, (k0_off78 v16) a + S1x8x128.size a ≤ S16x8x4096.size a := fun v16 k0_hw19 => k0_hw19.1.2.2.2.2.2.2.2.2.2.2.2.2.2.2.2.2.2.2.2.2.2.2.2.1
theorem k0_off79_inb : ∀ (v16 : BitVec 32) (k0_hw19 : k0_chk19 v16), ∀ a, (k0_off79 v16) a + S1x8x128.size a ≤ S16x8x4096.size a := fun v16 k0_hw19 => k0_hw19.1.2.2.2.2.2.2.2.2.2.2.2.2.2.2.2.2.2.2.2.2.2.2.2.2.1
theorem k0_off80_inb : ∀ (v16 : BitVec 32) (k0_hw19 : k0_chk19 v16), ∀ a, (k0_off80 v16) a + S1x8x128.size a ≤ S16x8x4096.size a := fun v16 k0_hw19 => k0_hw19.1.2.2.2.2.2.2.2.2.2.2.2.2.2.2.2.2.2.2.2.2.2.2.2.2.2.1
theorem k0_off81_inb : ∀ (v16 : BitVec 32) (k0_hw19 : k0_chk19 v16), ∀ a, (k0_off81 v16) a + S1x8x128.size a ≤ S16x8x4096.size a := fun v16 k0_hw19 => k0_hw19.1.2.2.2.2.2.2.2.2.2.2.2.2.2.2.2.2.2.2.2.2.2.2.2.2.2.2.1
theorem k0_off82_inb : ∀ (v16 : BitVec 32) (k0_hw19 : k0_chk19 v16), ∀ a, (k0_off82 v16) a + S1x8x128.size a ≤ S16x8x4096.size a := fun v16 k0_hw19 => k0_hw19.1.2.2.2.2.2.2.2.2.2.2.2.2.2.2.2.2.2.2.2.2.2.2.2.2.2.2.2.1
theorem k0_off83_inb : ∀ (v16 : BitVec 32) (k0_hw19 : k0_chk19 v16), ∀ a, (k0_off83 v16) a + S1x8x128.size a ≤ S16x8x4096.size a := fun v16 k0_hw19 => k0_hw19.1.2.2.2.2.2.2.2.2.2.2.2.2.2.2.2.2.2.2.2.2.2.2.2.2.2.2.2.2.1
theorem k0_off84_inb : ∀ (v16 : BitVec 32) (k0_hw19 : k0_chk19 v16), ∀ a, (k0_off84 v16) a + S1x8x128.size a ≤ S16x8x4096.size a := fun v16 k0_hw19 => k0_hw19.1.2.2.2.2.2.2.2.2.2.2.2.2.2.2.2.2.2.2.2.2.2.2.2.2.2.2.2.2.2.1
theorem k0_off85_inb : ∀ (v16 : BitVec 32) (k0_hw19 : k0_chk19 v16), ∀ a, (k0_off85 v16) a + S1x8x128.size a ≤ S16x8x4096.size a := fun v16 k0_hw19 => k0_hw19.1.2.2.2.2.2.2.2.2.2.2.2.2.2.2.2.2.2.2.2.2.2.2.2.2.2.2.2.2.2.2.1
theorem k0_off86_inb : ∀ (v16 : BitVec 32) (k0_hw19 : k0_chk19 v16), ∀ a, (k0_off86 v16) a + S1x8x128.size a ≤ S16x8x4096.size a := fun v16 k0_hw19 => k0_hw19.1.2.2.2.2.2.2.2.2.2.2.2.2.2.2.2.2.2.2.2.2.2.2.2.2.2.2.2.2.2.2.2
theorem k0_off87_inb : ∀ (v16 : BitVec 32) (k0_hw19 : k0_chk19 v16), ∀ a, (k0_off87 v16) a + S1x32x24.size a ≤ S16x32x24.size a := fun v16 k0_hw19 => k0_hw19.2.1
theorem k0_off168_inb : ∀ (v16 : BitVec 32) (k0_hw19 : k0_chk19 v16), ∀ a, (k0_off168 v16) a + S1.size a ≤ S16.size a := fun v16 k0_hw19 => k0_hw19.2.2.1
theorem k0_off169_inb : ∀ (v16 : BitVec 32) (k0_hw19 : k0_chk19 v16), ∀ a, (k0_off169 v16) a + S1x8x3072.size a ≤ S16x8x3072.size a := fun v16 k0_hw19 => k0_hw19.2.2.2.1
theorem k0_off169_packedbf16 : ∀ (v16 : BitVec 32) (k0_hw19 : k0_chk19 v16), (Rect.unit (s := S16x8x3072) (k0_off169 v16) S1x8x3072.size (k0_off169_inb v16 k0_hw19)).PackedRows (EltTy.packing .bf16) := fun v16 k0_hw19 => k0_hw19.2.2.2.2.1 (k0_off169_inb v16 k0_hw19)
theorem k0_off170_inb : ∀ (v16 : BitVec 32) (k0_hw19 : k0_chk19 v16), ∀ a, (k0_off170 v16) a + S1x8x3072.size a ≤ S16x8x3072.size a := fun v16 k0_hw19 => k0_hw19.2.2.2.2.2.1
theorem k0_off170_wordsbf16 : ∀ (v16 : BitVec 32) (k0_hw19 : k0_chk19 v16), (Rect.unit (s := S16x8x3072) (k0_off170 v16) S1x8x3072.size (k0_off170_inb v16 k0_hw19)).WholeWords (EltTy.packing .bf16) := fun v16 k0_hw19 => k0_hw19.2.2.2.2.2.2 (k0_off170_inb v16 k0_hw19)

@[reducible] def k0_t4_loop (v1 : BitVec 32) : Scf.Loop 32 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let v10 : BitVec 32 := Scalar.addi c0_i32_11 v9
  let c1_i32_14 : BitVec 32 := 1#32
  ⟨v13, v10, c1_i32_14⟩
def k0_off171 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v15 : Index := Scalar.indexCast arg18
  ![v15.toNat]
def k0_off172 (v16 : BitVec 32) : Fin 3 → Nat :=
  let v19 : Index := Scalar.indexCast v16
  let c0 : Index := 0#32
  let c0_19 : Index := 0#32
  ![v19.toNat, 0, 0]

def k0_off173 (v16 : BitVec 32) : Fin 3 → Nat :=
  let v127 : Index := Scalar.indexCast v16
  let c0_48 : Index := 0#32
  let c128 : Index := 128#32
  ![v127.toNat, 0, 128]
def k0_off174 (v16 : BitVec 32) : Fin 3 → Nat :=
  let v235 : Index := Scalar.indexCast v16
  let c0_86 : Index := 0#32
  let c256 : Index := 256#32
  ![v235.toNat, 0, 256]
def k0_off175 (v16 : BitVec 32) : Fin 3 → Nat :=
  let v343 : Index := Scalar.indexCast v16
  let c0_124 : Index := 0#32
  let c384 : Index := 384#32
  ![v343.toNat, 0, 384]
def k0_off176 (v16 : BitVec 32) : Fin 3 → Nat :=
  let v482 : Index := Scalar.indexCast v16
  let c0_173 : Index := 0#32
  let c512 : Index := 512#32
  ![v482.toNat, 0, 512]
def k0_off177 (v16 : BitVec 32) : Fin 3 → Nat :=
  let v590 : Index := Scalar.indexCast v16
  let c0_211 : Index := 0#32
  let c640 : Index := 640#32
  ![v590.toNat, 0, 640]
def k0_off178 (v16 : BitVec 32) : Fin 3 → Nat :=
  let v698 : Index := Scalar.indexCast v16
  let c0_249 : Index := 0#32
  let c768 : Index := 768#32
  ![v698.toNat, 0, 768]
def k0_off179 (v16 : BitVec 32) : Fin 3 → Nat :=
  let v806 : Index := Scalar.indexCast v16
  let c0_287 : Index := 0#32
  let c896 : Index := 896#32
  ![v806.toNat, 0, 896]
def k0_off180 (v16 : BitVec 32) : Fin 3 → Nat :=
  let v945 : Index := Scalar.indexCast v16
  let c0_335 : Index := 0#32
  let c1024 : Index := 1024#32
  ![v945.toNat, 0, 1024]
def k0_off181 (v16 : BitVec 32) : Fin 3 → Nat :=
  let v1053 : Index := Scalar.indexCast v16
  let c0_373 : Index := 0#32
  let c1152 : Index := 1152#32
  ![v1053.toNat, 0, 1152]
def k0_off182 (v16 : BitVec 32) : Fin 3 → Nat :=
  let v1161 : Index := Scalar.indexCast v16
  let c0_411 : Index := 0#32
  let c1280 : Index := 1280#32
  ![v1161.toNat, 0, 1280]
def k0_off183 (v16 : BitVec 32) : Fin 3 → Nat :=
  let v1269 : Index := Scalar.indexCast v16
  let c0_449 : Index := 0#32
  let c1408 : Index := 1408#32
  ![v1269.toNat, 0, 1408]
def k0_off184 (v16 : BitVec 32) : Fin 3 → Nat :=
  let v1408 : Index := Scalar.indexCast v16
  let c0_497 : Index := 0#32
  let c1536 : Index := 1536#32
  ![v1408.toNat, 0, 1536]
def k0_off185 (v16 : BitVec 32) : Fin 3 → Nat :=
  let v1516 : Index := Scalar.indexCast v16
  let c0_535 : Index := 0#32
  let c1664 : Index := 1664#32
  ![v1516.toNat, 0, 1664]
def k0_off186 (v16 : BitVec 32) : Fin 3 → Nat :=
  let v1624 : Index := Scalar.indexCast v16
  let c0_573 : Index := 0#32
  let c1792 : Index := 1792#32
  ![v1624.toNat, 0, 1792]
def k0_off187 (v16 : BitVec 32) : Fin 3 → Nat :=
  let v1732 : Index := Scalar.indexCast v16
  let c0_611 : Index := 0#32
  let c1920 : Index := 1920#32
  ![v1732.toNat, 0, 1920]
def k0_off188 (v16 : BitVec 32) : Fin 3 → Nat :=
  let v1871 : Index := Scalar.indexCast v16
  let c0_659 : Index := 0#32
  let c2048 : Index := 2048#32
  ![v1871.toNat, 0, 2048]
def k0_off189 (v16 : BitVec 32) : Fin 3 → Nat :=
  let v1979 : Index := Scalar.indexCast v16
  let c0_697 : Index := 0#32
  let c2176 : Index := 2176#32
  ![v1979.toNat, 0, 2176]
def k0_off190 (v16 : BitVec 32) : Fin 3 → Nat :=
  let v2087 : Index := Scalar.indexCast v16
  let c0_735 : Index := 0#32
  let c2304 : Index := 2304#32
  ![v2087.toNat, 0, 2304]
def k0_off191 (v16 : BitVec 32) : Fin 3 → Nat :=
  let v2195 : Index := Scalar.indexCast v16
  let c0_773 : Index := 0#32
  let c2432 : Index := 2432#32
  ![v2195.toNat, 0, 2432]
def k0_off192 (v16 : BitVec 32) : Fin 3 → Nat :=
  let v2334 : Index := Scalar.indexCast v16
  let c0_821 : Index := 0#32
  let c2560 : Index := 2560#32
  ![v2334.toNat, 0, 2560]
def k0_off193 (v16 : BitVec 32) : Fin 3 → Nat :=
  let v2442 : Index := Scalar.indexCast v16
  let c0_859 : Index := 0#32
  let c2688 : Index := 2688#32
  ![v2442.toNat, 0, 2688]
def k0_off194 (v16 : BitVec 32) : Fin 3 → Nat :=
  let v2550 : Index := Scalar.indexCast v16
  let c0_897 : Index := 0#32
  let c2816 : Index := 2816#32
  ![v2550.toNat, 0, 2816]
def k0_off195 (v16 : BitVec 32) : Fin 3 → Nat :=
  let v2658 : Index := Scalar.indexCast v16
  let c0_935 : Index := 0#32
  let c2944 : Index := 2944#32
  ![v2658.toNat, 0, 2944]
def k0_off196 (v16 : BitVec 32) : Fin 3 → Nat :=
  let v2797 : Index := Scalar.indexCast v16
  let c0_983 : Index := 0#32
  let c3072 : Index := 3072#32
  ![v2797.toNat, 0, 3072]
def k0_off197 (v16 : BitVec 32) : Fin 3 → Nat :=
  let v2905 : Index := Scalar.indexCast v16
  let c0_1021 : Index := 0#32
  let c3200 : Index := 3200#32
  ![v2905.toNat, 0, 3200]
def k0_off198 (v16 : BitVec 32) : Fin 3 → Nat :=
  let v3013 : Index := Scalar.indexCast v16
  let c0_1059 : Index := 0#32
  let c3328 : Index := 3328#32
  ![v3013.toNat, 0, 3328]
def k0_off199 (v16 : BitVec 32) : Fin 3 → Nat :=
  let v3121 : Index := Scalar.indexCast v16
  let c0_1097 : Index := 0#32
  let c3456 : Index := 3456#32
  ![v3121.toNat, 0, 3456]
def k0_off200 (v16 : BitVec 32) : Fin 3 → Nat :=
  let v3260 : Index := Scalar.indexCast v16
  let c0_1145 : Index := 0#32
  let c3584 : Index := 3584#32
  ![v3260.toNat, 0, 3584]
def k0_off201 (v16 : BitVec 32) : Fin 3 → Nat :=
  let v3368 : Index := Scalar.indexCast v16
  let c0_1183 : Index := 0#32
  let c3712 : Index := 3712#32
  ![v3368.toNat, 0, 3712]
def k0_off202 (v16 : BitVec 32) : Fin 3 → Nat :=
  let v3476 : Index := Scalar.indexCast v16
  let c0_1221 : Index := 0#32
  let c3840 : Index := 3840#32
  ![v3476.toNat, 0, 3840]
def k0_off203 (v16 : BitVec 32) : Fin 3 → Nat :=
  let v3584 : Index := Scalar.indexCast v16
  let c0_1259 : Index := 0#32
  let c3968 : Index := 3968#32
  ![v3584.toNat, 0, 3968]
def k0_off204 (v16 : BitVec 32) : Fin 3 → Nat :=
  let v3723 : Index := Scalar.indexCast v16
  let c0_1307 : Index := 0#32
  let c0_1308 : Index := 0#32
  ![v3723.toNat, 0, 0]
def k0_off205 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v3871 : Index := Scalar.indexCast arg18
  ![v3871.toNat]
def k0_off206 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1358 : BitVec 32 := 2#32
  let v3873 : BitVec 32 := Scalar.remsi arg18 c2_i32_1358
  let c0_i32_1360 : BitVec 32 := 0#32
  ![v3873.toNat, 0]
def k0_off207 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1358 : BitVec 32 := 2#32
  let v3873 : BitVec 32 := Scalar.remsi arg18 c2_i32_1358
  let c0_i32_1359 : BitVec 32 := 0#32
  let c0_i32_1361 : BitVec 32 := 0#32
  let c0_i32_1362 : BitVec 32 := 0#32
  ![v3873.toNat, 0, 0, 0]
def k0_off208 (v3872 : BitVec 32) : Fin 3 → Nat :=
  let c0_i32_1363 : BitVec 32 := 0#32
  let c0_i32_1364 : BitVec 32 := 0#32
  ![v3872.toNat, 0, 0]

def k0_chk37 (v3872 : BitVec 32) : Prop :=
  (∀ a, (k0_off208 v3872) a + S1x512x3072.size a ≤ S16x4096x3072.size a) ∧
  (∀ (hinb : ∀ a, (k0_off208 v3872) a + S1x512x3072.size a ≤ S16x4096x3072.size a), (Rect.unit (s := S16x4096x3072) (k0_off208 v3872) S1x512x3072.size hinb).WholeWords (EltTy.packing .fp8e4m3))
theorem k0_off208_inb : ∀ (v3872 : BitVec 32) (k0_hw37 : k0_chk37 v3872), ∀ a, (k0_off208 v3872) a + S1x512x3072.size a ≤ S16x4096x3072.size a := fun v3872 k0_hw37 => k0_hw37.1
theorem k0_off208_wordsfp8e4m3 : ∀ (v3872 : BitVec 32) (k0_hw37 : k0_chk37 v3872), (Rect.unit (s := S16x4096x3072) (k0_off208 v3872) S1x512x3072.size (k0_off208_inb v3872 k0_hw37)).WholeWords (EltTy.packing .fp8e4m3) := fun v3872 k0_hw37 => k0_hw37.2 (k0_off208_inb v3872 k0_hw37)

def k0_off209 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v3882 : Index := Scalar.indexCast v17
  let c0_1368 : Index := 0#32
  let c0_1369 : Index := 0#32
  let c0_1370 : Index := 0#32
  ![v3882.toNat, 0, 0, 0]
def k0_off210 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v3898 : Index := Scalar.indexCast v17
  let c0_1379 : Index := 0#32
  let c256_1380 : Index := 256#32
  let c0_1381 : Index := 0#32
  ![v3898.toNat, 0, 256, 0]
def k0_off211 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond12 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1387 : BitVec 32 := 2#32
  let v3912 : BitVec 32 := Scalar.addi arg18 c2_i32_1387
  let v3913 : BitVec 1 := Scalar.cmpi .slt v3912 v1
  let v3914 : BitVec 32 := Scalar.extui v3913
  let c0_i32_1388 : BitVec 32 := 0#32
  let v3915 : BitVec 1 := Scalar.cmpi .ne v3914 c0_i32_1388
  v3915

def k0_off212 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c0_i32_1589 : BitVec 32 := 0#32
  ![v4250.toNat, 0]
def k0_off213 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c0_i32_1588 : BitVec 32 := 0#32
  let c0_i32_1590 : BitVec 32 := 0#32
  let c0_i32_1591 : BitVec 32 := 0#32
  ![v4250.toNat, 0, 0, 0]
def k0_off214 (v4249 : BitVec 32) : Fin 3 → Nat :=
  let c0_i32_1592 : BitVec 32 := 0#32
  let c0_i32_1593 : BitVec 32 := 0#32
  ![v4249.toNat, 0, 0]

def k0_chk38 (v1 : BitVec 32) (k0_t4 : Fin (k0_t4_loop v1).trips) (v4249 : BitVec 32) : Prop :=
  (∀ (k0_h12 : k0_cond12 v1 k0_t4 = 1#1), ∀ a, (k0_off214 v4249) a + S1x512x3072.size a ≤ S16x4096x3072.size a) ∧
  (∀ (k0_h12 : k0_cond12 v1 k0_t4 = 1#1), ∀ (hinb : ∀ a, (k0_off214 v4249) a + S1x512x3072.size a ≤ S16x4096x3072.size a), (Rect.unit (s := S16x4096x3072) (k0_off214 v4249) S1x512x3072.size hinb).WholeWords (EltTy.packing .fp8e4m3))
theorem k0_off214_inb : ∀ (v1 : BitVec 32) (k0_t4 : Fin (k0_t4_loop v1).trips) (v4249 : BitVec 32) (k0_hw38 : k0_chk38 v1 k0_t4 v4249), ∀ (k0_h12 : k0_cond12 v1 k0_t4 = 1#1), ∀ a, (k0_off214 v4249) a + S1x512x3072.size a ≤ S16x4096x3072.size a := fun v1 k0_t4 v4249 k0_hw38 k0_h12 => k0_hw38.1 k0_h12
theorem k0_off214_wordsfp8e4m3 : ∀ (v1 : BitVec 32) (k0_t4 : Fin (k0_t4_loop v1).trips) (v4249 : BitVec 32) (k0_hw38 : k0_chk38 v1 k0_t4 v4249), ∀ (k0_h12 : k0_cond12 v1 k0_t4 = 1#1), (Rect.unit (s := S16x4096x3072) (k0_off214 v4249) S1x512x3072.size (k0_off214_inb v1 k0_t4 v4249 k0_hw38 k0_h12)).WholeWords (EltTy.packing .fp8e4m3) := fun v1 k0_t4 v4249 k0_hw38 k0_h12 => k0_hw38.2 k0_h12 (k0_off214_inb v1 k0_t4 v4249 k0_hw38 k0_h12)

def k0_off215 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v3916 : Index := Scalar.indexCast arg18
  ![v3916.toNat]
def k0_off216 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1389 : BitVec 32 := 2#32
  let v3918 : BitVec 32 := Scalar.remsi arg18 c2_i32_1389
  let c1_i32_1391 : BitVec 32 := 1#32
  ![v3918.toNat, 1]
def k0_off217 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1389 : BitVec 32 := 2#32
  let v3918 : BitVec 32 := Scalar.remsi arg18 c2_i32_1389
  let c1_i32_1390 : BitVec 32 := 1#32
  let c0_i32_1392 : BitVec 32 := 0#32
  let c0_i32_1393 : BitVec 32 := 0#32
  ![v3918.toNat, 1, 0, 0]
def k0_off218 (v3917 : BitVec 32) : Fin 3 → Nat :=
  let c512_i32 : BitVec 32 := 512#32
  let c0_i32_1394 : BitVec 32 := 0#32
  ![v3917.toNat, 512, 0]

def k0_chk39 (v3917 : BitVec 32) : Prop :=
  (∀ a, (k0_off218 v3917) a + S1x512x3072.size a ≤ S16x4096x3072.size a) ∧
  (∀ (hinb : ∀ a, (k0_off218 v3917) a + S1x512x3072.size a ≤ S16x4096x3072.size a), (Rect.unit (s := S16x4096x3072) (k0_off218 v3917) S1x512x3072.size hinb).WholeWords (EltTy.packing .fp8e4m3))
theorem k0_off218_inb : ∀ (v3917 : BitVec 32) (k0_hw39 : k0_chk39 v3917), ∀ a, (k0_off218 v3917) a + S1x512x3072.size a ≤ S16x4096x3072.size a := fun v3917 k0_hw39 => k0_hw39.1
theorem k0_off218_wordsfp8e4m3 : ∀ (v3917 : BitVec 32) (k0_hw39 : k0_chk39 v3917), (Rect.unit (s := S16x4096x3072) (k0_off218 v3917) S1x512x3072.size (k0_off218_inb v3917 k0_hw39)).WholeWords (EltTy.packing .fp8e4m3) := fun v3917 k0_hw39 => k0_hw39.2 (k0_off218_inb v3917 k0_hw39)

def k0_off219 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v3927 : Index := Scalar.indexCast v17
  let c1_1398 : Index := 1#32
  let c0_1399 : Index := 0#32
  let c0_1400 : Index := 0#32
  ![v3927.toNat, 1, 0, 0]
def k0_off220 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v3943 : Index := Scalar.indexCast v17
  let c1_1409 : Index := 1#32
  let c256_1410 : Index := 256#32
  let c0_1411 : Index := 0#32
  ![v3943.toNat, 1, 256, 0]
def k0_off221 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond13 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1417 : BitVec 32 := 2#32
  let v3957 : BitVec 32 := Scalar.addi arg18 c2_i32_1417
  let v3958 : BitVec 1 := Scalar.cmpi .slt v3957 v1
  let v3959 : BitVec 32 := Scalar.extui v3958
  let c0_i32_1418 : BitVec 32 := 0#32
  let v3960 : BitVec 1 := Scalar.cmpi .ne v3959 c0_i32_1418
  v3960

def k0_off222 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c1_i32_1589 : BitVec 32 := 1#32
  ![v4250.toNat, 1]
def k0_off223 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c1_i32_1588 : BitVec 32 := 1#32
  let c0_i32_1590 : BitVec 32 := 0#32
  let c0_i32_1591 : BitVec 32 := 0#32
  ![v4250.toNat, 1, 0, 0]
def k0_off224 (v4249 : BitVec 32) : Fin 3 → Nat :=
  let c512_i32_1592 : BitVec 32 := 512#32
  let c0_i32_1593 : BitVec 32 := 0#32
  ![v4249.toNat, 512, 0]

def k0_chk40 (v1 : BitVec 32) (k0_t4 : Fin (k0_t4_loop v1).trips) (v4249 : BitVec 32) : Prop :=
  (∀ (k0_h13 : k0_cond13 v1 k0_t4 = 1#1), ∀ a, (k0_off224 v4249) a + S1x512x3072.size a ≤ S16x4096x3072.size a) ∧
  (∀ (k0_h13 : k0_cond13 v1 k0_t4 = 1#1), ∀ (hinb : ∀ a, (k0_off224 v4249) a + S1x512x3072.size a ≤ S16x4096x3072.size a), (Rect.unit (s := S16x4096x3072) (k0_off224 v4249) S1x512x3072.size hinb).WholeWords (EltTy.packing .fp8e4m3))
theorem k0_off224_inb : ∀ (v1 : BitVec 32) (k0_t4 : Fin (k0_t4_loop v1).trips) (v4249 : BitVec 32) (k0_hw40 : k0_chk40 v1 k0_t4 v4249), ∀ (k0_h13 : k0_cond13 v1 k0_t4 = 1#1), ∀ a, (k0_off224 v4249) a + S1x512x3072.size a ≤ S16x4096x3072.size a := fun v1 k0_t4 v4249 k0_hw40 k0_h13 => k0_hw40.1 k0_h13
theorem k0_off224_wordsfp8e4m3 : ∀ (v1 : BitVec 32) (k0_t4 : Fin (k0_t4_loop v1).trips) (v4249 : BitVec 32) (k0_hw40 : k0_chk40 v1 k0_t4 v4249), ∀ (k0_h13 : k0_cond13 v1 k0_t4 = 1#1), (Rect.unit (s := S16x4096x3072) (k0_off224 v4249) S1x512x3072.size (k0_off224_inb v1 k0_t4 v4249 k0_hw40 k0_h13)).WholeWords (EltTy.packing .fp8e4m3) := fun v1 k0_t4 v4249 k0_hw40 k0_h13 => k0_hw40.2 k0_h13 (k0_off224_inb v1 k0_t4 v4249 k0_hw40 k0_h13)

def k0_off225 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v3961 : Index := Scalar.indexCast arg18
  ![v3961.toNat]
def k0_off226 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1419 : BitVec 32 := 2#32
  let v3963 : BitVec 32 := Scalar.remsi arg18 c2_i32_1419
  let c2_i32_1421 : BitVec 32 := 2#32
  ![v3963.toNat, 2]
def k0_off227 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1419 : BitVec 32 := 2#32
  let v3963 : BitVec 32 := Scalar.remsi arg18 c2_i32_1419
  let c2_i32_1420 : BitVec 32 := 2#32
  let c0_i32_1422 : BitVec 32 := 0#32
  let c0_i32_1423 : BitVec 32 := 0#32
  ![v3963.toNat, 2, 0, 0]
def k0_off228 (v3962 : BitVec 32) : Fin 3 → Nat :=
  let c1024_i32 : BitVec 32 := 1024#32
  let c0_i32_1424 : BitVec 32 := 0#32
  ![v3962.toNat, 1024, 0]

def k0_chk41 (v3962 : BitVec 32) : Prop :=
  (∀ a, (k0_off228 v3962) a + S1x512x3072.size a ≤ S16x4096x3072.size a) ∧
  (∀ (hinb : ∀ a, (k0_off228 v3962) a + S1x512x3072.size a ≤ S16x4096x3072.size a), (Rect.unit (s := S16x4096x3072) (k0_off228 v3962) S1x512x3072.size hinb).WholeWords (EltTy.packing .fp8e4m3))
theorem k0_off228_inb : ∀ (v3962 : BitVec 32) (k0_hw41 : k0_chk41 v3962), ∀ a, (k0_off228 v3962) a + S1x512x3072.size a ≤ S16x4096x3072.size a := fun v3962 k0_hw41 => k0_hw41.1
theorem k0_off228_wordsfp8e4m3 : ∀ (v3962 : BitVec 32) (k0_hw41 : k0_chk41 v3962), (Rect.unit (s := S16x4096x3072) (k0_off228 v3962) S1x512x3072.size (k0_off228_inb v3962 k0_hw41)).WholeWords (EltTy.packing .fp8e4m3) := fun v3962 k0_hw41 => k0_hw41.2 (k0_off228_inb v3962 k0_hw41)

def k0_off229 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v3972 : Index := Scalar.indexCast v17
  let c2_1428 : Index := 2#32
  let c0_1429 : Index := 0#32
  let c0_1430 : Index := 0#32
  ![v3972.toNat, 2, 0, 0]
def k0_off230 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v3988 : Index := Scalar.indexCast v17
  let c2_1439 : Index := 2#32
  let c256_1440 : Index := 256#32
  let c0_1441 : Index := 0#32
  ![v3988.toNat, 2, 256, 0]
def k0_off231 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond14 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1447 : BitVec 32 := 2#32
  let v4002 : BitVec 32 := Scalar.addi arg18 c2_i32_1447
  let v4003 : BitVec 1 := Scalar.cmpi .slt v4002 v1
  let v4004 : BitVec 32 := Scalar.extui v4003
  let c0_i32_1448 : BitVec 32 := 0#32
  let v4005 : BitVec 1 := Scalar.cmpi .ne v4004 c0_i32_1448
  v4005

def k0_off232 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c2_i32_1589 : BitVec 32 := 2#32
  ![v4250.toNat, 2]
def k0_off233 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c2_i32_1588 : BitVec 32 := 2#32
  let c0_i32_1590 : BitVec 32 := 0#32
  let c0_i32_1591 : BitVec 32 := 0#32
  ![v4250.toNat, 2, 0, 0]
def k0_off234 (v4249 : BitVec 32) : Fin 3 → Nat :=
  let c1024_i32_1592 : BitVec 32 := 1024#32
  let c0_i32_1593 : BitVec 32 := 0#32
  ![v4249.toNat, 1024, 0]

def k0_chk42 (v1 : BitVec 32) (k0_t4 : Fin (k0_t4_loop v1).trips) (v4249 : BitVec 32) : Prop :=
  (∀ (k0_h14 : k0_cond14 v1 k0_t4 = 1#1), ∀ a, (k0_off234 v4249) a + S1x512x3072.size a ≤ S16x4096x3072.size a) ∧
  (∀ (k0_h14 : k0_cond14 v1 k0_t4 = 1#1), ∀ (hinb : ∀ a, (k0_off234 v4249) a + S1x512x3072.size a ≤ S16x4096x3072.size a), (Rect.unit (s := S16x4096x3072) (k0_off234 v4249) S1x512x3072.size hinb).WholeWords (EltTy.packing .fp8e4m3))
theorem k0_off234_inb : ∀ (v1 : BitVec 32) (k0_t4 : Fin (k0_t4_loop v1).trips) (v4249 : BitVec 32) (k0_hw42 : k0_chk42 v1 k0_t4 v4249), ∀ (k0_h14 : k0_cond14 v1 k0_t4 = 1#1), ∀ a, (k0_off234 v4249) a + S1x512x3072.size a ≤ S16x4096x3072.size a := fun v1 k0_t4 v4249 k0_hw42 k0_h14 => k0_hw42.1 k0_h14
theorem k0_off234_wordsfp8e4m3 : ∀ (v1 : BitVec 32) (k0_t4 : Fin (k0_t4_loop v1).trips) (v4249 : BitVec 32) (k0_hw42 : k0_chk42 v1 k0_t4 v4249), ∀ (k0_h14 : k0_cond14 v1 k0_t4 = 1#1), (Rect.unit (s := S16x4096x3072) (k0_off234 v4249) S1x512x3072.size (k0_off234_inb v1 k0_t4 v4249 k0_hw42 k0_h14)).WholeWords (EltTy.packing .fp8e4m3) := fun v1 k0_t4 v4249 k0_hw42 k0_h14 => k0_hw42.2 k0_h14 (k0_off234_inb v1 k0_t4 v4249 k0_hw42 k0_h14)

def k0_off235 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v4006 : Index := Scalar.indexCast arg18
  ![v4006.toNat]
def k0_off236 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1449 : BitVec 32 := 2#32
  let v4008 : BitVec 32 := Scalar.remsi arg18 c2_i32_1449
  let c3_i32_1450 : BitVec 32 := 3#32
  ![v4008.toNat, 3]
def k0_off237 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1449 : BitVec 32 := 2#32
  let v4008 : BitVec 32 := Scalar.remsi arg18 c2_i32_1449
  let c3_i32 : BitVec 32 := 3#32
  let c0_i32_1451 : BitVec 32 := 0#32
  let c0_i32_1452 : BitVec 32 := 0#32
  ![v4008.toNat, 3, 0, 0]
def k0_off238 (v4007 : BitVec 32) : Fin 3 → Nat :=
  let c1536_i32 : BitVec 32 := 1536#32
  let c0_i32_1453 : BitVec 32 := 0#32
  ![v4007.toNat, 1536, 0]

def k0_chk43 (v4007 : BitVec 32) : Prop :=
  (∀ a, (k0_off238 v4007) a + S1x512x3072.size a ≤ S16x4096x3072.size a) ∧
  (∀ (hinb : ∀ a, (k0_off238 v4007) a + S1x512x3072.size a ≤ S16x4096x3072.size a), (Rect.unit (s := S16x4096x3072) (k0_off238 v4007) S1x512x3072.size hinb).WholeWords (EltTy.packing .fp8e4m3))
theorem k0_off238_inb : ∀ (v4007 : BitVec 32) (k0_hw43 : k0_chk43 v4007), ∀ a, (k0_off238 v4007) a + S1x512x3072.size a ≤ S16x4096x3072.size a := fun v4007 k0_hw43 => k0_hw43.1
theorem k0_off238_wordsfp8e4m3 : ∀ (v4007 : BitVec 32) (k0_hw43 : k0_chk43 v4007), (Rect.unit (s := S16x4096x3072) (k0_off238 v4007) S1x512x3072.size (k0_off238_inb v4007 k0_hw43)).WholeWords (EltTy.packing .fp8e4m3) := fun v4007 k0_hw43 => k0_hw43.2 (k0_off238_inb v4007 k0_hw43)

def k0_off239 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4017 : Index := Scalar.indexCast v17
  let c3_1457 : Index := 3#32
  let c0_1458 : Index := 0#32
  let c0_1459 : Index := 0#32
  ![v4017.toNat, 3, 0, 0]
def k0_off240 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4033 : Index := Scalar.indexCast v17
  let c3_1468 : Index := 3#32
  let c256_1469 : Index := 256#32
  let c0_1470 : Index := 0#32
  ![v4033.toNat, 3, 256, 0]
def k0_off241 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond15 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1476 : BitVec 32 := 2#32
  let v4047 : BitVec 32 := Scalar.addi arg18 c2_i32_1476
  let v4048 : BitVec 1 := Scalar.cmpi .slt v4047 v1
  let v4049 : BitVec 32 := Scalar.extui v4048
  let c0_i32_1477 : BitVec 32 := 0#32
  let v4050 : BitVec 1 := Scalar.cmpi .ne v4049 c0_i32_1477
  v4050

def k0_off242 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c3_i32_1589 : BitVec 32 := 3#32
  ![v4250.toNat, 3]
def k0_off243 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c3_i32_1588 : BitVec 32 := 3#32
  let c0_i32_1590 : BitVec 32 := 0#32
  let c0_i32_1591 : BitVec 32 := 0#32
  ![v4250.toNat, 3, 0, 0]
def k0_off244 (v4249 : BitVec 32) : Fin 3 → Nat :=
  let c1536_i32_1592 : BitVec 32 := 1536#32
  let c0_i32_1593 : BitVec 32 := 0#32
  ![v4249.toNat, 1536, 0]

def k0_chk44 (v1 : BitVec 32) (k0_t4 : Fin (k0_t4_loop v1).trips) (v4249 : BitVec 32) : Prop :=
  (∀ (k0_h15 : k0_cond15 v1 k0_t4 = 1#1), ∀ a, (k0_off244 v4249) a + S1x512x3072.size a ≤ S16x4096x3072.size a) ∧
  (∀ (k0_h15 : k0_cond15 v1 k0_t4 = 1#1), ∀ (hinb : ∀ a, (k0_off244 v4249) a + S1x512x3072.size a ≤ S16x4096x3072.size a), (Rect.unit (s := S16x4096x3072) (k0_off244 v4249) S1x512x3072.size hinb).WholeWords (EltTy.packing .fp8e4m3))
theorem k0_off244_inb : ∀ (v1 : BitVec 32) (k0_t4 : Fin (k0_t4_loop v1).trips) (v4249 : BitVec 32) (k0_hw44 : k0_chk44 v1 k0_t4 v4249), ∀ (k0_h15 : k0_cond15 v1 k0_t4 = 1#1), ∀ a, (k0_off244 v4249) a + S1x512x3072.size a ≤ S16x4096x3072.size a := fun v1 k0_t4 v4249 k0_hw44 k0_h15 => k0_hw44.1 k0_h15
theorem k0_off244_wordsfp8e4m3 : ∀ (v1 : BitVec 32) (k0_t4 : Fin (k0_t4_loop v1).trips) (v4249 : BitVec 32) (k0_hw44 : k0_chk44 v1 k0_t4 v4249), ∀ (k0_h15 : k0_cond15 v1 k0_t4 = 1#1), (Rect.unit (s := S16x4096x3072) (k0_off244 v4249) S1x512x3072.size (k0_off244_inb v1 k0_t4 v4249 k0_hw44 k0_h15)).WholeWords (EltTy.packing .fp8e4m3) := fun v1 k0_t4 v4249 k0_hw44 k0_h15 => k0_hw44.2 k0_h15 (k0_off244_inb v1 k0_t4 v4249 k0_hw44 k0_h15)

def k0_off245 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v4051 : Index := Scalar.indexCast arg18
  ![v4051.toNat]
def k0_off246 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1478 : BitVec 32 := 2#32
  let v4053 : BitVec 32 := Scalar.remsi arg18 c2_i32_1478
  let c4_i32_1480 : BitVec 32 := 4#32
  ![v4053.toNat, 4]
def k0_off247 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1478 : BitVec 32 := 2#32
  let v4053 : BitVec 32 := Scalar.remsi arg18 c2_i32_1478
  let c4_i32_1479 : BitVec 32 := 4#32
  let c0_i32_1481 : BitVec 32 := 0#32
  let c0_i32_1482 : BitVec 32 := 0#32
  ![v4053.toNat, 4, 0, 0]
def k0_off248 (v4052 : BitVec 32) : Fin 3 → Nat :=
  let c2048_i32 : BitVec 32 := 2048#32
  let c0_i32_1483 : BitVec 32 := 0#32
  ![v4052.toNat, 2048, 0]

def k0_chk45 (v4052 : BitVec 32) : Prop :=
  (∀ a, (k0_off248 v4052) a + S1x512x3072.size a ≤ S16x4096x3072.size a) ∧
  (∀ (hinb : ∀ a, (k0_off248 v4052) a + S1x512x3072.size a ≤ S16x4096x3072.size a), (Rect.unit (s := S16x4096x3072) (k0_off248 v4052) S1x512x3072.size hinb).WholeWords (EltTy.packing .fp8e4m3))
theorem k0_off248_inb : ∀ (v4052 : BitVec 32) (k0_hw45 : k0_chk45 v4052), ∀ a, (k0_off248 v4052) a + S1x512x3072.size a ≤ S16x4096x3072.size a := fun v4052 k0_hw45 => k0_hw45.1
theorem k0_off248_wordsfp8e4m3 : ∀ (v4052 : BitVec 32) (k0_hw45 : k0_chk45 v4052), (Rect.unit (s := S16x4096x3072) (k0_off248 v4052) S1x512x3072.size (k0_off248_inb v4052 k0_hw45)).WholeWords (EltTy.packing .fp8e4m3) := fun v4052 k0_hw45 => k0_hw45.2 (k0_off248_inb v4052 k0_hw45)

def k0_off249 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4062 : Index := Scalar.indexCast v17
  let c4_1487 : Index := 4#32
  let c0_1488 : Index := 0#32
  let c0_1489 : Index := 0#32
  ![v4062.toNat, 4, 0, 0]
def k0_off250 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4078 : Index := Scalar.indexCast v17
  let c4_1496 : Index := 4#32
  let c256_1497 : Index := 256#32
  let c0_1498 : Index := 0#32
  ![v4078.toNat, 4, 256, 0]
def k0_off251 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond16 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1502 : BitVec 32 := 2#32
  let v4092 : BitVec 32 := Scalar.addi arg18 c2_i32_1502
  let v4093 : BitVec 1 := Scalar.cmpi .slt v4092 v1
  let v4094 : BitVec 32 := Scalar.extui v4093
  let c0_i32_1503 : BitVec 32 := 0#32
  let v4095 : BitVec 1 := Scalar.cmpi .ne v4094 c0_i32_1503
  v4095

def k0_off252 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c4_i32_1589 : BitVec 32 := 4#32
  ![v4250.toNat, 4]
def k0_off253 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c4_i32_1588 : BitVec 32 := 4#32
  let c0_i32_1590 : BitVec 32 := 0#32
  let c0_i32_1591 : BitVec 32 := 0#32
  ![v4250.toNat, 4, 0, 0]
def k0_off254 (v4249 : BitVec 32) : Fin 3 → Nat :=
  let c2048_i32_1592 : BitVec 32 := 2048#32
  let c0_i32_1593 : BitVec 32 := 0#32
  ![v4249.toNat, 2048, 0]

def k0_chk46 (v1 : BitVec 32) (k0_t4 : Fin (k0_t4_loop v1).trips) (v4249 : BitVec 32) : Prop :=
  (∀ (k0_h16 : k0_cond16 v1 k0_t4 = 1#1), ∀ a, (k0_off254 v4249) a + S1x512x3072.size a ≤ S16x4096x3072.size a) ∧
  (∀ (k0_h16 : k0_cond16 v1 k0_t4 = 1#1), ∀ (hinb : ∀ a, (k0_off254 v4249) a + S1x512x3072.size a ≤ S16x4096x3072.size a), (Rect.unit (s := S16x4096x3072) (k0_off254 v4249) S1x512x3072.size hinb).WholeWords (EltTy.packing .fp8e4m3))
theorem k0_off254_inb : ∀ (v1 : BitVec 32) (k0_t4 : Fin (k0_t4_loop v1).trips) (v4249 : BitVec 32) (k0_hw46 : k0_chk46 v1 k0_t4 v4249), ∀ (k0_h16 : k0_cond16 v1 k0_t4 = 1#1), ∀ a, (k0_off254 v4249) a + S1x512x3072.size a ≤ S16x4096x3072.size a := fun v1 k0_t4 v4249 k0_hw46 k0_h16 => k0_hw46.1 k0_h16
theorem k0_off254_wordsfp8e4m3 : ∀ (v1 : BitVec 32) (k0_t4 : Fin (k0_t4_loop v1).trips) (v4249 : BitVec 32) (k0_hw46 : k0_chk46 v1 k0_t4 v4249), ∀ (k0_h16 : k0_cond16 v1 k0_t4 = 1#1), (Rect.unit (s := S16x4096x3072) (k0_off254 v4249) S1x512x3072.size (k0_off254_inb v1 k0_t4 v4249 k0_hw46 k0_h16)).WholeWords (EltTy.packing .fp8e4m3) := fun v1 k0_t4 v4249 k0_hw46 k0_h16 => k0_hw46.2 k0_h16 (k0_off254_inb v1 k0_t4 v4249 k0_hw46 k0_h16)

def k0_off255 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v4096 : Index := Scalar.indexCast arg18
  ![v4096.toNat]
def k0_off256 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1504 : BitVec 32 := 2#32
  let v4098 : BitVec 32 := Scalar.remsi arg18 c2_i32_1504
  let c5_i32_1505 : BitVec 32 := 5#32
  ![v4098.toNat, 5]
def k0_off257 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1504 : BitVec 32 := 2#32
  let v4098 : BitVec 32 := Scalar.remsi arg18 c2_i32_1504
  let c5_i32 : BitVec 32 := 5#32
  let c0_i32_1506 : BitVec 32 := 0#32
  let c0_i32_1507 : BitVec 32 := 0#32
  ![v4098.toNat, 5, 0, 0]
def k0_off258 (v4097 : BitVec 32) : Fin 3 → Nat :=
  let c2560_i32 : BitVec 32 := 2560#32
  let c0_i32_1508 : BitVec 32 := 0#32
  ![v4097.toNat, 2560, 0]

def k0_chk47 (v4097 : BitVec 32) : Prop :=
  (∀ a, (k0_off258 v4097) a + S1x512x3072.size a ≤ S16x4096x3072.size a) ∧
  (∀ (hinb : ∀ a, (k0_off258 v4097) a + S1x512x3072.size a ≤ S16x4096x3072.size a), (Rect.unit (s := S16x4096x3072) (k0_off258 v4097) S1x512x3072.size hinb).WholeWords (EltTy.packing .fp8e4m3))
theorem k0_off258_inb : ∀ (v4097 : BitVec 32) (k0_hw47 : k0_chk47 v4097), ∀ a, (k0_off258 v4097) a + S1x512x3072.size a ≤ S16x4096x3072.size a := fun v4097 k0_hw47 => k0_hw47.1
theorem k0_off258_wordsfp8e4m3 : ∀ (v4097 : BitVec 32) (k0_hw47 : k0_chk47 v4097), (Rect.unit (s := S16x4096x3072) (k0_off258 v4097) S1x512x3072.size (k0_off258_inb v4097 k0_hw47)).WholeWords (EltTy.packing .fp8e4m3) := fun v4097 k0_hw47 => k0_hw47.2 (k0_off258_inb v4097 k0_hw47)

def k0_off259 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4107 : Index := Scalar.indexCast v17
  let c5_1512 : Index := 5#32
  let c0_1513 : Index := 0#32
  let c0_1514 : Index := 0#32
  ![v4107.toNat, 5, 0, 0]
def k0_off260 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4123 : Index := Scalar.indexCast v17
  let c5_1521 : Index := 5#32
  let c256_1522 : Index := 256#32
  let c0_1523 : Index := 0#32
  ![v4123.toNat, 5, 256, 0]
def k0_off261 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond17 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1527 : BitVec 32 := 2#32
  let v4137 : BitVec 32 := Scalar.addi arg18 c2_i32_1527
  let v4138 : BitVec 1 := Scalar.cmpi .slt v4137 v1
  let v4139 : BitVec 32 := Scalar.extui v4138
  let c0_i32_1528 : BitVec 32 := 0#32
  let v4140 : BitVec 1 := Scalar.cmpi .ne v4139 c0_i32_1528
  v4140

def k0_off262 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c5_i32_1589 : BitVec 32 := 5#32
  ![v4250.toNat, 5]
def k0_off263 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c5_i32_1588 : BitVec 32 := 5#32
  let c0_i32_1590 : BitVec 32 := 0#32
  let c0_i32_1591 : BitVec 32 := 0#32
  ![v4250.toNat, 5, 0, 0]
def k0_off264 (v4249 : BitVec 32) : Fin 3 → Nat :=
  let c2560_i32_1592 : BitVec 32 := 2560#32
  let c0_i32_1593 : BitVec 32 := 0#32
  ![v4249.toNat, 2560, 0]

def k0_chk48 (v1 : BitVec 32) (k0_t4 : Fin (k0_t4_loop v1).trips) (v4249 : BitVec 32) : Prop :=
  (∀ (k0_h17 : k0_cond17 v1 k0_t4 = 1#1), ∀ a, (k0_off264 v4249) a + S1x512x3072.size a ≤ S16x4096x3072.size a) ∧
  (∀ (k0_h17 : k0_cond17 v1 k0_t4 = 1#1), ∀ (hinb : ∀ a, (k0_off264 v4249) a + S1x512x3072.size a ≤ S16x4096x3072.size a), (Rect.unit (s := S16x4096x3072) (k0_off264 v4249) S1x512x3072.size hinb).WholeWords (EltTy.packing .fp8e4m3))
theorem k0_off264_inb : ∀ (v1 : BitVec 32) (k0_t4 : Fin (k0_t4_loop v1).trips) (v4249 : BitVec 32) (k0_hw48 : k0_chk48 v1 k0_t4 v4249), ∀ (k0_h17 : k0_cond17 v1 k0_t4 = 1#1), ∀ a, (k0_off264 v4249) a + S1x512x3072.size a ≤ S16x4096x3072.size a := fun v1 k0_t4 v4249 k0_hw48 k0_h17 => k0_hw48.1 k0_h17
theorem k0_off264_wordsfp8e4m3 : ∀ (v1 : BitVec 32) (k0_t4 : Fin (k0_t4_loop v1).trips) (v4249 : BitVec 32) (k0_hw48 : k0_chk48 v1 k0_t4 v4249), ∀ (k0_h17 : k0_cond17 v1 k0_t4 = 1#1), (Rect.unit (s := S16x4096x3072) (k0_off264 v4249) S1x512x3072.size (k0_off264_inb v1 k0_t4 v4249 k0_hw48 k0_h17)).WholeWords (EltTy.packing .fp8e4m3) := fun v1 k0_t4 v4249 k0_hw48 k0_h17 => k0_hw48.2 k0_h17 (k0_off264_inb v1 k0_t4 v4249 k0_hw48 k0_h17)

def k0_off265 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v4141 : Index := Scalar.indexCast arg18
  ![v4141.toNat]
def k0_off266 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1529 : BitVec 32 := 2#32
  let v4143 : BitVec 32 := Scalar.remsi arg18 c2_i32_1529
  let c6_i32_1530 : BitVec 32 := 6#32
  ![v4143.toNat, 6]
def k0_off267 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1529 : BitVec 32 := 2#32
  let v4143 : BitVec 32 := Scalar.remsi arg18 c2_i32_1529
  let c6_i32 : BitVec 32 := 6#32
  let c0_i32_1531 : BitVec 32 := 0#32
  let c0_i32_1532 : BitVec 32 := 0#32
  ![v4143.toNat, 6, 0, 0]
def k0_off268 (v4142 : BitVec 32) : Fin 3 → Nat :=
  let c3072_i32 : BitVec 32 := 3072#32
  let c0_i32_1533 : BitVec 32 := 0#32
  ![v4142.toNat, 3072, 0]

def k0_chk49 (v4142 : BitVec 32) : Prop :=
  (∀ a, (k0_off268 v4142) a + S1x512x3072.size a ≤ S16x4096x3072.size a) ∧
  (∀ (hinb : ∀ a, (k0_off268 v4142) a + S1x512x3072.size a ≤ S16x4096x3072.size a), (Rect.unit (s := S16x4096x3072) (k0_off268 v4142) S1x512x3072.size hinb).WholeWords (EltTy.packing .fp8e4m3))
theorem k0_off268_inb : ∀ (v4142 : BitVec 32) (k0_hw49 : k0_chk49 v4142), ∀ a, (k0_off268 v4142) a + S1x512x3072.size a ≤ S16x4096x3072.size a := fun v4142 k0_hw49 => k0_hw49.1
theorem k0_off268_wordsfp8e4m3 : ∀ (v4142 : BitVec 32) (k0_hw49 : k0_chk49 v4142), (Rect.unit (s := S16x4096x3072) (k0_off268 v4142) S1x512x3072.size (k0_off268_inb v4142 k0_hw49)).WholeWords (EltTy.packing .fp8e4m3) := fun v4142 k0_hw49 => k0_hw49.2 (k0_off268_inb v4142 k0_hw49)

def k0_off269 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4152 : Index := Scalar.indexCast v17
  let c6_1537 : Index := 6#32
  let c0_1538 : Index := 0#32
  let c0_1539 : Index := 0#32
  ![v4152.toNat, 6, 0, 0]
def k0_off270 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4168 : Index := Scalar.indexCast v17
  let c6_1546 : Index := 6#32
  let c256_1547 : Index := 256#32
  let c0_1548 : Index := 0#32
  ![v4168.toNat, 6, 256, 0]
def k0_off271 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond18 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1552 : BitVec 32 := 2#32
  let v4182 : BitVec 32 := Scalar.addi arg18 c2_i32_1552
  let v4183 : BitVec 1 := Scalar.cmpi .slt v4182 v1
  let v4184 : BitVec 32 := Scalar.extui v4183
  let c0_i32_1553 : BitVec 32 := 0#32
  let v4185 : BitVec 1 := Scalar.cmpi .ne v4184 c0_i32_1553
  v4185

def k0_off272 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c6_i32_1589 : BitVec 32 := 6#32
  ![v4250.toNat, 6]
def k0_off273 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c6_i32_1588 : BitVec 32 := 6#32
  let c0_i32_1590 : BitVec 32 := 0#32
  let c0_i32_1591 : BitVec 32 := 0#32
  ![v4250.toNat, 6, 0, 0]
def k0_off274 (v4249 : BitVec 32) : Fin 3 → Nat :=
  let c3072_i32_1592 : BitVec 32 := 3072#32
  let c0_i32_1593 : BitVec 32 := 0#32
  ![v4249.toNat, 3072, 0]

def k0_chk50 (v1 : BitVec 32) (k0_t4 : Fin (k0_t4_loop v1).trips) (v4249 : BitVec 32) : Prop :=
  (∀ (k0_h18 : k0_cond18 v1 k0_t4 = 1#1), ∀ a, (k0_off274 v4249) a + S1x512x3072.size a ≤ S16x4096x3072.size a) ∧
  (∀ (k0_h18 : k0_cond18 v1 k0_t4 = 1#1), ∀ (hinb : ∀ a, (k0_off274 v4249) a + S1x512x3072.size a ≤ S16x4096x3072.size a), (Rect.unit (s := S16x4096x3072) (k0_off274 v4249) S1x512x3072.size hinb).WholeWords (EltTy.packing .fp8e4m3))
theorem k0_off274_inb : ∀ (v1 : BitVec 32) (k0_t4 : Fin (k0_t4_loop v1).trips) (v4249 : BitVec 32) (k0_hw50 : k0_chk50 v1 k0_t4 v4249), ∀ (k0_h18 : k0_cond18 v1 k0_t4 = 1#1), ∀ a, (k0_off274 v4249) a + S1x512x3072.size a ≤ S16x4096x3072.size a := fun v1 k0_t4 v4249 k0_hw50 k0_h18 => k0_hw50.1 k0_h18
theorem k0_off274_wordsfp8e4m3 : ∀ (v1 : BitVec 32) (k0_t4 : Fin (k0_t4_loop v1).trips) (v4249 : BitVec 32) (k0_hw50 : k0_chk50 v1 k0_t4 v4249), ∀ (k0_h18 : k0_cond18 v1 k0_t4 = 1#1), (Rect.unit (s := S16x4096x3072) (k0_off274 v4249) S1x512x3072.size (k0_off274_inb v1 k0_t4 v4249 k0_hw50 k0_h18)).WholeWords (EltTy.packing .fp8e4m3) := fun v1 k0_t4 v4249 k0_hw50 k0_h18 => k0_hw50.2 k0_h18 (k0_off274_inb v1 k0_t4 v4249 k0_hw50 k0_h18)

def k0_off275 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let v4186 : Index := Scalar.indexCast arg18
  ![v4186.toNat]
def k0_off276 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1554 : BitVec 32 := 2#32
  let v4188 : BitVec 32 := Scalar.remsi arg18 c2_i32_1554
  let c7_i32_1555 : BitVec 32 := 7#32
  ![v4188.toNat, 7]
def k0_off277 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1554 : BitVec 32 := 2#32
  let v4188 : BitVec 32 := Scalar.remsi arg18 c2_i32_1554
  let c7_i32 : BitVec 32 := 7#32
  let c0_i32_1556 : BitVec 32 := 0#32
  let c0_i32_1557 : BitVec 32 := 0#32
  ![v4188.toNat, 7, 0, 0]
def k0_off278 (v4187 : BitVec 32) : Fin 3 → Nat :=
  let c3584_i32 : BitVec 32 := 3584#32
  let c0_i32_1558 : BitVec 32 := 0#32
  ![v4187.toNat, 3584, 0]

def k0_chk51 (v4187 : BitVec 32) : Prop :=
  (∀ a, (k0_off278 v4187) a + S1x512x3072.size a ≤ S16x4096x3072.size a) ∧
  (∀ (hinb : ∀ a, (k0_off278 v4187) a + S1x512x3072.size a ≤ S16x4096x3072.size a), (Rect.unit (s := S16x4096x3072) (k0_off278 v4187) S1x512x3072.size hinb).WholeWords (EltTy.packing .fp8e4m3))
theorem k0_off278_inb : ∀ (v4187 : BitVec 32) (k0_hw51 : k0_chk51 v4187), ∀ a, (k0_off278 v4187) a + S1x512x3072.size a ≤ S16x4096x3072.size a := fun v4187 k0_hw51 => k0_hw51.1
theorem k0_off278_wordsfp8e4m3 : ∀ (v4187 : BitVec 32) (k0_hw51 : k0_chk51 v4187), (Rect.unit (s := S16x4096x3072) (k0_off278 v4187) S1x512x3072.size (k0_off278_inb v4187 k0_hw51)).WholeWords (EltTy.packing .fp8e4m3) := fun v4187 k0_hw51 => k0_hw51.2 (k0_off278_inb v4187 k0_hw51)

def k0_off279 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4197 : Index := Scalar.indexCast v17
  let c7_1562 : Index := 7#32
  let c0_1563 : Index := 0#32
  let c0_1564 : Index := 0#32
  ![v4197.toNat, 7, 0, 0]
def k0_off280 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32 : BitVec 32 := 2#32
  let v17 : BitVec 32 := Scalar.remsi arg18 c2_i32
  let v4213 : Index := Scalar.indexCast v17
  let c7_1571 : Index := 7#32
  let c256_1572 : Index := 256#32
  let c0_1573 : Index := 0#32
  ![v4213.toNat, 7, 256, 0]
def k0_off281 (v1 : BitVec 32) (k0_t4 : Fin (k0_t4_loop v1).trips) : Fin 1 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let v4248 : Index := Scalar.indexCast v4247
  ![v4248.toNat]
def k0_cond19 (v1 : BitVec 32) (k0_t4 : Fin (k0_t4_loop v1).trips) : BitVec 1 :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1577 : BitVec 32 := 2#32
  let v4227 : BitVec 32 := Scalar.addi arg18 c2_i32_1577
  let v4228 : BitVec 1 := Scalar.cmpi .slt v4227 v1
  let v4229 : BitVec 32 := Scalar.extui v4228
  let c0_i32_1578 : BitVec 32 := 0#32
  let v4230 : BitVec 1 := Scalar.cmpi .ne v4229 c0_i32_1578
  v4230

def k0_off282 (v1 : BitVec 32) (k0_t4 : Fin (k0_t4_loop v1).trips) : Fin 2 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c7_i32_1589 : BitVec 32 := 7#32
  ![v4250.toNat, 7]
def k0_off283 (v1 : BitVec 32) (k0_t4 : Fin (k0_t4_loop v1).trips) : Fin 4 → Nat :=
  let c0_i32_11 : BitVec 32 := 0#32
  let v9 : BitVec 32 := Scalar.subi v1 c0_i32_11
  let c1_i32_12 : BitVec 32 := 1#32
  let v11 : BitVec 32 := Scalar.divsi v9 c1_i32_12
  let v12 : BitVec 32 := Scalar.muli v11 c1_i32_12
  let v13 : BitVec 32 := Scalar.addi c0_i32_11 v12
  let c1_i32_14 : BitVec 32 := 1#32
  let arg18 : BitVec 32 := Scf.iv v13 c1_i32_14 k0_t4
  let c2_i32_1586 : BitVec 32 := 2#32
  let v4247 : BitVec 32 := Scalar.addi arg18 c2_i32_1586
  let c2_i32_1587 : BitVec 32 := 2#32
  let v4250 : BitVec 32 := Scalar.remsi v4247 c2_i32_1587
  let c7_i32_1588 : BitVec 32 := 7#32
  let c0_i32_1590 : BitVec 32 := 0#32
  let c0_i32_1591 : BitVec 32 := 0#32
  ![v4250.toNat, 7, 0, 0]
def k0_off284 (v4249 : BitVec 32) : Fin 3 → Nat :=
  let c3584_i32_1592 : BitVec 32 := 3584#32
  let c0_i32_1593 : BitVec 32 := 0#32
  ![v4249.toNat, 3584, 0]

def k0_chk52 (v1 : BitVec 32) (k0_t4 : Fin (k0_t4_loop v1).trips) (v4249 : BitVec 32) : Prop :=
  (∀ (k0_h19 : k0_cond19 v1 k0_t4 = 1#1), ∀ a, (k0_off284 v4249) a + S1x512x3072.size a ≤ S16x4096x3072.size a) ∧
  (∀ (k0_h19 : k0_cond19 v1 k0_t4 = 1#1), ∀ (hinb : ∀ a, (k0_off284 v4249) a + S1x512x3072.size a ≤ S16x4096x3072.size a), (Rect.unit (s := S16x4096x3072) (k0_off284 v4249) S1x512x3072.size hinb).WholeWords (EltTy.packing .fp8e4m3))
theorem k0_off284_inb : ∀ (v1 : BitVec 32) (k0_t4 : Fin (k0_t4_loop v1).trips) (v4249 : BitVec 32) (k0_hw52 : k0_chk52 v1 k0_t4 v4249), ∀ (k0_h19 : k0_cond19 v1 k0_t4 = 1#1), ∀ a, (k0_off284 v4249) a + S1x512x3072.size a ≤ S16x4096x3072.size a := fun v1 k0_t4 v4249 k0_hw52 k0_h19 => k0_hw52.1 k0_h19
theorem k0_off284_wordsfp8e4m3 : ∀ (v1 : BitVec 32) (k0_t4 : Fin (k0_t4_loop v1).trips) (v4249 : BitVec 32) (k0_hw52 : k0_chk52 v1 k0_t4 v4249), ∀ (k0_h19 : k0_cond19 v1 k0_t4 = 1#1), (Rect.unit (s := S16x4096x3072) (k0_off284 v4249) S1x512x3072.size (k0_off284_inb v1 k0_t4 v4249 k0_hw52 k0_h19)).WholeWords (EltTy.packing .fp8e4m3) := fun v1 k0_t4 v4249 k0_hw52 k0_h19 => k0_hw52.2 k0_h19 (k0_off284_inb v1 k0_t4 v4249 k0_hw52 k0_h19)

def k0_chk18_0 (v1 : BitVec 32) : Prop :=
  ((k0_t3_loop v1).OK) ∧
  (∀ k0_t3 : Fin (k0_t3_loop v1).trips, ∀ a, (k0_off54 v1 k0_t3) a + S1.size a ≤ S17.size a) ∧
  (∀ k0_t3 : Fin (k0_t3_loop v1).trips, ∀ a, (k0_off88 v1 k0_t3) a + S1.size a ≤ S17.size a) ∧
  (∀ k0_t3 : Fin (k0_t3_loop v1).trips, ∀ a, (k0_off89 v1 k0_t3) a + S1x1.size a ≤ S2x8.size a) ∧
  (∀ k0_t3 : Fin (k0_t3_loop v1).trips, ∀ a, (k0_off90 v1 k0_t3) a + S1x1x512x3072.size a ≤ S2x8x512x3072.size a) ∧
  (∀ k0_t3 : Fin (k0_t3_loop v1).trips, ∀ (hinb : ∀ a, (k0_off90 v1 k0_t3) a + S1x1x512x3072.size a ≤ S2x8x512x3072.size a), (Rect.unit (s := S2x8x512x3072) (k0_off90 v1 k0_t3) S1x1x512x3072.size hinb).WholeWords (EltTy.packing .fp8e4m3)) ∧
  (∀ k0_t3 : Fin (k0_t3_loop v1).trips, ∀ a, (k0_off92 v1 k0_t3) a + S1x1x256x3072.size a ≤ S2x8x512x3072.size a) ∧
  (∀ k0_t3 : Fin (k0_t3_loop v1).trips, ∀ a, (k0_off93 v1 k0_t3) a + S1x1x256x3072.size a ≤ S2x8x512x3072.size a) ∧
  (∀ k0_t3 : Fin (k0_t3_loop v1).trips, ∀ (k0_h4 : k0_cond4 v1 k0_t3 = 1#1), ∀ a, (k0_off94 v1 k0_t3) a + S1.size a ≤ S17.size a) ∧
  (∀ k0_t3 : Fin (k0_t3_loop v1).trips, ∀ (k0_h4 : k0_cond4 v1 k0_t3 = 1#1), ∀ a, (k0_off95 v1 k0_t3) a + S1x1.size a ≤ S2x8.size a) ∧
  (∀ k0_t3 : Fin (k0_t3_loop v1).trips, ∀ (k0_h4 : k0_cond4 v1 k0_t3 = 1#1), ∀ a, (k0_off96 v1 k0_t3) a + S1x1x512x3072.size a ≤ S2x8x512x3072.size a) ∧
  (∀ k0_t3 : Fin (k0_t3_loop v1).trips, ∀ (k0_h4 : k0_cond4 v1 k0_t3 = 1#1), ∀ (hinb : ∀ a, (k0_off96 v1 k0_t3) a + S1x1x512x3072.size a ≤ S2x8x512x3072.size a), (Rect.unit (s := S2x8x512x3072) (k0_off96 v1 k0_t3) S1x1x512x3072.size hinb).WholeWords (EltTy.packing .fp8e4m3)) ∧
  (∀ k0_t3 : Fin (k0_t3_loop v1).trips, ∀ a, (k0_off98 v1 k0_t3) a + S1.size a ≤ S17.size a) ∧
  (∀ k0_t3 : Fin (k0_t3_loop v1).trips, ∀ a, (k0_off99 v1 k0_t3) a + S1x1.size a ≤ S2x8.size a) ∧
  (∀ k0_t3 : Fin (k0_t3_loop v1).trips, ∀ a, (k0_off100 v1 k0_t3) a + S1x1x512x3072.size a ≤ S2x8x512x3072.size a) ∧
  (∀ k0_t3 : Fin (k0_t3_loop v1).trips, ∀ (hinb : ∀ a, (k0_off100 v1 k0_t3) a + S1x1x512x3072.size a ≤ S2x8x512x3072.size a), (Rect.unit (s := S2x8x512x3072) (k0_off100 v1 k0_t3) S1x1x512x3072.size hinb).WholeWords (EltTy.packing .fp8e4m3)) ∧
  (∀ k0_t3 : Fin (k0_t3_loop v1).trips, ∀ a, (k0_off102 v1 k0_t3) a + S1x1x256x3072.size a ≤ S2x8x512x3072.size a) ∧
  (∀ k0_t3 : Fin (k0_t3_loop v1).trips, ∀ a, (k0_off103 v1 k0_t3) a + S1x1x256x3072.size a ≤ S2x8x512x3072.size a) ∧
  (∀ k0_t3 : Fin (k0_t3_loop v1).trips, ∀ (k0_h5 : k0_cond5 v1 k0_t3 = 1#1), ∀ a, (k0_off104 v1 k0_t3) a + S1.size a ≤ S17.size a) ∧
  (∀ k0_t3 : Fin (k0_t3_loop v1).trips, ∀ (k0_h5 : k0_cond5 v1 k0_t3 = 1#1), ∀ a, (k0_off105 v1 k0_t3) a + S1x1.size a ≤ S2x8.size a) ∧
  (∀ k0_t3 : Fin (k0_t3_loop v1).trips, ∀ (k0_h5 : k0_cond5 v1 k0_t3 = 1#1), ∀ a, (k0_off106 v1 k0_t3) a + S1x1x512x3072.size a ≤ S2x8x512x3072.size a) ∧
  (∀ k0_t3 : Fin (k0_t3_loop v1).trips, ∀ (k0_h5 : k0_cond5 v1 k0_t3 = 1#1), ∀ (hinb : ∀ a, (k0_off106 v1 k0_t3) a + S1x1x512x3072.size a ≤ S2x8x512x3072.size a), (Rect.unit (s := S2x8x512x3072) (k0_off106 v1 k0_t3) S1x1x512x3072.size hinb).WholeWords (EltTy.packing .fp8e4m3)) ∧
  (∀ k0_t3 : Fin (k0_t3_loop v1).trips, ∀ a, (k0_off108 v1 k0_t3) a + S1.size a ≤ S17.size a) ∧
  (∀ k0_t3 : Fin (k0_t3_loop v1).trips, ∀ a, (k0_off109 v1 k0_t3) a + S1x1.size a ≤ S2x8.size a) ∧
  (∀ k0_t3 : Fin (k0_t3_loop v1).trips, ∀ a, (k0_off110 v1 k0_t3) a + S1x1x512x3072.size a ≤ S2x8x512x3072.size a) ∧
  (∀ k0_t3 : Fin (k0_t3_loop v1).trips, ∀ (hinb : ∀ a, (k0_off110 v1 k0_t3) a + S1x1x512x3072.size a ≤ S2x8x512x3072.size a), (Rect.unit (s := S2x8x512x3072) (k0_off110 v1 k0_t3) S1x1x512x3072.size hinb).WholeWords (EltTy.packing .fp8e4m3)) ∧
  (∀ k0_t3 : Fin (k0_t3_loop v1).trips, ∀ a, (k0_off112 v1 k0_t3) a + S1x1x256x3072.size a ≤ S2x8x512x3072.size a) ∧
  (∀ k0_t3 : Fin (k0_t3_loop v1).trips, ∀ a, (k0_off113 v1 k0_t3) a + S1x1x256x3072.size a ≤ S2x8x512x3072.size a) ∧
  (∀ k0_t3 : Fin (k0_t3_loop v1).trips, ∀ (k0_h6 : k0_cond6 v1 k0_t3 = 1#1), ∀ a, (k0_off114 v1 k0_t3) a + S1.size a ≤ S17.size a) ∧
  (∀ k0_t3 : Fin (k0_t3_loop v1).trips, ∀ (k0_h6 : k0_cond6 v1 k0_t3 = 1#1), ∀ a, (k0_off115 v1 k0_t3) a + S1x1.size a ≤ S2x8.size a) ∧
  (∀ k0_t3 : Fin (k0_t3_loop v1).trips, ∀ (k0_h6 : k0_cond6 v1 k0_t3 = 1#1), ∀ a, (k0_off116 v1 k0_t3) a + S1x1x512x3072.size a ≤ S2x8x512x3072.size a) ∧
  (∀ k0_t3 : Fin (k0_t3_loop v1).trips, ∀ (k0_h6 : k0_cond6 v1 k0_t3 = 1#1), ∀ (hinb : ∀ a, (k0_off116 v1 k0_t3) a + S1x1x512x3072.size a ≤ S2x8x512x3072.size a), (Rect.unit (s := S2x8x512x3072) (k0_off116 v1 k0_t3) S1x1x512x3072.size hinb).WholeWords (EltTy.packing .fp8e4m3))
def k0_chk18_1 (v1 : BitVec 32) : Prop :=
  (∀ k0_t3 : Fin (k0_t3_loop v1).trips, ∀ a, (k0_off118 v1 k0_t3) a + S1.size a ≤ S17.size a) ∧
  (∀ k0_t3 : Fin (k0_t3_loop v1).trips, ∀ a, (k0_off119 v1 k0_t3) a + S1x1.size a ≤ S2x8.size a) ∧
  (∀ k0_t3 : Fin (k0_t3_loop v1).trips, ∀ a, (k0_off120 v1 k0_t3) a + S1x1x512x3072.size a ≤ S2x8x512x3072.size a) ∧
  (∀ k0_t3 : Fin (k0_t3_loop v1).trips, ∀ (hinb : ∀ a, (k0_off120 v1 k0_t3) a + S1x1x512x3072.size a ≤ S2x8x512x3072.size a), (Rect.unit (s := S2x8x512x3072) (k0_off120 v1 k0_t3) S1x1x512x3072.size hinb).WholeWords (EltTy.packing .fp8e4m3)) ∧
  (∀ k0_t3 : Fin (k0_t3_loop v1).trips, ∀ a, (k0_off122 v1 k0_t3) a + S1x1x256x3072.size a ≤ S2x8x512x3072.size a) ∧
  (∀ k0_t3 : Fin (k0_t3_loop v1).trips, ∀ a, (k0_off123 v1 k0_t3) a + S1x1x256x3072.size a ≤ S2x8x512x3072.size a) ∧
  (∀ k0_t3 : Fin (k0_t3_loop v1).trips, ∀ (k0_h7 : k0_cond7 v1 k0_t3 = 1#1), ∀ a, (k0_off124 v1 k0_t3) a + S1.size a ≤ S17.size a) ∧
  (∀ k0_t3 : Fin (k0_t3_loop v1).trips, ∀ (k0_h7 : k0_cond7 v1 k0_t3 = 1#1), ∀ a, (k0_off125 v1 k0_t3) a + S1x1.size a ≤ S2x8.size a) ∧
  (∀ k0_t3 : Fin (k0_t3_loop v1).trips, ∀ (k0_h7 : k0_cond7 v1 k0_t3 = 1#1), ∀ a, (k0_off126 v1 k0_t3) a + S1x1x512x3072.size a ≤ S2x8x512x3072.size a) ∧
  (∀ k0_t3 : Fin (k0_t3_loop v1).trips, ∀ (k0_h7 : k0_cond7 v1 k0_t3 = 1#1), ∀ (hinb : ∀ a, (k0_off126 v1 k0_t3) a + S1x1x512x3072.size a ≤ S2x8x512x3072.size a), (Rect.unit (s := S2x8x512x3072) (k0_off126 v1 k0_t3) S1x1x512x3072.size hinb).WholeWords (EltTy.packing .fp8e4m3)) ∧
  (∀ k0_t3 : Fin (k0_t3_loop v1).trips, ∀ a, (k0_off128 v1 k0_t3) a + S1.size a ≤ S17.size a) ∧
  (∀ k0_t3 : Fin (k0_t3_loop v1).trips, ∀ a, (k0_off129 v1 k0_t3) a + S1x1.size a ≤ S2x8.size a) ∧
  (∀ k0_t3 : Fin (k0_t3_loop v1).trips, ∀ a, (k0_off130 v1 k0_t3) a + S1x1x512x3072.size a ≤ S2x8x512x3072.size a) ∧
  (∀ k0_t3 : Fin (k0_t3_loop v1).trips, ∀ (hinb : ∀ a, (k0_off130 v1 k0_t3) a + S1x1x512x3072.size a ≤ S2x8x512x3072.size a), (Rect.unit (s := S2x8x512x3072) (k0_off130 v1 k0_t3) S1x1x512x3072.size hinb).WholeWords (EltTy.packing .fp8e4m3)) ∧
  (∀ k0_t3 : Fin (k0_t3_loop v1).trips, ∀ a, (k0_off132 v1 k0_t3) a + S1x1x256x3072.size a ≤ S2x8x512x3072.size a) ∧
  (∀ k0_t3 : Fin (k0_t3_loop v1).trips, ∀ a, (k0_off133 v1 k0_t3) a + S1x1x256x3072.size a ≤ S2x8x512x3072.size a) ∧
  (∀ k0_t3 : Fin (k0_t3_loop v1).trips, ∀ (k0_h8 : k0_cond8 v1 k0_t3 = 1#1), ∀ a, (k0_off134 v1 k0_t3) a + S1.size a ≤ S17.size a) ∧
  (∀ k0_t3 : Fin (k0_t3_loop v1).trips, ∀ (k0_h8 : k0_cond8 v1 k0_t3 = 1#1), ∀ a, (k0_off135 v1 k0_t3) a + S1x1.size a ≤ S2x8.size a) ∧
  (∀ k0_t3 : Fin (k0_t3_loop v1).trips, ∀ (k0_h8 : k0_cond8 v1 k0_t3 = 1#1), ∀ a, (k0_off136 v1 k0_t3) a + S1x1x512x3072.size a ≤ S2x8x512x3072.size a) ∧
  (∀ k0_t3 : Fin (k0_t3_loop v1).trips, ∀ (k0_h8 : k0_cond8 v1 k0_t3 = 1#1), ∀ (hinb : ∀ a, (k0_off136 v1 k0_t3) a + S1x1x512x3072.size a ≤ S2x8x512x3072.size a), (Rect.unit (s := S2x8x512x3072) (k0_off136 v1 k0_t3) S1x1x512x3072.size hinb).WholeWords (EltTy.packing .fp8e4m3)) ∧
  (∀ k0_t3 : Fin (k0_t3_loop v1).trips, ∀ a, (k0_off138 v1 k0_t3) a + S1.size a ≤ S17.size a) ∧
  (∀ k0_t3 : Fin (k0_t3_loop v1).trips, ∀ a, (k0_off139 v1 k0_t3) a + S1x1.size a ≤ S2x8.size a) ∧
  (∀ k0_t3 : Fin (k0_t3_loop v1).trips, ∀ a, (k0_off140 v1 k0_t3) a + S1x1x512x3072.size a ≤ S2x8x512x3072.size a) ∧
  (∀ k0_t3 : Fin (k0_t3_loop v1).trips, ∀ (hinb : ∀ a, (k0_off140 v1 k0_t3) a + S1x1x512x3072.size a ≤ S2x8x512x3072.size a), (Rect.unit (s := S2x8x512x3072) (k0_off140 v1 k0_t3) S1x1x512x3072.size hinb).WholeWords (EltTy.packing .fp8e4m3)) ∧
  (∀ k0_t3 : Fin (k0_t3_loop v1).trips, ∀ a, (k0_off142 v1 k0_t3) a + S1x1x256x3072.size a ≤ S2x8x512x3072.size a) ∧
  (∀ k0_t3 : Fin (k0_t3_loop v1).trips, ∀ a, (k0_off143 v1 k0_t3) a + S1x1x256x3072.size a ≤ S2x8x512x3072.size a) ∧
  (∀ k0_t3 : Fin (k0_t3_loop v1).trips, ∀ (k0_h9 : k0_cond9 v1 k0_t3 = 1#1), ∀ a, (k0_off144 v1 k0_t3) a + S1.size a ≤ S17.size a) ∧
  (∀ k0_t3 : Fin (k0_t3_loop v1).trips, ∀ (k0_h9 : k0_cond9 v1 k0_t3 = 1#1), ∀ a, (k0_off145 v1 k0_t3) a + S1x1.size a ≤ S2x8.size a) ∧
  (∀ k0_t3 : Fin (k0_t3_loop v1).trips, ∀ (k0_h9 : k0_cond9 v1 k0_t3 = 1#1), ∀ a, (k0_off146 v1 k0_t3) a + S1x1x512x3072.size a ≤ S2x8x512x3072.size a) ∧
  (∀ k0_t3 : Fin (k0_t3_loop v1).trips, ∀ (k0_h9 : k0_cond9 v1 k0_t3 = 1#1), ∀ (hinb : ∀ a, (k0_off146 v1 k0_t3) a + S1x1x512x3072.size a ≤ S2x8x512x3072.size a), (Rect.unit (s := S2x8x512x3072) (k0_off146 v1 k0_t3) S1x1x512x3072.size hinb).WholeWords (EltTy.packing .fp8e4m3)) ∧
  (∀ k0_t3 : Fin (k0_t3_loop v1).trips, ∀ a, (k0_off148 v1 k0_t3) a + S1.size a ≤ S17.size a) ∧
  (∀ k0_t3 : Fin (k0_t3_loop v1).trips, ∀ a, (k0_off149 v1 k0_t3) a + S1x1.size a ≤ S2x8.size a)
def k0_chk18_2 (v1 : BitVec 32) : Prop :=
  (∀ k0_t3 : Fin (k0_t3_loop v1).trips, ∀ a, (k0_off150 v1 k0_t3) a + S1x1x512x3072.size a ≤ S2x8x512x3072.size a) ∧
  (∀ k0_t3 : Fin (k0_t3_loop v1).trips, ∀ (hinb : ∀ a, (k0_off150 v1 k0_t3) a + S1x1x512x3072.size a ≤ S2x8x512x3072.size a), (Rect.unit (s := S2x8x512x3072) (k0_off150 v1 k0_t3) S1x1x512x3072.size hinb).WholeWords (EltTy.packing .fp8e4m3)) ∧
  (∀ k0_t3 : Fin (k0_t3_loop v1).trips, ∀ a, (k0_off152 v1 k0_t3) a + S1x1x256x3072.size a ≤ S2x8x512x3072.size a) ∧
  (∀ k0_t3 : Fin (k0_t3_loop v1).trips, ∀ a, (k0_off153 v1 k0_t3) a + S1x1x256x3072.size a ≤ S2x8x512x3072.size a) ∧
  (∀ k0_t3 : Fin (k0_t3_loop v1).trips, ∀ (k0_h10 : k0_cond10 v1 k0_t3 = 1#1), ∀ a, (k0_off154 v1 k0_t3) a + S1.size a ≤ S17.size a) ∧
  (∀ k0_t3 : Fin (k0_t3_loop v1).trips, ∀ (k0_h10 : k0_cond10 v1 k0_t3 = 1#1), ∀ a, (k0_off155 v1 k0_t3) a + S1x1.size a ≤ S2x8.size a) ∧
  (∀ k0_t3 : Fin (k0_t3_loop v1).trips, ∀ (k0_h10 : k0_cond10 v1 k0_t3 = 1#1), ∀ a, (k0_off156 v1 k0_t3) a + S1x1x512x3072.size a ≤ S2x8x512x3072.size a) ∧
  (∀ k0_t3 : Fin (k0_t3_loop v1).trips, ∀ (k0_h10 : k0_cond10 v1 k0_t3 = 1#1), ∀ (hinb : ∀ a, (k0_off156 v1 k0_t3) a + S1x1x512x3072.size a ≤ S2x8x512x3072.size a), (Rect.unit (s := S2x8x512x3072) (k0_off156 v1 k0_t3) S1x1x512x3072.size hinb).WholeWords (EltTy.packing .fp8e4m3)) ∧
  (∀ k0_t3 : Fin (k0_t3_loop v1).trips, ∀ a, (k0_off158 v1 k0_t3) a + S1.size a ≤ S17.size a) ∧
  (∀ k0_t3 : Fin (k0_t3_loop v1).trips, ∀ a, (k0_off159 v1 k0_t3) a + S1x1.size a ≤ S2x8.size a) ∧
  (∀ k0_t3 : Fin (k0_t3_loop v1).trips, ∀ a, (k0_off160 v1 k0_t3) a + S1x1x512x3072.size a ≤ S2x8x512x3072.size a) ∧
  (∀ k0_t3 : Fin (k0_t3_loop v1).trips, ∀ (hinb : ∀ a, (k0_off160 v1 k0_t3) a + S1x1x512x3072.size a ≤ S2x8x512x3072.size a), (Rect.unit (s := S2x8x512x3072) (k0_off160 v1 k0_t3) S1x1x512x3072.size hinb).WholeWords (EltTy.packing .fp8e4m3)) ∧
  (∀ k0_t3 : Fin (k0_t3_loop v1).trips, ∀ a, (k0_off162 v1 k0_t3) a + S1x1x256x3072.size a ≤ S2x8x512x3072.size a) ∧
  (∀ k0_t3 : Fin (k0_t3_loop v1).trips, ∀ a, (k0_off163 v1 k0_t3) a + S1x1x256x3072.size a ≤ S2x8x512x3072.size a) ∧
  (∀ k0_t3 : Fin (k0_t3_loop v1).trips, ∀ (k0_h11 : k0_cond11 v1 k0_t3 = 1#1), ∀ a, (k0_off164 v1 k0_t3) a + S1.size a ≤ S17.size a) ∧
  (∀ k0_t3 : Fin (k0_t3_loop v1).trips, ∀ (k0_h11 : k0_cond11 v1 k0_t3 = 1#1), ∀ a, (k0_off165 v1 k0_t3) a + S1x1.size a ≤ S2x8.size a) ∧
  (∀ k0_t3 : Fin (k0_t3_loop v1).trips, ∀ (k0_h11 : k0_cond11 v1 k0_t3 = 1#1), ∀ a, (k0_off166 v1 k0_t3) a + S1x1x512x3072.size a ≤ S2x8x512x3072.size a) ∧
  (∀ k0_t3 : Fin (k0_t3_loop v1).trips, ∀ (k0_h11 : k0_cond11 v1 k0_t3 = 1#1), ∀ (hinb : ∀ a, (k0_off166 v1 k0_t3) a + S1x1x512x3072.size a ≤ S2x8x512x3072.size a), (Rect.unit (s := S2x8x512x3072) (k0_off166 v1 k0_t3) S1x1x512x3072.size hinb).WholeWords (EltTy.packing .fp8e4m3)) ∧
  ((k0_t4_loop v1).OK) ∧
  (∀ k0_t4 : Fin (k0_t4_loop v1).trips, ∀ a, (k0_off171 v1 k0_t4) a + S1.size a ≤ S17.size a) ∧
  (∀ k0_t4 : Fin (k0_t4_loop v1).trips, ∀ a, (k0_off205 v1 k0_t4) a + S1.size a ≤ S17.size a) ∧
  (∀ k0_t4 : Fin (k0_t4_loop v1).trips, ∀ a, (k0_off206 v1 k0_t4) a + S1x1.size a ≤ S2x8.size a) ∧
  (∀ k0_t4 : Fin (k0_t4_loop v1).trips, ∀ a, (k0_off207 v1 k0_t4) a + S1x1x512x3072.size a ≤ S2x8x512x3072.size a) ∧
  (∀ k0_t4 : Fin (k0_t4_loop v1).trips, ∀ (hinb : ∀ a, (k0_off207 v1 k0_t4) a + S1x1x512x3072.size a ≤ S2x8x512x3072.size a), (Rect.unit (s := S2x8x512x3072) (k0_off207 v1 k0_t4) S1x1x512x3072.size hinb).WholeWords (EltTy.packing .fp8e4m3)) ∧
  (∀ k0_t4 : Fin (k0_t4_loop v1).trips, ∀ a, (k0_off209 v1 k0_t4) a + S1x1x256x3072.size a ≤ S2x8x512x3072.size a) ∧
  (∀ k0_t4 : Fin (k0_t4_loop v1).trips, ∀ a, (k0_off210 v1 k0_t4) a + S1x1x256x3072.size a ≤ S2x8x512x3072.size a) ∧
  (∀ k0_t4 : Fin (k0_t4_loop v1).trips, ∀ (k0_h12 : k0_cond12 v1 k0_t4 = 1#1), ∀ a, (k0_off211 v1 k0_t4) a + S1.size a ≤ S17.size a) ∧
  (∀ k0_t4 : Fin (k0_t4_loop v1).trips, ∀ (k0_h12 : k0_cond12 v1 k0_t4 = 1#1), ∀ a, (k0_off212 v1 k0_t4) a + S1x1.size a ≤ S2x8.size a) ∧
  (∀ k0_t4 : Fin (k0_t4_loop v1).trips, ∀ (k0_h12 : k0_cond12 v1 k0_t4 = 1#1), ∀ a, (k0_off213 v1 k0_t4) a + S1x1x512x3072.size a ≤ S2x8x512x3072.size a) ∧
  (∀ k0_t4 : Fin (k0_t4_loop v1).trips, ∀ (k0_h12 : k0_cond12 v1 k0_t4 = 1#1), ∀ (hinb : ∀ a, (k0_off213 v1 k0_t4) a + S1x1x512x3072.size a ≤ S2x8x512x3072.size a), (Rect.unit (s := S2x8x512x3072) (k0_off213 v1 k0_t4) S1x1x512x3072.size hinb).WholeWords (EltTy.packing .fp8e4m3)) ∧
  (∀ k0_t4 : Fin (k0_t4_loop v1).trips, ∀ a, (k0_off215 v1 k0_t4) a + S1.size a ≤ S17.size a) ∧
  (∀ k0_t4 : Fin (k0_t4_loop v1).trips, ∀ a, (k0_off216 v1 k0_t4) a + S1x1.size a ≤ S2x8.size a)
def k0_chk18_3 (v1 : BitVec 32) : Prop :=
  (∀ k0_t4 : Fin (k0_t4_loop v1).trips, ∀ a, (k0_off217 v1 k0_t4) a + S1x1x512x3072.size a ≤ S2x8x512x3072.size a) ∧
  (∀ k0_t4 : Fin (k0_t4_loop v1).trips, ∀ (hinb : ∀ a, (k0_off217 v1 k0_t4) a + S1x1x512x3072.size a ≤ S2x8x512x3072.size a), (Rect.unit (s := S2x8x512x3072) (k0_off217 v1 k0_t4) S1x1x512x3072.size hinb).WholeWords (EltTy.packing .fp8e4m3)) ∧
  (∀ k0_t4 : Fin (k0_t4_loop v1).trips, ∀ a, (k0_off219 v1 k0_t4) a + S1x1x256x3072.size a ≤ S2x8x512x3072.size a) ∧
  (∀ k0_t4 : Fin (k0_t4_loop v1).trips, ∀ a, (k0_off220 v1 k0_t4) a + S1x1x256x3072.size a ≤ S2x8x512x3072.size a) ∧
  (∀ k0_t4 : Fin (k0_t4_loop v1).trips, ∀ (k0_h13 : k0_cond13 v1 k0_t4 = 1#1), ∀ a, (k0_off221 v1 k0_t4) a + S1.size a ≤ S17.size a) ∧
  (∀ k0_t4 : Fin (k0_t4_loop v1).trips, ∀ (k0_h13 : k0_cond13 v1 k0_t4 = 1#1), ∀ a, (k0_off222 v1 k0_t4) a + S1x1.size a ≤ S2x8.size a) ∧
  (∀ k0_t4 : Fin (k0_t4_loop v1).trips, ∀ (k0_h13 : k0_cond13 v1 k0_t4 = 1#1), ∀ a, (k0_off223 v1 k0_t4) a + S1x1x512x3072.size a ≤ S2x8x512x3072.size a) ∧
  (∀ k0_t4 : Fin (k0_t4_loop v1).trips, ∀ (k0_h13 : k0_cond13 v1 k0_t4 = 1#1), ∀ (hinb : ∀ a, (k0_off223 v1 k0_t4) a + S1x1x512x3072.size a ≤ S2x8x512x3072.size a), (Rect.unit (s := S2x8x512x3072) (k0_off223 v1 k0_t4) S1x1x512x3072.size hinb).WholeWords (EltTy.packing .fp8e4m3)) ∧
  (∀ k0_t4 : Fin (k0_t4_loop v1).trips, ∀ a, (k0_off225 v1 k0_t4) a + S1.size a ≤ S17.size a) ∧
  (∀ k0_t4 : Fin (k0_t4_loop v1).trips, ∀ a, (k0_off226 v1 k0_t4) a + S1x1.size a ≤ S2x8.size a) ∧
  (∀ k0_t4 : Fin (k0_t4_loop v1).trips, ∀ a, (k0_off227 v1 k0_t4) a + S1x1x512x3072.size a ≤ S2x8x512x3072.size a) ∧
  (∀ k0_t4 : Fin (k0_t4_loop v1).trips, ∀ (hinb : ∀ a, (k0_off227 v1 k0_t4) a + S1x1x512x3072.size a ≤ S2x8x512x3072.size a), (Rect.unit (s := S2x8x512x3072) (k0_off227 v1 k0_t4) S1x1x512x3072.size hinb).WholeWords (EltTy.packing .fp8e4m3)) ∧
  (∀ k0_t4 : Fin (k0_t4_loop v1).trips, ∀ a, (k0_off229 v1 k0_t4) a + S1x1x256x3072.size a ≤ S2x8x512x3072.size a) ∧
  (∀ k0_t4 : Fin (k0_t4_loop v1).trips, ∀ a, (k0_off230 v1 k0_t4) a + S1x1x256x3072.size a ≤ S2x8x512x3072.size a) ∧
  (∀ k0_t4 : Fin (k0_t4_loop v1).trips, ∀ (k0_h14 : k0_cond14 v1 k0_t4 = 1#1), ∀ a, (k0_off231 v1 k0_t4) a + S1.size a ≤ S17.size a) ∧
  (∀ k0_t4 : Fin (k0_t4_loop v1).trips, ∀ (k0_h14 : k0_cond14 v1 k0_t4 = 1#1), ∀ a, (k0_off232 v1 k0_t4) a + S1x1.size a ≤ S2x8.size a) ∧
  (∀ k0_t4 : Fin (k0_t4_loop v1).trips, ∀ (k0_h14 : k0_cond14 v1 k0_t4 = 1#1), ∀ a, (k0_off233 v1 k0_t4) a + S1x1x512x3072.size a ≤ S2x8x512x3072.size a) ∧
  (∀ k0_t4 : Fin (k0_t4_loop v1).trips, ∀ (k0_h14 : k0_cond14 v1 k0_t4 = 1#1), ∀ (hinb : ∀ a, (k0_off233 v1 k0_t4) a + S1x1x512x3072.size a ≤ S2x8x512x3072.size a), (Rect.unit (s := S2x8x512x3072) (k0_off233 v1 k0_t4) S1x1x512x3072.size hinb).WholeWords (EltTy.packing .fp8e4m3)) ∧
  (∀ k0_t4 : Fin (k0_t4_loop v1).trips, ∀ a, (k0_off235 v1 k0_t4) a + S1.size a ≤ S17.size a) ∧
  (∀ k0_t4 : Fin (k0_t4_loop v1).trips, ∀ a, (k0_off236 v1 k0_t4) a + S1x1.size a ≤ S2x8.size a) ∧
  (∀ k0_t4 : Fin (k0_t4_loop v1).trips, ∀ a, (k0_off237 v1 k0_t4) a + S1x1x512x3072.size a ≤ S2x8x512x3072.size a) ∧
  (∀ k0_t4 : Fin (k0_t4_loop v1).trips, ∀ (hinb : ∀ a, (k0_off237 v1 k0_t4) a + S1x1x512x3072.size a ≤ S2x8x512x3072.size a), (Rect.unit (s := S2x8x512x3072) (k0_off237 v1 k0_t4) S1x1x512x3072.size hinb).WholeWords (EltTy.packing .fp8e4m3)) ∧
  (∀ k0_t4 : Fin (k0_t4_loop v1).trips, ∀ a, (k0_off239 v1 k0_t4) a + S1x1x256x3072.size a ≤ S2x8x512x3072.size a) ∧
  (∀ k0_t4 : Fin (k0_t4_loop v1).trips, ∀ a, (k0_off240 v1 k0_t4) a + S1x1x256x3072.size a ≤ S2x8x512x3072.size a) ∧
  (∀ k0_t4 : Fin (k0_t4_loop v1).trips, ∀ (k0_h15 : k0_cond15 v1 k0_t4 = 1#1), ∀ a, (k0_off241 v1 k0_t4) a + S1.size a ≤ S17.size a) ∧
  (∀ k0_t4 : Fin (k0_t4_loop v1).trips, ∀ (k0_h15 : k0_cond15 v1 k0_t4 = 1#1), ∀ a, (k0_off242 v1 k0_t4) a + S1x1.size a ≤ S2x8.size a) ∧
  (∀ k0_t4 : Fin (k0_t4_loop v1).trips, ∀ (k0_h15 : k0_cond15 v1 k0_t4 = 1#1), ∀ a, (k0_off243 v1 k0_t4) a + S1x1x512x3072.size a ≤ S2x8x512x3072.size a) ∧
  (∀ k0_t4 : Fin (k0_t4_loop v1).trips, ∀ (k0_h15 : k0_cond15 v1 k0_t4 = 1#1), ∀ (hinb : ∀ a, (k0_off243 v1 k0_t4) a + S1x1x512x3072.size a ≤ S2x8x512x3072.size a), (Rect.unit (s := S2x8x512x3072) (k0_off243 v1 k0_t4) S1x1x512x3072.size hinb).WholeWords (EltTy.packing .fp8e4m3)) ∧
  (∀ k0_t4 : Fin (k0_t4_loop v1).trips, ∀ a, (k0_off245 v1 k0_t4) a + S1.size a ≤ S17.size a) ∧
  (∀ k0_t4 : Fin (k0_t4_loop v1).trips, ∀ a, (k0_off246 v1 k0_t4) a + S1x1.size a ≤ S2x8.size a) ∧
  (∀ k0_t4 : Fin (k0_t4_loop v1).trips, ∀ a, (k0_off247 v1 k0_t4) a + S1x1x512x3072.size a ≤ S2x8x512x3072.size a) ∧
  (∀ k0_t4 : Fin (k0_t4_loop v1).trips, ∀ (hinb : ∀ a, (k0_off247 v1 k0_t4) a + S1x1x512x3072.size a ≤ S2x8x512x3072.size a), (Rect.unit (s := S2x8x512x3072) (k0_off247 v1 k0_t4) S1x1x512x3072.size hinb).WholeWords (EltTy.packing .fp8e4m3))
def k0_chk18_4 (v1 : BitVec 32) : Prop :=
  (∀ k0_t4 : Fin (k0_t4_loop v1).trips, ∀ a, (k0_off249 v1 k0_t4) a + S1x1x256x3072.size a ≤ S2x8x512x3072.size a) ∧
  (∀ k0_t4 : Fin (k0_t4_loop v1).trips, ∀ a, (k0_off250 v1 k0_t4) a + S1x1x256x3072.size a ≤ S2x8x512x3072.size a) ∧
  (∀ k0_t4 : Fin (k0_t4_loop v1).trips, ∀ (k0_h16 : k0_cond16 v1 k0_t4 = 1#1), ∀ a, (k0_off251 v1 k0_t4) a + S1.size a ≤ S17.size a) ∧
  (∀ k0_t4 : Fin (k0_t4_loop v1).trips, ∀ (k0_h16 : k0_cond16 v1 k0_t4 = 1#1), ∀ a, (k0_off252 v1 k0_t4) a + S1x1.size a ≤ S2x8.size a) ∧
  (∀ k0_t4 : Fin (k0_t4_loop v1).trips, ∀ (k0_h16 : k0_cond16 v1 k0_t4 = 1#1), ∀ a, (k0_off253 v1 k0_t4) a + S1x1x512x3072.size a ≤ S2x8x512x3072.size a) ∧
  (∀ k0_t4 : Fin (k0_t4_loop v1).trips, ∀ (k0_h16 : k0_cond16 v1 k0_t4 = 1#1), ∀ (hinb : ∀ a, (k0_off253 v1 k0_t4) a + S1x1x512x3072.size a ≤ S2x8x512x3072.size a), (Rect.unit (s := S2x8x512x3072) (k0_off253 v1 k0_t4) S1x1x512x3072.size hinb).WholeWords (EltTy.packing .fp8e4m3)) ∧
  (∀ k0_t4 : Fin (k0_t4_loop v1).trips, ∀ a, (k0_off255 v1 k0_t4) a + S1.size a ≤ S17.size a) ∧
  (∀ k0_t4 : Fin (k0_t4_loop v1).trips, ∀ a, (k0_off256 v1 k0_t4) a + S1x1.size a ≤ S2x8.size a) ∧
  (∀ k0_t4 : Fin (k0_t4_loop v1).trips, ∀ a, (k0_off257 v1 k0_t4) a + S1x1x512x3072.size a ≤ S2x8x512x3072.size a) ∧
  (∀ k0_t4 : Fin (k0_t4_loop v1).trips, ∀ (hinb : ∀ a, (k0_off257 v1 k0_t4) a + S1x1x512x3072.size a ≤ S2x8x512x3072.size a), (Rect.unit (s := S2x8x512x3072) (k0_off257 v1 k0_t4) S1x1x512x3072.size hinb).WholeWords (EltTy.packing .fp8e4m3)) ∧
  (∀ k0_t4 : Fin (k0_t4_loop v1).trips, ∀ a, (k0_off259 v1 k0_t4) a + S1x1x256x3072.size a ≤ S2x8x512x3072.size a) ∧
  (∀ k0_t4 : Fin (k0_t4_loop v1).trips, ∀ a, (k0_off260 v1 k0_t4) a + S1x1x256x3072.size a ≤ S2x8x512x3072.size a) ∧
  (∀ k0_t4 : Fin (k0_t4_loop v1).trips, ∀ (k0_h17 : k0_cond17 v1 k0_t4 = 1#1), ∀ a, (k0_off261 v1 k0_t4) a + S1.size a ≤ S17.size a) ∧
  (∀ k0_t4 : Fin (k0_t4_loop v1).trips, ∀ (k0_h17 : k0_cond17 v1 k0_t4 = 1#1), ∀ a, (k0_off262 v1 k0_t4) a + S1x1.size a ≤ S2x8.size a) ∧
  (∀ k0_t4 : Fin (k0_t4_loop v1).trips, ∀ (k0_h17 : k0_cond17 v1 k0_t4 = 1#1), ∀ a, (k0_off263 v1 k0_t4) a + S1x1x512x3072.size a ≤ S2x8x512x3072.size a) ∧
  (∀ k0_t4 : Fin (k0_t4_loop v1).trips, ∀ (k0_h17 : k0_cond17 v1 k0_t4 = 1#1), ∀ (hinb : ∀ a, (k0_off263 v1 k0_t4) a + S1x1x512x3072.size a ≤ S2x8x512x3072.size a), (Rect.unit (s := S2x8x512x3072) (k0_off263 v1 k0_t4) S1x1x512x3072.size hinb).WholeWords (EltTy.packing .fp8e4m3)) ∧
  (∀ k0_t4 : Fin (k0_t4_loop v1).trips, ∀ a, (k0_off265 v1 k0_t4) a + S1.size a ≤ S17.size a) ∧
  (∀ k0_t4 : Fin (k0_t4_loop v1).trips, ∀ a, (k0_off266 v1 k0_t4) a + S1x1.size a ≤ S2x8.size a) ∧
  (∀ k0_t4 : Fin (k0_t4_loop v1).trips, ∀ a, (k0_off267 v1 k0_t4) a + S1x1x512x3072.size a ≤ S2x8x512x3072.size a) ∧
  (∀ k0_t4 : Fin (k0_t4_loop v1).trips, ∀ (hinb : ∀ a, (k0_off267 v1 k0_t4) a + S1x1x512x3072.size a ≤ S2x8x512x3072.size a), (Rect.unit (s := S2x8x512x3072) (k0_off267 v1 k0_t4) S1x1x512x3072.size hinb).WholeWords (EltTy.packing .fp8e4m3)) ∧
  (∀ k0_t4 : Fin (k0_t4_loop v1).trips, ∀ a, (k0_off269 v1 k0_t4) a + S1x1x256x3072.size a ≤ S2x8x512x3072.size a) ∧
  (∀ k0_t4 : Fin (k0_t4_loop v1).trips, ∀ a, (k0_off270 v1 k0_t4) a + S1x1x256x3072.size a ≤ S2x8x512x3072.size a) ∧
  (∀ k0_t4 : Fin (k0_t4_loop v1).trips, ∀ (k0_h18 : k0_cond18 v1 k0_t4 = 1#1), ∀ a, (k0_off271 v1 k0_t4) a + S1.size a ≤ S17.size a) ∧
  (∀ k0_t4 : Fin (k0_t4_loop v1).trips, ∀ (k0_h18 : k0_cond18 v1 k0_t4 = 1#1), ∀ a, (k0_off272 v1 k0_t4) a + S1x1.size a ≤ S2x8.size a) ∧
  (∀ k0_t4 : Fin (k0_t4_loop v1).trips, ∀ (k0_h18 : k0_cond18 v1 k0_t4 = 1#1), ∀ a, (k0_off273 v1 k0_t4) a + S1x1x512x3072.size a ≤ S2x8x512x3072.size a) ∧
  (∀ k0_t4 : Fin (k0_t4_loop v1).trips, ∀ (k0_h18 : k0_cond18 v1 k0_t4 = 1#1), ∀ (hinb : ∀ a, (k0_off273 v1 k0_t4) a + S1x1x512x3072.size a ≤ S2x8x512x3072.size a), (Rect.unit (s := S2x8x512x3072) (k0_off273 v1 k0_t4) S1x1x512x3072.size hinb).WholeWords (EltTy.packing .fp8e4m3)) ∧
  (∀ k0_t4 : Fin (k0_t4_loop v1).trips, ∀ a, (k0_off275 v1 k0_t4) a + S1.size a ≤ S17.size a) ∧
  (∀ k0_t4 : Fin (k0_t4_loop v1).trips, ∀ a, (k0_off276 v1 k0_t4) a + S1x1.size a ≤ S2x8.size a) ∧
  (∀ k0_t4 : Fin (k0_t4_loop v1).trips, ∀ a, (k0_off277 v1 k0_t4) a + S1x1x512x3072.size a ≤ S2x8x512x3072.size a) ∧
  (∀ k0_t4 : Fin (k0_t4_loop v1).trips, ∀ (hinb : ∀ a, (k0_off277 v1 k0_t4) a + S1x1x512x3072.size a ≤ S2x8x512x3072.size a), (Rect.unit (s := S2x8x512x3072) (k0_off277 v1 k0_t4) S1x1x512x3072.size hinb).WholeWords (EltTy.packing .fp8e4m3)) ∧
  (∀ k0_t4 : Fin (k0_t4_loop v1).trips, ∀ a, (k0_off279 v1 k0_t4) a + S1x1x256x3072.size a ≤ S2x8x512x3072.size a) ∧
  (∀ k0_t4 : Fin (k0_t4_loop v1).trips, ∀ a, (k0_off280 v1 k0_t4) a + S1x1x256x3072.size a ≤ S2x8x512x3072.size a)
def k0_chk18_5 (v1 : BitVec 32) : Prop :=
  (∀ k0_t4 : Fin (k0_t4_loop v1).trips, ∀ (k0_h19 : k0_cond19 v1 k0_t4 = 1#1), ∀ a, (k0_off281 v1 k0_t4) a + S1.size a ≤ S17.size a) ∧
  (∀ k0_t4 : Fin (k0_t4_loop v1).trips, ∀ (k0_h19 : k0_cond19 v1 k0_t4 = 1#1), ∀ a, (k0_off282 v1 k0_t4) a + S1x1.size a ≤ S2x8.size a) ∧
  (∀ k0_t4 : Fin (k0_t4_loop v1).trips, ∀ (k0_h19 : k0_cond19 v1 k0_t4 = 1#1), ∀ a, (k0_off283 v1 k0_t4) a + S1x1x512x3072.size a ≤ S2x8x512x3072.size a) ∧
  (∀ k0_t4 : Fin (k0_t4_loop v1).trips, ∀ (k0_h19 : k0_cond19 v1 k0_t4 = 1#1), ∀ (hinb : ∀ a, (k0_off283 v1 k0_t4) a + S1x1x512x3072.size a ≤ S2x8x512x3072.size a), (Rect.unit (s := S2x8x512x3072) (k0_off283 v1 k0_t4) S1x1x512x3072.size hinb).WholeWords (EltTy.packing .fp8e4m3))
def k0_chk18 (v1 : BitVec 32) : Prop :=
  k0_chk18_0 v1 ∧
  k0_chk18_1 v1 ∧
  k0_chk18_2 v1 ∧
  k0_chk18_3 v1 ∧
  k0_chk18_4 v1 ∧
  k0_chk18_5 v1
theorem k0_t3_ok : ∀ (v1 : BitVec 32) (k0_hw18 : k0_chk18 v1), (k0_t3_loop v1).OK := fun v1 k0_hw18 => k0_hw18.1.1
theorem k0_off54_inb : ∀ (v1 : BitVec 32) (k0_hw18 : k0_chk18 v1) (k0_t3 : Fin (k0_t3_loop v1).trips), ∀ a, (k0_off54 v1 k0_t3) a + S1.size a ≤ S17.size a := fun v1 k0_hw18 k0_t3 => k0_hw18.1.2.1 k0_t3
theorem k0_off88_inb : ∀ (v1 : BitVec 32) (k0_hw18 : k0_chk18 v1) (k0_t3 : Fin (k0_t3_loop v1).trips), ∀ a, (k0_off88 v1 k0_t3) a + S1.size a ≤ S17.size a := fun v1 k0_hw18 k0_t3 => k0_hw18.1.2.2.1 k0_t3
theorem k0_off89_inb : ∀ (v1 : BitVec 32) (k0_hw18 : k0_chk18 v1) (k0_t3 : Fin (k0_t3_loop v1).trips), ∀ a, (k0_off89 v1 k0_t3) a + S1x1.size a ≤ S2x8.size a := fun v1 k0_hw18 k0_t3 => k0_hw18.1.2.2.2.1 k0_t3
theorem k0_off90_inb : ∀ (v1 : BitVec 32) (k0_hw18 : k0_chk18 v1) (k0_t3 : Fin (k0_t3_loop v1).trips), ∀ a, (k0_off90 v1 k0_t3) a + S1x1x512x3072.size a ≤ S2x8x512x3072.size a := fun v1 k0_hw18 k0_t3 => k0_hw18.1.2.2.2.2.1 k0_t3
theorem k0_off90_wordsfp8e4m3 : ∀ (v1 : BitVec 32) (k0_hw18 : k0_chk18 v1) (k0_t3 : Fin (k0_t3_loop v1).trips), (Rect.unit (s := S2x8x512x3072) (k0_off90 v1 k0_t3) S1x1x512x3072.size (k0_off90_inb v1 k0_hw18 k0_t3)).WholeWords (EltTy.packing .fp8e4m3) := fun v1 k0_hw18 k0_t3 => k0_hw18.1.2.2.2.2.2.1 k0_t3 (k0_off90_inb v1 k0_hw18 k0_t3)
theorem k0_off92_inb : ∀ (v1 : BitVec 32) (k0_hw18 : k0_chk18 v1) (k0_t3 : Fin (k0_t3_loop v1).trips), ∀ a, (k0_off92 v1 k0_t3) a + S1x1x256x3072.size a ≤ S2x8x512x3072.size a := fun v1 k0_hw18 k0_t3 => k0_hw18.1.2.2.2.2.2.2.1 k0_t3
theorem k0_off93_inb : ∀ (v1 : BitVec 32) (k0_hw18 : k0_chk18 v1) (k0_t3 : Fin (k0_t3_loop v1).trips), ∀ a, (k0_off93 v1 k0_t3) a + S1x1x256x3072.size a ≤ S2x8x512x3072.size a := fun v1 k0_hw18 k0_t3 => k0_hw18.1.2.2.2.2.2.2.2.1 k0_t3
theorem k0_off94_inb : ∀ (v1 : BitVec 32) (k0_hw18 : k0_chk18 v1) (k0_t3 : Fin (k0_t3_loop v1).trips), ∀ (k0_h4 : k0_cond4 v1 k0_t3 = 1#1), ∀ a, (k0_off94 v1 k0_t3) a + S1.size a ≤ S17.size a := fun v1 k0_hw18 k0_t3 k0_h4 => k0_hw18.1.2.2.2.2.2.2.2.2.1 k0_t3 k0_h4
theorem k0_off95_inb : ∀ (v1 : BitVec 32) (k0_hw18 : k0_chk18 v1) (k0_t3 : Fin (k0_t3_loop v1).trips), ∀ (k0_h4 : k0_cond4 v1 k0_t3 = 1#1), ∀ a, (k0_off95 v1 k0_t3) a + S1x1.size a ≤ S2x8.size a := fun v1 k0_hw18 k0_t3 k0_h4 => k0_hw18.1.2.2.2.2.2.2.2.2.2.1 k0_t3 k0_h4
theorem k0_off96_inb : ∀ (v1 : BitVec 32) (k0_hw18 : k0_chk18 v1) (k0_t3 : Fin (k0_t3_loop v1).trips), ∀ (k0_h4 : k0_cond4 v1 k0_t3 = 1#1), ∀ a, (k0_off96 v1 k0_t3) a + S1x1x512x3072.size a ≤ S2x8x512x3072.size a := fun v1 k0_hw18 k0_t3 k0_h4 => k0_hw18.1.2.2.2.2.2.2.2.2.2.2.1 k0_t3 k0_h4
theorem k0_off96_wordsfp8e4m3 : ∀ (v1 : BitVec 32) (k0_hw18 : k0_chk18 v1) (k0_t3 : Fin (k0_t3_loop v1).trips), ∀ (k0_h4 : k0_cond4 v1 k0_t3 = 1#1), (Rect.unit (s := S2x8x512x3072) (k0_off96 v1 k0_t3) S1x1x512x3072.size (k0_off96_inb v1 k0_hw18 k0_t3 k0_h4)).WholeWords (EltTy.packing .fp8e4m3) := fun v1 k0_hw18 k0_t3 k0_h4 => k0_hw18.1.2.2.2.2.2.2.2.2.2.2.2.1 k0_t3 k0_h4 (k0_off96_inb v1 k0_hw18 k0_t3 k0_h4)
theorem k0_off98_inb : ∀ (v1 : BitVec 32) (k0_hw18 : k0_chk18 v1) (k0_t3 : Fin (k0_t3_loop v1).trips), ∀ a, (k0_off98 v1 k0_t3) a + S1.size a ≤ S17.size a := fun v1 k0_hw18 k0_t3 => k0_hw18.1.2.2.2.2.2.2.2.2.2.2.2.2.1 k0_t3
theorem k0_off99_inb : ∀ (v1 : BitVec 32) (k0_hw18 : k0_chk18 v1) (k0_t3 : Fin (k0_t3_loop v1).trips), ∀ a, (k0_off99 v1 k0_t3) a + S1x1.size a ≤ S2x8.size a := fun v1 k0_hw18 k0_t3 => k0_hw18.1.2.2.2.2.2.2.2.2.2.2.2.2.2.1 k0_t3
theorem k0_off100_inb : ∀ (v1 : BitVec 32) (k0_hw18 : k0_chk18 v1) (k0_t3 : Fin (k0_t3_loop v1).trips), ∀ a, (k0_off100 v1 k0_t3) a + S1x1x512x3072.size a ≤ S2x8x512x3072.size a := fun v1 k0_hw18 k0_t3 => k0_hw18.1.2.2.2.2.2.2.2.2.2.2.2.2.2.2.1 k0_t3
theorem k0_off100_wordsfp8e4m3 : ∀ (v1 : BitVec 32) (k0_hw18 : k0_chk18 v1) (k0_t3 : Fin (k0_t3_loop v1).trips), (Rect.unit (s := S2x8x512x3072) (k0_off100 v1 k0_t3) S1x1x512x3072.size (k0_off100_inb v1 k0_hw18 k0_t3)).WholeWords (EltTy.packing .fp8e4m3) := fun v1 k0_hw18 k0_t3 => k0_hw18.1.2.2.2.2.2.2.2.2.2.2.2.2.2.2.2.1 k0_t3 (k0_off100_inb v1 k0_hw18 k0_t3)
theorem k0_off102_inb : ∀ (v1 : BitVec 32) (k0_hw18 : k0_chk18 v1) (k0_t3 : Fin (k0_t3_loop v1).trips), ∀ a, (k0_off102 v1 k0_t3) a + S1x1x256x3072.size a ≤ S2x8x512x3072.size a := fun v1 k0_hw18 k0_t3 => k0_hw18.1.2.2.2.2.2.2.2.2.2.2.2.2.2.2.2.2.1 k0_t3
theorem k0_off103_inb : ∀ (v1 : BitVec 32) (k0_hw18 : k0_chk18 v1) (k0_t3 : Fin (k0_t3_loop v1).trips), ∀ a, (k0_off103 v1 k0_t3) a + S1x1x256x3072.size a ≤ S2x8x512x3072.size a := fun v1 k0_hw18 k0_t3 => k0_hw18.1.2.2.2.2.2.2.2.2.2.2.2.2.2.2.2.2.2.1 k0_t3
theorem k0_off104_inb : ∀ (v1 : BitVec 32) (k0_hw18 : k0_chk18 v1) (k0_t3 : Fin (k0_t3_loop v1).trips), ∀ (k0_h5 : k0_cond5 v1 k0_t3 = 1#1), ∀ a, (k0_off104 v1 k0_t3) a + S1.size a ≤ S17.size a := fun v1 k0_hw18 k0_t3 k0_h5 => k0_hw18.1.2.2.2.2.2.2.2.2.2.2.2.2.2.2.2.2.2.2.1 k0_t3 k0_h5
theorem k0_off105_inb : ∀ (v1 : BitVec 32) (k0_hw18 : k0_chk18 v1) (k0_t3 : Fin (k0_t3_loop v1).trips), ∀ (k0_h5 : k0_cond5 v1 k0_t3 = 1#1), ∀ a, (k0_off105 v1 k0_t3) a + S1x1.size a ≤ S2x8.size a := fun v1 k0_hw18 k0_t3 k0_h5 => k0_hw18.1.2.2.2.2.2.2.2.2.2.2.2.2.2.2.2.2.2.2.2.1 k0_t3 k0_h5
theorem k0_off106_inb : ∀ (v1 : BitVec 32) (k0_hw18 : k0_chk18 v1) (k0_t3 : Fin (k0_t3_loop v1).trips), ∀ (k0_h5 : k0_cond5 v1 k0_t3 = 1#1), ∀ a, (k0_off106 v1 k0_t3) a + S1x1x512x3072.size a ≤ S2x8x512x3072.size a := fun v1 k0_hw18 k0_t3 k0_h5 => k0_hw18.1.2.2.2.2.2.2.2.2.2.2.2.2.2.2.2.2.2.2.2.2.1 k0_t3 k0_h5
theorem k0_off106_wordsfp8e4m3 : ∀ (v1 : BitVec 32) (k0_hw18 : k0_chk18 v1) (k0_t3 : Fin (k0_t3_loop v1).trips), ∀ (k0_h5 : k0_cond5 v1 k0_t3 = 1#1), (Rect.unit (s := S2x8x512x3072) (k0_off106 v1 k0_t3) S1x1x512x3072.size (k0_off106_inb v1 k0_hw18 k0_t3 k0_h5)).WholeWords (EltTy.packing .fp8e4m3) := fun v1 k0_hw18 k0_t3 k0_h5 => k0_hw18.1.2.2.2.2.2.2.2.2.2.2.2.2.2.2.2.2.2.2.2.2.2.1 k0_t3 k0_h5 (k0_off106_inb v1 k0_hw18 k0_t3 k0_h5)
theorem k0_off108_inb : ∀ (v1 : BitVec 32) (k0_hw18 : k0_chk18 v1) (k0_t3 : Fin (k0_t3_loop v1).trips), ∀ a, (k0_off108 v1 k0_t3) a + S1.size a ≤ S17.size a := fun v1 k0_hw18 k0_t3 => k0_hw18.1.2.2.2.2.2.2.2.2.2.2.2.2.2.2.2.2.2.2.2.2.2.2.1 k0_t3
theorem k0_off109_inb : ∀ (v1 : BitVec 32) (k0_hw18 : k0_chk18 v1) (k0_t3 : Fin (k0_t3_loop v1).trips), ∀ a, (k0_off109 v1 k0_t3) a + S1x1.size a ≤ S2x8.size a := fun v1 k0_hw18 k0_t3 => k0_hw18.1.2.2.2.2.2.2.2.2.2.2.2.2.2.2.2.2.2.2.2.2.2.2.2.1 k0_t3
theorem k0_off110_inb : ∀ (v1 : BitVec 32) (k0_hw18 : k0_chk18 v1) (k0_t3 : Fin (k0_t3_loop v1).trips), ∀ a, (k0_off110 v1 k0_t3) a + S1x1x512x3072.size a ≤ S2x8x512x3072.size a := fun v1 k0_hw18 k0_t3 => k0_hw18.1.2.2.2.2.2.2.2.2.2.2.2.2.2.2.2.2.2.2.2.2.2.2.2.2.1 k0_t3
theorem k0_off110_wordsfp8e4m3 : ∀ (v1 : BitVec 32) (k0_hw18 : k0_chk18 v1) (k0_t3 : Fin (k0_t3_loop v1).trips), (Rect.unit (s := S2x8x512x3072) (k0_off110 v1 k0_t3) S1x1x512x3072.size (k0_off110_inb v1 k0_hw18 k0_t3)).WholeWords (EltTy.packing .fp8e4m3) := fun v1 k0_hw18 k0_t3 => k0_hw18.1.2.2.2.2.2.2.2.2.2.2.2.2.2.2.2.2.2.2.2.2.2.2.2.2.2.1 k0_t3 (k0_off110_inb v1 k0_hw18 k0_t3)
theorem k0_off112_inb : ∀ (v1 : BitVec 32) (k0_hw18 : k0_chk18 v1) (k0_t3 : Fin (k0_t3_loop v1).trips), ∀ a, (k0_off112 v1 k0_t3) a + S1x1x256x3072.size a ≤ S2x8x512x3072.size a := fun v1 k0_hw18 k0_t3 => k0_hw18.1.2.2.2.2.2.2.2.2.2.2.2.2.2.2.2.2.2.2.2.2.2.2.2.2.2.2.1 k0_t3
theorem k0_off113_inb : ∀ (v1 : BitVec 32) (k0_hw18 : k0_chk18 v1) (k0_t3 : Fin (k0_t3_loop v1).trips), ∀ a, (k0_off113 v1 k0_t3) a + S1x1x256x3072.size a ≤ S2x8x512x3072.size a := fun v1 k0_hw18 k0_t3 => k0_hw18.1.2.2.2.2.2.2.2.2.2.2.2.2.2.2.2.2.2.2.2.2.2.2.2.2.2.2.2.1 k0_t3
theorem k0_off114_inb : ∀ (v1 : BitVec 32) (k0_hw18 : k0_chk18 v1) (k0_t3 : Fin (k0_t3_loop v1).trips), ∀ (k0_h6 : k0_cond6 v1 k0_t3 = 1#1), ∀ a, (k0_off114 v1 k0_t3) a + S1.size a ≤ S17.size a := fun v1 k0_hw18 k0_t3 k0_h6 => k0_hw18.1.2.2.2.2.2.2.2.2.2.2.2.2.2.2.2.2.2.2.2.2.2.2.2.2.2.2.2.2.1 k0_t3 k0_h6
theorem k0_off115_inb : ∀ (v1 : BitVec 32) (k0_hw18 : k0_chk18 v1) (k0_t3 : Fin (k0_t3_loop v1).trips), ∀ (k0_h6 : k0_cond6 v1 k0_t3 = 1#1), ∀ a, (k0_off115 v1 k0_t3) a + S1x1.size a ≤ S2x8.size a := fun v1 k0_hw18 k0_t3 k0_h6 => k0_hw18.1.2.2.2.2.2.2.2.2.2.2.2.2.2.2.2.2.2.2.2.2.2.2.2.2.2.2.2.2.2.1 k0_t3 k0_h6
theorem k0_off116_inb : ∀ (v1 : BitVec 32) (k0_hw18 : k0_chk18 v1) (k0_t3 : Fin (k0_t3_loop v1).trips), ∀ (k0_h6 : k0_cond6 v1 k0_t3 = 1#1), ∀ a, (k0_off116 v1 k0_t3) a + S1x1x512x3072.size a ≤ S2x8x512x3072.size a := fun v1 k0_hw18 k0_t3 k0_h6 => k0_hw18.1.2.2.2.2.2.2.2.2.2.2.2.2.2.2.2.2.2.2.2.2.2.2.2.2.2.2.2.2.2.2.1 k0_t3 k0_h6
theorem k0_off116_wordsfp8e4m3 : ∀ (v1 : BitVec 32) (k0_hw18 : k0_chk18 v1) (k0_t3 : Fin (k0_t3_loop v1).trips), ∀ (k0_h6 : k0_cond6 v1 k0_t3 = 1#1), (Rect.unit (s := S2x8x512x3072) (k0_off116 v1 k0_t3) S1x1x512x3072.size (k0_off116_inb v1 k0_hw18 k0_t3 k0_h6)).WholeWords (EltTy.packing .fp8e4m3) := fun v1 k0_hw18 k0_t3 k0_h6 => k0_hw18.1.2.2.2.2.2.2.2.2.2.2.2.2.2.2.2.2.2.2.2.2.2.2.2.2.2.2.2.2.2.2.2 k0_t3 k0_h6 (k0_off116_inb v1 k0_hw18 k0_t3 k0_h6)
theorem k0_off118_inb : ∀ (v1 : BitVec 32) (k0_hw18 : k0_chk18 v1) (k0_t3 : Fin (k0_t3_loop v1).trips), ∀ a, (k0_off118 v1 k0_t3) a + S1.size a ≤ S17.size a := fun v1 k0_hw18 k0_t3 => k0_hw18.2.1.1 k0_t3
theorem k0_off119_inb : ∀ (v1 : BitVec 32) (k0_hw18 : k0_chk18 v1) (k0_t3 : Fin (k0_t3_loop v1).trips), ∀ a, (k0_off119 v1 k0_t3) a + S1x1.size a ≤ S2x8.size a := fun v1 k0_hw18 k0_t3 => k0_hw18.2.1.2.1 k0_t3
theorem k0_off120_inb : ∀ (v1 : BitVec 32) (k0_hw18 : k0_chk18 v1) (k0_t3 : Fin (k0_t3_loop v1).trips), ∀ a, (k0_off120 v1 k0_t3) a + S1x1x512x3072.size a ≤ S2x8x512x3072.size a := fun v1 k0_hw18 k0_t3 => k0_hw18.2.1.2.2.1 k0_t3
theorem k0_off120_wordsfp8e4m3 : ∀ (v1 : BitVec 32) (k0_hw18 : k0_chk18 v1) (k0_t3 : Fin (k0_t3_loop v1).trips), (Rect.unit (s := S2x8x512x3072) (k0_off120 v1 k0_t3) S1x1x512x3072.size (k0_off120_inb v1 k0_hw18 k0_t3)).WholeWords (EltTy.packing .fp8e4m3) := fun v1 k0_hw18 k0_t3 => k0_hw18.2.1.2.2.2.1 k0_t3 (k0_off120_inb v1 k0_hw18 k0_t3)
theorem k0_off122_inb : ∀ (v1 : BitVec 32) (k0_hw18 : k0_chk18 v1) (k0_t3 : Fin (k0_t3_loop v1).trips), ∀ a, (k0_off122 v1 k0_t3) a + S1x1x256x3072.size a ≤ S2x8x512x3072.size a := fun v1 k0_hw18 k0_t3 => k0_hw18.2.1.2.2.2.2.1 k0_t3
theorem k0_off123_inb : ∀ (v1 : BitVec 32) (k0_hw18 : k0_chk18 v1) (k0_t3 : Fin (k0_t3_loop v1).trips), ∀ a, (k0_off123 v1 k0_t3) a + S1x1x256x3072.size a ≤ S2x8x512x3072.size a := fun v1 k0_hw18 k0_t3 => k0_hw18.2.1.2.2.2.2.2.1 k0_t3
theorem k0_off124_inb : ∀ (v1 : BitVec 32) (k0_hw18 : k0_chk18 v1) (k0_t3 : Fin (k0_t3_loop v1).trips), ∀ (k0_h7 : k0_cond7 v1 k0_t3 = 1#1), ∀ a, (k0_off124 v1 k0_t3) a + S1.size a ≤ S17.size a := fun v1 k0_hw18 k0_t3 k0_h7 => k0_hw18.2.1.2.2.2.2.2.2.1 k0_t3 k0_h7
theorem k0_off125_inb : ∀ (v1 : BitVec 32) (k0_hw18 : k0_chk18 v1) (k0_t3 : Fin (k0_t3_loop v1).trips), ∀ (k0_h7 : k0_cond7 v1 k0_t3 = 1#1), ∀ a, (k0_off125 v1 k0_t3) a + S1x1.size a ≤ S2x8.size a := fun v1 k0_hw18 k0_t3 k0_h7 => k0_hw18.2.1.2.2.2.2.2.2.2.1 k0_t3 k0_h7
theorem k0_off126_inb : ∀ (v1 : BitVec 32) (k0_hw18 : k0_chk18 v1) (k0_t3 : Fin (k0_t3_loop v1).trips), ∀ (k0_h7 : k0_cond7 v1 k0_t3 = 1#1), ∀ a, (k0_off126 v1 k0_t3) a + S1x1x512x3072.size a ≤ S2x8x512x3072.size a := fun v1 k0_hw18 k0_t3 k0_h7 => k0_hw18.2.1.2.2.2.2.2.2.2.2.1 k0_t3 k0_h7
theorem k0_off126_wordsfp8e4m3 : ∀ (v1 : BitVec 32) (k0_hw18 : k0_chk18 v1) (k0_t3 : Fin (k0_t3_loop v1).trips), ∀ (k0_h7 : k0_cond7 v1 k0_t3 = 1#1), (Rect.unit (s := S2x8x512x3072) (k0_off126 v1 k0_t3) S1x1x512x3072.size (k0_off126_inb v1 k0_hw18 k0_t3 k0_h7)).WholeWords (EltTy.packing .fp8e4m3) := fun v1 k0_hw18 k0_t3 k0_h7 => k0_hw18.2.1.2.2.2.2.2.2.2.2.2.1 k0_t3 k0_h7 (k0_off126_inb v1 k0_hw18 k0_t3 k0_h7)
theorem k0_off128_inb : ∀ (v1 : BitVec 32) (k0_hw18 : k0_chk18 v1) (k0_t3 : Fin (k0_t3_loop v1).trips), ∀ a, (k0_off128 v1 k0_t3) a + S1.size a ≤ S17.size a := fun v1 k0_hw18 k0_t3 => k0_hw18.2.1.2.2.2.2.2.2.2.2.2.2.1 k0_t3
theorem k0_off129_inb : ∀ (v1 : BitVec 32) (k0_hw18 : k0_chk18 v1) (k0_t3 : Fin (k0_t3_loop v1).trips), ∀ a, (k0_off129 v1 k0_t3) a + S1x1.size a ≤ S2x8.size a := fun v1 k0_hw18 k0_t3 => k0_hw18.2.1.2.2.2.2.2.2.2.2.2.2.2.1 k0_t3
theorem k0_off130_inb : ∀ (v1 : BitVec 32) (k0_hw18 : k0_chk18 v1) (k0_t3 : Fin (k0_t3_loop v1).trips), ∀ a, (k0_off130 v1 k0_t3) a + S1x1x512x3072.size a ≤ S2x8x512x3072.size a := fun v1 k0_hw18 k0_t3 => k0_hw18.2.1.2.2.2.2.2.2.2.2.2.2.2.2.1 k0_t3
theorem k0_off130_wordsfp8e4m3 : ∀ (v1 : BitVec 32) (k0_hw18 : k0_chk18 v1) (k0_t3 : Fin (k0_t3_loop v1).trips), (Rect.unit (s := S2x8x512x3072) (k0_off130 v1 k0_t3) S1x1x512x3072.size (k0_off130_inb v1 k0_hw18 k0_t3)).WholeWords (EltTy.packing .fp8e4m3) := fun v1 k0_hw18 k0_t3 => k0_hw18.2.1.2.2.2.2.2.2.2.2.2.2.2.2.2.1 k0_t3 (k0_off130_inb v1 k0_hw18 k0_t3)
theorem k0_off132_inb : ∀ (v1 : BitVec 32) (k0_hw18 : k0_chk18 v1) (k0_t3 : Fin (k0_t3_loop v1).trips), ∀ a, (k0_off132 v1 k0_t3) a + S1x1x256x3072.size a ≤ S2x8x512x3072.size a := fun v1 k0_hw18 k0_t3 => k0_hw18.2.1.2.2.2.2.2.2.2.2.2.2.2.2.2.2.1 k0_t3
theorem k0_off133_inb : ∀ (v1 : BitVec 32) (k0_hw18 : k0_chk18 v1) (k0_t3 : Fin (k0_t3_loop v1).trips), ∀ a, (k0_off133 v1 k0_t3) a + S1x1x256x3072.size a ≤ S2x8x512x3072.size a := fun v1 k0_hw18 k0_t3 => k0_hw18.2.1.2.2.2.2.2.2.2.2.2.2.2.2.2.2.2.1 k0_t3
theorem k0_off134_inb : ∀ (v1 : BitVec 32) (k0_hw18 : k0_chk18 v1) (k0_t3 : Fin (k0_t3_loop v1).trips), ∀ (k0_h8 : k0_cond8 v1 k0_t3 = 1#1), ∀ a, (k0_off134 v1 k0_t3) a + S1.size a ≤ S17.size a := fun v1 k0_hw18 k0_t3 k0_h8 => k0_hw18.2.1.2.2.2.2.2.2.2.2.2.2.2.2.2.2.2.2.1 k0_t3 k0_h8
theorem k0_off135_inb : ∀ (v1 : BitVec 32) (k0_hw18 : k0_chk18 v1) (k0_t3 : Fin (k0_t3_loop v1).trips), ∀ (k0_h8 : k0_cond8 v1 k0_t3 = 1#1), ∀ a, (k0_off135 v1 k0_t3) a + S1x1.size a ≤ S2x8.size a := fun v1 k0_hw18 k0_t3 k0_h8 => k0_hw18.2.1.2.2.2.2.2.2.2.2.2.2.2.2.2.2.2.2.2.1 k0_t3 k0_h8
theorem k0_off136_inb : ∀ (v1 : BitVec 32) (k0_hw18 : k0_chk18 v1) (k0_t3 : Fin (k0_t3_loop v1).trips), ∀ (k0_h8 : k0_cond8 v1 k0_t3 = 1#1), ∀ a, (k0_off136 v1 k0_t3) a + S1x1x512x3072.size a ≤ S2x8x512x3072.size a := fun v1 k0_hw18 k0_t3 k0_h8 => k0_hw18.2.1.2.2.2.2.2.2.2.2.2.2.2.2.2.2.2.2.2.2.1 k0_t3 k0_h8
theorem k0_off136_wordsfp8e4m3 : ∀ (v1 : BitVec 32) (k0_hw18 : k0_chk18 v1) (k0_t3 : Fin (k0_t3_loop v1).trips), ∀ (k0_h8 : k0_cond8 v1 k0_t3 = 1#1), (Rect.unit (s := S2x8x512x3072) (k0_off136 v1 k0_t3) S1x1x512x3072.size (k0_off136_inb v1 k0_hw18 k0_t3 k0_h8)).WholeWords (EltTy.packing .fp8e4m3) := fun v1 k0_hw18 k0_t3 k0_h8 => k0_hw18.2.1.2.2.2.2.2.2.2.2.2.2.2.2.2.2.2.2.2.2.2.1 k0_t3 k0_h8 (k0_off136_inb v1 k0_hw18 k0_t3 k0_h8)
theorem k0_off138_inb : ∀ (v1 : BitVec 32) (k0_hw18 : k0_chk18 v1) (k0_t3 : Fin (k0_t3_loop v1).trips), ∀ a, (k0_off138 v1 k0_t3) a + S1.size a ≤ S17.size a := fun v1 k0_hw18 k0_t3 => k0_hw18.2.1.2.2.2.2.2.2.2.2.2.2.2.2.2.2.2.2.2.2.2.2.1 k0_t3
theorem k0_off139_inb : ∀ (v1 : BitVec 32) (k0_hw18 : k0_chk18 v1) (k0_t3 : Fin (k0_t3_loop v1).trips), ∀ a, (k0_off139 v1 k0_t3) a + S1x1.size a ≤ S2x8.size a := fun v1 k0_hw18 k0_t3 => k0_hw18.2.1.2.2.2.2.2.2.2.2.2.2.2.2.2.2.2.2.2.2.2.2.2.1 k0_t3
theorem k0_off140_inb : ∀ (v1 : BitVec 32) (k0_hw18 : k0_chk18 v1) (k0_t3 : Fin (k0_t3_loop v1).trips), ∀ a, (k0_off140 v1 k0_t3) a + S1x1x512x3072.size a ≤ S2x8x512x3072.size a := fun v1 k0_hw18 k0_t3 => k0_hw18.2.1.2.2.2.2.2.2.2.2.2.2.2.2.2.2.2.2.2.2.2.2.2.2.1 k0_t3
theorem k0_off140_wordsfp8e4m3 : ∀ (v1 : BitVec 32) (k0_hw18 : k0_chk18 v1) (k0_t3 : Fin (k0_t3_loop v1).trips), (Rect.unit (s := S2x8x512x3072) (k0_off140 v1 k0_t3) S1x1x512x3072.size (k0_off140_inb v1 k0_hw18 k0_t3)).WholeWords (EltTy.packing .fp8e4m3) := fun v1 k0_hw18 k0_t3 => k0_hw18.2.1.2.2.2.2.2.2.2.2.2.2.2.2.2.2.2.2.2.2.2.2.2.2.2.1 k0_t3 (k0_off140_inb v1 k0_hw18 k0_t3)
theorem k0_off142_inb : ∀ (v1 : BitVec 32) (k0_hw18 : k0_chk18 v1) (k0_t3 : Fin (k0_t3_loop v1).trips), ∀ a, (k0_off142 v1 k0_t3) a + S1x1x256x3072.size a ≤ S2x8x512x3072.size a := fun v1 k0_hw18 k0_t3 => k0_hw18.2.1.2.2.2.2.2.2.2.2.2.2.2.2.2.2.2.2.2.2.2.2.2.2.2.2.1 k0_t3
theorem k0_off143_inb : ∀ (v1 : BitVec 32) (k0_hw18 : k0_chk18 v1) (k0_t3 : Fin (k0_t3_loop v1).trips), ∀ a, (k0_off143 v1 k0_t3) a + S1x1x256x3072.size a ≤ S2x8x512x3072.size a := fun v1 k0_hw18 k0_t3 => k0_hw18.2.1.2.2.2.2.2.2.2.2.2.2.2.2.2.2.2.2.2.2.2.2.2.2.2.2.2.1 k0_t3
theorem k0_off144_inb : ∀ (v1 : BitVec 32) (k0_hw18 : k0_chk18 v1) (k0_t3 : Fin (k0_t3_loop v1).trips), ∀ (k0_h9 : k0_cond9 v1 k0_t3 = 1#1), ∀ a, (k0_off144 v1 k0_t3) a + S1.size a ≤ S17.size a := fun v1 k0_hw18 k0_t3 k0_h9 => k0_hw18.2.1.2.2.2.2.2.2.2.2.2.2.2.2.2.2.2.2.2.2.2.2.2.2.2.2.2.2.1 k0_t3 k0_h9
theorem k0_off145_inb : ∀ (v1 : BitVec 32) (k0_hw18 : k0_chk18 v1) (k0_t3 : Fin (k0_t3_loop v1).trips), ∀ (k0_h9 : k0_cond9 v1 k0_t3 = 1#1), ∀ a, (k0_off145 v1 k0_t3) a + S1x1.size a ≤ S2x8.size a := fun v1 k0_hw18 k0_t3 k0_h9 => k0_hw18.2.1.2.2.2.2.2.2.2.2.2.2.2.2.2.2.2.2.2.2.2.2.2.2.2.2.2.2.2.1 k0_t3 k0_h9
theorem k0_off146_inb : ∀ (v1 : BitVec 32) (k0_hw18 : k0_chk18 v1) (k0_t3 : Fin (k0_t3_loop v1).trips), ∀ (k0_h9 : k0_cond9 v1 k0_t3 = 1#1), ∀ a, (k0_off146 v1 k0_t3) a + S1x1x512x3072.size a ≤ S2x8x512x3072.size a := fun v1 k0_hw18 k0_t3 k0_h9 => k0_hw18.2.1.2.2.2.2.2.2.2.2.2.2.2.2.2.2.2.2.2.2.2.2.2.2.2.2.2.2.2.2.1 k0_t3 k0_h9
theorem k0_off146_wordsfp8e4m3 : ∀ (v1 : BitVec 32) (k0_hw18 : k0_chk18 v1) (k0_t3 : Fin (k0_t3_loop v1).trips), ∀ (k0_h9 : k0_cond9 v1 k0_t3 = 1#1), (Rect.unit (s := S2x8x512x3072) (k0_off146 v1 k0_t3) S1x1x512x3072.size (k0_off146_inb v1 k0_hw18 k0_t3 k0_h9)).WholeWords (EltTy.packing .fp8e4m3) := fun v1 k0_hw18 k0_t3 k0_h9 => k0_hw18.2.1.2.2.2.2.2.2.2.2.2.2.2.2.2.2.2.2.2.2.2.2.2.2.2.2.2.2.2.2.2.1 k0_t3 k0_h9 (k0_off146_inb v1 k0_hw18 k0_t3 k0_h9)
theorem k0_off148_inb : ∀ (v1 : BitVec 32) (k0_hw18 : k0_chk18 v1) (k0_t3 : Fin (k0_t3_loop v1).trips), ∀ a, (k0_off148 v1 k0_t3) a + S1.size a ≤ S17.size a := fun v1 k0_hw18 k0_t3 => k0_hw18.2.1.2.2.2.2.2.2.2.2.2.2.2.2.2.2.2.2.2.2.2.2.2.2.2.2.2.2.2.2.2.2.1 k0_t3
theorem k0_off149_inb : ∀ (v1 : BitVec 32) (k0_hw18 : k0_chk18 v1) (k0_t3 : Fin (k0_t3_loop v1).trips), ∀ a, (k0_off149 v1 k0_t3) a + S1x1.size a ≤ S2x8.size a := fun v1 k0_hw18 k0_t3 => k0_hw18.2.1.2.2.2.2.2.2.2.2.2.2.2.2.2.2.2.2.2.2.2.2.2.2.2.2.2.2.2.2.2.2.2 k0_t3
theorem k0_off150_inb : ∀ (v1 : BitVec 32) (k0_hw18 : k0_chk18 v1) (k0_t3 : Fin (k0_t3_loop v1).trips), ∀ a, (k0_off150 v1 k0_t3) a + S1x1x512x3072.size a ≤ S2x8x512x3072.size a := fun v1 k0_hw18 k0_t3 => k0_hw18.2.2.1.1 k0_t3
theorem k0_off150_wordsfp8e4m3 : ∀ (v1 : BitVec 32) (k0_hw18 : k0_chk18 v1) (k0_t3 : Fin (k0_t3_loop v1).trips), (Rect.unit (s := S2x8x512x3072) (k0_off150 v1 k0_t3) S1x1x512x3072.size (k0_off150_inb v1 k0_hw18 k0_t3)).WholeWords (EltTy.packing .fp8e4m3) := fun v1 k0_hw18 k0_t3 => k0_hw18.2.2.1.2.1 k0_t3 (k0_off150_inb v1 k0_hw18 k0_t3)
theorem k0_off152_inb : ∀ (v1 : BitVec 32) (k0_hw18 : k0_chk18 v1) (k0_t3 : Fin (k0_t3_loop v1).trips), ∀ a, (k0_off152 v1 k0_t3) a + S1x1x256x3072.size a ≤ S2x8x512x3072.size a := fun v1 k0_hw18 k0_t3 => k0_hw18.2.2.1.2.2.1 k0_t3
theorem k0_off153_inb : ∀ (v1 : BitVec 32) (k0_hw18 : k0_chk18 v1) (k0_t3 : Fin (k0_t3_loop v1).trips), ∀ a, (k0_off153 v1 k0_t3) a + S1x1x256x3072.size a ≤ S2x8x512x3072.size a := fun v1 k0_hw18 k0_t3 => k0_hw18.2.2.1.2.2.2.1 k0_t3
theorem k0_off154_inb : ∀ (v1 : BitVec 32) (k0_hw18 : k0_chk18 v1) (k0_t3 : Fin (k0_t3_loop v1).trips), ∀ (k0_h10 : k0_cond10 v1 k0_t3 = 1#1), ∀ a, (k0_off154 v1 k0_t3) a + S1.size a ≤ S17.size a := fun v1 k0_hw18 k0_t3 k0_h10 => k0_hw18.2.2.1.2.2.2.2.1 k0_t3 k0_h10
theorem k0_off155_inb : ∀ (v1 : BitVec 32) (k0_hw18 : k0_chk18 v1) (k0_t3 : Fin (k0_t3_loop v1).trips), ∀ (k0_h10 : k0_cond10 v1 k0_t3 = 1#1), ∀ a, (k0_off155 v1 k0_t3) a + S1x1.size a ≤ S2x8.size a := fun v1 k0_hw18 k0_t3 k0_h10 => k0_hw18.2.2.1.2.2.2.2.2.1 k0_t3 k0_h10
theorem k0_off156_inb : ∀ (v1 : BitVec 32) (k0_hw18 : k0_chk18 v1) (k0_t3 : Fin (k0_t3_loop v1).trips), ∀ (k0_h10 : k0_cond10 v1 k0_t3 = 1#1), ∀ a, (k0_off156 v1 k0_t3) a + S1x1x512x3072.size a ≤ S2x8x512x3072.size a := fun v1 k0_hw18 k0_t3 k0_h10 => k0_hw18.2.2.1.2.2.2.2.2.2.1 k0_t3 k0_h10
theorem k0_off156_wordsfp8e4m3 : ∀ (v1 : BitVec 32) (k0_hw18 : k0_chk18 v1) (k0_t3 : Fin (k0_t3_loop v1).trips), ∀ (k0_h10 : k0_cond10 v1 k0_t3 = 1#1), (Rect.unit (s := S2x8x512x3072) (k0_off156 v1 k0_t3) S1x1x512x3072.size (k0_off156_inb v1 k0_hw18 k0_t3 k0_h10)).WholeWords (EltTy.packing .fp8e4m3) := fun v1 k0_hw18 k0_t3 k0_h10 => k0_hw18.2.2.1.2.2.2.2.2.2.2.1 k0_t3 k0_h10 (k0_off156_inb v1 k0_hw18 k0_t3 k0_h10)
theorem k0_off158_inb : ∀ (v1 : BitVec 32) (k0_hw18 : k0_chk18 v1) (k0_t3 : Fin (k0_t3_loop v1).trips), ∀ a, (k0_off158 v1 k0_t3) a + S1.size a ≤ S17.size a := fun v1 k0_hw18 k0_t3 => k0_hw18.2.2.1.2.2.2.2.2.2.2.2.1 k0_t3
theorem k0_off159_inb : ∀ (v1 : BitVec 32) (k0_hw18 : k0_chk18 v1) (k0_t3 : Fin (k0_t3_loop v1).trips), ∀ a, (k0_off159 v1 k0_t3) a + S1x1.size a ≤ S2x8.size a := fun v1 k0_hw18 k0_t3 => k0_hw18.2.2.1.2.2.2.2.2.2.2.2.2.1 k0_t3
theorem k0_off160_inb : ∀ (v1 : BitVec 32) (k0_hw18 : k0_chk18 v1) (k0_t3 : Fin (k0_t3_loop v1).trips), ∀ a, (k0_off160 v1 k0_t3) a + S1x1x512x3072.size a ≤ S2x8x512x3072.size a := fun v1 k0_hw18 k0_t3 => k0_hw18.2.2.1.2.2.2.2.2.2.2.2.2.2.1 k0_t3
theorem k0_off160_wordsfp8e4m3 : ∀ (v1 : BitVec 32) (k0_hw18 : k0_chk18 v1) (k0_t3 : Fin (k0_t3_loop v1).trips), (Rect.unit (s := S2x8x512x3072) (k0_off160 v1 k0_t3) S1x1x512x3072.size (k0_off160_inb v1 k0_hw18 k0_t3)).WholeWords (EltTy.packing .fp8e4m3) := fun v1 k0_hw18 k0_t3 => k0_hw18.2.2.1.2.2.2.2.2.2.2.2.2.2.2.1 k0_t3 (k0_off160_inb v1 k0_hw18 k0_t3)
theorem k0_off162_inb : ∀ (v1 : BitVec 32) (k0_hw18 : k0_chk18 v1) (k0_t3 : Fin (k0_t3_loop v1).trips), ∀ a, (k0_off162 v1 k0_t3) a + S1x1x256x3072.size a ≤ S2x8x512x3072.size a := fun v1 k0_hw18 k0_t3 => k0_hw18.2.2.1.2.2.2.2.2.2.2.2.2.2.2.2.1 k0_t3
theorem k0_off163_inb : ∀ (v1 : BitVec 32) (k0_hw18 : k0_chk18 v1) (k0_t3 : Fin (k0_t3_loop v1).trips), ∀ a, (k0_off163 v1 k0_t3) a + S1x1x256x3072.size a ≤ S2x8x512x3072.size a := fun v1 k0_hw18 k0_t3 => k0_hw18.2.2.1.2.2.2.2.2.2.2.2.2.2.2.2.2.1 k0_t3
theorem k0_off164_inb : ∀ (v1 : BitVec 32) (k0_hw18 : k0_chk18 v1) (k0_t3 : Fin (k0_t3_loop v1).trips), ∀ (k0_h11 : k0_cond11 v1 k0_t3 = 1#1), ∀ a, (k0_off164 v1 k0_t3) a + S1.size a ≤ S17.size a := fun v1 k0_hw18 k0_t3 k0_h11 => k0_hw18.2.2.1.2.2.2.2.2.2.2.2.2.2.2.2.2.2.1 k0_t3 k0_h11
theorem k0_off165_inb : ∀ (v1 : BitVec 32) (k0_hw18 : k0_chk18 v1) (k0_t3 : Fin (k0_t3_loop v1).trips), ∀ (k0_h11 : k0_cond11 v1 k0_t3 = 1#1), ∀ a, (k0_off165 v1 k0_t3) a + S1x1.size a ≤ S2x8.size a := fun v1 k0_hw18 k0_t3 k0_h11 => k0_hw18.2.2.1.2.2.2.2.2.2.2.2.2.2.2.2.2.2.2.1 k0_t3 k0_h11
theorem k0_off166_inb : ∀ (v1 : BitVec 32) (k0_hw18 : k0_chk18 v1) (k0_t3 : Fin (k0_t3_loop v1).trips), ∀ (k0_h11 : k0_cond11 v1 k0_t3 = 1#1), ∀ a, (k0_off166 v1 k0_t3) a + S1x1x512x3072.size a ≤ S2x8x512x3072.size a := fun v1 k0_hw18 k0_t3 k0_h11 => k0_hw18.2.2.1.2.2.2.2.2.2.2.2.2.2.2.2.2.2.2.2.1 k0_t3 k0_h11
theorem k0_off166_wordsfp8e4m3 : ∀ (v1 : BitVec 32) (k0_hw18 : k0_chk18 v1) (k0_t3 : Fin (k0_t3_loop v1).trips), ∀ (k0_h11 : k0_cond11 v1 k0_t3 = 1#1), (Rect.unit (s := S2x8x512x3072) (k0_off166 v1 k0_t3) S1x1x512x3072.size (k0_off166_inb v1 k0_hw18 k0_t3 k0_h11)).WholeWords (EltTy.packing .fp8e4m3) := fun v1 k0_hw18 k0_t3 k0_h11 => k0_hw18.2.2.1.2.2.2.2.2.2.2.2.2.2.2.2.2.2.2.2.2.1 k0_t3 k0_h11 (k0_off166_inb v1 k0_hw18 k0_t3 k0_h11)
theorem k0_t4_ok : ∀ (v1 : BitVec 32) (k0_hw18 : k0_chk18 v1), (k0_t4_loop v1).OK := fun v1 k0_hw18 => k0_hw18.2.2.1.2.2.2.2.2.2.2.2.2.2.2.2.2.2.2.2.2.2.1
theorem k0_off171_inb : ∀ (v1 : BitVec 32) (k0_hw18 : k0_chk18 v1) (k0_t4 : Fin (k0_t4_loop v1).trips), ∀ a, (k0_off171 v1 k0_t4) a + S1.size a ≤ S17.size a := fun v1 k0_hw18 k0_t4 => k0_hw18.2.2.1.2.2.2.2.2.2.2.2.2.2.2.2.2.2.2.2.2.2.2.1 k0_t4
theorem k0_off205_inb : ∀ (v1 : BitVec 32) (k0_hw18 : k0_chk18 v1) (k0_t4 : Fin (k0_t4_loop v1).trips), ∀ a, (k0_off205 v1 k0_t4) a + S1.size a ≤ S17.size a := fun v1 k0_hw18 k0_t4 => k0_hw18.2.2.1.2.2.2.2.2.2.2.2.2.2.2.2.2.2.2.2.2.2.2.2.1 k0_t4
theorem k0_off206_inb : ∀ (v1 : BitVec 32) (k0_hw18 : k0_chk18 v1) (k0_t4 : Fin (k0_t4_loop v1).trips), ∀ a, (k0_off206 v1 k0_t4) a + S1x1.size a ≤ S2x8.size a := fun v1 k0_hw18 k0_t4 => k0_hw18.2.2.1.2.2.2.2.2.2.2.2.2.2.2.2.2.2.2.2.2.2.2.2.2.1 k0_t4
theorem k0_off207_inb : ∀ (v1 : BitVec 32) (k0_hw18 : k0_chk18 v1) (k0_t4 : Fin (k0_t4_loop v1).trips), ∀ a, (k0_off207 v1 k0_t4) a + S1x1x512x3072.size a ≤ S2x8x512x3072.size a := fun v1 k0_hw18 k0_t4 => k0_hw18.2.2.1.2.2.2.2.2.2.2.2.2.2.2.2.2.2.2.2.2.2.2.2.2.2.1 k0_t4
theorem k0_off207_wordsfp8e4m3 : ∀ (v1 : BitVec 32) (k0_hw18 : k0_chk18 v1) (k0_t4 : Fin (k0_t4_loop v1).trips), (Rect.unit (s := S2x8x512x3072) (k0_off207 v1 k0_t4) S1x1x512x3072.size (k0_off207_inb v1 k0_hw18 k0_t4)).WholeWords (EltTy.packing .fp8e4m3) := fun v1 k0_hw18 k0_t4 => k0_hw18.2.2.1.2.2.2.2.2.2.2.2.2.2.2.2.2.2.2.2.2.2.2.2.2.2.2.1 k0_t4 (k0_off207_inb v1 k0_hw18 k0_t4)
theorem k0_off209_inb : ∀ (v1 : BitVec 32) (k0_hw18 : k0_chk18 v1) (k0_t4 : Fin (k0_t4_loop v1).trips), ∀ a, (k0_off209 v1 k0_t4) a + S1x1x256x3072.size a ≤ S2x8x512x3072.size a := fun v1 k0_hw18 k0_t4 => k0_hw18.2.2.1.2.2.2.2.2.2.2.2.2.2.2.2.2.2.2.2.2.2.2.2.2.2.2.2.1 k0_t4
theorem k0_off210_inb : ∀ (v1 : BitVec 32) (k0_hw18 : k0_chk18 v1) (k0_t4 : Fin (k0_t4_loop v1).trips), ∀ a, (k0_off210 v1 k0_t4) a + S1x1x256x3072.size a ≤ S2x8x512x3072.size a := fun v1 k0_hw18 k0_t4 => k0_hw18.2.2.1.2.2.2.2.2.2.2.2.2.2.2.2.2.2.2.2.2.2.2.2.2.2.2.2.2.1 k0_t4
theorem k0_off211_inb : ∀ (v1 : BitVec 32) (k0_hw18 : k0_chk18 v1) (k0_t4 : Fin (k0_t4_loop v1).trips), ∀ (k0_h12 : k0_cond12 v1 k0_t4 = 1#1), ∀ a, (k0_off211 v1 k0_t4) a + S1.size a ≤ S17.size a := fun v1 k0_hw18 k0_t4 k0_h12 => k0_hw18.2.2.1.2.2.2.2.2.2.2.2.2.2.2.2.2.2.2.2.2.2.2.2.2.2.2.2.2.2.1 k0_t4 k0_h12
theorem k0_off212_inb : ∀ (v1 : BitVec 32) (k0_hw18 : k0_chk18 v1) (k0_t4 : Fin (k0_t4_loop v1).trips), ∀ (k0_h12 : k0_cond12 v1 k0_t4 = 1#1), ∀ a, (k0_off212 v1 k0_t4) a + S1x1.size a ≤ S2x8.size a := fun v1 k0_hw18 k0_t4 k0_h12 => k0_hw18.2.2.1.2.2.2.2.2.2.2.2.2.2.2.2.2.2.2.2.2.2.2.2.2.2.2.2.2.2.2.1 k0_t4 k0_h12
theorem k0_off213_inb : ∀ (v1 : BitVec 32) (k0_hw18 : k0_chk18 v1) (k0_t4 : Fin (k0_t4_loop v1).trips), ∀ (k0_h12 : k0_cond12 v1 k0_t4 = 1#1), ∀ a, (k0_off213 v1 k0_t4) a + S1x1x512x3072.size a ≤ S2x8x512x3072.size a := fun v1 k0_hw18 k0_t4 k0_h12 => k0_hw18.2.2.1.2.2.2.2.2.2.2.2.2.2.2.2.2.2.2.2.2.2.2.2.2.2.2.2.2.2.2.2.1 k0_t4 k0_h12
theorem k0_off213_wordsfp8e4m3 : ∀ (v1 : BitVec 32) (k0_hw18 : k0_chk18 v1) (k0_t4 : Fin (k0_t4_loop v1).trips), ∀ (k0_h12 : k0_cond12 v1 k0_t4 = 1#1), (Rect.unit (s := S2x8x512x3072) (k0_off213 v1 k0_t4) S1x1x512x3072.size (k0_off213_inb v1 k0_hw18 k0_t4 k0_h12)).WholeWords (EltTy.packing .fp8e4m3) := fun v1 k0_hw18 k0_t4 k0_h12 => k0_hw18.2.2.1.2.2.2.2.2.2.2.2.2.2.2.2.2.2.2.2.2.2.2.2.2.2.2.2.2.2.2.2.2.1 k0_t4 k0_h12 (k0_off213_inb v1 k0_hw18 k0_t4 k0_h12)
theorem k0_off215_inb : ∀ (v1 : BitVec 32) (k0_hw18 : k0_chk18 v1) (k0_t4 : Fin (k0_t4_loop v1).trips), ∀ a, (k0_off215 v1 k0_t4) a + S1.size a ≤ S17.size a := fun v1 k0_hw18 k0_t4 => k0_hw18.2.2.1.2.2.2.2.2.2.2.2.2.2.2.2.2.2.2.2.2.2.2.2.2.2.2.2.2.2.2.2.2.2.1 k0_t4
theorem k0_off216_inb : ∀ (v1 : BitVec 32) (k0_hw18 : k0_chk18 v1) (k0_t4 : Fin (k0_t4_loop v1).trips), ∀ a, (k0_off216 v1 k0_t4) a + S1x1.size a ≤ S2x8.size a := fun v1 k0_hw18 k0_t4 => k0_hw18.2.2.1.2.2.2.2.2.2.2.2.2.2.2.2.2.2.2.2.2.2.2.2.2.2.2.2.2.2.2.2.2.2.2 k0_t4
theorem k0_off217_inb : ∀ (v1 : BitVec 32) (k0_hw18 : k0_chk18 v1) (k0_t4 : Fin (k0_t4_loop v1).trips), ∀ a, (k0_off217 v1 k0_t4) a + S1x1x512x3072.size a ≤ S2x8x512x3072.size a := fun v1 k0_hw18 k0_t4 => k0_hw18.2.2.2.1.1 k0_t4
theorem k0_off217_wordsfp8e4m3 : ∀ (v1 : BitVec 32) (k0_hw18 : k0_chk18 v1) (k0_t4 : Fin (k0_t4_loop v1).trips), (Rect.unit (s := S2x8x512x3072) (k0_off217 v1 k0_t4) S1x1x512x3072.size (k0_off217_inb v1 k0_hw18 k0_t4)).WholeWords (EltTy.packing .fp8e4m3) := fun v1 k0_hw18 k0_t4 => k0_hw18.2.2.2.1.2.1 k0_t4 (k0_off217_inb v1 k0_hw18 k0_t4)
theorem k0_off219_inb : ∀ (v1 : BitVec 32) (k0_hw18 : k0_chk18 v1) (k0_t4 : Fin (k0_t4_loop v1).trips), ∀ a, (k0_off219 v1 k0_t4) a + S1x1x256x3072.size a ≤ S2x8x512x3072.size a := fun v1 k0_hw18 k0_t4 => k0_hw18.2.2.2.1.2.2.1 k0_t4
theorem k0_off220_inb : ∀ (v1 : BitVec 32) (k0_hw18 : k0_chk18 v1) (k0_t4 : Fin (k0_t4_loop v1).trips), ∀ a, (k0_off220 v1 k0_t4) a + S1x1x256x3072.size a ≤ S2x8x512x3072.size a := fun v1 k0_hw18 k0_t4 => k0_hw18.2.2.2.1.2.2.2.1 k0_t4
theorem k0_off221_inb : ∀ (v1 : BitVec 32) (k0_hw18 : k0_chk18 v1) (k0_t4 : Fin (k0_t4_loop v1).trips), ∀ (k0_h13 : k0_cond13 v1 k0_t4 = 1#1), ∀ a, (k0_off221 v1 k0_t4) a + S1.size a ≤ S17.size a := fun v1 k0_hw18 k0_t4 k0_h13 => k0_hw18.2.2.2.1.2.2.2.2.1 k0_t4 k0_h13
theorem k0_off222_inb : ∀ (v1 : BitVec 32) (k0_hw18 : k0_chk18 v1) (k0_t4 : Fin (k0_t4_loop v1).trips), ∀ (k0_h13 : k0_cond13 v1 k0_t4 = 1#1), ∀ a, (k0_off222 v1 k0_t4) a + S1x1.size a ≤ S2x8.size a := fun v1 k0_hw18 k0_t4 k0_h13 => k0_hw18.2.2.2.1.2.2.2.2.2.1 k0_t4 k0_h13
theorem k0_off223_inb : ∀ (v1 : BitVec 32) (k0_hw18 : k0_chk18 v1) (k0_t4 : Fin (k0_t4_loop v1).trips), ∀ (k0_h13 : k0_cond13 v1 k0_t4 = 1#1), ∀ a, (k0_off223 v1 k0_t4) a + S1x1x512x3072.size a ≤ S2x8x512x3072.size a := fun v1 k0_hw18 k0_t4 k0_h13 => k0_hw18.2.2.2.1.2.2.2.2.2.2.1 k0_t4 k0_h13
theorem k0_off223_wordsfp8e4m3 : ∀ (v1 : BitVec 32) (k0_hw18 : k0_chk18 v1) (k0_t4 : Fin (k0_t4_loop v1).trips), ∀ (k0_h13 : k0_cond13 v1 k0_t4 = 1#1), (Rect.unit (s := S2x8x512x3072) (k0_off223 v1 k0_t4) S1x1x512x3072.size (k0_off223_inb v1 k0_hw18 k0_t4 k0_h13)).WholeWords (EltTy.packing .fp8e4m3) := fun v1 k0_hw18 k0_t4 k0_h13 => k0_hw18.2.2.2.1.2.2.2.2.2.2.2.1 k0_t4 k0_h13 (k0_off223_inb v1 k0_hw18 k0_t4 k0_h13)
theorem k0_off225_inb : ∀ (v1 : BitVec 32) (k0_hw18 : k0_chk18 v1) (k0_t4 : Fin (k0_t4_loop v1).trips), ∀ a, (k0_off225 v1 k0_t4) a + S1.size a ≤ S17.size a := fun v1 k0_hw18 k0_t4 => k0_hw18.2.2.2.1.2.2.2.2.2.2.2.2.1 k0_t4
theorem k0_off226_inb : ∀ (v1 : BitVec 32) (k0_hw18 : k0_chk18 v1) (k0_t4 : Fin (k0_t4_loop v1).trips), ∀ a, (k0_off226 v1 k0_t4) a + S1x1.size a ≤ S2x8.size a := fun v1 k0_hw18 k0_t4 => k0_hw18.2.2.2.1.2.2.2.2.2.2.2.2.2.1 k0_t4
theorem k0_off227_inb : ∀ (v1 : BitVec 32) (k0_hw18 : k0_chk18 v1) (k0_t4 : Fin (k0_t4_loop v1).trips), ∀ a, (k0_off227 v1 k0_t4) a + S1x1x512x3072.size a ≤ S2x8x512x3072.size a := fun v1 k0_hw18 k0_t4 => k0_hw18.2.2.2.1.2.2.2.2.2.2.2.2.2.2.1 k0_t4
theorem k0_off227_wordsfp8e4m3 : ∀ (v1 : BitVec 32) (k0_hw18 : k0_chk18 v1) (k0_t4 : Fin (k0_t4_loop v1).trips), (Rect.unit (s := S2x8x512x3072) (k0_off227 v1 k0_t4) S1x1x512x3072.size (k0_off227_inb v1 k0_hw18 k0_t4)).WholeWords (EltTy.packing .fp8e4m3) := fun v1 k0_hw18 k0_t4 => k0_hw18.2.2.2.1.2.2.2.2.2.2.2.2.2.2.2.1 k0_t4 (k0_off227_inb v1 k0_hw18 k0_t4)
theorem k0_off229_inb : ∀ (v1 : BitVec 32) (k0_hw18 : k0_chk18 v1) (k0_t4 : Fin (k0_t4_loop v1).trips), ∀ a, (k0_off229 v1 k0_t4) a + S1x1x256x3072.size a ≤ S2x8x512x3072.size a := fun v1 k0_hw18 k0_t4 => k0_hw18.2.2.2.1.2.2.2.2.2.2.2.2.2.2.2.2.1 k0_t4
theorem k0_off230_inb : ∀ (v1 : BitVec 32) (k0_hw18 : k0_chk18 v1) (k0_t4 : Fin (k0_t4_loop v1).trips), ∀ a, (k0_off230 v1 k0_t4) a + S1x1x256x3072.size a ≤ S2x8x512x3072.size a := fun v1 k0_hw18 k0_t4 => k0_hw18.2.2.2.1.2.2.2.2.2.2.2.2.2.2.2.2.2.1 k0_t4
theorem k0_off231_inb : ∀ (v1 : BitVec 32) (k0_hw18 : k0_chk18 v1) (k0_t4 : Fin (k0_t4_loop v1).trips), ∀ (k0_h14 : k0_cond14 v1 k0_t4 = 1#1), ∀ a, (k0_off231 v1 k0_t4) a + S1.size a ≤ S17.size a := fun v1 k0_hw18 k0_t4 k0_h14 => k0_hw18.2.2.2.1.2.2.2.2.2.2.2.2.2.2.2.2.2.2.1 k0_t4 k0_h14
theorem k0_off232_inb : ∀ (v1 : BitVec 32) (k0_hw18 : k0_chk18 v1) (k0_t4 : Fin (k0_t4_loop v1).trips), ∀ (k0_h14 : k0_cond14 v1 k0_t4 = 1#1), ∀ a, (k0_off232 v1 k0_t4) a + S1x1.size a ≤ S2x8.size a := fun v1 k0_hw18 k0_t4 k0_h14 => k0_hw18.2.2.2.1.2.2.2.2.2.2.2.2.2.2.2.2.2.2.2.1 k0_t4 k0_h14
theorem k0_off233_inb : ∀ (v1 : BitVec 32) (k0_hw18 : k0_chk18 v1) (k0_t4 : Fin (k0_t4_loop v1).trips), ∀ (k0_h14 : k0_cond14 v1 k0_t4 = 1#1), ∀ a, (k0_off233 v1 k0_t4) a + S1x1x512x3072.size a ≤ S2x8x512x3072.size a := fun v1 k0_hw18 k0_t4 k0_h14 => k0_hw18.2.2.2.1.2.2.2.2.2.2.2.2.2.2.2.2.2.2.2.2.1 k0_t4 k0_h14
theorem k0_off233_wordsfp8e4m3 : ∀ (v1 : BitVec 32) (k0_hw18 : k0_chk18 v1) (k0_t4 : Fin (k0_t4_loop v1).trips), ∀ (k0_h14 : k0_cond14 v1 k0_t4 = 1#1), (Rect.unit (s := S2x8x512x3072) (k0_off233 v1 k0_t4) S1x1x512x3072.size (k0_off233_inb v1 k0_hw18 k0_t4 k0_h14)).WholeWords (EltTy.packing .fp8e4m3) := fun v1 k0_hw18 k0_t4 k0_h14 => k0_hw18.2.2.2.1.2.2.2.2.2.2.2.2.2.2.2.2.2.2.2.2.2.1 k0_t4 k0_h14 (k0_off233_inb v1 k0_hw18 k0_t4 k0_h14)
theorem k0_off235_inb : ∀ (v1 : BitVec 32) (k0_hw18 : k0_chk18 v1) (k0_t4 : Fin (k0_t4_loop v1).trips), ∀ a, (k0_off235 v1 k0_t4) a + S1.size a ≤ S17.size a := fun v1 k0_hw18 k0_t4 => k0_hw18.2.2.2.1.2.2.2.2.2.2.2.2.2.2.2.2.2.2.2.2.2.2.1 k0_t4
theorem k0_off236_inb : ∀ (v1 : BitVec 32) (k0_hw18 : k0_chk18 v1) (k0_t4 : Fin (k0_t4_loop v1).trips), ∀ a, (k0_off236 v1 k0_t4) a + S1x1.size a ≤ S2x8.size a := fun v1 k0_hw18 k0_t4 => k0_hw18.2.2.2.1.2.2.2.2.2.2.2.2.2.2.2.2.2.2.2.2.2.2.2.1 k0_t4
theorem k0_off237_inb : ∀ (v1 : BitVec 32) (k0_hw18 : k0_chk18 v1) (k0_t4 : Fin (k0_t4_loop v1).trips), ∀ a, (k0_off237 v1 k0_t4) a + S1x1x512x3072.size a ≤ S2x8x512x3072.size a := fun v1 k0_hw18 k0_t4 => k0_hw18.2.2.2.1.2.2.2.2.2.2.2.2.2.2.2.2.2.2.2.2.2.2.2.2.1 k0_t4
theorem k0_off237_wordsfp8e4m3 : ∀ (v1 : BitVec 32) (k0_hw18 : k0_chk18 v1) (k0_t4 : Fin (k0_t4_loop v1).trips), (Rect.unit (s := S2x8x512x3072) (k0_off237 v1 k0_t4) S1x1x512x3072.size (k0_off237_inb v1 k0_hw18 k0_t4)).WholeWords (EltTy.packing .fp8e4m3) := fun v1 k0_hw18 k0_t4 => k0_hw18.2.2.2.1.2.2.2.2.2.2.2.2.2.2.2.2.2.2.2.2.2.2.2.2.2.1 k0_t4 (k0_off237_inb v1 k0_hw18 k0_t4)
theorem k0_off239_inb : ∀ (v1 : BitVec 32) (k0_hw18 : k0_chk18 v1) (k0_t4 : Fin (k0_t4_loop v1).trips), ∀ a, (k0_off239 v1 k0_t4) a + S1x1x256x3072.size a ≤ S2x8x512x3072.size a := fun v1 k0_hw18 k0_t4 => k0_hw18.2.2.2.1.2.2.2.2.2.2.2.2.2.2.2.2.2.2.2.2.2.2.2.2.2.2.1 k0_t4
theorem k0_off240_inb : ∀ (v1 : BitVec 32) (k0_hw18 : k0_chk18 v1) (k0_t4 : Fin (k0_t4_loop v1).trips), ∀ a, (k0_off240 v1 k0_t4) a + S1x1x256x3072.size a ≤ S2x8x512x3072.size a := fun v1 k0_hw18 k0_t4 => k0_hw18.2.2.2.1.2.2.2.2.2.2.2.2.2.2.2.2.2.2.2.2.2.2.2.2.2.2.2.1 k0_t4
theorem k0_off241_inb : ∀ (v1 : BitVec 32) (k0_hw18 : k0_chk18 v1) (k0_t4 : Fin (k0_t4_loop v1).trips), ∀ (k0_h15 : k0_cond15 v1 k0_t4 = 1#1), ∀ a, (k0_off241 v1 k0_t4) a + S1.size a ≤ S17.size a := fun v1 k0_hw18 k0_t4 k0_h15 => k0_hw18.2.2.2.1.2.2.2.2.2.2.2.2.2.2.2.2.2.2.2.2.2.2.2.2.2.2.2.2.1 k0_t4 k0_h15
theorem k0_off242_inb : ∀ (v1 : BitVec 32) (k0_hw18 : k0_chk18 v1) (k0_t4 : Fin (k0_t4_loop v1).trips), ∀ (k0_h15 : k0_cond15 v1 k0_t4 = 1#1), ∀ a, (k0_off242 v1 k0_t4) a + S1x1.size a ≤ S2x8.size a := fun v1 k0_hw18 k0_t4 k0_h15 => k0_hw18.2.2.2.1.2.2.2.2.2.2.2.2.2.2.2.2.2.2.2.2.2.2.2.2.2.2.2.2.2.1 k0_t4 k0_h15
theorem k0_off243_inb : ∀ (v1 : BitVec 32) (k0_hw18 : k0_chk18 v1) (k0_t4 : Fin (k0_t4_loop v1).trips), ∀ (k0_h15 : k0_cond15 v1 k0_t4 = 1#1), ∀ a, (k0_off243 v1 k0_t4) a + S1x1x512x3072.size a ≤ S2x8x512x3072.size a := fun v1 k0_hw18 k0_t4 k0_h15 => k0_hw18.2.2.2.1.2.2.2.2.2.2.2.2.2.2.2.2.2.2.2.2.2.2.2.2.2.2.2.2.2.2.1 k0_t4 k0_h15
theorem k0_off243_wordsfp8e4m3 : ∀ (v1 : BitVec 32) (k0_hw18 : k0_chk18 v1) (k0_t4 : Fin (k0_t4_loop v1).trips), ∀ (k0_h15 : k0_cond15 v1 k0_t4 = 1#1), (Rect.unit (s := S2x8x512x3072) (k0_off243 v1 k0_t4) S1x1x512x3072.size (k0_off243_inb v1 k0_hw18 k0_t4 k0_h15)).WholeWords (EltTy.packing .fp8e4m3) := fun v1 k0_hw18 k0_t4 k0_h15 => k0_hw18.2.2.2.1.2.2.2.2.2.2.2.2.2.2.2.2.2.2.2.2.2.2.2.2.2.2.2.2.2.2.2.1 k0_t4 k0_h15 (k0_off243_inb v1 k0_hw18 k0_t4 k0_h15)
theorem k0_off245_inb : ∀ (v1 : BitVec 32) (k0_hw18 : k0_chk18 v1) (k0_t4 : Fin (k0_t4_loop v1).trips), ∀ a, (k0_off245 v1 k0_t4) a + S1.size a ≤ S17.size a := fun v1 k0_hw18 k0_t4 => k0_hw18.2.2.2.1.2.2.2.2.2.2.2.2.2.2.2.2.2.2.2.2.2.2.2.2.2.2.2.2.2.2.2.2.1 k0_t4
theorem k0_off246_inb : ∀ (v1 : BitVec 32) (k0_hw18 : k0_chk18 v1) (k0_t4 : Fin (k0_t4_loop v1).trips), ∀ a, (k0_off246 v1 k0_t4) a + S1x1.size a ≤ S2x8.size a := fun v1 k0_hw18 k0_t4 => k0_hw18.2.2.2.1.2.2.2.2.2.2.2.2.2.2.2.2.2.2.2.2.2.2.2.2.2.2.2.2.2.2.2.2.2.1 k0_t4
theorem k0_off247_inb : ∀ (v1 : BitVec 32) (k0_hw18 : k0_chk18 v1) (k0_t4 : Fin (k0_t4_loop v1).trips), ∀ a, (k0_off247 v1 k0_t4) a + S1x1x512x3072.size a ≤ S2x8x512x3072.size a := fun v1 k0_hw18 k0_t4 => k0_hw18.2.2.2.1.2.2.2.2.2.2.2.2.2.2.2.2.2.2.2.2.2.2.2.2.2.2.2.2.2.2.2.2.2.2.1 k0_t4
theorem k0_off247_wordsfp8e4m3 : ∀ (v1 : BitVec 32) (k0_hw18 : k0_chk18 v1) (k0_t4 : Fin (k0_t4_loop v1).trips), (Rect.unit (s := S2x8x512x3072) (k0_off247 v1 k0_t4) S1x1x512x3072.size (k0_off247_inb v1 k0_hw18 k0_t4)).WholeWords (EltTy.packing .fp8e4m3) := fun v1 k0_hw18 k0_t4 => k0_hw18.2.2.2.1.2.2.2.2.2.2.2.2.2.2.2.2.2.2.2.2.2.2.2.2.2.2.2.2.2.2.2.2.2.2.2 k0_t4 (k0_off247_inb v1 k0_hw18 k0_t4)
theorem k0_off249_inb : ∀ (v1 : BitVec 32) (k0_hw18 : k0_chk18 v1) (k0_t4 : Fin (k0_t4_loop v1).trips), ∀ a, (k0_off249 v1 k0_t4) a + S1x1x256x3072.size a ≤ S2x8x512x3072.size a := fun v1 k0_hw18 k0_t4 => k0_hw18.2.2.2.2.1.1 k0_t4
theorem k0_off250_inb : ∀ (v1 : BitVec 32) (k0_hw18 : k0_chk18 v1) (k0_t4 : Fin (k0_t4_loop v1).trips), ∀ a, (k0_off250 v1 k0_t4) a + S1x1x256x3072.size a ≤ S2x8x512x3072.size a := fun v1 k0_hw18 k0_t4 => k0_hw18.2.2.2.2.1.2.1 k0_t4
theorem k0_off251_inb : ∀ (v1 : BitVec 32) (k0_hw18 : k0_chk18 v1) (k0_t4 : Fin (k0_t4_loop v1).trips), ∀ (k0_h16 : k0_cond16 v1 k0_t4 = 1#1), ∀ a, (k0_off251 v1 k0_t4) a + S1.size a ≤ S17.size a := fun v1 k0_hw18 k0_t4 k0_h16 => k0_hw18.2.2.2.2.1.2.2.1 k0_t4 k0_h16
theorem k0_off252_inb : ∀ (v1 : BitVec 32) (k0_hw18 : k0_chk18 v1) (k0_t4 : Fin (k0_t4_loop v1).trips), ∀ (k0_h16 : k0_cond16 v1 k0_t4 = 1#1), ∀ a, (k0_off252 v1 k0_t4) a + S1x1.size a ≤ S2x8.size a := fun v1 k0_hw18 k0_t4 k0_h16 => k0_hw18.2.2.2.2.1.2.2.2.1 k0_t4 k0_h16
theorem k0_off253_inb : ∀ (v1 : BitVec 32) (k0_hw18 : k0_chk18 v1) (k0_t4 : Fin (k0_t4_loop v1).trips), ∀ (k0_h16 : k0_cond16 v1 k0_t4 = 1#1), ∀ a, (k0_off253 v1 k0_t4) a + S1x1x512x3072.size a ≤ S2x8x512x3072.size a := fun v1 k0_hw18 k0_t4 k0_h16 => k0_hw18.2.2.2.2.1.2.2.2.2.1 k0_t4 k0_h16
theorem k0_off253_wordsfp8e4m3 : ∀ (v1 : BitVec 32) (k0_hw18 : k0_chk18 v1) (k0_t4 : Fin (k0_t4_loop v1).trips), ∀ (k0_h16 : k0_cond16 v1 k0_t4 = 1#1), (Rect.unit (s := S2x8x512x3072) (k0_off253 v1 k0_t4) S1x1x512x3072.size (k0_off253_inb v1 k0_hw18 k0_t4 k0_h16)).WholeWords (EltTy.packing .fp8e4m3) := fun v1 k0_hw18 k0_t4 k0_h16 => k0_hw18.2.2.2.2.1.2.2.2.2.2.1 k0_t4 k0_h16 (k0_off253_inb v1 k0_hw18 k0_t4 k0_h16)
theorem k0_off255_inb : ∀ (v1 : BitVec 32) (k0_hw18 : k0_chk18 v1) (k0_t4 : Fin (k0_t4_loop v1).trips), ∀ a, (k0_off255 v1 k0_t4) a + S1.size a ≤ S17.size a := fun v1 k0_hw18 k0_t4 => k0_hw18.2.2.2.2.1.2.2.2.2.2.2.1 k0_t4
theorem k0_off256_inb : ∀ (v1 : BitVec 32) (k0_hw18 : k0_chk18 v1) (k0_t4 : Fin (k0_t4_loop v1).trips), ∀ a, (k0_off256 v1 k0_t4) a + S1x1.size a ≤ S2x8.size a := fun v1 k0_hw18 k0_t4 => k0_hw18.2.2.2.2.1.2.2.2.2.2.2.2.1 k0_t4
theorem k0_off257_inb : ∀ (v1 : BitVec 32) (k0_hw18 : k0_chk18 v1) (k0_t4 : Fin (k0_t4_loop v1).trips), ∀ a, (k0_off257 v1 k0_t4) a + S1x1x512x3072.size a ≤ S2x8x512x3072.size a := fun v1 k0_hw18 k0_t4 => k0_hw18.2.2.2.2.1.2.2.2.2.2.2.2.2.1 k0_t4
theorem k0_off257_wordsfp8e4m3 : ∀ (v1 : BitVec 32) (k0_hw18 : k0_chk18 v1) (k0_t4 : Fin (k0_t4_loop v1).trips), (Rect.unit (s := S2x8x512x3072) (k0_off257 v1 k0_t4) S1x1x512x3072.size (k0_off257_inb v1 k0_hw18 k0_t4)).WholeWords (EltTy.packing .fp8e4m3) := fun v1 k0_hw18 k0_t4 => k0_hw18.2.2.2.2.1.2.2.2.2.2.2.2.2.2.1 k0_t4 (k0_off257_inb v1 k0_hw18 k0_t4)
theorem k0_off259_inb : ∀ (v1 : BitVec 32) (k0_hw18 : k0_chk18 v1) (k0_t4 : Fin (k0_t4_loop v1).trips), ∀ a, (k0_off259 v1 k0_t4) a + S1x1x256x3072.size a ≤ S2x8x512x3072.size a := fun v1 k0_hw18 k0_t4 => k0_hw18.2.2.2.2.1.2.2.2.2.2.2.2.2.2.2.1 k0_t4
theorem k0_off260_inb : ∀ (v1 : BitVec 32) (k0_hw18 : k0_chk18 v1) (k0_t4 : Fin (k0_t4_loop v1).trips), ∀ a, (k0_off260 v1 k0_t4) a + S1x1x256x3072.size a ≤ S2x8x512x3072.size a := fun v1 k0_hw18 k0_t4 => k0_hw18.2.2.2.2.1.2.2.2.2.2.2.2.2.2.2.2.1 k0_t4
theorem k0_off261_inb : ∀ (v1 : BitVec 32) (k0_hw18 : k0_chk18 v1) (k0_t4 : Fin (k0_t4_loop v1).trips), ∀ (k0_h17 : k0_cond17 v1 k0_t4 = 1#1), ∀ a, (k0_off261 v1 k0_t4) a + S1.size a ≤ S17.size a := fun v1 k0_hw18 k0_t4 k0_h17 => k0_hw18.2.2.2.2.1.2.2.2.2.2.2.2.2.2.2.2.2.1 k0_t4 k0_h17
theorem k0_off262_inb : ∀ (v1 : BitVec 32) (k0_hw18 : k0_chk18 v1) (k0_t4 : Fin (k0_t4_loop v1).trips), ∀ (k0_h17 : k0_cond17 v1 k0_t4 = 1#1), ∀ a, (k0_off262 v1 k0_t4) a + S1x1.size a ≤ S2x8.size a := fun v1 k0_hw18 k0_t4 k0_h17 => k0_hw18.2.2.2.2.1.2.2.2.2.2.2.2.2.2.2.2.2.2.1 k0_t4 k0_h17
theorem k0_off263_inb : ∀ (v1 : BitVec 32) (k0_hw18 : k0_chk18 v1) (k0_t4 : Fin (k0_t4_loop v1).trips), ∀ (k0_h17 : k0_cond17 v1 k0_t4 = 1#1), ∀ a, (k0_off263 v1 k0_t4) a + S1x1x512x3072.size a ≤ S2x8x512x3072.size a := fun v1 k0_hw18 k0_t4 k0_h17 => k0_hw18.2.2.2.2.1.2.2.2.2.2.2.2.2.2.2.2.2.2.2.1 k0_t4 k0_h17
theorem k0_off263_wordsfp8e4m3 : ∀ (v1 : BitVec 32) (k0_hw18 : k0_chk18 v1) (k0_t4 : Fin (k0_t4_loop v1).trips), ∀ (k0_h17 : k0_cond17 v1 k0_t4 = 1#1), (Rect.unit (s := S2x8x512x3072) (k0_off263 v1 k0_t4) S1x1x512x3072.size (k0_off263_inb v1 k0_hw18 k0_t4 k0_h17)).WholeWords (EltTy.packing .fp8e4m3) := fun v1 k0_hw18 k0_t4 k0_h17 => k0_hw18.2.2.2.2.1.2.2.2.2.2.2.2.2.2.2.2.2.2.2.2.1 k0_t4 k0_h17 (k0_off263_inb v1 k0_hw18 k0_t4 k0_h17)
theorem k0_off265_inb : ∀ (v1 : BitVec 32) (k0_hw18 : k0_chk18 v1) (k0_t4 : Fin (k0_t4_loop v1).trips), ∀ a, (k0_off265 v1 k0_t4) a + S1.size a ≤ S17.size a := fun v1 k0_hw18 k0_t4 => k0_hw18.2.2.2.2.1.2.2.2.2.2.2.2.2.2.2.2.2.2.2.2.2.1 k0_t4
theorem k0_off266_inb : ∀ (v1 : BitVec 32) (k0_hw18 : k0_chk18 v1) (k0_t4 : Fin (k0_t4_loop v1).trips), ∀ a, (k0_off266 v1 k0_t4) a + S1x1.size a ≤ S2x8.size a := fun v1 k0_hw18 k0_t4 => k0_hw18.2.2.2.2.1.2.2.2.2.2.2.2.2.2.2.2.2.2.2.2.2.2.1 k0_t4
theorem k0_off267_inb : ∀ (v1 : BitVec 32) (k0_hw18 : k0_chk18 v1) (k0_t4 : Fin (k0_t4_loop v1).trips), ∀ a, (k0_off267 v1 k0_t4) a + S1x1x512x3072.size a ≤ S2x8x512x3072.size a := fun v1 k0_hw18 k0_t4 => k0_hw18.2.2.2.2.1.2.2.2.2.2.2.2.2.2.2.2.2.2.2.2.2.2.2.1 k0_t4
theorem k0_off267_wordsfp8e4m3 : ∀ (v1 : BitVec 32) (k0_hw18 : k0_chk18 v1) (k0_t4 : Fin (k0_t4_loop v1).trips), (Rect.unit (s := S2x8x512x3072) (k0_off267 v1 k0_t4) S1x1x512x3072.size (k0_off267_inb v1 k0_hw18 k0_t4)).WholeWords (EltTy.packing .fp8e4m3) := fun v1 k0_hw18 k0_t4 => k0_hw18.2.2.2.2.1.2.2.2.2.2.2.2.2.2.2.2.2.2.2.2.2.2.2.2.1 k0_t4 (k0_off267_inb v1 k0_hw18 k0_t4)
theorem k0_off269_inb : ∀ (v1 : BitVec 32) (k0_hw18 : k0_chk18 v1) (k0_t4 : Fin (k0_t4_loop v1).trips), ∀ a, (k0_off269 v1 k0_t4) a + S1x1x256x3072.size a ≤ S2x8x512x3072.size a := fun v1 k0_hw18 k0_t4 => k0_hw18.2.2.2.2.1.2.2.2.2.2.2.2.2.2.2.2.2.2.2.2.2.2.2.2.2.1 k0_t4
theorem k0_off270_inb : ∀ (v1 : BitVec 32) (k0_hw18 : k0_chk18 v1) (k0_t4 : Fin (k0_t4_loop v1).trips), ∀ a, (k0_off270 v1 k0_t4) a + S1x1x256x3072.size a ≤ S2x8x512x3072.size a := fun v1 k0_hw18 k0_t4 => k0_hw18.2.2.2.2.1.2.2.2.2.2.2.2.2.2.2.2.2.2.2.2.2.2.2.2.2.2.1 k0_t4
theorem k0_off271_inb : ∀ (v1 : BitVec 32) (k0_hw18 : k0_chk18 v1) (k0_t4 : Fin (k0_t4_loop v1).trips), ∀ (k0_h18 : k0_cond18 v1 k0_t4 = 1#1), ∀ a, (k0_off271 v1 k0_t4) a + S1.size a ≤ S17.size a := fun v1 k0_hw18 k0_t4 k0_h18 => k0_hw18.2.2.2.2.1.2.2.2.2.2.2.2.2.2.2.2.2.2.2.2.2.2.2.2.2.2.2.1 k0_t4 k0_h18
theorem k0_off272_inb : ∀ (v1 : BitVec 32) (k0_hw18 : k0_chk18 v1) (k0_t4 : Fin (k0_t4_loop v1).trips), ∀ (k0_h18 : k0_cond18 v1 k0_t4 = 1#1), ∀ a, (k0_off272 v1 k0_t4) a + S1x1.size a ≤ S2x8.size a := fun v1 k0_hw18 k0_t4 k0_h18 => k0_hw18.2.2.2.2.1.2.2.2.2.2.2.2.2.2.2.2.2.2.2.2.2.2.2.2.2.2.2.2.1 k0_t4 k0_h18
theorem k0_off273_inb : ∀ (v1 : BitVec 32) (k0_hw18 : k0_chk18 v1) (k0_t4 : Fin (k0_t4_loop v1).trips), ∀ (k0_h18 : k0_cond18 v1 k0_t4 = 1#1), ∀ a, (k0_off273 v1 k0_t4) a + S1x1x512x3072.size a ≤ S2x8x512x3072.size a := fun v1 k0_hw18 k0_t4 k0_h18 => k0_hw18.2.2.2.2.1.2.2.2.2.2.2.2.2.2.2.2.2.2.2.2.2.2.2.2.2.2.2.2.2.1 k0_t4 k0_h18
theorem k0_off273_wordsfp8e4m3 : ∀ (v1 : BitVec 32) (k0_hw18 : k0_chk18 v1) (k0_t4 : Fin (k0_t4_loop v1).trips), ∀ (k0_h18 : k0_cond18 v1 k0_t4 = 1#1), (Rect.unit (s := S2x8x512x3072) (k0_off273 v1 k0_t4) S1x1x512x3072.size (k0_off273_inb v1 k0_hw18 k0_t4 k0_h18)).WholeWords (EltTy.packing .fp8e4m3) := fun v1 k0_hw18 k0_t4 k0_h18 => k0_hw18.2.2.2.2.1.2.2.2.2.2.2.2.2.2.2.2.2.2.2.2.2.2.2.2.2.2.2.2.2.2.1 k0_t4 k0_h18 (k0_off273_inb v1 k0_hw18 k0_t4 k0_h18)
theorem k0_off275_inb : ∀ (v1 : BitVec 32) (k0_hw18 : k0_chk18 v1) (k0_t4 : Fin (k0_t4_loop v1).trips), ∀ a, (k0_off275 v1 k0_t4) a + S1.size a ≤ S17.size a := fun v1 k0_hw18 k0_t4 => k0_hw18.2.2.2.2.1.2.2.2.2.2.2.2.2.2.2.2.2.2.2.2.2.2.2.2.2.2.2.2.2.2.2.1 k0_t4
theorem k0_off276_inb : ∀ (v1 : BitVec 32) (k0_hw18 : k0_chk18 v1) (k0_t4 : Fin (k0_t4_loop v1).trips), ∀ a, (k0_off276 v1 k0_t4) a + S1x1.size a ≤ S2x8.size a := fun v1 k0_hw18 k0_t4 => k0_hw18.2.2.2.2.1.2.2.2.2.2.2.2.2.2.2.2.2.2.2.2.2.2.2.2.2.2.2.2.2.2.2.2.1 k0_t4
theorem k0_off277_inb : ∀ (v1 : BitVec 32) (k0_hw18 : k0_chk18 v1) (k0_t4 : Fin (k0_t4_loop v1).trips), ∀ a, (k0_off277 v1 k0_t4) a + S1x1x512x3072.size a ≤ S2x8x512x3072.size a := fun v1 k0_hw18 k0_t4 => k0_hw18.2.2.2.2.1.2.2.2.2.2.2.2.2.2.2.2.2.2.2.2.2.2.2.2.2.2.2.2.2.2.2.2.2.1 k0_t4
theorem k0_off277_wordsfp8e4m3 : ∀ (v1 : BitVec 32) (k0_hw18 : k0_chk18 v1) (k0_t4 : Fin (k0_t4_loop v1).trips), (Rect.unit (s := S2x8x512x3072) (k0_off277 v1 k0_t4) S1x1x512x3072.size (k0_off277_inb v1 k0_hw18 k0_t4)).WholeWords (EltTy.packing .fp8e4m3) := fun v1 k0_hw18 k0_t4 => k0_hw18.2.2.2.2.1.2.2.2.2.2.2.2.2.2.2.2.2.2.2.2.2.2.2.2.2.2.2.2.2.2.2.2.2.2.1 k0_t4 (k0_off277_inb v1 k0_hw18 k0_t4)
theorem k0_off279_inb : ∀ (v1 : BitVec 32) (k0_hw18 : k0_chk18 v1) (k0_t4 : Fin (k0_t4_loop v1).trips), ∀ a, (k0_off279 v1 k0_t4) a + S1x1x256x3072.size a ≤ S2x8x512x3072.size a := fun v1 k0_hw18 k0_t4 => k0_hw18.2.2.2.2.1.2.2.2.2.2.2.2.2.2.2.2.2.2.2.2.2.2.2.2.2.2.2.2.2.2.2.2.2.2.2.1 k0_t4
theorem k0_off280_inb : ∀ (v1 : BitVec 32) (k0_hw18 : k0_chk18 v1) (k0_t4 : Fin (k0_t4_loop v1).trips), ∀ a, (k0_off280 v1 k0_t4) a + S1x1x256x3072.size a ≤ S2x8x512x3072.size a := fun v1 k0_hw18 k0_t4 => k0_hw18.2.2.2.2.1.2.2.2.2.2.2.2.2.2.2.2.2.2.2.2.2.2.2.2.2.2.2.2.2.2.2.2.2.2.2.2 k0_t4
theorem k0_off281_inb : ∀ (v1 : BitVec 32) (k0_hw18 : k0_chk18 v1) (k0_t4 : Fin (k0_t4_loop v1).trips), ∀ (k0_h19 : k0_cond19 v1 k0_t4 = 1#1), ∀ a, (k0_off281 v1 k0_t4) a + S1.size a ≤ S17.size a := fun v1 k0_hw18 k0_t4 k0_h19 => k0_hw18.2.2.2.2.2.1 k0_t4 k0_h19
theorem k0_off282_inb : ∀ (v1 : BitVec 32) (k0_hw18 : k0_chk18 v1) (k0_t4 : Fin (k0_t4_loop v1).trips), ∀ (k0_h19 : k0_cond19 v1 k0_t4 = 1#1), ∀ a, (k0_off282 v1 k0_t4) a + S1x1.size a ≤ S2x8.size a := fun v1 k0_hw18 k0_t4 k0_h19 => k0_hw18.2.2.2.2.2.2.1 k0_t4 k0_h19
theorem k0_off283_inb : ∀ (v1 : BitVec 32) (k0_hw18 : k0_chk18 v1) (k0_t4 : Fin (k0_t4_loop v1).trips), ∀ (k0_h19 : k0_cond19 v1 k0_t4 = 1#1), ∀ a, (k0_off283 v1 k0_t4) a + S1x1x512x3072.size a ≤ S2x8x512x3072.size a := fun v1 k0_hw18 k0_t4 k0_h19 => k0_hw18.2.2.2.2.2.2.2.1 k0_t4 k0_h19
theorem k0_off283_wordsfp8e4m3 : ∀ (v1 : BitVec 32) (k0_hw18 : k0_chk18 v1) (k0_t4 : Fin (k0_t4_loop v1).trips), ∀ (k0_h19 : k0_cond19 v1 k0_t4 = 1#1), (Rect.unit (s := S2x8x512x3072) (k0_off283 v1 k0_t4) S1x1x512x3072.size (k0_off283_inb v1 k0_hw18 k0_t4 k0_h19)).WholeWords (EltTy.packing .fp8e4m3) := fun v1 k0_hw18 k0_t4 k0_h19 => k0_hw18.2.2.2.2.2.2.2.2 k0_t4 k0_h19 (k0_off283_inb v1 k0_hw18 k0_t4 k0_h19)

def k0_off285 (v16 : BitVec 32) : Fin 1 → Nat :=
  let v4232 : Index := Scalar.indexCast v16
  ![v4232.toNat]
def k0_off286 (v16 : BitVec 32) : Fin 3 → Nat :=
  let v4239 : Index := Scalar.indexCast v16
  let c0_1580 : Index := 0#32
  let c0_1581 : Index := 0#32
  ![v4239.toNat, 0, 0]
def k0_off287 (v16 : BitVec 32) : Fin 3 → Nat :=
  let c0_i32_1582 : BitVec 32 := 0#32
  let c0_i32_1583 : BitVec 32 := 0#32
  ![v16.toNat, 0, 0]

def k0_chk36_0 (v16 : BitVec 32) : Prop :=
  (∀ a, (k0_off172 v16) a + S1x8x128.size a ≤ S16x8x4096.size a) ∧
  (∀ a, (k0_off173 v16) a + S1x8x128.size a ≤ S16x8x4096.size a) ∧
  (∀ a, (k0_off174 v16) a + S1x8x128.size a ≤ S16x8x4096.size a) ∧
  (∀ a, (k0_off175 v16) a + S1x8x128.size a ≤ S16x8x4096.size a) ∧
  (∀ a, (k0_off176 v16) a + S1x8x128.size a ≤ S16x8x4096.size a) ∧
  (∀ a, (k0_off177 v16) a + S1x8x128.size a ≤ S16x8x4096.size a) ∧
  (∀ a, (k0_off178 v16) a + S1x8x128.size a ≤ S16x8x4096.size a) ∧
  (∀ a, (k0_off179 v16) a + S1x8x128.size a ≤ S16x8x4096.size a) ∧
  (∀ a, (k0_off180 v16) a + S1x8x128.size a ≤ S16x8x4096.size a) ∧
  (∀ a, (k0_off181 v16) a + S1x8x128.size a ≤ S16x8x4096.size a) ∧
  (∀ a, (k0_off182 v16) a + S1x8x128.size a ≤ S16x8x4096.size a) ∧
  (∀ a, (k0_off183 v16) a + S1x8x128.size a ≤ S16x8x4096.size a) ∧
  (∀ a, (k0_off184 v16) a + S1x8x128.size a ≤ S16x8x4096.size a) ∧
  (∀ a, (k0_off185 v16) a + S1x8x128.size a ≤ S16x8x4096.size a) ∧
  (∀ a, (k0_off186 v16) a + S1x8x128.size a ≤ S16x8x4096.size a) ∧
  (∀ a, (k0_off187 v16) a + S1x8x128.size a ≤ S16x8x4096.size a) ∧
  (∀ a, (k0_off188 v16) a + S1x8x128.size a ≤ S16x8x4096.size a) ∧
  (∀ a, (k0_off189 v16) a + S1x8x128.size a ≤ S16x8x4096.size a) ∧
  (∀ a, (k0_off190 v16) a + S1x8x128.size a ≤ S16x8x4096.size a) ∧
  (∀ a, (k0_off191 v16) a + S1x8x128.size a ≤ S16x8x4096.size a) ∧
  (∀ a, (k0_off192 v16) a + S1x8x128.size a ≤ S16x8x4096.size a) ∧
  (∀ a, (k0_off193 v16) a + S1x8x128.size a ≤ S16x8x4096.size a) ∧
  (∀ a, (k0_off194 v16) a + S1x8x128.size a ≤ S16x8x4096.size a) ∧
  (∀ a, (k0_off195 v16) a + S1x8x128.size a ≤ S16x8x4096.size a) ∧
  (∀ a, (k0_off196 v16) a + S1x8x128.size a ≤ S16x8x4096.size a) ∧
  (∀ a, (k0_off197 v16) a + S1x8x128.size a ≤ S16x8x4096.size a) ∧
  (∀ a, (k0_off198 v16) a + S1x8x128.size a ≤ S16x8x4096.size a) ∧
  (∀ a, (k0_off199 v16) a + S1x8x128.size a ≤ S16x8x4096.size a) ∧
  (∀ a, (k0_off200 v16) a + S1x8x128.size a ≤ S16x8x4096.size a) ∧
  (∀ a, (k0_off201 v16) a + S1x8x128.size a ≤ S16x8x4096.size a) ∧
  (∀ a, (k0_off202 v16) a + S1x8x128.size a ≤ S16x8x4096.size a) ∧
  (∀ a, (k0_off203 v16) a + S1x8x128.size a ≤ S16x8x4096.size a)
def k0_chk36_1 (v16 : BitVec 32) : Prop :=
  (∀ a, (k0_off204 v16) a + S1x32x24.size a ≤ S16x32x24.size a) ∧
  (∀ a, (k0_off285 v16) a + S1.size a ≤ S16.size a) ∧
  (∀ a, (k0_off286 v16) a + S1x8x3072.size a ≤ S16x8x3072.size a) ∧
  (∀ (hinb : ∀ a, (k0_off286 v16) a + S1x8x3072.size a ≤ S16x8x3072.size a), (Rect.unit (s := S16x8x3072) (k0_off286 v16) S1x8x3072.size hinb).PackedRows (EltTy.packing .bf16)) ∧
  (∀ a, (k0_off287 v16) a + S1x8x3072.size a ≤ S16x8x3072.size a) ∧
  (∀ (hinb : ∀ a, (k0_off287 v16) a + S1x8x3072.size a ≤ S16x8x3072.size a), (Rect.unit (s := S16x8x3072) (k0_off287 v16) S1x8x3072.size hinb).WholeWords (EltTy.packing .bf16))
def k0_chk36 (v16 : BitVec 32) : Prop :=
  k0_chk36_0 v16 ∧
  k0_chk36_1 v16
theorem k0_off172_inb : ∀ (v16 : BitVec 32) (k0_hw36 : k0_chk36 v16), ∀ a, (k0_off172 v16) a + S1x8x128.size a ≤ S16x8x4096.size a := fun v16 k0_hw36 => k0_hw36.1.1
theorem k0_off173_inb : ∀ (v16 : BitVec 32) (k0_hw36 : k0_chk36 v16), ∀ a, (k0_off173 v16) a + S1x8x128.size a ≤ S16x8x4096.size a := fun v16 k0_hw36 => k0_hw36.1.2.1
theorem k0_off174_inb : ∀ (v16 : BitVec 32) (k0_hw36 : k0_chk36 v16), ∀ a, (k0_off174 v16) a + S1x8x128.size a ≤ S16x8x4096.size a := fun v16 k0_hw36 => k0_hw36.1.2.2.1
theorem k0_off175_inb : ∀ (v16 : BitVec 32) (k0_hw36 : k0_chk36 v16), ∀ a, (k0_off175 v16) a + S1x8x128.size a ≤ S16x8x4096.size a := fun v16 k0_hw36 => k0_hw36.1.2.2.2.1
theorem k0_off176_inb : ∀ (v16 : BitVec 32) (k0_hw36 : k0_chk36 v16), ∀ a, (k0_off176 v16) a + S1x8x128.size a ≤ S16x8x4096.size a := fun v16 k0_hw36 => k0_hw36.1.2.2.2.2.1
theorem k0_off177_inb : ∀ (v16 : BitVec 32) (k0_hw36 : k0_chk36 v16), ∀ a, (k0_off177 v16) a + S1x8x128.size a ≤ S16x8x4096.size a := fun v16 k0_hw36 => k0_hw36.1.2.2.2.2.2.1
theorem k0_off178_inb : ∀ (v16 : BitVec 32) (k0_hw36 : k0_chk36 v16), ∀ a, (k0_off178 v16) a + S1x8x128.size a ≤ S16x8x4096.size a := fun v16 k0_hw36 => k0_hw36.1.2.2.2.2.2.2.1
theorem k0_off179_inb : ∀ (v16 : BitVec 32) (k0_hw36 : k0_chk36 v16), ∀ a, (k0_off179 v16) a + S1x8x128.size a ≤ S16x8x4096.size a := fun v16 k0_hw36 => k0_hw36.1.2.2.2.2.2.2.2.1
theorem k0_off180_inb : ∀ (v16 : BitVec 32) (k0_hw36 : k0_chk36 v16), ∀ a, (k0_off180 v16) a + S1x8x128.size a ≤ S16x8x4096.size a := fun v16 k0_hw36 => k0_hw36.1.2.2.2.2.2.2.2.2.1
theorem k0_off181_inb : ∀ (v16 : BitVec 32) (k0_hw36 : k0_chk36 v16), ∀ a, (k0_off181 v16) a + S1x8x128.size a ≤ S16x8x4096.size a := fun v16 k0_hw36 => k0_hw36.1.2.2.2.2.2.2.2.2.2.1
theorem k0_off182_inb : ∀ (v16 : BitVec 32) (k0_hw36 : k0_chk36 v16), ∀ a, (k0_off182 v16) a + S1x8x128.size a ≤ S16x8x4096.size a := fun v16 k0_hw36 => k0_hw36.1.2.2.2.2.2.2.2.2.2.2.1
theorem k0_off183_inb : ∀ (v16 : BitVec 32) (k0_hw36 : k0_chk36 v16), ∀ a, (k0_off183 v16) a + S1x8x128.size a ≤ S16x8x4096.size a := fun v16 k0_hw36 => k0_hw36.1.2.2.2.2.2.2.2.2.2.2.2.1
theorem k0_off184_inb : ∀ (v16 : BitVec 32) (k0_hw36 : k0_chk36 v16), ∀ a, (k0_off184 v16) a + S1x8x128.size a ≤ S16x8x4096.size a := fun v16 k0_hw36 => k0_hw36.1.2.2.2.2.2.2.2.2.2.2.2.2.1
theorem k0_off185_inb : ∀ (v16 : BitVec 32) (k0_hw36 : k0_chk36 v16), ∀ a, (k0_off185 v16) a + S1x8x128.size a ≤ S16x8x4096.size a := fun v16 k0_hw36 => k0_hw36.1.2.2.2.2.2.2.2.2.2.2.2.2.2.1
theorem k0_off186_inb : ∀ (v16 : BitVec 32) (k0_hw36 : k0_chk36 v16), ∀ a, (k0_off186 v16) a + S1x8x128.size a ≤ S16x8x4096.size a := fun v16 k0_hw36 => k0_hw36.1.2.2.2.2.2.2.2.2.2.2.2.2.2.2.1
theorem k0_off187_inb : ∀ (v16 : BitVec 32) (k0_hw36 : k0_chk36 v16), ∀ a, (k0_off187 v16) a + S1x8x128.size a ≤ S16x8x4096.size a := fun v16 k0_hw36 => k0_hw36.1.2.2.2.2.2.2.2.2.2.2.2.2.2.2.2.1
theorem k0_off188_inb : ∀ (v16 : BitVec 32) (k0_hw36 : k0_chk36 v16), ∀ a, (k0_off188 v16) a + S1x8x128.size a ≤ S16x8x4096.size a := fun v16 k0_hw36 => k0_hw36.1.2.2.2.2.2.2.2.2.2.2.2.2.2.2.2.2.1
theorem k0_off189_inb : ∀ (v16 : BitVec 32) (k0_hw36 : k0_chk36 v16), ∀ a, (k0_off189 v16) a + S1x8x128.size a ≤ S16x8x4096.size a := fun v16 k0_hw36 => k0_hw36.1.2.2.2.2.2.2.2.2.2.2.2.2.2.2.2.2.2.1
theorem k0_off190_inb : ∀ (v16 : BitVec 32) (k0_hw36 : k0_chk36 v16), ∀ a, (k0_off190 v16) a + S1x8x128.size a ≤ S16x8x4096.size a := fun v16 k0_hw36 => k0_hw36.1.2.2.2.2.2.2.2.2.2.2.2.2.2.2.2.2.2.2.1
theorem k0_off191_inb : ∀ (v16 : BitVec 32) (k0_hw36 : k0_chk36 v16), ∀ a, (k0_off191 v16) a + S1x8x128.size a ≤ S16x8x4096.size a := fun v16 k0_hw36 => k0_hw36.1.2.2.2.2.2.2.2.2.2.2.2.2.2.2.2.2.2.2.2.1
theorem k0_off192_inb : ∀ (v16 : BitVec 32) (k0_hw36 : k0_chk36 v16), ∀ a, (k0_off192 v16) a + S1x8x128.size a ≤ S16x8x4096.size a := fun v16 k0_hw36 => k0_hw36.1.2.2.2.2.2.2.2.2.2.2.2.2.2.2.2.2.2.2.2.2.1
theorem k0_off193_inb : ∀ (v16 : BitVec 32) (k0_hw36 : k0_chk36 v16), ∀ a, (k0_off193 v16) a + S1x8x128.size a ≤ S16x8x4096.size a := fun v16 k0_hw36 => k0_hw36.1.2.2.2.2.2.2.2.2.2.2.2.2.2.2.2.2.2.2.2.2.2.1
theorem k0_off194_inb : ∀ (v16 : BitVec 32) (k0_hw36 : k0_chk36 v16), ∀ a, (k0_off194 v16) a + S1x8x128.size a ≤ S16x8x4096.size a := fun v16 k0_hw36 => k0_hw36.1.2.2.2.2.2.2.2.2.2.2.2.2.2.2.2.2.2.2.2.2.2.2.1
theorem k0_off195_inb : ∀ (v16 : BitVec 32) (k0_hw36 : k0_chk36 v16), ∀ a, (k0_off195 v16) a + S1x8x128.size a ≤ S16x8x4096.size a := fun v16 k0_hw36 => k0_hw36.1.2.2.2.2.2.2.2.2.2.2.2.2.2.2.2.2.2.2.2.2.2.2.2.1
theorem k0_off196_inb : ∀ (v16 : BitVec 32) (k0_hw36 : k0_chk36 v16), ∀ a, (k0_off196 v16) a + S1x8x128.size a ≤ S16x8x4096.size a := fun v16 k0_hw36 => k0_hw36.1.2.2.2.2.2.2.2.2.2.2.2.2.2.2.2.2.2.2.2.2.2.2.2.2.1
theorem k0_off197_inb : ∀ (v16 : BitVec 32) (k0_hw36 : k0_chk36 v16), ∀ a, (k0_off197 v16) a + S1x8x128.size a ≤ S16x8x4096.size a := fun v16 k0_hw36 => k0_hw36.1.2.2.2.2.2.2.2.2.2.2.2.2.2.2.2.2.2.2.2.2.2.2.2.2.2.1
theorem k0_off198_inb : ∀ (v16 : BitVec 32) (k0_hw36 : k0_chk36 v16), ∀ a, (k0_off198 v16) a + S1x8x128.size a ≤ S16x8x4096.size a := fun v16 k0_hw36 => k0_hw36.1.2.2.2.2.2.2.2.2.2.2.2.2.2.2.2.2.2.2.2.2.2.2.2.2.2.2.1
theorem k0_off199_inb : ∀ (v16 : BitVec 32) (k0_hw36 : k0_chk36 v16), ∀ a, (k0_off199 v16) a + S1x8x128.size a ≤ S16x8x4096.size a := fun v16 k0_hw36 => k0_hw36.1.2.2.2.2.2.2.2.2.2.2.2.2.2.2.2.2.2.2.2.2.2.2.2.2.2.2.2.1
theorem k0_off200_inb : ∀ (v16 : BitVec 32) (k0_hw36 : k0_chk36 v16), ∀ a, (k0_off200 v16) a + S1x8x128.size a ≤ S16x8x4096.size a := fun v16 k0_hw36 => k0_hw36.1.2.2.2.2.2.2.2.2.2.2.2.2.2.2.2.2.2.2.2.2.2.2.2.2.2.2.2.2.1
theorem k0_off201_inb : ∀ (v16 : BitVec 32) (k0_hw36 : k0_chk36 v16), ∀ a, (k0_off201 v16) a + S1x8x128.size a ≤ S16x8x4096.size a := fun v16 k0_hw36 => k0_hw36.1.2.2.2.2.2.2.2.2.2.2.2.2.2.2.2.2.2.2.2.2.2.2.2.2.2.2.2.2.2.1
theorem k0_off202_inb : ∀ (v16 : BitVec 32) (k0_hw36 : k0_chk36 v16), ∀ a, (k0_off202 v16) a + S1x8x128.size a ≤ S16x8x4096.size a := fun v16 k0_hw36 => k0_hw36.1.2.2.2.2.2.2.2.2.2.2.2.2.2.2.2.2.2.2.2.2.2.2.2.2.2.2.2.2.2.2.1
theorem k0_off203_inb : ∀ (v16 : BitVec 32) (k0_hw36 : k0_chk36 v16), ∀ a, (k0_off203 v16) a + S1x8x128.size a ≤ S16x8x4096.size a := fun v16 k0_hw36 => k0_hw36.1.2.2.2.2.2.2.2.2.2.2.2.2.2.2.2.2.2.2.2.2.2.2.2.2.2.2.2.2.2.2.2
theorem k0_off204_inb : ∀ (v16 : BitVec 32) (k0_hw36 : k0_chk36 v16), ∀ a, (k0_off204 v16) a + S1x32x24.size a ≤ S16x32x24.size a := fun v16 k0_hw36 => k0_hw36.2.1
theorem k0_off285_inb : ∀ (v16 : BitVec 32) (k0_hw36 : k0_chk36 v16), ∀ a, (k0_off285 v16) a + S1.size a ≤ S16.size a := fun v16 k0_hw36 => k0_hw36.2.2.1
theorem k0_off286_inb : ∀ (v16 : BitVec 32) (k0_hw36 : k0_chk36 v16), ∀ a, (k0_off286 v16) a + S1x8x3072.size a ≤ S16x8x3072.size a := fun v16 k0_hw36 => k0_hw36.2.2.2.1
theorem k0_off286_packedbf16 : ∀ (v16 : BitVec 32) (k0_hw36 : k0_chk36 v16), (Rect.unit (s := S16x8x3072) (k0_off286 v16) S1x8x3072.size (k0_off286_inb v16 k0_hw36)).PackedRows (EltTy.packing .bf16) := fun v16 k0_hw36 => k0_hw36.2.2.2.2.1 (k0_off286_inb v16 k0_hw36)
theorem k0_off287_inb : ∀ (v16 : BitVec 32) (k0_hw36 : k0_chk36 v16), ∀ a, (k0_off287 v16) a + S1x8x3072.size a ≤ S16x8x3072.size a := fun v16 k0_hw36 => k0_hw36.2.2.2.2.2.1
theorem k0_off287_wordsbf16 : ∀ (v16 : BitVec 32) (k0_hw36 : k0_chk36 v16), (Rect.unit (s := S16x8x3072) (k0_off287 v16) S1x8x3072.size (k0_off287_inb v16 k0_hw36)).WholeWords (EltTy.packing .bf16) := fun v16 k0_hw36 => k0_hw36.2.2.2.2.2.2 (k0_off287_inb v16 k0_hw36)

@[reducible] def k0_t5_loop : Scf.Loop 32 :=
  let c0_i32_15 : BitVec 32 := 0#32
  let c16_i32_16 : BitVec 32 := 16#32
  let v14 : BitVec 32 := Scalar.addi c0_i32_15 c16_i32_16
  let c1_i32_17 : BitVec 32 := 1#32
  ⟨c0_i32_15, v14, c1_i32_17⟩
def k0_off288 (k0_t5 : Fin k0_t5_loop.trips) : Fin 3 → Nat :=
  let c0_i32_15 : BitVec 32 := 0#32
  let c1_i32_17 : BitVec 32 := 1#32
  let arg18 : BitVec 32 := Scf.iv c0_i32_15 c1_i32_17 k0_t5
  let c0_i32_19 : BitVec 32 := 0#32
  let c0_i32_20 : BitVec 32 := 0#32
  ![arg18.toNat, 0, 0]
-- ==== ReferenceIdeal.lean ====
abbrev S16x8x4096 : Shape := ⟨3, ![16, 8, 4096]⟩
abbrev S16 : Shape := ⟨1, ![16]⟩
abbrev S16x4096x3072 : Shape := ⟨3, ![16, 4096, 3072]⟩
abbrev S16x32x24 : Shape := ⟨3, ![16, 32, 24]⟩
abbrev S16x8x3072 : Shape := ⟨3, ![16, 8, 3072]⟩
abbrev S16x8x32x128 : Shape := ⟨4, ![16, 8, 32, 128]⟩
abbrev S16x8x32 : Shape := ⟨3, ![16, 8, 32]⟩
abbrev S16x8x32x1 : Shape := ⟨4, ![16, 8, 32, 1]⟩
abbrev S16x8x32x256 : Shape := ⟨4, ![16, 8, 32, 256]⟩
abbrev S16x32x8x128 : Shape := ⟨4, ![16, 32, 8, 128]⟩
abbrev S512x8x128 : Shape := ⟨3, ![512, 8, 128]⟩
abbrev S512x128x3072 : Shape := ⟨3, ![512, 128, 3072]⟩
abbrev S512x8x3072 : Shape := ⟨3, ![512, 8, 3072]⟩
abbrev S16x32x24x1 : Shape := ⟨4, ![16, 32, 24, 1]⟩
abbrev S16x32x24x128 : Shape := ⟨4, ![16, 32, 24, 128]⟩
abbrev S16x32x1x3072 : Shape := ⟨4, ![16, 32, 1, 3072]⟩
abbrev S16x32x8x3072 : Shape := ⟨4, ![16, 32, 8, 3072]⟩
abbrev S16x1x1 : Shape := ⟨3, ![16, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x8x4096, .bf16⟩
  | .hbm, ⟨1, _⟩ => ⟨S16, .i32⟩
  | .hbm, ⟨2, _⟩ => ⟨S16x4096x3072, .fp8e4m3⟩
  | .hbm, ⟨3, _⟩ => ⟨S16x32x24, .f32⟩
  | .hbm, ⟨4, _⟩ => ⟨S16x8x3072, .bf16⟩
  | .local _ .vmem, ⟨0, _⟩ => ⟨S16x8x4096, .bf16⟩
  | .local _ .vmem, ⟨1, _⟩ => ⟨S16, .i32⟩
  | .local _ .vmem, ⟨2, _⟩ => ⟨S16x4096x3072, .fp8e4m3⟩
  | .local _ .vmem, ⟨3, _⟩ => ⟨S16x32x24, .f32⟩
  | .local _ .vmem, ⟨4, _⟩ => ⟨S16x8x3072, .bf16⟩
  | _, _ => ⟨S16x8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Batch
public import Idealize.ShloMosaic.Lib.Ring
public import Idealize.ShloMosaic.Lib.LoopRemainder
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The whole scratch memory and argument arrays the kernel works on, by the names they have in its text. -/
abbrev mX : Memref sig .tc .hbm S16x8x4096 .bf16 := Memref.whole main_arg0
abbrev mGs : Memref sig .tc .hbm S16 .i32 := Memref.whole main_arg1
abbrev mW : Memref sig .tc .hbm S16x4096x3072 .fp8e4m3 := Memref.whole main_arg2
abbrev mWs : Memref sig .tc .hbm S16x32x24 .f32 := Memref.whole main_arg3
abbrev mOut : Memref sig .tc .hbm S16x8x3072 .bf16 := Memref.whole main_v0
abbrev sX : Memref sig .tc .vmem S16x8x4096 .bf16 := Memref.whole cc0_scratch0
abbrev sWs : Memref sig .tc .vmem S16x32x24 .f32 := Memref.whole cc0_scratch1
abbrev sGs : Memref sig .tc .smem S16 .i32 := Memref.whole cc0_scratch2
abbrev sAct : Memref sig .tc .smem S17 .i32 := Memref.whole cc0_scratch3
abbrev sW : Memref sig .tc .vmem S2x8x512x3072 .fp8e4m3 := Memref.whole cc0_scratch4
abbrev sXq : Memref sig .tc .vmem S16x16x256 .bf16 := Memref.whole cc0_scratch5
abbrev sSe : Memref sig .tc .vmem S32x3072 .f32 := Memref.whole cc0_scratch6
abbrev sOb : Memref sig .tc .vmem S16x8x3072 .bf16 := Memref.whole cc0_scratch7

theorem slot_inb (s : Fin 2) (k : Fin 8) : ∀ a, (![s.val, k.val, 0, 0] : Fin 4 → Nat) a + S1x1x512x3072.size a ≤ S2x8x512x3072.size a := by
  have := s.isLt; have := k.isLt; intro a; fin_cases a
  · show s.val + 1 ≤ 2; omega
  · show k.val + 1 ≤ 8; omega
  · show 0 + 512 ≤ 512; omega
  · show 0 + 3072 ≤ 3072; omega
theorem cell_inb (s : Fin 2) (k : Fin 8) : ∀ a, (![s.val, k.val] : Fin 2 → Nat) a + S1x1.size a ≤ S2x8.size a := by
  have := s.isLt; have := k.isLt; intro a; fin_cases a
  · show s.val + 1 ≤ 2; omega
  · show k.val + 1 ≤ 8; omega
theorem src_inb (e : Fin 16) (k : Fin 8) : ∀ a, (![e.val, 512 * k.val, 0] : Fin 3 → Nat) a + S1x512x3072.size a ≤ S16x4096x3072.size a := by
  have := e.isLt; have := k.isLt; intro a; fin_cases a
  · show e.val + 1 ≤ 16; omega
  · show 512 * k.val + 512 ≤ 4096; omega
  · show 0 + 3072 ≤ 3072; omega
theorem row_inb (e : Fin 16) : ∀ a, (![e.val, 0, 0] : Fin 3 → Nat) a + S1x8x3072.size a ≤ S16x8x3072.size a := by
  have := e.isLt; intro a; fin_cases a
  · show e.val + 1 ≤ 16; omega
  · show 0 + 8 ≤ 8; omega
  · show 0 + 3072 ≤ 3072; omega

/-- Chunk `k` of weight slot `s`. -/
def wslot (s : Fin 2) (k : Fin 8) : Memref sig .tc .vmem S512x3072 .fp8e4m3 :=
  (sW.slice (Rect.unit ![s.val, k.val, 0, 0] S1x1x512x3072.size (slot_inb s k)) (fun _ => rfl)).squeeze S512x3072 squeezes_S1x1x512x3072_S512x3072
/-- The semaphore of chunk `k` of weight slot `s`. -/
def wcell (s : Fin 2) (k : Fin 8) : DmaSems sig S_ :=
  (cc0_scratch11.slice (Rect.unit ![s.val, k.val] S1x1.size (cell_inb s k))).squeeze S_ squeezes_S1x1_S_
/-- Chunk `k` of expert `e`'s weights. -/
def wsrc (e : Fin 16) (k : Fin 8) : Memref sig .tc .hbm S512x3072 .fp8e4m3 :=
  (mW.slice (Rect.unit ![e.val, 512 * k.val, 0] S1x512x3072.size (src_inb e k)) (fun _ => rfl)).squeeze S512x3072 squeezes_S1x512x3072_S512x3072
/-- Row `e` of the staging buffer of results, and of the result array. -/
def obrow (e : Fin 16) : Memref sig .tc .vmem S8x3072 .bf16 :=
  (sOb.slice (Rect.unit ![e.val, 0, 0] S1x8x3072.size (row_inb e)) (fun _ => rfl)).squeeze S8x3072 squeezes_S1x8x3072_S8x3072
def outrow (e : Fin 16) : Memref sig .tc .hbm S8x3072 .bf16 :=
  (mOut.slice (Rect.unit ![e.val, 0, 0] S1x8x3072.size (row_inb e)) (fun _ => rfl)).squeeze S8x3072 squeezes_S1x8x3072_S8x3072

/-- The expert a word names. -/
def ex (v : BitVec 32) : Fin 16 := ⟨v.toNat % 16, Nat.mod_lt _ (by decide)⟩
theorem ex_val (v : BitVec 32) (h : v.toNat < 16) : (ex v).val = v.toNat := Nat.mod_eq_of_lt h

/-! ## The offsets of a trip of the expert loop, as vectors -/

theorem toNat_iv01 (n : Nat) (h : n < 2 ^ 32) : (Scf.iv 0#32 1#32 n).toNat = n := by
  simp only [Scf.iv, BitVec.toNat_add, BitVec.toNat_mul, BitVec.toNat_ofNat]; omega

theorem t3_lt (v1 : BitVec 32) (k : Fin (k0_t3_loop v1).trips) : k.val < 2 ^ 31 - 1 := by
  have h := k.isLt
  have h2 : (k0_t3_loop v1).trips < 2 ^ 31 := by
    show Scf.trips 0#32 (Scalar.addi 0#32 (Scalar.muli (Scalar.divsi (Scalar.subi v1 0#32) 1#32) 1#32)) 1#32 < 2 ^ 31
    rw [Scalar.muli_divsi_one, show Scalar.addi 0#32 (Scalar.subi v1 0#32) = v1 by simp [Scalar.addi, Scalar.subi, IntOp.addi, IntOp.subi]]
    have h1 : (1#32 : BitVec 32).toInt = 1 := by decide
    have h0 : (0#32 : BitVec 32).toInt = 0 := by decide
    have h3 : v1.toInt < 2 ^ 31 := by have := BitVec.toInt_lt (x := v1); omega
    unfold Scf.trips; rw [h1, h0]; omega
  omega

/-- The weight slot of trip `n`. -/
def par (n : Nat) : Fin 2 := ⟨n % 2, Nat.mod_lt _ (by decide)⟩

theorem toNat_rem2 (n : Nat) (h : n < 2 ^ 31 - 1) : (Scalar.remsi (Scf.iv 0#32 1#32 n) 2#32).toNat = n % 2 := by
  have h1 := toNat_iv01 n (by omega)
  have := IntOp.toNat_remsi .scalar (x := Scf.iv 0#32 1#32 n) (by rw [h1]; omega) 2 (by decide) (by decide)
  rw [h1] at this; exact this
theorem toNat_rem2' (n : Nat) (h : n < 2 ^ 31 - 1) : (Scalar.remsi (Scalar.addi (Scf.iv 0#32 1#32 n) 2#32) 2#32).toNat = n % 2 := by
  rcases Nat.lt_or_ge n (2 ^ 31 - 2) with h' | h'
  swap
  · have : n = 2 ^ 31 - 2 := by omega
    subst this; decide
  have h1 := toNat_iv01 n (by omega)
  have h2 : (Scalar.addi (Scf.iv 0#32 1#32 n) 2#32).toNat = n + 2 := by
    show (Scf.iv 0#32 1#32 n + 2#32).toNat = _
    rw [BitVec.toNat_add, h1]; show (n + 2) % 2 ^ 32 = _; omega
  have := IntOp.toNat_remsi .scalar (x := Scalar.addi (Scf.iv 0#32 1#32 n) 2#32) (by rw [h2]; omega) 2 (by decide) (by decide)
  rw [h2] at this; rw [show (n + 2) % 2 = n % 2 by omega] at this; exact this

theorem off89_eq (v1 : BitVec 32) (k : Fin (k0_t3_loop v1).trips) : k0_off89 v1 k = ![(par k.val).val, 0] := by
  show (![(_ : Nat), _] : Fin 2 → Nat) = _; exact congrArg (fun n => (![n, 0] : Fin 2 → Nat)) (toNat_rem2 k.val (t3_lt v1 k))
instance (v1 : BitVec 32) (k : Fin (k0_t3_loop v1).trips) : ClosedOff (k0_off89 v1 k) := ⟨![(par k.val).val, 0], off89_eq v1 k⟩
theorem off90_eq (v1 : BitVec 32) (k : Fin (k0_t3_loop v1).trips) : k0_off90 v1 k = ![(par k.val).val, 0, 0, 0] := by
  show (![(_ : Nat), _, _, _] : Fin 4 → Nat) = _; exact congrArg (fun n => (![n, 0, 0, 0] : Fin 4 → Nat)) (toNat_rem2 k.val (t3_lt v1 k))
instance (v1 : BitVec 32) (k : Fin (k0_t3_loop v1).trips) : ClosedOff (k0_off90 v1 k) := ⟨![(par k.val).val, 0, 0, 0], off90_eq v1 k⟩
theorem off92_eq (v1 : BitVec 32) (k : Fin (k0_t3_loop v1).trips) : k0_off92 v1 k = ![(par k.val).val, 0, 0, 0] := by
  show (![(_ : Nat), _, _, _] : Fin 4 → Nat) = _; exact congrArg (fun n => (![n, 0, 0, 0] : Fin 4 → Nat)) (toNat_rem2 k.val (t3_lt v1 k))
instance (v1 : BitVec 32) (k : Fin (k0_t3_loop v1).trips) : ClosedOff (k0_off92 v1 k) := ⟨![(par k.val).val, 0, 0, 0], off92_eq v1 k⟩
theorem off93_eq (v1 : BitVec 32) (k : Fin (k0_t3_loop v1).trips) : k0_off93 v1 k = ![(par k.val).val, 0, 256, 0] := by
  show (![(_ : Nat), _, _, _] : Fin 4 → Nat) = _; exact congrArg (fun n => (![n, 0, 256, 0] : Fin 4 → Nat)) (toNat_rem2 k.val (t3_lt v1 k))
instance (v1 : BitVec 32) (k : Fin (k0_t3_loop v1).trips) : ClosedOff (k0_off93 v1 k) := ⟨![(par k.val).val, 0, 256, 0], off93_eq v1 k⟩
theorem off95_eq (v1 : BitVec 32) (k : Fin (k0_t3_loop v1).trips) : k0_off95 v1 k = ![(par k.val).val, 0] := by
  show (![(_ : Nat), _] : Fin 2 → Nat) = _; exact congrArg (fun n => (![n, 0] : Fin 2 → Nat)) (toNat_rem2' k.val (t3_lt v1 k))
instance (v1 : BitVec 32) (k : Fin (k0_t3_loop v1).trips) : ClosedOff (k0_off95 v1 k) := ⟨![(par k.val).val, 0], off95_eq v1 k⟩
theorem off96_eq (v1 : BitVec 32) (k : Fin (k0_t3_loop v1).trips) : k0_off96 v1 k = ![(par k.val).val, 0, 0, 0] := by
  show (![(_ : Nat), _, _, _] : Fin 4 → Nat) = _; exact congrArg (fun n => (![n, 0, 0, 0] : Fin 4 → Nat)) (toNat_rem2' k.val (t3_lt v1 k))
instance (v1 : BitVec 32) (k : Fin (k0_t3_loop v1).trips) : ClosedOff (k0_off96 v1 k) := ⟨![(par k.val).val, 0, 0, 0], off96_eq v1 k⟩
@[sl_canon] theorem canon_wait_cell0 (v1 : BitVec 32) (k : Fin (k0_t3_loop v1).trips) (h) : (cc0_scratch11.slice (Rect.unit (s := S2x8) (k0_off89 v1 k) S1x1.size h)).squeeze S_ squeezes_S1x1_S_ = wcell (par k.val) 0 :=
  congrArg (fun m : DmaSems sig S1x1 => m.squeeze S_ squeezes_S1x1_S_) (SemArray.slice_unit_congr _ (off89_eq v1 k) _ _)
@[sl_canon] theorem canon_start_cell0 (v1 : BitVec 32) (k : Fin (k0_t3_loop v1).trips) (h) : (cc0_scratch11.slice (Rect.unit (s := S2x8) (k0_off95 v1 k) S1x1.size h)).squeeze S_ squeezes_S1x1_S_ = wcell (par k.val) 0 :=
  congrArg (fun m : DmaSems sig S1x1 => m.squeeze S_ squeezes_S1x1_S_) (SemArray.slice_unit_congr _ (off95_eq v1 k) _ _)
@[sl_canon] theorem canon_wait_slot0 (v1 : BitVec 32) (k : Fin (k0_t3_loop v1).trips) (h hs) : (sW.slice (Rect.unit (s := S2x8x512x3072) (k0_off90 v1 k) S1x1x512x3072.size h) hs).squeeze S512x3072 squeezes_S1x1x512x3072_S512x3072 = wslot (par k.val) 0 :=
  congrArg (fun m : Memref sig .tc .vmem S1x1x512x3072 .fp8e4m3 => m.squeeze S512x3072 squeezes_S1x1x512x3072_S512x3072) (Memref.slice_unit_congr _ (off90_eq v1 k) _ _ _ fun _ => rfl)
@[sl_canon] theorem canon_start_slot0 (v1 : BitVec 32) (k : Fin (k0_t3_loop v1).trips) (h hs) : (sW.slice (Rect.unit (s := S2x8x512x3072) (k0_off96 v1 k) S1x1x512x3072.size h) hs).squeeze S512x3072 squeezes_S1x1x512x3072_S512x3072 = wslot (par k.val) 0 :=
  congrArg (fun m : Memref sig .tc .vmem S1x1x512x3072 .fp8e4m3 => m.squeeze S512x3072 squeezes_S1x1x512x3072_S512x3072) (Memref.slice_unit_congr _ (off96_eq v1 k) _ _ _ fun _ => rfl)

theorem off99_eq (v1 : BitVec 32) (k : Fin (k0_t3_loop v1).trips) : k0_off99 v1 k = ![(par k.val).val, 1] := by
  show (![(_ : Nat), _] : Fin 2 → Nat) = _; exact congrArg (fun n => (![n, 1] : Fin 2 → Nat)) (toNat_rem2 k.val (t3_lt v1 k))
instance (v1 : BitVec 32) (k : Fin (k0_t3_loop v1).trips) : ClosedOff (k0_off99 v1 k) := ⟨![(par k.val).val, 1], off99_eq v1 k⟩
theorem off100_eq (v1 : BitVec 32) (k : Fin (k0_t3_loop v1).trips) : k0_off100 v1 k = ![(par k.val).val, 1, 0, 0] := by
  show (![(_ : Nat), _, _, _] : Fin 4 → Nat) = _; exact congrArg (fun n => (![n, 1, 0, 0] : Fin 4 → Nat)) (toNat_rem2 k.val (t3_lt v1 k))
instance (v1 : BitVec 32) (k : Fin (k0_t3_loop v1).trips) : ClosedOff (k0_off100 v1 k) := ⟨![(par k.val).val, 1, 0, 0], off100_eq v1 k⟩
theorem off102_eq (v1 : BitVec 32) (k : Fin (k0_t3_loop v1).trips) : k0_off102 v1 k = ![(par k.val).val, 1, 0, 0] := by
  show (![(_ : Nat), _, _, _] : Fin 4 → Nat) = _; exact congrArg (fun n => (![n, 1, 0, 0] : Fin 4 → Nat)) (toNat_rem2 k.val (t3_lt v1 k))
instance (v1 : BitVec 32) (k : Fin (k0_t3_loop v1).trips) : ClosedOff (k0_off102 v1 k) := ⟨![(par k.val).val, 1, 0, 0], off102_eq v1 k⟩
theorem off103_eq (v1 : BitVec 32) (k : Fin (k0_t3_loop v1).trips) : k0_off103 v1 k = ![(par k.val).val, 1, 256, 0] := by
  show (![(_ : Nat), _, _, _] : Fin 4 → Nat) = _; exact congrArg (fun n => (![n, 1, 256, 0] : Fin 4 → Nat)) (toNat_rem2 k.val (t3_lt v1 k))
instance (v1 : BitVec 32) (k : Fin (k0_t3_loop v1).trips) : ClosedOff (k0_off103 v1 k) := ⟨![(par k.val).val, 1, 256, 0], off103_eq v1 k⟩
theorem off105_eq (v1 : BitVec 32) (k : Fin (k0_t3_loop v1).trips) : k0_off105 v1 k = ![(par k.val).val, 1] := by
  show (![(_ : Nat), _] : Fin 2 → Nat) = _; exact congrArg (fun n => (![n, 1] : Fin 2 → Nat)) (toNat_rem2' k.val (t3_lt v1 k))
instance (v1 : BitVec 32) (k : Fin (k0_t3_loop v1).trips) : ClosedOff (k0_off105 v1 k) := ⟨![(par k.val).val, 1], off105_eq v1 k⟩
theorem off106_eq (v1 : BitVec 32) (k : Fin (k0_t3_loop v1).trips) : k0_off106 v1 k = ![(par k.val).val, 1, 0, 0] := by
  show (![(_ : Nat), _, _, _] : Fin 4 → Nat) = _; exact congrArg (fun n => (![n, 1, 0, 0] : Fin 4 → Nat)) (toNat_rem2' k.val (t3_lt v1 k))
instance (v1 : BitVec 32) (k : Fin (k0_t3_loop v1).trips) : ClosedOff (k0_off106 v1 k) := ⟨![(par k.val).val, 1, 0, 0], off106_eq v1 k⟩
@[sl_canon] theorem canon_wait_cell1 (v1 : BitVec 32) (k : Fin (k0_t3_loop v1).trips) (h) : (cc0_scratch11.slice (Rect.unit (s := S2x8) (k0_off99 v1 k) S1x1.size h)).squeeze S_ squeezes_S1x1_S_ = wcell (par k.val) 1 :=
  congrArg (fun m : DmaSems sig S1x1 => m.squeeze S_ squeezes_S1x1_S_) (SemArray.slice_unit_congr _ (off99_eq v1 k) _ _)
@[sl_canon] theorem canon_start_cell1 (v1 : BitVec 32) (k : Fin (k0_t3_loop v1).trips) (h) : (cc0_scratch11.slice (Rect.unit (s := S2x8) (k0_off105 v1 k) S1x1.size h)).squeeze S_ squeezes_S1x1_S_ = wcell (par k.val) 1 :=
  congrArg (fun m : DmaSems sig S1x1 => m.squeeze S_ squeezes_S1x1_S_) (SemArray.slice_unit_congr _ (off105_eq v1 k) _ _)
@[sl_canon] theorem canon_wait_slot1 (v1 : BitVec 32) (k : Fin (k0_t3_loop v1).trips) (h hs) : (sW.slice (Rect.unit (s := S2x8x512x3072) (k0_off100 v1 k) S1x1x512x3072.size h) hs).squeeze S512x3072 squeezes_S1x1x512x3072_S512x3072 = wslot (par k.val) 1 :=
  congrArg (fun m : Memref sig .tc .vmem S1x1x512x3072 .fp8e4m3 => m.squeeze S512x3072 squeezes_S1x1x512x3072_S512x3072) (Memref.slice_unit_congr _ (off100_eq v1 k) _ _ _ fun _ => rfl)
@[sl_canon] theorem canon_start_slot1 (v1 : BitVec 32) (k : Fin (k0_t3_loop v1).trips) (h hs) : (sW.slice (Rect.unit (s := S2x8x512x3072) (k0_off106 v1 k) S1x1x512x3072.size h) hs).squeeze S512x3072 squeezes_S1x1x512x3072_S512x3072 = wslot (par k.val) 1 :=
  congrArg (fun m : Memref sig .tc .vmem S1x1x512x3072 .fp8e4m3 => m.squeeze S512x3072 squeezes_S1x1x512x3072_S512x3072) (Memref.slice_unit_congr _ (off106_eq v1 k) _ _ _ fun _ => rfl)

theorem off109_eq (v1 : BitVec 32) (k : Fin (k0_t3_loop v1).trips) : k0_off109 v1 k = ![(par k.val).val, 2] := by
  show (![(_ : Nat), _] : Fin 2 → Nat) = _; exact congrArg (fun n => (![n, 2] : Fin 2 → Nat)) (toNat_rem2 k.val (t3_lt v1 k))
instance (v1 : BitVec 32) (k : Fin (k0_t3_loop v1).trips) : ClosedOff (k0_off109 v1 k) := ⟨![(par k.val).val, 2], off109_eq v1 k⟩
theorem off110_eq (v1 : BitVec 32) (k : Fin (k0_t3_loop v1).trips) : k0_off110 v1 k = ![(par k.val).val, 2, 0, 0] := by
  show (![(_ : Nat), _, _, _] : Fin 4 → Nat) = _; exact congrArg (fun n => (![n, 2, 0, 0] : Fin 4 → Nat)) (toNat_rem2 k.val (t3_lt v1 k))
instance (v1 : BitVec 32) (k : Fin (k0_t3_loop v1).trips) : ClosedOff (k0_off110 v1 k) := ⟨![(par k.val).val, 2, 0, 0], off110_eq v1 k⟩
theorem off112_eq (v1 : BitVec 32) (k : Fin (k0_t3_loop v1).trips) : k0_off112 v1 k = ![(par k.val).val, 2, 0, 0] := by
  show (![(_ : Nat), _, _, _] : Fin 4 → Nat) = _; exact congrArg (fun n => (![n, 2, 0, 0] : Fin 4 → Nat)) (toNat_rem2 k.val (t3_lt v1 k))
instance (v1 : BitVec 32) (k : Fin (k0_t3_loop v1).trips) : ClosedOff (k0_off112 v1 k) := ⟨![(par k.val).val, 2, 0, 0], off112_eq v1 k⟩
theorem off113_eq (v1 : BitVec 32) (k : Fin (k0_t3_loop v1).trips) : k0_off113 v1 k = ![(par k.val).val, 2, 256, 0] := by
  show (![(_ : Nat), _, _, _] : Fin 4 → Nat) = _; exact congrArg (fun n => (![n, 2, 256, 0] : Fin 4 → Nat)) (toNat_rem2 k.val (t3_lt v1 k))
instance (v1 : BitVec 32) (k : Fin (k0_t3_loop v1).trips) : ClosedOff (k0_off113 v1 k) := ⟨![(par k.val).val, 2, 256, 0], off113_eq v1 k⟩
theorem off115_eq (v1 : BitVec 32) (k : Fin (k0_t3_loop v1).trips) : k0_off115 v1 k = ![(par k.val).val, 2] := by
  show (![(_ : Nat), _] : Fin 2 → Nat) = _; exact congrArg (fun n => (![n, 2] : Fin 2 → Nat)) (toNat_rem2' k.val (t3_lt v1 k))
instance (v1 : BitVec 32) (k : Fin (k0_t3_loop v1).trips) : ClosedOff (k0_off115 v1 k) := ⟨![(par k.val).val, 2], off115_eq v1 k⟩
theorem off116_eq (v1 : BitVec 32) (k : Fin (k0_t3_loop v1).trips) : k0_off116 v1 k = ![(par k.val).val, 2, 0, 0] := by
  show (![(_ : Nat), _, _, _] : Fin 4 → Nat) = _; exact congrArg (fun n => (![n, 2, 0, 0] : Fin 4 → Nat)) (toNat_rem2' k.val (t3_lt v1 k))
instance (v1 : BitVec 32) (k : Fin (k0_t3_loop v1).trips) : ClosedOff (k0_off116 v1 k) := ⟨![(par k.val).val, 2, 0, 0], off116_eq v1 k⟩
@[sl_canon] theorem canon_wait_cell2 (v1 : BitVec 32) (k : Fin (k0_t3_loop v1).trips) (h) : (cc0_scratch11.slice (Rect.unit (s := S2x8) (k0_off109 v1 k) S1x1.size h)).squeeze S_ squeezes_S1x1_S_ = wcell (par k.val) 2 :=
  congrArg (fun m : DmaSems sig S1x1 => m.squeeze S_ squeezes_S1x1_S_) (SemArray.slice_unit_congr _ (off109_eq v1 k) _ _)
@[sl_canon] theorem canon_start_cell2 (v1 : BitVec 32) (k : Fin (k0_t3_loop v1).trips) (h) : (cc0_scratch11.slice (Rect.unit (s := S2x8) (k0_off115 v1 k) S1x1.size h)).squeeze S_ squeezes_S1x1_S_ = wcell (par k.val) 2 :=
  congrArg (fun m : DmaSems sig S1x1 => m.squeeze S_ squeezes_S1x1_S_) (SemArray.slice_unit_congr _ (off115_eq v1 k) _ _)
@[sl_canon] theorem canon_wait_slot2 (v1 : BitVec 32) (k : Fin (k0_t3_loop v1).trips) (h hs) : (sW.slice (Rect.unit (s := S2x8x512x3072) (k0_off110 v1 k) S1x1x512x3072.size h) hs).squeeze S512x3072 squeezes_S1x1x512x3072_S512x3072 = wslot (par k.val) 2 :=
  congrArg (fun m : Memref sig .tc .vmem S1x1x512x3072 .fp8e4m3 => m.squeeze S512x3072 squeezes_S1x1x512x3072_S512x3072) (Memref.slice_unit_congr _ (off110_eq v1 k) _ _ _ fun _ => rfl)
@[sl_canon] theorem canon_start_slot2 (v1 : BitVec 32) (k : Fin (k0_t3_loop v1).trips) (h hs) : (sW.slice (Rect.unit (s := S2x8x512x3072) (k0_off116 v1 k) S1x1x512x3072.size h) hs).squeeze S512x3072 squeezes_S1x1x512x3072_S512x3072 = wslot (par k.val) 2 :=
  congrArg (fun m : Memref sig .tc .vmem S1x1x512x3072 .fp8e4m3 => m.squeeze S512x3072 squeezes_S1x1x512x3072_S512x3072) (Memref.slice_unit_congr _ (off116_eq v1 k) _ _ _ fun _ => rfl)

theorem off119_eq (v1 : BitVec 32) (k : Fin (k0_t3_loop v1).trips) : k0_off119 v1 k = ![(par k.val).val, 3] := by
  show (![(_ : Nat), _] : Fin 2 → Nat) = _; exact congrArg (fun n => (![n, 3] : Fin 2 → Nat)) (toNat_rem2 k.val (t3_lt v1 k))
instance (v1 : BitVec 32) (k : Fin (k0_t3_loop v1).trips) : ClosedOff (k0_off119 v1 k) := ⟨![(par k.val).val, 3], off119_eq v1 k⟩
theorem off120_eq (v1 : BitVec 32) (k : Fin (k0_t3_loop v1).trips) : k0_off120 v1 k = ![(par k.val).val, 3, 0, 0] := by
  show (![(_ : Nat), _, _, _] : Fin 4 → Nat) = _; exact congrArg (fun n => (![n, 3, 0, 0] : Fin 4 → Nat)) (toNat_rem2 k.val (t3_lt v1 k))
instance (v1 : BitVec 32) (k : Fin (k0_t3_loop v1).trips) : ClosedOff (k0_off120 v1 k) := ⟨![(par k.val).val, 3, 0, 0], off120_eq v1 k⟩
theorem off122_eq (v1 : BitVec 32) (k : Fin (k0_t3_loop v1).trips) : k0_off122 v1 k = ![(par k.val).val, 3, 0, 0] := by
  show (![(_ : Nat), _, _, _] : Fin 4 → Nat) = _; exact congrArg (fun n => (![n, 3, 0, 0] : Fin 4 → Nat)) (toNat_rem2 k.val (t3_lt v1 k))
instance (v1 : BitVec 32) (k : Fin (k0_t3_loop v1).trips) : ClosedOff (k0_off122 v1 k) := ⟨![(par k.val).val, 3, 0, 0], off122_eq v1 k⟩
theorem off123_eq (v1 : BitVec 32) (k : Fin (k0_t3_loop v1).trips) : k0_off123 v1 k = ![(par k.val).val, 3, 256, 0] := by
  show (![(_ : Nat), _, _, _] : Fin 4 → Nat) = _; exact congrArg (fun n => (![n, 3, 256, 0] : Fin 4 → Nat)) (toNat_rem2 k.val (t3_lt v1 k))
instance (v1 : BitVec 32) (k : Fin (k0_t3_loop v1).trips) : ClosedOff (k0_off123 v1 k) := ⟨![(par k.val).val, 3, 256, 0], off123_eq v1 k⟩
theorem off125_eq (v1 : BitVec 32) (k : Fin (k0_t3_loop v1).trips) : k0_off125 v1 k = ![(par k.val).val, 3] := by
  show (![(_ : Nat), _] : Fin 2 → Nat) = _; exact congrArg (fun n => (![n, 3] : Fin 2 → Nat)) (toNat_rem2' k.val (t3_lt v1 k))
instance (v1 : BitVec 32) (k : Fin (k0_t3_loop v1).trips) : ClosedOff (k0_off125 v1 k) := ⟨![(par k.val).val, 3], off125_eq v1 k⟩
theorem off126_eq (v1 : BitVec 32) (k : Fin (k0_t3_loop v1).trips) : k0_off126 v1 k = ![(par k.val).val, 3, 0, 0] := by
  show (![(_ : Nat), _, _, _] : Fin 4 → Nat) = _; exact congrArg (fun n => (![n, 3, 0, 0] : Fin 4 → Nat)) (toNat_rem2' k.val (t3_lt v1 k))
instance (v1 : BitVec 32) (k : Fin (k0_t3_loop v1).trips) : ClosedOff (k0_off126 v1 k) := ⟨![(par k.val).val, 3, 0, 0], off126_eq v1 k⟩
@[sl_canon] theorem canon_wait_cell3 (v1 : BitVec 32) (k : Fin (k0_t3_loop v1).trips) (h) : (cc0_scratch11.slice (Rect.unit (s := S2x8) (k0_off119 v1 k) S1x1.size h)).squeeze S_ squeezes_S1x1_S_ = wcell (par k.val) 3 :=
  congrArg (fun m : DmaSems sig S1x1 => m.squeeze S_ squeezes_S1x1_S_) (SemArray.slice_unit_congr _ (off119_eq v1 k) _ _)
@[sl_canon] theorem canon_start_cell3 (v1 : BitVec 32) (k : Fin (k0_t3_loop v1).trips) (h) : (cc0_scratch11.slice (Rect.unit (s := S2x8) (k0_off125 v1 k) S1x1.size h)).squeeze S_ squeezes_S1x1_S_ = wcell (par k.val) 3 :=
  congrArg (fun m : DmaSems sig S1x1 => m.squeeze S_ squeezes_S1x1_S_) (SemArray.slice_unit_congr _ (off125_eq v1 k) _ _)
@[sl_canon] theorem canon_wait_slot3 (v1 : BitVec 32) (k : Fin (k0_t3_loop v1).trips) (h hs) : (sW.slice (Rect.unit (s := S2x8x512x3072) (k0_off120 v1 k) S1x1x512x3072.size h) hs).squeeze S512x3072 squeezes_S1x1x512x3072_S512x3072 = wslot (par k.val) 3 :=
  congrArg (fun m : Memref sig .tc .vmem S1x1x512x3072 .fp8e4m3 => m.squeeze S512x3072 squeezes_S1x1x512x3072_S512x3072) (Memref.slice_unit_congr _ (off120_eq v1 k) _ _ _ fun _ => rfl)
@[sl_canon] theorem canon_start_slot3 (v1 : BitVec 32) (k : Fin (k0_t3_loop v1).trips) (h hs) : (sW.slice (Rect.unit (s := S2x8x512x3072) (k0_off126 v1 k) S1x1x512x3072.size h) hs).squeeze S512x3072 squeezes_S1x1x512x3072_S512x3072 = wslot (par k.val) 3 :=
  congrArg (fun m : Memref sig .tc .vmem S1x1x512x3072 .fp8e4m3 => m.squeeze S512x3072 squeezes_S1x1x512x3072_S512x3072) (Memref.slice_unit_congr _ (off126_eq v1 k) _ _ _ fun _ => rfl)

theorem off129_eq (v1 : BitVec 32) (k : Fin (k0_t3_loop v1).trips) : k0_off129 v1 k = ![(par k.val).val, 4] := by
  show (![(_ : Nat), _] : Fin 2 → Nat) = _; exact congrArg (fun n => (![n, 4] : Fin 2 → Nat)) (toNat_rem2 k.val (t3_lt v1 k))
instance (v1 : BitVec 32) (k : Fin (k0_t3_loop v1).trips) : ClosedOff (k0_off129 v1 k) := ⟨![(par k.val).val, 4], off129_eq v1 k⟩
theorem off130_eq (v1 : BitVec 32) (k : Fin (k0_t3_loop v1).trips) : k0_off130 v1 k = ![(par k.val).val, 4, 0, 0] := by
  show (![(_ : Nat), _, _, _] : Fin 4 → Nat) = _; exact congrArg (fun n => (![n, 4, 0, 0] : Fin 4 → Nat)) (toNat_rem2 k.val (t3_lt v1 k))
instance (v1 : BitVec 32) (k : Fin (k0_t3_loop v1).trips) : ClosedOff (k0_off130 v1 k) := ⟨![(par k.val).val, 4, 0, 0], off130_eq v1 k⟩
theorem off132_eq (v1 : BitVec 32) (k : Fin (k0_t3_loop v1).trips) : k0_off132 v1 k = ![(par k.val).val, 4, 0, 0] := by
  show (![(_ : Nat), _, _, _] : Fin 4 → Nat) = _; exact congrArg (fun n => (![n, 4, 0, 0] : Fin 4 → Nat)) (toNat_rem2 k.val (t3_lt v1 k))
instance (v1 : BitVec 32) (k : Fin (k0_t3_loop v1).trips) : ClosedOff (k0_off132 v1 k) := ⟨![(par k.val).val, 4, 0, 0], off132_eq v1 k⟩
theorem off133_eq (v1 : BitVec 32) (k : Fin (k0_t3_loop v1).trips) : k0_off133 v1 k = ![(par k.val).val, 4, 256, 0] := by
  show (![(_ : Nat), _, _, _] : Fin 4 → Nat) = _; exact congrArg (fun n => (![n, 4, 256, 0] : Fin 4 → Nat)) (toNat_rem2 k.val (t3_lt v1 k))
instance (v1 : BitVec 32) (k : Fin (k0_t3_loop v1).trips) : ClosedOff (k0_off133 v1 k) := ⟨![(par k.val).val, 4, 256, 0], off133_eq v1 k⟩
theorem off135_eq (v1 : BitVec 32) (k : Fin (k0_t3_loop v1).trips) : k0_off135 v1 k = ![(par k.val).val, 4] := by
  show (![(_ : Nat), _] : Fin 2 → Nat) = _; exact congrArg (fun n => (![n, 4] : Fin 2 → Nat)) (toNat_rem2' k.val (t3_lt v1 k))
instance (v1 : BitVec 32) (k : Fin (k0_t3_loop v1).trips) : ClosedOff (k0_off135 v1 k) := ⟨![(par k.val).val, 4], off135_eq v1 k⟩
theorem off136_eq (v1 : BitVec 32) (k : Fin (k0_t3_loop v1).trips) : k0_off136 v1 k = ![(par k.val).val, 4, 0, 0] := by
  show (![(_ : Nat), _, _, _] : Fin 4 → Nat) = _; exact congrArg (fun n => (![n, 4, 0, 0] : Fin 4 → Nat)) (toNat_rem2' k.val (t3_lt v1 k))
instance (v1 : BitVec 32) (k : Fin (k0_t3_loop v1).trips) : ClosedOff (k0_off136 v1 k) := ⟨![(par k.val).val, 4, 0, 0], off136_eq v1 k⟩
@[sl_canon] theorem canon_wait_cell4 (v1 : BitVec 32) (k : Fin (k0_t3_loop v1).trips) (h) : (cc0_scratch11.slice (Rect.unit (s := S2x8) (k0_off129 v1 k) S1x1.size h)).squeeze S_ squeezes_S1x1_S_ = wcell (par k.val) 4 :=
  congrArg (fun m : DmaSems sig S1x1 => m.squeeze S_ squeezes_S1x1_S_) (SemArray.slice_unit_congr _ (off129_eq v1 k) _ _)
@[sl_canon] theorem canon_start_cell4 (v1 : BitVec 32) (k : Fin (k0_t3_loop v1).trips) (h) : (cc0_scratch11.slice (Rect.unit (s := S2x8) (k0_off135 v1 k) S1x1.size h)).squeeze S_ squeezes_S1x1_S_ = wcell (par k.val) 4 :=
  congrArg (fun m : DmaSems sig S1x1 => m.squeeze S_ squeezes_S1x1_S_) (SemArray.slice_unit_congr _ (off135_eq v1 k) _ _)
@[sl_canon] theorem canon_wait_slot4 (v1 : BitVec 32) (k : Fin (k0_t3_loop v1).trips) (h hs) : (sW.slice (Rect.unit (s := S2x8x512x3072) (k0_off130 v1 k) S1x1x512x3072.size h) hs).squeeze S512x3072 squeezes_S1x1x512x3072_S512x3072 = wslot (par k.val) 4 :=
  congrArg (fun m : Memref sig .tc .vmem S1x1x512x3072 .fp8e4m3 => m.squeeze S512x3072 squeezes_S1x1x512x3072_S512x3072) (Memref.slice_unit_congr _ (off130_eq v1 k) _ _ _ fun _ => rfl)
@[sl_canon] theorem canon_start_slot4 (v1 : BitVec 32) (k : Fin (k0_t3_loop v1).trips) (h hs) : (sW.slice (Rect.unit (s := S2x8x512x3072) (k0_off136 v1 k) S1x1x512x3072.size h) hs).squeeze S512x3072 squeezes_S1x1x512x3072_S512x3072 = wslot (par k.val) 4 :=
  congrArg (fun m : Memref sig .tc .vmem S1x1x512x3072 .fp8e4m3 => m.squeeze S512x3072 squeezes_S1x1x512x3072_S512x3072) (Memref.slice_unit_congr _ (off136_eq v1 k) _ _ _ fun _ => rfl)

theorem off139_eq (v1 : BitVec 32) (k : Fin (k0_t3_loop v1).trips) : k0_off139 v1 k = ![(par k.val).val, 5] := by
  show (![(_ : Nat), _] : Fin 2 → Nat) = _; exact congrArg (fun n => (![n, 5] : Fin 2 → Nat)) (toNat_rem2 k.val (t3_lt v1 k))
instance (v1 : BitVec 32) (k : Fin (k0_t3_loop v1).trips) : ClosedOff (k0_off139 v1 k) := ⟨![(par k.val).val, 5], off139_eq v1 k⟩
theorem off140_eq (v1 : BitVec 32) (k : Fin (k0_t3_loop v1).trips) : k0_off140 v1 k = ![(par k.val).val, 5, 0, 0] := by
  show (![(_ : Nat), _, _, _] : Fin 4 → Nat) = _; exact congrArg (fun n => (![n, 5, 0, 0] : Fin 4 → Nat)) (toNat_rem2 k.val (t3_lt v1 k))
instance (v1 : BitVec 32) (k : Fin (k0_t3_loop v1).trips) : ClosedOff (k0_off140 v1 k) := ⟨![(par k.val).val, 5, 0, 0], off140_eq v1 k⟩
theorem off142_eq (v1 : BitVec 32) (k : Fin (k0_t3_loop v1).trips) : k0_off142 v1 k = ![(par k.val).val, 5, 0, 0] := by
  show (![(_ : Nat), _, _, _] : Fin 4 → Nat) = _; exact congrArg (fun n => (![n, 5, 0, 0] : Fin 4 → Nat)) (toNat_rem2 k.val (t3_lt v1 k))
instance (v1 : BitVec 32) (k : Fin (k0_t3_loop v1).trips) : ClosedOff (k0_off142 v1 k) := ⟨![(par k.val).val, 5, 0, 0], off142_eq v1 k⟩
theorem off143_eq (v1 : BitVec 32) (k : Fin (k0_t3_loop v1).trips) : k0_off143 v1 k = ![(par k.val).val, 5, 256, 0] := by
  show (![(_ : Nat), _, _, _] : Fin 4 → Nat) = _; exact congrArg (fun n => (![n, 5, 256, 0] : Fin 4 → Nat)) (toNat_rem2 k.val (t3_lt v1 k))
instance (v1 : BitVec 32) (k : Fin (k0_t3_loop v1).trips) : ClosedOff (k0_off143 v1 k) := ⟨![(par k.val).val, 5, 256, 0], off143_eq v1 k⟩
theorem off145_eq (v1 : BitVec 32) (k : Fin (k0_t3_loop v1).trips) : k0_off145 v1 k = ![(par k.val).val, 5] := by
  show (![(_ : Nat), _] : Fin 2 → Nat) = _; exact congrArg (fun n => (![n, 5] : Fin 2 → Nat)) (toNat_rem2' k.val (t3_lt v1 k))
instance (v1 : BitVec 32) (k : Fin (k0_t3_loop v1).trips) : ClosedOff (k0_off145 v1 k) := ⟨![(par k.val).val, 5], off145_eq v1 k⟩
theorem off146_eq (v1 : BitVec 32) (k : Fin (k0_t3_loop v1).trips) : k0_off146 v1 k = ![(par k.val).val, 5, 0, 0] := by
  show (![(_ : Nat), _, _, _] : Fin 4 → Nat) = _; exact congrArg (fun n => (![n, 5, 0, 0] : Fin 4 → Nat)) (toNat_rem2' k.val (t3_lt v1 k))
instance (v1 : BitVec 32) (k : Fin (k0_t3_loop v1).trips) : ClosedOff (k0_off146 v1 k) := ⟨![(par k.val).val, 5, 0, 0], off146_eq v1 k⟩
@[sl_canon] theorem canon_wait_cell5 (v1 : BitVec 32) (k : Fin (k0_t3_loop v1).trips) (h) : (cc0_scratch11.slice (Rect.unit (s := S2x8) (k0_off139 v1 k) S1x1.size h)).squeeze S_ squeezes_S1x1_S_ = wcell (par k.val) 5 :=
  congrArg (fun m : DmaSems sig S1x1 => m.squeeze S_ squeezes_S1x1_S_) (SemArray.slice_unit_congr _ (off139_eq v1 k) _ _)
@[sl_canon] theorem canon_start_cell5 (v1 : BitVec 32) (k : Fin (k0_t3_loop v1).trips) (h) : (cc0_scratch11.slice (Rect.unit (s := S2x8) (k0_off145 v1 k) S1x1.size h)).squeeze S_ squeezes_S1x1_S_ = wcell (par k.val) 5 :=
  congrArg (fun m : DmaSems sig S1x1 => m.squeeze S_ squeezes_S1x1_S_) (SemArray.slice_unit_congr _ (off145_eq v1 k) _ _)
@[sl_canon] theorem canon_wait_slot5 (v1 : BitVec 32) (k : Fin (k0_t3_loop v1).trips) (h hs) : (sW.slice (Rect.unit (s := S2x8x512x3072) (k0_off140 v1 k) S1x1x512x3072.size h) hs).squeeze S512x3072 squeezes_S1x1x512x3072_S512x3072 = wslot (par k.val) 5 :=
  congrArg (fun m : Memref sig .tc .vmem S1x1x512x3072 .fp8e4m3 => m.squeeze S512x3072 squeezes_S1x1x512x3072_S512x3072) (Memref.slice_unit_congr _ (off140_eq v1 k) _ _ _ fun _ => rfl)
@[sl_canon] theorem canon_start_slot5 (v1 : BitVec 32) (k : Fin (k0_t3_loop v1).trips) (h hs) : (sW.slice (Rect.unit (s := S2x8x512x3072) (k0_off146 v1 k) S1x1x512x3072.size h) hs).squeeze S512x3072 squeezes_S1x1x512x3072_S512x3072 = wslot (par k.val) 5 :=
  congrArg (fun m : Memref sig .tc .vmem S1x1x512x3072 .fp8e4m3 => m.squeeze S512x3072 squeezes_S1x1x512x3072_S512x3072) (Memref.slice_unit_congr _ (off146_eq v1 k) _ _ _ fun _ => rfl)

theorem off149_eq (v1 : BitVec 32) (k : Fin (k0_t3_loop v1).trips) : k0_off149 v1 k = ![(par k.val).val, 6] := by
  show (![(_ : Nat), _] : Fin 2 → Nat) = _; exact congrArg (fun n => (![n, 6] : Fin 2 → Nat)) (toNat_rem2 k.val (t3_lt v1 k))
instance (v1 : BitVec 32) (k : Fin (k0_t3_loop v1).trips) : ClosedOff (k0_off149 v1 k) := ⟨![(par k.val).val, 6], off149_eq v1 k⟩
theorem off150_eq (v1 : BitVec 32) (k : Fin (k0_t3_loop v1).trips) : k0_off150 v1 k = ![(par k.val).val, 6, 0, 0] := by
  show (![(_ : Nat), _, _, _] : Fin 4 → Nat) = _; exact congrArg (fun n => (![n, 6, 0, 0] : Fin 4 → Nat)) (toNat_rem2 k.val (t3_lt v1 k))
instance (v1 : BitVec 32) (k : Fin (k0_t3_loop v1).trips) : ClosedOff (k0_off150 v1 k) := ⟨![(par k.val).val, 6, 0, 0], off150_eq v1 k⟩
theorem off152_eq (v1 : BitVec 32) (k : Fin (k0_t3_loop v1).trips) : k0_off152 v1 k = ![(par k.val).val, 6, 0, 0] := by
  show (![(_ : Nat), _, _, _] : Fin 4 → Nat) = _; exact congrArg (fun n => (![n, 6, 0, 0] : Fin 4 → Nat)) (toNat_rem2 k.val (t3_lt v1 k))
instance (v1 : BitVec 32) (k : Fin (k0_t3_loop v1).trips) : ClosedOff (k0_off152 v1 k) := ⟨![(par k.val).val, 6, 0, 0], off152_eq v1 k⟩
theorem off153_eq (v1 : BitVec 32) (k : Fin (k0_t3_loop v1).trips) : k0_off153 v1 k = ![(par k.val).val, 6, 256, 0] := by
  show (![(_ : Nat), _, _, _] : Fin 4 → Nat) = _; exact congrArg (fun n => (![n, 6, 256, 0] : Fin 4 → Nat)) (toNat_rem2 k.val (t3_lt v1 k))
instance (v1 : BitVec 32) (k : Fin (k0_t3_loop v1).trips) : ClosedOff (k0_off153 v1 k) := ⟨![(par k.val).val, 6, 256, 0], off153_eq v1 k⟩
theorem off155_eq (v1 : BitVec 32) (k : Fin (k0_t3_loop v1).trips) : k0_off155 v1 k = ![(par k.val).val, 6] := by
  show (![(_ : Nat), _] : Fin 2 → Nat) = _; exact congrArg (fun n => (![n, 6] : Fin 2 → Nat)) (toNat_rem2' k.val (t3_lt v1 k))
instance (v1 : BitVec 32) (k : Fin (k0_t3_loop v1).trips) : ClosedOff (k0_off155 v1 k) := ⟨![(par k.val).val, 6], off155_eq v1 k⟩
theorem off156_eq (v1 : BitVec 32) (k : Fin (k0_t3_loop v1).trips) : k0_off156 v1 k = ![(par k.val).val, 6, 0, 0] := by
  show (![(_ : Nat), _, _, _] : Fin 4 → Nat) = _; exact congrArg (fun n => (![n, 6, 0, 0] : Fin 4 → Nat)) (toNat_rem2' k.val (t3_lt v1 k))
instance (v1 : BitVec 32) (k : Fin (k0_t3_loop v1).trips) : ClosedOff (k0_off156 v1 k) := ⟨![(par k.val).val, 6, 0, 0], off156_eq v1 k⟩
@[sl_canon] theorem canon_wait_cell6 (v1 : BitVec 32) (k : Fin (k0_t3_loop v1).trips) (h) : (cc0_scratch11.slice (Rect.unit (s := S2x8) (k0_off149 v1 k) S1x1.size h)).squeeze S_ squeezes_S1x1_S_ = wcell (par k.val) 6 :=
  congrArg (fun m : DmaSems sig S1x1 => m.squeeze S_ squeezes_S1x1_S_) (SemArray.slice_unit_congr _ (off149_eq v1 k) _ _)
@[sl_canon] theorem canon_start_cell6 (v1 : BitVec 32) (k : Fin (k0_t3_loop v1).trips) (h) : (cc0_scratch11.slice (Rect.unit (s := S2x8) (k0_off155 v1 k) S1x1.size h)).squeeze S_ squeezes_S1x1_S_ = wcell (par k.val) 6 :=
  congrArg (fun m : DmaSems sig S1x1 => m.squeeze S_ squeezes_S1x1_S_) (SemArray.slice_unit_congr _ (off155_eq v1 k) _ _)
@[sl_canon] theorem canon_wait_slot6 (v1 : BitVec 32) (k : Fin (k0_t3_loop v1).trips) (h hs) : (sW.slice (Rect.unit (s := S2x8x512x3072) (k0_off150 v1 k) S1x1x512x3072.size h) hs).squeeze S512x3072 squeezes_S1x1x512x3072_S512x3072 = wslot (par k.val) 6 :=
  congrArg (fun m : Memref sig .tc .vmem S1x1x512x3072 .fp8e4m3 => m.squeeze S512x3072 squeezes_S1x1x512x3072_S512x3072) (Memref.slice_unit_congr _ (off150_eq v1 k) _ _ _ fun _ => rfl)
@[sl_canon] theorem canon_start_slot6 (v1 : BitVec 32) (k : Fin (k0_t3_loop v1).trips) (h hs) : (sW.slice (Rect.unit (s := S2x8x512x3072) (k0_off156 v1 k) S1x1x512x3072.size h) hs).squeeze S512x3072 squeezes_S1x1x512x3072_S512x3072 = wslot (par k.val) 6 :=
  congrArg (fun m : Memref sig .tc .vmem S1x1x512x3072 .fp8e4m3 => m.squeeze S512x3072 squeezes_S1x1x512x3072_S512x3072) (Memref.slice_unit_congr _ (off156_eq v1 k) _ _ _ fun _ => rfl)

theorem off159_eq (v1 : BitVec 32) (k : Fin (k0_t3_loop v1).trips) : k0_off159 v1 k = ![(par k.val).val, 7] := by
  show (![(_ : Nat), _] : Fin 2 → Nat) = _; exact congrArg (fun n => (![n, 7] : Fin 2 → Nat)) (toNat_rem2 k.val (t3_lt v1 k))
instance (v1 : BitVec 32) (k : Fin (k0_t3_loop v1).trips) : ClosedOff (k0_off159 v1 k) := ⟨![(par k.val).val, 7], off159_eq v1 k⟩
theorem off160_eq (v1 : BitVec 32) (k : Fin (k0_t3_loop v1).trips) : k0_off160 v1 k = ![(par k.val).val, 7, 0, 0] := by
  show (![(_ : Nat), _, _, _] : Fin 4 → Nat) = _; exact congrArg (fun n => (![n, 7, 0, 0] : Fin 4 → Nat)) (toNat_rem2 k.val (t3_lt v1 k))
instance (v1 : BitVec 32) (k : Fin (k0_t3_loop v1).trips) : ClosedOff (k0_off160 v1 k) := ⟨![(par k.val).val, 7, 0, 0], off160_eq v1 k⟩
theorem off162_eq (v1 : BitVec 32) (k : Fin (k0_t3_loop v1).trips) : k0_off162 v1 k = ![(par k.val).val, 7, 0, 0] := by
  show (![(_ : Nat), _, _, _] : Fin 4 → Nat) = _; exact congrArg (fun n => (![n, 7, 0, 0] : Fin 4 → Nat)) (toNat_rem2 k.val (t3_lt v1 k))
instance (v1 : BitVec 32) (k : Fin (k0_t3_loop v1).trips) : ClosedOff (k0_off162 v1 k) := ⟨![(par k.val).val, 7, 0, 0], off162_eq v1 k⟩
theorem off163_eq (v1 : BitVec 32) (k : Fin (k0_t3_loop v1).trips) : k0_off163 v1 k = ![(par k.val).val, 7, 256, 0] := by
  show (![(_ : Nat), _, _, _] : Fin 4 → Nat) = _; exact congrArg (fun n => (![n, 7, 256, 0] : Fin 4 → Nat)) (toNat_rem2 k.val (t3_lt v1 k))
instance (v1 : BitVec 32) (k : Fin (k0_t3_loop v1).trips) : ClosedOff (k0_off163 v1 k) := ⟨![(par k.val).val, 7, 256, 0], off163_eq v1 k⟩
theorem off165_eq (v1 : BitVec 32) (k : Fin (k0_t3_loop v1).trips) : k0_off165 v1 k = ![(par k.val).val, 7] := by
  show (![(_ : Nat), _] : Fin 2 → Nat) = _; exact congrArg (fun n => (![n, 7] : Fin 2 → Nat)) (toNat_rem2' k.val (t3_lt v1 k))
instance (v1 : BitVec 32) (k : Fin (k0_t3_loop v1).trips) : ClosedOff (k0_off165 v1 k) := ⟨![(par k.val).val, 7], off165_eq v1 k⟩
theorem off166_eq (v1 : BitVec 32) (k : Fin (k0_t3_loop v1).trips) : k0_off166 v1 k = ![(par k.val).val, 7, 0, 0] := by
  show (![(_ : Nat), _, _, _] : Fin 4 → Nat) = _; exact congrArg (fun n => (![n, 7, 0, 0] : Fin 4 → Nat)) (toNat_rem2' k.val (t3_lt v1 k))
instance (v1 : BitVec 32) (k : Fin (k0_t3_loop v1).trips) : ClosedOff (k0_off166 v1 k) := ⟨![(par k.val).val, 7, 0, 0], off166_eq v1 k⟩
@[sl_canon] theorem canon_wait_cell7 (v1 : BitVec 32) (k : Fin (k0_t3_loop v1).trips) (h) : (cc0_scratch11.slice (Rect.unit (s := S2x8) (k0_off159 v1 k) S1x1.size h)).squeeze S_ squeezes_S1x1_S_ = wcell (par k.val) 7 :=
  congrArg (fun m : DmaSems sig S1x1 => m.squeeze S_ squeezes_S1x1_S_) (SemArray.slice_unit_congr _ (off159_eq v1 k) _ _)
@[sl_canon] theorem canon_start_cell7 (v1 : BitVec 32) (k : Fin (k0_t3_loop v1).trips) (h) : (cc0_scratch11.slice (Rect.unit (s := S2x8) (k0_off165 v1 k) S1x1.size h)).squeeze S_ squeezes_S1x1_S_ = wcell (par k.val) 7 :=
  congrArg (fun m : DmaSems sig S1x1 => m.squeeze S_ squeezes_S1x1_S_) (SemArray.slice_unit_congr _ (off165_eq v1 k) _ _)
@[sl_canon] theorem canon_wait_slot7 (v1 : BitVec 32) (k : Fin (k0_t3_loop v1).trips) (h hs) : (sW.slice (Rect.unit (s := S2x8x512x3072) (k0_off160 v1 k) S1x1x512x3072.size h) hs).squeeze S512x3072 squeezes_S1x1x512x3072_S512x3072 = wslot (par k.val) 7 :=
  congrArg (fun m : Memref sig .tc .vmem S1x1x512x3072 .fp8e4m3 => m.squeeze S512x3072 squeezes_S1x1x512x3072_S512x3072) (Memref.slice_unit_congr _ (off160_eq v1 k) _ _ _ fun _ => rfl)
@[sl_canon] theorem canon_start_slot7 (v1 : BitVec 32) (k : Fin (k0_t3_loop v1).trips) (h hs) : (sW.slice (Rect.unit (s := S2x8x512x3072) (k0_off166 v1 k) S1x1x512x3072.size h) hs).squeeze S512x3072 squeezes_S1x1x512x3072_S512x3072 = wslot (par k.val) 7 :=
  congrArg (fun m : Memref sig .tc .vmem S1x1x512x3072 .fp8e4m3 => m.squeeze S512x3072 squeezes_S1x1x512x3072_S512x3072) (Memref.slice_unit_congr _ (off166_eq v1 k) _ _ _ fun _ => rfl)

@[sl_canon] theorem canon_wait_src0 (v : BitVec 32) (h hs) : (mW.slice (Rect.unit (s := S16x4096x3072) (k0_off91 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off91 v = ![(ex v).val, 512 * ((0 : Fin 8).val), 0] by
    have h0 : v.toNat < 16 := by have := h 0; change v.toNat + 1 ≤ 16 at this; omega
    rw [ex_val v h0]; rfl) _ _ _ fun _ => rfl)
@[sl_canon] theorem canon_start_src0 (v : BitVec 32) (h hs) : (mW.slice (Rect.unit (s := S16x4096x3072) (k0_off97 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off97 v = ![(ex v).val, 512 * ((0 : Fin 8).val), 0] by
    have h0 : v.toNat < 16 := by have := h 0; change v.toNat + 1 ≤ 16 at this; omega
    rw [ex_val v h0]; rfl) _ _ _ fun _ => rfl)
@[sl_canon] theorem canon_wait_src1 (v : BitVec 32) (h hs) : (mW.slice (Rect.unit (s := S16x4096x3072) (k0_off101 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off101 v = ![(ex v).val, 512 * ((1 : Fin 8).val), 0] by
    have h0 : v.toNat < 16 := by have := h 0; change v.toNat + 1 ≤ 16 at this; omega
    rw [ex_val v h0]; rfl) _ _ _ fun _ => rfl)
@[sl_canon] theorem canon_start_src1 (v : BitVec 32) (h hs) : (mW.slice (Rect.unit (s := S16x4096x3072) (k0_off107 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off107 v = ![(ex v).val, 512 * ((1 : Fin 8).val), 0] by
    have h0 : v.toNat < 16 := by have := h 0; change v.toNat + 1 ≤ 16 at this; omega
    rw [ex_val v h0]; rfl) _ _ _ fun _ => rfl)
@[sl_canon] theorem canon_wait_src2 (v : BitVec 32) (h hs) : (mW.slice (Rect.unit (s := S16x4096x3072) (k0_off111 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off111 v = ![(ex v).val, 512 * ((2 : Fin 8).val), 0] by
    have h0 : v.toNat < 16 := by have := h 0; change v.toNat + 1 ≤ 16 at this; omega
    rw [ex_val v h0]; rfl) _ _ _ fun _ => rfl)
@[sl_canon] theorem canon_start_src2 (v : BitVec 32) (h hs) : (mW.slice (Rect.unit (s := S16x4096x3072) (k0_off117 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off117 v = ![(ex v).val, 512 * ((2 : Fin 8).val), 0] by
    have h0 : v.toNat < 16 := by have := h 0; change v.toNat + 1 ≤ 16 at this; omega
    rw [ex_val v h0]; rfl) _ _ _ fun _ => rfl)
@[sl_canon] theorem canon_wait_src3 (v : BitVec 32) (h hs) : (mW.slice (Rect.unit (s := S16x4096x3072) (k0_off121 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off121 v = ![(ex v).val, 512 * ((3 : Fin 8).val), 0] by
    have h0 : v.toNat < 16 := by have := h 0; change v.toNat + 1 ≤ 16 at this; omega
    rw [ex_val v h0]; rfl) _ _ _ fun _ => rfl)
@[sl_canon] theorem canon_start_src3 (v : BitVec 32) (h hs) : (mW.slice (Rect.unit (s := S16x4096x3072) (k0_off127 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off127 v = ![(ex v).val, 512 * ((3 : Fin 8).val), 0] by
    have h0 : v.toNat < 16 := by have := h 0; change v.toNat + 1 ≤ 16 at this; omega
    rw [ex_val v h0]; rfl) _ _ _ fun _ => rfl)
@[sl_canon] theorem canon_wait_src4 (v : BitVec 32) (h hs) : (mW.slice (Rect.unit (s := S16x4096x3072) (k0_off131 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off131 v = ![(ex v).val, 512 * ((4 : Fin 8).val), 0] by
    have h0 : v.toNat < 16 := by have := h 0; change v.toNat + 1 ≤ 16 at this; omega
    rw [ex_val v h0]; rfl) _ _ _ fun _ => rfl)
@[sl_canon] theorem canon_start_src4 (v : BitVec 32) (h hs) : (mW.slice (Rect.unit (s := S16x4096x3072) (k0_off137 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off137 v = ![(ex v).val, 512 * ((4 : Fin 8).val), 0] by
    have h0 : v.toNat < 16 := by have := h 0; change v.toNat + 1 ≤ 16 at this; omega
    rw [ex_val v h0]; rfl) _ _ _ fun _ => rfl)
@[sl_canon] theorem canon_wait_src5 (v : BitVec 32) (h hs) : (mW.slice (Rect.unit (s := S16x4096x3072) (k0_off141 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off141 v = ![(ex v).val, 512 * ((5 : Fin 8).val), 0] by
    have h0 : v.toNat < 16 := by have := h 0; change v.toNat + 1 ≤ 16 at this; omega
    rw [ex_val v h0]; rfl) _ _ _ fun _ => rfl)
@[sl_canon] theorem canon_start_src5 (v : BitVec 32) (h hs) : (mW.slice (Rect.unit (s := S16x4096x3072) (k0_off147 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off147 v = ![(ex v).val, 512 * ((5 : Fin 8).val), 0] by
    have h0 : v.toNat < 16 := by have := h 0; change v.toNat + 1 ≤ 16 at this; omega
    rw [ex_val v h0]; rfl) _ _ _ fun _ => rfl)
@[sl_canon] theorem canon_wait_src6 (v : BitVec 32) (h hs) : (mW.slice (Rect.unit (s := S16x4096x3072) (k0_off151 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off151 v = ![(ex v).val, 512 * ((6 : Fin 8).val), 0] by
    have h0 : v.toNat < 16 := by have := h 0; change v.toNat + 1 ≤ 16 at this; omega
    rw [ex_val v h0]; rfl) _ _ _ fun _ => rfl)
@[sl_canon] theorem canon_start_src6 (v : BitVec 32) (h hs) : (mW.slice (Rect.unit (s := S16x4096x3072) (k0_off157 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off157 v = ![(ex v).val, 512 * ((6 : Fin 8).val), 0] by
    have h0 : v.toNat < 16 := by have := h 0; change v.toNat + 1 ≤ 16 at this; omega
    rw [ex_val v h0]; rfl) _ _ _ fun _ => rfl)
@[sl_canon] theorem canon_wait_src7 (v : BitVec 32) (h hs) : (mW.slice (Rect.unit (s := S16x4096x3072) (k0_off161 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off161 v = ![(ex v).val, 512 * ((7 : Fin 8).val), 0] by
    have h0 : v.toNat < 16 := by have := h 0; change v.toNat + 1 ≤ 16 at this; omega
    rw [ex_val v h0]; rfl) _ _ _ fun _ => rfl)
@[sl_canon] theorem canon_start_src7 (v : BitVec 32) (h hs) : (mW.slice (Rect.unit (s := S16x4096x3072) (k0_off167 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off167 v = ![(ex v).val, 512 * ((7 : Fin 8).val), 0] by
    have h0 : v.toNat < 16 := by have := h 0; change v.toNat + 1 ≤ 16 at this; omega
    rw [ex_val v h0]; rfl) _ _ _ fun _ => rfl)
@[sl_canon] theorem canon_obrow (v : BitVec 32) (h hs) : (sOb.slice (Rect.unit (s := S16x8x3072) (k0_off170 v) S1x8x3072.size h) hs).squeeze S8x3072 squeezes_S1x8x3072_S8x3072 = obrow (ex v) :=
  congrArg (fun m : Memref sig .tc .vmem S1x8x3072 .bf16 => m.squeeze S8x3072 squeezes_S1x8x3072_S8x3072) (Memref.slice_unit_congr _ (show k0_off170 v = ![(ex v).val, 0, 0] by
    have h0 : v.toNat < 16 := by have := h 0; change v.toNat + 1 ≤ 16 at this; omega
    rw [ex_val v h0]; rfl) _ _ _ fun _ => rfl)
@[sl_canon] theorem canon_outrow (v : BitVec 32) (h hs) : (mOut.slice (Rect.unit (s := S16x8x3072) (k0_off170 v) S1x8x3072.size h) hs).squeeze S8x3072 squeezes_S1x8x3072_S8x3072 = outrow (ex v) :=
  congrArg (fun m : Memref sig .tc .hbm S1x8x3072 .bf16 => m.squeeze S8x3072 squeezes_S1x8x3072_S8x3072) (Memref.slice_unit_congr _ (show k0_off170 v = ![(ex v).val, 0, 0] by
    have h0 : v.toNat < 16 := by have := h 0; change v.toNat + 1 ≤ 16 at this; omega
    rw [ex_val v h0]; rfl) _ _ _ fun _ => rfl)
instance (v : BitVec 32) : ClosedOff (k0_off169 v) := ⟨![v.toNat, 0, 0], rfl⟩
instance (v : BitVec 32) : ClosedOff (k0_off170 v) := ⟨![v.toNat, 0, 0], rfl⟩

end Cert.KernelIdeal.Gen

end
-- ==== Proof.Chk.lean ====
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
theorem chk19_all : ∀ v : Fin 16, k0_chk19 (BitVec.ofNat 32 v.val) := by decide +kernel
theorem chk19_of (v : BitVec 32) (h : v.toNat < 16) : k0_chk19 v := by have := chk19_all ⟨v.toNat, h⟩; simpa using this
theorem chk20_all : ∀ v : Fin 16, k0_chk20 (BitVec.ofNat 32 v.val) := by decide +kernel
theorem chk20_of (v : BitVec 32) (h : v.toNat < 16) : k0_chk20 v := by have := chk20_all ⟨v.toNat, h⟩; simpa using this
theorem chk22_all : ∀ v : Fin 16, k0_chk22 (BitVec.ofNat 32 v.val) := by decide +kernel
theorem chk22_of (v : BitVec 32) (h : v.toNat < 16) : k0_chk22 v := by have := chk22_all ⟨v.toNat, h⟩; simpa using this
theorem chk24_all : ∀ v : Fin 16, k0_chk24 (BitVec.ofNat 32 v.val) := by decide +kernel
theorem chk24_of (v : BitVec 32) (h : v.toNat < 16) : k0_chk24 v := by have := chk24_all ⟨v.toNat, h⟩; simpa using this
theorem chk26_all : ∀ v : Fin 16, k0_chk26 (BitVec.ofNat 32 v.val) := by decide +kernel
theorem chk26_of (v : BitVec 32) (h : v.toNat < 16) : k0_chk26 v := by have := chk26_all ⟨v.toNat, h⟩; simpa using this
theorem chk28_all : ∀ v : Fin 16, k0_chk28 (BitVec.ofNat 32 v.val) := by decide +kernel
theorem chk28_of (v : BitVec 32) (h : v.toNat < 16) : k0_chk28 v := by have := chk28_all ⟨v.toNat, h⟩; simpa using this
theorem chk30_all : ∀ v : Fin 16, k0_chk30 (BitVec.ofNat 32 v.val) := by decide +kernel
theorem chk30_of (v : BitVec 32) (h : v.toNat < 16) : k0_chk30 v := by have := chk30_all ⟨v.toNat, h⟩; simpa using this
theorem chk32_all : ∀ v : Fin 16, k0_chk32 (BitVec.ofNat 32 v.val) := by decide +kernel
theorem chk32_of (v : BitVec 32) (h : v.toNat < 16) : k0_chk32 v := by have := chk32_all ⟨v.toNat, h⟩; simpa using this
theorem chk34_all : ∀ v : Fin 16, k0_chk34 (BitVec.ofNat 32 v.val) := by decide +kernel
theorem chk34_of (v : BitVec 32) (h : v.toNat < 16) : k0_chk34 v := by have := chk34_all ⟨v.toNat, h⟩; simpa using this
theorem chk21_all : ∀ v : Fin 16, (∀ a, (k0_off97 (BitVec.ofNat 32 v.val)) a + S1x512x3072.size a ≤ S16x4096x3072.size a) ∧ (∀ (hinb : ∀ a, (k0_off97 (BitVec.ofNat 32 v.val)) a + S1x512x3072.size a ≤ S16x4096x3072.size a), (Rect.unit (s := S16x4096x3072) (k0_off97 (BitVec.ofNat 32 v.val)) S1x512x3072.size hinb).WholeWords (EltTy.packing .fp8e4m3)) := by decide +kernel
theorem chk21_of (v1 : BitVec 32) (k : Fin (k0_t3_loop v1).trips) (v : BitVec 32) (h : k0_cond4 v1 k = 1#1 → v.toNat < 16) : k0_chk21 v1 k v := by
  have : k0_cond4 v1 k = 1#1 → (∀ a, (k0_off97 v) a + S1x512x3072.size a ≤ S16x4096x3072.size a) ∧ (∀ (hinb : ∀ a, (k0_off97 v) a + S1x512x3072.size a ≤ S16x4096x3072.size a), (Rect.unit (s := S16x4096x3072) (k0_off97 v) S1x512x3072.size hinb).WholeWords (EltTy.packing .fp8e4m3)) := by
    intro hc
    have := chk21_all ⟨v.toNat, h hc⟩
    simpa only [BitVec.ofNat_toNat, BitVec.setWidth_eq] using this
  exact ⟨fun hc => (this hc).1, fun hc => (this hc).2⟩
theorem chk23_all : ∀ v : Fin 16, (∀ a, (k0_off107 (BitVec.ofNat 32 v.val)) a + S1x512x3072.size a ≤ S16x4096x3072.size a) ∧ (∀ (hinb : ∀ a, (k0_off107 (BitVec.ofNat 32 v.val)) a + S1x512x3072.size a ≤ S16x4096x3072.size a), (Rect.unit (s := S16x4096x3072) (k0_off107 (BitVec.ofNat 32 v.val)) S1x512x3072.size hinb).WholeWords (EltTy.packing .fp8e4m3)) := by decide +kernel
theorem chk23_of (v1 : BitVec 32) (k : Fin (k0_t3_loop v1).trips) (v : BitVec 32) (h : k0_cond5 v1 k = 1#1 → v.toNat < 16) : k0_chk23 v1 k v := by
  have : k0_cond5 v1 k = 1#1 → (∀ a, (k0_off107 v) a + S1x512x3072.size a ≤ S16x4096x3072.size a) ∧ (∀ (hinb : ∀ a, (k0_off107 v) a + S1x512x3072.size a ≤ S16x4096x3072.size a), (Rect.unit (s := S16x4096x3072) (k0_off107 v) S1x512x3072.size hinb).WholeWords (EltTy.packing .fp8e4m3)) := by
    intro hc
    have := chk23_all ⟨v.toNat, h hc⟩
    simpa only [BitVec.ofNat_toNat, BitVec.setWidth_eq] using this
  exact ⟨fun hc => (this hc).1, fun hc => (this hc).2⟩
theorem chk25_all : ∀ v : Fin 16, (∀ a, (k0_off117 (BitVec.ofNat 32 v.val)) a + S1x512x3072.size a ≤ S16x4096x3072.size a) ∧ (∀ (hinb : ∀ a, (k0_off117 (BitVec.ofNat 32 v.val)) a + S1x512x3072.size a ≤ S16x4096x3072.size a), (Rect.unit (s := S16x4096x3072) (k0_off117 (BitVec.ofNat 32 v.val)) S1x512x3072.size hinb).WholeWords (EltTy.packing .fp8e4m3)) := by decide +kernel
theorem chk25_of (v1 : BitVec 32) (k : Fin (k0_t3_loop v1).trips) (v : BitVec 32) (h : k0_cond6 v1 k = 1#1 → v.toNat < 16) : k0_chk25 v1 k v := by
  have : k0_cond6 v1 k = 1#1 → (∀ a, (k0_off117 v) a + S1x512x3072.size a ≤ S16x4096x3072.size a) ∧ (∀ (hinb : ∀ a, (k0_off117 v) a + S1x512x3072.size a ≤ S16x4096x3072.size a), (Rect.unit (s := S16x4096x3072) (k0_off117 v) S1x512x3072.size hinb).WholeWords (EltTy.packing .fp8e4m3)) := by
    intro hc
    have := chk25_all ⟨v.toNat, h hc⟩
    simpa only [BitVec.ofNat_toNat, BitVec.setWidth_eq] using this
  exact ⟨fun hc => (this hc).1, fun hc => (this hc).2⟩
theorem chk27_all : ∀ v : Fin 16, (∀ a, (k0_off127 (BitVec.ofNat 32 v.val)) a + S1x512x3072.size a ≤ S16x4096x3072.size a) ∧ (∀ (hinb : ∀ a, (k0_off127 (BitVec.ofNat 32 v.val)) a + S1x512x3072.size a ≤ S16x4096x3072.size a), (Rect.unit (s := S16x4096x3072) (k0_off127 (BitVec.ofNat 32 v.val)) S1x512x3072.size hinb).WholeWords (EltTy.packing .fp8e4m3)) := by decide +kernel
theorem chk27_of (v1 : BitVec 32) (k : Fin (k0_t3_loop v1).trips) (v : BitVec 32) (h : k0_cond7 v1 k = 1#1 → v.toNat < 16) : k0_chk27 v1 k v := by
  have : k0_cond7 v1 k = 1#1 → (∀ a, (k0_off127 v) a + S1x512x3072.size a ≤ S16x4096x3072.size a) ∧ (∀ (hinb : ∀ a, (k0_off127 v) a + S1x512x3072.size a ≤ S16x4096x3072.size a), (Rect.unit (s := S16x4096x3072) (k0_off127 v) S1x512x3072.size hinb).WholeWords (EltTy.packing .fp8e4m3)) := by
    intro hc
    have := chk27_all ⟨v.toNat, h hc⟩
    simpa only [BitVec.ofNat_toNat, BitVec.setWidth_eq] using this
  exact ⟨fun hc => (this hc).1, fun hc => (this hc).2⟩
theorem chk29_all : ∀ v : Fin 16, (∀ a, (k0_off137 (BitVec.ofNat 32 v.val)) a + S1x512x3072.size a ≤ S16x4096x3072.size a) ∧ (∀ (hinb : ∀ a, (k0_off137 (BitVec.ofNat 32 v.val)) a + S1x512x3072.size a ≤ S16x4096x3072.size a), (Rect.unit (s := S16x4096x3072) (k0_off137 (BitVec.ofNat 32 v.val)) S1x512x3072.size hinb).WholeWords (EltTy.packing .fp8e4m3)) := by decide +kernel
theorem chk29_of (v1 : BitVec 32) (k : Fin (k0_t3_loop v1).trips) (v : BitVec 32) (h : k0_cond8 v1 k = 1#1 → v.toNat < 16) : k0_chk29 v1 k v := by
  have : k0_cond8 v1 k = 1#1 → (∀ a, (k0_off137 v) a + S1x512x3072.size a ≤ S16x4096x3072.size a) ∧ (∀ (hinb : ∀ a, (k0_off137 v) a + S1x512x3072.size a ≤ S16x4096x3072.size a), (Rect.unit (s := S16x4096x3072) (k0_off137 v) S1x512x3072.size hinb).WholeWords (EltTy.packing .fp8e4m3)) := by
    intro hc
    have := chk29_all ⟨v.toNat, h hc⟩
    simpa only [BitVec.ofNat_toNat, BitVec.setWidth_eq] using this
  exact ⟨fun hc => (this hc).1, fun hc => (this hc).2⟩
theorem chk31_all : ∀ v : Fin 16, (∀ a, (k0_off147 (BitVec.ofNat 32 v.val)) a + S1x512x3072.size a ≤ S16x4096x3072.size a) ∧ (∀ (hinb : ∀ a, (k0_off147 (BitVec.ofNat 32 v.val)) a + S1x512x3072.size a ≤ S16x4096x3072.size a), (Rect.unit (s := S16x4096x3072) (k0_off147 (BitVec.ofNat 32 v.val)) S1x512x3072.size hinb).WholeWords (EltTy.packing .fp8e4m3)) := by decide +kernel
theorem chk31_of (v1 : BitVec 32) (k : Fin (k0_t3_loop v1).trips) (v : BitVec 32) (h : k0_cond9 v1 k = 1#1 → v.toNat < 16) : k0_chk31 v1 k v := by
  have : k0_cond9 v1 k = 1#1 → (∀ a, (k0_off147 v) a + S1x512x3072.size a ≤ S16x4096x3072.size a) ∧ (∀ (hinb : ∀ a, (k0_off147 v) a + S1x512x3072.size a ≤ S16x4096x3072.size a), (Rect.unit (s := S16x4096x3072) (k0_off147 v) S1x512x3072.size hinb).WholeWords (EltTy.packing .fp8e4m3)) := by
    intro hc
    have := chk31_all ⟨v.toNat, h hc⟩
    simpa only [BitVec.ofNat_toNat, BitVec.setWidth_eq] using this
  exact ⟨fun hc => (this hc).1, fun hc => (this hc).2⟩
theorem chk33_all : ∀ v : Fin 16, (∀ a, (k0_off157 (BitVec.ofNat 32 v.val)) a + S1x512x3072.size a ≤ S16x4096x3072.size a) ∧ (∀ (hinb : ∀ a, (k0_off157 (BitVec.ofNat 32 v.val)) a + S1x512x3072.size a ≤ S16x4096x3072.size a), (Rect.unit (s := S16x4096x3072) (k0_off157 (BitVec.ofNat 32 v.val)) S1x512x3072.size hinb).WholeWords (EltTy.packing .fp8e4m3)) := by decide +kernel
theorem chk33_of (v1 : BitVec 32) (k : Fin (k0_t3_loop v1).trips) (v : BitVec 32) (h : k0_cond10 v1 k = 1#1 → v.toNat < 16) : k0_chk33 v1 k v := by
  have : k0_cond10 v1 k = 1#1 → (∀ a, (k0_off157 v) a + S1x512x3072.size a ≤ S16x4096x3072.size a) ∧ (∀ (hinb : ∀ a, (k0_off157 v) a + S1x512x3072.size a ≤ S16x4096x3072.size a), (Rect.unit (s := S16x4096x3072) (k0_off157 v) S1x512x3072.size hinb).WholeWords (EltTy.packing .fp8e4m3)) := by
    intro hc
    have := chk33_all ⟨v.toNat, h hc⟩
    simpa only [BitVec.ofNat_toNat, BitVec.setWidth_eq] using this
  exact ⟨fun hc => (this hc).1, fun hc => (this hc).2⟩
theorem chk35_all : ∀ v : Fin 16, (∀ a, (k0_off167 (BitVec.ofNat 32 v.val)) a + S1x512x3072.size a ≤ S16x4096x3072.size a) ∧ (∀ (hinb : ∀ a, (k0_off167 (BitVec.ofNat 32 v.val)) a + S1x512x3072.size a ≤ S16x4096x3072.size a), (Rect.unit (s := S16x4096x3072) (k0_off167 (BitVec.ofNat 32 v.val)) S1x512x3072.size hinb).WholeWords (EltTy.packing .fp8e4m3)) := by decide +kernel
theorem chk35_of (v1 : BitVec 32) (k : Fin (k0_t3_loop v1).trips) (v : BitVec 32) (h : k0_cond11 v1 k = 1#1 → v.toNat < 16) : k0_chk35 v1 k v := by
  have : k0_cond11 v1 k = 1#1 → (∀ a, (k0_off167 v) a + S1x512x3072.size a ≤ S16x4096x3072.size a) ∧ (∀ (hinb : ∀ a, (k0_off167 v) a + S1x512x3072.size a ≤ S16x4096x3072.size a), (Rect.unit (s := S16x4096x3072) (k0_off167 v) S1x512x3072.size hinb).WholeWords (EltTy.packing .fp8e4m3)) := by
    intro hc
    have := chk35_all ⟨v.toNat, h hc⟩
    simpa only [BitVec.ofNat_toNat, BitVec.setWidth_eq] using this
  exact ⟨fun hc => (this hc).1, fun hc => (this hc).2⟩
theorem chk2_all : ∀ v : Fin 16, (∀ a, (k0_off5 (BitVec.ofNat 32 v.val)) a + S1x512x3072.size a ≤ S16x4096x3072.size a) ∧ (∀ (hinb : ∀ a, (k0_off5 (BitVec.ofNat 32 v.val)) a + S1x512x3072.size a ≤ S16x4096x3072.size a), (Rect.unit (s := S16x4096x3072) (k0_off5 (BitVec.ofNat 32 v.val)) S1x512x3072.size hinb).WholeWords (EltTy.packing .fp8e4m3)) := by decide +kernel
theorem chk2_of (v1 : BitVec 32) (v : BitVec 32) (h : k0_cond1 v1 = 1#1 → v.toNat < 16) : k0_chk2 v1 v := by
  have : k0_cond1 v1 = 1#1 → (∀ a, (k0_off5 v) a + S1x512x3072.size a ≤ S16x4096x3072.size a) ∧ (∀ (hinb : ∀ a, (k0_off5 v) a + S1x512x3072.size a ≤ S16x4096x3072.size a), (Rect.unit (s := S16x4096x3072) (k0_off5 v) S1x512x3072.size hinb).WholeWords (EltTy.packing .fp8e4m3)) := by
    intro hc
    have := chk2_all ⟨v.toNat, h hc⟩
    simpa only [BitVec.ofNat_toNat, BitVec.setWidth_eq] using this
  exact ⟨fun hc => (this hc).1, fun hc => (this hc).2⟩
theorem chk3_all : ∀ v : Fin 16, (∀ a, (k0_off8 (BitVec.ofNat 32 v.val)) a + S1x512x3072.size a ≤ S16x4096x3072.size a) ∧ (∀ (hinb : ∀ a, (k0_off8 (BitVec.ofNat 32 v.val)) a + S1x512x3072.size a ≤ S16x4096x3072.size a), (Rect.unit (s := S16x4096x3072) (k0_off8 (BitVec.ofNat 32 v.val)) S1x512x3072.size hinb).WholeWords (EltTy.packing .fp8e4m3)) := by decide +kernel
theorem chk3_of (v1 : BitVec 32) (v : BitVec 32) (h : k0_cond1 v1 = 1#1 → v.toNat < 16) : k0_chk3 v1 v := by
  have : k0_cond1 v1 = 1#1 → (∀ a, (k0_off8 v) a + S1x512x3072.size a ≤ S16x4096x3072.size a) ∧ (∀ (hinb : ∀ a, (k0_off8 v) a + S1x512x3072.size a ≤ S16x4096x3072.size a), (Rect.unit (s := S16x4096x3072) (k0_off8 v) S1x512x3072.size hinb).WholeWords (EltTy.packing .fp8e4m3)) := by
    intro hc
    have := chk3_all ⟨v.toNat, h hc⟩
    simpa only [BitVec.ofNat_toNat, BitVec.setWidth_eq] using this
  exact ⟨fun hc => (this hc).1, fun hc => (this hc).2⟩
theorem chk4_all : ∀ v : Fin 16, (∀ a, (k0_off11 (BitVec.ofNat 32 v.val)) a + S1x512x3072.size a ≤ S16x4096x3072.size a) ∧ (∀ (hinb : ∀ a, (k0_off11 (BitVec.ofNat 32 v.val)) a + S1x512x3072.size a ≤ S16x4096x3072.size a), (Rect.unit (s := S16x4096x3072) (k0_off11 (BitVec.ofNat 32 v.val)) S1x512x3072.size hinb).WholeWords (EltTy.packing .fp8e4m3)) := by decide +kernel
theorem chk4_of (v1 : BitVec 32) (v : BitVec 32) (h : k0_cond1 v1 = 1#1 → v.toNat < 16) : k0_chk4 v1 v := by
  have : k0_cond1 v1 = 1#1 → (∀ a, (k0_off11 v) a + S1x512x3072.size a ≤ S16x4096x3072.size a) ∧ (∀ (hinb : ∀ a, (k0_off11 v) a + S1x512x3072.size a ≤ S16x4096x3072.size a), (Rect.unit (s := S16x4096x3072) (k0_off11 v) S1x512x3072.size hinb).WholeWords (EltTy.packing .fp8e4m3)) := by
    intro hc
    have := chk4_all ⟨v.toNat, h hc⟩
    simpa only [BitVec.ofNat_toNat, BitVec.setWidth_eq] using this
  exact ⟨fun hc => (this hc).1, fun hc => (this hc).2⟩
theorem chk5_all : ∀ v : Fin 16, (∀ a, (k0_off14 (BitVec.ofNat 32 v.val)) a + S1x512x3072.size a ≤ S16x4096x3072.size a) ∧ (∀ (hinb : ∀ a, (k0_off14 (BitVec.ofNat 32 v.val)) a + S1x512x3072.size a ≤ S16x4096x3072.size a), (Rect.unit (s := S16x4096x3072) (k0_off14 (BitVec.ofNat 32 v.val)) S1x512x3072.size hinb).WholeWords (EltTy.packing .fp8e4m3)) := by decide +kernel
theorem chk5_of (v1 : BitVec 32) (v : BitVec 32) (h : k0_cond1 v1 = 1#1 → v.toNat < 16) : k0_chk5 v1 v := by
  have : k0_cond1 v1 = 1#1 → (∀ a, (k0_off14 v) a + S1x512x3072.size a ≤ S16x4096x3072.size a) ∧ (∀ (hinb : ∀ a, (k0_off14 v) a + S1x512x3072.size a ≤ S16x4096x3072.size a), (Rect.unit (s := S16x4096x3072) (k0_off14 v) S1x512x3072.size hinb).WholeWords (EltTy.packing .fp8e4m3)) := by
    intro hc
    have := chk5_all ⟨v.toNat, h hc⟩
    simpa only [BitVec.ofNat_toNat, BitVec.setWidth_eq] using this
  exact ⟨fun hc => (this hc).1, fun hc => (this hc).2⟩
theorem chk6_all : ∀ v : Fin 16, (∀ a, (k0_off17 (BitVec.ofNat 32 v.val)) a + S1x512x3072.size a ≤ S16x4096x3072.size a) ∧ (∀ (hinb : ∀ a, (k0_off17 (BitVec.ofNat 32 v.val)) a + S1x512x3072.size a ≤ S16x4096x3072.size a), (Rect.unit (s := S16x4096x3072) (k0_off17 (BitVec.ofNat 32 v.val)) S1x512x3072.size hinb).WholeWords (EltTy.packing .fp8e4m3)) := by decide +kernel
theorem chk6_of (v1 : BitVec 32) (v : BitVec 32) (h : k0_cond1 v1 = 1#1 → v.toNat < 16) : k0_chk6 v1 v := by
  have : k0_cond1 v1 = 1#1 → (∀ a, (k0_off17 v) a + S1x512x3072.size a ≤ S16x4096x3072.size a) ∧ (∀ (hinb : ∀ a, (k0_off17 v) a + S1x512x3072.size a ≤ S16x4096x3072.size a), (Rect.unit (s := S16x4096x3072) (k0_off17 v) S1x512x3072.size hinb).WholeWords (EltTy.packing .fp8e4m3)) := by
    intro hc
    have := chk6_all ⟨v.toNat, h hc⟩
    simpa only [BitVec.ofNat_toNat, BitVec.setWidth_eq] using this
  exact ⟨fun hc => (this hc).1, fun hc => (this hc).2⟩
theorem chk7_all : ∀ v : Fin 16, (∀ a, (k0_off20 (BitVec.ofNat 32 v.val)) a + S1x512x3072.size a ≤ S16x4096x3072.size a) ∧ (∀ (hinb : ∀ a, (k0_off20 (BitVec.ofNat 32 v.val)) a + S1x512x3072.size a ≤ S16x4096x3072.size a), (Rect.unit (s := S16x4096x3072) (k0_off20 (BitVec.ofNat 32 v.val)) S1x512x3072.size hinb).WholeWords (EltTy.packing .fp8e4m3)) := by decide +kernel
theorem chk7_of (v1 : BitVec 32) (v : BitVec 32) (h : k0_cond1 v1 = 1#1 → v.toNat < 16) : k0_chk7 v1 v := by
  have : k0_cond1 v1 = 1#1 → (∀ a, (k0_off20 v) a + S1x512x3072.size a ≤ S16x4096x3072.size a) ∧ (∀ (hinb : ∀ a, (k0_off20 v) a + S1x512x3072.size a ≤ S16x4096x3072.size a), (Rect.unit (s := S16x4096x3072) (k0_off20 v) S1x512x3072.size hinb).WholeWords (EltTy.packing .fp8e4m3)) := by
    intro hc
    have := chk7_all ⟨v.toNat, h hc⟩
    simpa only [BitVec.ofNat_toNat, BitVec.setWidth_eq] using this
  exact ⟨fun hc => (this hc).1, fun hc => (this hc).2⟩
theorem chk8_all : ∀ v : Fin 16, (∀ a, (k0_off23 (BitVec.ofNat 32 v.val)) a + S1x512x3072.size a ≤ S16x4096x3072.size a) ∧ (∀ (hinb : ∀ a, (k0_off23 (BitVec.ofNat 32 v.val)) a + S1x512x3072.size a ≤ S16x4096x3072.size a), (Rect.unit (s := S16x4096x3072) (k0_off23 (BitVec.ofNat 32 v.val)) S1x512x3072.size hinb).WholeWords (EltTy.packing .fp8e4m3)) := by decide +kernel
theorem chk8_of (v1 : BitVec 32) (v : BitVec 32) (h : k0_cond1 v1 = 1#1 → v.toNat < 16) : k0_chk8 v1 v := by
  have : k0_cond1 v1 = 1#1 → (∀ a, (k0_off23 v) a + S1x512x3072.size a ≤ S16x4096x3072.size a) ∧ (∀ (hinb : ∀ a, (k0_off23 v) a + S1x512x3072.size a ≤ S16x4096x3072.size a), (Rect.unit (s := S16x4096x3072) (k0_off23 v) S1x512x3072.size hinb).WholeWords (EltTy.packing .fp8e4m3)) := by
    intro hc
    have := chk8_all ⟨v.toNat, h hc⟩
    simpa only [BitVec.ofNat_toNat, BitVec.setWidth_eq] using this
  exact ⟨fun hc => (this hc).1, fun hc => (this hc).2⟩
theorem chk9_all : ∀ v : Fin 16, (∀ a, (k0_off26 (BitVec.ofNat 32 v.val)) a + S1x512x3072.size a ≤ S16x4096x3072.size a) ∧ (∀ (hinb : ∀ a, (k0_off26 (BitVec.ofNat 32 v.val)) a + S1x512x3072.size a ≤ S16x4096x3072.size a), (Rect.unit (s := S16x4096x3072) (k0_off26 (BitVec.ofNat 32 v.val)) S1x512x3072.size hinb).WholeWords (EltTy.packing .fp8e4m3)) := by decide +kernel
theorem chk9_of (v1 : BitVec 32) (v : BitVec 32) (h : k0_cond1 v1 = 1#1 → v.toNat < 16) : k0_chk9 v1 v := by
  have : k0_cond1 v1 = 1#1 → (∀ a, (k0_off26 v) a + S1x512x3072.size a ≤ S16x4096x3072.size a) ∧ (∀ (hinb : ∀ a, (k0_off26 v) a + S1x512x3072.size a ≤ S16x4096x3072.size a), (Rect.unit (s := S16x4096x3072) (k0_off26 v) S1x512x3072.size hinb).WholeWords (EltTy.packing .fp8e4m3)) := by
    intro hc
    have := chk9_all ⟨v.toNat, h hc⟩
    simpa only [BitVec.ofNat_toNat, BitVec.setWidth_eq] using this
  exact ⟨fun hc => (this hc).1, fun hc => (this hc).2⟩
theorem chk10_all : ∀ v : Fin 16, (∀ a, (k0_off29 (BitVec.ofNat 32 v.val)) a + S1x512x3072.size a ≤ S16x4096x3072.size a) ∧ (∀ (hinb : ∀ a, (k0_off29 (BitVec.ofNat 32 v.val)) a + S1x512x3072.size a ≤ S16x4096x3072.size a), (Rect.unit (s := S16x4096x3072) (k0_off29 (BitVec.ofNat 32 v.val)) S1x512x3072.size hinb).WholeWords (EltTy.packing .fp8e4m3)) := by decide +kernel
theorem chk10_of (v1 : BitVec 32) (v : BitVec 32) (h : k0_cond2 v1 = 1#1 → v.toNat < 16) : k0_chk10 v1 v := by
  have : k0_cond2 v1 = 1#1 → (∀ a, (k0_off29 v) a + S1x512x3072.size a ≤ S16x4096x3072.size a) ∧ (∀ (hinb : ∀ a, (k0_off29 v) a + S1x512x3072.size a ≤ S16x4096x3072.size a), (Rect.unit (s := S16x4096x3072) (k0_off29 v) S1x512x3072.size hinb).WholeWords (EltTy.packing .fp8e4m3)) := by
    intro hc
    have := chk10_all ⟨v.toNat, h hc⟩
    simpa only [BitVec.ofNat_toNat, BitVec.setWidth_eq] using this
  exact ⟨fun hc => (this hc).1, fun hc => (this hc).2⟩
theorem chk11_all : ∀ v : Fin 16, (∀ a, (k0_off32 (BitVec.ofNat 32 v.val)) a + S1x512x3072.size a ≤ S16x4096x3072.size a) ∧ (∀ (hinb : ∀ a, (k0_off32 (BitVec.ofNat 32 v.val)) a + S1x512x3072.size a ≤ S16x4096x3072.size a), (Rect.unit (s := S16x4096x3072) (k0_off32 (BitVec.ofNat 32 v.val)) S1x512x3072.size hinb).WholeWords (EltTy.packing .fp8e4m3)) := by decide +kernel
theorem chk11_of (v1 : BitVec 32) (v : BitVec 32) (h : k0_cond2 v1 = 1#1 → v.toNat < 16) : k0_chk11 v1 v := by
  have : k0_cond2 v1 = 1#1 → (∀ a, (k0_off32 v) a + S1x512x3072.size a ≤ S16x4096x3072.size a) ∧ (∀ (hinb : ∀ a, (k0_off32 v) a + S1x512x3072.size a ≤ S16x4096x3072.size a), (Rect.unit (s := S16x4096x3072) (k0_off32 v) S1x512x3072.size hinb).WholeWords (EltTy.packing .fp8e4m3)) := by
    intro hc
    have := chk11_all ⟨v.toNat, h hc⟩
    simpa only [BitVec.ofNat_toNat, BitVec.setWidth_eq] using this
  exact ⟨fun hc => (this hc).1, fun hc => (this hc).2⟩
theorem chk12_all : ∀ v : Fin 16, (∀ a, (k0_off35 (BitVec.ofNat 32 v.val)) a + S1x512x3072.size a ≤ S16x4096x3072.size a) ∧ (∀ (hinb : ∀ a, (k0_off35 (BitVec.ofNat 32 v.val)) a + S1x512x3072.size a ≤ S16x4096x3072.size a), (Rect.unit (s := S16x4096x3072) (k0_off35 (BitVec.ofNat 32 v.val)) S1x512x3072.size hinb).WholeWords (EltTy.packing .fp8e4m3)) := by decide +kernel
theorem chk12_of (v1 : BitVec 32) (v : BitVec 32) (h : k0_cond2 v1 = 1#1 → v.toNat < 16) : k0_chk12 v1 v := by
  have : k0_cond2 v1 = 1#1 → (∀ a, (k0_off35 v) a + S1x512x3072.size a ≤ S16x4096x3072.size a) ∧ (∀ (hinb : ∀ a, (k0_off35 v) a + S1x512x3072.size a ≤ S16x4096x3072.size a), (Rect.unit (s := S16x4096x3072) (k0_off35 v) S1x512x3072.size hinb).WholeWords (EltTy.packing .fp8e4m3)) := by
    intro hc
    have := chk12_all ⟨v.toNat, h hc⟩
    simpa only [BitVec.ofNat_toNat, BitVec.setWidth_eq] using this
  exact ⟨fun hc => (this hc).1, fun hc => (this hc).2⟩
theorem chk13_all : ∀ v : Fin 16, (∀ a, (k0_off38 (BitVec.ofNat 32 v.val)) a + S1x512x3072.size a ≤ S16x4096x3072.size a) ∧ (∀ (hinb : ∀ a, (k0_off38 (BitVec.ofNat 32 v.val)) a + S1x512x3072.size a ≤ S16x4096x3072.size a), (Rect.unit (s := S16x4096x3072) (k0_off38 (BitVec.ofNat 32 v.val)) S1x512x3072.size hinb).WholeWords (EltTy.packing .fp8e4m3)) := by decide +kernel
theorem chk13_of (v1 : BitVec 32) (v : BitVec 32) (h : k0_cond2 v1 = 1#1 → v.toNat < 16) : k0_chk13 v1 v := by
  have : k0_cond2 v1 = 1#1 → (∀ a, (k0_off38 v) a + S1x512x3072.size a ≤ S16x4096x3072.size a) ∧ (∀ (hinb : ∀ a, (k0_off38 v) a + S1x512x3072.size a ≤ S16x4096x3072.size a), (Rect.unit (s := S16x4096x3072) (k0_off38 v) S1x512x3072.size hinb).WholeWords (EltTy.packing .fp8e4m3)) := by
    intro hc
    have := chk13_all ⟨v.toNat, h hc⟩
    simpa only [BitVec.ofNat_toNat, BitVec.setWidth_eq] using this
  exact ⟨fun hc => (this hc).1, fun hc => (this hc).2⟩
theorem chk14_all : ∀ v : Fin 16, (∀ a, (k0_off41 (BitVec.ofNat 32 v.val)) a + S1x512x3072.size a ≤ S16x4096x3072.size a) ∧ (∀ (hinb : ∀ a, (k0_off41 (BitVec.ofNat 32 v.val)) a + S1x512x3072.size a ≤ S16x4096x3072.size a), (Rect.unit (s := S16x4096x3072) (k0_off41 (BitVec.ofNat 32 v.val)) S1x512x3072.size hinb).WholeWords (EltTy.packing .fp8e4m3)) := by decide +kernel
theorem chk14_of (v1 : BitVec 32) (v : BitVec 32) (h : k0_cond2 v1 = 1#1 → v.toNat < 16) : k0_chk14 v1 v := by
  have : k0_cond2 v1 = 1#1 → (∀ a, (k0_off41 v) a + S1x512x3072.size a ≤ S16x4096x3072.size a) ∧ (∀ (hinb : ∀ a, (k0_off41 v) a + S1x512x3072.size a ≤ S16x4096x3072.size a), (Rect.unit (s := S16x4096x3072) (k0_off41 v) S1x512x3072.size hinb).WholeWords (EltTy.packing .fp8e4m3)) := by
    intro hc
    have := chk14_all ⟨v.toNat, h hc⟩
    simpa only [BitVec.ofNat_toNat, BitVec.setWidth_eq] using this
  exact ⟨fun hc => (this hc).1, fun hc => (this hc).2⟩
theorem chk15_all : ∀ v : Fin 16, (∀ a, (k0_off44 (BitVec.ofNat 32 v.val)) a + S1x512x3072.size a ≤ S16x4096x3072.size a) ∧ (∀ (hinb : ∀ a, (k0_off44 (BitVec.ofNat 32 v.val)) a + S1x512x3072.size a ≤ S16x4096x3072.size a), (Rect.unit (s := S16x4096x3072) (k0_off44 (BitVec.ofNat 32 v.val)) S1x512x3072.size hinb).WholeWords (EltTy.packing .fp8e4m3)) := by decide +kernel
theorem chk15_of (v1 : BitVec 32) (v : BitVec 32) (h : k0_cond2 v1 = 1#1 → v.toNat < 16) : k0_chk15 v1 v := by
  have : k0_cond2 v1 = 1#1 → (∀ a, (k0_off44 v) a + S1x512x3072.size a ≤ S16x4096x3072.size a) ∧ (∀ (hinb : ∀ a, (k0_off44 v) a + S1x512x3072.size a ≤ S16x4096x3072.size a), (Rect.unit (s := S16x4096x3072) (k0_off44 v) S1x512x3072.size hinb).WholeWords (EltTy.packing .fp8e4m3)) := by
    intro hc
    have := chk15_all ⟨v.toNat, h hc⟩
    simpa only [BitVec.ofNat_toNat, BitVec.setWidth_eq] using this
  exact ⟨fun hc => (this hc).1, fun hc => (this hc).2⟩
theorem chk16_all : ∀ v : Fin 16, (∀ a, (k0_off47 (BitVec.ofNat 32 v.val)) a + S1x512x3072.size a ≤ S16x4096x3072.size a) ∧ (∀ (hinb : ∀ a, (k0_off47 (BitVec.ofNat 32 v.val)) a + S1x512x3072.size a ≤ S16x4096x3072.size a), (Rect.unit (s := S16x4096x3072) (k0_off47 (BitVec.ofNat 32 v.val)) S1x512x3072.size hinb).WholeWords (EltTy.packing .fp8e4m3)) := by decide +kernel
theorem chk16_of (v1 : BitVec 32) (v : BitVec 32) (h : k0_cond2 v1 = 1#1 → v.toNat < 16) : k0_chk16 v1 v := by
  have : k0_cond2 v1 = 1#1 → (∀ a, (k0_off47 v) a + S1x512x3072.size a ≤ S16x4096x3072.size a) ∧ (∀ (hinb : ∀ a, (k0_off47 v) a + S1x512x3072.size a ≤ S16x4096x3072.size a), (Rect.unit (s := S16x4096x3072) (k0_off47 v) S1x512x3072.size hinb).WholeWords (EltTy.packing .fp8e4m3)) := by
    intro hc
    have := chk16_all ⟨v.toNat, h hc⟩
    simpa only [BitVec.ofNat_toNat, BitVec.setWidth_eq] using this
  exact ⟨fun hc => (this hc).1, fun hc => (this hc).2⟩
theorem chk17_all : ∀ v : Fin 16, (∀ a, (k0_off50 (BitVec.ofNat 32 v.val)) a + S1x512x3072.size a ≤ S16x4096x3072.size a) ∧ (∀ (hinb : ∀ a, (k0_off50 (BitVec.ofNat 32 v.val)) a + S1x512x3072.size a ≤ S16x4096x3072.size a), (Rect.unit (s := S16x4096x3072) (k0_off50 (BitVec.ofNat 32 v.val)) S1x512x3072.size hinb).WholeWords (EltTy.packing .fp8e4m3)) := by decide +kernel
theorem chk17_of (v1 : BitVec 32) (v : BitVec 32) (h : k0_cond2 v1 = 1#1 → v.toNat < 16) : k0_chk17 v1 v := by
  have : k0_cond2 v1 = 1#1 → (∀ a, (k0_off50 v) a + S1x512x3072.size a ≤ S16x4096x3072.size a) ∧ (∀ (hinb : ∀ a, (k0_off50 v) a + S1x512x3072.size a ≤ S16x4096x3072.size a), (Rect.unit (s := S16x4096x3072) (k0_off50 v) S1x512x3072.size hinb).WholeWords (EltTy.packing .fp8e4m3)) := by
    intro hc
    have := chk17_all ⟨v.toNat, h hc⟩
    simpa only [BitVec.ofNat_toNat, BitVec.setWidth_eq] using this
  exact ⟨fun hc => (this hc).1, fun hc => (this hc).2⟩
theorem chk1_of (v : BitVec 32) (h : v.toNat < 17) : k0_chk1 v := by
  have : ∀ v : Fin 17, k0_chk1 (BitVec.ofNat 32 v.val) := by decide +kernel
  have := this ⟨v.toNat, h⟩; simpa using this
theorem trips_all : ∀ v : Fin 17, (k0_t3_loop (BitVec.ofNat 32 v.val)).trips = v.val := by decide +kernel
theorem trips_of (v : BitVec 32) (h : v.toNat < 17) : (k0_t3_loop v).trips = v.toNat := by have := trips_all ⟨v.toNat, h⟩; simpa using this
theorem cond_all : ∀ v : Fin 17, ∀ k : Fin (k0_t3_loop (BitVec.ofNat 32 v.val)).trips, k0_cond11 (BitVec.ofNat 32 v.val) k = 1#1 ↔ k.val + 2 < (k0_t3_loop (BitVec.ofNat 32 v.val)).trips := by decide +kernel
theorem cond_lt {v : BitVec 32} (h : v.toNat < 17) (k : Fin (k0_t3_loop v).trips) : k0_cond11 v k = 1#1 ↔ k.val + 2 < (k0_t3_loop v).trips := by
  obtain ⟨w, rfl⟩ : ∃ w : Fin 17, v = BitVec.ofNat 32 w.val := ⟨⟨v.toNat, h⟩, by simp⟩
  exact cond_all w k
theorem chk18_all : ∀ v : Fin 17, k0_chk18 (BitVec.ofNat 32 v.val) := by decide +kernel
theorem chk18_of (v : BitVec 32) (h : v.toNat < 17) : k0_chk18 v := by have := chk18_all ⟨v.toNat, h⟩; simpa using this

end Cert.KernelIdeal.Gen

end
-- ==== Proof.Res.lean ====
module

public import proofs.«01_k».proof.Proof.Chk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev ptsW {sp : Space} {s : Shape} {e : EltTy} (c : Dev nD) (M : Memref sig .tc sp s e) (f : Buf (Elt F) (M.view.loc (c : Thread nD τ))) : sProp 𝕄 :=
  M.view.loc (c : Thread nD τ) ↦{fullShare} f
abbrev ptsS {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- A weight chunk's transfer in flight. -/
abbrev wflight (c : Dev nD) (s : Fin 2) (k : Fin 8) (D : sProp 𝕄) : sProp 𝕄 :=
  Transfers.Flight (countersEmb (U := Pipeline.UD sig nD τ)) (c : Thread nD τ) (SemLoc.dma (wcell s k).sem) () 49152 D

/-- The share of the weights a chunk's transfer reads by. -/
abbrev wtok (c : Dev nD) (s : Fin 2) (k : Fin 8) (S : Finset (Idx (mW.view.loc (c : Thread nD τ)))) (fw : Buf (Elt F) (mW.view.loc (c : Thread nD τ))) : sProp 𝕄 :=
  mW.view.loc (c : Thread nD τ) ↦[S]{Transfers.shareTok fullShare 20 (wcell s k).sem} fw

/-- A weight chunk at rest: its semaphore at zero, the chunk at anything, its share of the weights. -/
abbrev wfree (c : Dev nD) (fw : Buf (Elt F) (mW.view.loc (c : Thread nD τ))) (s : Fin 2) (k : Fin 8) : sProp 𝕄 :=
  iprop(semVal ((c : Thread nD τ), SemLoc.dma (wcell s k).sem) 0 ∗ (∃ f, ptsS c (wslot s k) f) ∗ wtok c s k Finset.univ fw)

/-- A weight chunk being filled with chunk `k` of expert `e`'s weights. -/
abbrev wfly (c : Dev nD) (fw : Buf (Elt F) (mW.view.loc (c : Thread nD τ))) (s : Fin 2) (e : Fin 16) (k : Fin 8) : sProp 𝕄 :=
  iprop((∃ f, wflight c s k iprop(ptsS c (wslot s k) ((wslot s k).view.writes (Elt F) f [⟨Rect.whole S512x3072, ReadAs.same.apply ((wsrc e k).view.read (Elt F) fw)⟩])
      ∗ wtok c s k (wsrc e k).view.set fw)) ∗ wtok c s k (Finset.univ \ (wsrc e k).view.set) fw)

/-- Entry `n` of the list of active experts is `e`. -/
def actIs {c : Dev nD} (fa : Buf (Elt F) (sAct.view.loc (c : Thread nD τ))) (n : Nat) (e : Fin 16) : Prop :=
  ∀ i : S17.Idx, (i 0).val = n → (fa i : BitVec 32).toNat = e.val

/-- A weight chunk being filled for entry `n` of the list of active experts. -/
abbrev wnext (c : Dev nD) (fw : Buf (Elt F) (mW.view.loc (c : Thread nD τ))) (fa : Buf (Elt F) (sAct.view.loc (c : Thread nD τ))) (n : Nat) (k : Fin 8) : sProp 𝕄 :=
  iprop(∃ e, ⌜actIs fa n e⌝ ∗ wfly c fw (par n) e k)

/-- A chunk at position `n` of the list: in flight if the list is that long, at rest otherwise. -/
def wst (c : Dev nD) (fw : Buf (Elt F) (mW.view.loc (c : Thread nD τ))) (fa : Buf (Elt F) (sAct.view.loc (c : Thread nD τ))) (b : Prop) [Decidable b] (n : Nat) (k : Fin 8) : sProp 𝕄 :=
  if b then wnext c fw fa n k else wfree c fw (par n) k

end Cert.KernelIdeal.Gen

end
-- ==== Proof.Rows.lean ====
module

public import proofs.«01_k».proof.Proof.Res

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The elements of row `e` of a whole output. -/
abbrev bset (e : Fin 16) : Finset S16x8x3072.Idx := (Rect.unit (s := S16x8x3072) ![e.val, 0, 0] S1x8x3072.size (row_inb e)).set
theorem mem_bset (b : Fin 16) (y : S16x8x3072.Idx) : y ∈ bset b ↔ (y 0).val = b.val := by
  rw [Rect.mem_set_unit]
  have h1 : (y 1).val < 8 := (y 1).isLt
  have h2 : (y 2).val < 3072 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 8; omega
    · show 0 ≤ (y 2).val ∧ (y 2).val < 0 + 3072; omega
theorem bset_disjoint : ∀ b b' : Fin 16, b ≠ b' → Disjoint (bset b) (bset b') := fun b b' hne => by
  rw [Finset.disjoint_left]; intro y hy hy'; rw [mem_bset] at hy hy'; exact hne (Fin.ext (by omega))
theorem bset_cover : Finset.univ.biUnion bset = Finset.univ := by
  ext y; simp only [Finset.mem_biUnion, Finset.mem_univ, true_and, iff_true]; exact ⟨y 0, (mem_bset _ _).mpr rfl⟩
theorem obrow_set (b : Fin 16) : (obrow b).view.set = bset b := by
  unfold obrow; exact (View.set_reshape _ _).trans (View.set_slice_whole _ _)
theorem outrow_set (b : Fin 16) : (outrow b).view.set = bset b := by
  unfold outrow; exact (View.set_reshape _ _).trans (View.set_slice_whole _ _)

/-- The whole staging buffer is its rows, and the whole output its rows. -/
theorem ob_rows (c : Dev nD) (f : Buf (Elt F) (sOb.view.loc (c : Thread nD τ))) : (ptsW c sOb f : sProp 𝕄) = bigSep Finset.univ fun e => ptsS c (obrow e) f := by
  refine (Ring.pointsTo_blocks (ℓ := sOb.view.loc (c : Thread nD τ)) (q := fullShare) bset bset_disjoint bset_cover f).trans ?_
  refine BI.bigSep_congr fun b _ => ?_
  show (sOb.view.loc (c : Thread nD τ) ↦[bset b]{fullShare} f : sProp 𝕄) = ptsS c (obrow b) f
  unfold ptsS; rw [obrow_set]; rfl
theorem out_rows (c : Dev nD) (f : Buf (Elt F) (mOut.view.loc (c : Thread nD τ))) : (ptsW c mOut f : sProp 𝕄) = bigSep Finset.univ fun e => ptsS c (outrow e) f := by
  refine (Ring.pointsTo_blocks (ℓ := mOut.view.loc (c : Thread nD τ)) (q := fullShare) bset bset_disjoint bset_cover f).trans ?_
  refine BI.bigSep_congr fun b _ => ?_
  show (mOut.view.loc (c : Thread nD τ) ↦[bset b]{fullShare} f : sProp 𝕄) = ptsS c (outrow b) f
  unfold ptsS; rw [outrow_set]; rfl

/-- The place inside its row of an element of the whole output. -/
def inrow (y : S16x8x3072.Idx) : S1x8x3072.Idx := fun a => ⟨if a.val = 0 then 0 else (y a).val, by
  fin_cases a
  · exact Nat.zero_lt_one
  · exact (y 1).isLt
  · exact (y 2).isLt⟩

/-- A whole buffer each of whose rows is `P`. -/
def obP (P : Vec F S1x8x3072 .bf16) : Vec F S16x8x3072 .bf16 := fun y => P (inrow y)

theorem store_row (c : Dev nD) (e : Fin 16) (off : Fin 3 → Nat) (ho : off = ![e.val, 0, 0]) (hin) (fob : Buf (Elt F) (sOb.view.loc (c : Thread nD τ))) (P : Vec F S1x8x3072 .bf16) :
    (ptsS c (obrow e) (View.write (Elt F) (sOb.access (Rect.unit (s := S16x8x3072) off S1x8x3072.size hin)) fob P Finset.univ) : sProp 𝕄) = ptsS c (obrow e) (obP P) := by
  subst ho
  refine pointsTo_congr fun (y : S16x8x3072.Idx) hy => ?_
  have hy : (y 0).val = e.val := (mem_bset e y).mp (by rw [← obrow_set e]; exact hy)
  have e1 : y = (sOb.access (Rect.unit (s := S16x8x3072) ![e.val, 0, 0] S1x8x3072.size hin)).emb (inrow y) := by
    funext a
    refine Fin.ext ?_
    fin_cases a
    · show (y 0).val = e.val + 1 * 0; omega
    · show (y 1).val = 0 + 1 * (y 1).val; omega
    · show (y 2).val = 0 + 1 * (y 2).val; omega
  conv_lhs => rw [e1]
  rw [View.write_emb_of_mem _ _ (Finset.mem_univ _)]
  rfl

/-- What row `e`'s copy out leaves in the output. -/
abbrev landed (c : Dev nD) (e : Fin 16) (fo : Buf (Elt F) ((outrow e).view.loc (c : Thread nD τ))) (P : Vec F S1x8x3072 .bf16) : Buf (Elt F) ((outrow e).view.loc (c : Thread nD τ)) :=
  (outrow e).view.write (Elt F) fo (ReadAs.same.apply ((obrow e).view.read (Elt F) (obP P))) Finset.univ

theorem landed_row (c : Dev nD) (e : Fin 16) (fo : Buf (Elt F) ((outrow e).view.loc (c : Thread nD τ))) (P : Vec F S1x8x3072 .bf16) (G : Buf (Elt F) ((outrow e).view.loc (c : Thread nD τ)))
    (hG : ∀ y : S16x8x3072.Idx, (y 0).val = e.val → G y = P (inrow y)) :
    (ptsS c (outrow e) (landed c e fo P) : sProp 𝕄) = ptsS c (outrow e) G := by
  refine pointsTo_congr fun (y : S16x8x3072.Idx) hy => ?_
  have hy' : (y 0).val = e.val := (mem_bset e y).mp (by rw [← outrow_set e]; exact hy)
  rw [show G y = P (inrow y) from hG y hy']
  obtain ⟨x, -, rfl⟩ := Finset.mem_map.mp hy
  refine (View.write_emb_of_mem (v := (outrow e).view) _ _ (Finset.mem_univ x)).trans ?_
  rfl

/-- The sixteen weight chunks of the weight buffer. -/
def wset (p : Fin 2 × Fin 8) : Finset S2x8x512x3072.Idx := (Rect.unit (s := S2x8x512x3072) ![p.1.val, p.2.val, 0, 0] S1x1x512x3072.size (slot_inb p.1 p.2)).set
theorem mem_wset (p : Fin 2 × Fin 8) (y : S2x8x512x3072.Idx) : y ∈ wset p ↔ (y 0).val = p.1.val ∧ (y 1).val = p.2.val := by
  unfold wset
  rw [Rect.mem_set_unit]
  have h2 : (y 2).val < 512 := (y 2).isLt
  have h3 : (y 3).val < 3072 := (y 3).isLt
  constructor
  · intro H
    have a0 : p.1.val ≤ (y 0).val ∧ (y 0).val < p.1.val + 1 := H 0
    have a1 : p.2.val ≤ (y 1).val ∧ (y 1).val < p.2.val + 1 := H 1
    omega
  · intro H a; fin_cases a
    · show p.1.val ≤ (y 0).val ∧ (y 0).val < p.1.val + 1; omega
    · show p.2.val ≤ (y 1).val ∧ (y 1).val < p.2.val + 1; omega
    · show 0 ≤ (y 2).val ∧ (y 2).val < 0 + 512; omega
    · show 0 ≤ (y 3).val ∧ (y 3).val < 0 + 3072; omega
theorem wset_disjoint : ∀ b b' : Fin 2 × Fin 8, b ≠ b' → Disjoint (wset b) (wset b') := fun b b' hne => by
  rw [Finset.disjoint_left]; intro y hy hy'; rw [mem_wset] at hy hy'; exact hne (Prod.ext (Fin.ext (by omega)) (Fin.ext (by omega)))
theorem wset_cover : Finset.univ.biUnion wset = Finset.univ := by
  ext y; simp only [Finset.mem_biUnion, Finset.mem_univ, true_and, iff_true]; exact ⟨(y 0, y 1), (mem_wset _ _).mpr ⟨rfl, rfl⟩⟩
theorem wslot_set (p : Fin 2 × Fin 8) : (wslot p.1 p.2).view.set = wset p := by
  unfold wslot wset; exact (View.set_reshape _ _).trans (View.set_slice_whole _ _)
theorem w_slots (c : Dev nD) (f : Buf (Elt F) (sW.view.loc (c : Thread nD τ))) : (ptsW c sW f : sProp 𝕄) ⊢ bigSep Finset.univ fun p : Fin 2 × Fin 8 => iprop(∃ f, ptsS c (wslot p.1 p.2) f) := by
  refine (Entails.of_eq (Ring.pointsTo_blocks (ℓ := sW.view.loc (c : Thread nD τ)) (q := fullShare) wset wset_disjoint wset_cover f)).trans ?_
  refine BI.bigSep_mono fun b _ => ?_
  show (sW.view.loc (c : Thread nD τ) ↦[wset b]{fullShare} f : sProp 𝕄) ⊢ iprop(∃ f, ptsS c (wslot b.1 b.2) f)
  unfold ptsS; rw [wslot_set]; iintro H; iexists f; iexact H
theorem w_slots_join (c : Dev nD) : (bigSep Finset.univ fun p : Fin 2 × Fin 8 => iprop(∃ f, ptsS c (wslot p.1 p.2) f)) ⊢ (iprop(∃ f, ptsW c sW f) : sProp 𝕄) := by
  refine BIBase.Entails.trans ?_ (Ring.pointsTo_blocks_join_exists (ℓ := sW.view.loc (c : Thread nD τ)) (q := fullShare) wset wset_disjoint wset_cover sW.view.junk)
  refine BI.bigSep_mono fun b _ => ?_
  show iprop(∃ f, ptsS c (wslot b.1 b.2) f) ⊢ (iprop(∃ f, sW.view.loc (c : Thread nD τ) ↦[wset b]{fullShare} f) : sProp 𝕄)
  unfold ptsS; rw [wslot_set]; exact .rfl
theorem ob_join (c : Dev nD) : (bigSep Finset.univ fun e => iprop(∃ f, ptsS c (obrow e) f)) ⊢ (iprop(∃ f, ptsW c sOb f) : sProp 𝕄) := by
  refine BIBase.Entails.trans ?_ (Ring.pointsTo_blocks_join_exists (ℓ := sOb.view.loc (c : Thread nD τ)) (q := fullShare) bset bset_disjoint bset_cover sOb.view.junk)
  refine BI.bigSep_mono fun b _ => ?_
  show iprop(∃ f, ptsS c (obrow b) f) ⊢ (iprop(∃ f, sOb.view.loc (c : Thread nD τ) ↦[bset b]{fullShare} f) : sProp 𝕄)
  unfold ptsS; rw [obrow_set]; exact .rfl

end Cert.KernelIdeal.Gen

end
-- ==== Proof.Seq.lean ====
module

public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The numbers below `n` that `p` holds of, in order. -/
def fl (p : Nat → Bool) (n : Nat) : List Nat := (List.range n).filter p
/-- How many numbers below `n` `p` holds of. -/
def cnt (p : Nat → Bool) (n : Nat) : Nat := (fl p n).length
theorem fl_succ (p : Nat → Bool) (n : Nat) : fl p (n + 1) = fl p n ++ (if p n then [n] else []) := by
  unfold fl; rw [List.range_succ, List.filter_append]; cases h : p n <;> simp [h]
theorem cnt_succ (p : Nat → Bool) (n : Nat) : cnt p (n + 1) = cnt p n + (if p n then 1 else 0) := by
  unfold cnt; rw [fl_succ, List.length_append]; cases h : p n <;> simp
theorem cnt_zero (p : Nat → Bool) : cnt p 0 = 0 := rfl
theorem cnt_le (p : Nat → Bool) : ∀ n, cnt p n ≤ n
  | 0 => Nat.le_refl _
  | n + 1 => by have := cnt_le p n; rw [cnt_succ]; split <;> omega
theorem cnt_mono (p : Nat → Bool) {m : Nat} : ∀ n, m ≤ n → cnt p m ≤ cnt p n
  | 0, h => by obtain rfl : m = 0 := by omega
               exact Nat.le_refl _
  | n + 1, h => by
    rcases Nat.lt_or_ge n m with h1 | h1
    · obtain rfl : m = n + 1 := by omega
      exact Nat.le_refl _
    · have := cnt_mono p n h1; rw [cnt_succ]; omega
theorem cnt_add (p : Nat → Bool) : ∀ n, cnt (fun i => !p i) n + cnt p n = n
  | 0 => rfl
  | n + 1 => by have := cnt_add p n; rw [cnt_succ, cnt_succ]; cases h : p n <;> simp <;> omega
theorem fl_get (p : Nat → Bool) (e : Nat) (he : p e = true) : ∀ n, e < n → (fl p n)[cnt p e]? = some e
  | 0, h => by omega
  | n + 1, h => by
    rw [fl_succ]
    rcases Nat.lt_or_ge e n with h1 | h1
    · have hl : cnt p e < (fl p n).length := by
        have := cnt_mono p n (show e + 1 ≤ n from h1); rw [cnt_succ, he] at this; show cnt p e < cnt p n; simp at this; omega
      rw [List.getElem?_append_left hl]; exact fl_get p e he n h1
    · obtain rfl : e = n := by omega
      rw [he, List.getElem?_append_right (show (fl p e).length ≤ cnt p e from Nat.le_refl _)]; simp [cnt]
theorem fl_lt (p : Nat → Bool) {n i e : Nat} (h : (fl p n)[i]? = some e) : e < n := by
  have := List.mem_of_getElem? h; unfold fl at this; simp at this; exact this.1
theorem fl_p (p : Nat → Bool) {n i e : Nat} (h : (fl p n)[i]? = some e) : p e = true := by
  have := List.mem_of_getElem? h; unfold fl at this; simp at this; exact this.2
theorem fl_ex (p : Nat → Bool) {n i : Nat} (h : i < cnt p n) : ∃ e, (fl p n)[i]? = some e := ⟨_, List.getElem?_eq_getElem h⟩
theorem fl_nodup (p : Nat → Bool) (n : Nat) : (fl p n).Nodup := List.Nodup.filter _ List.nodup_range

/-- The experts in the order their rows are copied out: those without rows, then those with rows. -/
def ordL (p : Nat → Bool) : List Nat := fl (fun i => !p i) 16 ++ fl p 16
theorem ordL_length (p : Nat → Bool) : (ordL p).length = 16 := by unfold ordL; rw [List.length_append]; exact cnt_add p 16
theorem ordL_nodup (p : Nat → Bool) : (ordL p).Nodup := by
  unfold ordL
  refine List.Nodup.append (fl_nodup _ _) (fl_nodup _ _) ?_
  intro x hx hy
  unfold fl at hx hy; simp at hx hy
  rw [hx.2] at hy; exact absurd hy.2 (by decide)
theorem ordL_lt (p : Nat → Bool) (i : Nat) (h : i < (ordL p).length) : (ordL p)[i] < 16 := by
  have h1 : ∀ x ∈ ordL p, x < 16 := by
    intro x hx; unfold ordL fl at hx; simp at hx; omega
  exact h1 _ (List.getElem_mem h)
/-- The expert whose row is copied out as number `t`. -/
def ord (p : Nat → Bool) (t : Fin 16) : Fin 16 := ⟨(ordL p)[t.val]'(by rw [ordL_length]; exact t.isLt), ordL_lt p _ _⟩
theorem ord_inj (p : Nat → Bool) : Function.Injective (ord p) := by
  intro a b h
  have h1 : (ordL p)[a.val]'(by rw [ordL_length]; exact a.isLt) = (ordL p)[b.val]'(by rw [ordL_length]; exact b.isLt) := congrArg Fin.val h
  exact Fin.ext ((ordL_nodup p).getElem_inj_iff.mp h1)
/-- The order as a permutation. -/
def ordE (p : Nat → Bool) : Fin 16 ≃ Fin 16 := Equiv.ofBijective (ord p) (Finite.injective_iff_bijective.mp (ord_inj p))
/-- How many experts have no rows. -/
def nE (p : Nat → Bool) : Nat := cnt (fun i => !p i) 16
theorem nE_add (p : Nat → Bool) : nE p + cnt p 16 = 16 := cnt_add p 16
theorem ord_empty (p : Nat → Bool) (e : Fin 16) (he : p e.val = false) (h : cnt (fun i => !p i) e.val < 16) : ord p ⟨cnt (fun i => !p i) e.val, h⟩ = e := by
  have h1 := fl_get (fun i => !p i) e.val (by simp [he]) 16 e.isLt
  refine Fin.ext ?_
  show (ordL p)[cnt (fun i => !p i) e.val]'_ = e.val
  have h2 : (ordL p)[cnt (fun i => !p i) e.val]? = some e.val := by
    unfold ordL
    rw [List.getElem?_append_left (List.getElem?_eq_some_iff.mp h1).1]; exact h1
  exact (List.getElem?_eq_some_iff.mp h2).2
theorem ord_act (p : Nat → Bool) (k : Nat) (hk : nE p + k < 16) : (fl p 16)[k]? = some (ord p ⟨nE p + k, hk⟩).val := by
  have hk2 : k < (fl p 16).length := by have := nE_add p; show k < cnt p 16; omega
  have h2 : (ordL p)[nE p + k]? = (fl p 16)[k]? := by
    unfold ordL
    show (fl (fun i => !p i) 16 ++ fl p 16)[(fl (fun i => !p i) 16).length + k]? = _
    rw [List.getElem?_append_right (Nat.le_add_right _ _), Nat.add_sub_cancel_left]
  rw [← h2]
  exact List.getElem?_eq_getElem _

/-- Entry `n` of an array of sixteen. -/
def ix16 (n : Nat) (h : n < 16) : S16.Idx := fun a => ⟨n, by obtain rfl : a = 0 := Subsingleton.elim _ _; exact h⟩
/-- Which experts have rows, by the group sizes. -/
def isAct {c : Dev nD} (fg : Buf (Elt F) (sGs.view.loc (c : Thread nD τ))) (n : Nat) : Bool :=
  if h : n < 16 then decide (0 < (fg (ix16 n h) : BitVec 32).toInt) else false

/-- The list of active experts as it stands after the first `n` experts, `v` its length. -/
def actSpec {c : Dev nD} (fa : Buf (Elt F) (sAct.view.loc (c : Thread nD τ))) (p : Nat → Bool) (n : Nat) (v : BitVec 32) : Prop :=
  v.toNat = cnt p n ∧ ∀ i : S17.Idx, ∀ e, (fl p n)[(i 0).val]? = some e → (fa i : BitVec 32).toNat = e

theorem actSpec_lt {c : Dev nD} {fa : Buf (Elt F) (sAct.view.loc (c : Thread nD τ))} {p : Nat → Bool} {v : BitVec 32} (h : actSpec fa p 16 v) : v.toNat < 17 := by
  have := cnt_le p 16; have := h.1; omega
theorem actSpec_act {c : Dev nD} {fa : Buf (Elt F) (sAct.view.loc (c : Thread nD τ))} {p : Nat → Bool} {v : BitVec 32} (h : actSpec fa p 16 v) :
    ∀ i : S17.Idx, (i 0).val < v.toNat → (fa i : BitVec 32).toNat < 16 := by
  intro i hi
  rw [h.1] at hi
  obtain ⟨e, he⟩ := fl_ex p hi
  rw [h.2 i e he]; exact fl_lt p he
theorem actSpec_is {c : Dev nD} {fa : Buf (Elt F) (sAct.view.loc (c : Thread nD τ))} {p : Nat → Bool} {v : BitVec 32} (h : actSpec fa p 16 v) (k : Nat) (hk : nE p + k < 16) :
    actIs fa k (ord p ⟨nE p + k, hk⟩) := by
  intro i hi
  refine h.2 i _ ?_
  rw [hi]; exact ord_act p k hk

theorem sgt_zero (v : BitVec 32) : (Scalar.extui (Scalar.cmpi .sgt v 0#32) : BitVec 32).toNat = if 0 < v.toInt then 1 else 0 := by
  have h0 : (0#32 : BitVec 32).toInt = 0 := by decide
  by_cases h : 0 < v.toInt
  · have : Scalar.cmpi .sgt v 0#32 = 1#1 := by
      show BitVec.ofBool (decide ((0#32 : BitVec 32).toInt < v.toInt)) = 1#1
      rw [h0, decide_eq_true h]; rfl
    rw [this, if_pos h]; rfl
  · have : Scalar.cmpi .sgt v 0#32 = 0#1 := by
      show BitVec.ofBool (decide ((0#32 : BitVec 32).toInt < v.toInt)) = 0#1
      rw [h0, decide_eq_false h]; rfl
    rw [this, if_neg h]; rfl

theorem gs_read {c : Dev nD} (fg : Buf (Elt F) (sGs.view.loc (c : Thread nD τ))) (n : Nat) (hn : n < 16) (off : Fin 1 → Nat) (ho : off 0 = n) (hi) (p) :
    (View.readAt (Elt F) sGs.view (Rect.unit (s := S16) off S1.size hi).toLoadRect fg (Shape.Idx.first p) : BitVec 32) = fg (ix16 n hn) := by
  have e1 : ix16 n hn = (sGs.view.emb ((Rect.unit (s := S16) off S1.size hi).toLoadRect.idx (Shape.Idx.first p))) := by
    funext a
    obtain rfl : a = 0 := Subsingleton.elim _ _
    refine Fin.ext ?_
    show n = off 0 + 1 * (Shape.Idx.first p 0).val
    have h2 : (Shape.Idx.first p 0).val < 1 := (Shape.Idx.first p 0).isLt
    omega
  rw [e1]; rfl
theorem gs_sgt {c : Dev nD} (fg : Buf (Elt F) (sGs.view.loc (c : Thread nD τ))) (n : Nat) (hn : n < 16) (off : Fin 1 → Nat) (ho : off 0 = n) (hi) (p) :
    (Scalar.extui (Scalar.cmpi .sgt (View.readAt (Elt F) sGs.view (Rect.unit (s := S16) off S1.size hi).toLoadRect fg (Shape.Idx.first p) : BitVec 32) 0#32) : BitVec 32).toNat = if isAct fg n then 1 else 0 := by
  rw [sgt_zero, gs_read fg n hn off ho hi p]
  unfold isAct; rw [dif_pos hn]; simp only [decide_eq_true_eq]
theorem gs_sle {c : Dev nD} (fg : Buf (Elt F) (sGs.view.loc (c : Thread nD τ))) (n : Nat) (hn : n < 16) (off : Fin 1 → Nat) (ho : off 0 = n) (hi) (p) :
    Scalar.cmpi .ne (Scalar.extui (Scalar.cmpi .sle (View.readAt (Elt F) sGs.view (Rect.unit (s := S16) off S1.size hi).toLoadRect fg (Shape.Idx.first p) : BitVec 32) 0#32) : BitVec 32) 0#32 = 1#1 ↔ isAct fg n = false := by
  rw [gs_read fg n hn off ho hi p]
  unfold isAct; rw [dif_pos hn]
  generalize (fg (ix16 n hn) : BitVec 32) = v
  have h0 : (0#32 : BitVec 32).toInt = 0 := by decide
  by_cases h : 0 < v.toInt
  · have : Scalar.cmpi .sle v 0#32 = 0#1 := by
      show BitVec.ofBool (decide (v.toInt ≤ (0#32 : BitVec 32).toInt)) = 0#1
      rw [h0, decide_eq_false (by omega)]; rfl
    rw [this, decide_eq_true h]; decide
  · have : Scalar.cmpi .sle v 0#32 = 1#1 := by
      show BitVec.ofBool (decide (v.toInt ≤ (0#32 : BitVec 32).toInt)) = 1#1
      rw [h0, decide_eq_true (by omega)]; rfl
    rw [this, decide_eq_false h]; decide

/-- One step of building the list. -/
theorem actSpec_step {c : Dev nD} (fa : Buf (Elt F) (sAct.view.loc (c : Thread nD τ))) (p : Nat → Bool) (n : Nat) (hn : n < 16) (v : BitVec 32) (h : actSpec fa p n v)
    (b : BitVec 32) (hb : b.toNat = if p n then 1 else 0) (off : Fin 1 → Nat) (ho : off 0 = v.toNat) (hi) :
    actSpec (c := c) (View.write (Elt F) (sAct.access (Rect.unit (s := S17) off S1.size hi)) fa (fun _ => Scf.iv 0#32 1#32 n) Finset.univ) p (n + 1) (Scalar.addi v b) := by
  have hv := h.1
  have hle := cnt_le p n
  refine ⟨?_, ?_⟩
  · show (v + b).toNat = _
    rw [BitVec.toNat_add, cnt_succ, hv, hb]
    split <;> omega
  · intro i e hie
    have key : ∀ f : Buf (Elt F) (sAct.view.loc (c : Thread nD τ)), f = View.write (Elt F) (sAct.access (Rect.unit (s := S17) off S1.size hi)) fa (fun _ => Scf.iv 0#32 1#32 n) Finset.univ →
        (((i 0).val = v.toNat → (f i : BitVec 32) = Scf.iv 0#32 1#32 n) ∧ ((i 0).val ≠ v.toNat → f i = fa i)) := by
      rintro f rfl
      constructor
      · intro hi0
        have e1 : i = (sAct.access (Rect.unit (s := S17) off S1.size hi)).emb (fun a => ⟨0, by obtain rfl : a = 0 := Subsingleton.elim _ _; exact Nat.zero_lt_one⟩) := by
          funext a
          obtain rfl : a = 0 := Subsingleton.elim _ _
          refine Fin.ext ?_
          show (i 0).val = off 0 + 1 * 0
          omega
        rw [e1, View.write_emb_of_mem _ _ (Finset.mem_univ _)]
        rfl
      · intro hi0
        refine View.write_of_not_mem _ _ _ ?_
        intro hm
        obtain ⟨x, -, hx⟩ := Finset.mem_map.mp hm
        have := congrArg (fun y : S17.Idx => (y 0).val) hx
        have h2 : (x 0).val < 1 := (x 0).isLt
        have h3 : off 0 + 1 * (x 0).val = (i 0).val := this
        omega
    obtain ⟨k1, k2⟩ := key _ rfl
    rw [fl_succ] at hie
    rcases Nat.lt_or_ge (i 0).val (fl p n).length with h1 | h1
    · rw [List.getElem?_append_left h1] at hie
      rw [k2 (by rw [hv]; exact Nat.ne_of_lt h1)]
      exact h.2 i e hie
    · rw [List.getElem?_append_right h1] at hie
      cases hp : p n
      · rw [hp] at hie; simp at hie
      · rw [hp] at hie
        have h0 : (i 0).val - (fl p n).length = 0 := by
          by_contra hne
          simp only [if_true] at hie
          rw [List.getElem?_eq_none (by simp; omega)] at hie; exact absurd hie (by simp)
        rw [h0] at hie
        simp at hie
        subst hie
        rw [k1 (by rw [hv]; show (i 0).val = (fl p n).length; omega)]
        exact toNat_iv01 n (by omega)

/-- The loop that lists the experts with rows: at trip `n` the list of those below `n`. -/
def t1Inv (c : Dev nD) (fg : Buf (Elt F) (sGs.view.loc (c : Thread nD τ))) (n : Nat) (v : BitVec 32) : sProp 𝕄 :=
  iprop(ptsW c sGs fg ∗ ∃ fa, ptsW c sAct fa ∗ ⌜n ≤ 16 ∧ actSpec fa (isAct fg) n v⌝)

set_option maxHeartbeats 4000000 in
theorem t1_step (c : Dev nD) (fg : Buf (Elt F) (sGs.view.loc (c : Thread nD τ))) (k : Fin k0_t1_loop.trips) (v : BitVec 32) :
    t1Inv c fg k.val v ⊢ wp frame (wpE (defs₀ (F := F)) Variants.none (c : Thread nD τ) none) Set.univ
      (k0_t1_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k v) (t1Inv c fg (k.val + 1)) := by
  have hk : k.val < 16 := k.isLt
  unfold t1Inv
  iintro ⟨HG, %fa, HA, %hs⟩
  have hlt : v.toNat < 17 := by have := cnt_le (isAct fg) k.val; have := hs.2.1; omega
  unfold k0_t1_body
  sl_exec (disch := exact chk1_of _ hlt)
  sl_step
  isplitl [HG]; iexact HG
  iexists _
  isplitl [HA]; iexact HA
  ipureintro
  refine ⟨hk, actSpec_step fa (isAct fg) k.val hk v hs.2 _ ?_ (k0_off1 v) rfl (k0_off1_inb v (chk1_of _ hlt))⟩
  exact gs_sgt fg k.val hk (k0_off2 k) (toNat_iv01 k.val (by omega)) _ _

end Cert.KernelIdeal.Gen

end
-- ==== Proof.Steps.lean ====
module

public import proofs.«01_k».proof.Proof.Seq

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copy of row `e` out of the staging buffer. -/
abbrev outTail (e : Fin 16) (h₁ : (obrow e).view.WordExact) (h₂ : (outrow e).view.WordExact) : Prog (TpuEff nD τ sig (Elt F) Λ₀ .tc) Unit :=
  Prog.op (TpuEff.enqueueDma (obrow e) (DmaTarget.here (outrow e)) (SemLoc.dma cc0_scratch12.sem) h₁ h₂ ⟨Or.inl rfl, trivial⟩) fun _ => Pure.pure PUnit.unit

/-- The expert of a trip of the loop over all experts. -/
def r2 (k : Fin k0_t2_loop.trips) : Fin 16 := ⟨k.val, k.isLt⟩
def r5 (k : Fin k0_t5_loop.trips) : Fin 16 := ⟨k.val, k.isLt⟩
theorem off52_eq (k : Fin k0_t2_loop.trips) : k0_off52 k = ![(r2 k).val, 0, 0] := congrArg (fun n => (![n, 0, 0] : Fin 3 → Nat)) (toNat_iv01 k.val (by have : k.val < 16 := k.isLt; omega))
theorem off53_eq (k : Fin k0_t2_loop.trips) : k0_off53 k = ![(r2 k).val, 0, 0] := congrArg (fun n => (![n, 0, 0] : Fin 3 → Nat)) (toNat_iv01 k.val (by have : k.val < 16 := k.isLt; omega))
theorem off288_eq (k : Fin k0_t5_loop.trips) : k0_off288 k = ![(r5 k).val, 0, 0] := congrArg (fun n => (![n, 0, 0] : Fin 3 → Nat)) (toNat_iv01 k.val (by have : k.val < 16 := k.isLt; omega))
instance (k : Fin k0_t2_loop.trips) : ClosedOff (k0_off52 k) := ⟨![(r2 k).val, 0, 0], off52_eq k⟩
instance (k : Fin k0_t2_loop.trips) : ClosedOff (k0_off53 k) := ⟨![(r2 k).val, 0, 0], off53_eq k⟩
instance (k : Fin k0_t5_loop.trips) : ClosedOff (k0_off288 k) := ⟨![(r5 k).val, 0, 0], off288_eq k⟩
@[sl_canon] theorem canon_obrow2 (k : Fin k0_t2_loop.trips) (h hs) : (sOb.slice (Rect.unit (s := S16x8x3072) (k0_off53 k) S1x8x3072.size h) hs).squeeze S8x3072 squeezes_S1x8x3072_S8x3072 = obrow (r2 k) :=
  congrArg (fun m : Memref sig .tc .vmem S1x8x3072 .bf16 => m.squeeze S8x3072 squeezes_S1x8x3072_S8x3072) (Memref.slice_unit_congr _ (off53_eq k) _ _ _ fun _ => rfl)
@[sl_canon] theorem canon_outrow2 (k : Fin k0_t2_loop.trips) (h hs) : (mOut.slice (Rect.unit (s := S16x8x3072) (k0_off53 k) S1x8x3072.size h) hs).squeeze S8x3072 squeezes_S1x8x3072_S8x3072 = outrow (r2 k) :=
  congrArg (fun m : Memref sig .tc .hbm S1x8x3072 .bf16 => m.squeeze S8x3072 squeezes_S1x8x3072_S8x3072) (Memref.slice_unit_congr _ (off53_eq k) _ _ _ fun _ => rfl)
@[sl_canon] theorem canon_obrow5 (k : Fin k0_t5_loop.trips) (h hs) : (sOb.slice (Rect.unit (s := S16x8x3072) (k0_off288 k) S1x8x3072.size h) hs).squeeze S8x3072 squeezes_S1x8x3072_S8x3072 = obrow (r5 k) :=
  congrArg (fun m : Memref sig .tc .vmem S1x8x3072 .bf16 => m.squeeze S8x3072 squeezes_S1x8x3072_S8x3072) (Memref.slice_unit_congr _ (off288_eq k) _ _ _ fun _ => rfl)
@[sl_canon] theorem canon_outrow5 (k : Fin k0_t5_loop.trips) (h hs) : (mOut.slice (Rect.unit (s := S16x8x3072) (k0_off288 k) S1x8x3072.size h) hs).squeeze S8x3072 squeezes_S1x8x3072_S8x3072 = outrow (r5 k) :=
  congrArg (fun m : Memref sig .tc .hbm S1x8x3072 .bf16 => m.squeeze S8x3072 squeezes_S1x8x3072_S8x3072) (Memref.slice_unit_congr _ (off288_eq k) _ _ _ fun _ => rfl)

/-- What the copy out number `t` leaves: its row of the output and the staging row it was read from. -/
def dlv (c : Dev nD) (p : Nat → Bool) (fo : Buf (Elt F) (mOut.view.loc (c : Thread nD τ))) (Pt : Fin 16 → Vec F S1x8x3072 .bf16) (t : Fin 16) : sProp 𝕄 :=
  iprop(ptsS c (outrow (ord p t)) (landed c (ord p t) fo (Pt t)) ∗ ptsS c (obrow (ord p t)) (obP (Pt t)))
theorem storable_ptsS {sp : Space} {s : Shape} {e : EltTy} (c : Dev nD) (M : Memref sig .tc sp s e) (f : Buf (Elt F) (M.view.loc (c : Thread nD τ))) :
    BI.Storable (upEmb : UEmb _ 𝕄) (ptsS c M f) := inferInstance
instance dlv_storable (c : Dev nD) (p : Nat → Bool) (fo : Buf (Elt F) (mOut.view.loc (c : Thread nD τ))) (Pt : Fin 16 → Vec F S1x8x3072 .bf16) (t : Fin 16) :
    BI.Storable (upEmb : UEmb _ 𝕄) (dlv c p fo Pt t) := by
  unfold dlv
  haveI := storable_ptsS c (outrow (ord p t)) (landed c (ord p t) fo (Pt t))
  haveI := storable_ptsS c (obrow (ord p t)) (obP (Pt t))
  infer_instance
/-- The sixteen copies out, `j` of them started and `u` units of them waited for. -/
abbrev obatch (c : Dev nD) (p : Nat → Bool) (fo : Buf (Elt F) (mOut.view.loc (c : Thread nD τ))) (Pt : Fin 16 → Vec F S1x8x3072 .bf16) (j u : Nat) : sProp 𝕄 :=
  Transfers.Batch (countersEmb (U := Pipeline.UD sig nD τ)) (c : Thread nD τ) (SemLoc.dma cc0_scratch12.sem) () 1536 (dlv c p fo Pt) j u
/-- The rows not copied out yet. -/
abbrev orows (c : Dev nD) (p : Nat → Bool) (fo : Buf (Elt F) (mOut.view.loc (c : Thread nD τ))) (j : Nat) : sProp 𝕄 :=
  bigSep (Ring.rangeSet 16 j 16) fun t => iprop((∃ f, ptsS c (obrow (ord p t)) f) ∗ ptsS c (outrow (ord p t)) fo)

theorem dlv_intro (c : Dev nD) (p : Nat → Bool) (fo : Buf (Elt F) (mOut.view.loc (c : Thread nD τ))) (Pt : Fin 16 → Vec F S1x8x3072 .bf16) (t : Fin 16) :
    iprop(((outrow (ord p t)).view.loc (c : Thread nD τ) ↦[(outrow (ord p t)).view.set]{fullShare} (outrow (ord p t)).view.write (Elt F) fo (ReadAs.same.apply ((obrow (ord p t)).view.read (Elt F) (obP (Pt t)))) Finset.univ)
      ∗ ((obrow (ord p t)).view.loc (c : Thread nD τ) ↦[(obrow (ord p t)).view.set]{fullShare} obP (Pt t))) ⊢ dlv c p fo Pt t := by
  unfold dlv landed
  exact .rfl

theorem amount_out {e : Fin 16} : (outrow e).view.amount (SemLoc.dma cc0_scratch12.sem) = 1536 := by rfl

theorem tail_issue (c : Dev nD) (p : Nat → Bool) (fo : Buf (Elt F) (mOut.view.loc (c : Thread nD τ))) (Pt : Fin 16 → Vec F S1x8x3072 .bf16) (j : Nat) (hj : j < 16) (e : Fin 16) (he : ord p ⟨j, hj⟩ = e) (h₁ h₂) (K : Unit → sProp 𝕄) :
    iprop(ptsS c (obrow e) (obP (Pt ⟨j, hj⟩)) ∗ ptsS c (outrow e) fo ∗ obatch c p fo Pt j 0 ∗ (obatch c p fo Pt (j + 1) 0 -∗ K ()))
      ⊢ wp frame (wpE (defs₀ (F := F)) Variants.none (c : Thread nD τ) none) Set.univ (outTail e h₁ h₂) K := by
  subst he
  iintro ⟨H1, H2, HB, HK⟩
  iapply (Transfers.wp_dmaBatch (countersEmb (U := Pipeline.UD sig nD τ)) Variants.none (c : Thread nD τ) none (src := obrow (ord p ⟨j, hj⟩)) (dst := outrow (ord p ⟨j, hj⟩)) (D := dlv c p fo Pt) (j := j) (u := 0) () 1536 amount_out (Finset.Subset.refl _) hj (Nat.zero_le _) (dlv_intro c p fo Pt ⟨j, hj⟩)) $$ [H1 H2 HB]
  · isplitl [H1]; iexact H1
    isplitl [H2]; iexact H2
    iexact HB
  iintro HB
  sl_step
  iapply HK
  iexact HB

set_option maxHeartbeats 4000000 in
theorem t2_trip (c : Dev nD) (fg : Buf (Elt F) (sGs.view.loc (c : Thread nD τ))) (k : Fin k0_t2_loop.trips) (ha : isAct fg k.val = false) (h₁ h₂ hin)
    (fob : Buf (Elt F) ((obrow (r2 k)).view.loc (c : Thread nD τ))) (K : Unit → sProp 𝕄) :
    iprop(ptsW c sGs fg ∗ ptsS c (obrow (r2 k)) fob
      ∗ (iprop(ptsW c sGs fg ∗ ptsS c (obrow (r2 k)) (View.write (Elt F) (sOb.access (Rect.unit (s := S16x8x3072) (k0_off52 k) S1x8x3072.size hin)) fob (k0_pay1 (F := F)) Finset.univ))
        -∗ wp frame (wpE (defs₀ (F := F)) Variants.none (c : Thread nD τ) none) Set.univ (outTail (r2 k) h₁ h₂) K))
      ⊢ wp frame (wpE (defs₀ (F := F)) Variants.none (c : Thread nD τ) none) Set.univ
        (k0_t2_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k ()) K := by
  have hk : k.val < 16 := k.isLt
  iintro ⟨HG, HOb, HK⟩
  have hcond := (gs_sle fg k.val hk (k0_off51 k) (toNat_iv01 k.val (by omega)) (k0_off51_inb k) (Nat.lt_of_lt_of_eq Nat.zero_lt_one numel1_S1.symm)).mpr ha
  unfold k0_t2_body
  sl_exec
  delta Cert.KernelIdeal.Gen.t2_trip.sl.HOb_w1
  iapply HK
  isplitl [HG]; iexact HG
  iexact HOb

set_option maxHeartbeats 4000000 in
theorem t2_skip (c : Dev nD) (fg : Buf (Elt F) (sGs.view.loc (c : Thread nD τ))) (k : Fin k0_t2_loop.trips) (ha : isAct fg k.val = true) (K : Unit → sProp 𝕄) :
    iprop(ptsW c sGs fg ∗ (ptsW c sGs fg -∗ K ()))
      ⊢ wp frame (wpE (defs₀ (F := F)) Variants.none (c : Thread nD τ) none) Set.univ
        (k0_t2_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k ()) K := by
  have hk : k.val < 16 := k.isLt
  iintro ⟨HG, HK⟩
  have hcond := mt (gs_sle fg k.val hk (k0_off51 k) (toNat_iv01 k.val (by omega)) (k0_off51_inb k) (Nat.lt_of_lt_of_eq Nat.zero_lt_one numel1_S1.symm)).mp (by rw [ha]; decide)
  unfold k0_t2_body
  sl_exec
  sl_step
  iapply HK
  iexact HG

/-- Before trip `k` of the last loop: `k` copies out waited for; after the last, all of them back. -/
def t5Inv (c : Dev nD) (p : Nat → Bool) (fo : Buf (Elt F) (mOut.view.loc (c : Thread nD τ))) (Pt : Fin 16 → Vec F S1x8x3072 .bf16) (k : Nat) (_ : Unit) : sProp 𝕄 :=
  iprop(⌜k ≤ 16⌝ ∗ (∃ W, owes (c : Thread nD τ) 0 W)
    ∗ (if k < 16 then obatch c p fo Pt 16 (k * 1536)
       else iprop(semVal ((c : Thread nD τ), SemLoc.dma cc0_scratch12.sem) 0 ∗ bigSep Finset.univ (dlv c p fo Pt))))

set_option maxHeartbeats 4000000 in
theorem t5_step (c : Dev nD) (p : Nat → Bool) (fo : Buf (Elt F) (mOut.view.loc (c : Thread nD τ))) (Pt : Fin 16 → Vec F S1x8x3072 .bf16) (k : Fin k0_t5_loop.trips) (a : Unit) :
    t5Inv c p fo Pt k.val a ⊢ wp frame (wpE (defs₀ (F := F)) Variants.none (c : Thread nD τ) none) Set.univ
        (k0_t5_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k a) (t5Inv c p fo Pt (k.val + 1)) := by
  have hk : k.val < 16 := k.isLt
  unfold t5Inv
  simp only [if_pos hk]
  rcases Nat.lt_or_ge (k.val + 1) 16 with h1 | h1
  · simp only [if_pos h1]
    iintro ⟨-, ⟨%W, HO⟩, HB⟩
    unfold k0_t5_body
    sl_exec
    sl_step
    isplitr; · ipureintro; omega
    isplitl [HO]; · iexists _; iexact HO
    rw [show (k.val + 1) * 1536 = k.val * 1536 + 1536 by omega]
    iexact HB
  · simp only [if_neg (Nat.not_lt.mpr h1)]
    iintro ⟨-, ⟨%W, HO⟩, HB⟩
    unfold k0_t5_body
    sl_exec
    sl_step
    isplitr; · ipureintro; omega
    isplitl [HO]; · iexists _; iexact HO
    isplitl [HB]; · iexact HB
    iexact HB_all

end Cert.KernelIdeal.Gen

end
-- ==== Proof.Pre.lean ====
module

public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
theorem off3_eq : k0_off3 = ![((0 : Fin 2)).val, ((0 : Fin 8)).val] := by decide
theorem off4_eq : k0_off4 = ![((0 : Fin 2)).val, ((0 : Fin 8)).val, 0, 0] := by decide
@[sl_canon] theorem canon_pcell3 (h) : (cc0_scratch11.slice (Rect.unit (s := S2x8) k0_off3 S1x1.size h)).squeeze S_ squeezes_S1x1_S_ = wcell 0 0 :=
  congrArg (fun m : DmaSems sig S1x1 => m.squeeze S_ squeezes_S1x1_S_) (SemArray.slice_unit_congr _ off3_eq _ _)
@[sl_canon] theorem canon_pslot3 (h hs) : (sW.slice (Rect.unit (s := S2x8x512x3072) k0_off4 S1x1x512x3072.size h) hs).squeeze S512x3072 squeezes_S1x1x512x3072_S512x3072 = wslot 0 0 :=
  congrArg (fun m : Memref sig .tc .vmem S1x1x512x3072 .fp8e4m3 => m.squeeze S512x3072 squeezes_S1x1x512x3072_S512x3072) (Memref.slice_unit_congr _ off4_eq _ _ _ fun _ => rfl)
@[sl_canon] theorem canon_psrc3 (v : BitVec 32) (h hs) : (mW.slice (Rect.unit (s := S16x4096x3072) (k0_off5 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off5 v = ![(ex v).val, 512 * ((0 : Fin 8).val), 0] by
    have h0 : v.toNat < 16 := by have := h 0; change v.toNat + 1 ≤ 16 at this; omega
    rw [ex_val v h0]; rfl) _ _ _ fun _ => rfl)
theorem off6_eq : k0_off6 = ![((0 : Fin 2)).val, ((1 : Fin 8)).val] := by decide
theorem off7_eq : k0_off7 = ![((0 : Fin 2)).val, ((1 : Fin 8)).val, 0, 0] := by decide
@[sl_canon] theorem canon_pcell6 (h) : (cc0_scratch11.slice (Rect.unit (s := S2x8) k0_off6 S1x1.size h)).squeeze S_ squeezes_S1x1_S_ = wcell 0 1 :=
  congrArg (fun m : DmaSems sig S1x1 => m.squeeze S_ squeezes_S1x1_S_) (SemArray.slice_unit_congr _ off6_eq _ _)
@[sl_canon] theorem canon_pslot6 (h hs) : (sW.slice (Rect.unit (s := S2x8x512x3072) k0_off7 S1x1x512x3072.size h) hs).squeeze S512x3072 squeezes_S1x1x512x3072_S512x3072 = wslot 0 1 :=
  congrArg (fun m : Memref sig .tc .vmem S1x1x512x3072 .fp8e4m3 => m.squeeze S512x3072 squeezes_S1x1x512x3072_S512x3072) (Memref.slice_unit_congr _ off7_eq _ _ _ fun _ => rfl)
@[sl_canon] theorem canon_psrc6 (v : BitVec 32) (h hs) : (mW.slice (Rect.unit (s := S16x4096x3072) (k0_off8 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off8 v = ![(ex v).val, 512 * ((1 : Fin 8).val), 0] by
    have h0 : v.toNat < 16 := by have := h 0; change v.toNat + 1 ≤ 16 at this; omega
    rw [ex_val v h0]; rfl) _ _ _ fun _ => rfl)
theorem off9_eq : k0_off9 = ![((0 : Fin 2)).val, ((2 : Fin 8)).val] := by decide
theorem off10_eq : k0_off10 = ![((0 : Fin 2)).val, ((2 : Fin 8)).val, 0, 0] := by decide
@[sl_canon] theorem canon_pcell9 (h) : (cc0_scratch11.slice (Rect.unit (s := S2x8) k0_off9 S1x1.size h)).squeeze S_ squeezes_S1x1_S_ = wcell 0 2 :=
  congrArg (fun m : DmaSems sig S1x1 => m.squeeze S_ squeezes_S1x1_S_) (SemArray.slice_unit_congr _ off9_eq _ _)
@[sl_canon] theorem canon_pslot9 (h hs) : (sW.slice (Rect.unit (s := S2x8x512x3072) k0_off10 S1x1x512x3072.size h) hs).squeeze S512x3072 squeezes_S1x1x512x3072_S512x3072 = wslot 0 2 :=
  congrArg (fun m : Memref sig .tc .vmem S1x1x512x3072 .fp8e4m3 => m.squeeze S512x3072 squeezes_S1x1x512x3072_S512x3072) (Memref.slice_unit_congr _ off10_eq _ _ _ fun _ => rfl)
@[sl_canon] theorem canon_psrc9 (v : BitVec 32) (h hs) : (mW.slice (Rect.unit (s := S16x4096x3072) (k0_off11 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off11 v = ![(ex v).val, 512 * ((2 : Fin 8).val), 0] by
    have h0 : v.toNat < 16 := by have := h 0; change v.toNat + 1 ≤ 16 at this; omega
    rw [ex_val v h0]; rfl) _ _ _ fun _ => rfl)
theorem off12_eq : k0_off12 = ![((0 : Fin 2)).val, ((3 : Fin 8)).val] := by decide
theorem off13_eq : k0_off13 = ![((0 : Fin 2)).val, ((3 : Fin 8)).val, 0, 0] := by decide
@[sl_canon] theorem canon_pcell12 (h) : (cc0_scratch11.slice (Rect.unit (s := S2x8) k0_off12 S1x1.size h)).squeeze S_ squeezes_S1x1_S_ = wcell 0 3 :=
  congrArg (fun m : DmaSems sig S1x1 => m.squeeze S_ squeezes_S1x1_S_) (SemArray.slice_unit_congr _ off12_eq _ _)
@[sl_canon] theorem canon_pslot12 (h hs) : (sW.slice (Rect.unit (s := S2x8x512x3072) k0_off13 S1x1x512x3072.size h) hs).squeeze S512x3072 squeezes_S1x1x512x3072_S512x3072 = wslot 0 3 :=
  congrArg (fun m : Memref sig .tc .vmem S1x1x512x3072 .fp8e4m3 => m.squeeze S512x3072 squeezes_S1x1x512x3072_S512x3072) (Memref.slice_unit_congr _ off13_eq _ _ _ fun _ => rfl)
@[sl_canon] theorem canon_psrc12 (v : BitVec 32) (h hs) : (mW.slice (Rect.unit (s := S16x4096x3072) (k0_off14 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off14 v = ![(ex v).val, 512 * ((3 : Fin 8).val), 0] by
    have h0 : v.toNat < 16 := by have := h 0; change v.toNat + 1 ≤ 16 at this; omega
    rw [ex_val v h0]; rfl) _ _ _ fun _ => rfl)
theorem off15_eq : k0_off15 = ![((0 : Fin 2)).val, ((4 : Fin 8)).val] := by decide
theorem off16_eq : k0_off16 = ![((0 : Fin 2)).val, ((4 : Fin 8)).val, 0, 0] := by decide
@[sl_canon] theorem canon_pcell15 (h) : (cc0_scratch11.slice (Rect.unit (s := S2x8) k0_off15 S1x1.size h)).squeeze S_ squeezes_S1x1_S_ = wcell 0 4 :=
  congrArg (fun m : DmaSems sig S1x1 => m.squeeze S_ squeezes_S1x1_S_) (SemArray.slice_unit_congr _ off15_eq _ _)
@[sl_canon] theorem canon_pslot15 (h hs) : (sW.slice (Rect.unit (s := S2x8x512x3072) k0_off16 S1x1x512x3072.size h) hs).squeeze S512x3072 squeezes_S1x1x512x3072_S512x3072 = wslot 0 4 :=
  congrArg (fun m : Memref sig .tc .vmem S1x1x512x3072 .fp8e4m3 => m.squeeze S512x3072 squeezes_S1x1x512x3072_S512x3072) (Memref.slice_unit_congr _ off16_eq _ _ _ fun _ => rfl)
@[sl_canon] theorem canon_psrc15 (v : BitVec 32) (h hs) : (mW.slice (Rect.unit (s := S16x4096x3072) (k0_off17 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off17 v = ![(ex v).val, 512 * ((4 : Fin 8).val), 0] by
    have h0 : v.toNat < 16 := by have := h 0; change v.toNat + 1 ≤ 16 at this; omega
    rw [ex_val v h0]; rfl) _ _ _ fun _ => rfl)
theorem off18_eq : k0_off18 = ![((0 : Fin 2)).val, ((5 : Fin 8)).val] := by decide
theorem off19_eq : k0_off19 = ![((0 : Fin 2)).val, ((5 : Fin 8)).val, 0, 0] := by decide
@[sl_canon] theorem canon_pcell18 (h) : (cc0_scratch11.slice (Rect.unit (s := S2x8) k0_off18 S1x1.size h)).squeeze S_ squeezes_S1x1_S_ = wcell 0 5 :=
  congrArg (fun m : DmaSems sig S1x1 => m.squeeze S_ squeezes_S1x1_S_) (SemArray.slice_unit_congr _ off18_eq _ _)
@[sl_canon] theorem canon_pslot18 (h hs) : (sW.slice (Rect.unit (s := S2x8x512x3072) k0_off19 S1x1x512x3072.size h) hs).squeeze S512x3072 squeezes_S1x1x512x3072_S512x3072 = wslot 0 5 :=
  congrArg (fun m : Memref sig .tc .vmem S1x1x512x3072 .fp8e4m3 => m.squeeze S512x3072 squeezes_S1x1x512x3072_S512x3072) (Memref.slice_unit_congr _ off19_eq _ _ _ fun _ => rfl)
@[sl_canon] theorem canon_psrc18 (v : BitVec 32) (h hs) : (mW.slice (Rect.unit (s := S16x4096x3072) (k0_off20 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off20 v = ![(ex v).val, 512 * ((5 : Fin 8).val), 0] by
    have h0 : v.toNat < 16 := by have := h 0; change v.toNat + 1 ≤ 16 at this; omega
    rw [ex_val v h0]; rfl) _ _ _ fun _ => rfl)
theorem off21_eq : k0_off21 = ![((0 : Fin 2)).val, ((6 : Fin 8)).val] := by decide
theorem off22_eq : k0_off22 = ![((0 : Fin 2)).val, ((6 : Fin 8)).val, 0, 0] := by decide
@[sl_canon] theorem canon_pcell21 (h) : (cc0_scratch11.slice (Rect.unit (s := S2x8) k0_off21 S1x1.size h)).squeeze S_ squeezes_S1x1_S_ = wcell 0 6 :=
  congrArg (fun m : DmaSems sig S1x1 => m.squeeze S_ squeezes_S1x1_S_) (SemArray.slice_unit_congr _ off21_eq _ _)
@[sl_canon] theorem canon_pslot21 (h hs) : (sW.slice (Rect.unit (s := S2x8x512x3072) k0_off22 S1x1x512x3072.size h) hs).squeeze S512x3072 squeezes_S1x1x512x3072_S512x3072 = wslot 0 6 :=
  congrArg (fun m : Memref sig .tc .vmem S1x1x512x3072 .fp8e4m3 => m.squeeze S512x3072 squeezes_S1x1x512x3072_S512x3072) (Memref.slice_unit_congr _ off22_eq _ _ _ fun _ => rfl)
@[sl_canon] theorem canon_psrc21 (v : BitVec 32) (h hs) : (mW.slice (Rect.unit (s := S16x4096x3072) (k0_off23 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off23 v = ![(ex v).val, 512 * ((6 : Fin 8).val), 0] by
    have h0 : v.toNat < 16 := by have := h 0; change v.toNat + 1 ≤ 16 at this; omega
    rw [ex_val v h0]; rfl) _ _ _ fun _ => rfl)
theorem off24_eq : k0_off24 = ![((0 : Fin 2)).val, ((7 : Fin 8)).val] := by decide
theorem off25_eq : k0_off25 = ![((0 : Fin 2)).val, ((7 : Fin 8)).val, 0, 0] := by decide
@[sl_canon] theorem canon_pcell24 (h) : (cc0_scratch11.slice (Rect.unit (s := S2x8) k0_off24 S1x1.size h)).squeeze S_ squeezes_S1x1_S_ = wcell 0 7 :=
  congrArg (fun m : DmaSems sig S1x1 => m.squeeze S_ squeezes_S1x1_S_) (SemArray.slice_unit_congr _ off24_eq _ _)
@[sl_canon] theorem canon_pslot24 (h hs) : (sW.slice (Rect.unit (s := S2x8x512x3072) k0_off25 S1x1x512x3072.size h) hs).squeeze S512x3072 squeezes_S1x1x512x3072_S512x3072 = wslot 0 7 :=
  congrArg (fun m : Memref sig .tc .vmem S1x1x512x3072 .fp8e4m3 => m.squeeze S512x3072 squeezes_S1x1x512x3072_S512x3072) (Memref.slice_unit_congr _ off25_eq _ _ _ fun _ => rfl)
@[sl_canon] theorem canon_psrc24 (v : BitVec 32) (h hs) : (mW.slice (Rect.unit (s := S16x4096x3072) (k0_off26 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off26 v = ![(ex v).val, 512 * ((7 : Fin 8).val), 0] by
    have h0 : v.toNat < 16 := by have := h 0; change v.toNat + 1 ≤ 16 at this; omega
    rw [ex_val v h0]; rfl) _ _ _ fun _ => rfl)
theorem off27_eq : k0_off27 = ![((1 : Fin 2)).val, ((0 : Fin 8)).val] := by decide
theorem off28_eq : k0_off28 = ![((1 : Fin 2)).val, ((0 : Fin 8)).val, 0, 0] := by decide
@[sl_canon] theorem canon_pcell27 (h) : (cc0_scratch11.slice (Rect.unit (s := S2x8) k0_off27 S1x1.size h)).squeeze S_ squeezes_S1x1_S_ = wcell 1 0 :=
  congrArg (fun m : DmaSems sig S1x1 => m.squeeze S_ squeezes_S1x1_S_) (SemArray.slice_unit_congr _ off27_eq _ _)
@[sl_canon] theorem canon_pslot27 (h hs) : (sW.slice (Rect.unit (s := S2x8x512x3072) k0_off28 S1x1x512x3072.size h) hs).squeeze S512x3072 squeezes_S1x1x512x3072_S512x3072 = wslot 1 0 :=
  congrArg (fun m : Memref sig .tc .vmem S1x1x512x3072 .fp8e4m3 => m.squeeze S512x3072 squeezes_S1x1x512x3072_S512x3072) (Memref.slice_unit_congr _ off28_eq _ _ _ fun _ => rfl)
@[sl_canon] theorem canon_psrc27 (v : BitVec 32) (h hs) : (mW.slice (Rect.unit (s := S16x4096x3072) (k0_off29 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off29 v = ![(ex v).val, 512 * ((0 : Fin 8).val), 0] by
    have h0 : v.toNat < 16 := by have := h 0; change v.toNat + 1 ≤ 16 at this; omega
    rw [ex_val v h0]; rfl) _ _ _ fun _ => rfl)
theorem off30_eq : k0_off30 = ![((1 : Fin 2)).val, ((1 : Fin 8)).val] := by decide
theorem off31_eq : k0_off31 = ![((1 : Fin 2)).val, ((1 : Fin 8)).val, 0, 0] := by decide
@[sl_canon] theorem canon_pcell30 (h) : (cc0_scratch11.slice (Rect.unit (s := S2x8) k0_off30 S1x1.size h)).squeeze S_ squeezes_S1x1_S_ = wcell 1 1 :=
  congrArg (fun m : DmaSems sig S1x1 => m.squeeze S_ squeezes_S1x1_S_) (SemArray.slice_unit_congr _ off30_eq _ _)
@[sl_canon] theorem canon_pslot30 (h hs) : (sW.slice (Rect.unit (s := S2x8x512x3072) k0_off31 S1x1x512x3072.size h) hs).squeeze S512x3072 squeezes_S1x1x512x3072_S512x3072 = wslot 1 1 :=
  congrArg (fun m : Memref sig .tc .vmem S1x1x512x3072 .fp8e4m3 => m.squeeze S512x3072 squeezes_S1x1x512x3072_S512x3072) (Memref.slice_unit_congr _ off31_eq _ _ _ fun _ => rfl)
@[sl_canon] theorem canon_psrc30 (v : BitVec 32) (h hs) : (mW.slice (Rect.unit (s := S16x4096x3072) (k0_off32 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off32 v = ![(ex v).val, 512 * ((1 : Fin 8).val), 0] by
    have h0 : v.toNat < 16 := by have := h 0; change v.toNat + 1 ≤ 16 at this; omega
    rw [ex_val v h0]; rfl) _ _ _ fun _ => rfl)
theorem off33_eq : k0_off33 = ![((1 : Fin 2)).val, ((2 : Fin 8)).val] := by decide
theorem off34_eq : k0_off34 = ![((1 : Fin 2)).val, ((2 : Fin 8)).val, 0, 0] := by decide
@[sl_canon] theorem canon_pcell33 (h) : (cc0_scratch11.slice (Rect.unit (s := S2x8) k0_off33 S1x1.size h)).squeeze S_ squeezes_S1x1_S_ = wcell 1 2 :=
  congrArg (fun m : DmaSems sig S1x1 => m.squeeze S_ squeezes_S1x1_S_) (SemArray.slice_unit_congr _ off33_eq _ _)
@[sl_canon] theorem canon_pslot33 (h hs) : (sW.slice (Rect.unit (s := S2x8x512x3072) k0_off34 S1x1x512x3072.size h) hs).squeeze S512x3072 squeezes_S1x1x512x3072_S512x3072 = wslot 1 2 :=
  congrArg (fun m : Memref sig .tc .vmem S1x1x512x3072 .fp8e4m3 => m.squeeze S512x3072 squeezes_S1x1x512x3072_S512x3072) (Memref.slice_unit_congr _ off34_eq _ _ _ fun _ => rfl)
@[sl_canon] theorem canon_psrc33 (v : BitVec 32) (h hs) : (mW.slice (Rect.unit (s := S16x4096x3072) (k0_off35 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off35 v = ![(ex v).val, 512 * ((2 : Fin 8).val), 0] by
    have h0 : v.toNat < 16 := by have := h 0; change v.toNat + 1 ≤ 16 at this; omega
    rw [ex_val v h0]; rfl) _ _ _ fun _ => rfl)
theorem off36_eq : k0_off36 = ![((1 : Fin 2)).val, ((3 : Fin 8)).val] := by decide
theorem off37_eq : k0_off37 = ![((1 : Fin 2)).val, ((3 : Fin 8)).val, 0, 0] := by decide
@[sl_canon] theorem canon_pcell36 (h) : (cc0_scratch11.slice (Rect.unit (s := S2x8) k0_off36 S1x1.size h)).squeeze S_ squeezes_S1x1_S_ = wcell 1 3 :=
  congrArg (fun m : DmaSems sig S1x1 => m.squeeze S_ squeezes_S1x1_S_) (SemArray.slice_unit_congr _ off36_eq _ _)
@[sl_canon] theorem canon_pslot36 (h hs) : (sW.slice (Rect.unit (s := S2x8x512x3072) k0_off37 S1x1x512x3072.size h) hs).squeeze S512x3072 squeezes_S1x1x512x3072_S512x3072 = wslot 1 3 :=
  congrArg (fun m : Memref sig .tc .vmem S1x1x512x3072 .fp8e4m3 => m.squeeze S512x3072 squeezes_S1x1x512x3072_S512x3072) (Memref.slice_unit_congr _ off37_eq _ _ _ fun _ => rfl)
@[sl_canon] theorem canon_psrc36 (v : BitVec 32) (h hs) : (mW.slice (Rect.unit (s := S16x4096x3072) (k0_off38 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off38 v = ![(ex v).val, 512 * ((3 : Fin 8).val), 0] by
    have h0 : v.toNat < 16 := by have := h 0; change v.toNat + 1 ≤ 16 at this; omega
    rw [ex_val v h0]; rfl) _ _ _ fun _ => rfl)
theorem off39_eq : k0_off39 = ![((1 : Fin 2)).val, ((4 : Fin 8)).val] := by decide
theorem off40_eq : k0_off40 = ![((1 : Fin 2)).val, ((4 : Fin 8)).val, 0, 0] := by decide
@[sl_canon] theorem canon_pcell39 (h) : (cc0_scratch11.slice (Rect.unit (s := S2x8) k0_off39 S1x1.size h)).squeeze S_ squeezes_S1x1_S_ = wcell 1 4 :=
  congrArg (fun m : DmaSems sig S1x1 => m.squeeze S_ squeezes_S1x1_S_) (SemArray.slice_unit_congr _ off39_eq _ _)
@[sl_canon] theorem canon_pslot39 (h hs) : (sW.slice (Rect.unit (s := S2x8x512x3072) k0_off40 S1x1x512x3072.size h) hs).squeeze S512x3072 squeezes_S1x1x512x3072_S512x3072 = wslot 1 4 :=
  congrArg (fun m : Memref sig .tc .vmem S1x1x512x3072 .fp8e4m3 => m.squeeze S512x3072 squeezes_S1x1x512x3072_S512x3072) (Memref.slice_unit_congr _ off40_eq _ _ _ fun _ => rfl)
@[sl_canon] theorem canon_psrc39 (v : BitVec 32) (h hs) : (mW.slice (Rect.unit (s := S16x4096x3072) (k0_off41 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off41 v = ![(ex v).val, 512 * ((4 : Fin 8).val), 0] by
    have h0 : v.toNat < 16 := by have := h 0; change v.toNat + 1 ≤ 16 at this; omega
    rw [ex_val v h0]; rfl) _ _ _ fun _ => rfl)
theorem off42_eq : k0_off42 = ![((1 : Fin 2)).val, ((5 : Fin 8)).val] := by decide
theorem off43_eq : k0_off43 = ![((1 : Fin 2)).val, ((5 : Fin 8)).val, 0, 0] := by decide
@[sl_canon] theorem canon_pcell42 (h) : (cc0_scratch11.slice (Rect.unit (s := S2x8) k0_off42 S1x1.size h)).squeeze S_ squeezes_S1x1_S_ = wcell 1 5 :=
  congrArg (fun m : DmaSems sig S1x1 => m.squeeze S_ squeezes_S1x1_S_) (SemArray.slice_unit_congr _ off42_eq _ _)
@[sl_canon] theorem canon_pslot42 (h hs) : (sW.slice (Rect.unit (s := S2x8x512x3072) k0_off43 S1x1x512x3072.size h) hs).squeeze S512x3072 squeezes_S1x1x512x3072_S512x3072 = wslot 1 5 :=
  congrArg (fun m : Memref sig .tc .vmem S1x1x512x3072 .fp8e4m3 => m.squeeze S512x3072 squeezes_S1x1x512x3072_S512x3072) (Memref.slice_unit_congr _ off43_eq _ _ _ fun _ => rfl)
@[sl_canon] theorem canon_psrc42 (v : BitVec 32) (h hs) : (mW.slice (Rect.unit (s := S16x4096x3072) (k0_off44 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off44 v = ![(ex v).val, 512 * ((5 : Fin 8).val), 0] by
    have h0 : v.toNat < 16 := by have := h 0; change v.toNat + 1 ≤ 16 at this; omega
    rw [ex_val v h0]; rfl) _ _ _ fun _ => rfl)
theorem off45_eq : k0_off45 = ![((1 : Fin 2)).val, ((6 : Fin 8)).val] := by decide
theorem off46_eq : k0_off46 = ![((1 : Fin 2)).val, ((6 : Fin 8)).val, 0, 0] := by decide
@[sl_canon] theorem canon_pcell45 (h) : (cc0_scratch11.slice (Rect.unit (s := S2x8) k0_off45 S1x1.size h)).squeeze S_ squeezes_S1x1_S_ = wcell 1 6 :=
  congrArg (fun m : DmaSems sig S1x1 => m.squeeze S_ squeezes_S1x1_S_) (SemArray.slice_unit_congr _ off45_eq _ _)
@[sl_canon] theorem canon_pslot45 (h hs) : (sW.slice (Rect.unit (s := S2x8x512x3072) k0_off46 S1x1x512x3072.size h) hs).squeeze S512x3072 squeezes_S1x1x512x3072_S512x3072 = wslot 1 6 :=
  congrArg (fun m : Memref sig .tc .vmem S1x1x512x3072 .fp8e4m3 => m.squeeze S512x3072 squeezes_S1x1x512x3072_S512x3072) (Memref.slice_unit_congr _ off46_eq _ _ _ fun _ => rfl)
@[sl_canon] theorem canon_psrc45 (v : BitVec 32) (h hs) : (mW.slice (Rect.unit (s := S16x4096x3072) (k0_off47 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off47 v = ![(ex v).val, 512 * ((6 : Fin 8).val), 0] by
    have h0 : v.toNat < 16 := by have := h 0; change v.toNat + 1 ≤ 16 at this; omega
    rw [ex_val v h0]; rfl) _ _ _ fun _ => rfl)
theorem off48_eq : k0_off48 = ![((1 : Fin 2)).val, ((7 : Fin 8)).val] := by decide
theorem off49_eq : k0_off49 = ![((1 : Fin 2)).val, ((7 : Fin 8)).val, 0, 0] := by decide
@[sl_canon] theorem canon_pcell48 (h) : (cc0_scratch11.slice (Rect.unit (s := S2x8) k0_off48 S1x1.size h)).squeeze S_ squeezes_S1x1_S_ = wcell 1 7 :=
  congrArg (fun m : DmaSems sig S1x1 => m.squeeze S_ squeezes_S1x1_S_) (SemArray.slice_unit_congr _ off48_eq _ _)
@[sl_canon] theorem canon_pslot48 (h hs) : (sW.slice (Rect.unit (s := S2x8x512x3072) k0_off49 S1x1x512x3072.size h) hs).squeeze S512x3072 squeezes_S1x1x512x3072_S512x3072 = wslot 1 7 :=
  congrArg (fun m : Memref sig .tc .vmem S1x1x512x3072 .fp8e4m3 => m.squeeze S512x3072 squeezes_S1x1x512x3072_S512x3072) (Memref.slice_unit_congr _ off49_eq _ _ _ fun _ => rfl)
@[sl_canon] theorem canon_psrc48 (v : BitVec 32) (h hs) : (mW.slice (Rect.unit (s := S16x4096x3072) (k0_off50 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off50 v = ![(ex v).val, 512 * ((7 : Fin 8).val), 0] by
    have h0 : v.toNat < 16 := by have := h 0; change v.toNat + 1 ≤ 16 at this; omega
    rw [ex_val v h0]; rfl) _ _ _ fun _ => rfl)

theorem cond1_all : ∀ v : Fin 17, k0_cond1 (BitVec.ofNat 32 v.val) = 1#1 ↔ 0 < v.val := by decide +kernel
theorem cond1_lt {v : BitVec 32} (h : v.toNat < 17) : k0_cond1 v = 1#1 ↔ 0 < v.toNat := by have := cond1_all ⟨v.toNat, h⟩; simpa using this
theorem cond2_all : ∀ v : Fin 17, k0_cond2 (BitVec.ofNat 32 v.val) = 1#1 ↔ 1 < v.val := by decide +kernel
theorem cond2_lt {v : BitVec 32} (h : v.toNat < 17) : k0_cond2 v = 1#1 ↔ 1 < v.toNat := by have := cond2_all ⟨v.toNat, h⟩; simpa using this

theorem obrow_we (e : Fin 16) : (obrow e).view.WordExact := by
  have h := ((Memref.isWhole_whole cc0_scratch7).wordExact_slice rfl _ (k0_off53_wordsbf16 ⟨e.val, e.isLt⟩)).reshape S8x3072 squeezes_S1x8x3072_S8x3072.numel_eq
  show (obrow (r2 ⟨e.val, e.isLt⟩)).view.WordExact
  rw [← canon_obrow2 ⟨e.val, e.isLt⟩ (k0_off53_inb _) (fun _ => rfl)]
  exact h
theorem outrow_we (e : Fin 16) : (outrow e).view.WordExact := by
  have h := ((Memref.isWhole_whole main_v0).wordExact_slice rfl _ (k0_off53_wordsbf16 ⟨e.val, e.isLt⟩)).reshape S8x3072 squeezes_S1x8x3072_S8x3072.numel_eq
  show (outrow (r2 ⟨e.val, e.isLt⟩)).view.WordExact
  rw [← canon_outrow2 ⟨e.val, e.isLt⟩ (k0_off53_inb _) (fun _ => rfl)]
  exact h

/-- Before trip `k` of the loop over all experts: the rows of the first `k` experts without tokens have been started out. -/
def t2Inv (c : Dev nD) (fg : Buf (Elt F) (sGs.view.loc (c : Thread nD τ))) (fo : Buf (Elt F) (mOut.view.loc (c : Thread nD τ))) (Pt : Fin 16 → Vec F S1x8x3072 .bf16) (k : Nat) (_ : Unit) : sProp 𝕄 :=
  iprop(ptsW c sGs fg ∗ obatch c (isAct fg) fo Pt (cnt (fun i => !isAct fg i) k) 0 ∗ orows c (isAct fg) fo (cnt (fun i => !isAct fg i) k))

theorem t2_step (c : Dev nD) (fg : Buf (Elt F) (sGs.view.loc (c : Thread nD τ))) (fo : Buf (Elt F) (mOut.view.loc (c : Thread nD τ))) (Pt : Fin 16 → Vec F S1x8x3072 .bf16)
    (hPt : ∀ t : Fin 16, t.val < nE (isAct fg) → Pt t = k0_pay1 (F := F)) (k : Fin k0_t2_loop.trips) (a : Unit) :
    t2Inv c fg fo Pt k.val a ⊢ wp frame (wpE (defs₀ (F := F)) Variants.none (c : Thread nD τ) none) Set.univ
        (k0_t2_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k a) (t2Inv c fg fo Pt (k.val + 1)) := by
  have hk : k.val < 16 := k.isLt
  cases ha : isAct fg k.val
  · have hs : cnt (fun i => !isAct fg i) (k.val + 1) = cnt (fun i => !isAct fg i) k.val + 1 := by rw [cnt_succ, if_pos (by simp [ha])]
    have hj : cnt (fun i => !isAct fg i) k.val < nE (isAct fg) := by
      have := cnt_mono (fun i => !isAct fg i) (m := k.val + 1) 16 (by omega)
      unfold nE; omega
    have hj16 : cnt (fun i => !isAct fg i) k.val < 16 := by have := cnt_le (fun i => !isAct fg i) 16; unfold nE at hj; omega
    have he : ord (isAct fg) ⟨cnt (fun i => !isAct fg i) k.val, hj16⟩ = r2 k := ord_empty (isAct fg) (r2 k) ha hj16
    unfold t2Inv orows
    rw [hs, Ring.bigSep_rangeSet_head hj16 hj16, he]
    iintro ⟨HG, HB, ⟨⟨⟨%f, Hob⟩, Hout⟩, HR⟩⟩
    iapply (t2_trip c fg k ha (obrow_we _) (outrow_we _) (k0_off52_inb k) f _)
    isplitl [HG]; iexact HG
    isplitl [Hob]; iexact Hob
    iintro ⟨HG, Hob⟩
    ihave Hob := (Entails.of_eq (store_row c (r2 k) _ (off52_eq k) (k0_off52_inb k) f (k0_pay1 (F := F)))) $$ Hob
    iapply (tail_issue c (isAct fg) fo Pt _ hj16 (r2 k) he (obrow_we _) (outrow_we _) _)
    rw [hPt ⟨_, hj16⟩ hj]
    isplitl [Hob]; iexact Hob
    isplitl [Hout]; iexact Hout
    isplitl [HB]; iexact HB
    iintro HB
    isplitl [HG]; iexact HG
    isplitl [HB]; iexact HB
    iexact HR
  · have hs : cnt (fun i => !isAct fg i) (k.val + 1) = cnt (fun i => !isAct fg i) k.val := by rw [cnt_succ, if_neg (by simp [ha])]; rfl
    unfold t2Inv
    rw [hs]
    iintro ⟨HG, HB, HR⟩
    iapply (t2_skip c fg k ha _)
    isplitl [HG]; iexact HG
    iintro HG
    isplitl [HG]; iexact HG
    isplitl [HB]; iexact HB
    iexact HR

end Cert.KernelIdeal.Gen

end
-- ==== Proof.Start.lean ====
module

public import proofs.«01_k».proof.Proof.Pre

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The eight starts of an entry's chunks, under the condition they are made: in flight when it holds, at rest when not. -/
theorem start_wst (c : Dev nD) (fw : Buf (Elt F) (mW.view.loc (c : Thread nD τ))) (fa : Buf (Elt F) (sAct.view.loc (c : Thread nD τ))) (s : Fin 2) (n : Nat) (hs : s = par n)
    (C : Prop) [Decidable C] (e0 : C → Fin 16) (e1 : C → Fin 16) (e2 : C → Fin 16) (e3 : C → Fin 16) (e4 : C → Fin 16) (e5 : C → Fin 16) (e6 : C → Fin 16) (e7 : C → Fin 16) (he0 : ∀ hc, actIs fa n (e0 hc)) (he1 : ∀ hc, actIs fa n (e1 hc)) (he2 : ∀ hc, actIs fa n (e2 hc)) (he3 : ∀ hc, actIs fa n (e3 hc)) (he4 : ∀ hc, actIs fa n (e4 hc)) (he5 : ∀ hc, actIs fa n (e5 hc)) (he6 : ∀ hc, actIs fa n (e6 hc)) (he7 : ∀ hc, actIs fa n (e7 hc)) (f0 : Buf (Elt F) ((wslot s 0).view.loc (c : Thread nD τ))) (f1 : Buf (Elt F) ((wslot s 1).view.loc (c : Thread nD τ))) (f2 : Buf (Elt F) ((wslot s 2).view.loc (c : Thread nD τ))) (f3 : Buf (Elt F) ((wslot s 3).view.loc (c : Thread nD τ))) (f4 : Buf (Elt F) ((wslot s 4).view.loc (c : Thread nD τ))) (f5 : Buf (Elt F) ((wslot s 5).view.loc (c : Thread nD τ))) (f6 : Buf (Elt F) ((wslot s 6).view.loc (c : Thread nD τ))) (f7 : Buf (Elt F) ((wslot s 7).view.loc (c : Thread nD τ))) :
    iprop(Guarded C (fun hc => iprop(wflight c s 0 iprop(ptsS c (wslot s 0) ((wslot s 0).view.writes (Elt F) f0 [⟨Rect.whole S512x3072, ReadAs.same.apply ((wsrc (e0 hc) 0).view.read (Elt F) fw)⟩]) ∗ wtok c s 0 (wsrc (e0 hc) 0).view.set fw) ∗ wflight c s 1 iprop(ptsS c (wslot s 1) ((wslot s 1).view.writes (Elt F) f1 [⟨Rect.whole S512x3072, ReadAs.same.apply ((wsrc (e1 hc) 1).view.read (Elt F) fw)⟩]) ∗ wtok c s 1 (wsrc (e1 hc) 1).view.set fw) ∗ wflight c s 2 iprop(ptsS c (wslot s 2) ((wslot s 2).view.writes (Elt F) f2 [⟨Rect.whole S512x3072, ReadAs.same.apply ((wsrc (e2 hc) 2).view.read (Elt F) fw)⟩]) ∗ wtok c s 2 (wsrc (e2 hc) 2).view.set fw) ∗ wflight c s 3 iprop(ptsS c (wslot s 3) ((wslot s 3).view.writes (Elt F) f3 [⟨Rect.whole S512x3072, ReadAs.same.apply ((wsrc (e3 hc) 3).view.read (Elt F) fw)⟩]) ∗ wtok c s 3 (wsrc (e3 hc) 3).view.set fw) ∗ wflight c s 4 iprop(ptsS c (wslot s 4) ((wslot s 4).view.writes (Elt F) f4 [⟨Rect.whole S512x3072, ReadAs.same.apply ((wsrc (e4 hc) 4).view.read (Elt F) fw)⟩]) ∗ wtok c s 4 (wsrc (e4 hc) 4).view.set fw) ∗ wflight c s 5 iprop(ptsS c (wslot s 5) ((wslot s 5).view.writes (Elt F) f5 [⟨Rect.whole S512x3072, ReadAs.same.apply ((wsrc (e5 hc) 5).view.read (Elt F) fw)⟩]) ∗ wtok c s 5 (wsrc (e5 hc) 5).view.set fw) ∗ wflight c s 6 iprop(ptsS c (wslot s 6) ((wslot s 6).view.writes (Elt F) f6 [⟨Rect.whole S512x3072, ReadAs.same.apply ((wsrc (e6 hc) 6).view.read (Elt F) fw)⟩]) ∗ wtok c s 6 (wsrc (e6 hc) 6).view.set fw) ∗ wflight c s 7 iprop(ptsS c (wslot s 7) ((wslot s 7).view.writes (Elt F) f7 [⟨Rect.whole S512x3072, ReadAs.same.apply ((wsrc (e7 hc) 7).view.read (Elt F) fw)⟩]) ∗ wtok c s 7 (wsrc (e7 hc) 7).view.set fw))) (fun hn => iprop(semVal ((c : Thread nD τ), SemLoc.dma (wcell s 0).sem) 0 ∗ ptsS c (wslot s 0) f0 ∗ semVal ((c : Thread nD τ), SemLoc.dma (wcell s 1).sem) 0 ∗ ptsS c (wslot s 1) f1 ∗ semVal ((c : Thread nD τ), SemLoc.dma (wcell s 2).sem) 0 ∗ ptsS c (wslot s 2) f2 ∗ semVal ((c : Thread nD τ), SemLoc.dma (wcell s 3).sem) 0 ∗ ptsS c (wslot s 3) f3 ∗ semVal ((c : Thread nD τ), SemLoc.dma (wcell s 4).sem) 0 ∗ ptsS c (wslot s 4) f4 ∗ semVal ((c : Thread nD τ), SemLoc.dma (wcell s 5).sem) 0 ∗ ptsS c (wslot s 5) f5 ∗ semVal ((c : Thread nD τ), SemLoc.dma (wcell s 6).sem) 0 ∗ ptsS c (wslot s 6) f6 ∗ semVal ((c : Thread nD τ), SemLoc.dma (wcell s 7).sem) 0 ∗ ptsS c (wslot s 7) f7)) ∗ wtok c s 0 (Finset.univ \ gset C fun hc => (wsrc (e0 hc) 0).view.set) fw ∗ wtok c s 1 (Finset.univ \ gset C fun hc => (wsrc (e1 hc) 1).view.set) fw ∗ wtok c s 2 (Finset.univ \ gset C fun hc => (wsrc (e2 hc) 2).view.set) fw ∗ wtok c s 3 (Finset.univ \ gset C fun hc => (wsrc (e3 hc) 3).view.set) fw ∗ wtok c s 4 (Finset.univ \ gset C fun hc => (wsrc (e4 hc) 4).view.set) fw ∗ wtok c s 5 (Finset.univ \ gset C fun hc => (wsrc (e5 hc) 5).view.set) fw ∗ wtok c s 6 (Finset.univ \ gset C fun hc => (wsrc (e6 hc) 6).view.set) fw ∗ wtok c s 7 (Finset.univ \ gset C fun hc => (wsrc (e7 hc) 7).view.set) fw) ⊢ (iprop(wst c fw fa (C) (n) 0 ∗ wst c fw fa (C) (n) 1 ∗ wst c fw fa (C) (n) 2 ∗ wst c fw fa (C) (n) 3 ∗ wst c fw fa (C) (n) 4 ∗ wst c fw fa (C) (n) 5 ∗ wst c fw fa (C) (n) 6 ∗ wst c fw fa (C) (n) 7) : sProp 𝕄) := by
  subst hs
  simp only [wst]
  by_cases hc : C
  · simp only [Guarded, gset, hc, ↓reduceDIte, ↓reduceIte]
    iintro ⟨⟨R0, R1, R2, R3, R4, R5, R6, R7⟩, T0, T1, T2, T3, T4, T5, T6, T7⟩
    isplitl [R0 T0]
    · iexists e0 hc; isplitr; ipureintro; exact he0 hc
      isplitl [R0]; iexists f0; iexact R0; iexact T0
    isplitl [R1 T1]
    · iexists e1 hc; isplitr; ipureintro; exact he1 hc
      isplitl [R1]; iexists f1; iexact R1; iexact T1
    isplitl [R2 T2]
    · iexists e2 hc; isplitr; ipureintro; exact he2 hc
      isplitl [R2]; iexists f2; iexact R2; iexact T2
    isplitl [R3 T3]
    · iexists e3 hc; isplitr; ipureintro; exact he3 hc
      isplitl [R3]; iexists f3; iexact R3; iexact T3
    isplitl [R4 T4]
    · iexists e4 hc; isplitr; ipureintro; exact he4 hc
      isplitl [R4]; iexists f4; iexact R4; iexact T4
    isplitl [R5 T5]
    · iexists e5 hc; isplitr; ipureintro; exact he5 hc
      isplitl [R5]; iexists f5; iexact R5; iexact T5
    isplitl [R6 T6]
    · iexists e6 hc; isplitr; ipureintro; exact he6 hc
      isplitl [R6]; iexists f6; iexact R6; iexact T6

    · iexists e7 hc; isplitr; ipureintro; exact he7 hc
      isplitl [R7]; iexists f7; iexact R7; iexact T7
  · simp only [Guarded, gset, hc, ↓reduceDIte, ↓reduceIte, Finset.sdiff_empty]
    iintro ⟨⟨C0, R0, C1, R1, C2, R2, C3, R3, C4, R4, C5, R5, C6, R6, C7, R7⟩, T0, T1, T2, T3, T4, T5, T6, T7⟩
    isplitl [C0 R0 T0]
    · isplitl [C0]; iexact C0; isplitl [R0]; iexists f0; iexact R0; iexact T0
    isplitl [C1 R1 T1]
    · isplitl [C1]; iexact C1; isplitl [R1]; iexists f1; iexact R1; iexact T1
    isplitl [C2 R2 T2]
    · isplitl [C2]; iexact C2; isplitl [R2]; iexists f2; iexact R2; iexact T2
    isplitl [C3 R3 T3]
    · isplitl [C3]; iexact C3; isplitl [R3]; iexists f3; iexact R3; iexact T3
    isplitl [C4 R4 T4]
    · isplitl [C4]; iexact C4; isplitl [R4]; iexists f4; iexact R4; iexact T4
    isplitl [C5 R5 T5]
    · isplitl [C5]; iexact C5; isplitl [R5]; iexists f5; iexact R5; iexact T5
    isplitl [C6 R6 T6]
    · isplitl [C6]; iexact C6; isplitl [R6]; iexists f6; iexact R6; iexact T6

    · isplitl [C7]; iexact C7; isplitl [R7]; iexists f7; iexact R7; iexact T7

end Cert.KernelIdeal.Gen

end
-- ==== Proof.Trip.lean ====
module

public import proofs.«01_k».proof.Proof.Res

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copy of row `e` out, as a trip ends with it. -/
abbrev tripTail (e : Fin 16) (h₁ : (obrow e).view.WordExact) (h₂ : (outrow e).view.WordExact) : Prog (TpuEff nD τ sig (Elt F) Λ₀ .tc) Unit :=
  Prog.op (TpuEff.enqueueDma (obrow e) (DmaTarget.here (outrow e)) (SemLoc.dma cc0_scratch12.sem) h₁ h₂ ⟨Or.inl rfl, trivial⟩) fun _ => Pure.pure PUnit.unit

theorem act_at {c : Dev nD} (fa : Buf (Elt F) (sAct.view.loc (c : Thread nD τ))) (n : Nat) (e : Fin 16) (h : actIs fa n e) (off : Fin 1 → Nat) (ho : off 0 = n)
    (hi) (p) : (View.readAt (Elt F) sAct.view (Rect.unit (s := S17) off S1.size hi).toLoadRect fa (Shape.Idx.first p) : BitVec 32).toNat = e.val := by
  refine h _ ?_
  subst ho
  show off 0 + 1 * (Shape.Idx.first p 0).val = off 0
  have := (Shape.Idx.first p 0).isLt
  have h1 : (Shape.Idx.first p 0).val = 0 := by
    have h2 : (Shape.Idx.first p 0).val < 1 := (Shape.Idx.first p 0).isLt
    omega
  omega
theorem rd_lt {c : Dev nD} (fa : Buf (Elt F) (sAct.view.loc (c : Thread nD τ))) {T : Nat} (hact : ∀ i : S17.Idx, (i 0).val < T → (fa i : BitVec 32).toNat < 16) (n : Nat) (hn : n < T) (off : Fin 1 → Nat) (ho : off 0 = n)
    (hi) (p) : (View.readAt (Elt F) sAct.view (Rect.unit (s := S17) off S1.size hi).toLoadRect fa (Shape.Idx.first p) : BitVec 32).toNat < 16 := by
  refine hact _ ?_
  subst ho
  show off 0 + 1 * (Shape.Idx.first p 0).val < T
  have h2 : (Shape.Idx.first p 0).val < 1 := (Shape.Idx.first p 0).isLt
  omega
theorem off54_eq (v1 : BitVec 32) (k : Fin (k0_t3_loop v1).trips) : k0_off54 v1 k 0 = k.val := toNat_iv01 k.val (by have := t3_lt v1 k; omega)

/-- The expert the trip works on: entry `k` of the list of active experts. -/
abbrev tword (c : Dev nD) (v1 : BitVec 32) (hw18 : k0_chk18 v1) (k : Fin (k0_t3_loop v1).trips) (fa : Buf (Elt F) (sAct.view.loc (c : Thread nD τ))) : BitVec 32 :=
  View.readAt (Elt F) sAct.view (Rect.unit (s := S17) (k0_off54 v1 k) S1.size (k0_off54_inb v1 hw18 k)).toLoadRect fa (Shape.Idx.first (Nat.lt_of_lt_of_eq Nat.zero_lt_one numel1_S1.symm))

theorem tword_eq (c : Dev nD) (v1 : BitVec 32) (hw18 : k0_chk18 v1) (k : Fin (k0_t3_loop v1).trips) (fa : Buf (Elt F) (sAct.view.loc (c : Thread nD τ))) (e : Fin 16) (hea : actIs fa k.val e) :
    (tword c v1 hw18 k fa).toNat = e.val := act_at fa k.val e hea _ (off54_eq v1 k) _ _

theorem par_add2 (n : Nat) : par (n + 2) = par n := Fin.ext (by show (n + 2) % 2 = n % 2; omega)

theorem actIs_read {c : Dev nD} (fa : Buf (Elt F) (sAct.view.loc (c : Thread nD τ))) {T : Nat} (hact : ∀ i : S17.Idx, (i 0).val < T → (fa i : BitVec 32).toNat < 16) (n : Nat) (hn : n < T) (off : Fin 1 → Nat) (ho : off 0 = n)
    (hi) (p) : actIs fa n (ex (View.readAt (Elt F) sAct.view (Rect.unit (s := S17) off S1.size hi).toLoadRect fa (Shape.Idx.first p) : BitVec 32)) := by
  intro i hni
  have e1 : i = (sAct.view.emb ((Rect.unit (s := S17) off S1.size hi).toLoadRect.idx (Shape.Idx.first p))) := by
    funext a
    obtain rfl : a = 0 := Subsingleton.elim _ _
    refine Fin.ext ?_
    show (i 0).val = off 0 + 1 * (Shape.Idx.first p 0).val
    have h2 : (Shape.Idx.first p 0).val < 1 := (Shape.Idx.first p 0).isLt
    omega
  have e2 : (View.readAt (Elt F) sAct.view (Rect.unit (s := S17) off S1.size hi).toLoadRect fa (Shape.Idx.first p) : BitVec 32) = fa i := by rw [e1]; rfl
  rw [e2, ex_val _ (hact i (by omega))]

theorem toNat_iv2 (n : Nat) (h : n < 2 ^ 31 - 1) : (Scalar.addi (Scf.iv 0#32 1#32 n) 2#32).toNat = n + 2 := by
  have h1 := toNat_iv01 n (by omega)
  show (Scf.iv 0#32 1#32 n + 2#32).toNat = _
  rw [BitVec.toNat_add, h1]; show (n + 2) % 2 ^ 32 = _; omega

/-- A chunk in flight again, and the rest of its share of the weights, for the next but one entry. -/
theorem restart_wst (c : Dev nD) (fw : Buf (Elt F) (mW.view.loc (c : Thread nD τ))) (fa : Buf (Elt F) (sAct.view.loc (c : Thread nD τ))) (n : Nat) (k : Fin 8) (e : Fin 16) (he : actIs fa (n + 2) e)
    (C : Prop) [Decidable C] (hc : C) (f : Buf (Elt F) ((wslot (par n) k).view.loc (c : Thread nD τ))) (v) (q) (hv : v = ReadAs.same.apply ((wsrc e k).view.read (Elt F) fw)) :
    iprop(wflight c (par n) k iprop(ptsS c (wslot (par n) k) ((wslot (par n) k).view.writes (Elt F) f [⟨Rect.whole S512x3072, v⟩, q]) ∗ wtok c (par n) k (wsrc e k).view.set fw)
      ∗ wtok c (par n) k (Finset.univ \ (wsrc e k).view.set) fw) ⊢ (wst c fw fa C (n + 2) k : sProp 𝕄) := by
  subst hv
  rw [wst, if_pos hc, wnext, par_add2]
  iintro ⟨H, T⟩
  iexists e
  isplitr; ipureintro; exact he
  isplitl [H]
  · iexists (wslot (par n) k).view.writes (Elt F) f [q]
    iexact H
  · iexact T

theorem off94_val (v1 : BitVec 32) (k : Fin (k0_t3_loop v1).trips) : k0_off94 v1 k 0 = k.val + 2 := toNat_iv2 k.val (t3_lt v1 k)
theorem off104_val (v1 : BitVec 32) (k : Fin (k0_t3_loop v1).trips) : k0_off104 v1 k 0 = k.val + 2 := toNat_iv2 k.val (t3_lt v1 k)
theorem off114_val (v1 : BitVec 32) (k : Fin (k0_t3_loop v1).trips) : k0_off114 v1 k 0 = k.val + 2 := toNat_iv2 k.val (t3_lt v1 k)
theorem off124_val (v1 : BitVec 32) (k : Fin (k0_t3_loop v1).trips) : k0_off124 v1 k 0 = k.val + 2 := toNat_iv2 k.val (t3_lt v1 k)
theorem off134_val (v1 : BitVec 32) (k : Fin (k0_t3_loop v1).trips) : k0_off134 v1 k 0 = k.val + 2 := toNat_iv2 k.val (t3_lt v1 k)
theorem off144_val (v1 : BitVec 32) (k : Fin (k0_t3_loop v1).trips) : k0_off144 v1 k 0 = k.val + 2 := toNat_iv2 k.val (t3_lt v1 k)
theorem off154_val (v1 : BitVec 32) (k : Fin (k0_t3_loop v1).trips) : k0_off154 v1 k 0 = k.val + 2 := toNat_iv2 k.val (t3_lt v1 k)
theorem off164_val (v1 : BitVec 32) (k : Fin (k0_t3_loop v1).trips) : k0_off164 v1 k 0 = k.val + 2 := toNat_iv2 k.val (t3_lt v1 k)

/-- An element with a proof about it, the element left to the proof. -/
abbrev mkElem {A : Type} {P : A → Prop} {pay : A} (h : P pay) : {x // P x} := ⟨pay, h⟩

set_option maxHeartbeats 8000000 in
/-- One trip of the expert loop up to the copy out of its row: it lands the eight chunks of the expert's weights,
    starts the next but one expert's, and leaves the row in the staging buffer. -/
def trip1 (c : Dev nD) (v1 : BitVec 32) (hw18 : k0_chk18 v1) (k : Fin (k0_t3_loop v1).trips) (e : Fin 16)
    (fx : Buf (Elt F) (sX.view.loc (c : Thread nD τ))) (fws : Buf (Elt F) (sWs.view.loc (c : Thread nD τ)))
    (fa : Buf (Elt F) (sAct.view.loc (c : Thread nD τ))) (hv : v1.toNat < 17) (hact : ∀ i : S17.Idx, (i 0).val < (k0_t3_loop v1).trips → (fa i : BitVec 32).toNat < 16)
    (fg : Buf (Elt F) (sGs.view.loc (c : Thread nD τ)))
    (fw : Buf (Elt F) (mW.view.loc (c : Thread nD τ))) :
    { p : Vec F S1x8x3072 .bf16 // actIs fa k.val e → ∀ h₁ h₂ hin,
      ∀ (fxq : Buf (Elt F) (sXq.view.loc (c : Thread nD τ))) (fse : Buf (Elt F) (sSe.view.loc (c : Thread nD τ)))
        (W : Waits sig Unit) (fob : Buf (Elt F) ((obrow e).view.loc (c : Thread nD τ))) (K : Unit → sProp 𝕄),
      iprop(ptsW c sX fx ∗ ptsW c sWs fws ∗ ptsW c sAct fa ∗ ptsW c sGs fg ∗ ptsW c sXq fxq ∗ ptsW c sSe fse
        ∗ wfly c fw (par k.val) e 0 ∗ wfly c fw (par k.val) e 1 ∗ wfly c fw (par k.val) e 2 ∗ wfly c fw (par k.val) e 3 ∗ wfly c fw (par k.val) e 4 ∗ wfly c fw (par k.val) e 5 ∗ wfly c fw (par k.val) e 6 ∗ wfly c fw (par k.val) e 7
        ∗ ptsS c (obrow e) fob ∗ owes (c : Thread nD τ) 0 W
        ∗ (iprop(ptsW c sX fx ∗ ptsW c sWs fws ∗ ptsW c sAct fa ∗ ptsW c sGs fg ∗ (∃ f, ptsW c sXq f) ∗ (∃ f, ptsW c sSe f)
            ∗ wst c fw fa (k0_cond11 v1 k = 1#1) (k.val + 2) 0 ∗ wst c fw fa (k0_cond11 v1 k = 1#1) (k.val + 2) 1 ∗ wst c fw fa (k0_cond11 v1 k = 1#1) (k.val + 2) 2 ∗ wst c fw fa (k0_cond11 v1 k = 1#1) (k.val + 2) 3 ∗ wst c fw fa (k0_cond11 v1 k = 1#1) (k.val + 2) 4 ∗ wst c fw fa (k0_cond11 v1 k = 1#1) (k.val + 2) 5 ∗ wst c fw fa (k0_cond11 v1 k = 1#1) (k.val + 2) 6 ∗ wst c fw fa (k0_cond11 v1 k = 1#1) (k.val + 2) 7
            ∗ ptsS c (obrow e) (View.write (Elt F) (sOb.access (Rect.unit (s := S16x8x3072) (k0_off169 (tword c v1 hw18 k fa)) S1x8x3072.size hin)) fob p Finset.univ) ∗ (∃ W, owes (c : Thread nD τ) 0 W))
          -∗ wp frame (wpE (defs₀ (F := F)) Variants.none (c : Thread nD τ) none) Set.univ (tripTail (ex (tword c v1 hw18 k fa)) h₁ h₂) K))
      ⊢ wp frame (wpE (defs₀ (F := F)) Variants.none (c : Thread nD τ) none) Set.univ
          (k0_t3_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 v1 hw18 k ()) K } := by
  apply mkElem
  intro hea h₁ h₂ hin fxq fse W fob K
  unfold k0_t3_body
  iintro ⟨HX, HWs, HA, HG, HXq, HSe, ⟨⟨%f0, Hfl0⟩, Ht0⟩, ⟨⟨%f1, Hfl1⟩, Ht1⟩, ⟨⟨%f2, Hfl2⟩, Ht2⟩, ⟨⟨%f3, Hfl3⟩, Ht3⟩, ⟨⟨%f4, Hfl4⟩, Ht4⟩, ⟨⟨%f5, Hfl5⟩, Ht5⟩, ⟨⟨%f6, Hfl6⟩, Ht6⟩, ⟨⟨%f7, Hfl7⟩, Ht7⟩, HOb, HO, HK⟩
  sl_exec_parts (disch := (first | (refine chk19_of _ ?_; exact rd_lt fa hact k.val k.isLt _ (toNat_iv01 k.val (by have := t3_lt v1 k; omega)) _ _) | (refine chk20_of _ ?_; exact rd_lt fa hact k.val k.isLt _ (toNat_iv01 k.val (by have := t3_lt v1 k; omega)) _ _) | (refine chk22_of _ ?_; exact rd_lt fa hact k.val k.isLt _ (toNat_iv01 k.val (by have := t3_lt v1 k; omega)) _ _) | (refine chk24_of _ ?_; exact rd_lt fa hact k.val k.isLt _ (toNat_iv01 k.val (by have := t3_lt v1 k; omega)) _ _) | (refine chk26_of _ ?_; exact rd_lt fa hact k.val k.isLt _ (toNat_iv01 k.val (by have := t3_lt v1 k; omega)) _ _) | (refine chk28_of _ ?_; exact rd_lt fa hact k.val k.isLt _ (toNat_iv01 k.val (by have := t3_lt v1 k; omega)) _ _) | (refine chk30_of _ ?_; exact rd_lt fa hact k.val k.isLt _ (toNat_iv01 k.val (by have := t3_lt v1 k; omega)) _ _) | (refine chk32_of _ ?_; exact rd_lt fa hact k.val k.isLt _ (toNat_iv01 k.val (by have := t3_lt v1 k; omega)) _ _) | (refine chk34_of _ ?_; exact rd_lt fa hact k.val k.isLt _ (toNat_iv01 k.val (by have := t3_lt v1 k; omega)) _ _) | (refine chk21_of _ _ _ ?_; intro hc; exact rd_lt fa hact (k.val+2) ((cond_lt hv k).mp hc) _ (toNat_iv2 k.val (t3_lt v1 k)) _ _) | (refine chk23_of _ _ _ ?_; intro hc; exact rd_lt fa hact (k.val+2) ((cond_lt hv k).mp hc) _ (toNat_iv2 k.val (t3_lt v1 k)) _ _) | (refine chk25_of _ _ _ ?_; intro hc; exact rd_lt fa hact (k.val+2) ((cond_lt hv k).mp hc) _ (toNat_iv2 k.val (t3_lt v1 k)) _ _) | (refine chk27_of _ _ _ ?_; intro hc; exact rd_lt fa hact (k.val+2) ((cond_lt hv k).mp hc) _ (toNat_iv2 k.val (t3_lt v1 k)) _ _) | (refine chk29_of _ _ _ ?_; intro hc; exact rd_lt fa hact (k.val+2) ((cond_lt hv k).mp hc) _ (toNat_iv2 k.val (t3_lt v1 k)) _ _) | (refine chk31_of _ _ _ ?_; intro hc; exact rd_lt fa hact (k.val+2) ((cond_lt hv k).mp hc) _ (toNat_iv2 k.val (t3_lt v1 k)) _ _) | (refine chk33_of _ _ _ ?_; intro hc; exact rd_lt fa hact (k.val+2) ((cond_lt hv k).mp hc) _ (toNat_iv2 k.val (t3_lt v1 k)) _ _) | (refine chk35_of _ _ _ ?_; intro hc; exact rd_lt fa hact (k.val+2) ((cond_lt hv k).mp hc) _ (toNat_iv2 k.val (t3_lt v1 k)) _ _)))
  have he : (Cert.KernelIdeal.Gen.trip1.sl.r c v1 hw18 k fa).toNat = e.val := tword_eq c v1 hw18 k fa e hea
  sl_exec
  delta Cert.KernelIdeal.Gen.trip1.sl.HOb_w1
  have hp_eq : ?pay = k0_pay394 (Cert.KernelIdeal.Gen.trip1.sl.r_282 c v1 hw18 k e fx fws fa hact fw) (Cert.KernelIdeal.Gen.trip1.sl.r_284 c v1 hw18 k fa hact fg) := rfl
  by_cases hc : k0_cond11 v1 k = 1#1
  · skip
    have a0 : actIs fa (k.val + 2) (ex (Cert.KernelIdeal.Gen.trip1.sl.r_251 c v1 hw18 k fa hc)) := by
      delta Cert.KernelIdeal.Gen.trip1.sl.r_251
      exact actIs_read fa hact _ ((cond_lt hv k).mp hc) _ (off94_val v1 k) _ _
    have d0 : Cert.KernelIdeal.Gen.trip1.sl.dma156 c v1 hw18 k fa fw hc = ReadAs.same.apply ((wsrc (ex (Cert.KernelIdeal.Gen.trip1.sl.r_251 c v1 hw18 k fa hc)) 0).view.read (Elt F) fw) := by
      delta Cert.KernelIdeal.Gen.trip1.sl.dma156; rfl
    have a1 : actIs fa (k.val + 2) (ex (Cert.KernelIdeal.Gen.trip1.sl.r_257 c v1 hw18 k fa hc)) := by
      delta Cert.KernelIdeal.Gen.trip1.sl.r_257
      exact actIs_read fa hact _ ((cond_lt hv k).mp hc) _ (off104_val v1 k) _ _
    have d1 : Cert.KernelIdeal.Gen.trip1.sl.dma166 c v1 hw18 k fa fw hc = ReadAs.same.apply ((wsrc (ex (Cert.KernelIdeal.Gen.trip1.sl.r_257 c v1 hw18 k fa hc)) 1).view.read (Elt F) fw) := by
      delta Cert.KernelIdeal.Gen.trip1.sl.dma166; rfl
    have a2 : actIs fa (k.val + 2) (ex (Cert.KernelIdeal.Gen.trip1.sl.r_261 c v1 hw18 k fa hc)) := by
      delta Cert.KernelIdeal.Gen.trip1.sl.r_261
      exact actIs_read fa hact _ ((cond_lt hv k).mp hc) _ (off114_val v1 k) _ _
    have d2 : Cert.KernelIdeal.Gen.trip1.sl.dma176 c v1 hw18 k fa fw hc = ReadAs.same.apply ((wsrc (ex (Cert.KernelIdeal.Gen.trip1.sl.r_261 c v1 hw18 k fa hc)) 2).view.read (Elt F) fw) := by
      delta Cert.KernelIdeal.Gen.trip1.sl.dma176; rfl
    have a3 : actIs fa (k.val + 2) (ex (Cert.KernelIdeal.Gen.trip1.sl.r_266 c v1 hw18 k fa hc)) := by
      delta Cert.KernelIdeal.Gen.trip1.sl.r_266
      exact actIs_read fa hact _ ((cond_lt hv k).mp hc) _ (off124_val v1 k) _ _
    have d3 : Cert.KernelIdeal.Gen.trip1.sl.dma186 c v1 hw18 k fa fw hc = ReadAs.same.apply ((wsrc (ex (Cert.KernelIdeal.Gen.trip1.sl.r_266 c v1 hw18 k fa hc)) 3).view.read (Elt F) fw) := by
      delta Cert.KernelIdeal.Gen.trip1.sl.dma186; rfl
    have a4 : actIs fa (k.val + 2) (ex (Cert.KernelIdeal.Gen.trip1.sl.r_270 c v1 hw18 k fa hc)) := by
      delta Cert.KernelIdeal.Gen.trip1.sl.r_270
      exact actIs_read fa hact _ ((cond_lt hv k).mp hc) _ (off134_val v1 k) _ _
    have d4 : Cert.KernelIdeal.Gen.trip1.sl.dma196 c v1 hw18 k fa fw hc = ReadAs.same.apply ((wsrc (ex (Cert.KernelIdeal.Gen.trip1.sl.r_270 c v1 hw18 k fa hc)) 4).view.read (Elt F) fw) := by
      delta Cert.KernelIdeal.Gen.trip1.sl.dma196; rfl
    have a5 : actIs fa (k.val + 2) (ex (Cert.KernelIdeal.Gen.trip1.sl.r_274 c v1 hw18 k fa hc)) := by
      delta Cert.KernelIdeal.Gen.trip1.sl.r_274
      exact actIs_read fa hact _ ((cond_lt hv k).mp hc) _ (off144_val v1 k) _ _
    have d5 : Cert.KernelIdeal.Gen.trip1.sl.dma206 c v1 hw18 k fa fw hc = ReadAs.same.apply ((wsrc (ex (Cert.KernelIdeal.Gen.trip1.sl.r_274 c v1 hw18 k fa hc)) 5).view.read (Elt F) fw) := by
      delta Cert.KernelIdeal.Gen.trip1.sl.dma206; rfl
    have a6 : actIs fa (k.val + 2) (ex (Cert.KernelIdeal.Gen.trip1.sl.r_279 c v1 hw18 k fa hc)) := by
      delta Cert.KernelIdeal.Gen.trip1.sl.r_279
      exact actIs_read fa hact _ ((cond_lt hv k).mp hc) _ (off154_val v1 k) _ _
    have d6 : Cert.KernelIdeal.Gen.trip1.sl.dma216 c v1 hw18 k fa fw hc = ReadAs.same.apply ((wsrc (ex (Cert.KernelIdeal.Gen.trip1.sl.r_279 c v1 hw18 k fa hc)) 6).view.read (Elt F) fw) := by
      delta Cert.KernelIdeal.Gen.trip1.sl.dma216; rfl
    have a7 : actIs fa (k.val + 2) (ex (Cert.KernelIdeal.Gen.trip1.sl.r_283 c v1 hw18 k fa hc)) := by
      delta Cert.KernelIdeal.Gen.trip1.sl.r_283
      exact actIs_read fa hact _ ((cond_lt hv k).mp hc) _ (off164_val v1 k) _ _
    have d7 : Cert.KernelIdeal.Gen.trip1.sl.dma226 c v1 hw18 k fa fw hc = ReadAs.same.apply ((wsrc (ex (Cert.KernelIdeal.Gen.trip1.sl.r_283 c v1 hw18 k fa hc)) 7).view.read (Elt F) fw) := by
      delta Cert.KernelIdeal.Gen.trip1.sl.dma226; rfl
    simp only [Guarded, gset, hc, ↓reduceDIte, ↓reduceIte, Finset.sdiff_empty]
    icases if8 with ⟨R0, R1, R2, R3, R4, R5, R6, R7⟩
    iapply HK
    isplitl [HX]; iexact HX
    isplitl [HWs]; iexact HWs
    isplitl [HA]; iexact HA
    isplitl [HG]; iexact HG
    isplitl [HXq]; iexists _; iexact HXq
    isplitl [HSe]; iexists _; iexact HSe
    isplitl [R0 Ht0]
    · iapply (restart_wst c fw fa k.val 0 (ex (Cert.KernelIdeal.Gen.trip1.sl.r_251 c v1 hw18 k fa hc)) a0 _ (by first | exact hc | trivial) _ _ _ d0)
      isplitl [R0]; iexact R0; iexact Ht0
    isplitl [R1 Ht1]
    · iapply (restart_wst c fw fa k.val 1 (ex (Cert.KernelIdeal.Gen.trip1.sl.r_257 c v1 hw18 k fa hc)) a1 _ (by first | exact hc | trivial) _ _ _ d1)
      isplitl [R1]; iexact R1; iexact Ht1
    isplitl [R2 Ht2]
    · iapply (restart_wst c fw fa k.val 2 (ex (Cert.KernelIdeal.Gen.trip1.sl.r_261 c v1 hw18 k fa hc)) a2 _ (by first | exact hc | trivial) _ _ _ d2)
      isplitl [R2]; iexact R2; iexact Ht2
    isplitl [R3 Ht3]
    · iapply (restart_wst c fw fa k.val 3 (ex (Cert.KernelIdeal.Gen.trip1.sl.r_266 c v1 hw18 k fa hc)) a3 _ (by first | exact hc | trivial) _ _ _ d3)
      isplitl [R3]; iexact R3; iexact Ht3
    isplitl [R4 Ht4]
    · iapply (restart_wst c fw fa k.val 4 (ex (Cert.KernelIdeal.Gen.trip1.sl.r_270 c v1 hw18 k fa hc)) a4 _ (by first | exact hc | trivial) _ _ _ d4)
      isplitl [R4]; iexact R4; iexact Ht4
    isplitl [R5 Ht5]
    · iapply (restart_wst c fw fa k.val 5 (ex (Cert.KernelIdeal.Gen.trip1.sl.r_274 c v1 hw18 k fa hc)) a5 _ (by first | exact hc | trivial) _ _ _ d5)
      isplitl [R5]; iexact R5; iexact Ht5
    isplitl [R6 Ht6]
    · iapply (restart_wst c fw fa k.val 6 (ex (Cert.KernelIdeal.Gen.trip1.sl.r_279 c v1 hw18 k fa hc)) a6 _ (by first | exact hc | trivial) _ _ _ d6)
      isplitl [R6]; iexact R6; iexact Ht6
    isplitl [R7 Ht7]
    · iapply (restart_wst c fw fa k.val 7 (ex (Cert.KernelIdeal.Gen.trip1.sl.r_283 c v1 hw18 k fa hc)) a7 _ (by first | exact hc | trivial) _ _ _ d7)
      isplitl [R7]; iexact R7; iexact Ht7
    isplitl [HOb]; iexact HOb
    iexists _; iexact HO
  · simp only [wst, par_add2]
    simp only [Guarded, gset, hc, ↓reduceDIte, ↓reduceIte, Finset.sdiff_empty]
    icases if8 with ⟨R0, C0, R1, C1, R2, C2, R3, C3, R4, C4, R5, C5, R6, C6, R7, C7⟩
    iapply HK
    isplitl [HX]; iexact HX
    isplitl [HWs]; iexact HWs
    isplitl [HA]; iexact HA
    isplitl [HG]; iexact HG
    isplitl [HXq]; iexists _; iexact HXq
    isplitl [HSe]; iexists _; iexact HSe
    isplitl [R0 C0 Ht0]; isplitl [C0]; iexact C0; isplitl [R0]; iexists _; iexact R0; iexact Ht0
    isplitl [R1 C1 Ht1]; isplitl [C1]; iexact C1; isplitl [R1]; iexists _; iexact R1; iexact Ht1
    isplitl [R2 C2 Ht2]; isplitl [C2]; iexact C2; isplitl [R2]; iexists _; iexact R2; iexact Ht2
    isplitl [R3 C3 Ht3]; isplitl [C3]; iexact C3; isplitl [R3]; iexists _; iexact R3; iexact Ht3
    isplitl [R4 C4 Ht4]; isplitl [C4]; iexact C4; isplitl [R4]; iexists _; iexact R4; iexact Ht4
    isplitl [R5 C5 Ht5]; isplitl [C5]; iexact C5; isplitl [R5]; iexists _; iexact R5; iexact Ht5
    isplitl [R6 C6 Ht6]; isplitl [C6]; iexact C6; isplitl [R6]; iexists _; iexact R6; iexact Ht6
    isplitl [R7 C7 Ht7]; isplitl [C7]; iexact C7; isplitl [R7]; iexists _; iexact R7; iexact Ht7
    isplitl [HOb]; iexact HOb
    iexists _; iexact HO

end Cert.KernelIdeal.Gen

end
-- ==== Proof.Step3.lean ====
module

public import proofs.«01_k».proof.Proof.Start
public import proofs.«01_k».proof.Proof.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The eight chunks at position `n` of the list. -/
def wst8 (c : Dev nD) (fw : Buf (Elt F) (mW.view.loc (c : Thread nD τ))) (fa : Buf (Elt F) (sAct.view.loc (c : Thread nD τ))) (b : Prop) [Decidable b] (n : Nat) : sProp 𝕄 :=
  iprop(wst c fw fa (b) (n) 0 ∗ wst c fw fa (b) (n) 1 ∗ wst c fw fa (b) (n) 2 ∗ wst c fw fa (b) (n) 3 ∗ wst c fw fa (b) (n) 4 ∗ wst c fw fa (b) (n) 5 ∗ wst c fw fa (b) (n) 6 ∗ wst c fw fa (b) (n) 7)
theorem wst8_congr (c : Dev nD) (fw : Buf (Elt F) (mW.view.loc (c : Thread nD τ))) (fa : Buf (Elt F) (sAct.view.loc (c : Thread nD τ))) (b b' : Prop) [Decidable b] [Decidable b'] (h : b ↔ b') (n : Nat) :
    wst8 c fw fa b n = wst8 c fw fa b' n := by
  obtain rfl := propext h
  congr

/-- A chunk in flight for an entry of the list is in flight for the expert the entry names. -/
theorem wst_fly (c : Dev nD) (fw : Buf (Elt F) (mW.view.loc (c : Thread nD τ))) (fa : Buf (Elt F) (sAct.view.loc (c : Thread nD τ))) (b : Prop) [Decidable b] (hb : b) (n : Nat) (hn : n < 17) (e : Fin 16) (hea : actIs fa n e) (j : Fin 8) :
    wst c fw fa b n j ⊢ wfly c fw (par n) e j := by
  unfold wst
  rw [if_pos hb]
  iintro ⟨%e', %he, H⟩
  obtain rfl : e' = e := Fin.ext (by
    have h1 := he (fun a => ⟨n, by obtain rfl : a = 0 := Subsingleton.elim _ _; exact hn⟩ : S17.Idx) rfl
    have h2 := hea (fun a => ⟨n, by obtain rfl : a = 0 := Subsingleton.elim _ _; exact hn⟩ : S17.Idx) rfl
    omega)
  iexact H
theorem wst8_fly (c : Dev nD) (fw : Buf (Elt F) (mW.view.loc (c : Thread nD τ))) (fa : Buf (Elt F) (sAct.view.loc (c : Thread nD τ))) (b : Prop) [Decidable b] (hb : b) (n : Nat) (hn : n < 17) (e : Fin 16) (hea : actIs fa n e) :
    wst8 c fw fa b n ⊢ iprop(wfly c fw (par n) e 0 ∗ wfly c fw (par n) e 1 ∗ wfly c fw (par n) e 2 ∗ wfly c fw (par n) e 3 ∗ wfly c fw (par n) e 4 ∗ wfly c fw (par n) e 5 ∗ wfly c fw (par n) e 6 ∗ wfly c fw (par n) e 7) := by
  unfold wst8
  iintro ⟨H0, H1, H2, H3, H4, H5, H6, H7⟩
  isplitl [H0]; iapply (wst_fly c fw fa b hb n hn e hea 0); iexact H0
  isplitl [H1]; iapply (wst_fly c fw fa b hb n hn e hea 1); iexact H1
  isplitl [H2]; iapply (wst_fly c fw fa b hb n hn e hea 2); iexact H2
  isplitl [H3]; iapply (wst_fly c fw fa b hb n hn e hea 3); iexact H3
  isplitl [H4]; iapply (wst_fly c fw fa b hb n hn e hea 4); iexact H4
  isplitl [H5]; iapply (wst_fly c fw fa b hb n hn e hea 5); iexact H5
  isplitl [H6]; iapply (wst_fly c fw fa b hb n hn e hea 6); iexact H6
  iapply (wst_fly c fw fa b hb n hn e hea 7); iexact H7

theorem tail_issue2 (c : Dev nD) (p : Nat → Bool) (fo : Buf (Elt F) (mOut.view.loc (c : Thread nD τ))) (Pt : Fin 16 → Vec F S1x8x3072 .bf16) (j : Nat) (hj : j < 16) (e : Fin 16) (he : ord p ⟨j, hj⟩ = e) (h₁ h₂) (K : Unit → sProp 𝕄) :
    iprop(ptsS c (obrow e) (obP (Pt ⟨j, hj⟩)) ∗ ptsS c (outrow e) fo ∗ obatch c p fo Pt j 0 ∗ (obatch c p fo Pt (j + 1) 0 -∗ K ()))
      ⊢ wp frame (wpE (defs₀ (F := F)) Variants.none (c : Thread nD τ) none) Set.univ (tripTail e h₁ h₂) K := tail_issue c p fo Pt j hj e he h₁ h₂ K

/-- Before trip `k` of the expert loop: the chunks of entries `k` and `k+1` in flight, as far as the list goes, and the
    copies out of the experts without tokens and of the first `k` experts of the list started. -/
def t3Inv (c : Dev nD) (p : Nat → Bool) (T : Nat) (fx : Buf (Elt F) (sX.view.loc (c : Thread nD τ))) (fws : Buf (Elt F) (sWs.view.loc (c : Thread nD τ))) (fa : Buf (Elt F) (sAct.view.loc (c : Thread nD τ))) (fg : Buf (Elt F) (sGs.view.loc (c : Thread nD τ)))
    (fw : Buf (Elt F) (mW.view.loc (c : Thread nD τ))) (fo : Buf (Elt F) (mOut.view.loc (c : Thread nD τ))) (Pt : Fin 16 → Vec F S1x8x3072 .bf16) (k : Nat) (_ : Unit) : sProp 𝕄 :=
  iprop(⌜k ≤ T⌝ ∗ ptsW c sX fx ∗ ptsW c sWs fws ∗ ptsW c sAct fa ∗ ptsW c sGs fg ∗ (∃ f, ptsW c sXq f) ∗ (∃ f, ptsW c sSe f)
    ∗ wst8 c fw fa (k < T) k ∗ wst8 c fw fa (k + 1 < T) (k + 1)
    ∗ obatch c p fo Pt (nE p + k) 0 ∗ orows c p fo (nE p + k) ∗ (∃ W, owes (c : Thread nD τ) 0 W))

theorem off169_eq (v : BitVec 32) (e : Fin 16) (h : v.toNat = e.val) : k0_off169 v = ![e.val, 0, 0] := by
  rw [← h]; rfl

theorem t3_step (c : Dev nD) (p : Nat → Bool) (v1 : BitVec 32) (hw18 : k0_chk18 v1) (fx : Buf (Elt F) (sX.view.loc (c : Thread nD τ))) (fws : Buf (Elt F) (sWs.view.loc (c : Thread nD τ))) (fa : Buf (Elt F) (sAct.view.loc (c : Thread nD τ))) (hv : v1.toNat < 17) (hsp : actSpec fa p 16 v1)
    (hact : ∀ i : S17.Idx, (i 0).val < (k0_t3_loop v1).trips → (fa i : BitVec 32).toNat < 16)
    (fg : Buf (Elt F) (sGs.view.loc (c : Thread nD τ)))
    (fw : Buf (Elt F) (mW.view.loc (c : Thread nD τ))) (fo : Buf (Elt F) (mOut.view.loc (c : Thread nD τ))) (Pt : Fin 16 → Vec F S1x8x3072 .bf16)
    (hPt : ∀ (k : Fin (k0_t3_loop v1).trips) (hk : nE p + k.val < 16), Pt ⟨nE p + k.val, hk⟩ = (trip1 c v1 hw18 k (ord p ⟨nE p + k.val, hk⟩) fx fws fa hv hact fg fw).1)
    (k : Fin (k0_t3_loop v1).trips) (a : Unit) :
    t3Inv c p (k0_t3_loop v1).trips fx fws fa fg fw fo Pt k.val a ⊢ wp frame (wpE (defs₀ (F := F)) Variants.none (c : Thread nD τ) none) Set.univ
          (k0_t3_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 v1 hw18 k a) (t3Inv c p (k0_t3_loop v1).trips fx fws fa fg fw fo Pt (k.val + 1)) := by
  have hT := trips_of v1 hv
  have hk := k.isLt
  have hj : nE p + k.val < 16 := by have h1 := nE_add p; have h2 := hsp.1; omega
  have hea := actIs_read fa hact k.val hk (k0_off54 v1 k) (off54_eq v1 k) (k0_off54_inb v1 hw18 k) (Nat.lt_of_lt_of_eq Nat.zero_lt_one numel1_S1.symm)
  have he0 := actSpec_is hsp k.val hj
  have hte := tword_eq c v1 hw18 k fa _ he0
  have hoe : ord p ⟨nE p + k.val, hj⟩ = ex (tword c v1 hw18 k fa) := Fin.ext (by rw [ex_val _ (by rw [hte]; exact Fin.isLt _), hte])
  have hP := hPt k hj
  rw [hoe] at hP
  have hoff := off169_eq (tword c v1 hw18 k fa) (ex (tword c v1 hw18 k fa)) (by rw [ex_val _ (by rw [hte]; exact Fin.isLt _)])
  have hin : ∀ a, k0_off169 (tword c v1 hw18 k fa) a + S1x8x3072.size a ≤ S16x8x3072.size a := by rw [hoff]; exact row_inb _
  unfold t3Inv orows
  rw [Ring.bigSep_rangeSet_head hj hj, hoe]
  iintro ⟨-, HX, HWs, HA, HG, ⟨%fxq, HXq⟩, ⟨%fse, HSe⟩, HW0, HW1, HB, ⟨⟨⟨%fob, Hob⟩, Hout⟩, HR⟩, ⟨%W, HO⟩⟩
  ihave HW0 := (wst8_fly c fw fa _ hk k.val (by omega) _ hea) $$ HW0
  icases HW0 with ⟨H0, H1, H2, H3, H4, H5, H6, H7⟩
  iapply ((trip1 c v1 hw18 k (ex (tword c v1 hw18 k fa)) fx fws fa hv hact fg fw).2 hea (obrow_we _) (outrow_we _) hin fxq fse W fob _)
  isplitl [HX]; iexact HX
  isplitl [HWs]; iexact HWs
  isplitl [HA]; iexact HA
  isplitl [HG]; iexact HG
  isplitl [HXq]; iexact HXq
  isplitl [HSe]; iexact HSe
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [Hob]; iexact Hob
  isplitl [HO]; iexact HO
  iintro ⟨HX, HWs, HA, HG, HXq, HSe, H0, H1, H2, H3, H4, H5, H6, H7, Hob, HO⟩
  ihave Hob := (Entails.of_eq (store_row c _ _ hoff hin fob _)) $$ Hob
  iapply (tail_issue2 c p fo Pt _ hj _ hoe (obrow_we _) (outrow_we _) _)
  rw [hP]
  isplitl [Hob]; iexact Hob
  isplitl [Hout]; iexact Hout
  isplitl [HB]; iexact HB
  iintro HB
  isplitr; ipureintro; omega
  isplitl [HX]; iexact HX
  isplitl [HWs]; iexact HWs
  isplitl [HA]; iexact HA
  isplitl [HG]; iexact HG
  isplitl [HXq]; iexact HXq
  isplitl [HSe]; iexact HSe
  isplitl [HW1]; iexact HW1
  isplitl [H0 H1 H2 H3 H4 H5 H6 H7]
  · iapply (Entails.of_eq (wst8_congr c fw fa _ _ (cond_lt hv k) (k.val + 2)))
    unfold wst8
    isplitl [H0]; iexact H0
    isplitl [H1]; iexact H1
    isplitl [H2]; iexact H2
    isplitl [H3]; iexact H3
    isplitl [H4]; iexact H4
    isplitl [H5]; iexact H5
    isplitl [H6]; iexact H6
    iexact H7
  isplitl [HB]; iexact HB
  isplitl [HR]; iexact HR
  iexact HO

end Cert.KernelIdeal.Gen

end
-- ==== Proof.Run.lean ====
module

public import proofs.«01_k».proof.Proof.Step3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem act_rd {c : Dev nD} (fa : Buf (Elt F) (sAct.view.loc (c : Thread nD τ))) {T : Nat} (hact : ∀ i : S17.Idx, (i 0).val < T → (fa i : BitVec 32).toNat < 16) (n : Nat) (hn : n < T) (off : Fin 1 → Nat) (ho : off 0 = n)
    (hi) (p) : (View.readAt (Elt F) sAct.view (Rect.unit (s := S17) off S1.size hi).toLoadRect fa (Shape.Idx.first p) : BitVec 32).toNat < 16 := by
  have h2 : (Shape.Idx.first p 0).val < 1 := (Shape.Idx.first p 0).isLt
  refine hact (sAct.view.emb ((Rect.unit (s := S17) off S1.size hi).toLoadRect.idx (Shape.Idx.first p))) ?_
  show off 0 + 1 * (Shape.Idx.first p 0).val < T
  omega
theorem wr_gs (c : Dev nD) (gg : Buf (Elt F) (sGs.view.loc (c : Thread nD τ))) (fg0 : Buf (Elt F) (mGs.view.loc (c : Thread nD τ))) :
    View.write (Elt F) sGs.view gg (ReadAs.same.apply (mGs.view.read (Elt F) fg0)) Finset.univ = (fun i : S16.Idx => fg0 i) :=
  funext fun (y : S16.Idx) => (View.write_emb_of_mem (v := sGs.view) gg _ (Finset.mem_univ y)).trans rfl
theorem wr_x (c : Dev nD) (gg : Buf (Elt F) (sX.view.loc (c : Thread nD τ))) (fg0 : Buf (Elt F) (mX.view.loc (c : Thread nD τ))) :
    View.write (Elt F) sX.view gg (ReadAs.same.apply (mX.view.read (Elt F) fg0)) Finset.univ = (fun i : S16x8x4096.Idx => fg0 i) :=
  funext fun (y : S16x8x4096.Idx) => (View.write_emb_of_mem (v := sX.view) gg _ (Finset.mem_univ y)).trans rfl
theorem wr_ws (c : Dev nD) (gg : Buf (Elt F) (sWs.view.loc (c : Thread nD τ))) (fg0 : Buf (Elt F) (mWs.view.loc (c : Thread nD τ))) :
    View.write (Elt F) sWs.view gg (ReadAs.same.apply (mWs.view.read (Elt F) fg0)) Finset.univ = (fun i : S16x32x24.Idx => fg0 i) :=
  funext fun (y : S16x32x24.Idx) => (View.write_emb_of_mem (v := sWs.view) gg _ (Finset.mem_univ y)).trans rfl

/-- The eight chunks of slot `s`, at rest. -/
def wfree8 (c : Dev nD) (fw : Buf (Elt F) (mW.view.loc (c : Thread nD τ))) (s : Fin 2) : sProp 𝕄 := iprop(wfree c fw s 0 ∗ wfree c fw s 1 ∗ wfree c fw s 2 ∗ wfree c fw s 3 ∗ wfree c fw s 4 ∗ wfree c fw s 5 ∗ wfree c fw s 6 ∗ wfree c fw s 7)
theorem wst8_free (c : Dev nD) (fw : Buf (Elt F) (mW.view.loc (c : Thread nD τ))) (fa : Buf (Elt F) (sAct.view.loc (c : Thread nD τ))) (b : Prop) [Decidable b] (h : ¬b) (n : Nat) :
    wst8 c fw fa b n = wfree8 c fw (par n) := by
  unfold wst8 wfree8 wst
  simp only [if_neg h]
theorem wfree8_par (c : Dev nD) (fw : Buf (Elt F) (mW.view.loc (c : Thread nD τ))) (n : Nat) :
    iprop(wfree8 c fw (par n) ∗ wfree8 c fw (par (n + 1))) ⊢ (iprop(wfree8 c fw 0 ∗ wfree8 c fw 1) : sProp 𝕄) := by
  rcases Nat.mod_two_eq_zero_or_one n with h | h
  · rw [show par n = 0 from Fin.ext h, show par (n + 1) = 1 from Fin.ext (by show (n + 1) % 2 = 1; omega)]
  · rw [show par n = 1 from Fin.ext h, show par (n + 1) = 0 from Fin.ext (by show (n + 1) % 2 = 0; omega)]
    iintro ⟨H1, H2⟩; isplitl [H2]; iexact H2; iexact H1

theorem orows_init (c : Dev nD) (p : Nat → Bool) (fo : Buf (Elt F) (mOut.view.loc (c : Thread nD τ))) (fob : Buf (Elt F) (sOb.view.loc (c : Thread nD τ))) :
    iprop(ptsW c sOb fob ∗ ptsW c mOut fo) ⊢ (orows c p fo 0 : sProp 𝕄) := by
  have hE := BI.bigSep_univ_equiv (ordE p) (fun e => (iprop((∃ f, ptsS c (obrow e) f) ∗ ptsS c (outrow e) fo) : sProp 𝕄))
  have hS : (bigSep Finset.univ fun e => (iprop((∃ f, ptsS c (obrow e) f) ∗ ptsS c (outrow e) fo) : sProp 𝕄)) = iprop((bigSep Finset.univ fun e => (iprop(∃ f, ptsS c (obrow e) f) : sProp 𝕄)) ∗ (bigSep Finset.univ fun e => (ptsS c (outrow e) fo : sProp 𝕄))) := BI.bigSep_sep _ _ _
  have hO : (ptsW c sOb fob : sProp 𝕄) ⊢ bigSep Finset.univ (fun e => (iprop(∃ f, ptsS c (obrow e) f) : sProp 𝕄)) :=
    BIBase.Entails.trans (Entails.of_eq (ob_rows c fob)) (BI.bigSep_mono fun e _ => by
      show ptsS c (obrow e) fob ⊢ (iprop(∃ f, ptsS c (obrow e) f) : sProp 𝕄)
      iintro H; iexists fob; iexact H)
  unfold orows
  rw [show Ring.rangeSet 16 0 16 = Finset.univ from Ring.rangeSet_univ]
  iintro ⟨H1, H2⟩
  ihave H1 := hO $$ H1
  ihave H2 := (Entails.of_eq (out_rows c fo)) $$ H2
  iapply (Entails.of_eq hE)
  iapply (Entails.of_eq hS.symm)
  isplitl [H1]; iexact H1; iexact H2

/-- The output when all the copies have landed: row `e` is what the copy of `e` carried. -/
def outG (c : Dev nD) (p : Nat → Bool) (Pt : Fin 16 → Vec F S1x8x3072 .bf16) : Buf (Elt F) (mOut.view.loc (c : Thread nD τ)) :=
  fun y : S16x8x3072.Idx => Pt ((ordE p).symm (y 0)) (inrow y)

theorem ob_alloc (c : Dev nD) (p : Nat → Bool) (fo : Buf (Elt F) (mOut.view.loc (c : Thread nD τ))) (Pt : Fin 16 → Vec F S1x8x3072 .bf16) :
    (semVal ((c : Thread nD τ), SemLoc.dma cc0_scratch12.sem) 0 : sProp 𝕄) ⊢ |={Set.univ}=> obatch c p fo Pt 0 0 :=
  Transfers.batch_alloc' (countersEmb (U := Pipeline.UD sig nD τ)) (c : Thread nD τ) () 1536 (dlv c p fo Pt)

theorem outG_row (c : Dev nD) (p : Nat → Bool) (Pt : Fin 16 → Vec F S1x8x3072 .bf16) (t : Fin 16) (y : S16x8x3072.Idx) (hy : (y 0).val = (ord p t).val) :
    outG c p Pt y = Pt t (inrow y) := by
  have h1 : (ordE p).symm (y 0) = t := (Equiv.symm_apply_eq (ordE p)).mpr (Fin.ext hy)
  show Pt ((ordE p).symm (y 0)) (inrow y) = Pt t (inrow y)
  exact congrArg (fun t => Pt t (inrow y)) h1

theorem dlv_one (c : Dev nD) (p : Nat → Bool) (fo : Buf (Elt F) (mOut.view.loc (c : Thread nD τ))) (Pt : Fin 16 → Vec F S1x8x3072 .bf16) (t : Fin 16) :
    dlv c p fo Pt t ⊢ (iprop((∃ f, ptsS c (obrow (ord p t)) f) ∗ ptsS c (outrow (ord p t)) (outG c p Pt)) : sProp 𝕄) := by
  unfold dlv
  iintro ⟨H1, H2⟩
  isplitl [H2]; iexists _; iexact H2
  iapply (Entails.of_eq (landed_row c (ord p t) fo (Pt t) (outG c p Pt) (fun y hy => outG_row c p Pt t y hy)))
  iexact H1

theorem dlv_all (c : Dev nD) (p : Nat → Bool) (fo : Buf (Elt F) (mOut.view.loc (c : Thread nD τ))) (Pt : Fin 16 → Vec F S1x8x3072 .bf16) :
    (bigSep Finset.univ (dlv c p fo Pt)) ⊢ (iprop((∃ f, ptsW c sOb f) ∗ ptsW c mOut (outG c p Pt)) : sProp 𝕄) := by
  have hE := BI.bigSep_univ_equiv (ordE p) (fun e => (iprop((∃ f, ptsS c (obrow e) f) ∗ ptsS c (outrow e) (outG c p Pt)) : sProp 𝕄))
  have hS : (bigSep Finset.univ fun e => (iprop((∃ f, ptsS c (obrow e) f) ∗ ptsS c (outrow e) (outG c p Pt)) : sProp 𝕄)) = iprop((bigSep Finset.univ fun e => (iprop(∃ f, ptsS c (obrow e) f) : sProp 𝕄)) ∗ (bigSep Finset.univ fun e => (ptsS c (outrow e) (outG c p Pt) : sProp 𝕄))) := BI.bigSep_sep _ _ _
  refine BIBase.Entails.trans (BI.bigSep_mono fun t _ => dlv_one c p fo Pt t) (BIBase.Entails.trans (Entails.of_eq (hE.symm.trans hS)) ?_)
  iintro ⟨H1, H2⟩
  isplitl [H1]
  · iapply (ob_join c); iexact H1
  · iapply (Entails.of_eq (out_rows c (outG c p Pt)).symm); iexact H2

/-- What the copy out number `t` carries: zeros for an expert without tokens, else the row its trip computed. -/
def payOf (c : Dev nD) (p : Nat → Bool) (v1 : BitVec 32) (hw18 : k0_chk18 v1) (fx : Buf (Elt F) (sX.view.loc (c : Thread nD τ))) (fws : Buf (Elt F) (sWs.view.loc (c : Thread nD τ))) (fa : Buf (Elt F) (sAct.view.loc (c : Thread nD τ))) (hv : v1.toNat < 17)
    (hact : ∀ i : S17.Idx, (i 0).val < (k0_t3_loop v1).trips → (fa i : BitVec 32).toNat < 16)
    (fg : Buf (Elt F) (sGs.view.loc (c : Thread nD τ))) (fw : Buf (Elt F) (mW.view.loc (c : Thread nD τ))) (t : Fin 16) : Vec F S1x8x3072 .bf16 :=
  if h : nE p ≤ t.val ∧ t.val - nE p < (k0_t3_loop v1).trips then
    (trip1 c v1 hw18 ⟨t.val - nE p, h.2⟩ (ord p t) fx fws fa hv hact fg fw).1
  else k0_pay1

theorem payOf_act (c : Dev nD) (p : Nat → Bool) (v1 : BitVec 32) (hw18 : k0_chk18 v1) (fx : Buf (Elt F) (sX.view.loc (c : Thread nD τ))) (fws : Buf (Elt F) (sWs.view.loc (c : Thread nD τ))) (fa : Buf (Elt F) (sAct.view.loc (c : Thread nD τ))) (hv : v1.toNat < 17)
    (hact : ∀ i : S17.Idx, (i 0).val < (k0_t3_loop v1).trips → (fa i : BitVec 32).toNat < 16)
    (fg : Buf (Elt F) (sGs.view.loc (c : Thread nD τ))) (fw : Buf (Elt F) (mW.view.loc (c : Thread nD τ))) (k : Fin (k0_t3_loop v1).trips) (hk : nE p + k.val < 16) :
    payOf c p v1 hw18 fx fws fa hv hact fg fw ⟨nE p + k.val, hk⟩ = (trip1 c v1 hw18 k (ord p ⟨nE p + k.val, hk⟩) fx fws fa hv hact fg fw).1 := by
  have e0 : nE p + k.val - nE p = k.val := Nat.add_sub_cancel_left _ _
  unfold payOf
  rw [dif_pos (show nE p ≤ nE p + k.val ∧ nE p + k.val - nE p < (k0_t3_loop v1).trips from ⟨Nat.le_add_right _ _, by rw [e0]; exact k.isLt⟩)]
  have key : ∀ k' : Fin (k0_t3_loop v1).trips, k' = k → (trip1 c v1 hw18 k' (ord p ⟨nE p + k.val, hk⟩) fx fws fa hv hact fg fw).1 = (trip1 c v1 hw18 k (ord p ⟨nE p + k.val, hk⟩) fx fws fa hv hact fg fw).1 := by
    rintro _ rfl; rfl
  exact key _ (Fin.ext e0)

/-- What the body leaves: everything back where it was, and every output row filled. -/
def runPost (c : Dev nD) (fx0 : Buf (Elt F) (mX.view.loc (c : Thread nD τ))) (fg0 : Buf (Elt F) (mGs.view.loc (c : Thread nD τ)))
    (fws0 : Buf (Elt F) (mWs.view.loc (c : Thread nD τ))) (fw : Buf (Elt F) (mW.view.loc (c : Thread nD τ))) : sProp 𝕄 :=
  iprop(ptsW c mX fx0 ∗ ptsW c mGs fg0 ∗ ptsW c mWs fws0 ∗ (∃ f, ptsW c sX f) ∗ (∃ f, ptsW c sGs f) ∗ (∃ f, ptsW c sWs f) ∗ (∃ f, ptsW c sAct f)
      ∗ (∃ f, ptsW c sXq f) ∗ (∃ f, ptsW c sSe f) ∗ (∃ f, ptsW c sOb f)
      ∗ semVal ((c : Thread nD τ), SemLoc.dma cc0_scratch8.sem) 0 ∗ semVal ((c : Thread nD τ), SemLoc.dma cc0_scratch9.sem) 0
      ∗ semVal ((c : Thread nD τ), SemLoc.dma cc0_scratch10.sem) 0 ∗ semVal ((c : Thread nD τ), SemLoc.dma cc0_scratch12.sem) 0
      ∗ wfree8 c fw 0 ∗ wfree8 c fw 1 ∗ (∃ W, owes (c : Thread nD τ) 0 W)
      ∗ ∃ (v1 : BitVec 32) (hw18 : k0_chk18 v1) (fa : Buf (Elt F) (sAct.view.loc (c : Thread nD τ))) (hv : v1.toNat < 17) (hact : ∀ i : S17.Idx, (i 0).val < (k0_t3_loop v1).trips → (fa i : BitVec 32).toNat < 16),
          ⌜actSpec fa (isAct (c := c) (fun i : S16.Idx => fg0 i)) 16 v1⌝ ∗
          ptsW c mOut (outG c (isAct (c := c) (fun i : S16.Idx => fg0 i)) (payOf c (isAct (c := c) (fun i : S16.Idx => fg0 i)) v1 hw18 (fun i : S16x8x4096.Idx => fx0 i) (fun i : S16x32x24.Idx => fws0 i) fa hv hact (fun i : S16.Idx => fg0 i) fw)))

set_option maxHeartbeats 8000000 in
theorem run_body (c : Dev nD) (fx0 : Buf (Elt F) (mX.view.loc (c : Thread nD τ))) (fg0 : Buf (Elt F) (mGs.view.loc (c : Thread nD τ)))
    (fws0 : Buf (Elt F) (mWs.view.loc (c : Thread nD τ))) (fw : Buf (Elt F) (mW.view.loc (c : Thread nD τ))) (fo : Buf (Elt F) (mOut.view.loc (c : Thread nD τ)))
    (gx : Buf (Elt F) (sX.view.loc (c : Thread nD τ))) (gg : Buf (Elt F) (sGs.view.loc (c : Thread nD τ)))
    (gws : Buf (Elt F) (sWs.view.loc (c : Thread nD τ))) (fa : Buf (Elt F) (sAct.view.loc (c : Thread nD τ)))
    (fxq : Buf (Elt F) (sXq.view.loc (c : Thread nD τ))) (fse : Buf (Elt F) (sSe.view.loc (c : Thread nD τ))) (fob : Buf (Elt F) (sOb.view.loc (c : Thread nD τ)))
    (W : Waits sig Unit) (K : Unit → sProp 𝕄) :
    iprop(ptsW c mX fx0 ∗ ptsW c mGs fg0 ∗ ptsW c mWs fws0 ∗ ptsW c mOut fo ∗ ptsW c sX gx ∗ ptsW c sGs gg ∗ ptsW c sWs gws ∗ ptsW c sAct fa
      ∗ ptsW c sXq fxq ∗ ptsW c sSe fse ∗ ptsW c sOb fob
      ∗ semVal ((c : Thread nD τ), SemLoc.dma cc0_scratch8.sem) 0 ∗ semVal ((c : Thread nD τ), SemLoc.dma cc0_scratch9.sem) 0
      ∗ semVal ((c : Thread nD τ), SemLoc.dma cc0_scratch10.sem) 0 ∗ semVal ((c : Thread nD τ), SemLoc.dma cc0_scratch12.sem) 0
      ∗ wfree8 c fw 0 ∗ wfree8 c fw 1 ∗ owes (c : Thread nD τ) 0 W ∗ (runPost c fx0 fg0 fws0 fw -∗ K ()))
      ⊢ wp frame (wpE (defs₀ (F := F)) Variants.none (c : Thread nD τ) none) Set.univ
          (cc0_grouped_fp8_matmul (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12) K := by
  simp only [cc0_grouped_fp8_matmul_eq_skeleton]; unfold cc0_grouped_fp8_matmul_skel
  unfold wfree8
  iintro ⟨HmX, HmG, HmWs, Hout, HX, HG, HWs, HA, HXq, HSe, Hob, HcX, HcWs, HcG, HcO, ⟨⟨Hc00, ⟨%w00, Hs00⟩, Ht00⟩, ⟨Hc01, ⟨%w01, Hs01⟩, Ht01⟩, ⟨Hc02, ⟨%w02, Hs02⟩, Ht02⟩, ⟨Hc03, ⟨%w03, Hs03⟩, Ht03⟩, ⟨Hc04, ⟨%w04, Hs04⟩, Ht04⟩, ⟨Hc05, ⟨%w05, Hs05⟩, Ht05⟩, ⟨Hc06, ⟨%w06, Hs06⟩, Ht06⟩, ⟨Hc07, ⟨%w07, Hs07⟩, Ht07⟩⟩, ⟨⟨Hc10, ⟨%w10, Hs10⟩, Ht10⟩, ⟨Hc11, ⟨%w11, Hs11⟩, Ht11⟩, ⟨Hc12, ⟨%w12, Hs12⟩, Ht12⟩, ⟨Hc13, ⟨%w13, Hs13⟩, Ht13⟩, ⟨Hc14, ⟨%w14, Hs14⟩, Ht14⟩, ⟨Hc15, ⟨%w15, Hs15⟩, Ht15⟩, ⟨Hc16, ⟨%w16, Hs16⟩, Ht16⟩, ⟨Hc17, ⟨%w17, Hs17⟩, Ht17⟩⟩, HO, HK⟩
  sl_exec
  delta Cert.KernelIdeal.Gen.run_body.sl.dma0
  ihave HG := (Entails.of_eq (congrArg (fun f => ptsW c sGs f) (wr_gs c gg fg0))) $$ HG
  sl_for (t1Inv c (fun i : S16.Idx => fg0 i)) $$ [HG HA]
  · intro k v; exact t1_step c _ k v
  · unfold t1Inv; isplitl [HG]; iexact HG
    iexists _; isplitl [HA]; iexact HA
    ipureintro; exact ⟨Nat.zero_le _, rfl, fun i e h => by simp [fl] at h⟩
  iintro %v1 HL
  unfold t1Inv
  icases HL with ⟨HG, %fa1, HA, %hsp0⟩
  have hsp : actSpec fa1 (isAct (c := c) (fun i : S16.Idx => fg0 i)) 16 v1 := hsp0.2
  have hv : v1.toNat < 17 := actSpec_lt hsp
  have hact := actSpec_act hsp
  have hw18 := chk18_of v1 hv
  have hact' : ∀ i : S17.Idx, (i 0).val < (k0_t3_loop v1).trips → (fa1 i : BitVec 32).toNat < 16 := by rw [trips_of v1 hv]; exact hact
  sl_exec_parts (disch := first | with_reducible exact chk18_of v1 hv | ((with_reducible refine chk2_of v1 _ ?_); intro hc; exact act_rd fa1 hact 0 ((cond1_lt hv).mp hc) _ rfl _ _) | ((with_reducible refine chk3_of v1 _ ?_); intro hc; exact act_rd fa1 hact 0 ((cond1_lt hv).mp hc) _ rfl _ _) | ((with_reducible refine chk4_of v1 _ ?_); intro hc; exact act_rd fa1 hact 0 ((cond1_lt hv).mp hc) _ rfl _ _) | ((with_reducible refine chk5_of v1 _ ?_); intro hc; exact act_rd fa1 hact 0 ((cond1_lt hv).mp hc) _ rfl _ _) | ((with_reducible refine chk6_of v1 _ ?_); intro hc; exact act_rd fa1 hact 0 ((cond1_lt hv).mp hc) _ rfl _ _) | ((with_reducible refine chk7_of v1 _ ?_); intro hc; exact act_rd fa1 hact 0 ((cond1_lt hv).mp hc) _ rfl _ _) | ((with_reducible refine chk8_of v1 _ ?_); intro hc; exact act_rd fa1 hact 0 ((cond1_lt hv).mp hc) _ rfl _ _) | ((with_reducible refine chk9_of v1 _ ?_); intro hc; exact act_rd fa1 hact 0 ((cond1_lt hv).mp hc) _ rfl _ _) | ((with_reducible refine chk10_of v1 _ ?_); intro hc; exact act_rd fa1 hact 1 ((cond2_lt hv).mp hc) _ rfl _ _) | ((with_reducible refine chk11_of v1 _ ?_); intro hc; exact act_rd fa1 hact 1 ((cond2_lt hv).mp hc) _ rfl _ _) | ((with_reducible refine chk12_of v1 _ ?_); intro hc; exact act_rd fa1 hact 1 ((cond2_lt hv).mp hc) _ rfl _ _) | ((with_reducible refine chk13_of v1 _ ?_); intro hc; exact act_rd fa1 hact 1 ((cond2_lt hv).mp hc) _ rfl _ _) | ((with_reducible refine chk14_of v1 _ ?_); intro hc; exact act_rd fa1 hact 1 ((cond2_lt hv).mp hc) _ rfl _ _) | ((with_reducible refine chk15_of v1 _ ?_); intro hc; exact act_rd fa1 hact 1 ((cond2_lt hv).mp hc) _ rfl _ _) | ((with_reducible refine chk16_of v1 _ ?_); intro hc; exact act_rd fa1 hact 1 ((cond2_lt hv).mp hc) _ rfl _ _) | ((with_reducible refine chk17_of v1 _ ?_); intro hc; exact act_rd fa1 hact 1 ((cond2_lt hv).mp hc) _ rfl _ _))
  ihave HW0 := (start_wst c fw fa1 0 0 rfl (k0_cond1 v1 = 1#1) (fun hc => ex (Cert.KernelIdeal.Gen.run_body.sl.r c fa1)) (fun hc => ex (Cert.KernelIdeal.Gen.run_body.sl.r c fa1)) (fun hc => ex (Cert.KernelIdeal.Gen.run_body.sl.r c fa1)) (fun hc => ex (Cert.KernelIdeal.Gen.run_body.sl.r c fa1)) (fun hc => ex (Cert.KernelIdeal.Gen.run_body.sl.r c fa1)) (fun hc => ex (Cert.KernelIdeal.Gen.run_body.sl.r c fa1)) (fun hc => ex (Cert.KernelIdeal.Gen.run_body.sl.r c fa1)) (fun hc => ex (Cert.KernelIdeal.Gen.run_body.sl.r_1 c fa1))
     (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) w00 w01 w02 w03 w04 w05 w06 w07) $$ [if1 Ht00 Ht01 Ht02 Ht03 Ht04 Ht05 Ht06 Ht07]
  · isplitl [if1]; iexact if1
    isplitl [Ht00]; iexact Ht00
    isplitl [Ht01]; iexact Ht01
    isplitl [Ht02]; iexact Ht02
    isplitl [Ht03]; iexact Ht03
    isplitl [Ht04]; iexact Ht04
    isplitl [Ht05]; iexact Ht05
    isplitl [Ht06]; iexact Ht06
    iexact Ht07
  ihave HW1 := (start_wst c fw fa1 1 1 rfl (k0_cond2 v1 = 1#1) (fun hc => ex (Cert.KernelIdeal.Gen.run_body.sl.r_2 c fa1)) (fun hc => ex (Cert.KernelIdeal.Gen.run_body.sl.r_2 c fa1)) (fun hc => ex (Cert.KernelIdeal.Gen.run_body.sl.r_2 c fa1)) (fun hc => ex (Cert.KernelIdeal.Gen.run_body.sl.r_2 c fa1)) (fun hc => ex (Cert.KernelIdeal.Gen.run_body.sl.r_2 c fa1)) (fun hc => ex (Cert.KernelIdeal.Gen.run_body.sl.r_2 c fa1)) (fun hc => ex (Cert.KernelIdeal.Gen.run_body.sl.r_2 c fa1)) (fun hc => ex (Cert.KernelIdeal.Gen.run_body.sl.r_3 c fa1))
     (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) w10 w11 w12 w13 w14 w15 w16 w17) $$ [if2 Ht10 Ht11 Ht12 Ht13 Ht14 Ht15 Ht16 Ht17]
  · isplitl [if2]; iexact if2
    isplitl [Ht10]; iexact Ht10
    isplitl [Ht11]; iexact Ht11
    isplitl [Ht12]; iexact Ht12
    isplitl [Ht13]; iexact Ht13
    isplitl [Ht14]; iexact Ht14
    isplitl [Ht15]; iexact Ht15
    isplitl [Ht16]; iexact Ht16
    iexact Ht17
  ihave HR := (orows_init c (isAct (c := c) (fun i : S16.Idx => fg0 i)) fo fob) $$ [Hob Hout]
  · isplitl [Hob]; iexact Hob; iexact Hout
  have hT := trips_of v1 hv
  have hE : nE (isAct (c := c) (fun i : S16.Idx => fg0 i)) + (k0_t3_loop v1).trips = 16 := by
    have h1 := nE_add (isAct (c := c) (fun i : S16.Idx => fg0 i)); have h2 := hsp.1; omega
  generalize hPt : payOf c (isAct (c := c) (fun i : S16.Idx => fg0 i)) v1 hw18 (fun i : S16x8x4096.Idx => fx0 i) (fun i : S16x32x24.Idx => fws0 i) fa1 hv hact' (fun i : S16.Idx => fg0 i) fw = Pt
  imod (ob_alloc c (isAct (c := c) (fun i : S16.Idx => fg0 i)) fo Pt) $$ HcO with HB
  sl_for (t2Inv c (fun i : S16.Idx => fg0 i) fo Pt) $$ [HG HB HR]
  · intro k a
    refine t2_step c _ fo Pt ?_ k a
    intro t ht
    subst hPt
    unfold payOf
    rw [dif_neg (by omega)]
  · unfold t2Inv; isplitl [HG]; iexact HG
    isplitl [HB]; iexact HB
    iexact HR
  iintro %_a2 HL
  unfold t2Inv
  icases HL with ⟨HG, HB, HR⟩
  sl_exec
  delta Cert.KernelIdeal.Gen.run_body.sl.dma0_1 Cert.KernelIdeal.Gen.run_body.sl.dma0_2
  ihave HX := (Entails.of_eq (congrArg (fun f => ptsW c sX f) (wr_x c gx fx0))) $$ HX
  ihave HWs := (Entails.of_eq (congrArg (fun f => ptsW c sWs f) (wr_ws c gws fws0))) $$ HWs
  ihave HW0 := (Entails.of_eq (wst8_congr c fw fa1 (k0_cond1 v1 = 1#1) (0 < (k0_t3_loop v1).trips) (by rw [hT]; exact cond1_lt hv) 0)) $$ [HW0]
  · unfold wst8; iexact HW0
  ihave HW1 := (Entails.of_eq (wst8_congr c fw fa1 (k0_cond2 v1 = 1#1) (0 + 1 < (k0_t3_loop v1).trips) (by rw [hT]; exact cond2_lt hv) (0 + 1))) $$ [HW1]
  · unfold wst8; iexact HW1
  sl_for (t3Inv c (isAct (c := c) (fun i : S16.Idx => fg0 i)) (k0_t3_loop v1).trips (fun i : S16x8x4096.Idx => fx0 i) (fun i : S16x32x24.Idx => fws0 i) fa1 (fun i : S16.Idx => fg0 i) fw fo Pt) $$ [HX HWs HA HG HXq HSe HW0 HW1 HB HR HO]
  · intro k a
    refine t3_step c _ v1 hw18 _ _ fa1 hv hsp hact' _ fw fo Pt ?_ k a
    intro k hk
    subst hPt
    exact payOf_act c _ v1 hw18 _ _ fa1 hv hact' _ fw k hk
  · unfold t3Inv
    isplitr; ipureintro; exact Nat.zero_le _
    isplitl [HX]; iexact HX
    isplitl [HWs]; iexact HWs
    isplitl [HA]; iexact HA
    isplitl [HG]; iexact HG
    isplitl [HXq]; iexists _; iexact HXq
    isplitl [HSe]; iexists _; iexact HSe
    isplitl [HW0]; iexact HW0
    isplitl [HW1]; iexact HW1
    isplitl [HB]; iexact HB
    isplitl [HR]; iexact HR
    iexists _; iexact HO
  iintro %_a3 HL
  unfold t3Inv
  icases HL with ⟨-, HX, HWs, HA, HG, HXq, HSe, HW0, HW1, HB, HR, ⟨%W3, HO⟩⟩
  ihave HW0 := (Entails.of_eq (wst8_free c fw fa1 _ (lt_irrefl _) _)) $$ HW0
  ihave HW1 := (Entails.of_eq (wst8_free c fw fa1 _ (Nat.not_lt.mpr (Nat.le_succ _)) _)) $$ HW1
  ihave HW := (wfree8_par c fw _) $$ [HW0 HW1]
  · isplitl [HW0]; iexact HW0; iexact HW1
  icases HW with ⟨HW0, HW1⟩
  sl_exec
  ihave HB := (Entails.of_eq (congrArg (fun n => obatch c (isAct (c := c) (fun i : S16.Idx => fg0 i)) fo Pt n 0) hE)) $$ HB
  sl_for (t5Inv c (isAct (c := c) (fun i : S16.Idx => fg0 i)) fo Pt) $$ [HB HO]
  · intro k a; exact t5_step c _ fo Pt k a
  · unfold t5Inv
    isplitr; ipureintro; exact Nat.zero_le _
    isplitl [HO]; iexists _; iexact HO
    rw [if_pos (by decide)]
    iexact HB
  iintro %_a5 HL
  unfold t5Inv
  rw [if_neg (by decide)]
  icases HL with ⟨-, ⟨%W5, HO⟩, HcO, HB⟩
  ihave HB := (dlv_all c _ fo Pt) $$ HB
  icases HB with ⟨Hob, Hout⟩
  sl_exec
  sl_step
  iapply HK
  unfold runPost
  subst hPt
  isplitl [HmX]; iexact HmX
  isplitl [HmG]; iexact HmG
  isplitl [HmWs]; iexact HmWs
  isplitl [HX]; iexists _; iexact HX
  isplitl [HG]; iexists _; iexact HG
  isplitl [HWs]; iexists _; iexact HWs
  isplitl [HA]; iexists _; iexact HA
  isplitl [HXq]; iexact HXq
  isplitl [HSe]; iexact HSe
  isplitl [Hob]; iexact Hob
  isplitl [HcX]; iexact HcX
  isplitl [HcWs]; iexact HcWs
  isplitl [HcG]; iexact HcG
  isplitl [HcO]; iexact HcO
  isplitl [HW0]; iexact HW0
  isplitl [HW1]; iexact HW1
  isplitl [HO]; iexists _; iexact HO
  iexists v1, hw18, fa1, hv, hact'
  isplitr; ipureintro; exact hsp
  iexact Hout

end Cert.KernelIdeal.Gen

end
-- ==== Proof.Fin.lean ====
module

public import proofs.«01_k».proof.Proof.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem toks_list (c : Dev nD) (fw : Buf (Elt F) (mW.view.loc (c : Thread nD τ))) :
    (bigSep Finset.univ (fun i : Fin 20 => (mW.view.loc (c : Thread nD τ) ↦{Transfers.shareTok fullShare 20 i} fw)) : sProp 𝕄)
      = iprop((mW.view.loc (c : Thread nD τ) ↦{Transfers.shareTok fullShare 20 (0 : Fin 20)} fw) ∗ (mW.view.loc (c : Thread nD τ) ↦{Transfers.shareTok fullShare 20 (1 : Fin 20)} fw) ∗ (mW.view.loc (c : Thread nD τ) ↦{Transfers.shareTok fullShare 20 (2 : Fin 20)} fw) ∗ (mW.view.loc (c : Thread nD τ) ↦{Transfers.shareTok fullShare 20 (3 : Fin 20)} fw) ∗ (mW.view.loc (c : Thread nD τ) ↦{Transfers.shareTok fullShare 20 (4 : Fin 20)} fw) ∗ (mW.view.loc (c : Thread nD τ) ↦{Transfers.shareTok fullShare 20 (5 : Fin 20)} fw) ∗ (mW.view.loc (c : Thread nD τ) ↦{Transfers.shareTok fullShare 20 (6 : Fin 20)} fw) ∗ (mW.view.loc (c : Thread nD τ) ↦{Transfers.shareTok fullShare 20 (7 : Fin 20)} fw) ∗ (mW.view.loc (c : Thread nD τ) ↦{Transfers.shareTok fullShare 20 (8 : Fin 20)} fw) ∗ (mW.view.loc (c : Thread nD τ) ↦{Transfers.shareTok fullShare 20 (9 : Fin 20)} fw) ∗ (mW.view.loc (c : Thread nD τ) ↦{Transfers.shareTok fullShare 20 (10 : Fin 20)} fw) ∗ (mW.view.loc (c : Thread nD τ) ↦{Transfers.shareTok fullShare 20 (11 : Fin 20)} fw) ∗ (mW.view.loc (c : Thread nD τ) ↦{Transfers.shareTok fullShare 20 (12 : Fin 20)} fw) ∗ (mW.view.loc (c : Thread nD τ) ↦{Transfers.shareTok fullShare 20 (13 : Fin 20)} fw) ∗ (mW.view.loc (c : Thread nD τ) ↦{Transfers.shareTok fullShare 20 (14 : Fin 20)} fw) ∗ (mW.view.loc (c : Thread nD τ) ↦{Transfers.shareTok fullShare 20 (15 : Fin 20)} fw) ∗ (mW.view.loc (c : Thread nD τ) ↦{Transfers.shareTok fullShare 20 (16 : Fin 20)} fw) ∗ (mW.view.loc (c : Thread nD τ) ↦{Transfers.shareTok fullShare 20 (17 : Fin 20)} fw) ∗ (mW.view.loc (c : Thread nD τ) ↦{Transfers.shareTok fullShare 20 (18 : Fin 20)} fw) ∗ (mW.view.loc (c : Thread nD τ) ↦{Transfers.shareTok fullShare 20 (19 : Fin 20)} fw)) := by
  rw [BI.bigSep_eq_bigSepL_of_eq [0, 1, 2, 3, 4, 5, 6, 7, 8, 9, 10, 11, 12, 13, 14, 15, 16, 17, 18, 19] (by decide) (by decide)]; rfl
theorem slots_list (c : Dev nD) :
    (bigSep Finset.univ (fun p : Fin 2 × Fin 8 => iprop(∃ f, ptsS c (wslot p.1 p.2) f)) : sProp 𝕄)
      = iprop((∃ f, ptsS c (wslot 0 0) f) ∗ (∃ f, ptsS c (wslot 0 1) f) ∗ (∃ f, ptsS c (wslot 0 2) f) ∗ (∃ f, ptsS c (wslot 0 3) f) ∗ (∃ f, ptsS c (wslot 0 4) f) ∗ (∃ f, ptsS c (wslot 0 5) f) ∗ (∃ f, ptsS c (wslot 0 6) f) ∗ (∃ f, ptsS c (wslot 0 7) f) ∗ (∃ f, ptsS c (wslot 1 0) f) ∗ (∃ f, ptsS c (wslot 1 1) f) ∗ (∃ f, ptsS c (wslot 1 2) f) ∗ (∃ f, ptsS c (wslot 1 3) f) ∗ (∃ f, ptsS c (wslot 1 4) f) ∗ (∃ f, ptsS c (wslot 1 5) f) ∗ (∃ f, ptsS c (wslot 1 6) f) ∗ (∃ f, ptsS c (wslot 1 7) f)) := by
  rw [BI.bigSep_eq_bigSepL_of_eq [(((0 : Fin 2), (0 : Fin 8)) : Fin 2 × Fin 8), (((0 : Fin 2), (1 : Fin 8)) : Fin 2 × Fin 8), (((0 : Fin 2), (2 : Fin 8)) : Fin 2 × Fin 8), (((0 : Fin 2), (3 : Fin 8)) : Fin 2 × Fin 8), (((0 : Fin 2), (4 : Fin 8)) : Fin 2 × Fin 8), (((0 : Fin 2), (5 : Fin 8)) : Fin 2 × Fin 8), (((0 : Fin 2), (6 : Fin 8)) : Fin 2 × Fin 8), (((0 : Fin 2), (7 : Fin 8)) : Fin 2 × Fin 8), (((1 : Fin 2), (0 : Fin 8)) : Fin 2 × Fin 8), (((1 : Fin 2), (1 : Fin 8)) : Fin 2 × Fin 8), (((1 : Fin 2), (2 : Fin 8)) : Fin 2 × Fin 8), (((1 : Fin 2), (3 : Fin 8)) : Fin 2 × Fin 8), (((1 : Fin 2), (4 : Fin 8)) : Fin 2 × Fin 8), (((1 : Fin 2), (5 : Fin 8)) : Fin 2 × Fin 8), (((1 : Fin 2), (6 : Fin 8)) : Fin 2 × Fin 8), (((1 : Fin 2), (7 : Fin 8)) : Fin 2 × Fin 8)] (by decide) (by decide)]; rfl

/-- The shares of the weights no chunk reads by. -/
def wrest (c : Dev nD) (fw : Buf (Elt F) (mW.view.loc (c : Thread nD τ))) : sProp 𝕄 := iprop((mW.view.loc (c : Thread nD τ) ↦{Transfers.shareDrop fullShare 20} fw) ∗ (mW.view.loc (c : Thread nD τ) ↦{Transfers.shareTok fullShare 20 (0 : Fin 20)} fw) ∗ (mW.view.loc (c : Thread nD τ) ↦{Transfers.shareTok fullShare 20 (1 : Fin 20)} fw) ∗ (mW.view.loc (c : Thread nD τ) ↦{Transfers.shareTok fullShare 20 (2 : Fin 20)} fw) ∗ (mW.view.loc (c : Thread nD τ) ↦{Transfers.shareTok fullShare 20 (19 : Fin 20)} fw))

theorem glue_in (c : Dev nD) (fw : Buf (Elt F) (mW.view.loc (c : Thread nD τ))) (f : Buf (Elt F) (sW.view.loc (c : Thread nD τ))) :
    iprop(ptsW c sW f ∗ ptsW c mW fw ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0) ⊢ (iprop(wfree8 c fw 0 ∗ wfree8 c fw 1 ∗ wrest c fw) : sProp 𝕄) := by
  iintro ⟨HS, HW, C00, C01, C02, C03, C04, C05, C06, C07, C10, C11, C12, C13, C14, C15, C16, C17⟩
  ihave HS := (w_slots c f) $$ HS
  ihave HS := (Entails.of_eq (slots_list c)) $$ HS
  icases HS with ⟨S00, S01, S02, S03, S04, S05, S06, S07, S10, S11, S12, S13, S14, S15, S16, S17⟩
  ihave HW := (Transfers.pointsTo_toks_split fullShare 20) $$ HW
  icases HW with ⟨HD, HT⟩
  ihave HT := (Entails.of_eq (toks_list c fw)) $$ HT
  icases HT with ⟨T0, T1, T2, T3, T4, T5, T6, T7, T8, T9, T10, T11, T12, T13, T14, T15, T16, T17, T18, T19⟩
  unfold wfree8 wrest
  isplitl [C00 S00 T3 C01 S01 T4 C02 S02 T5 C03 S03 T6 C04 S04 T7 C05 S05 T8 C06 S06 T9 C07 S07 T10]
  · skip
    isplitl [C00 S00 T3]
    · isplitl [C00]; iexact C00; isplitl [S00]; iexact S00; iexact T3
    isplitl [C01 S01 T4]
    · isplitl [C01]; iexact C01; isplitl [S01]; iexact S01; iexact T4
    isplitl [C02 S02 T5]
    · isplitl [C02]; iexact C02; isplitl [S02]; iexact S02; iexact T5
    isplitl [C03 S03 T6]
    · isplitl [C03]; iexact C03; isplitl [S03]; iexact S03; iexact T6
    isplitl [C04 S04 T7]
    · isplitl [C04]; iexact C04; isplitl [S04]; iexact S04; iexact T7
    isplitl [C05 S05 T8]
    · isplitl [C05]; iexact C05; isplitl [S05]; iexact S05; iexact T8
    isplitl [C06 S06 T9]
    · isplitl [C06]; iexact C06; isplitl [S06]; iexact S06; iexact T9
    · isplitl [C07]; iexact C07; isplitl [S07]; iexact S07; iexact T10
  isplitl [C10 S10 T11 C11 S11 T12 C12 S12 T13 C13 S13 T14 C14 S14 T15 C15 S15 T16 C16 S16 T17 C17 S17 T18]
  · skip
    isplitl [C10 S10 T11]
    · isplitl [C10]; iexact C10; isplitl [S10]; iexact S10; iexact T11
    isplitl [C11 S11 T12]
    · isplitl [C11]; iexact C11; isplitl [S11]; iexact S11; iexact T12
    isplitl [C12 S12 T13]
    · isplitl [C12]; iexact C12; isplitl [S12]; iexact S12; iexact T13
    isplitl [C13 S13 T14]
    · isplitl [C13]; iexact C13; isplitl [S13]; iexact S13; iexact T14
    isplitl [C14 S14 T15]
    · isplitl [C14]; iexact C14; isplitl [S14]; iexact S14; iexact T15
    isplitl [C15 S15 T16]
    · isplitl [C15]; iexact C15; isplitl [S15]; iexact S15; iexact T16
    isplitl [C16 S16 T17]
    · isplitl [C16]; iexact C16; isplitl [S16]; iexact S16; iexact T17
    · isplitl [C17]; iexact C17; isplitl [S17]; iexact S17; iexact T18
  isplitl [HD]; iexact HD
  isplitl [T0]; iexact T0
  isplitl [T1]; iexact T1
  isplitl [T2]; iexact T2
  iexact T19

theorem glue_out (c : Dev nD) (fw : Buf (Elt F) (mW.view.loc (c : Thread nD τ))) :
    iprop(wfree8 c fw 0 ∗ wfree8 c fw 1 ∗ wrest c fw) ⊢ (iprop((∃ f, ptsW c sW f) ∗ ptsW c mW fw ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0) : sProp 𝕄) := by
  unfold wfree8 wrest
  iintro ⟨⟨⟨C00, S00, T3⟩, ⟨C01, S01, T4⟩, ⟨C02, S02, T5⟩, ⟨C03, S03, T6⟩, ⟨C04, S04, T7⟩, ⟨C05, S05, T8⟩, ⟨C06, S06, T9⟩, ⟨C07, S07, T10⟩⟩, ⟨⟨C10, S10, T11⟩, ⟨C11, S11, T12⟩, ⟨C12, S12, T13⟩, ⟨C13, S13, T14⟩, ⟨C14, S14, T15⟩, ⟨C15, S15, T16⟩, ⟨C16, S16, T17⟩, ⟨C17, S17, T18⟩⟩, HD, T0, T1, T2, T19⟩
  ihave HS := (Entails.of_eq (slots_list c).symm) $$ [S00 S01 S02 S03 S04 S05 S06 S07 S10 S11 S12 S13 S14 S15 S16 S17]
  · skip
    isplitl [S00]; iexact S00
    isplitl [S01]; iexact S01
    isplitl [S02]; iexact S02
    isplitl [S03]; iexact S03
    isplitl [S04]; iexact S04
    isplitl [S05]; iexact S05
    isplitl [S06]; iexact S06
    isplitl [S07]; iexact S07
    isplitl [S10]; iexact S10
    isplitl [S11]; iexact S11
    isplitl [S12]; iexact S12
    isplitl [S13]; iexact S13
    isplitl [S14]; iexact S14
    isplitl [S15]; iexact S15
    isplitl [S16]; iexact S16
    iexact S17
  ihave HS := (w_slots_join c) $$ HS
  ihave HT := (Entails.of_eq (toks_list c fw).symm) $$ [T0 T1 T2 T3 T4 T5 T6 T7 T8 T9 T10 T11 T12 T13 T14 T15 T16 T17 T18 T19]
  · skip
    isplitl [T0]; iexact T0
    isplitl [T1]; iexact T1
    isplitl [T2]; iexact T2
    isplitl [T3]; iexact T3
    isplitl [T4]; iexact T4
    isplitl [T5]; iexact T5
    isplitl [T6]; iexact T6
    isplitl [T7]; iexact T7
    isplitl [T8]; iexact T8
    isplitl [T9]; iexact T9
    isplitl [T10]; iexact T10
    isplitl [T11]; iexact T11
    isplitl [T12]; iexact T12
    isplitl [T13]; iexact T13
    isplitl [T14]; iexact T14
    isplitl [T15]; iexact T15
    isplitl [T16]; iexact T16
    isplitl [T17]; iexact T17
    isplitl [T18]; iexact T18
    iexact T19
  ihave HW := (Transfers.pointsTo_toks_join fullShare 20) $$ [HD HT]
  · isplitl [HD]; iexact HD; iexact HT
  isplitl [HS]; iexact HS
  isplitl [HW]; iexact HW
  isplitl [C00]; iexact C00
  isplitl [C01]; iexact C01
  isplitl [C02]; iexact C02
  isplitl [C03]; iexact C03
  isplitl [C04]; iexact C04
  isplitl [C05]; iexact C05
  isplitl [C06]; iexact C06
  isplitl [C07]; iexact C07
  isplitl [C10]; iexact C10
  isplitl [C11]; iexact C11
  isplitl [C12]; iexact C12
  isplitl [C13]; iexact C13
  isplitl [C14]; iexact C14
  isplitl [C15]; iexact C15
  isplitl [C16]; iexact C16
  iexact C17

variable (m : (ℓ : Loc nD τ sig) → Buf (Elt F) ℓ) (ρ : Dev nD → PrngReg)

/-- The buffer the body writes itself: the result. -/
def R0 : Finset (Ref sig .tc) := {main_v0}
abbrev VD (c : Dev nD) (b : Ref sig .tc) : Buf (Elt F) ((c : Thread nD τ).loc b) := m ((c : Thread nD τ).loc b)

theorem hmainD (𝒱₀ : Variants) : Pipeline.HMain (Ix := Unit) (Name := ℕ) (U := Pipeline.UD sig nD τ) (Lvl := ℕ) cfgs 0 defs₀ 𝒱₀ m (main (F := F)) (VD m) :=
  Pipeline.hmain_region cfgs 0 defs₀ 𝒱₀ m main fun c => (main_chain c).trans rfl

theorem frame_ofD (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePostR cfgs dats 0 R0 (VD m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)),
      ((h.1 c).2 main_arg1 (Finset.mem_sdiff.mpr ⟨Pipeline.mem_restRefs_of main_arg1 (by decide) (by decide), by decide⟩)),
      ((h.1 c).2 main_arg2 (Finset.mem_sdiff.mpr ⟨Pipeline.mem_restRefs_of main_arg2 (by decide) (by decide), by decide⟩)),
      ((h.1 c).2 main_arg3 (Finset.mem_sdiff.mpr ⟨Pipeline.mem_restRefs_of main_arg3 (by decide) (by decide), by decide⟩))⟩, h.2⟩) h

/-- The body's DMA semaphores. -/
abbrev osem0 : Fin 20 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), (SemLoc.dma 0 : SemLoc sig)) 0 ∗ semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0 ∗ semVal ((c : Thread nD τ), (SemLoc.dma 19 : SemLoc sig)) 0) := by
  rw [Pipeline.ownSems0_eq_of_list c osem0 [0, 1, 2, 3, 4, 5, 6, 7, 8, 9, 10, 11, 12, 13, 14, 15, 16, 17, 18, 19] (by decide) (by decide)]; rfl
def H0 : Finset (Ref sig .tc) := {main_arg0, main_arg1, main_arg2, main_arg3}
theorem H0_sub : H0 ⊆ Pipeline.restRefs sig (cfg0.spec) := by decide
theorem hbmPts0_eq (c : Dev nD) :
    (bigSep H0 (fun b => ((c : Thread nD τ).loc b) ↦{fullShare} VD m c b) : sProp 𝕄)
      = iprop(ptsW c mX (VD m c main_arg0) ∗ ptsW c mGs (VD m c main_arg1) ∗ ptsW c mW (VD m c main_arg2) ∗ ptsW c mWs (VD m c main_arg3)) := by
  rw [BI.bigSep_eq_bigSepL_of_eq [main_arg0, main_arg1, main_arg2, main_arg3] (by decide) (by decide)]; rfl
theorem R0_sub : R0 ⊆ Pipeline.restRefs sig (cfg0.spec) \ H0 := by decide
theorem ownedPts0_eq (c : Dev nD) :
    (Pipeline.owned R0 c : sProp 𝕄) = iprop(∃ f, ptsW c mOut f) := by
  unfold Pipeline.owned; rw [BI.bigSep_eq_bigSepL_of_eq [main_v0] (by decide) (by decide)]; rfl
theorem PhiDR0_eq (c : Dev nD) :
    (Pipeline.ΦDR osem0 (cfg0.spec) H0 R0 (VD m) c : sProp 𝕄)
      = iprop(iprop((∃ f, ptsW c sX f) ∗ (∃ f, ptsW c sWs f) ∗ (∃ f, ptsW c sW f) ∗ (∃ f, ptsW c sXq f) ∗ (∃ f, ptsW c sSe f) ∗ (∃ f, ptsW c sOb f) ∗ (∃ f, ptsW c sGs f) ∗ (∃ f, ptsW c sAct f))
          ∗ (∃ r, prngReg c r)
          ∗ iprop(semVal ((c : Thread nD τ), (SemLoc.dma 0 : SemLoc sig)) 0 ∗ semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0 ∗ semVal ((c : Thread nD τ), (SemLoc.dma 19 : SemLoc sig)) 0)
          ∗ iprop(ptsW c mX (VD m c main_arg0) ∗ ptsW c mGs (VD m c main_arg1) ∗ ptsW c mW (VD m c main_arg2) ∗ ptsW c mWs (VD m c main_arg3))
          ∗ iprop(∃ f, ptsW c mOut f)) := by
  rw [Pipeline.ΦDR_eq, scopedRest0_eq, ownSems00_eq, hbmPts0_eq, ownedPts0_eq]; try rfl

/-- The proof data of the one region: nothing staged, nothing owed. -/
def dats (_ : Fin 1) (c : Dev nD) : Dat τ (Elt F) Unit ℕ (Pipeline.UD sig nD τ) ℕ cfg0 c where
  A w := VD m c (Pipeline.arrRef (cfg0.spec) w)
  after w t := w.elim0
  Φ _ := Pipeline.ΦDR osem0 (cfg0.spec) H0 R0 (VD m) c
  q _ := fullShare
  owed _ := 0

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (VD m) c from rfl, PhiDR0_eq]
  unfold Dat.owesAt Pipeline.owesWithin
  rw [show (dats m 0 c).owed t.castSucc = 0 from rfl, show (dats m 0 c).owed t.succ = 0 from rfl]
  iintro ⟨⟨⟨⟨%gx, HX⟩, ⟨%gws, HWs⟩, ⟨%gw, HSW⟩, ⟨%gxq, HXq⟩, ⟨%gse, HSe⟩, ⟨%gob, HOb⟩, ⟨%gg, HG⟩, ⟨%ga, HA⟩⟩, Hg, ⟨Hq0, Hq1, Hq2, Hq3, Hq4, Hq5, Hq6, Hq7, Hq8, Hq9, Hq10, Hq11, Hq12, Hq13, Hq14, Hq15, Hq16, Hq17, Hq18, Hq19⟩, ⟨HmX, HmG, HmW, HmWs⟩, ⟨%fo, Hout⟩⟩, ⟨%W, -, HO⟩⟩
  ihave HW := (glue_in c (VD m c main_arg2) gw) $$ [HSW HmW Hq3 Hq4 Hq5 Hq6 Hq7 Hq8 Hq9 Hq10 Hq11 Hq12 Hq13 Hq14 Hq15 Hq16 Hq17 Hq18]
  · isplitl [HSW]; iexact HSW
    isplitl [HmW]; iexact HmW
    isplitl [Hq3]; iexact Hq3
    isplitl [Hq4]; iexact Hq4
    isplitl [Hq5]; iexact Hq5
    isplitl [Hq6]; iexact Hq6
    isplitl [Hq7]; iexact Hq7
    isplitl [Hq8]; iexact Hq8
    isplitl [Hq9]; iexact Hq9
    isplitl [Hq10]; iexact Hq10
    isplitl [Hq11]; iexact Hq11
    isplitl [Hq12]; iexact Hq12
    isplitl [Hq13]; iexact Hq13
    isplitl [Hq14]; iexact Hq14
    isplitl [Hq15]; iexact Hq15
    isplitl [Hq16]; iexact Hq16
    isplitl [Hq17]; iexact Hq17
    iexact Hq18
  icases HW with ⟨HW0, HW1, HWr⟩
  iapply (run_body c (VD m c main_arg0) (VD m c main_arg1) (VD m c main_arg3) (VD m c main_arg2) fo gx gg gws ga gxq gse gob W _)
  isplitl [HmX]; iexact HmX
  isplitl [HmG]; iexact HmG
  isplitl [HmWs]; iexact HmWs
  isplitl [Hout]; iexact Hout
  isplitl [HX]; iexact HX
  isplitl [HG]; iexact HG
  isplitl [HWs]; iexact HWs
  isplitl [HA]; iexact HA
  isplitl [HXq]; iexact HXq
  isplitl [HSe]; iexact HSe
  isplitl [HOb]; iexact HOb
  isplitl [Hq0]; iexact Hq0
  isplitl [Hq1]; iexact Hq1
  isplitl [Hq2]; iexact Hq2
  isplitl [Hq19]; iexact Hq19
  isplitl [HW0]; iexact HW0
  isplitl [HW1]; iexact HW1
  isplitl [HO]; iexact HO
  unfold runPost
  iintro ⟨HmX, HmG, HmWs, HX, HG, HWs, HA, HXq, HSe, HOb, Hq0, Hq1, Hq2, Hq19, HW0, HW1, ⟨%W', HO⟩, ⟨%v1, %hw18, %fa, %hv, %hact, -, Hout⟩⟩
  ihave HW := (glue_out c (VD m c main_arg2)) $$ [HW0 HW1 HWr]
  · isplitl [HW0]; iexact HW0
    isplitl [HW1]; iexact HW1
    iexact HWr
  icases HW with ⟨HSW, HmW, Hq3, Hq4, Hq5, Hq6, Hq7, Hq8, Hq9, Hq10, Hq11, Hq12, Hq13, Hq14, Hq15, Hq16, Hq17, Hq18⟩
  isplitr [HO]
  · isplitl [HX HWs HSW HXq HSe HOb HG HA]
    · isplitl [HX]; iexact HX
      isplitl [HWs]; iexact HWs
      isplitl [HSW]; iexact HSW
      isplitl [HXq]; iexact HXq
      isplitl [HSe]; iexact HSe
      isplitl [HOb]; iexact HOb
      isplitl [HG]; iexact HG
      iexact HA
    isplitl [Hg]; iexact Hg
    isplitl [Hq0 Hq1 Hq2 Hq3 Hq4 Hq5 Hq6 Hq7 Hq8 Hq9 Hq10 Hq11 Hq12 Hq13 Hq14 Hq15 Hq16 Hq17 Hq18 Hq19]
    · skip
      isplitl [Hq0]; iexact Hq0
      isplitl [Hq1]; iexact Hq1
      isplitl [Hq2]; iexact Hq2
      isplitl [Hq3]; iexact Hq3
      isplitl [Hq4]; iexact Hq4
      isplitl [Hq5]; iexact Hq5
      isplitl [Hq6]; iexact Hq6
      isplitl [Hq7]; iexact Hq7
      isplitl [Hq8]; iexact Hq8
      isplitl [Hq9]; iexact Hq9
      isplitl [Hq10]; iexact Hq10
      isplitl [Hq11]; iexact Hq11
      isplitl [Hq12]; iexact Hq12
      isplitl [Hq13]; iexact Hq13
      isplitl [Hq14]; iexact Hq14
      isplitl [Hq15]; iexact Hq15
      isplitl [Hq16]; iexact Hq16
      isplitl [Hq17]; iexact Hq17
      isplitl [Hq18]; iexact Hq18
      iexact Hq19
    isplitl [HmX HmG HmW HmWs]
    · isplitl [HmX]; iexact HmX
      isplitl [HmG]; iexact HmG
      isplitl [HmW]; iexact HmW
      iexact HmWs
    iexists _; iexact Hout
  iexists W'; isplitr; · ipureintro; exact fun _ _ => Or.inl trivial
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · unfold bodyPre; iintro ⟨H1, H2, -⟩; isplitl [H1]; iexact H1; iexact H2
  · unfold bodyPost; iintro ⟨H1, H2⟩; isplitl [H1]; iexact H1; isplitl [H2]; iexact H2; iempintro

set_option backward.isDefEq.respectTransparency.types false in
theorem run_main : θ_run defs (onTc (τ := τ) (main (F := F))) (s₀ m ρ) (fun r => Pipeline.FramePostR cfgs (dats m) 0 R0 (VD m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := VD m) (hmain := hmainD m Variants.none) (hA := fun c w => w.elim0)
    (hin := fun _ => .rfl) (hout := fun _ => .rfl)

/-- The program runs, its arguments end as they began, and every semaphore ends at zero. -/
theorem frameD : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_ofD m ρ (dats m) (run_main m ρ)

end Cert.KernelIdeal.Gen

end
-- ==== Proof.K.Base.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.MixedBatch
public import Idealize.ShloMosaic.Lib.Batch
public import Idealize.ShloMosaic.Lib.Ring
public import Idealize.ShloMosaic.Lib.LoopRemainder
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The whole scratch memory and argument arrays the kernel works on, by the names they have in its text. -/
abbrev mX : Memref sig .tc .hbm S16x8x4096 .bf16 := Memref.whole main_arg0
abbrev mGs : Memref sig .tc .hbm S16 .i32 := Memref.whole main_arg1
abbrev mW : Memref sig .tc .hbm S16x4096x3072 .fp8e4m3 := Memref.whole main_arg2
abbrev mWs : Memref sig .tc .hbm S16x32x24 .f32 := Memref.whole main_arg3
abbrev mOut : Memref sig .tc .hbm S16x8x3072 .bf16 := Memref.whole main_v0
abbrev sX : Memref sig .tc .vmem S16x8x4096 .bf16 := Memref.whole cc0_scratch0
abbrev sWs : Memref sig .tc .vmem S16x32x24 .f32 := Memref.whole cc0_scratch1
abbrev sGs : Memref sig .tc .smem S16 .i32 := Memref.whole cc0_scratch2
abbrev sAct : Memref sig .tc .smem S17 .i32 := Memref.whole cc0_scratch3
abbrev sW : Memref sig .tc .vmem S2x8x512x3072 .fp8e4m3 := Memref.whole cc0_scratch4
abbrev sXq : Memref sig .tc .vmem S16x16x256 .bf16 := Memref.whole cc0_scratch5
abbrev sSe : Memref sig .tc .vmem S32x3072 .f32 := Memref.whole cc0_scratch6
abbrev sOb : Memref sig .tc .vmem S16x8x3072 .bf16 := Memref.whole cc0_scratch7

theorem slot_inb (s : Fin 2) (k : Fin 8) : ∀ a, (![s.val, k.val, 0, 0] : Fin 4 → Nat) a + S1x1x512x3072.size a ≤ S2x8x512x3072.size a := by
  have := s.isLt; have := k.isLt; intro a; fin_cases a
  · show s.val + 1 ≤ 2; omega
  · show k.val + 1 ≤ 8; omega
  · show 0 + 512 ≤ 512; omega
  · show 0 + 3072 ≤ 3072; omega
theorem cell_inb (s : Fin 2) (k : Fin 8) : ∀ a, (![s.val, k.val] : Fin 2 → Nat) a + S1x1.size a ≤ S2x8.size a := by
  have := s.isLt; have := k.isLt; intro a; fin_cases a
  · show s.val + 1 ≤ 2; omega
  · show k.val + 1 ≤ 8; omega
theorem src_inb (e : Fin 16) (k : Fin 8) : ∀ a, (![e.val, 512 * k.val, 0] : Fin 3 → Nat) a + S1x512x3072.size a ≤ S16x4096x3072.size a := by
  have := e.isLt; have := k.isLt; intro a; fin_cases a
  · show e.val + 1 ≤ 16; omega
  · show 512 * k.val + 512 ≤ 4096; omega
  · show 0 + 3072 ≤ 3072; omega
theorem row_inb (e : Fin 16) : ∀ a, (![e.val, 0, 0] : Fin 3 → Nat) a + S1x8x3072.size a ≤ S16x8x3072.size a := by
  have := e.isLt; intro a; fin_cases a
  · show e.val + 1 ≤ 16; omega
  · show 0 + 8 ≤ 8; omega
  · show 0 + 3072 ≤ 3072; omega

/-- Chunk `k` of weight slot `s`. -/
def wslot (s : Fin 2) (k : Fin 8) : Memref sig .tc .vmem S512x3072 .fp8e4m3 :=
  (sW.slice (Rect.unit ![s.val, k.val, 0, 0] S1x1x512x3072.size (slot_inb s k)) (fun _ => rfl)).squeeze S512x3072 squeezes_S1x1x512x3072_S512x3072
/-- The semaphore of chunk `k` of weight slot `s`. -/
def wcell (s : Fin 2) (k : Fin 8) : DmaSems sig S_ :=
  (cc0_scratch11.slice (Rect.unit ![s.val, k.val] S1x1.size (cell_inb s k))).squeeze S_ squeezes_S1x1_S_
/-- Chunk `k` of expert `e`'s weights. -/
def wsrc (e : Fin 16) (k : Fin 8) : Memref sig .tc .hbm S512x3072 .fp8e4m3 :=
  (mW.slice (Rect.unit ![e.val, 512 * k.val, 0] S1x512x3072.size (src_inb e k)) (fun _ => rfl)).squeeze S512x3072 squeezes_S1x512x3072_S512x3072
/-- Row `e` of the staging buffer of results, and of the result array. -/
def obrow (e : Fin 16) : Memref sig .tc .vmem S8x3072 .bf16 :=
  (sOb.slice (Rect.unit ![e.val, 0, 0] S1x8x3072.size (row_inb e)) (fun _ => rfl)).squeeze S8x3072 squeezes_S1x8x3072_S8x3072
def outrow (e : Fin 16) : Memref sig .tc .hbm S8x3072 .bf16 :=
  (mOut.slice (Rect.unit ![e.val, 0, 0] S1x8x3072.size (row_inb e)) (fun _ => rfl)).squeeze S8x3072 squeezes_S1x8x3072_S8x3072

/-- The expert a word names. -/
def ex (v : BitVec 32) : Fin 16 := ⟨v.toNat % 16, Nat.mod_lt _ (by decide)⟩
theorem ex_val (v : BitVec 32) (h : v.toNat < 16) : (ex v).val = v.toNat := Nat.mod_eq_of_lt h

/-! ## The offsets of a trip of the expert loop, as vectors -/

theorem toNat_iv01 (n : Nat) (h : n < 2 ^ 32) : (Scf.iv 0#32 1#32 n).toNat = n := by
  simp only [Scf.iv, BitVec.toNat_add, BitVec.toNat_mul, BitVec.toNat_ofNat]; omega

theorem t3_lt (v1 : BitVec 32) (k : Fin (k0_t3_loop v1).trips) : k.val < 2 ^ 31 - 1 := by
  have h := k.isLt
  have h2 : (k0_t3_loop v1).trips < 2 ^ 31 := by
    show Scf.trips 0#32 (Scalar.addi 0#32 (Scalar.muli (Scalar.divsi (Scalar.subi v1 0#32) 1#32) 1#32)) 1#32 < 2 ^ 31
    rw [Scalar.muli_divsi_one, show Scalar.addi 0#32 (Scalar.subi v1 0#32) = v1 by simp [Scalar.addi, Scalar.subi, IntOp.addi, IntOp.subi]]
    have h1 : (1#32 : BitVec 32).toInt = 1 := by decide
    have h0 : (0#32 : BitVec 32).toInt = 0 := by decide
    have h3 : v1.toInt < 2 ^ 31 := by have := BitVec.toInt_lt (x := v1); omega
    unfold Scf.trips; rw [h1, h0]; omega
  omega

/-- The weight slot of trip `n`. -/
def par (n : Nat) : Fin 2 := ⟨n % 2, Nat.mod_lt _ (by decide)⟩

theorem toNat_rem2 (n : Nat) (h : n < 2 ^ 31 - 1) : (Scalar.remsi (Scf.iv 0#32 1#32 n) 2#32).toNat = n % 2 := by
  have h1 := toNat_iv01 n (by omega)
  have := IntOp.toNat_remsi .scalar (x := Scf.iv 0#32 1#32 n) (by rw [h1]; omega) 2 (by decide) (by decide)
  rw [h1] at this; exact this
theorem toNat_rem2' (n : Nat) (h : n < 2 ^ 31 - 1) : (Scalar.remsi (Scalar.addi (Scf.iv 0#32 1#32 n) 2#32) 2#32).toNat = n % 2 := by
  rcases Nat.lt_or_ge n (2 ^ 31 - 2) with h' | h'
  swap
  · have : n = 2 ^ 31 - 2 := by omega
    subst this; decide
  have h1 := toNat_iv01 n (by omega)
  have h2 : (Scalar.addi (Scf.iv 0#32 1#32 n) 2#32).toNat = n + 2 := by
    show (Scf.iv 0#32 1#32 n + 2#32).toNat = _
    rw [BitVec.toNat_add, h1]; show (n + 2) % 2 ^ 32 = _; omega
  have := IntOp.toNat_remsi .scalar (x := Scalar.addi (Scf.iv 0#32 1#32 n) 2#32) (by rw [h2]; omega) 2 (by decide) (by decide)
  rw [h2] at this; rw [show (n + 2) % 2 = n % 2 by omega] at this; exact this

theorem off89_eq (v1 : BitVec 32) (k : Fin (k0_t3_loop v1).trips) : k0_off89 v1 k = ![(par k.val).val, 0] := by
  show (![(_ : Nat), _] : Fin 2 → Nat) = _; exact congrArg (fun n => (![n, 0] : Fin 2 → Nat)) (toNat_rem2 k.val (t3_lt v1 k))
instance (v1 : BitVec 32) (k : Fin (k0_t3_loop v1).trips) : ClosedOff (k0_off89 v1 k) := ⟨![(par k.val).val, 0], off89_eq v1 k⟩
theorem off90_eq (v1 : BitVec 32) (k : Fin (k0_t3_loop v1).trips) : k0_off90 v1 k = ![(par k.val).val, 0, 0, 0] := by
  show (![(_ : Nat), _, _, _] : Fin 4 → Nat) = _; exact congrArg (fun n => (![n, 0, 0, 0] : Fin 4 → Nat)) (toNat_rem2 k.val (t3_lt v1 k))
instance (v1 : BitVec 32) (k : Fin (k0_t3_loop v1).trips) : ClosedOff (k0_off90 v1 k) := ⟨![(par k.val).val, 0, 0, 0], off90_eq v1 k⟩
theorem off92_eq (v1 : BitVec 32) (k : Fin (k0_t3_loop v1).trips) : k0_off92 v1 k = ![(par k.val).val, 0, 0, 0] := by
  show (![(_ : Nat), _, _, _] : Fin 4 → Nat) = _; exact congrArg (fun n => (![n, 0, 0, 0] : Fin 4 → Nat)) (toNat_rem2 k.val (t3_lt v1 k))
instance (v1 : BitVec 32) (k : Fin (k0_t3_loop v1).trips) : ClosedOff (k0_off92 v1 k) := ⟨![(par k.val).val, 0, 0, 0], off92_eq v1 k⟩
theorem off93_eq (v1 : BitVec 32) (k : Fin (k0_t3_loop v1).trips) : k0_off93 v1 k = ![(par k.val).val, 0, 256, 0] := by
  show (![(_ : Nat), _, _, _] : Fin 4 → Nat) = _; exact congrArg (fun n => (![n, 0, 256, 0] : Fin 4 → Nat)) (toNat_rem2 k.val (t3_lt v1 k))
instance (v1 : BitVec 32) (k : Fin (k0_t3_loop v1).trips) : ClosedOff (k0_off93 v1 k) := ⟨![(par k.val).val, 0, 256, 0], off93_eq v1 k⟩
theorem off95_eq (v1 : BitVec 32) (k : Fin (k0_t3_loop v1).trips) : k0_off95 v1 k = ![(par k.val).val, 0] := by
  show (![(_ : Nat), _] : Fin 2 → Nat) = _; exact congrArg (fun n => (![n, 0] : Fin 2 → Nat)) (toNat_rem2' k.val (t3_lt v1 k))
instance (v1 : BitVec 32) (k : Fin (k0_t3_loop v1).trips) : ClosedOff (k0_off95 v1 k) := ⟨![(par k.val).val, 0], off95_eq v1 k⟩
theorem off96_eq (v1 : BitVec 32) (k : Fin (k0_t3_loop v1).trips) : k0_off96 v1 k = ![(par k.val).val, 0, 0, 0] := by
  show (![(_ : Nat), _, _, _] : Fin 4 → Nat) = _; exact congrArg (fun n => (![n, 0, 0, 0] : Fin 4 → Nat)) (toNat_rem2' k.val (t3_lt v1 k))
instance (v1 : BitVec 32) (k : Fin (k0_t3_loop v1).trips) : ClosedOff (k0_off96 v1 k) := ⟨![(par k.val).val, 0, 0, 0], off96_eq v1 k⟩
@[sl_canon] theorem canon_wait_cell0 (v1 : BitVec 32) (k : Fin (k0_t3_loop v1).trips) (h) : (cc0_scratch11.slice (Rect.unit (s := S2x8) (k0_off89 v1 k) S1x1.size h)).squeeze S_ squeezes_S1x1_S_ = wcell (par k.val) 0 :=
  congrArg (fun m : DmaSems sig S1x1 => m.squeeze S_ squeezes_S1x1_S_) (SemArray.slice_unit_congr _ (off89_eq v1 k) _ _)
@[sl_canon] theorem canon_start_cell0 (v1 : BitVec 32) (k : Fin (k0_t3_loop v1).trips) (h) : (cc0_scratch11.slice (Rect.unit (s := S2x8) (k0_off95 v1 k) S1x1.size h)).squeeze S_ squeezes_S1x1_S_ = wcell (par k.val) 0 :=
  congrArg (fun m : DmaSems sig S1x1 => m.squeeze S_ squeezes_S1x1_S_) (SemArray.slice_unit_congr _ (off95_eq v1 k) _ _)
@[sl_canon] theorem canon_wait_slot0 (v1 : BitVec 32) (k : Fin (k0_t3_loop v1).trips) (h hs) : (sW.slice (Rect.unit (s := S2x8x512x3072) (k0_off90 v1 k) S1x1x512x3072.size h) hs).squeeze S512x3072 squeezes_S1x1x512x3072_S512x3072 = wslot (par k.val) 0 :=
  congrArg (fun m : Memref sig .tc .vmem S1x1x512x3072 .fp8e4m3 => m.squeeze S512x3072 squeezes_S1x1x512x3072_S512x3072) (Memref.slice_unit_congr _ (off90_eq v1 k) _ _ _ fun _ => rfl)
@[sl_canon] theorem canon_start_slot0 (v1 : BitVec 32) (k : Fin (k0_t3_loop v1).trips) (h hs) : (sW.slice (Rect.unit (s := S2x8x512x3072) (k0_off96 v1 k) S1x1x512x3072.size h) hs).squeeze S512x3072 squeezes_S1x1x512x3072_S512x3072 = wslot (par k.val) 0 :=
  congrArg (fun m : Memref sig .tc .vmem S1x1x512x3072 .fp8e4m3 => m.squeeze S512x3072 squeezes_S1x1x512x3072_S512x3072) (Memref.slice_unit_congr _ (off96_eq v1 k) _ _ _ fun _ => rfl)

theorem off99_eq (v1 : BitVec 32) (k : Fin (k0_t3_loop v1).trips) : k0_off99 v1 k = ![(par k.val).val, 1] := by
  show (![(_ : Nat), _] : Fin 2 → Nat) = _; exact congrArg (fun n => (![n, 1] : Fin 2 → Nat)) (toNat_rem2 k.val (t3_lt v1 k))
instance (v1 : BitVec 32) (k : Fin (k0_t3_loop v1).trips) : ClosedOff (k0_off99 v1 k) := ⟨![(par k.val).val, 1], off99_eq v1 k⟩
theorem off100_eq (v1 : BitVec 32) (k : Fin (k0_t3_loop v1).trips) : k0_off100 v1 k = ![(par k.val).val, 1, 0, 0] := by
  show (![(_ : Nat), _, _, _] : Fin 4 → Nat) = _; exact congrArg (fun n => (![n, 1, 0, 0] : Fin 4 → Nat)) (toNat_rem2 k.val (t3_lt v1 k))
instance (v1 : BitVec 32) (k : Fin (k0_t3_loop v1).trips) : ClosedOff (k0_off100 v1 k) := ⟨![(par k.val).val, 1, 0, 0], off100_eq v1 k⟩
theorem off102_eq (v1 : BitVec 32) (k : Fin (k0_t3_loop v1).trips) : k0_off102 v1 k = ![(par k.val).val, 1, 0, 0] := by
  show (![(_ : Nat), _, _, _] : Fin 4 → Nat) = _; exact congrArg (fun n => (![n, 1, 0, 0] : Fin 4 → Nat)) (toNat_rem2 k.val (t3_lt v1 k))
instance (v1 : BitVec 32) (k : Fin (k0_t3_loop v1).trips) : ClosedOff (k0_off102 v1 k) := ⟨![(par k.val).val, 1, 0, 0], off102_eq v1 k⟩
theorem off103_eq (v1 : BitVec 32) (k : Fin (k0_t3_loop v1).trips) : k0_off103 v1 k = ![(par k.val).val, 1, 256, 0] := by
  show (![(_ : Nat), _, _, _] : Fin 4 → Nat) = _; exact congrArg (fun n => (![n, 1, 256, 0] : Fin 4 → Nat)) (toNat_rem2 k.val (t3_lt v1 k))
instance (v1 : BitVec 32) (k : Fin (k0_t3_loop v1).trips) : ClosedOff (k0_off103 v1 k) := ⟨![(par k.val).val, 1, 256, 0], off103_eq v1 k⟩
theorem off105_eq (v1 : BitVec 32) (k : Fin (k0_t3_loop v1).trips) : k0_off105 v1 k = ![(par k.val).val, 1] := by
  show (![(_ : Nat), _] : Fin 2 → Nat) = _; exact congrArg (fun n => (![n, 1] : Fin 2 → Nat)) (toNat_rem2' k.val (t3_lt v1 k))
instance (v1 : BitVec 32) (k : Fin (k0_t3_loop v1).trips) : ClosedOff (k0_off105 v1 k) := ⟨![(par k.val).val, 1], off105_eq v1 k⟩
theorem off106_eq (v1 : BitVec 32) (k : Fin (k0_t3_loop v1).trips) : k0_off106 v1 k = ![(par k.val).val, 1, 0, 0] := by
  show (![(_ : Nat), _, _, _] : Fin 4 → Nat) = _; exact congrArg (fun n => (![n, 1, 0, 0] : Fin 4 → Nat)) (toNat_rem2' k.val (t3_lt v1 k))
instance (v1 : BitVec 32) (k : Fin (k0_t3_loop v1).trips) : ClosedOff (k0_off106 v1 k) := ⟨![(par k.val).val, 1, 0, 0], off106_eq v1 k⟩
@[sl_canon] theorem canon_wait_cell1 (v1 : BitVec 32) (k : Fin (k0_t3_loop v1).trips) (h) : (cc0_scratch11.slice (Rect.unit (s := S2x8) (k0_off99 v1 k) S1x1.size h)).squeeze S_ squeezes_S1x1_S_ = wcell (par k.val) 1 :=
  congrArg (fun m : DmaSems sig S1x1 => m.squeeze S_ squeezes_S1x1_S_) (SemArray.slice_unit_congr _ (off99_eq v1 k) _ _)
@[sl_canon] theorem canon_start_cell1 (v1 : BitVec 32) (k : Fin (k0_t3_loop v1).trips) (h) : (cc0_scratch11.slice (Rect.unit (s := S2x8) (k0_off105 v1 k) S1x1.size h)).squeeze S_ squeezes_S1x1_S_ = wcell (par k.val) 1 :=
  congrArg (fun m : DmaSems sig S1x1 => m.squeeze S_ squeezes_S1x1_S_) (SemArray.slice_unit_congr _ (off105_eq v1 k) _ _)
@[sl_canon] theorem canon_wait_slot1 (v1 : BitVec 32) (k : Fin (k0_t3_loop v1).trips) (h hs) : (sW.slice (Rect.unit (s := S2x8x512x3072) (k0_off100 v1 k) S1x1x512x3072.size h) hs).squeeze S512x3072 squeezes_S1x1x512x3072_S512x3072 = wslot (par k.val) 1 :=
  congrArg (fun m : Memref sig .tc .vmem S1x1x512x3072 .fp8e4m3 => m.squeeze S512x3072 squeezes_S1x1x512x3072_S512x3072) (Memref.slice_unit_congr _ (off100_eq v1 k) _ _ _ fun _ => rfl)
@[sl_canon] theorem canon_start_slot1 (v1 : BitVec 32) (k : Fin (k0_t3_loop v1).trips) (h hs) : (sW.slice (Rect.unit (s := S2x8x512x3072) (k0_off106 v1 k) S1x1x512x3072.size h) hs).squeeze S512x3072 squeezes_S1x1x512x3072_S512x3072 = wslot (par k.val) 1 :=
  congrArg (fun m : Memref sig .tc .vmem S1x1x512x3072 .fp8e4m3 => m.squeeze S512x3072 squeezes_S1x1x512x3072_S512x3072) (Memref.slice_unit_congr _ (off106_eq v1 k) _ _ _ fun _ => rfl)

theorem off109_eq (v1 : BitVec 32) (k : Fin (k0_t3_loop v1).trips) : k0_off109 v1 k = ![(par k.val).val, 2] := by
  show (![(_ : Nat), _] : Fin 2 → Nat) = _; exact congrArg (fun n => (![n, 2] : Fin 2 → Nat)) (toNat_rem2 k.val (t3_lt v1 k))
instance (v1 : BitVec 32) (k : Fin (k0_t3_loop v1).trips) : ClosedOff (k0_off109 v1 k) := ⟨![(par k.val).val, 2], off109_eq v1 k⟩
theorem off110_eq (v1 : BitVec 32) (k : Fin (k0_t3_loop v1).trips) : k0_off110 v1 k = ![(par k.val).val, 2, 0, 0] := by
  show (![(_ : Nat), _, _, _] : Fin 4 → Nat) = _; exact congrArg (fun n => (![n, 2, 0, 0] : Fin 4 → Nat)) (toNat_rem2 k.val (t3_lt v1 k))
instance (v1 : BitVec 32) (k : Fin (k0_t3_loop v1).trips) : ClosedOff (k0_off110 v1 k) := ⟨![(par k.val).val, 2, 0, 0], off110_eq v1 k⟩
theorem off112_eq (v1 : BitVec 32) (k : Fin (k0_t3_loop v1).trips) : k0_off112 v1 k = ![(par k.val).val, 2, 0, 0] := by
  show (![(_ : Nat), _, _, _] : Fin 4 → Nat) = _; exact congrArg (fun n => (![n, 2, 0, 0] : Fin 4 → Nat)) (toNat_rem2 k.val (t3_lt v1 k))
instance (v1 : BitVec 32) (k : Fin (k0_t3_loop v1).trips) : ClosedOff (k0_off112 v1 k) := ⟨![(par k.val).val, 2, 0, 0], off112_eq v1 k⟩
theorem off113_eq (v1 : BitVec 32) (k : Fin (k0_t3_loop v1).trips) : k0_off113 v1 k = ![(par k.val).val, 2, 256, 0] := by
  show (![(_ : Nat), _, _, _] : Fin 4 → Nat) = _; exact congrArg (fun n => (![n, 2, 256, 0] : Fin 4 → Nat)) (toNat_rem2 k.val (t3_lt v1 k))
instance (v1 : BitVec 32) (k : Fin (k0_t3_loop v1).trips) : ClosedOff (k0_off113 v1 k) := ⟨![(par k.val).val, 2, 256, 0], off113_eq v1 k⟩
theorem off115_eq (v1 : BitVec 32) (k : Fin (k0_t3_loop v1).trips) : k0_off115 v1 k = ![(par k.val).val, 2] := by
  show (![(_ : Nat), _] : Fin 2 → Nat) = _; exact congrArg (fun n => (![n, 2] : Fin 2 → Nat)) (toNat_rem2' k.val (t3_lt v1 k))
instance (v1 : BitVec 32) (k : Fin (k0_t3_loop v1).trips) : ClosedOff (k0_off115 v1 k) := ⟨![(par k.val).val, 2], off115_eq v1 k⟩
theorem off116_eq (v1 : BitVec 32) (k : Fin (k0_t3_loop v1).trips) : k0_off116 v1 k = ![(par k.val).val, 2, 0, 0] := by
  show (![(_ : Nat), _, _, _] : Fin 4 → Nat) = _; exact congrArg (fun n => (![n, 2, 0, 0] : Fin 4 → Nat)) (toNat_rem2' k.val (t3_lt v1 k))
instance (v1 : BitVec 32) (k : Fin (k0_t3_loop v1).trips) : ClosedOff (k0_off116 v1 k) := ⟨![(par k.val).val, 2, 0, 0], off116_eq v1 k⟩
@[sl_canon] theorem canon_wait_cell2 (v1 : BitVec 32) (k : Fin (k0_t3_loop v1).trips) (h) : (cc0_scratch11.slice (Rect.unit (s := S2x8) (k0_off109 v1 k) S1x1.size h)).squeeze S_ squeezes_S1x1_S_ = wcell (par k.val) 2 :=
  congrArg (fun m : DmaSems sig S1x1 => m.squeeze S_ squeezes_S1x1_S_) (SemArray.slice_unit_congr _ (off109_eq v1 k) _ _)
@[sl_canon] theorem canon_start_cell2 (v1 : BitVec 32) (k : Fin (k0_t3_loop v1).trips) (h) : (cc0_scratch11.slice (Rect.unit (s := S2x8) (k0_off115 v1 k) S1x1.size h)).squeeze S_ squeezes_S1x1_S_ = wcell (par k.val) 2 :=
  congrArg (fun m : DmaSems sig S1x1 => m.squeeze S_ squeezes_S1x1_S_) (SemArray.slice_unit_congr _ (off115_eq v1 k) _ _)
@[sl_canon] theorem canon_wait_slot2 (v1 : BitVec 32) (k : Fin (k0_t3_loop v1).trips) (h hs) : (sW.slice (Rect.unit (s := S2x8x512x3072) (k0_off110 v1 k) S1x1x512x3072.size h) hs).squeeze S512x3072 squeezes_S1x1x512x3072_S512x3072 = wslot (par k.val) 2 :=
  congrArg (fun m : Memref sig .tc .vmem S1x1x512x3072 .fp8e4m3 => m.squeeze S512x3072 squeezes_S1x1x512x3072_S512x3072) (Memref.slice_unit_congr _ (off110_eq v1 k) _ _ _ fun _ => rfl)
@[sl_canon] theorem canon_start_slot2 (v1 : BitVec 32) (k : Fin (k0_t3_loop v1).trips) (h hs) : (sW.slice (Rect.unit (s := S2x8x512x3072) (k0_off116 v1 k) S1x1x512x3072.size h) hs).squeeze S512x3072 squeezes_S1x1x512x3072_S512x3072 = wslot (par k.val) 2 :=
  congrArg (fun m : Memref sig .tc .vmem S1x1x512x3072 .fp8e4m3 => m.squeeze S512x3072 squeezes_S1x1x512x3072_S512x3072) (Memref.slice_unit_congr _ (off116_eq v1 k) _ _ _ fun _ => rfl)

theorem off119_eq (v1 : BitVec 32) (k : Fin (k0_t3_loop v1).trips) : k0_off119 v1 k = ![(par k.val).val, 3] := by
  show (![(_ : Nat), _] : Fin 2 → Nat) = _; exact congrArg (fun n => (![n, 3] : Fin 2 → Nat)) (toNat_rem2 k.val (t3_lt v1 k))
instance (v1 : BitVec 32) (k : Fin (k0_t3_loop v1).trips) : ClosedOff (k0_off119 v1 k) := ⟨![(par k.val).val, 3], off119_eq v1 k⟩
theorem off120_eq (v1 : BitVec 32) (k : Fin (k0_t3_loop v1).trips) : k0_off120 v1 k = ![(par k.val).val, 3, 0, 0] := by
  show (![(_ : Nat), _, _, _] : Fin 4 → Nat) = _; exact congrArg (fun n => (![n, 3, 0, 0] : Fin 4 → Nat)) (toNat_rem2 k.val (t3_lt v1 k))
instance (v1 : BitVec 32) (k : Fin (k0_t3_loop v1).trips) : ClosedOff (k0_off120 v1 k) := ⟨![(par k.val).val, 3, 0, 0], off120_eq v1 k⟩
theorem off122_eq (v1 : BitVec 32) (k : Fin (k0_t3_loop v1).trips) : k0_off122 v1 k = ![(par k.val).val, 3, 0, 0] := by
  show (![(_ : Nat), _, _, _] : Fin 4 → Nat) = _; exact congrArg (fun n => (![n, 3, 0, 0] : Fin 4 → Nat)) (toNat_rem2 k.val (t3_lt v1 k))
instance (v1 : BitVec 32) (k : Fin (k0_t3_loop v1).trips) : ClosedOff (k0_off122 v1 k) := ⟨![(par k.val).val, 3, 0, 0], off122_eq v1 k⟩
theorem off123_eq (v1 : BitVec 32) (k : Fin (k0_t3_loop v1).trips) : k0_off123 v1 k = ![(par k.val).val, 3, 256, 0] := by
  show (![(_ : Nat), _, _, _] : Fin 4 → Nat) = _; exact congrArg (fun n => (![n, 3, 256, 0] : Fin 4 → Nat)) (toNat_rem2 k.val (t3_lt v1 k))
instance (v1 : BitVec 32) (k : Fin (k0_t3_loop v1).trips) : ClosedOff (k0_off123 v1 k) := ⟨![(par k.val).val, 3, 256, 0], off123_eq v1 k⟩
theorem off125_eq (v1 : BitVec 32) (k : Fin (k0_t3_loop v1).trips) : k0_off125 v1 k = ![(par k.val).val, 3] := by
  show (![(_ : Nat), _] : Fin 2 → Nat) = _; exact congrArg (fun n => (![n, 3] : Fin 2 → Nat)) (toNat_rem2' k.val (t3_lt v1 k))
instance (v1 : BitVec 32) (k : Fin (k0_t3_loop v1).trips) : ClosedOff (k0_off125 v1 k) := ⟨![(par k.val).val, 3], off125_eq v1 k⟩
theorem off126_eq (v1 : BitVec 32) (k : Fin (k0_t3_loop v1).trips) : k0_off126 v1 k = ![(par k.val).val, 3, 0, 0] := by
  show (![(_ : Nat), _, _, _] : Fin 4 → Nat) = _; exact congrArg (fun n => (![n, 3, 0, 0] : Fin 4 → Nat)) (toNat_rem2' k.val (t3_lt v1 k))
instance (v1 : BitVec 32) (k : Fin (k0_t3_loop v1).trips) : ClosedOff (k0_off126 v1 k) := ⟨![(par k.val).val, 3, 0, 0], off126_eq v1 k⟩
@[sl_canon] theorem canon_wait_cell3 (v1 : BitVec 32) (k : Fin (k0_t3_loop v1).trips) (h) : (cc0_scratch11.slice (Rect.unit (s := S2x8) (k0_off119 v1 k) S1x1.size h)).squeeze S_ squeezes_S1x1_S_ = wcell (par k.val) 3 :=
  congrArg (fun m : DmaSems sig S1x1 => m.squeeze S_ squeezes_S1x1_S_) (SemArray.slice_unit_congr _ (off119_eq v1 k) _ _)
@[sl_canon] theorem canon_start_cell3 (v1 : BitVec 32) (k : Fin (k0_t3_loop v1).trips) (h) : (cc0_scratch11.slice (Rect.unit (s := S2x8) (k0_off125 v1 k) S1x1.size h)).squeeze S_ squeezes_S1x1_S_ = wcell (par k.val) 3 :=
  congrArg (fun m : DmaSems sig S1x1 => m.squeeze S_ squeezes_S1x1_S_) (SemArray.slice_unit_congr _ (off125_eq v1 k) _ _)
@[sl_canon] theorem canon_wait_slot3 (v1 : BitVec 32) (k : Fin (k0_t3_loop v1).trips) (h hs) : (sW.slice (Rect.unit (s := S2x8x512x3072) (k0_off120 v1 k) S1x1x512x3072.size h) hs).squeeze S512x3072 squeezes_S1x1x512x3072_S512x3072 = wslot (par k.val) 3 :=
  congrArg (fun m : Memref sig .tc .vmem S1x1x512x3072 .fp8e4m3 => m.squeeze S512x3072 squeezes_S1x1x512x3072_S512x3072) (Memref.slice_unit_congr _ (off120_eq v1 k) _ _ _ fun _ => rfl)
@[sl_canon] theorem canon_start_slot3 (v1 : BitVec 32) (k : Fin (k0_t3_loop v1).trips) (h hs) : (sW.slice (Rect.unit (s := S2x8x512x3072) (k0_off126 v1 k) S1x1x512x3072.size h) hs).squeeze S512x3072 squeezes_S1x1x512x3072_S512x3072 = wslot (par k.val) 3 :=
  congrArg (fun m : Memref sig .tc .vmem S1x1x512x3072 .fp8e4m3 => m.squeeze S512x3072 squeezes_S1x1x512x3072_S512x3072) (Memref.slice_unit_congr _ (off126_eq v1 k) _ _ _ fun _ => rfl)

theorem off129_eq (v1 : BitVec 32) (k : Fin (k0_t3_loop v1).trips) : k0_off129 v1 k = ![(par k.val).val, 4] := by
  show (![(_ : Nat), _] : Fin 2 → Nat) = _; exact congrArg (fun n => (![n, 4] : Fin 2 → Nat)) (toNat_rem2 k.val (t3_lt v1 k))
instance (v1 : BitVec 32) (k : Fin (k0_t3_loop v1).trips) : ClosedOff (k0_off129 v1 k) := ⟨![(par k.val).val, 4], off129_eq v1 k⟩
theorem off130_eq (v1 : BitVec 32) (k : Fin (k0_t3_loop v1).trips) : k0_off130 v1 k = ![(par k.val).val, 4, 0, 0] := by
  show (![(_ : Nat), _, _, _] : Fin 4 → Nat) = _; exact congrArg (fun n => (![n, 4, 0, 0] : Fin 4 → Nat)) (toNat_rem2 k.val (t3_lt v1 k))
instance (v1 : BitVec 32) (k : Fin (k0_t3_loop v1).trips) : ClosedOff (k0_off130 v1 k) := ⟨![(par k.val).val, 4, 0, 0], off130_eq v1 k⟩
theorem off132_eq (v1 : BitVec 32) (k : Fin (k0_t3_loop v1).trips) : k0_off132 v1 k = ![(par k.val).val, 4, 0, 0] := by
  show (![(_ : Nat), _, _, _] : Fin 4 → Nat) = _; exact congrArg (fun n => (![n, 4, 0, 0] : Fin 4 → Nat)) (toNat_rem2 k.val (t3_lt v1 k))
instance (v1 : BitVec 32) (k : Fin (k0_t3_loop v1).trips) : ClosedOff (k0_off132 v1 k) := ⟨![(par k.val).val, 4, 0, 0], off132_eq v1 k⟩
theorem off133_eq (v1 : BitVec 32) (k : Fin (k0_t3_loop v1).trips) : k0_off133 v1 k = ![(par k.val).val, 4, 256, 0] := by
  show (![(_ : Nat), _, _, _] : Fin 4 → Nat) = _; exact congrArg (fun n => (![n, 4, 256, 0] : Fin 4 → Nat)) (toNat_rem2 k.val (t3_lt v1 k))
instance (v1 : BitVec 32) (k : Fin (k0_t3_loop v1).trips) : ClosedOff (k0_off133 v1 k) := ⟨![(par k.val).val, 4, 256, 0], off133_eq v1 k⟩
theorem off135_eq (v1 : BitVec 32) (k : Fin (k0_t3_loop v1).trips) : k0_off135 v1 k = ![(par k.val).val, 4] := by
  show (![(_ : Nat), _] : Fin 2 → Nat) = _; exact congrArg (fun n => (![n, 4] : Fin 2 → Nat)) (toNat_rem2' k.val (t3_lt v1 k))
instance (v1 : BitVec 32) (k : Fin (k0_t3_loop v1).trips) : ClosedOff (k0_off135 v1 k) := ⟨![(par k.val).val, 4], off135_eq v1 k⟩
theorem off136_eq (v1 : BitVec 32) (k : Fin (k0_t3_loop v1).trips) : k0_off136 v1 k = ![(par k.val).val, 4, 0, 0] := by
  show (![(_ : Nat), _, _, _] : Fin 4 → Nat) = _; exact congrArg (fun n => (![n, 4, 0, 0] : Fin 4 → Nat)) (toNat_rem2' k.val (t3_lt v1 k))
instance (v1 : BitVec 32) (k : Fin (k0_t3_loop v1).trips) : ClosedOff (k0_off136 v1 k) := ⟨![(par k.val).val, 4, 0, 0], off136_eq v1 k⟩
@[sl_canon] theorem canon_wait_cell4 (v1 : BitVec 32) (k : Fin (k0_t3_loop v1).trips) (h) : (cc0_scratch11.slice (Rect.unit (s := S2x8) (k0_off129 v1 k) S1x1.size h)).squeeze S_ squeezes_S1x1_S_ = wcell (par k.val) 4 :=
  congrArg (fun m : DmaSems sig S1x1 => m.squeeze S_ squeezes_S1x1_S_) (SemArray.slice_unit_congr _ (off129_eq v1 k) _ _)
@[sl_canon] theorem canon_start_cell4 (v1 : BitVec 32) (k : Fin (k0_t3_loop v1).trips) (h) : (cc0_scratch11.slice (Rect.unit (s := S2x8) (k0_off135 v1 k) S1x1.size h)).squeeze S_ squeezes_S1x1_S_ = wcell (par k.val) 4 :=
  congrArg (fun m : DmaSems sig S1x1 => m.squeeze S_ squeezes_S1x1_S_) (SemArray.slice_unit_congr _ (off135_eq v1 k) _ _)
@[sl_canon] theorem canon_wait_slot4 (v1 : BitVec 32) (k : Fin (k0_t3_loop v1).trips) (h hs) : (sW.slice (Rect.unit (s := S2x8x512x3072) (k0_off130 v1 k) S1x1x512x3072.size h) hs).squeeze S512x3072 squeezes_S1x1x512x3072_S512x3072 = wslot (par k.val) 4 :=
  congrArg (fun m : Memref sig .tc .vmem S1x1x512x3072 .fp8e4m3 => m.squeeze S512x3072 squeezes_S1x1x512x3072_S512x3072) (Memref.slice_unit_congr _ (off130_eq v1 k) _ _ _ fun _ => rfl)
@[sl_canon] theorem canon_start_slot4 (v1 : BitVec 32) (k : Fin (k0_t3_loop v1).trips) (h hs) : (sW.slice (Rect.unit (s := S2x8x512x3072) (k0_off136 v1 k) S1x1x512x3072.size h) hs).squeeze S512x3072 squeezes_S1x1x512x3072_S512x3072 = wslot (par k.val) 4 :=
  congrArg (fun m : Memref sig .tc .vmem S1x1x512x3072 .fp8e4m3 => m.squeeze S512x3072 squeezes_S1x1x512x3072_S512x3072) (Memref.slice_unit_congr _ (off136_eq v1 k) _ _ _ fun _ => rfl)

theorem off139_eq (v1 : BitVec 32) (k : Fin (k0_t3_loop v1).trips) : k0_off139 v1 k = ![(par k.val).val, 5] := by
  show (![(_ : Nat), _] : Fin 2 → Nat) = _; exact congrArg (fun n => (![n, 5] : Fin 2 → Nat)) (toNat_rem2 k.val (t3_lt v1 k))
instance (v1 : BitVec 32) (k : Fin (k0_t3_loop v1).trips) : ClosedOff (k0_off139 v1 k) := ⟨![(par k.val).val, 5], off139_eq v1 k⟩
theorem off140_eq (v1 : BitVec 32) (k : Fin (k0_t3_loop v1).trips) : k0_off140 v1 k = ![(par k.val).val, 5, 0, 0] := by
  show (![(_ : Nat), _, _, _] : Fin 4 → Nat) = _; exact congrArg (fun n => (![n, 5, 0, 0] : Fin 4 → Nat)) (toNat_rem2 k.val (t3_lt v1 k))
instance (v1 : BitVec 32) (k : Fin (k0_t3_loop v1).trips) : ClosedOff (k0_off140 v1 k) := ⟨![(par k.val).val, 5, 0, 0], off140_eq v1 k⟩
theorem off142_eq (v1 : BitVec 32) (k : Fin (k0_t3_loop v1).trips) : k0_off142 v1 k = ![(par k.val).val, 5, 0, 0] := by
  show (![(_ : Nat), _, _, _] : Fin 4 → Nat) = _; exact congrArg (fun n => (![n, 5, 0, 0] : Fin 4 → Nat)) (toNat_rem2 k.val (t3_lt v1 k))
instance (v1 : BitVec 32) (k : Fin (k0_t3_loop v1).trips) : ClosedOff (k0_off142 v1 k) := ⟨![(par k.val).val, 5, 0, 0], off142_eq v1 k⟩
theorem off143_eq (v1 : BitVec 32) (k : Fin (k0_t3_loop v1).trips) : k0_off143 v1 k = ![(par k.val).val, 5, 256, 0] := by
  show (![(_ : Nat), _, _, _] : Fin 4 → Nat) = _; exact congrArg (fun n => (![n, 5, 256, 0] : Fin 4 → Nat)) (toNat_rem2 k.val (t3_lt v1 k))
instance (v1 : BitVec 32) (k : Fin (k0_t3_loop v1).trips) : ClosedOff (k0_off143 v1 k) := ⟨![(par k.val).val, 5, 256, 0], off143_eq v1 k⟩
theorem off145_eq (v1 : BitVec 32) (k : Fin (k0_t3_loop v1).trips) : k0_off145 v1 k = ![(par k.val).val, 5] := by
  show (![(_ : Nat), _] : Fin 2 → Nat) = _; exact congrArg (fun n => (![n, 5] : Fin 2 → Nat)) (toNat_rem2' k.val (t3_lt v1 k))
instance (v1 : BitVec 32) (k : Fin (k0_t3_loop v1).trips) : ClosedOff (k0_off145 v1 k) := ⟨![(par k.val).val, 5], off145_eq v1 k⟩
theorem off146_eq (v1 : BitVec 32) (k : Fin (k0_t3_loop v1).trips) : k0_off146 v1 k = ![(par k.val).val, 5, 0, 0] := by
  show (![(_ : Nat), _, _, _] : Fin 4 → Nat) = _; exact congrArg (fun n => (![n, 5, 0, 0] : Fin 4 → Nat)) (toNat_rem2' k.val (t3_lt v1 k))
instance (v1 : BitVec 32) (k : Fin (k0_t3_loop v1).trips) : ClosedOff (k0_off146 v1 k) := ⟨![(par k.val).val, 5, 0, 0], off146_eq v1 k⟩
@[sl_canon] theorem canon_wait_cell5 (v1 : BitVec 32) (k : Fin (k0_t3_loop v1).trips) (h) : (cc0_scratch11.slice (Rect.unit (s := S2x8) (k0_off139 v1 k) S1x1.size h)).squeeze S_ squeezes_S1x1_S_ = wcell (par k.val) 5 :=
  congrArg (fun m : DmaSems sig S1x1 => m.squeeze S_ squeezes_S1x1_S_) (SemArray.slice_unit_congr _ (off139_eq v1 k) _ _)
@[sl_canon] theorem canon_start_cell5 (v1 : BitVec 32) (k : Fin (k0_t3_loop v1).trips) (h) : (cc0_scratch11.slice (Rect.unit (s := S2x8) (k0_off145 v1 k) S1x1.size h)).squeeze S_ squeezes_S1x1_S_ = wcell (par k.val) 5 :=
  congrArg (fun m : DmaSems sig S1x1 => m.squeeze S_ squeezes_S1x1_S_) (SemArray.slice_unit_congr _ (off145_eq v1 k) _ _)
@[sl_canon] theorem canon_wait_slot5 (v1 : BitVec 32) (k : Fin (k0_t3_loop v1).trips) (h hs) : (sW.slice (Rect.unit (s := S2x8x512x3072) (k0_off140 v1 k) S1x1x512x3072.size h) hs).squeeze S512x3072 squeezes_S1x1x512x3072_S512x3072 = wslot (par k.val) 5 :=
  congrArg (fun m : Memref sig .tc .vmem S1x1x512x3072 .fp8e4m3 => m.squeeze S512x3072 squeezes_S1x1x512x3072_S512x3072) (Memref.slice_unit_congr _ (off140_eq v1 k) _ _ _ fun _ => rfl)
@[sl_canon] theorem canon_start_slot5 (v1 : BitVec 32) (k : Fin (k0_t3_loop v1).trips) (h hs) : (sW.slice (Rect.unit (s := S2x8x512x3072) (k0_off146 v1 k) S1x1x512x3072.size h) hs).squeeze S512x3072 squeezes_S1x1x512x3072_S512x3072 = wslot (par k.val) 5 :=
  congrArg (fun m : Memref sig .tc .vmem S1x1x512x3072 .fp8e4m3 => m.squeeze S512x3072 squeezes_S1x1x512x3072_S512x3072) (Memref.slice_unit_congr _ (off146_eq v1 k) _ _ _ fun _ => rfl)

theorem off149_eq (v1 : BitVec 32) (k : Fin (k0_t3_loop v1).trips) : k0_off149 v1 k = ![(par k.val).val, 6] := by
  show (![(_ : Nat), _] : Fin 2 → Nat) = _; exact congrArg (fun n => (![n, 6] : Fin 2 → Nat)) (toNat_rem2 k.val (t3_lt v1 k))
instance (v1 : BitVec 32) (k : Fin (k0_t3_loop v1).trips) : ClosedOff (k0_off149 v1 k) := ⟨![(par k.val).val, 6], off149_eq v1 k⟩
theorem off150_eq (v1 : BitVec 32) (k : Fin (k0_t3_loop v1).trips) : k0_off150 v1 k = ![(par k.val).val, 6, 0, 0] := by
  show (![(_ : Nat), _, _, _] : Fin 4 → Nat) = _; exact congrArg (fun n => (![n, 6, 0, 0] : Fin 4 → Nat)) (toNat_rem2 k.val (t3_lt v1 k))
instance (v1 : BitVec 32) (k : Fin (k0_t3_loop v1).trips) : ClosedOff (k0_off150 v1 k) := ⟨![(par k.val).val, 6, 0, 0], off150_eq v1 k⟩
theorem off152_eq (v1 : BitVec 32) (k : Fin (k0_t3_loop v1).trips) : k0_off152 v1 k = ![(par k.val).val, 6, 0, 0] := by
  show (![(_ : Nat), _, _, _] : Fin 4 → Nat) = _; exact congrArg (fun n => (![n, 6, 0, 0] : Fin 4 → Nat)) (toNat_rem2 k.val (t3_lt v1 k))
instance (v1 : BitVec 32) (k : Fin (k0_t3_loop v1).trips) : ClosedOff (k0_off152 v1 k) := ⟨![(par k.val).val, 6, 0, 0], off152_eq v1 k⟩
theorem off153_eq (v1 : BitVec 32) (k : Fin (k0_t3_loop v1).trips) : k0_off153 v1 k = ![(par k.val).val, 6, 256, 0] := by
  show (![(_ : Nat), _, _, _] : Fin 4 → Nat) = _; exact congrArg (fun n => (![n, 6, 256, 0] : Fin 4 → Nat)) (toNat_rem2 k.val (t3_lt v1 k))
instance (v1 : BitVec 32) (k : Fin (k0_t3_loop v1).trips) : ClosedOff (k0_off153 v1 k) := ⟨![(par k.val).val, 6, 256, 0], off153_eq v1 k⟩
theorem off155_eq (v1 : BitVec 32) (k : Fin (k0_t3_loop v1).trips) : k0_off155 v1 k = ![(par k.val).val, 6] := by
  show (![(_ : Nat), _] : Fin 2 → Nat) = _; exact congrArg (fun n => (![n, 6] : Fin 2 → Nat)) (toNat_rem2' k.val (t3_lt v1 k))
instance (v1 : BitVec 32) (k : Fin (k0_t3_loop v1).trips) : ClosedOff (k0_off155 v1 k) := ⟨![(par k.val).val, 6], off155_eq v1 k⟩
theorem off156_eq (v1 : BitVec 32) (k : Fin (k0_t3_loop v1).trips) : k0_off156 v1 k = ![(par k.val).val, 6, 0, 0] := by
  show (![(_ : Nat), _, _, _] : Fin 4 → Nat) = _; exact congrArg (fun n => (![n, 6, 0, 0] : Fin 4 → Nat)) (toNat_rem2' k.val (t3_lt v1 k))
instance (v1 : BitVec 32) (k : Fin (k0_t3_loop v1).trips) : ClosedOff (k0_off156 v1 k) := ⟨![(par k.val).val, 6, 0, 0], off156_eq v1 k⟩
@[sl_canon] theorem canon_wait_cell6 (v1 : BitVec 32) (k : Fin (k0_t3_loop v1).trips) (h) : (cc0_scratch11.slice (Rect.unit (s := S2x8) (k0_off149 v1 k) S1x1.size h)).squeeze S_ squeezes_S1x1_S_ = wcell (par k.val) 6 :=
  congrArg (fun m : DmaSems sig S1x1 => m.squeeze S_ squeezes_S1x1_S_) (SemArray.slice_unit_congr _ (off149_eq v1 k) _ _)
@[sl_canon] theorem canon_start_cell6 (v1 : BitVec 32) (k : Fin (k0_t3_loop v1).trips) (h) : (cc0_scratch11.slice (Rect.unit (s := S2x8) (k0_off155 v1 k) S1x1.size h)).squeeze S_ squeezes_S1x1_S_ = wcell (par k.val) 6 :=
  congrArg (fun m : DmaSems sig S1x1 => m.squeeze S_ squeezes_S1x1_S_) (SemArray.slice_unit_congr _ (off155_eq v1 k) _ _)
@[sl_canon] theorem canon_wait_slot6 (v1 : BitVec 32) (k : Fin (k0_t3_loop v1).trips) (h hs) : (sW.slice (Rect.unit (s := S2x8x512x3072) (k0_off150 v1 k) S1x1x512x3072.size h) hs).squeeze S512x3072 squeezes_S1x1x512x3072_S512x3072 = wslot (par k.val) 6 :=
  congrArg (fun m : Memref sig .tc .vmem S1x1x512x3072 .fp8e4m3 => m.squeeze S512x3072 squeezes_S1x1x512x3072_S512x3072) (Memref.slice_unit_congr _ (off150_eq v1 k) _ _ _ fun _ => rfl)
@[sl_canon] theorem canon_start_slot6 (v1 : BitVec 32) (k : Fin (k0_t3_loop v1).trips) (h hs) : (sW.slice (Rect.unit (s := S2x8x512x3072) (k0_off156 v1 k) S1x1x512x3072.size h) hs).squeeze S512x3072 squeezes_S1x1x512x3072_S512x3072 = wslot (par k.val) 6 :=
  congrArg (fun m : Memref sig .tc .vmem S1x1x512x3072 .fp8e4m3 => m.squeeze S512x3072 squeezes_S1x1x512x3072_S512x3072) (Memref.slice_unit_congr _ (off156_eq v1 k) _ _ _ fun _ => rfl)

theorem off159_eq (v1 : BitVec 32) (k : Fin (k0_t3_loop v1).trips) : k0_off159 v1 k = ![(par k.val).val, 7] := by
  show (![(_ : Nat), _] : Fin 2 → Nat) = _; exact congrArg (fun n => (![n, 7] : Fin 2 → Nat)) (toNat_rem2 k.val (t3_lt v1 k))
instance (v1 : BitVec 32) (k : Fin (k0_t3_loop v1).trips) : ClosedOff (k0_off159 v1 k) := ⟨![(par k.val).val, 7], off159_eq v1 k⟩
theorem off160_eq (v1 : BitVec 32) (k : Fin (k0_t3_loop v1).trips) : k0_off160 v1 k = ![(par k.val).val, 7, 0, 0] := by
  show (![(_ : Nat), _, _, _] : Fin 4 → Nat) = _; exact congrArg (fun n => (![n, 7, 0, 0] : Fin 4 → Nat)) (toNat_rem2 k.val (t3_lt v1 k))
instance (v1 : BitVec 32) (k : Fin (k0_t3_loop v1).trips) : ClosedOff (k0_off160 v1 k) := ⟨![(par k.val).val, 7, 0, 0], off160_eq v1 k⟩
theorem off162_eq (v1 : BitVec 32) (k : Fin (k0_t3_loop v1).trips) : k0_off162 v1 k = ![(par k.val).val, 7, 0, 0] := by
  show (![(_ : Nat), _, _, _] : Fin 4 → Nat) = _; exact congrArg (fun n => (![n, 7, 0, 0] : Fin 4 → Nat)) (toNat_rem2 k.val (t3_lt v1 k))
instance (v1 : BitVec 32) (k : Fin (k0_t3_loop v1).trips) : ClosedOff (k0_off162 v1 k) := ⟨![(par k.val).val, 7, 0, 0], off162_eq v1 k⟩
theorem off163_eq (v1 : BitVec 32) (k : Fin (k0_t3_loop v1).trips) : k0_off163 v1 k = ![(par k.val).val, 7, 256, 0] := by
  show (![(_ : Nat), _, _, _] : Fin 4 → Nat) = _; exact congrArg (fun n => (![n, 7, 256, 0] : Fin 4 → Nat)) (toNat_rem2 k.val (t3_lt v1 k))
instance (v1 : BitVec 32) (k : Fin (k0_t3_loop v1).trips) : ClosedOff (k0_off163 v1 k) := ⟨![(par k.val).val, 7, 256, 0], off163_eq v1 k⟩
theorem off165_eq (v1 : BitVec 32) (k : Fin (k0_t3_loop v1).trips) : k0_off165 v1 k = ![(par k.val).val, 7] := by
  show (![(_ : Nat), _] : Fin 2 → Nat) = _; exact congrArg (fun n => (![n, 7] : Fin 2 → Nat)) (toNat_rem2' k.val (t3_lt v1 k))
instance (v1 : BitVec 32) (k : Fin (k0_t3_loop v1).trips) : ClosedOff (k0_off165 v1 k) := ⟨![(par k.val).val, 7], off165_eq v1 k⟩
theorem off166_eq (v1 : BitVec 32) (k : Fin (k0_t3_loop v1).trips) : k0_off166 v1 k = ![(par k.val).val, 7, 0, 0] := by
  show (![(_ : Nat), _, _, _] : Fin 4 → Nat) = _; exact congrArg (fun n => (![n, 7, 0, 0] : Fin 4 → Nat)) (toNat_rem2' k.val (t3_lt v1 k))
instance (v1 : BitVec 32) (k : Fin (k0_t3_loop v1).trips) : ClosedOff (k0_off166 v1 k) := ⟨![(par k.val).val, 7, 0, 0], off166_eq v1 k⟩
@[sl_canon] theorem canon_wait_cell7 (v1 : BitVec 32) (k : Fin (k0_t3_loop v1).trips) (h) : (cc0_scratch11.slice (Rect.unit (s := S2x8) (k0_off159 v1 k) S1x1.size h)).squeeze S_ squeezes_S1x1_S_ = wcell (par k.val) 7 :=
  congrArg (fun m : DmaSems sig S1x1 => m.squeeze S_ squeezes_S1x1_S_) (SemArray.slice_unit_congr _ (off159_eq v1 k) _ _)
@[sl_canon] theorem canon_start_cell7 (v1 : BitVec 32) (k : Fin (k0_t3_loop v1).trips) (h) : (cc0_scratch11.slice (Rect.unit (s := S2x8) (k0_off165 v1 k) S1x1.size h)).squeeze S_ squeezes_S1x1_S_ = wcell (par k.val) 7 :=
  congrArg (fun m : DmaSems sig S1x1 => m.squeeze S_ squeezes_S1x1_S_) (SemArray.slice_unit_congr _ (off165_eq v1 k) _ _)
@[sl_canon] theorem canon_wait_slot7 (v1 : BitVec 32) (k : Fin (k0_t3_loop v1).trips) (h hs) : (sW.slice (Rect.unit (s := S2x8x512x3072) (k0_off160 v1 k) S1x1x512x3072.size h) hs).squeeze S512x3072 squeezes_S1x1x512x3072_S512x3072 = wslot (par k.val) 7 :=
  congrArg (fun m : Memref sig .tc .vmem S1x1x512x3072 .fp8e4m3 => m.squeeze S512x3072 squeezes_S1x1x512x3072_S512x3072) (Memref.slice_unit_congr _ (off160_eq v1 k) _ _ _ fun _ => rfl)
@[sl_canon] theorem canon_start_slot7 (v1 : BitVec 32) (k : Fin (k0_t3_loop v1).trips) (h hs) : (sW.slice (Rect.unit (s := S2x8x512x3072) (k0_off166 v1 k) S1x1x512x3072.size h) hs).squeeze S512x3072 squeezes_S1x1x512x3072_S512x3072 = wslot (par k.val) 7 :=
  congrArg (fun m : Memref sig .tc .vmem S1x1x512x3072 .fp8e4m3 => m.squeeze S512x3072 squeezes_S1x1x512x3072_S512x3072) (Memref.slice_unit_congr _ (off166_eq v1 k) _ _ _ fun _ => rfl)

@[sl_canon] theorem canon_wait_src0 (v : BitVec 32) (h hs) : (mW.slice (Rect.unit (s := S16x4096x3072) (k0_off91 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off91 v = ![(ex v).val, 512 * ((0 : Fin 8).val), 0] by
    have h0 : v.toNat < 16 := by have := h 0; change v.toNat + 1 ≤ 16 at this; omega
    rw [ex_val v h0]; rfl) _ _ _ fun _ => rfl)
@[sl_canon] theorem canon_start_src0 (v : BitVec 32) (h hs) : (mW.slice (Rect.unit (s := S16x4096x3072) (k0_off97 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off97 v = ![(ex v).val, 512 * ((0 : Fin 8).val), 0] by
    have h0 : v.toNat < 16 := by have := h 0; change v.toNat + 1 ≤ 16 at this; omega
    rw [ex_val v h0]; rfl) _ _ _ fun _ => rfl)
@[sl_canon] theorem canon_wait_src1 (v : BitVec 32) (h hs) : (mW.slice (Rect.unit (s := S16x4096x3072) (k0_off101 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off101 v = ![(ex v).val, 512 * ((1 : Fin 8).val), 0] by
    have h0 : v.toNat < 16 := by have := h 0; change v.toNat + 1 ≤ 16 at this; omega
    rw [ex_val v h0]; rfl) _ _ _ fun _ => rfl)
@[sl_canon] theorem canon_start_src1 (v : BitVec 32) (h hs) : (mW.slice (Rect.unit (s := S16x4096x3072) (k0_off107 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off107 v = ![(ex v).val, 512 * ((1 : Fin 8).val), 0] by
    have h0 : v.toNat < 16 := by have := h 0; change v.toNat + 1 ≤ 16 at this; omega
    rw [ex_val v h0]; rfl) _ _ _ fun _ => rfl)
@[sl_canon] theorem canon_wait_src2 (v : BitVec 32) (h hs) : (mW.slice (Rect.unit (s := S16x4096x3072) (k0_off111 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off111 v = ![(ex v).val, 512 * ((2 : Fin 8).val), 0] by
    have h0 : v.toNat < 16 := by have := h 0; change v.toNat + 1 ≤ 16 at this; omega
    rw [ex_val v h0]; rfl) _ _ _ fun _ => rfl)
@[sl_canon] theorem canon_start_src2 (v : BitVec 32) (h hs) : (mW.slice (Rect.unit (s := S16x4096x3072) (k0_off117 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off117 v = ![(ex v).val, 512 * ((2 : Fin 8).val), 0] by
    have h0 : v.toNat < 16 := by have := h 0; change v.toNat + 1 ≤ 16 at this; omega
    rw [ex_val v h0]; rfl) _ _ _ fun _ => rfl)
@[sl_canon] theorem canon_wait_src3 (v : BitVec 32) (h hs) : (mW.slice (Rect.unit (s := S16x4096x3072) (k0_off121 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off121 v = ![(ex v).val, 512 * ((3 : Fin 8).val), 0] by
    have h0 : v.toNat < 16 := by have := h 0; change v.toNat + 1 ≤ 16 at this; omega
    rw [ex_val v h0]; rfl) _ _ _ fun _ => rfl)
@[sl_canon] theorem canon_start_src3 (v : BitVec 32) (h hs) : (mW.slice (Rect.unit (s := S16x4096x3072) (k0_off127 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off127 v = ![(ex v).val, 512 * ((3 : Fin 8).val), 0] by
    have h0 : v.toNat < 16 := by have := h 0; change v.toNat + 1 ≤ 16 at this; omega
    rw [ex_val v h0]; rfl) _ _ _ fun _ => rfl)
@[sl_canon] theorem canon_wait_src4 (v : BitVec 32) (h hs) : (mW.slice (Rect.unit (s := S16x4096x3072) (k0_off131 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off131 v = ![(ex v).val, 512 * ((4 : Fin 8).val), 0] by
    have h0 : v.toNat < 16 := by have := h 0; change v.toNat + 1 ≤ 16 at this; omega
    rw [ex_val v h0]; rfl) _ _ _ fun _ => rfl)
@[sl_canon] theorem canon_start_src4 (v : BitVec 32) (h hs) : (mW.slice (Rect.unit (s := S16x4096x3072) (k0_off137 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off137 v = ![(ex v).val, 512 * ((4 : Fin 8).val), 0] by
    have h0 : v.toNat < 16 := by have := h 0; change v.toNat + 1 ≤ 16 at this; omega
    rw [ex_val v h0]; rfl) _ _ _ fun _ => rfl)
@[sl_canon] theorem canon_wait_src5 (v : BitVec 32) (h hs) : (mW.slice (Rect.unit (s := S16x4096x3072) (k0_off141 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off141 v = ![(ex v).val, 512 * ((5 : Fin 8).val), 0] by
    have h0 : v.toNat < 16 := by have := h 0; change v.toNat + 1 ≤ 16 at this; omega
    rw [ex_val v h0]; rfl) _ _ _ fun _ => rfl)
@[sl_canon] theorem canon_start_src5 (v : BitVec 32) (h hs) : (mW.slice (Rect.unit (s := S16x4096x3072) (k0_off147 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off147 v = ![(ex v).val, 512 * ((5 : Fin 8).val), 0] by
    have h0 : v.toNat < 16 := by have := h 0; change v.toNat + 1 ≤ 16 at this; omega
    rw [ex_val v h0]; rfl) _ _ _ fun _ => rfl)
@[sl_canon] theorem canon_wait_src6 (v : BitVec 32) (h hs) : (mW.slice (Rect.unit (s := S16x4096x3072) (k0_off151 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off151 v = ![(ex v).val, 512 * ((6 : Fin 8).val), 0] by
    have h0 : v.toNat < 16 := by have := h 0; change v.toNat + 1 ≤ 16 at this; omega
    rw [ex_val v h0]; rfl) _ _ _ fun _ => rfl)
@[sl_canon] theorem canon_start_src6 (v : BitVec 32) (h hs) : (mW.slice (Rect.unit (s := S16x4096x3072) (k0_off157 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off157 v = ![(ex v).val, 512 * ((6 : Fin 8).val), 0] by
    have h0 : v.toNat < 16 := by have := h 0; change v.toNat + 1 ≤ 16 at this; omega
    rw [ex_val v h0]; rfl) _ _ _ fun _ => rfl)
@[sl_canon] theorem canon_wait_src7 (v : BitVec 32) (h hs) : (mW.slice (Rect.unit (s := S16x4096x3072) (k0_off161 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off161 v = ![(ex v).val, 512 * ((7 : Fin 8).val), 0] by
    have h0 : v.toNat < 16 := by have := h 0; change v.toNat + 1 ≤ 16 at this; omega
    rw [ex_val v h0]; rfl) _ _ _ fun _ => rfl)
@[sl_canon] theorem canon_start_src7 (v : BitVec 32) (h hs) : (mW.slice (Rect.unit (s := S16x4096x3072) (k0_off167 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off167 v = ![(ex v).val, 512 * ((7 : Fin 8).val), 0] by
    have h0 : v.toNat < 16 := by have := h 0; change v.toNat + 1 ≤ 16 at this; omega
    rw [ex_val v h0]; rfl) _ _ _ fun _ => rfl)
@[sl_canon] theorem canon_obrow (v : BitVec 32) (h hs) : (sOb.slice (Rect.unit (s := S16x8x3072) (k0_off170 v) S1x8x3072.size h) hs).squeeze S8x3072 squeezes_S1x8x3072_S8x3072 = obrow (ex v) :=
  congrArg (fun m : Memref sig .tc .vmem S1x8x3072 .bf16 => m.squeeze S8x3072 squeezes_S1x8x3072_S8x3072) (Memref.slice_unit_congr _ (show k0_off170 v = ![(ex v).val, 0, 0] by
    have h0 : v.toNat < 16 := by have := h 0; change v.toNat + 1 ≤ 16 at this; omega
    rw [ex_val v h0]; rfl) _ _ _ fun _ => rfl)
@[sl_canon] theorem canon_outrow (v : BitVec 32) (h hs) : (mOut.slice (Rect.unit (s := S16x8x3072) (k0_off170 v) S1x8x3072.size h) hs).squeeze S8x3072 squeezes_S1x8x3072_S8x3072 = outrow (ex v) :=
  congrArg (fun m : Memref sig .tc .hbm S1x8x3072 .bf16 => m.squeeze S8x3072 squeezes_S1x8x3072_S8x3072) (Memref.slice_unit_congr _ (show k0_off170 v = ![(ex v).val, 0, 0] by
    have h0 : v.toNat < 16 := by have := h 0; change v.toNat + 1 ≤ 16 at this; omega
    rw [ex_val v h0]; rfl) _ _ _ fun _ => rfl)
instance (v : BitVec 32) : ClosedOff (k0_off169 v) := ⟨![v.toNat, 0, 0], rfl⟩
instance (v : BitVec 32) : ClosedOff (k0_off170 v) := ⟨![v.toNat, 0, 0], rfl⟩

end Cert.Kernel.Gen

end
-- ==== Proof.K.Chk.lean ====
module

public import proofs.«01_k».proof.Proof.K.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
theorem chk19_all : ∀ v : Fin 16, k0_chk19 (BitVec.ofNat 32 v.val) := by decide +kernel
theorem chk19_of (v : BitVec 32) (h : v.toNat < 16) : k0_chk19 v := by have := chk19_all ⟨v.toNat, h⟩; simpa using this
theorem chk20_all : ∀ v : Fin 16, k0_chk20 (BitVec.ofNat 32 v.val) := by decide +kernel
theorem chk20_of (v : BitVec 32) (h : v.toNat < 16) : k0_chk20 v := by have := chk20_all ⟨v.toNat, h⟩; simpa using this
theorem chk22_all : ∀ v : Fin 16, k0_chk22 (BitVec.ofNat 32 v.val) := by decide +kernel
theorem chk22_of (v : BitVec 32) (h : v.toNat < 16) : k0_chk22 v := by have := chk22_all ⟨v.toNat, h⟩; simpa using this
theorem chk24_all : ∀ v : Fin 16, k0_chk24 (BitVec.ofNat 32 v.val) := by decide +kernel
theorem chk24_of (v : BitVec 32) (h : v.toNat < 16) : k0_chk24 v := by have := chk24_all ⟨v.toNat, h⟩; simpa using this
theorem chk26_all : ∀ v : Fin 16, k0_chk26 (BitVec.ofNat 32 v.val) := by decide +kernel
theorem chk26_of (v : BitVec 32) (h : v.toNat < 16) : k0_chk26 v := by have := chk26_all ⟨v.toNat, h⟩; simpa using this
theorem chk28_all : ∀ v : Fin 16, k0_chk28 (BitVec.ofNat 32 v.val) := by decide +kernel
theorem chk28_of (v : BitVec 32) (h : v.toNat < 16) : k0_chk28 v := by have := chk28_all ⟨v.toNat, h⟩; simpa using this
theorem chk30_all : ∀ v : Fin 16, k0_chk30 (BitVec.ofNat 32 v.val) := by decide +kernel
theorem chk30_of (v : BitVec 32) (h : v.toNat < 16) : k0_chk30 v := by have := chk30_all ⟨v.toNat, h⟩; simpa using this
theorem chk32_all : ∀ v : Fin 16, k0_chk32 (BitVec.ofNat 32 v.val) := by decide +kernel
theorem chk32_of (v : BitVec 32) (h : v.toNat < 16) : k0_chk32 v := by have := chk32_all ⟨v.toNat, h⟩; simpa using this
theorem chk34_all : ∀ v : Fin 16, k0_chk34 (BitVec.ofNat 32 v.val) := by decide +kernel
theorem chk34_of (v : BitVec 32) (h : v.toNat < 16) : k0_chk34 v := by have := chk34_all ⟨v.toNat, h⟩; simpa using this
theorem chk21_all : ∀ v : Fin 16, (∀ a, (k0_off97 (BitVec.ofNat 32 v.val)) a + S1x512x3072.size a ≤ S16x4096x3072.size a) ∧ (∀ (hinb : ∀ a, (k0_off97 (BitVec.ofNat 32 v.val)) a + S1x512x3072.size a ≤ S16x4096x3072.size a), (Rect.unit (s := S16x4096x3072) (k0_off97 (BitVec.ofNat 32 v.val)) S1x512x3072.size hinb).WholeWords (EltTy.packing .fp8e4m3)) := by decide +kernel
theorem chk21_of (v1 : BitVec 32) (k : Fin (k0_t3_loop v1).trips) (v : BitVec 32) (h : k0_cond4 v1 k = 1#1 → v.toNat < 16) : k0_chk21 v1 k v := by
  have : k0_cond4 v1 k = 1#1 → (∀ a, (k0_off97 v) a + S1x512x3072.size a ≤ S16x4096x3072.size a) ∧ (∀ (hinb : ∀ a, (k0_off97 v) a + S1x512x3072.size a ≤ S16x4096x3072.size a), (Rect.unit (s := S16x4096x3072) (k0_off97 v) S1x512x3072.size hinb).WholeWords (EltTy.packing .fp8e4m3)) := by
    intro hc
    have := chk21_all ⟨v.toNat, h hc⟩
    simpa only [BitVec.ofNat_toNat, BitVec.setWidth_eq] using this
  exact ⟨fun hc => (this hc).1, fun hc => (this hc).2⟩
theorem chk23_all : ∀ v : Fin 16, (∀ a, (k0_off107 (BitVec.ofNat 32 v.val)) a + S1x512x3072.size a ≤ S16x4096x3072.size a) ∧ (∀ (hinb : ∀ a, (k0_off107 (BitVec.ofNat 32 v.val)) a + S1x512x3072.size a ≤ S16x4096x3072.size a), (Rect.unit (s := S16x4096x3072) (k0_off107 (BitVec.ofNat 32 v.val)) S1x512x3072.size hinb).WholeWords (EltTy.packing .fp8e4m3)) := by decide +kernel
theorem chk23_of (v1 : BitVec 32) (k : Fin (k0_t3_loop v1).trips) (v : BitVec 32) (h : k0_cond5 v1 k = 1#1 → v.toNat < 16) : k0_chk23 v1 k v := by
  have : k0_cond5 v1 k = 1#1 → (∀ a, (k0_off107 v) a + S1x512x3072.size a ≤ S16x4096x3072.size a) ∧ (∀ (hinb : ∀ a, (k0_off107 v) a + S1x512x3072.size a ≤ S16x4096x3072.size a), (Rect.unit (s := S16x4096x3072) (k0_off107 v) S1x512x3072.size hinb).WholeWords (EltTy.packing .fp8e4m3)) := by
    intro hc
    have := chk23_all ⟨v.toNat, h hc⟩
    simpa only [BitVec.ofNat_toNat, BitVec.setWidth_eq] using this
  exact ⟨fun hc => (this hc).1, fun hc => (this hc).2⟩
theorem chk25_all : ∀ v : Fin 16, (∀ a, (k0_off117 (BitVec.ofNat 32 v.val)) a + S1x512x3072.size a ≤ S16x4096x3072.size a) ∧ (∀ (hinb : ∀ a, (k0_off117 (BitVec.ofNat 32 v.val)) a + S1x512x3072.size a ≤ S16x4096x3072.size a), (Rect.unit (s := S16x4096x3072) (k0_off117 (BitVec.ofNat 32 v.val)) S1x512x3072.size hinb).WholeWords (EltTy.packing .fp8e4m3)) := by decide +kernel
theorem chk25_of (v1 : BitVec 32) (k : Fin (k0_t3_loop v1).trips) (v : BitVec 32) (h : k0_cond6 v1 k = 1#1 → v.toNat < 16) : k0_chk25 v1 k v := by
  have : k0_cond6 v1 k = 1#1 → (∀ a, (k0_off117 v) a + S1x512x3072.size a ≤ S16x4096x3072.size a) ∧ (∀ (hinb : ∀ a, (k0_off117 v) a + S1x512x3072.size a ≤ S16x4096x3072.size a), (Rect.unit (s := S16x4096x3072) (k0_off117 v) S1x512x3072.size hinb).WholeWords (EltTy.packing .fp8e4m3)) := by
    intro hc
    have := chk25_all ⟨v.toNat, h hc⟩
    simpa only [BitVec.ofNat_toNat, BitVec.setWidth_eq] using this
  exact ⟨fun hc => (this hc).1, fun hc => (this hc).2⟩
theorem chk27_all : ∀ v : Fin 16, (∀ a, (k0_off127 (BitVec.ofNat 32 v.val)) a + S1x512x3072.size a ≤ S16x4096x3072.size a) ∧ (∀ (hinb : ∀ a, (k0_off127 (BitVec.ofNat 32 v.val)) a + S1x512x3072.size a ≤ S16x4096x3072.size a), (Rect.unit (s := S16x4096x3072) (k0_off127 (BitVec.ofNat 32 v.val)) S1x512x3072.size hinb).WholeWords (EltTy.packing .fp8e4m3)) := by decide +kernel
theorem chk27_of (v1 : BitVec 32) (k : Fin (k0_t3_loop v1).trips) (v : BitVec 32) (h : k0_cond7 v1 k = 1#1 → v.toNat < 16) : k0_chk27 v1 k v := by
  have : k0_cond7 v1 k = 1#1 → (∀ a, (k0_off127 v) a + S1x512x3072.size a ≤ S16x4096x3072.size a) ∧ (∀ (hinb : ∀ a, (k0_off127 v) a + S1x512x3072.size a ≤ S16x4096x3072.size a), (Rect.unit (s := S16x4096x3072) (k0_off127 v) S1x512x3072.size hinb).WholeWords (EltTy.packing .fp8e4m3)) := by
    intro hc
    have := chk27_all ⟨v.toNat, h hc⟩
    simpa only [BitVec.ofNat_toNat, BitVec.setWidth_eq] using this
  exact ⟨fun hc => (this hc).1, fun hc => (this hc).2⟩
theorem chk29_all : ∀ v : Fin 16, (∀ a, (k0_off137 (BitVec.ofNat 32 v.val)) a + S1x512x3072.size a ≤ S16x4096x3072.size a) ∧ (∀ (hinb : ∀ a, (k0_off137 (BitVec.ofNat 32 v.val)) a + S1x512x3072.size a ≤ S16x4096x3072.size a), (Rect.unit (s := S16x4096x3072) (k0_off137 (BitVec.ofNat 32 v.val)) S1x512x3072.size hinb).WholeWords (EltTy.packing .fp8e4m3)) := by decide +kernel
theorem chk29_of (v1 : BitVec 32) (k : Fin (k0_t3_loop v1).trips) (v : BitVec 32) (h : k0_cond8 v1 k = 1#1 → v.toNat < 16) : k0_chk29 v1 k v := by
  have : k0_cond8 v1 k = 1#1 → (∀ a, (k0_off137 v) a + S1x512x3072.size a ≤ S16x4096x3072.size a) ∧ (∀ (hinb : ∀ a, (k0_off137 v) a + S1x512x3072.size a ≤ S16x4096x3072.size a), (Rect.unit (s := S16x4096x3072) (k0_off137 v) S1x512x3072.size hinb).WholeWords (EltTy.packing .fp8e4m3)) := by
    intro hc
    have := chk29_all ⟨v.toNat, h hc⟩
    simpa only [BitVec.ofNat_toNat, BitVec.setWidth_eq] using this
  exact ⟨fun hc => (this hc).1, fun hc => (this hc).2⟩
theorem chk31_all : ∀ v : Fin 16, (∀ a, (k0_off147 (BitVec.ofNat 32 v.val)) a + S1x512x3072.size a ≤ S16x4096x3072.size a) ∧ (∀ (hinb : ∀ a, (k0_off147 (BitVec.ofNat 32 v.val)) a + S1x512x3072.size a ≤ S16x4096x3072.size a), (Rect.unit (s := S16x4096x3072) (k0_off147 (BitVec.ofNat 32 v.val)) S1x512x3072.size hinb).WholeWords (EltTy.packing .fp8e4m3)) := by decide +kernel
theorem chk31_of (v1 : BitVec 32) (k : Fin (k0_t3_loop v1).trips) (v : BitVec 32) (h : k0_cond9 v1 k = 1#1 → v.toNat < 16) : k0_chk31 v1 k v := by
  have : k0_cond9 v1 k = 1#1 → (∀ a, (k0_off147 v) a + S1x512x3072.size a ≤ S16x4096x3072.size a) ∧ (∀ (hinb : ∀ a, (k0_off147 v) a + S1x512x3072.size a ≤ S16x4096x3072.size a), (Rect.unit (s := S16x4096x3072) (k0_off147 v) S1x512x3072.size hinb).WholeWords (EltTy.packing .fp8e4m3)) := by
    intro hc
    have := chk31_all ⟨v.toNat, h hc⟩
    simpa only [BitVec.ofNat_toNat, BitVec.setWidth_eq] using this
  exact ⟨fun hc => (this hc).1, fun hc => (this hc).2⟩
theorem chk33_all : ∀ v : Fin 16, (∀ a, (k0_off157 (BitVec.ofNat 32 v.val)) a + S1x512x3072.size a ≤ S16x4096x3072.size a) ∧ (∀ (hinb : ∀ a, (k0_off157 (BitVec.ofNat 32 v.val)) a + S1x512x3072.size a ≤ S16x4096x3072.size a), (Rect.unit (s := S16x4096x3072) (k0_off157 (BitVec.ofNat 32 v.val)) S1x512x3072.size hinb).WholeWords (EltTy.packing .fp8e4m3)) := by decide +kernel
theorem chk33_of (v1 : BitVec 32) (k : Fin (k0_t3_loop v1).trips) (v : BitVec 32) (h : k0_cond10 v1 k = 1#1 → v.toNat < 16) : k0_chk33 v1 k v := by
  have : k0_cond10 v1 k = 1#1 → (∀ a, (k0_off157 v) a + S1x512x3072.size a ≤ S16x4096x3072.size a) ∧ (∀ (hinb : ∀ a, (k0_off157 v) a + S1x512x3072.size a ≤ S16x4096x3072.size a), (Rect.unit (s := S16x4096x3072) (k0_off157 v) S1x512x3072.size hinb).WholeWords (EltTy.packing .fp8e4m3)) := by
    intro hc
    have := chk33_all ⟨v.toNat, h hc⟩
    simpa only [BitVec.ofNat_toNat, BitVec.setWidth_eq] using this
  exact ⟨fun hc => (this hc).1, fun hc => (this hc).2⟩
theorem chk35_all : ∀ v : Fin 16, (∀ a, (k0_off167 (BitVec.ofNat 32 v.val)) a + S1x512x3072.size a ≤ S16x4096x3072.size a) ∧ (∀ (hinb : ∀ a, (k0_off167 (BitVec.ofNat 32 v.val)) a + S1x512x3072.size a ≤ S16x4096x3072.size a), (Rect.unit (s := S16x4096x3072) (k0_off167 (BitVec.ofNat 32 v.val)) S1x512x3072.size hinb).WholeWords (EltTy.packing .fp8e4m3)) := by decide +kernel
theorem chk35_of (v1 : BitVec 32) (k : Fin (k0_t3_loop v1).trips) (v : BitVec 32) (h : k0_cond11 v1 k = 1#1 → v.toNat < 16) : k0_chk35 v1 k v := by
  have : k0_cond11 v1 k = 1#1 → (∀ a, (k0_off167 v) a + S1x512x3072.size a ≤ S16x4096x3072.size a) ∧ (∀ (hinb : ∀ a, (k0_off167 v) a + S1x512x3072.size a ≤ S16x4096x3072.size a), (Rect.unit (s := S16x4096x3072) (k0_off167 v) S1x512x3072.size hinb).WholeWords (EltTy.packing .fp8e4m3)) := by
    intro hc
    have := chk35_all ⟨v.toNat, h hc⟩
    simpa only [BitVec.ofNat_toNat, BitVec.setWidth_eq] using this
  exact ⟨fun hc => (this hc).1, fun hc => (this hc).2⟩
theorem chk2_all : ∀ v : Fin 16, (∀ a, (k0_off5 (BitVec.ofNat 32 v.val)) a + S1x512x3072.size a ≤ S16x4096x3072.size a) ∧ (∀ (hinb : ∀ a, (k0_off5 (BitVec.ofNat 32 v.val)) a + S1x512x3072.size a ≤ S16x4096x3072.size a), (Rect.unit (s := S16x4096x3072) (k0_off5 (BitVec.ofNat 32 v.val)) S1x512x3072.size hinb).WholeWords (EltTy.packing .fp8e4m3)) := by decide +kernel
theorem chk2_of (v1 : BitVec 32) (v : BitVec 32) (h : k0_cond1 v1 = 1#1 → v.toNat < 16) : k0_chk2 v1 v := by
  have : k0_cond1 v1 = 1#1 → (∀ a, (k0_off5 v) a + S1x512x3072.size a ≤ S16x4096x3072.size a) ∧ (∀ (hinb : ∀ a, (k0_off5 v) a + S1x512x3072.size a ≤ S16x4096x3072.size a), (Rect.unit (s := S16x4096x3072) (k0_off5 v) S1x512x3072.size hinb).WholeWords (EltTy.packing .fp8e4m3)) := by
    intro hc
    have := chk2_all ⟨v.toNat, h hc⟩
    simpa only [BitVec.ofNat_toNat, BitVec.setWidth_eq] using this
  exact ⟨fun hc => (this hc).1, fun hc => (this hc).2⟩
theorem chk3_all : ∀ v : Fin 16, (∀ a, (k0_off8 (BitVec.ofNat 32 v.val)) a + S1x512x3072.size a ≤ S16x4096x3072.size a) ∧ (∀ (hinb : ∀ a, (k0_off8 (BitVec.ofNat 32 v.val)) a + S1x512x3072.size a ≤ S16x4096x3072.size a), (Rect.unit (s := S16x4096x3072) (k0_off8 (BitVec.ofNat 32 v.val)) S1x512x3072.size hinb).WholeWords (EltTy.packing .fp8e4m3)) := by decide +kernel
theorem chk3_of (v1 : BitVec 32) (v : BitVec 32) (h : k0_cond1 v1 = 1#1 → v.toNat < 16) : k0_chk3 v1 v := by
  have : k0_cond1 v1 = 1#1 → (∀ a, (k0_off8 v) a + S1x512x3072.size a ≤ S16x4096x3072.size a) ∧ (∀ (hinb : ∀ a, (k0_off8 v) a + S1x512x3072.size a ≤ S16x4096x3072.size a), (Rect.unit (s := S16x4096x3072) (k0_off8 v) S1x512x3072.size hinb).WholeWords (EltTy.packing .fp8e4m3)) := by
    intro hc
    have := chk3_all ⟨v.toNat, h hc⟩
    simpa only [BitVec.ofNat_toNat, BitVec.setWidth_eq] using this
  exact ⟨fun hc => (this hc).1, fun hc => (this hc).2⟩
theorem chk4_all : ∀ v : Fin 16, (∀ a, (k0_off11 (BitVec.ofNat 32 v.val)) a + S1x512x3072.size a ≤ S16x4096x3072.size a) ∧ (∀ (hinb : ∀ a, (k0_off11 (BitVec.ofNat 32 v.val)) a + S1x512x3072.size a ≤ S16x4096x3072.size a), (Rect.unit (s := S16x4096x3072) (k0_off11 (BitVec.ofNat 32 v.val)) S1x512x3072.size hinb).WholeWords (EltTy.packing .fp8e4m3)) := by decide +kernel
theorem chk4_of (v1 : BitVec 32) (v : BitVec 32) (h : k0_cond1 v1 = 1#1 → v.toNat < 16) : k0_chk4 v1 v := by
  have : k0_cond1 v1 = 1#1 → (∀ a, (k0_off11 v) a + S1x512x3072.size a ≤ S16x4096x3072.size a) ∧ (∀ (hinb : ∀ a, (k0_off11 v) a + S1x512x3072.size a ≤ S16x4096x3072.size a), (Rect.unit (s := S16x4096x3072) (k0_off11 v) S1x512x3072.size hinb).WholeWords (EltTy.packing .fp8e4m3)) := by
    intro hc
    have := chk4_all ⟨v.toNat, h hc⟩
    simpa only [BitVec.ofNat_toNat, BitVec.setWidth_eq] using this
  exact ⟨fun hc => (this hc).1, fun hc => (this hc).2⟩
theorem chk5_all : ∀ v : Fin 16, (∀ a, (k0_off14 (BitVec.ofNat 32 v.val)) a + S1x512x3072.size a ≤ S16x4096x3072.size a) ∧ (∀ (hinb : ∀ a, (k0_off14 (BitVec.ofNat 32 v.val)) a + S1x512x3072.size a ≤ S16x4096x3072.size a), (Rect.unit (s := S16x4096x3072) (k0_off14 (BitVec.ofNat 32 v.val)) S1x512x3072.size hinb).WholeWords (EltTy.packing .fp8e4m3)) := by decide +kernel
theorem chk5_of (v1 : BitVec 32) (v : BitVec 32) (h : k0_cond1 v1 = 1#1 → v.toNat < 16) : k0_chk5 v1 v := by
  have : k0_cond1 v1 = 1#1 → (∀ a, (k0_off14 v) a + S1x512x3072.size a ≤ S16x4096x3072.size a) ∧ (∀ (hinb : ∀ a, (k0_off14 v) a + S1x512x3072.size a ≤ S16x4096x3072.size a), (Rect.unit (s := S16x4096x3072) (k0_off14 v) S1x512x3072.size hinb).WholeWords (EltTy.packing .fp8e4m3)) := by
    intro hc
    have := chk5_all ⟨v.toNat, h hc⟩
    simpa only [BitVec.ofNat_toNat, BitVec.setWidth_eq] using this
  exact ⟨fun hc => (this hc).1, fun hc => (this hc).2⟩
theorem chk6_all : ∀ v : Fin 16, (∀ a, (k0_off17 (BitVec.ofNat 32 v.val)) a + S1x512x3072.size a ≤ S16x4096x3072.size a) ∧ (∀ (hinb : ∀ a, (k0_off17 (BitVec.ofNat 32 v.val)) a + S1x512x3072.size a ≤ S16x4096x3072.size a), (Rect.unit (s := S16x4096x3072) (k0_off17 (BitVec.ofNat 32 v.val)) S1x512x3072.size hinb).WholeWords (EltTy.packing .fp8e4m3)) := by decide +kernel
theorem chk6_of (v1 : BitVec 32) (v : BitVec 32) (h : k0_cond1 v1 = 1#1 → v.toNat < 16) : k0_chk6 v1 v := by
  have : k0_cond1 v1 = 1#1 → (∀ a, (k0_off17 v) a + S1x512x3072.size a ≤ S16x4096x3072.size a) ∧ (∀ (hinb : ∀ a, (k0_off17 v) a + S1x512x3072.size a ≤ S16x4096x3072.size a), (Rect.unit (s := S16x4096x3072) (k0_off17 v) S1x512x3072.size hinb).WholeWords (EltTy.packing .fp8e4m3)) := by
    intro hc
    have := chk6_all ⟨v.toNat, h hc⟩
    simpa only [BitVec.ofNat_toNat, BitVec.setWidth_eq] using this
  exact ⟨fun hc => (this hc).1, fun hc => (this hc).2⟩
theorem chk7_all : ∀ v : Fin 16, (∀ a, (k0_off20 (BitVec.ofNat 32 v.val)) a + S1x512x3072.size a ≤ S16x4096x3072.size a) ∧ (∀ (hinb : ∀ a, (k0_off20 (BitVec.ofNat 32 v.val)) a + S1x512x3072.size a ≤ S16x4096x3072.size a), (Rect.unit (s := S16x4096x3072) (k0_off20 (BitVec.ofNat 32 v.val)) S1x512x3072.size hinb).WholeWords (EltTy.packing .fp8e4m3)) := by decide +kernel
theorem chk7_of (v1 : BitVec 32) (v : BitVec 32) (h : k0_cond1 v1 = 1#1 → v.toNat < 16) : k0_chk7 v1 v := by
  have : k0_cond1 v1 = 1#1 → (∀ a, (k0_off20 v) a + S1x512x3072.size a ≤ S16x4096x3072.size a) ∧ (∀ (hinb : ∀ a, (k0_off20 v) a + S1x512x3072.size a ≤ S16x4096x3072.size a), (Rect.unit (s := S16x4096x3072) (k0_off20 v) S1x512x3072.size hinb).WholeWords (EltTy.packing .fp8e4m3)) := by
    intro hc
    have := chk7_all ⟨v.toNat, h hc⟩
    simpa only [BitVec.ofNat_toNat, BitVec.setWidth_eq] using this
  exact ⟨fun hc => (this hc).1, fun hc => (this hc).2⟩
theorem chk8_all : ∀ v : Fin 16, (∀ a, (k0_off23 (BitVec.ofNat 32 v.val)) a + S1x512x3072.size a ≤ S16x4096x3072.size a) ∧ (∀ (hinb : ∀ a, (k0_off23 (BitVec.ofNat 32 v.val)) a + S1x512x3072.size a ≤ S16x4096x3072.size a), (Rect.unit (s := S16x4096x3072) (k0_off23 (BitVec.ofNat 32 v.val)) S1x512x3072.size hinb).WholeWords (EltTy.packing .fp8e4m3)) := by decide +kernel
theorem chk8_of (v1 : BitVec 32) (v : BitVec 32) (h : k0_cond1 v1 = 1#1 → v.toNat < 16) : k0_chk8 v1 v := by
  have : k0_cond1 v1 = 1#1 → (∀ a, (k0_off23 v) a + S1x512x3072.size a ≤ S16x4096x3072.size a) ∧ (∀ (hinb : ∀ a, (k0_off23 v) a + S1x512x3072.size a ≤ S16x4096x3072.size a), (Rect.unit (s := S16x4096x3072) (k0_off23 v) S1x512x3072.size hinb).WholeWords (EltTy.packing .fp8e4m3)) := by
    intro hc
    have := chk8_all ⟨v.toNat, h hc⟩
    simpa only [BitVec.ofNat_toNat, BitVec.setWidth_eq] using this
  exact ⟨fun hc => (this hc).1, fun hc => (this hc).2⟩
theorem chk9_all : ∀ v : Fin 16, (∀ a, (k0_off26 (BitVec.ofNat 32 v.val)) a + S1x512x3072.size a ≤ S16x4096x3072.size a) ∧ (∀ (hinb : ∀ a, (k0_off26 (BitVec.ofNat 32 v.val)) a + S1x512x3072.size a ≤ S16x4096x3072.size a), (Rect.unit (s := S16x4096x3072) (k0_off26 (BitVec.ofNat 32 v.val)) S1x512x3072.size hinb).WholeWords (EltTy.packing .fp8e4m3)) := by decide +kernel
theorem chk9_of (v1 : BitVec 32) (v : BitVec 32) (h : k0_cond1 v1 = 1#1 → v.toNat < 16) : k0_chk9 v1 v := by
  have : k0_cond1 v1 = 1#1 → (∀ a, (k0_off26 v) a + S1x512x3072.size a ≤ S16x4096x3072.size a) ∧ (∀ (hinb : ∀ a, (k0_off26 v) a + S1x512x3072.size a ≤ S16x4096x3072.size a), (Rect.unit (s := S16x4096x3072) (k0_off26 v) S1x512x3072.size hinb).WholeWords (EltTy.packing .fp8e4m3)) := by
    intro hc
    have := chk9_all ⟨v.toNat, h hc⟩
    simpa only [BitVec.ofNat_toNat, BitVec.setWidth_eq] using this
  exact ⟨fun hc => (this hc).1, fun hc => (this hc).2⟩
theorem chk10_all : ∀ v : Fin 16, (∀ a, (k0_off29 (BitVec.ofNat 32 v.val)) a + S1x512x3072.size a ≤ S16x4096x3072.size a) ∧ (∀ (hinb : ∀ a, (k0_off29 (BitVec.ofNat 32 v.val)) a + S1x512x3072.size a ≤ S16x4096x3072.size a), (Rect.unit (s := S16x4096x3072) (k0_off29 (BitVec.ofNat 32 v.val)) S1x512x3072.size hinb).WholeWords (EltTy.packing .fp8e4m3)) := by decide +kernel
theorem chk10_of (v1 : BitVec 32) (v : BitVec 32) (h : k0_cond2 v1 = 1#1 → v.toNat < 16) : k0_chk10 v1 v := by
  have : k0_cond2 v1 = 1#1 → (∀ a, (k0_off29 v) a + S1x512x3072.size a ≤ S16x4096x3072.size a) ∧ (∀ (hinb : ∀ a, (k0_off29 v) a + S1x512x3072.size a ≤ S16x4096x3072.size a), (Rect.unit (s := S16x4096x3072) (k0_off29 v) S1x512x3072.size hinb).WholeWords (EltTy.packing .fp8e4m3)) := by
    intro hc
    have := chk10_all ⟨v.toNat, h hc⟩
    simpa only [BitVec.ofNat_toNat, BitVec.setWidth_eq] using this
  exact ⟨fun hc => (this hc).1, fun hc => (this hc).2⟩
theorem chk11_all : ∀ v : Fin 16, (∀ a, (k0_off32 (BitVec.ofNat 32 v.val)) a + S1x512x3072.size a ≤ S16x4096x3072.size a) ∧ (∀ (hinb : ∀ a, (k0_off32 (BitVec.ofNat 32 v.val)) a + S1x512x3072.size a ≤ S16x4096x3072.size a), (Rect.unit (s := S16x4096x3072) (k0_off32 (BitVec.ofNat 32 v.val)) S1x512x3072.size hinb).WholeWords (EltTy.packing .fp8e4m3)) := by decide +kernel
theorem chk11_of (v1 : BitVec 32) (v : BitVec 32) (h : k0_cond2 v1 = 1#1 → v.toNat < 16) : k0_chk11 v1 v := by
  have : k0_cond2 v1 = 1#1 → (∀ a, (k0_off32 v) a + S1x512x3072.size a ≤ S16x4096x3072.size a) ∧ (∀ (hinb : ∀ a, (k0_off32 v) a + S1x512x3072.size a ≤ S16x4096x3072.size a), (Rect.unit (s := S16x4096x3072) (k0_off32 v) S1x512x3072.size hinb).WholeWords (EltTy.packing .fp8e4m3)) := by
    intro hc
    have := chk11_all ⟨v.toNat, h hc⟩
    simpa only [BitVec.ofNat_toNat, BitVec.setWidth_eq] using this
  exact ⟨fun hc => (this hc).1, fun hc => (this hc).2⟩
theorem chk12_all : ∀ v : Fin 16, (∀ a, (k0_off35 (BitVec.ofNat 32 v.val)) a + S1x512x3072.size a ≤ S16x4096x3072.size a) ∧ (∀ (hinb : ∀ a, (k0_off35 (BitVec.ofNat 32 v.val)) a + S1x512x3072.size a ≤ S16x4096x3072.size a), (Rect.unit (s := S16x4096x3072) (k0_off35 (BitVec.ofNat 32 v.val)) S1x512x3072.size hinb).WholeWords (EltTy.packing .fp8e4m3)) := by decide +kernel
theorem chk12_of (v1 : BitVec 32) (v : BitVec 32) (h : k0_cond2 v1 = 1#1 → v.toNat < 16) : k0_chk12 v1 v := by
  have : k0_cond2 v1 = 1#1 → (∀ a, (k0_off35 v) a + S1x512x3072.size a ≤ S16x4096x3072.size a) ∧ (∀ (hinb : ∀ a, (k0_off35 v) a + S1x512x3072.size a ≤ S16x4096x3072.size a), (Rect.unit (s := S16x4096x3072) (k0_off35 v) S1x512x3072.size hinb).WholeWords (EltTy.packing .fp8e4m3)) := by
    intro hc
    have := chk12_all ⟨v.toNat, h hc⟩
    simpa only [BitVec.ofNat_toNat, BitVec.setWidth_eq] using this
  exact ⟨fun hc => (this hc).1, fun hc => (this hc).2⟩
theorem chk13_all : ∀ v : Fin 16, (∀ a, (k0_off38 (BitVec.ofNat 32 v.val)) a + S1x512x3072.size a ≤ S16x4096x3072.size a) ∧ (∀ (hinb : ∀ a, (k0_off38 (BitVec.ofNat 32 v.val)) a + S1x512x3072.size a ≤ S16x4096x3072.size a), (Rect.unit (s := S16x4096x3072) (k0_off38 (BitVec.ofNat 32 v.val)) S1x512x3072.size hinb).WholeWords (EltTy.packing .fp8e4m3)) := by decide +kernel
theorem chk13_of (v1 : BitVec 32) (v : BitVec 32) (h : k0_cond2 v1 = 1#1 → v.toNat < 16) : k0_chk13 v1 v := by
  have : k0_cond2 v1 = 1#1 → (∀ a, (k0_off38 v) a + S1x512x3072.size a ≤ S16x4096x3072.size a) ∧ (∀ (hinb : ∀ a, (k0_off38 v) a + S1x512x3072.size a ≤ S16x4096x3072.size a), (Rect.unit (s := S16x4096x3072) (k0_off38 v) S1x512x3072.size hinb).WholeWords (EltTy.packing .fp8e4m3)) := by
    intro hc
    have := chk13_all ⟨v.toNat, h hc⟩
    simpa only [BitVec.ofNat_toNat, BitVec.setWidth_eq] using this
  exact ⟨fun hc => (this hc).1, fun hc => (this hc).2⟩
theorem chk14_all : ∀ v : Fin 16, (∀ a, (k0_off41 (BitVec.ofNat 32 v.val)) a + S1x512x3072.size a ≤ S16x4096x3072.size a) ∧ (∀ (hinb : ∀ a, (k0_off41 (BitVec.ofNat 32 v.val)) a + S1x512x3072.size a ≤ S16x4096x3072.size a), (Rect.unit (s := S16x4096x3072) (k0_off41 (BitVec.ofNat 32 v.val)) S1x512x3072.size hinb).WholeWords (EltTy.packing .fp8e4m3)) := by decide +kernel
theorem chk14_of (v1 : BitVec 32) (v : BitVec 32) (h : k0_cond2 v1 = 1#1 → v.toNat < 16) : k0_chk14 v1 v := by
  have : k0_cond2 v1 = 1#1 → (∀ a, (k0_off41 v) a + S1x512x3072.size a ≤ S16x4096x3072.size a) ∧ (∀ (hinb : ∀ a, (k0_off41 v) a + S1x512x3072.size a ≤ S16x4096x3072.size a), (Rect.unit (s := S16x4096x3072) (k0_off41 v) S1x512x3072.size hinb).WholeWords (EltTy.packing .fp8e4m3)) := by
    intro hc
    have := chk14_all ⟨v.toNat, h hc⟩
    simpa only [BitVec.ofNat_toNat, BitVec.setWidth_eq] using this
  exact ⟨fun hc => (this hc).1, fun hc => (this hc).2⟩
theorem chk15_all : ∀ v : Fin 16, (∀ a, (k0_off44 (BitVec.ofNat 32 v.val)) a + S1x512x3072.size a ≤ S16x4096x3072.size a) ∧ (∀ (hinb : ∀ a, (k0_off44 (BitVec.ofNat 32 v.val)) a + S1x512x3072.size a ≤ S16x4096x3072.size a), (Rect.unit (s := S16x4096x3072) (k0_off44 (BitVec.ofNat 32 v.val)) S1x512x3072.size hinb).WholeWords (EltTy.packing .fp8e4m3)) := by decide +kernel
theorem chk15_of (v1 : BitVec 32) (v : BitVec 32) (h : k0_cond2 v1 = 1#1 → v.toNat < 16) : k0_chk15 v1 v := by
  have : k0_cond2 v1 = 1#1 → (∀ a, (k0_off44 v) a + S1x512x3072.size a ≤ S16x4096x3072.size a) ∧ (∀ (hinb : ∀ a, (k0_off44 v) a + S1x512x3072.size a ≤ S16x4096x3072.size a), (Rect.unit (s := S16x4096x3072) (k0_off44 v) S1x512x3072.size hinb).WholeWords (EltTy.packing .fp8e4m3)) := by
    intro hc
    have := chk15_all ⟨v.toNat, h hc⟩
    simpa only [BitVec.ofNat_toNat, BitVec.setWidth_eq] using this
  exact ⟨fun hc => (this hc).1, fun hc => (this hc).2⟩
theorem chk16_all : ∀ v : Fin 16, (∀ a, (k0_off47 (BitVec.ofNat 32 v.val)) a + S1x512x3072.size a ≤ S16x4096x3072.size a) ∧ (∀ (hinb : ∀ a, (k0_off47 (BitVec.ofNat 32 v.val)) a + S1x512x3072.size a ≤ S16x4096x3072.size a), (Rect.unit (s := S16x4096x3072) (k0_off47 (BitVec.ofNat 32 v.val)) S1x512x3072.size hinb).WholeWords (EltTy.packing .fp8e4m3)) := by decide +kernel
theorem chk16_of (v1 : BitVec 32) (v : BitVec 32) (h : k0_cond2 v1 = 1#1 → v.toNat < 16) : k0_chk16 v1 v := by
  have : k0_cond2 v1 = 1#1 → (∀ a, (k0_off47 v) a + S1x512x3072.size a ≤ S16x4096x3072.size a) ∧ (∀ (hinb : ∀ a, (k0_off47 v) a + S1x512x3072.size a ≤ S16x4096x3072.size a), (Rect.unit (s := S16x4096x3072) (k0_off47 v) S1x512x3072.size hinb).WholeWords (EltTy.packing .fp8e4m3)) := by
    intro hc
    have := chk16_all ⟨v.toNat, h hc⟩
    simpa only [BitVec.ofNat_toNat, BitVec.setWidth_eq] using this
  exact ⟨fun hc => (this hc).1, fun hc => (this hc).2⟩
theorem chk17_all : ∀ v : Fin 16, (∀ a, (k0_off50 (BitVec.ofNat 32 v.val)) a + S1x512x3072.size a ≤ S16x4096x3072.size a) ∧ (∀ (hinb : ∀ a, (k0_off50 (BitVec.ofNat 32 v.val)) a + S1x512x3072.size a ≤ S16x4096x3072.size a), (Rect.unit (s := S16x4096x3072) (k0_off50 (BitVec.ofNat 32 v.val)) S1x512x3072.size hinb).WholeWords (EltTy.packing .fp8e4m3)) := by decide +kernel
theorem chk17_of (v1 : BitVec 32) (v : BitVec 32) (h : k0_cond2 v1 = 1#1 → v.toNat < 16) : k0_chk17 v1 v := by
  have : k0_cond2 v1 = 1#1 → (∀ a, (k0_off50 v) a + S1x512x3072.size a ≤ S16x4096x3072.size a) ∧ (∀ (hinb : ∀ a, (k0_off50 v) a + S1x512x3072.size a ≤ S16x4096x3072.size a), (Rect.unit (s := S16x4096x3072) (k0_off50 v) S1x512x3072.size hinb).WholeWords (EltTy.packing .fp8e4m3)) := by
    intro hc
    have := chk17_all ⟨v.toNat, h hc⟩
    simpa only [BitVec.ofNat_toNat, BitVec.setWidth_eq] using this
  exact ⟨fun hc => (this hc).1, fun hc => (this hc).2⟩
theorem chk1_of (v : BitVec 32) (h : v.toNat < 17) : k0_chk1 v := by
  have : ∀ v : Fin 17, k0_chk1 (BitVec.ofNat 32 v.val) := by decide +kernel
  have := this ⟨v.toNat, h⟩; simpa using this
theorem trips_all : ∀ v : Fin 17, (k0_t3_loop (BitVec.ofNat 32 v.val)).trips = v.val := by decide +kernel
theorem trips_of (v : BitVec 32) (h : v.toNat < 17) : (k0_t3_loop v).trips = v.toNat := by have := trips_all ⟨v.toNat, h⟩; simpa using this
theorem cond_all : ∀ v : Fin 17, ∀ k : Fin (k0_t3_loop (BitVec.ofNat 32 v.val)).trips, k0_cond11 (BitVec.ofNat 32 v.val) k = 1#1 ↔ k.val + 2 < (k0_t3_loop (BitVec.ofNat 32 v.val)).trips := by decide +kernel
theorem cond_lt {v : BitVec 32} (h : v.toNat < 17) (k : Fin (k0_t3_loop v).trips) : k0_cond11 v k = 1#1 ↔ k.val + 2 < (k0_t3_loop v).trips := by
  obtain ⟨w, rfl⟩ : ∃ w : Fin 17, v = BitVec.ofNat 32 w.val := ⟨⟨v.toNat, h⟩, by simp⟩
  exact cond_all w k
theorem chk18_all : ∀ v : Fin 17, k0_chk18 (BitVec.ofNat 32 v.val) := by decide +kernel
theorem chk18_of (v : BitVec 32) (h : v.toNat < 17) : k0_chk18 v := by have := chk18_all ⟨v.toNat, h⟩; simpa using this

end Cert.Kernel.Gen

end
-- ==== Proof.K.Res.lean ====
module

public import proofs.«01_k».proof.Proof.K.Chk

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev ptsW {sp : Space} {s : Shape} {e : EltTy} (c : Dev nD) (M : Memref sig .tc sp s e) (f : Buf (Elt F) (M.view.loc (c : Thread nD τ))) : sProp 𝕄 :=
  M.view.loc (c : Thread nD τ) ↦{fullShare} f
abbrev ptsS {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- A weight chunk's transfer in flight. -/
abbrev wflight (c : Dev nD) (s : Fin 2) (k : Fin 8) (D : sProp 𝕄) : sProp 𝕄 :=
  Transfers.Flight (countersEmb (U := Pipeline.UD sig nD τ)) (c : Thread nD τ) (SemLoc.dma (wcell s k).sem) () 49152 D

/-- The share of the weights a chunk's transfer reads by. -/
abbrev wtok (c : Dev nD) (s : Fin 2) (k : Fin 8) (S : Finset (Idx (mW.view.loc (c : Thread nD τ)))) (fw : Buf (Elt F) (mW.view.loc (c : Thread nD τ))) : sProp 𝕄 :=
  mW.view.loc (c : Thread nD τ) ↦[S]{Transfers.shareTok fullShare 20 (wcell s k).sem} fw

/-- A weight chunk at rest: its semaphore at zero, the chunk at anything, its share of the weights. -/
abbrev wfree (c : Dev nD) (fw : Buf (Elt F) (mW.view.loc (c : Thread nD τ))) (s : Fin 2) (k : Fin 8) : sProp 𝕄 :=
  iprop(semVal ((c : Thread nD τ), SemLoc.dma (wcell s k).sem) 0 ∗ (∃ f, ptsS c (wslot s k) f) ∗ wtok c s k Finset.univ fw)

/-- A weight chunk being filled with chunk `k` of expert `e`'s weights. -/
abbrev wfly (c : Dev nD) (fw : Buf (Elt F) (mW.view.loc (c : Thread nD τ))) (s : Fin 2) (e : Fin 16) (k : Fin 8) : sProp 𝕄 :=
  iprop((∃ f, wflight c s k iprop(ptsS c (wslot s k) ((wslot s k).view.writes (Elt F) f [⟨Rect.whole S512x3072, ReadAs.same.apply ((wsrc e k).view.read (Elt F) fw)⟩])
      ∗ wtok c s k (wsrc e k).view.set fw)) ∗ wtok c s k (Finset.univ \ (wsrc e k).view.set) fw)

/-- Entry `n` of the list of active experts is `e`. -/
def actIs {c : Dev nD} (fa : Buf (Elt F) (sAct.view.loc (c : Thread nD τ))) (n : Nat) (e : Fin 16) : Prop :=
  ∀ i : S17.Idx, (i 0).val = n → (fa i : BitVec 32).toNat = e.val

/-- A weight chunk being filled for entry `n` of the list of active experts. -/
abbrev wnext (c : Dev nD) (fw : Buf (Elt F) (mW.view.loc (c : Thread nD τ))) (fa : Buf (Elt F) (sAct.view.loc (c : Thread nD τ))) (n : Nat) (k : Fin 8) : sProp 𝕄 :=
  iprop(∃ e, ⌜actIs fa n e⌝ ∗ wfly c fw (par n) e k)

/-- A chunk at position `n` of the list: in flight if the list is that long, at rest otherwise. -/
def wst (c : Dev nD) (fw : Buf (Elt F) (mW.view.loc (c : Thread nD τ))) (fa : Buf (Elt F) (sAct.view.loc (c : Thread nD τ))) (b : Prop) [Decidable b] (n : Nat) (k : Fin 8) : sProp 𝕄 :=
  if b then wnext c fw fa n k else wfree c fw (par n) k

end Cert.Kernel.Gen

end
-- ==== Proof.K.Rows.lean ====
module

public import proofs.«01_k».proof.Proof.K.Res

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The elements of row `e` of a whole output. -/
abbrev bset (e : Fin 16) : Finset S16x8x3072.Idx := (Rect.unit (s := S16x8x3072) ![e.val, 0, 0] S1x8x3072.size (row_inb e)).set
theorem mem_bset (b : Fin 16) (y : S16x8x3072.Idx) : y ∈ bset b ↔ (y 0).val = b.val := by
  rw [Rect.mem_set_unit]
  have h1 : (y 1).val < 8 := (y 1).isLt
  have h2 : (y 2).val < 3072 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 8; omega
    · show 0 ≤ (y 2).val ∧ (y 2).val < 0 + 3072; omega
theorem bset_disjoint : ∀ b b' : Fin 16, b ≠ b' → Disjoint (bset b) (bset b') := fun b b' hne => by
  rw [Finset.disjoint_left]; intro y hy hy'; rw [mem_bset] at hy hy'; exact hne (Fin.ext (by omega))
theorem bset_cover : Finset.univ.biUnion bset = Finset.univ := by
  ext y; simp only [Finset.mem_biUnion, Finset.mem_univ, true_and, iff_true]; exact ⟨y 0, (mem_bset _ _).mpr rfl⟩
theorem obrow_set (b : Fin 16) : (obrow b).view.set = bset b := by
  unfold obrow; exact (View.set_reshape _ _).trans (View.set_slice_whole _ _)
theorem outrow_set (b : Fin 16) : (outrow b).view.set = bset b := by
  unfold outrow; exact (View.set_reshape _ _).trans (View.set_slice_whole _ _)

/-- The whole staging buffer is its rows, and the whole output its rows. -/
theorem ob_rows (c : Dev nD) (f : Buf (Elt F) (sOb.view.loc (c : Thread nD τ))) : (ptsW c sOb f : sProp 𝕄) = bigSep Finset.univ fun e => ptsS c (obrow e) f := by
  refine (Ring.pointsTo_blocks (ℓ := sOb.view.loc (c : Thread nD τ)) (q := fullShare) bset bset_disjoint bset_cover f).trans ?_
  refine BI.bigSep_congr fun b _ => ?_
  show (sOb.view.loc (c : Thread nD τ) ↦[bset b]{fullShare} f : sProp 𝕄) = ptsS c (obrow b) f
  unfold ptsS; rw [obrow_set]; rfl
theorem out_rows (c : Dev nD) (f : Buf (Elt F) (mOut.view.loc (c : Thread nD τ))) : (ptsW c mOut f : sProp 𝕄) = bigSep Finset.univ fun e => ptsS c (outrow e) f := by
  refine (Ring.pointsTo_blocks (ℓ := mOut.view.loc (c : Thread nD τ)) (q := fullShare) bset bset_disjoint bset_cover f).trans ?_
  refine BI.bigSep_congr fun b _ => ?_
  show (mOut.view.loc (c : Thread nD τ) ↦[bset b]{fullShare} f : sProp 𝕄) = ptsS c (outrow b) f
  unfold ptsS; rw [outrow_set]; rfl

/-- The place inside its row of an element of the whole output. -/
def inrow (y : S16x8x3072.Idx) : S1x8x3072.Idx := fun a => ⟨if a.val = 0 then 0 else (y a).val, by
  fin_cases a
  · exact Nat.zero_lt_one
  · exact (y 1).isLt
  · exact (y 2).isLt⟩

/-- A whole buffer each of whose rows is `P`. -/
def obP (P : Vec F S1x8x3072 .bf16) : Vec F S16x8x3072 .bf16 := fun y => P (inrow y)

theorem store_row (c : Dev nD) (e : Fin 16) (off : Fin 3 → Nat) (ho : off = ![e.val, 0, 0]) (hin) (fob : Buf (Elt F) (sOb.view.loc (c : Thread nD τ))) (P : Vec F S1x8x3072 .bf16) :
    (ptsS c (obrow e) (View.write (Elt F) (sOb.access (Rect.unit (s := S16x8x3072) off S1x8x3072.size hin)) fob P Finset.univ) : sProp 𝕄) = ptsS c (obrow e) (obP P) := by
  subst ho
  refine pointsTo_congr fun (y : S16x8x3072.Idx) hy => ?_
  have hy : (y 0).val = e.val := (mem_bset e y).mp (by rw [← obrow_set e]; exact hy)
  have e1 : y = (sOb.access (Rect.unit (s := S16x8x3072) ![e.val, 0, 0] S1x8x3072.size hin)).emb (inrow y) := by
    funext a
    refine Fin.ext ?_
    fin_cases a
    · show (y 0).val = e.val + 1 * 0; omega
    · show (y 1).val = 0 + 1 * (y 1).val; omega
    · show (y 2).val = 0 + 1 * (y 2).val; omega
  conv_lhs => rw [e1]
  rw [View.write_emb_of_mem _ _ (Finset.mem_univ _)]
  rfl

/-- What row `e`'s copy out leaves in the output. -/
abbrev landed (c : Dev nD) (e : Fin 16) (fo : Buf (Elt F) ((outrow e).view.loc (c : Thread nD τ))) (P : Vec F S1x8x3072 .bf16) : Buf (Elt F) ((outrow e).view.loc (c : Thread nD τ)) :=
  (outrow e).view.write (Elt F) fo (ReadAs.same.apply ((obrow e).view.read (Elt F) (obP P))) Finset.univ

theorem landed_row (c : Dev nD) (e : Fin 16) (fo : Buf (Elt F) ((outrow e).view.loc (c : Thread nD τ))) (P : Vec F S1x8x3072 .bf16) (G : Buf (Elt F) ((outrow e).view.loc (c : Thread nD τ)))
    (hG : ∀ y : S16x8x3072.Idx, (y 0).val = e.val → G y = P (inrow y)) :
    (ptsS c (outrow e) (landed c e fo P) : sProp 𝕄) = ptsS c (outrow e) G := by
  refine pointsTo_congr fun (y : S16x8x3072.Idx) hy => ?_
  have hy' : (y 0).val = e.val := (mem_bset e y).mp (by rw [← outrow_set e]; exact hy)
  rw [show G y = P (inrow y) from hG y hy']
  obtain ⟨x, -, rfl⟩ := Finset.mem_map.mp hy
  refine (View.write_emb_of_mem (v := (outrow e).view) _ _ (Finset.mem_univ x)).trans ?_
  rfl

/-- The sixteen weight chunks of the weight buffer. -/
def wset (p : Fin 2 × Fin 8) : Finset S2x8x512x3072.Idx := (Rect.unit (s := S2x8x512x3072) ![p.1.val, p.2.val, 0, 0] S1x1x512x3072.size (slot_inb p.1 p.2)).set
theorem mem_wset (p : Fin 2 × Fin 8) (y : S2x8x512x3072.Idx) : y ∈ wset p ↔ (y 0).val = p.1.val ∧ (y 1).val = p.2.val := by
  unfold wset
  rw [Rect.mem_set_unit]
  have h2 : (y 2).val < 512 := (y 2).isLt
  have h3 : (y 3).val < 3072 := (y 3).isLt
  constructor
  · intro H
    have a0 : p.1.val ≤ (y 0).val ∧ (y 0).val < p.1.val + 1 := H 0
    have a1 : p.2.val ≤ (y 1).val ∧ (y 1).val < p.2.val + 1 := H 1
    omega
  · intro H a; fin_cases a
    · show p.1.val ≤ (y 0).val ∧ (y 0).val < p.1.val + 1; omega
    · show p.2.val ≤ (y 1).val ∧ (y 1).val < p.2.val + 1; omega
    · show 0 ≤ (y 2).val ∧ (y 2).val < 0 + 512; omega
    · show 0 ≤ (y 3).val ∧ (y 3).val < 0 + 3072; omega
theorem wset_disjoint : ∀ b b' : Fin 2 × Fin 8, b ≠ b' → Disjoint (wset b) (wset b') := fun b b' hne => by
  rw [Finset.disjoint_left]; intro y hy hy'; rw [mem_wset] at hy hy'; exact hne (Prod.ext (Fin.ext (by omega)) (Fin.ext (by omega)))
theorem wset_cover : Finset.univ.biUnion wset = Finset.univ := by
  ext y; simp only [Finset.mem_biUnion, Finset.mem_univ, true_and, iff_true]; exact ⟨(y 0, y 1), (mem_wset _ _).mpr ⟨rfl, rfl⟩⟩
theorem wslot_set (p : Fin 2 × Fin 8) : (wslot p.1 p.2).view.set = wset p := by
  unfold wslot wset; exact (View.set_reshape _ _).trans (View.set_slice_whole _ _)
theorem w_slots (c : Dev nD) (f : Buf (Elt F) (sW.view.loc (c : Thread nD τ))) : (ptsW c sW f : sProp 𝕄) ⊢ bigSep Finset.univ fun p : Fin 2 × Fin 8 => iprop(∃ f, ptsS c (wslot p.1 p.2) f) := by
  refine (Entails.of_eq (Ring.pointsTo_blocks (ℓ := sW.view.loc (c : Thread nD τ)) (q := fullShare) wset wset_disjoint wset_cover f)).trans ?_
  refine BI.bigSep_mono fun b _ => ?_
  show (sW.view.loc (c : Thread nD τ) ↦[wset b]{fullShare} f : sProp 𝕄) ⊢ iprop(∃ f, ptsS c (wslot b.1 b.2) f)
  unfold ptsS; rw [wslot_set]; iintro H; iexists f; iexact H
theorem w_slots_join (c : Dev nD) : (bigSep Finset.univ fun p : Fin 2 × Fin 8 => iprop(∃ f, ptsS c (wslot p.1 p.2) f)) ⊢ (iprop(∃ f, ptsW c sW f) : sProp 𝕄) := by
  refine BIBase.Entails.trans ?_ (Ring.pointsTo_blocks_join_exists (ℓ := sW.view.loc (c : Thread nD τ)) (q := fullShare) wset wset_disjoint wset_cover sW.view.junk)
  refine BI.bigSep_mono fun b _ => ?_
  show iprop(∃ f, ptsS c (wslot b.1 b.2) f) ⊢ (iprop(∃ f, sW.view.loc (c : Thread nD τ) ↦[wset b]{fullShare} f) : sProp 𝕄)
  unfold ptsS; rw [wslot_set]; exact .rfl
theorem ob_join (c : Dev nD) : (bigSep Finset.univ fun e => iprop(∃ f, ptsS c (obrow e) f)) ⊢ (iprop(∃ f, ptsW c sOb f) : sProp 𝕄) := by
  refine BIBase.Entails.trans ?_ (Ring.pointsTo_blocks_join_exists (ℓ := sOb.view.loc (c : Thread nD τ)) (q := fullShare) bset bset_disjoint bset_cover sOb.view.junk)
  refine BI.bigSep_mono fun b _ => ?_
  show iprop(∃ f, ptsS c (obrow b) f) ⊢ (iprop(∃ f, sOb.view.loc (c : Thread nD τ) ↦[bset b]{fullShare} f) : sProp 𝕄)
  unfold ptsS; rw [obrow_set]; exact .rfl

end Cert.Kernel.Gen

end
-- ==== Proof.K.Seq.lean ====
module

public import proofs.«01_k».proof.Proof.K.Rows

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The numbers below `n` that `p` holds of, in order. -/
def fl (p : Nat → Bool) (n : Nat) : List Nat := (List.range n).filter p
/-- How many numbers below `n` `p` holds of. -/
def cnt (p : Nat → Bool) (n : Nat) : Nat := (fl p n).length
theorem fl_succ (p : Nat → Bool) (n : Nat) : fl p (n + 1) = fl p n ++ (if p n then [n] else []) := by
  unfold fl; rw [List.range_succ, List.filter_append]; cases h : p n <;> simp [h]
theorem cnt_succ (p : Nat → Bool) (n : Nat) : cnt p (n + 1) = cnt p n + (if p n then 1 else 0) := by
  unfold cnt; rw [fl_succ, List.length_append]; cases h : p n <;> simp
theorem cnt_zero (p : Nat → Bool) : cnt p 0 = 0 := rfl
theorem cnt_le (p : Nat → Bool) : ∀ n, cnt p n ≤ n
  | 0 => Nat.le_refl _
  | n + 1 => by have := cnt_le p n; rw [cnt_succ]; split <;> omega
theorem cnt_mono (p : Nat → Bool) {m : Nat} : ∀ n, m ≤ n → cnt p m ≤ cnt p n
  | 0, h => by obtain rfl : m = 0 := by omega
               exact Nat.le_refl _
  | n + 1, h => by
    rcases Nat.lt_or_ge n m with h1 | h1
    · obtain rfl : m = n + 1 := by omega
      exact Nat.le_refl _
    · have := cnt_mono p n h1; rw [cnt_succ]; omega
theorem cnt_add (p : Nat → Bool) : ∀ n, cnt (fun i => !p i) n + cnt p n = n
  | 0 => rfl
  | n + 1 => by have := cnt_add p n; rw [cnt_succ, cnt_succ]; cases h : p n <;> simp <;> omega
theorem fl_get (p : Nat → Bool) (e : Nat) (he : p e = true) : ∀ n, e < n → (fl p n)[cnt p e]? = some e
  | 0, h => by omega
  | n + 1, h => by
    rw [fl_succ]
    rcases Nat.lt_or_ge e n with h1 | h1
    · have hl : cnt p e < (fl p n).length := by
        have := cnt_mono p n (show e + 1 ≤ n from h1); rw [cnt_succ, he] at this; show cnt p e < cnt p n; simp at this; omega
      rw [List.getElem?_append_left hl]; exact fl_get p e he n h1
    · obtain rfl : e = n := by omega
      rw [he, List.getElem?_append_right (show (fl p e).length ≤ cnt p e from Nat.le_refl _)]; simp [cnt]
theorem fl_lt (p : Nat → Bool) {n i e : Nat} (h : (fl p n)[i]? = some e) : e < n := by
  have := List.mem_of_getElem? h; unfold fl at this; simp at this; exact this.1
theorem fl_p (p : Nat → Bool) {n i e : Nat} (h : (fl p n)[i]? = some e) : p e = true := by
  have := List.mem_of_getElem? h; unfold fl at this; simp at this; exact this.2
theorem fl_ex (p : Nat → Bool) {n i : Nat} (h : i < cnt p n) : ∃ e, (fl p n)[i]? = some e := ⟨_, List.getElem?_eq_getElem h⟩
theorem fl_nodup (p : Nat → Bool) (n : Nat) : (fl p n).Nodup := List.Nodup.filter _ List.nodup_range

/-- The experts in the order their rows are copied out: those without rows, then those with rows. -/
def ordL (p : Nat → Bool) : List Nat := fl (fun i => !p i) 16 ++ fl p 16
theorem ordL_length (p : Nat → Bool) : (ordL p).length = 16 := by unfold ordL; rw [List.length_append]; exact cnt_add p 16
theorem ordL_nodup (p : Nat → Bool) : (ordL p).Nodup := by
  unfold ordL
  refine List.Nodup.append (fl_nodup _ _) (fl_nodup _ _) ?_
  intro x hx hy
  unfold fl at hx hy; simp at hx hy
  rw [hx.2] at hy; exact absurd hy.2 (by decide)
theorem ordL_lt (p : Nat → Bool) (i : Nat) (h : i < (ordL p).length) : (ordL p)[i] < 16 := by
  have h1 : ∀ x ∈ ordL p, x < 16 := by
    intro x hx; unfold ordL fl at hx; simp at hx; omega
  exact h1 _ (List.getElem_mem h)
/-- The expert whose row is copied out as number `t`. -/
def ord (p : Nat → Bool) (t : Fin 16) : Fin 16 := ⟨(ordL p)[t.val]'(by rw [ordL_length]; exact t.isLt), ordL_lt p _ _⟩
theorem ord_inj (p : Nat → Bool) : Function.Injective (ord p) := by
  intro a b h
  have h1 : (ordL p)[a.val]'(by rw [ordL_length]; exact a.isLt) = (ordL p)[b.val]'(by rw [ordL_length]; exact b.isLt) := congrArg Fin.val h
  exact Fin.ext ((ordL_nodup p).getElem_inj_iff.mp h1)
/-- The order as a permutation. -/
def ordE (p : Nat → Bool) : Fin 16 ≃ Fin 16 := Equiv.ofBijective (ord p) (Finite.injective_iff_bijective.mp (ord_inj p))
/-- How many experts have no rows. -/
def nE (p : Nat → Bool) : Nat := cnt (fun i => !p i) 16
theorem nE_add (p : Nat → Bool) : nE p + cnt p 16 = 16 := cnt_add p 16
theorem ord_empty (p : Nat → Bool) (e : Fin 16) (he : p e.val = false) (h : cnt (fun i => !p i) e.val < 16) : ord p ⟨cnt (fun i => !p i) e.val, h⟩ = e := by
  have h1 := fl_get (fun i => !p i) e.val (by simp [he]) 16 e.isLt
  refine Fin.ext ?_
  show (ordL p)[cnt (fun i => !p i) e.val]'_ = e.val
  have h2 : (ordL p)[cnt (fun i => !p i) e.val]? = some e.val := by
    unfold ordL
    rw [List.getElem?_append_left (List.getElem?_eq_some_iff.mp h1).1]; exact h1
  exact (List.getElem?_eq_some_iff.mp h2).2
theorem ord_act (p : Nat → Bool) (k : Nat) (hk : nE p + k < 16) : (fl p 16)[k]? = some (ord p ⟨nE p + k, hk⟩).val := by
  have hk2 : k < (fl p 16).length := by have := nE_add p; show k < cnt p 16; omega
  have h2 : (ordL p)[nE p + k]? = (fl p 16)[k]? := by
    unfold ordL
    show (fl (fun i => !p i) 16 ++ fl p 16)[(fl (fun i => !p i) 16).length + k]? = _
    rw [List.getElem?_append_right (Nat.le_add_right _ _), Nat.add_sub_cancel_left]
  rw [← h2]
  exact List.getElem?_eq_getElem _

/-- Entry `n` of an array of sixteen. -/
def ix16 (n : Nat) (h : n < 16) : S16.Idx := fun a => ⟨n, by obtain rfl : a = 0 := Subsingleton.elim _ _; exact h⟩
/-- Which experts have rows, by the group sizes. -/
def isAct {c : Dev nD} (fg : Buf (Elt F) (sGs.view.loc (c : Thread nD τ))) (n : Nat) : Bool :=
  if h : n < 16 then decide (0 < (fg (ix16 n h) : BitVec 32).toInt) else false

/-- The list of active experts as it stands after the first `n` experts, `v` its length. -/
def actSpec {c : Dev nD} (fa : Buf (Elt F) (sAct.view.loc (c : Thread nD τ))) (p : Nat → Bool) (n : Nat) (v : BitVec 32) : Prop :=
  v.toNat = cnt p n ∧ ∀ i : S17.Idx, ∀ e, (fl p n)[(i 0).val]? = some e → (fa i : BitVec 32).toNat = e

theorem actSpec_lt {c : Dev nD} {fa : Buf (Elt F) (sAct.view.loc (c : Thread nD τ))} {p : Nat → Bool} {v : BitVec 32} (h : actSpec fa p 16 v) : v.toNat < 17 := by
  have := cnt_le p 16; have := h.1; omega
theorem actSpec_act {c : Dev nD} {fa : Buf (Elt F) (sAct.view.loc (c : Thread nD τ))} {p : Nat → Bool} {v : BitVec 32} (h : actSpec fa p 16 v) :
    ∀ i : S17.Idx, (i 0).val < v.toNat → (fa i : BitVec 32).toNat < 16 := by
  intro i hi
  rw [h.1] at hi
  obtain ⟨e, he⟩ := fl_ex p hi
  rw [h.2 i e he]; exact fl_lt p he
theorem actSpec_is {c : Dev nD} {fa : Buf (Elt F) (sAct.view.loc (c : Thread nD τ))} {p : Nat → Bool} {v : BitVec 32} (h : actSpec fa p 16 v) (k : Nat) (hk : nE p + k < 16) :
    actIs fa k (ord p ⟨nE p + k, hk⟩) := by
  intro i hi
  refine h.2 i _ ?_
  rw [hi]; exact ord_act p k hk

theorem sgt_zero (v : BitVec 32) : (Scalar.extui (Scalar.cmpi .sgt v 0#32) : BitVec 32).toNat = if 0 < v.toInt then 1 else 0 := by
  have h0 : (0#32 : BitVec 32).toInt = 0 := by decide
  by_cases h : 0 < v.toInt
  · have : Scalar.cmpi .sgt v 0#32 = 1#1 := by
      show BitVec.ofBool (decide ((0#32 : BitVec 32).toInt < v.toInt)) = 1#1
      rw [h0, decide_eq_true h]; rfl
    rw [this, if_pos h]; rfl
  · have : Scalar.cmpi .sgt v 0#32 = 0#1 := by
      show BitVec.ofBool (decide ((0#32 : BitVec 32).toInt < v.toInt)) = 0#1
      rw [h0, decide_eq_false h]; rfl
    rw [this, if_neg h]; rfl

theorem gs_read {c : Dev nD} (fg : Buf (Elt F) (sGs.view.loc (c : Thread nD τ))) (n : Nat) (hn : n < 16) (off : Fin 1 → Nat) (ho : off 0 = n) (hi) (p) :
    (View.readAt (Elt F) sGs.view (Rect.unit (s := S16) off S1.size hi).toLoadRect fg (Shape.Idx.first p) : BitVec 32) = fg (ix16 n hn) := by
  have e1 : ix16 n hn = (sGs.view.emb ((Rect.unit (s := S16) off S1.size hi).toLoadRect.idx (Shape.Idx.first p))) := by
    funext a
    obtain rfl : a = 0 := Subsingleton.elim _ _
    refine Fin.ext ?_
    show n = off 0 + 1 * (Shape.Idx.first p 0).val
    have h2 : (Shape.Idx.first p 0).val < 1 := (Shape.Idx.first p 0).isLt
    omega
  rw [e1]; rfl
theorem gs_sgt {c : Dev nD} (fg : Buf (Elt F) (sGs.view.loc (c : Thread nD τ))) (n : Nat) (hn : n < 16) (off : Fin 1 → Nat) (ho : off 0 = n) (hi) (p) :
    (Scalar.extui (Scalar.cmpi .sgt (View.readAt (Elt F) sGs.view (Rect.unit (s := S16) off S1.size hi).toLoadRect fg (Shape.Idx.first p) : BitVec 32) 0#32) : BitVec 32).toNat = if isAct fg n then 1 else 0 := by
  rw [sgt_zero, gs_read fg n hn off ho hi p]
  unfold isAct; rw [dif_pos hn]; simp only [decide_eq_true_eq]
theorem gs_sle {c : Dev nD} (fg : Buf (Elt F) (sGs.view.loc (c : Thread nD τ))) (n : Nat) (hn : n < 16) (off : Fin 1 → Nat) (ho : off 0 = n) (hi) (p) :
    Scalar.cmpi .ne (Scalar.extui (Scalar.cmpi .sle (View.readAt (Elt F) sGs.view (Rect.unit (s := S16) off S1.size hi).toLoadRect fg (Shape.Idx.first p) : BitVec 32) 0#32) : BitVec 32) 0#32 = 1#1 ↔ isAct fg n = false := by
  rw [gs_read fg n hn off ho hi p]
  unfold isAct; rw [dif_pos hn]
  generalize (fg (ix16 n hn) : BitVec 32) = v
  have h0 : (0#32 : BitVec 32).toInt = 0 := by decide
  by_cases h : 0 < v.toInt
  · have : Scalar.cmpi .sle v 0#32 = 0#1 := by
      show BitVec.ofBool (decide (v.toInt ≤ (0#32 : BitVec 32).toInt)) = 0#1
      rw [h0, decide_eq_false (by omega)]; rfl
    rw [this, decide_eq_true h]; decide
  · have : Scalar.cmpi .sle v 0#32 = 1#1 := by
      show BitVec.ofBool (decide (v.toInt ≤ (0#32 : BitVec 32).toInt)) = 1#1
      rw [h0, decide_eq_true (by omega)]; rfl
    rw [this, decide_eq_false h]; decide

/-- One step of building the list. -/
theorem actSpec_step {c : Dev nD} (fa : Buf (Elt F) (sAct.view.loc (c : Thread nD τ))) (p : Nat → Bool) (n : Nat) (hn : n < 16) (v : BitVec 32) (h : actSpec fa p n v)
    (b : BitVec 32) (hb : b.toNat = if p n then 1 else 0) (off : Fin 1 → Nat) (ho : off 0 = v.toNat) (hi) :
    actSpec (c := c) (View.write (Elt F) (sAct.access (Rect.unit (s := S17) off S1.size hi)) fa (fun _ => Scf.iv 0#32 1#32 n) Finset.univ) p (n + 1) (Scalar.addi v b) := by
  have hv := h.1
  have hle := cnt_le p n
  refine ⟨?_, ?_⟩
  · show (v + b).toNat = _
    rw [BitVec.toNat_add, cnt_succ, hv, hb]
    split <;> omega
  · intro i e hie
    have key : ∀ f : Buf (Elt F) (sAct.view.loc (c : Thread nD τ)), f = View.write (Elt F) (sAct.access (Rect.unit (s := S17) off S1.size hi)) fa (fun _ => Scf.iv 0#32 1#32 n) Finset.univ →
        (((i 0).val = v.toNat → (f i : BitVec 32) = Scf.iv 0#32 1#32 n) ∧ ((i 0).val ≠ v.toNat → f i = fa i)) := by
      rintro f rfl
      constructor
      · intro hi0
        have e1 : i = (sAct.access (Rect.unit (s := S17) off S1.size hi)).emb (fun a => ⟨0, by obtain rfl : a = 0 := Subsingleton.elim _ _; exact Nat.zero_lt_one⟩) := by
          funext a
          obtain rfl : a = 0 := Subsingleton.elim _ _
          refine Fin.ext ?_
          show (i 0).val = off 0 + 1 * 0
          omega
        rw [e1, View.write_emb_of_mem _ _ (Finset.mem_univ _)]
        rfl
      · intro hi0
        refine View.write_of_not_mem _ _ _ ?_
        intro hm
        obtain ⟨x, -, hx⟩ := Finset.mem_map.mp hm
        have := congrArg (fun y : S17.Idx => (y 0).val) hx
        have h2 : (x 0).val < 1 := (x 0).isLt
        have h3 : off 0 + 1 * (x 0).val = (i 0).val := this
        omega
    obtain ⟨k1, k2⟩ := key _ rfl
    rw [fl_succ] at hie
    rcases Nat.lt_or_ge (i 0).val (fl p n).length with h1 | h1
    · rw [List.getElem?_append_left h1] at hie
      rw [k2 (by rw [hv]; exact Nat.ne_of_lt h1)]
      exact h.2 i e hie
    · rw [List.getElem?_append_right h1] at hie
      cases hp : p n
      · rw [hp] at hie; simp at hie
      · rw [hp] at hie
        have h0 : (i 0).val - (fl p n).length = 0 := by
          by_contra hne
          simp only [if_true] at hie
          rw [List.getElem?_eq_none (by simp; omega)] at hie; exact absurd hie (by simp)
        rw [h0] at hie
        simp at hie
        subst hie
        rw [k1 (by rw [hv]; show (i 0).val = (fl p n).length; omega)]
        exact toNat_iv01 n (by omega)

/-- The loop that lists the experts with rows: at trip `n` the list of those below `n`. -/
def t1Inv (c : Dev nD) (fg : Buf (Elt F) (sGs.view.loc (c : Thread nD τ))) (n : Nat) (v : BitVec 32) : sProp 𝕄 :=
  iprop(ptsW c sGs fg ∗ ∃ fa, ptsW c sAct fa ∗ ⌜n ≤ 16 ∧ actSpec fa (isAct fg) n v⌝)

set_option maxHeartbeats 4000000 in
theorem t1_step (c : Dev nD) (fg : Buf (Elt F) (sGs.view.loc (c : Thread nD τ))) (k : Fin k0_t1_loop.trips) (v : BitVec 32) :
    t1Inv c fg k.val v ⊢ wp frame (wpE (defs₀ (F := F)) Variants.none (c : Thread nD τ) none) Set.univ
      (k0_t1_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k v) (t1Inv c fg (k.val + 1)) := by
  have hk : k.val < 16 := k.isLt
  unfold t1Inv
  iintro ⟨HG, %fa, HA, %hs⟩
  have hlt : v.toNat < 17 := by have := cnt_le (isAct fg) k.val; have := hs.2.1; omega
  unfold k0_t1_body
  sl_exec (disch := exact chk1_of _ hlt)
  sl_step
  isplitl [HG]; iexact HG
  iexists _
  isplitl [HA]; iexact HA
  ipureintro
  refine ⟨hk, actSpec_step fa (isAct fg) k.val hk v hs.2 _ ?_ (k0_off1 v) rfl (k0_off1_inb v (chk1_of _ hlt))⟩
  exact gs_sgt fg k.val hk (k0_off2 k) (toNat_iv01 k.val (by omega)) _ _

end Cert.Kernel.Gen

end
-- ==== Proof.K.Steps.lean ====
module

public import proofs.«01_k».proof.Proof.K.Seq

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copy of row `e` out of the staging buffer. -/
abbrev outTail (e : Fin 16) (h₁ : (obrow e).view.WordExact) (h₂ : (outrow e).view.WordExact) : Prog (TpuEff nD τ sig (Elt F) Λ₀ .tc) Unit :=
  Prog.op (TpuEff.enqueueDma (obrow e) (DmaTarget.here (outrow e)) (SemLoc.dma cc0_scratch12.sem) h₁ h₂ ⟨Or.inl rfl, trivial⟩) fun _ => Pure.pure PUnit.unit

/-- The expert of a trip of the loop over all experts. -/
def r2 (k : Fin k0_t2_loop.trips) : Fin 16 := ⟨k.val, k.isLt⟩
def r5 (k : Fin k0_t5_loop.trips) : Fin 16 := ⟨k.val, k.isLt⟩
theorem off52_eq (k : Fin k0_t2_loop.trips) : k0_off52 k = ![(r2 k).val, 0, 0] := congrArg (fun n => (![n, 0, 0] : Fin 3 → Nat)) (toNat_iv01 k.val (by have : k.val < 16 := k.isLt; omega))
theorem off53_eq (k : Fin k0_t2_loop.trips) : k0_off53 k = ![(r2 k).val, 0, 0] := congrArg (fun n => (![n, 0, 0] : Fin 3 → Nat)) (toNat_iv01 k.val (by have : k.val < 16 := k.isLt; omega))
theorem off288_eq (k : Fin k0_t5_loop.trips) : k0_off288 k = ![(r5 k).val, 0, 0] := congrArg (fun n => (![n, 0, 0] : Fin 3 → Nat)) (toNat_iv01 k.val (by have : k.val < 16 := k.isLt; omega))
instance (k : Fin k0_t2_loop.trips) : ClosedOff (k0_off52 k) := ⟨![(r2 k).val, 0, 0], off52_eq k⟩
instance (k : Fin k0_t2_loop.trips) : ClosedOff (k0_off53 k) := ⟨![(r2 k).val, 0, 0], off53_eq k⟩
instance (k : Fin k0_t5_loop.trips) : ClosedOff (k0_off288 k) := ⟨![(r5 k).val, 0, 0], off288_eq k⟩
@[sl_canon] theorem canon_obrow2 (k : Fin k0_t2_loop.trips) (h hs) : (sOb.slice (Rect.unit (s := S16x8x3072) (k0_off53 k) S1x8x3072.size h) hs).squeeze S8x3072 squeezes_S1x8x3072_S8x3072 = obrow (r2 k) :=
  congrArg (fun m : Memref sig .tc .vmem S1x8x3072 .bf16 => m.squeeze S8x3072 squeezes_S1x8x3072_S8x3072) (Memref.slice_unit_congr _ (off53_eq k) _ _ _ fun _ => rfl)
@[sl_canon] theorem canon_outrow2 (k : Fin k0_t2_loop.trips) (h hs) : (mOut.slice (Rect.unit (s := S16x8x3072) (k0_off53 k) S1x8x3072.size h) hs).squeeze S8x3072 squeezes_S1x8x3072_S8x3072 = outrow (r2 k) :=
  congrArg (fun m : Memref sig .tc .hbm S1x8x3072 .bf16 => m.squeeze S8x3072 squeezes_S1x8x3072_S8x3072) (Memref.slice_unit_congr _ (off53_eq k) _ _ _ fun _ => rfl)
@[sl_canon] theorem canon_obrow5 (k : Fin k0_t5_loop.trips) (h hs) : (sOb.slice (Rect.unit (s := S16x8x3072) (k0_off288 k) S1x8x3072.size h) hs).squeeze S8x3072 squeezes_S1x8x3072_S8x3072 = obrow (r5 k) :=
  congrArg (fun m : Memref sig .tc .vmem S1x8x3072 .bf16 => m.squeeze S8x3072 squeezes_S1x8x3072_S8x3072) (Memref.slice_unit_congr _ (off288_eq k) _ _ _ fun _ => rfl)
@[sl_canon] theorem canon_outrow5 (k : Fin k0_t5_loop.trips) (h hs) : (mOut.slice (Rect.unit (s := S16x8x3072) (k0_off288 k) S1x8x3072.size h) hs).squeeze S8x3072 squeezes_S1x8x3072_S8x3072 = outrow (r5 k) :=
  congrArg (fun m : Memref sig .tc .hbm S1x8x3072 .bf16 => m.squeeze S8x3072 squeezes_S1x8x3072_S8x3072) (Memref.slice_unit_congr _ (off288_eq k) _ _ _ fun _ => rfl)

/-- What the copy out number `t` leaves: its row of the output and the staging row it was read from. -/
def dlv (c : Dev nD) (p : Nat → Bool) (fo : Buf (Elt F) (mOut.view.loc (c : Thread nD τ))) (Pt : Fin 16 → Vec F S1x8x3072 .bf16) (t : Fin 16) : sProp 𝕄 :=
  iprop(ptsS c (outrow (ord p t)) (landed c (ord p t) fo (Pt t)) ∗ ptsS c (obrow (ord p t)) (obP (Pt t)))
theorem storable_ptsS {sp : Space} {s : Shape} {e : EltTy} (c : Dev nD) (M : Memref sig .tc sp s e) (f : Buf (Elt F) (M.view.loc (c : Thread nD τ))) :
    BI.Storable (upEmb : UEmb _ 𝕄) (ptsS c M f) := inferInstance
instance dlv_storable (c : Dev nD) (p : Nat → Bool) (fo : Buf (Elt F) (mOut.view.loc (c : Thread nD τ))) (Pt : Fin 16 → Vec F S1x8x3072 .bf16) (t : Fin 16) :
    BI.Storable (upEmb : UEmb _ 𝕄) (dlv c p fo Pt t) := by
  unfold dlv
  haveI := storable_ptsS c (outrow (ord p t)) (landed c (ord p t) fo (Pt t))
  haveI := storable_ptsS c (obrow (ord p t)) (obP (Pt t))
  infer_instance
/-- The sixteen copies out, `j` of them started and `u` units of them waited for. -/
abbrev obatch (c : Dev nD) (p : Nat → Bool) (fo : Buf (Elt F) (mOut.view.loc (c : Thread nD τ))) (Pt : Fin 16 → Vec F S1x8x3072 .bf16) (j u : Nat) : sProp 𝕄 :=
  Transfers.Batch (countersEmb (U := Pipeline.UD sig nD τ)) (c : Thread nD τ) (SemLoc.dma cc0_scratch12.sem) () 1536 (dlv c p fo Pt) j u
/-- The rows not copied out yet. -/
abbrev orows (c : Dev nD) (p : Nat → Bool) (fo : Buf (Elt F) (mOut.view.loc (c : Thread nD τ))) (j : Nat) : sProp 𝕄 :=
  bigSep (Ring.rangeSet 16 j 16) fun t => iprop((∃ f, ptsS c (obrow (ord p t)) f) ∗ ptsS c (outrow (ord p t)) fo)

theorem dlv_intro (c : Dev nD) (p : Nat → Bool) (fo : Buf (Elt F) (mOut.view.loc (c : Thread nD τ))) (Pt : Fin 16 → Vec F S1x8x3072 .bf16) (t : Fin 16) :
    iprop(((outrow (ord p t)).view.loc (c : Thread nD τ) ↦[(outrow (ord p t)).view.set]{fullShare} (outrow (ord p t)).view.write (Elt F) fo (ReadAs.same.apply ((obrow (ord p t)).view.read (Elt F) (obP (Pt t)))) Finset.univ)
      ∗ ((obrow (ord p t)).view.loc (c : Thread nD τ) ↦[(obrow (ord p t)).view.set]{fullShare} obP (Pt t))) ⊢ dlv c p fo Pt t := by
  unfold dlv landed
  exact .rfl

theorem amount_out {e : Fin 16} : (outrow e).view.amount (SemLoc.dma cc0_scratch12.sem) = 1536 := by rfl

theorem tail_issue (c : Dev nD) (p : Nat → Bool) (fo : Buf (Elt F) (mOut.view.loc (c : Thread nD τ))) (Pt : Fin 16 → Vec F S1x8x3072 .bf16) (j : Nat) (hj : j < 16) (e : Fin 16) (he : ord p ⟨j, hj⟩ = e) (h₁ h₂) (K : Unit → sProp 𝕄) :
    iprop(ptsS c (obrow e) (obP (Pt ⟨j, hj⟩)) ∗ ptsS c (outrow e) fo ∗ obatch c p fo Pt j 0 ∗ (obatch c p fo Pt (j + 1) 0 -∗ K ()))
      ⊢ wp frame (wpE (defs₀ (F := F)) Variants.none (c : Thread nD τ) none) Set.univ (outTail e h₁ h₂) K := by
  subst he
  iintro ⟨H1, H2, HB, HK⟩
  iapply (Transfers.wp_dmaBatch (countersEmb (U := Pipeline.UD sig nD τ)) Variants.none (c : Thread nD τ) none (src := obrow (ord p ⟨j, hj⟩)) (dst := outrow (ord p ⟨j, hj⟩)) (D := dlv c p fo Pt) (j := j) (u := 0) () 1536 amount_out (Finset.Subset.refl _) hj (Nat.zero_le _) (dlv_intro c p fo Pt ⟨j, hj⟩)) $$ [H1 H2 HB]
  · isplitl [H1]; iexact H1
    isplitl [H2]; iexact H2
    iexact HB
  iintro HB
  sl_step
  iapply HK
  iexact HB

set_option maxHeartbeats 4000000 in
theorem t2_trip (c : Dev nD) (fg : Buf (Elt F) (sGs.view.loc (c : Thread nD τ))) (k : Fin k0_t2_loop.trips) (ha : isAct fg k.val = false) (h₁ h₂ hin)
    (fob : Buf (Elt F) ((obrow (r2 k)).view.loc (c : Thread nD τ))) (K : Unit → sProp 𝕄) :
    iprop(ptsW c sGs fg ∗ ptsS c (obrow (r2 k)) fob
      ∗ (iprop(ptsW c sGs fg ∗ ptsS c (obrow (r2 k)) (View.write (Elt F) (sOb.access (Rect.unit (s := S16x8x3072) (k0_off52 k) S1x8x3072.size hin)) fob (k0_pay1 (F := F)) Finset.univ))
        -∗ wp frame (wpE (defs₀ (F := F)) Variants.none (c : Thread nD τ) none) Set.univ (outTail (r2 k) h₁ h₂) K))
      ⊢ wp frame (wpE (defs₀ (F := F)) Variants.none (c : Thread nD τ) none) Set.univ
        (k0_t2_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k ()) K := by
  have hk : k.val < 16 := k.isLt
  iintro ⟨HG, HOb, HK⟩
  have hcond := (gs_sle fg k.val hk (k0_off51 k) (toNat_iv01 k.val (by omega)) (k0_off51_inb k) (Nat.lt_of_lt_of_eq Nat.zero_lt_one numel1_S1.symm)).mpr ha
  unfold k0_t2_body
  sl_exec
  delta Cert.Kernel.Gen.t2_trip.sl.HOb_w1
  iapply HK
  isplitl [HG]; iexact HG
  iexact HOb

set_option maxHeartbeats 4000000 in
theorem t2_skip (c : Dev nD) (fg : Buf (Elt F) (sGs.view.loc (c : Thread nD τ))) (k : Fin k0_t2_loop.trips) (ha : isAct fg k.val = true) (K : Unit → sProp 𝕄) :
    iprop(ptsW c sGs fg ∗ (ptsW c sGs fg -∗ K ()))
      ⊢ wp frame (wpE (defs₀ (F := F)) Variants.none (c : Thread nD τ) none) Set.univ
        (k0_t2_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k ()) K := by
  have hk : k.val < 16 := k.isLt
  iintro ⟨HG, HK⟩
  have hcond := mt (gs_sle fg k.val hk (k0_off51 k) (toNat_iv01 k.val (by omega)) (k0_off51_inb k) (Nat.lt_of_lt_of_eq Nat.zero_lt_one numel1_S1.symm)).mp (by rw [ha]; decide)
  unfold k0_t2_body
  sl_exec
  sl_step
  iapply HK
  iexact HG

/-- Before trip `k` of the last loop: `k` copies out waited for; after the last, all of them back. -/
def t5Inv (c : Dev nD) (p : Nat → Bool) (fo : Buf (Elt F) (mOut.view.loc (c : Thread nD τ))) (Pt : Fin 16 → Vec F S1x8x3072 .bf16) (k : Nat) (_ : Unit) : sProp 𝕄 :=
  iprop(⌜k ≤ 16⌝ ∗ (∃ W, owes (c : Thread nD τ) 0 W)
    ∗ (if k < 16 then obatch c p fo Pt 16 (k * 1536)
       else iprop(semVal ((c : Thread nD τ), SemLoc.dma cc0_scratch12.sem) 0 ∗ bigSep Finset.univ (dlv c p fo Pt))))

set_option maxHeartbeats 4000000 in
theorem t5_step (c : Dev nD) (p : Nat → Bool) (fo : Buf (Elt F) (mOut.view.loc (c : Thread nD τ))) (Pt : Fin 16 → Vec F S1x8x3072 .bf16) (k : Fin k0_t5_loop.trips) (a : Unit) :
    t5Inv c p fo Pt k.val a ⊢ wp frame (wpE (defs₀ (F := F)) Variants.none (c : Thread nD τ) none) Set.univ
        (k0_t5_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k a) (t5Inv c p fo Pt (k.val + 1)) := by
  have hk : k.val < 16 := k.isLt
  unfold t5Inv
  simp only [if_pos hk]
  rcases Nat.lt_or_ge (k.val + 1) 16 with h1 | h1
  · simp only [if_pos h1]
    iintro ⟨-, ⟨%W, HO⟩, HB⟩
    unfold k0_t5_body
    sl_exec
    sl_step
    isplitr; · ipureintro; omega
    isplitl [HO]; · iexists _; iexact HO
    rw [show (k.val + 1) * 1536 = k.val * 1536 + 1536 by omega]
    iexact HB
  · simp only [if_neg (Nat.not_lt.mpr h1)]
    iintro ⟨-, ⟨%W, HO⟩, HB⟩
    unfold k0_t5_body
    sl_exec
    sl_step
    isplitr; · ipureintro; omega
    isplitl [HO]; · iexists _; iexact HO
    isplitl [HB]; · iexact HB
    iexact HB_all

end Cert.Kernel.Gen

end
-- ==== Proof.K.Pre.lean ====
module

public import proofs.«01_k».proof.Proof.K.Steps

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
theorem off3_eq : k0_off3 = ![((0 : Fin 2)).val, ((0 : Fin 8)).val] := by decide
theorem off4_eq : k0_off4 = ![((0 : Fin 2)).val, ((0 : Fin 8)).val, 0, 0] := by decide
@[sl_canon] theorem canon_pcell3 (h) : (cc0_scratch11.slice (Rect.unit (s := S2x8) k0_off3 S1x1.size h)).squeeze S_ squeezes_S1x1_S_ = wcell 0 0 :=
  congrArg (fun m : DmaSems sig S1x1 => m.squeeze S_ squeezes_S1x1_S_) (SemArray.slice_unit_congr _ off3_eq _ _)
@[sl_canon] theorem canon_pslot3 (h hs) : (sW.slice (Rect.unit (s := S2x8x512x3072) k0_off4 S1x1x512x3072.size h) hs).squeeze S512x3072 squeezes_S1x1x512x3072_S512x3072 = wslot 0 0 :=
  congrArg (fun m : Memref sig .tc .vmem S1x1x512x3072 .fp8e4m3 => m.squeeze S512x3072 squeezes_S1x1x512x3072_S512x3072) (Memref.slice_unit_congr _ off4_eq _ _ _ fun _ => rfl)
@[sl_canon] theorem canon_psrc3 (v : BitVec 32) (h hs) : (mW.slice (Rect.unit (s := S16x4096x3072) (k0_off5 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off5 v = ![(ex v).val, 512 * ((0 : Fin 8).val), 0] by
    have h0 : v.toNat < 16 := by have := h 0; change v.toNat + 1 ≤ 16 at this; omega
    rw [ex_val v h0]; rfl) _ _ _ fun _ => rfl)
theorem off6_eq : k0_off6 = ![((0 : Fin 2)).val, ((1 : Fin 8)).val] := by decide
theorem off7_eq : k0_off7 = ![((0 : Fin 2)).val, ((1 : Fin 8)).val, 0, 0] := by decide
@[sl_canon] theorem canon_pcell6 (h) : (cc0_scratch11.slice (Rect.unit (s := S2x8) k0_off6 S1x1.size h)).squeeze S_ squeezes_S1x1_S_ = wcell 0 1 :=
  congrArg (fun m : DmaSems sig S1x1 => m.squeeze S_ squeezes_S1x1_S_) (SemArray.slice_unit_congr _ off6_eq _ _)
@[sl_canon] theorem canon_pslot6 (h hs) : (sW.slice (Rect.unit (s := S2x8x512x3072) k0_off7 S1x1x512x3072.size h) hs).squeeze S512x3072 squeezes_S1x1x512x3072_S512x3072 = wslot 0 1 :=
  congrArg (fun m : Memref sig .tc .vmem S1x1x512x3072 .fp8e4m3 => m.squeeze S512x3072 squeezes_S1x1x512x3072_S512x3072) (Memref.slice_unit_congr _ off7_eq _ _ _ fun _ => rfl)
@[sl_canon] theorem canon_psrc6 (v : BitVec 32) (h hs) : (mW.slice (Rect.unit (s := S16x4096x3072) (k0_off8 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off8 v = ![(ex v).val, 512 * ((1 : Fin 8).val), 0] by
    have h0 : v.toNat < 16 := by have := h 0; change v.toNat + 1 ≤ 16 at this; omega
    rw [ex_val v h0]; rfl) _ _ _ fun _ => rfl)
theorem off9_eq : k0_off9 = ![((0 : Fin 2)).val, ((2 : Fin 8)).val] := by decide
theorem off10_eq : k0_off10 = ![((0 : Fin 2)).val, ((2 : Fin 8)).val, 0, 0] := by decide
@[sl_canon] theorem canon_pcell9 (h) : (cc0_scratch11.slice (Rect.unit (s := S2x8) k0_off9 S1x1.size h)).squeeze S_ squeezes_S1x1_S_ = wcell 0 2 :=
  congrArg (fun m : DmaSems sig S1x1 => m.squeeze S_ squeezes_S1x1_S_) (SemArray.slice_unit_congr _ off9_eq _ _)
@[sl_canon] theorem canon_pslot9 (h hs) : (sW.slice (Rect.unit (s := S2x8x512x3072) k0_off10 S1x1x512x3072.size h) hs).squeeze S512x3072 squeezes_S1x1x512x3072_S512x3072 = wslot 0 2 :=
  congrArg (fun m : Memref sig .tc .vmem S1x1x512x3072 .fp8e4m3 => m.squeeze S512x3072 squeezes_S1x1x512x3072_S512x3072) (Memref.slice_unit_congr _ off10_eq _ _ _ fun _ => rfl)
@[sl_canon] theorem canon_psrc9 (v : BitVec 32) (h hs) : (mW.slice (Rect.unit (s := S16x4096x3072) (k0_off11 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off11 v = ![(ex v).val, 512 * ((2 : Fin 8).val), 0] by
    have h0 : v.toNat < 16 := by have := h 0; change v.toNat + 1 ≤ 16 at this; omega
    rw [ex_val v h0]; rfl) _ _ _ fun _ => rfl)
theorem off12_eq : k0_off12 = ![((0 : Fin 2)).val, ((3 : Fin 8)).val] := by decide
theorem off13_eq : k0_off13 = ![((0 : Fin 2)).val, ((3 : Fin 8)).val, 0, 0] := by decide
@[sl_canon] theorem canon_pcell12 (h) : (cc0_scratch11.slice (Rect.unit (s := S2x8) k0_off12 S1x1.size h)).squeeze S_ squeezes_S1x1_S_ = wcell 0 3 :=
  congrArg (fun m : DmaSems sig S1x1 => m.squeeze S_ squeezes_S1x1_S_) (SemArray.slice_unit_congr _ off12_eq _ _)
@[sl_canon] theorem canon_pslot12 (h hs) : (sW.slice (Rect.unit (s := S2x8x512x3072) k0_off13 S1x1x512x3072.size h) hs).squeeze S512x3072 squeezes_S1x1x512x3072_S512x3072 = wslot 0 3 :=
  congrArg (fun m : Memref sig .tc .vmem S1x1x512x3072 .fp8e4m3 => m.squeeze S512x3072 squeezes_S1x1x512x3072_S512x3072) (Memref.slice_unit_congr _ off13_eq _ _ _ fun _ => rfl)
@[sl_canon] theorem canon_psrc12 (v : BitVec 32) (h hs) : (mW.slice (Rect.unit (s := S16x4096x3072) (k0_off14 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off14 v = ![(ex v).val, 512 * ((3 : Fin 8).val), 0] by
    have h0 : v.toNat < 16 := by have := h 0; change v.toNat + 1 ≤ 16 at this; omega
    rw [ex_val v h0]; rfl) _ _ _ fun _ => rfl)
theorem off15_eq : k0_off15 = ![((0 : Fin 2)).val, ((4 : Fin 8)).val] := by decide
theorem off16_eq : k0_off16 = ![((0 : Fin 2)).val, ((4 : Fin 8)).val, 0, 0] := by decide
@[sl_canon] theorem canon_pcell15 (h) : (cc0_scratch11.slice (Rect.unit (s := S2x8) k0_off15 S1x1.size h)).squeeze S_ squeezes_S1x1_S_ = wcell 0 4 :=
  congrArg (fun m : DmaSems sig S1x1 => m.squeeze S_ squeezes_S1x1_S_) (SemArray.slice_unit_congr _ off15_eq _ _)
@[sl_canon] theorem canon_pslot15 (h hs) : (sW.slice (Rect.unit (s := S2x8x512x3072) k0_off16 S1x1x512x3072.size h) hs).squeeze S512x3072 squeezes_S1x1x512x3072_S512x3072 = wslot 0 4 :=
  congrArg (fun m : Memref sig .tc .vmem S1x1x512x3072 .fp8e4m3 => m.squeeze S512x3072 squeezes_S1x1x512x3072_S512x3072) (Memref.slice_unit_congr _ off16_eq _ _ _ fun _ => rfl)
@[sl_canon] theorem canon_psrc15 (v : BitVec 32) (h hs) : (mW.slice (Rect.unit (s := S16x4096x3072) (k0_off17 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off17 v = ![(ex v).val, 512 * ((4 : Fin 8).val), 0] by
    have h0 : v.toNat < 16 := by have := h 0; change v.toNat + 1 ≤ 16 at this; omega
    rw [ex_val v h0]; rfl) _ _ _ fun _ => rfl)
theorem off18_eq : k0_off18 = ![((0 : Fin 2)).val, ((5 : Fin 8)).val] := by decide
theorem off19_eq : k0_off19 = ![((0 : Fin 2)).val, ((5 : Fin 8)).val, 0, 0] := by decide
@[sl_canon] theorem canon_pcell18 (h) : (cc0_scratch11.slice (Rect.unit (s := S2x8) k0_off18 S1x1.size h)).squeeze S_ squeezes_S1x1_S_ = wcell 0 5 :=
  congrArg (fun m : DmaSems sig S1x1 => m.squeeze S_ squeezes_S1x1_S_) (SemArray.slice_unit_congr _ off18_eq _ _)
@[sl_canon] theorem canon_pslot18 (h hs) : (sW.slice (Rect.unit (s := S2x8x512x3072) k0_off19 S1x1x512x3072.size h) hs).squeeze S512x3072 squeezes_S1x1x512x3072_S512x3072 = wslot 0 5 :=
  congrArg (fun m : Memref sig .tc .vmem S1x1x512x3072 .fp8e4m3 => m.squeeze S512x3072 squeezes_S1x1x512x3072_S512x3072) (Memref.slice_unit_congr _ off19_eq _ _ _ fun _ => rfl)
@[sl_canon] theorem canon_psrc18 (v : BitVec 32) (h hs) : (mW.slice (Rect.unit (s := S16x4096x3072) (k0_off20 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off20 v = ![(ex v).val, 512 * ((5 : Fin 8).val), 0] by
    have h0 : v.toNat < 16 := by have := h 0; change v.toNat + 1 ≤ 16 at this; omega
    rw [ex_val v h0]; rfl) _ _ _ fun _ => rfl)
theorem off21_eq : k0_off21 = ![((0 : Fin 2)).val, ((6 : Fin 8)).val] := by decide
theorem off22_eq : k0_off22 = ![((0 : Fin 2)).val, ((6 : Fin 8)).val, 0, 0] := by decide
@[sl_canon] theorem canon_pcell21 (h) : (cc0_scratch11.slice (Rect.unit (s := S2x8) k0_off21 S1x1.size h)).squeeze S_ squeezes_S1x1_S_ = wcell 0 6 :=
  congrArg (fun m : DmaSems sig S1x1 => m.squeeze S_ squeezes_S1x1_S_) (SemArray.slice_unit_congr _ off21_eq _ _)
@[sl_canon] theorem canon_pslot21 (h hs) : (sW.slice (Rect.unit (s := S2x8x512x3072) k0_off22 S1x1x512x3072.size h) hs).squeeze S512x3072 squeezes_S1x1x512x3072_S512x3072 = wslot 0 6 :=
  congrArg (fun m : Memref sig .tc .vmem S1x1x512x3072 .fp8e4m3 => m.squeeze S512x3072 squeezes_S1x1x512x3072_S512x3072) (Memref.slice_unit_congr _ off22_eq _ _ _ fun _ => rfl)
@[sl_canon] theorem canon_psrc21 (v : BitVec 32) (h hs) : (mW.slice (Rect.unit (s := S16x4096x3072) (k0_off23 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off23 v = ![(ex v).val, 512 * ((6 : Fin 8).val), 0] by
    have h0 : v.toNat < 16 := by have := h 0; change v.toNat + 1 ≤ 16 at this; omega
    rw [ex_val v h0]; rfl) _ _ _ fun _ => rfl)
theorem off24_eq : k0_off24 = ![((0 : Fin 2)).val, ((7 : Fin 8)).val] := by decide
theorem off25_eq : k0_off25 = ![((0 : Fin 2)).val, ((7 : Fin 8)).val, 0, 0] := by decide
@[sl_canon] theorem canon_pcell24 (h) : (cc0_scratch11.slice (Rect.unit (s := S2x8) k0_off24 S1x1.size h)).squeeze S_ squeezes_S1x1_S_ = wcell 0 7 :=
  congrArg (fun m : DmaSems sig S1x1 => m.squeeze S_ squeezes_S1x1_S_) (SemArray.slice_unit_congr _ off24_eq _ _)
@[sl_canon] theorem canon_pslot24 (h hs) : (sW.slice (Rect.unit (s := S2x8x512x3072) k0_off25 S1x1x512x3072.size h) hs).squeeze S512x3072 squeezes_S1x1x512x3072_S512x3072 = wslot 0 7 :=
  congrArg (fun m : Memref sig .tc .vmem S1x1x512x3072 .fp8e4m3 => m.squeeze S512x3072 squeezes_S1x1x512x3072_S512x3072) (Memref.slice_unit_congr _ off25_eq _ _ _ fun _ => rfl)
@[sl_canon] theorem canon_psrc24 (v : BitVec 32) (h hs) : (mW.slice (Rect.unit (s := S16x4096x3072) (k0_off26 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off26 v = ![(ex v).val, 512 * ((7 : Fin 8).val), 0] by
    have h0 : v.toNat < 16 := by have := h 0; change v.toNat + 1 ≤ 16 at this; omega
    rw [ex_val v h0]; rfl) _ _ _ fun _ => rfl)
theorem off27_eq : k0_off27 = ![((1 : Fin 2)).val, ((0 : Fin 8)).val] := by decide
theorem off28_eq : k0_off28 = ![((1 : Fin 2)).val, ((0 : Fin 8)).val, 0, 0] := by decide
@[sl_canon] theorem canon_pcell27 (h) : (cc0_scratch11.slice (Rect.unit (s := S2x8) k0_off27 S1x1.size h)).squeeze S_ squeezes_S1x1_S_ = wcell 1 0 :=
  congrArg (fun m : DmaSems sig S1x1 => m.squeeze S_ squeezes_S1x1_S_) (SemArray.slice_unit_congr _ off27_eq _ _)
@[sl_canon] theorem canon_pslot27 (h hs) : (sW.slice (Rect.unit (s := S2x8x512x3072) k0_off28 S1x1x512x3072.size h) hs).squeeze S512x3072 squeezes_S1x1x512x3072_S512x3072 = wslot 1 0 :=
  congrArg (fun m : Memref sig .tc .vmem S1x1x512x3072 .fp8e4m3 => m.squeeze S512x3072 squeezes_S1x1x512x3072_S512x3072) (Memref.slice_unit_congr _ off28_eq _ _ _ fun _ => rfl)
@[sl_canon] theorem canon_psrc27 (v : BitVec 32) (h hs) : (mW.slice (Rect.unit (s := S16x4096x3072) (k0_off29 v) S1x512x3072.size h) hs).squeeze S512x3072 squeezes_S1x512x3072_S512x3072 = wsrc (ex v) 0 :=
  congrArg (fun m : Memref sig .tc .hbm S1x512x3072 .fp8e4m3 => m.squeeze S512x3072 squeezes_S1x512x3072_S512x3072) (Memref.slice_unit_congr _ (show k0_off29 v = ![(ex v).val, 512 * ((0 : Fin 8).val), 0] by
    have h0 : v.toNat < 16 := by have := h 0; change v.toNat + 1 ≤ 16 at this; omega
    rw [ex_val v h0]; rfl) _ _ _ fun _ => rfl)
theorem off30_eq : k0_off30 = ![((1 : Fin 2)).val, ((1 : Fin 8)).val] := by decide
theorem off31_eq : k0_off31 = ![((1 : Fin 2)).val, ((1 : Fin 8)).val, 0, 0] := by decide
@[sl_canon] theorem canon_pcell30 (h) : (cc0_scratch11.slice (Rect.unit (s := S2x8) k0_off30 S1x1.size h)).squeeze S_ squeezes_S1x1_S_ = wcell 1 1 :=
  congrArg (fun m : DmaSems sig S1x1 => m.squeeze S_ squeezes_S1x1_S_) (SemArray.slice_unit_congr _ off30_eq _ _)
@[sl_canon] theorem canon_pslot30 (h hs) : (sW.slice (Rect.unit (s := S2x8x512x3072) k0_off31 S1x1x512x3072.size h) hs).squeeze S512x3072 squeezes_S1x1x512x3072_S512x3072 = wslot 1 1 :=
  congrArg (fun m : Memref sig .tc .vmem S1x1x512x3072 .fp8e4m3 => m.squeeze S512x3072 squeezes_S1x1x512x3072_S512x3072) (Memref.slice_unit_congr _ off31_eq _ _ _ fun _ => rfl)
@[sl_canon] theorem canon_psrc30 (v : BitVec 32) (h hs) : (mW.slice (Rect.unit (s := S16x4096x3072) (k0_off32 v) S1x512x3072.size h) hs).squeeze S512x3072 squeezes_S1x512x3072_S512x3072 = wsrc (ex v) 1 :=
  congrArg (fun m : Memref sig .tc .hbm S1x512x3072 .fp8e4m3 => m.squeeze S512x3072 squeezes_S1x512x3072_S512x3072) (Memref.slice_unit_congr _ (show k0_off32 v = ![(ex v).val, 512 * ((1 : Fin 8).val), 0] by
    have h0 : v.toNat < 16 := by have := h 0; change v.toNat + 1 ≤ 16 at this; omega
    rw [ex_val v h0]; rfl) _ _ _ fun _ => rfl)
theorem off33_eq : k0_off33 = ![((1 : Fin 2)).val, ((2 : Fin 8)).val] := by decide
theorem off34_eq : k0_off34 = ![((1 : Fin 2)).val, ((2 : Fin 8)).val, 0, 0] := by decide
@[sl_canon] theorem canon_pcell33 (h) : (cc0_scratch11.slice (Rect.unit (s := S2x8) k0_off33 S1x1.size h)).squeeze S_ squeezes_S1x1_S_ = wcell 1 2 :=
  congrArg (fun m : DmaSems sig S1x1 => m.squeeze S_ squeezes_S1x1_S_) (SemArray.slice_unit_congr _ off33_eq _ _)
@[sl_canon] theorem canon_pslot33 (h hs) : (sW.slice (Rect.unit (s := S2x8x512x3072) k0_off34 S1x1x512x3072.size h) hs).squeeze S512x3072 squeezes_S1x1x512x3072_S512x3072 = wslot 1 2 :=
  congrArg (fun m : Memref sig .tc .vmem S1x1x512x3072 .fp8e4m3 => m.squeeze S512x3072 squeezes_S1x1x512x3072_S512x3072) (Memref.slice_unit_congr _ off34_eq _ _ _ fun _ => rfl)
@[sl_canon] theorem canon_psrc33 (v : BitVec 32) (h hs) : (mW.slice (Rect.unit (s := S16x4096x3072) (k0_off35 v) S1x512x3072.size h) hs).squeeze S512x3072 squeezes_S1x512x3072_S512x3072 = wsrc (ex v) 2 :=
  congrArg (fun m : Memref sig .tc .hbm S1x512x3072 .fp8e4m3 => m.squeeze S512x3072 squeezes_S1x512x3072_S512x3072) (Memref.slice_unit_congr _ (show k0_off35 v = ![(ex v).val, 512 * ((2 : Fin 8).val), 0] by
    have h0 : v.toNat < 16 := by have := h 0; change v.toNat + 1 ≤ 16 at this; omega
    rw [ex_val v h0]; rfl) _ _ _ fun _ => rfl)
theorem off36_eq : k0_off36 = ![((1 : Fin 2)).val, ((3 : Fin 8)).val] := by decide
theorem off37_eq : k0_off37 = ![((1 : Fin 2)).val, ((3 : Fin 8)).val, 0, 0] := by decide
@[sl_canon] theorem canon_pcell36 (h) : (cc0_scratch11.slice (Rect.unit (s := S2x8) k0_off36 S1x1.size h)).squeeze S_ squeezes_S1x1_S_ = wcell 1 3 :=
  congrArg (fun m : DmaSems sig S1x1 => m.squeeze S_ squeezes_S1x1_S_) (SemArray.slice_unit_congr _ off36_eq _ _)
@[sl_canon] theorem canon_pslot36 (h hs) : (sW.slice (Rect.unit (s := S2x8x512x3072) k0_off37 S1x1x512x3072.size h) hs).squeeze S512x3072 squeezes_S1x1x512x3072_S512x3072 = wslot 1 3 :=
  congrArg (fun m : Memref sig .tc .vmem S1x1x512x3072 .fp8e4m3 => m.squeeze S512x3072 squeezes_S1x1x512x3072_S512x3072) (Memref.slice_unit_congr _ off37_eq _ _ _ fun _ => rfl)
@[sl_canon] theorem canon_psrc36 (v : BitVec 32) (h hs) : (mW.slice (Rect.unit (s := S16x4096x3072) (k0_off38 v) S1x512x3072.size h) hs).squeeze S512x3072 squeezes_S1x512x3072_S512x3072 = wsrc (ex v) 3 :=
  congrArg (fun m : Memref sig .tc .hbm S1x512x3072 .fp8e4m3 => m.squeeze S512x3072 squeezes_S1x512x3072_S512x3072) (Memref.slice_unit_congr _ (show k0_off38 v = ![(ex v).val, 512 * ((3 : Fin 8).val), 0] by
    have h0 : v.toNat < 16 := by have := h 0; change v.toNat + 1 ≤ 16 at this; omega
    rw [ex_val v h0]; rfl) _ _ _ fun _ => rfl)
theorem off39_eq : k0_off39 = ![((1 : Fin 2)).val, ((4 : Fin 8)).val] := by decide
theorem off40_eq : k0_off40 = ![((1 : Fin 2)).val, ((4 : Fin 8)).val, 0, 0] := by decide
@[sl_canon] theorem canon_pcell39 (h) : (cc0_scratch11.slice (Rect.unit (s := S2x8) k0_off39 S1x1.size h)).squeeze S_ squeezes_S1x1_S_ = wcell 1 4 :=
  congrArg (fun m : DmaSems sig S1x1 => m.squeeze S_ squeezes_S1x1_S_) (SemArray.slice_unit_congr _ off39_eq _ _)
@[sl_canon] theorem canon_pslot39 (h hs) : (sW.slice (Rect.unit (s := S2x8x512x3072) k0_off40 S1x1x512x3072.size h) hs).squeeze S512x3072 squeezes_S1x1x512x3072_S512x3072 = wslot 1 4 :=
  congrArg (fun m : Memref sig .tc .vmem S1x1x512x3072 .fp8e4m3 => m.squeeze S512x3072 squeezes_S1x1x512x3072_S512x3072) (Memref.slice_unit_congr _ off40_eq _ _ _ fun _ => rfl)
@[sl_canon] theorem canon_psrc39 (v : BitVec 32) (h hs) : (mW.slice (Rect.unit (s := S16x4096x3072) (k0_off41 v) S1x512x3072.size h) hs).squeeze S512x3072 squeezes_S1x512x3072_S512x3072 = wsrc (ex v) 4 :=
  congrArg (fun m : Memref sig .tc .hbm S1x512x3072 .fp8e4m3 => m.squeeze S512x3072 squeezes_S1x512x3072_S512x3072) (Memref.slice_unit_congr _ (show k0_off41 v = ![(ex v).val, 512 * ((4 : Fin 8).val), 0] by
    have h0 : v.toNat < 16 := by have := h 0; change v.toNat + 1 ≤ 16 at this; omega
    rw [ex_val v h0]; rfl) _ _ _ fun _ => rfl)
theorem off42_eq : k0_off42 = ![((1 : Fin 2)).val, ((5 : Fin 8)).val] := by decide
theorem off43_eq : k0_off43 = ![((1 : Fin 2)).val, ((5 : Fin 8)).val, 0, 0] := by decide
@[sl_canon] theorem canon_pcell42 (h) : (cc0_scratch11.slice (Rect.unit (s := S2x8) k0_off42 S1x1.size h)).squeeze S_ squeezes_S1x1_S_ = wcell 1 5 :=
  congrArg (fun m : DmaSems sig S1x1 => m.squeeze S_ squeezes_S1x1_S_) (SemArray.slice_unit_congr _ off42_eq _ _)
@[sl_canon] theorem canon_pslot42 (h hs) : (sW.slice (Rect.unit (s := S2x8x512x3072) k0_off43 S1x1x512x3072.size h) hs).squeeze S512x3072 squeezes_S1x1x512x3072_S512x3072 = wslot 1 5 :=
  congrArg (fun m : Memref sig .tc .vmem S1x1x512x3072 .fp8e4m3 => m.squeeze S512x3072 squeezes_S1x1x512x3072_S512x3072) (Memref.slice_unit_congr _ off43_eq _ _ _ fun _ => rfl)
@[sl_canon] theorem canon_psrc42 (v : BitVec 32) (h hs) : (mW.slice (Rect.unit (s := S16x4096x3072) (k0_off44 v) S1x512x3072.size h) hs).squeeze S512x3072 squeezes_S1x512x3072_S512x3072 = wsrc (ex v) 5 :=
  congrArg (fun m : Memref sig .tc .hbm S1x512x3072 .fp8e4m3 => m.squeeze S512x3072 squeezes_S1x512x3072_S512x3072) (Memref.slice_unit_congr _ (show k0_off44 v = ![(ex v).val, 512 * ((5 : Fin 8).val), 0] by
    have h0 : v.toNat < 16 := by have := h 0; change v.toNat + 1 ≤ 16 at this; omega
    rw [ex_val v h0]; rfl) _ _ _ fun _ => rfl)
theorem off45_eq : k0_off45 = ![((1 : Fin 2)).val, ((6 : Fin 8)).val] := by decide
theorem off46_eq : k0_off46 = ![((1 : Fin 2)).val, ((6 : Fin 8)).val, 0, 0] := by decide
@[sl_canon] theorem canon_pcell45 (h) : (cc0_scratch11.slice (Rect.unit (s := S2x8) k0_off45 S1x1.size h)).squeeze S_ squeezes_S1x1_S_ = wcell 1 6 :=
  congrArg (fun m : DmaSems sig S1x1 => m.squeeze S_ squeezes_S1x1_S_) (SemArray.slice_unit_congr _ off45_eq _ _)
@[sl_canon] theorem canon_pslot45 (h hs) : (sW.slice (Rect.unit (s := S2x8x512x3072) k0_off46 S1x1x512x3072.size h) hs).squeeze S512x3072 squeezes_S1x1x512x3072_S512x3072 = wslot 1 6 :=
  congrArg (fun m : Memref sig .tc .vmem S1x1x512x3072 .fp8e4m3 => m.squeeze S512x3072 squeezes_S1x1x512x3072_S512x3072) (Memref.slice_unit_congr _ off46_eq _ _ _ fun _ => rfl)
@[sl_canon] theorem canon_psrc45 (v : BitVec 32) (h hs) : (mW.slice (Rect.unit (s := S16x4096x3072) (k0_off47 v) S1x512x3072.size h) hs).squeeze S512x3072 squeezes_S1x512x3072_S512x3072 = wsrc (ex v) 6 :=
  congrArg (fun m : Memref sig .tc .hbm S1x512x3072 .fp8e4m3 => m.squeeze S512x3072 squeezes_S1x512x3072_S512x3072) (Memref.slice_unit_congr _ (show k0_off47 v = ![(ex v).val, 512 * ((6 : Fin 8).val), 0] by
    have h0 : v.toNat < 16 := by have := h 0; change v.toNat + 1 ≤ 16 at this; omega
    rw [ex_val v h0]; rfl) _ _ _ fun _ => rfl)
theorem off48_eq : k0_off48 = ![((1 : Fin 2)).val, ((7 : Fin 8)).val] := by decide
theorem off49_eq : k0_off49 = ![((1 : Fin 2)).val, ((7 : Fin 8)).val, 0, 0] := by decide
@[sl_canon] theorem canon_pcell48 (h) : (cc0_scratch11.slice (Rect.unit (s := S2x8) k0_off48 S1x1.size h)).squeeze S_ squeezes_S1x1_S_ = wcell 1 7 :=
  congrArg (fun m : DmaSems sig S1x1 => m.squeeze S_ squeezes_S1x1_S_) (SemArray.slice_unit_congr _ off48_eq _ _)
@[sl_canon] theorem canon_pslot48 (h hs) : (sW.slice (Rect.unit (s := S2x8x512x3072) k0_off49 S1x1x512x3072.size h) hs).squeeze S512x3072 squeezes_S1x1x512x3072_S512x3072 = wslot 1 7 :=
  congrArg (fun m : Memref sig .tc .vmem S1x1x512x3072 .fp8e4m3 => m.squeeze S512x3072 squeezes_S1x1x512x3072_S512x3072) (Memref.slice_unit_congr _ off49_eq _ _ _ fun _ => rfl)
@[sl_canon] theorem canon_psrc48 (v : BitVec 32) (h hs) : (mW.slice (Rect.unit (s := S16x4096x3072) (k0_off50 v) S1x512x3072.size h) hs).squeeze S512x3072 squeezes_S1x512x3072_S512x3072 = wsrc (ex v) 7 :=
  congrArg (fun m : Memref sig .tc .hbm S1x512x3072 .fp8e4m3 => m.squeeze S512x3072 squeezes_S1x512x3072_S512x3072) (Memref.slice_unit_congr _ (show k0_off50 v = ![(ex v).val, 512 * ((7 : Fin 8).val), 0] by
    have h0 : v.toNat < 16 := by have := h 0; change v.toNat + 1 ≤ 16 at this; omega
    rw [ex_val v h0]; rfl) _ _ _ fun _ => rfl)

theorem cond1_all : ∀ v : Fin 17, k0_cond1 (BitVec.ofNat 32 v.val) = 1#1 ↔ 0 < v.val := by decide +kernel
theorem cond1_lt {v : BitVec 32} (h : v.toNat < 17) : k0_cond1 v = 1#1 ↔ 0 < v.toNat := by have := cond1_all ⟨v.toNat, h⟩; simpa using this
theorem cond2_all : ∀ v : Fin 17, k0_cond2 (BitVec.ofNat 32 v.val) = 1#1 ↔ 1 < v.val := by decide +kernel
theorem cond2_lt {v : BitVec 32} (h : v.toNat < 17) : k0_cond2 v = 1#1 ↔ 1 < v.toNat := by have := cond2_all ⟨v.toNat, h⟩; simpa using this

theorem obrow_we (e : Fin 16) : (obrow e).view.WordExact := by
  have h := ((Memref.isWhole_whole cc0_scratch7).wordExact_slice rfl _ (k0_off53_wordsbf16 ⟨e.val, e.isLt⟩)).reshape S8x3072 squeezes_S1x8x3072_S8x3072.numel_eq
  show (obrow (r2 ⟨e.val, e.isLt⟩)).view.WordExact
  rw [← canon_obrow2 ⟨e.val, e.isLt⟩ (k0_off53_inb _) (fun _ => rfl)]
  exact h
theorem outrow_we (e : Fin 16) : (outrow e).view.WordExact := by
  have h := ((Memref.isWhole_whole main_v0).wordExact_slice rfl _ (k0_off53_wordsbf16 ⟨e.val, e.isLt⟩)).reshape S8x3072 squeezes_S1x8x3072_S8x3072.numel_eq
  show (outrow (r2 ⟨e.val, e.isLt⟩)).view.WordExact
  rw [← canon_outrow2 ⟨e.val, e.isLt⟩ (k0_off53_inb _) (fun _ => rfl)]
  exact h

/-- Before trip `k` of the loop over all experts: the rows of the first `k` experts without tokens have been started out. -/
def t2Inv (c : Dev nD) (fg : Buf (Elt F) (sGs.view.loc (c : Thread nD τ))) (fo : Buf (Elt F) (mOut.view.loc (c : Thread nD τ))) (Pt : Fin 16 → Vec F S1x8x3072 .bf16) (k : Nat) (_ : Unit) : sProp 𝕄 :=
  iprop(ptsW c sGs fg ∗ obatch c (isAct fg) fo Pt (cnt (fun i => !isAct fg i) k) 0 ∗ orows c (isAct fg) fo (cnt (fun i => !isAct fg i) k))

theorem t2_step (c : Dev nD) (fg : Buf (Elt F) (sGs.view.loc (c : Thread nD τ))) (fo : Buf (Elt F) (mOut.view.loc (c : Thread nD τ))) (Pt : Fin 16 → Vec F S1x8x3072 .bf16)
    (hPt : ∀ t : Fin 16, t.val < nE (isAct fg) → Pt t = k0_pay1 (F := F)) (k : Fin k0_t2_loop.trips) (a : Unit) :
    t2Inv c fg fo Pt k.val a ⊢ wp frame (wpE (defs₀ (F := F)) Variants.none (c : Thread nD τ) none) Set.univ
        (k0_t2_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 k a) (t2Inv c fg fo Pt (k.val + 1)) := by
  have hk : k.val < 16 := k.isLt
  cases ha : isAct fg k.val
  · have hs : cnt (fun i => !isAct fg i) (k.val + 1) = cnt (fun i => !isAct fg i) k.val + 1 := by rw [cnt_succ, if_pos (by simp [ha])]
    have hj : cnt (fun i => !isAct fg i) k.val < nE (isAct fg) := by
      have := cnt_mono (fun i => !isAct fg i) (m := k.val + 1) 16 (by omega)
      unfold nE; omega
    have hj16 : cnt (fun i => !isAct fg i) k.val < 16 := by have := cnt_le (fun i => !isAct fg i) 16; unfold nE at hj; omega
    have he : ord (isAct fg) ⟨cnt (fun i => !isAct fg i) k.val, hj16⟩ = r2 k := ord_empty (isAct fg) (r2 k) ha hj16
    unfold t2Inv orows
    rw [hs, Ring.bigSep_rangeSet_head hj16 hj16, he]
    iintro ⟨HG, HB, ⟨⟨⟨%f, Hob⟩, Hout⟩, HR⟩⟩
    iapply (t2_trip c fg k ha (obrow_we _) (outrow_we _) (k0_off52_inb k) f _)
    isplitl [HG]; iexact HG
    isplitl [Hob]; iexact Hob
    iintro ⟨HG, Hob⟩
    ihave Hob := (Entails.of_eq (store_row c (r2 k) _ (off52_eq k) (k0_off52_inb k) f (k0_pay1 (F := F)))) $$ Hob
    iapply (tail_issue c (isAct fg) fo Pt _ hj16 (r2 k) he (obrow_we _) (outrow_we _) _)
    rw [hPt ⟨_, hj16⟩ hj]
    isplitl [Hob]; iexact Hob
    isplitl [Hout]; iexact Hout
    isplitl [HB]; iexact HB
    iintro HB
    isplitl [HG]; iexact HG
    isplitl [HB]; iexact HB
    iexact HR
  · have hs : cnt (fun i => !isAct fg i) (k.val + 1) = cnt (fun i => !isAct fg i) k.val := by rw [cnt_succ, if_neg (by simp [ha])]; rfl
    unfold t2Inv
    rw [hs]
    iintro ⟨HG, HB, HR⟩
    iapply (t2_skip c fg k ha _)
    isplitl [HG]; iexact HG
    iintro HG
    isplitl [HG]; iexact HG
    isplitl [HB]; iexact HB
    iexact HR

end Cert.Kernel.Gen

end
-- ==== Proof.K.Start.lean ====
module

public import proofs.«01_k».proof.Proof.K.Pre

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The eight starts of an entry's chunks, under the condition they are made: in flight when it holds, at rest when not. -/
theorem start_wst (c : Dev nD) (fw : Buf (Elt F) (mW.view.loc (c : Thread nD τ))) (fa : Buf (Elt F) (sAct.view.loc (c : Thread nD τ))) (s : Fin 2) (n : Nat) (hs : s = par n)
    (C : Prop) [Decidable C] (e0 : C → Fin 16) (e1 : C → Fin 16) (e2 : C → Fin 16) (e3 : C → Fin 16) (e4 : C → Fin 16) (e5 : C → Fin 16) (e6 : C → Fin 16) (e7 : C → Fin 16) (he0 : ∀ hc, actIs fa n (e0 hc)) (he1 : ∀ hc, actIs fa n (e1 hc)) (he2 : ∀ hc, actIs fa n (e2 hc)) (he3 : ∀ hc, actIs fa n (e3 hc)) (he4 : ∀ hc, actIs fa n (e4 hc)) (he5 : ∀ hc, actIs fa n (e5 hc)) (he6 : ∀ hc, actIs fa n (e6 hc)) (he7 : ∀ hc, actIs fa n (e7 hc)) (f0 : Buf (Elt F) ((wslot s 0).view.loc (c : Thread nD τ))) (f1 : Buf (Elt F) ((wslot s 1).view.loc (c : Thread nD τ))) (f2 : Buf (Elt F) ((wslot s 2).view.loc (c : Thread nD τ))) (f3 : Buf (Elt F) ((wslot s 3).view.loc (c : Thread nD τ))) (f4 : Buf (Elt F) ((wslot s 4).view.loc (c : Thread nD τ))) (f5 : Buf (Elt F) ((wslot s 5).view.loc (c : Thread nD τ))) (f6 : Buf (Elt F) ((wslot s 6).view.loc (c : Thread nD τ))) (f7 : Buf (Elt F) ((wslot s 7).view.loc (c : Thread nD τ))) :
    iprop(Guarded C (fun hc => iprop(wflight c s 0 iprop(ptsS c (wslot s 0) ((wslot s 0).view.writes (Elt F) f0 [⟨Rect.whole S512x3072, ReadAs.same.apply ((wsrc (e0 hc) 0).view.read (Elt F) fw)⟩]) ∗ wtok c s 0 (wsrc (e0 hc) 0).view.set fw) ∗ wflight c s 1 iprop(ptsS c (wslot s 1) ((wslot s 1).view.writes (Elt F) f1 [⟨Rect.whole S512x3072, ReadAs.same.apply ((wsrc (e1 hc) 1).view.read (Elt F) fw)⟩]) ∗ wtok c s 1 (wsrc (e1 hc) 1).view.set fw) ∗ wflight c s 2 iprop(ptsS c (wslot s 2) ((wslot s 2).view.writes (Elt F) f2 [⟨Rect.whole S512x3072, ReadAs.same.apply ((wsrc (e2 hc) 2).view.read (Elt F) fw)⟩]) ∗ wtok c s 2 (wsrc (e2 hc) 2).view.set fw) ∗ wflight c s 3 iprop(ptsS c (wslot s 3) ((wslot s 3).view.writes (Elt F) f3 [⟨Rect.whole S512x3072, ReadAs.same.apply ((wsrc (e3 hc) 3).view.read (Elt F) fw)⟩]) ∗ wtok c s 3 (wsrc (e3 hc) 3).view.set fw) ∗ wflight c s 4 iprop(ptsS c (wslot s 4) ((wslot s 4).view.writes (Elt F) f4 [⟨Rect.whole S512x3072, ReadAs.same.apply ((wsrc (e4 hc) 4).view.read (Elt F) fw)⟩]) ∗ wtok c s 4 (wsrc (e4 hc) 4).view.set fw) ∗ wflight c s 5 iprop(ptsS c (wslot s 5) ((wslot s 5).view.writes (Elt F) f5 [⟨Rect.whole S512x3072, ReadAs.same.apply ((wsrc (e5 hc) 5).view.read (Elt F) fw)⟩]) ∗ wtok c s 5 (wsrc (e5 hc) 5).view.set fw) ∗ wflight c s 6 iprop(ptsS c (wslot s 6) ((wslot s 6).view.writes (Elt F) f6 [⟨Rect.whole S512x3072, ReadAs.same.apply ((wsrc (e6 hc) 6).view.read (Elt F) fw)⟩]) ∗ wtok c s 6 (wsrc (e6 hc) 6).view.set fw) ∗ wflight c s 7 iprop(ptsS c (wslot s 7) ((wslot s 7).view.writes (Elt F) f7 [⟨Rect.whole S512x3072, ReadAs.same.apply ((wsrc (e7 hc) 7).view.read (Elt F) fw)⟩]) ∗ wtok c s 7 (wsrc (e7 hc) 7).view.set fw))) (fun hn => iprop(semVal ((c : Thread nD τ), SemLoc.dma (wcell s 0).sem) 0 ∗ ptsS c (wslot s 0) f0 ∗ semVal ((c : Thread nD τ), SemLoc.dma (wcell s 1).sem) 0 ∗ ptsS c (wslot s 1) f1 ∗ semVal ((c : Thread nD τ), SemLoc.dma (wcell s 2).sem) 0 ∗ ptsS c (wslot s 2) f2 ∗ semVal ((c : Thread nD τ), SemLoc.dma (wcell s 3).sem) 0 ∗ ptsS c (wslot s 3) f3 ∗ semVal ((c : Thread nD τ), SemLoc.dma (wcell s 4).sem) 0 ∗ ptsS c (wslot s 4) f4 ∗ semVal ((c : Thread nD τ), SemLoc.dma (wcell s 5).sem) 0 ∗ ptsS c (wslot s 5) f5 ∗ semVal ((c : Thread nD τ), SemLoc.dma (wcell s 6).sem) 0 ∗ ptsS c (wslot s 6) f6 ∗ semVal ((c : Thread nD τ), SemLoc.dma (wcell s 7).sem) 0 ∗ ptsS c (wslot s 7) f7)) ∗ wtok c s 0 (Finset.univ \ gset C fun hc => (wsrc (e0 hc) 0).view.set) fw ∗ wtok c s 1 (Finset.univ \ gset C fun hc => (wsrc (e1 hc) 1).view.set) fw ∗ wtok c s 2 (Finset.univ \ gset C fun hc => (wsrc (e2 hc) 2).view.set) fw ∗ wtok c s 3 (Finset.univ \ gset C fun hc => (wsrc (e3 hc) 3).view.set) fw ∗ wtok c s 4 (Finset.univ \ gset C fun hc => (wsrc (e4 hc) 4).view.set) fw ∗ wtok c s 5 (Finset.univ \ gset C fun hc => (wsrc (e5 hc) 5).view.set) fw ∗ wtok c s 6 (Finset.univ \ gset C fun hc => (wsrc (e6 hc) 6).view.set) fw ∗ wtok c s 7 (Finset.univ \ gset C fun hc => (wsrc (e7 hc) 7).view.set) fw) ⊢ (iprop(wst c fw fa (C) (n) 0 ∗ wst c fw fa (C) (n) 1 ∗ wst c fw fa (C) (n) 2 ∗ wst c fw fa (C) (n) 3 ∗ wst c fw fa (C) (n) 4 ∗ wst c fw fa (C) (n) 5 ∗ wst c fw fa (C) (n) 6 ∗ wst c fw fa (C) (n) 7) : sProp 𝕄) := by
  subst hs
  simp only [wst]
  by_cases hc : C
  · simp only [Guarded, gset, hc, ↓reduceDIte, ↓reduceIte]
    iintro ⟨⟨R0, R1, R2, R3, R4, R5, R6, R7⟩, T0, T1, T2, T3, T4, T5, T6, T7⟩
    isplitl [R0 T0]
    · iexists e0 hc; isplitr; ipureintro; exact he0 hc
      isplitl [R0]; iexists f0; iexact R0; iexact T0
    isplitl [R1 T1]
    · iexists e1 hc; isplitr; ipureintro; exact he1 hc
      isplitl [R1]; iexists f1; iexact R1; iexact T1
    isplitl [R2 T2]
    · iexists e2 hc; isplitr; ipureintro; exact he2 hc
      isplitl [R2]; iexists f2; iexact R2; iexact T2
    isplitl [R3 T3]
    · iexists e3 hc; isplitr; ipureintro; exact he3 hc
      isplitl [R3]; iexists f3; iexact R3; iexact T3
    isplitl [R4 T4]
    · iexists e4 hc; isplitr; ipureintro; exact he4 hc
      isplitl [R4]; iexists f4; iexact R4; iexact T4
    isplitl [R5 T5]
    · iexists e5 hc; isplitr; ipureintro; exact he5 hc
      isplitl [R5]; iexists f5; iexact R5; iexact T5
    isplitl [R6 T6]
    · iexists e6 hc; isplitr; ipureintro; exact he6 hc
      isplitl [R6]; iexists f6; iexact R6; iexact T6

    · iexists e7 hc; isplitr; ipureintro; exact he7 hc
      isplitl [R7]; iexists f7; iexact R7; iexact T7
  · simp only [Guarded, gset, hc, ↓reduceDIte, ↓reduceIte, Finset.sdiff_empty]
    iintro ⟨⟨C0, R0, C1, R1, C2, R2, C3, R3, C4, R4, C5, R5, C6, R6, C7, R7⟩, T0, T1, T2, T3, T4, T5, T6, T7⟩
    isplitl [C0 R0 T0]
    · isplitl [C0]; iexact C0; isplitl [R0]; iexists f0; iexact R0; iexact T0
    isplitl [C1 R1 T1]
    · isplitl [C1]; iexact C1; isplitl [R1]; iexists f1; iexact R1; iexact T1
    isplitl [C2 R2 T2]
    · isplitl [C2]; iexact C2; isplitl [R2]; iexists f2; iexact R2; iexact T2
    isplitl [C3 R3 T3]
    · isplitl [C3]; iexact C3; isplitl [R3]; iexists f3; iexact R3; iexact T3
    isplitl [C4 R4 T4]
    · isplitl [C4]; iexact C4; isplitl [R4]; iexists f4; iexact R4; iexact T4
    isplitl [C5 R5 T5]
    · isplitl [C5]; iexact C5; isplitl [R5]; iexists f5; iexact R5; iexact T5
    isplitl [C6 R6 T6]
    · isplitl [C6]; iexact C6; isplitl [R6]; iexists f6; iexact R6; iexact T6

    · isplitl [C7]; iexact C7; isplitl [R7]; iexists f7; iexact R7; iexact T7

end Cert.Kernel.Gen

end
-- ==== Proof.K.Trip.lean ====
module

public import proofs.«01_k».proof.Proof.K.Res

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copy of row `e` out, as a trip ends with it. -/
abbrev tripTail (e : Fin 16) (h₁ : (obrow e).view.WordExact) (h₂ : (outrow e).view.WordExact) : Prog (TpuEff nD τ sig (Elt F) Λ₀ .tc) Unit :=
  Prog.op (TpuEff.enqueueDma (obrow e) (DmaTarget.here (outrow e)) (SemLoc.dma cc0_scratch12.sem) h₁ h₂ ⟨Or.inl rfl, trivial⟩) fun _ => Pure.pure PUnit.unit

theorem act_at {c : Dev nD} (fa : Buf (Elt F) (sAct.view.loc (c : Thread nD τ))) (n : Nat) (e : Fin 16) (h : actIs fa n e) (off : Fin 1 → Nat) (ho : off 0 = n)
    (hi) (p) : (View.readAt (Elt F) sAct.view (Rect.unit (s := S17) off S1.size hi).toLoadRect fa (Shape.Idx.first p) : BitVec 32).toNat = e.val := by
  refine h _ ?_
  subst ho
  show off 0 + 1 * (Shape.Idx.first p 0).val = off 0
  have := (Shape.Idx.first p 0).isLt
  have h1 : (Shape.Idx.first p 0).val = 0 := by
    have h2 : (Shape.Idx.first p 0).val < 1 := (Shape.Idx.first p 0).isLt
    omega
  omega
theorem rd_lt {c : Dev nD} (fa : Buf (Elt F) (sAct.view.loc (c : Thread nD τ))) {T : Nat} (hact : ∀ i : S17.Idx, (i 0).val < T → (fa i : BitVec 32).toNat < 16) (n : Nat) (hn : n < T) (off : Fin 1 → Nat) (ho : off 0 = n)
    (hi) (p) : (View.readAt (Elt F) sAct.view (Rect.unit (s := S17) off S1.size hi).toLoadRect fa (Shape.Idx.first p) : BitVec 32).toNat < 16 := by
  refine hact _ ?_
  subst ho
  show off 0 + 1 * (Shape.Idx.first p 0).val < T
  have h2 : (Shape.Idx.first p 0).val < 1 := (Shape.Idx.first p 0).isLt
  omega
theorem off54_eq (v1 : BitVec 32) (k : Fin (k0_t3_loop v1).trips) : k0_off54 v1 k 0 = k.val := toNat_iv01 k.val (by have := t3_lt v1 k; omega)

/-- The expert the trip works on: entry `k` of the list of active experts. -/
abbrev tword (c : Dev nD) (v1 : BitVec 32) (hw18 : k0_chk18 v1) (k : Fin (k0_t3_loop v1).trips) (fa : Buf (Elt F) (sAct.view.loc (c : Thread nD τ))) : BitVec 32 :=
  View.readAt (Elt F) sAct.view (Rect.unit (s := S17) (k0_off54 v1 k) S1.size (k0_off54_inb v1 hw18 k)).toLoadRect fa (Shape.Idx.first (Nat.lt_of_lt_of_eq Nat.zero_lt_one numel1_S1.symm))

theorem tword_eq (c : Dev nD) (v1 : BitVec 32) (hw18 : k0_chk18 v1) (k : Fin (k0_t3_loop v1).trips) (fa : Buf (Elt F) (sAct.view.loc (c : Thread nD τ))) (e : Fin 16) (hea : actIs fa k.val e) :
    (tword c v1 hw18 k fa).toNat = e.val := act_at fa k.val e hea _ (off54_eq v1 k) _ _

theorem par_add2 (n : Nat) : par (n + 2) = par n := Fin.ext (by show (n + 2) % 2 = n % 2; omega)

theorem actIs_read {c : Dev nD} (fa : Buf (Elt F) (sAct.view.loc (c : Thread nD τ))) {T : Nat} (hact : ∀ i : S17.Idx, (i 0).val < T → (fa i : BitVec 32).toNat < 16) (n : Nat) (hn : n < T) (off : Fin 1 → Nat) (ho : off 0 = n)
    (hi) (p) : actIs fa n (ex (View.readAt (Elt F) sAct.view (Rect.unit (s := S17) off S1.size hi).toLoadRect fa (Shape.Idx.first p) : BitVec 32)) := by
  intro i hni
  have e1 : i = (sAct.view.emb ((Rect.unit (s := S17) off S1.size hi).toLoadRect.idx (Shape.Idx.first p))) := by
    funext a
    obtain rfl : a = 0 := Subsingleton.elim _ _
    refine Fin.ext ?_
    show (i 0).val = off 0 + 1 * (Shape.Idx.first p 0).val
    have h2 : (Shape.Idx.first p 0).val < 1 := (Shape.Idx.first p 0).isLt
    omega
  have e2 : (View.readAt (Elt F) sAct.view (Rect.unit (s := S17) off S1.size hi).toLoadRect fa (Shape.Idx.first p) : BitVec 32) = fa i := by rw [e1]; rfl
  rw [e2, ex_val _ (hact i (by omega))]

theorem toNat_iv2 (n : Nat) (h : n < 2 ^ 31 - 1) : (Scalar.addi (Scf.iv 0#32 1#32 n) 2#32).toNat = n + 2 := by
  have h1 := toNat_iv01 n (by omega)
  show (Scf.iv 0#32 1#32 n + 2#32).toNat = _
  rw [BitVec.toNat_add, h1]; show (n + 2) % 2 ^ 32 = _; omega

/-- A chunk in flight again, and the rest of its share of the weights, for the next but one entry. -/
theorem restart_wst (c : Dev nD) (fw : Buf (Elt F) (mW.view.loc (c : Thread nD τ))) (fa : Buf (Elt F) (sAct.view.loc (c : Thread nD τ))) (n : Nat) (k : Fin 8) (e : Fin 16) (he : actIs fa (n + 2) e)
    (C : Prop) [Decidable C] (hc : C) (f : Buf (Elt F) ((wslot (par n) k).view.loc (c : Thread nD τ))) (v) (q) (hv : v = ReadAs.same.apply ((wsrc e k).view.read (Elt F) fw)) :
    iprop(wflight c (par n) k iprop(ptsS c (wslot (par n) k) ((wslot (par n) k).view.writes (Elt F) f [⟨Rect.whole S512x3072, v⟩, q]) ∗ wtok c (par n) k (wsrc e k).view.set fw)
      ∗ wtok c (par n) k (Finset.univ \ (wsrc e k).view.set) fw) ⊢ (wst c fw fa C (n + 2) k : sProp 𝕄) := by
  subst hv
  rw [wst, if_pos hc, wnext, par_add2]
  iintro ⟨H, T⟩
  iexists e
  isplitr; ipureintro; exact he
  isplitl [H]
  · iexists (wslot (par n) k).view.writes (Elt F) f [q]
    iexact H
  · iexact T

theorem off94_val (v1 : BitVec 32) (k : Fin (k0_t3_loop v1).trips) : k0_off94 v1 k 0 = k.val + 2 := toNat_iv2 k.val (t3_lt v1 k)
theorem off104_val (v1 : BitVec 32) (k : Fin (k0_t3_loop v1).trips) : k0_off104 v1 k 0 = k.val + 2 := toNat_iv2 k.val (t3_lt v1 k)
theorem off114_val (v1 : BitVec 32) (k : Fin (k0_t3_loop v1).trips) : k0_off114 v1 k 0 = k.val + 2 := toNat_iv2 k.val (t3_lt v1 k)
theorem off124_val (v1 : BitVec 32) (k : Fin (k0_t3_loop v1).trips) : k0_off124 v1 k 0 = k.val + 2 := toNat_iv2 k.val (t3_lt v1 k)
theorem off134_val (v1 : BitVec 32) (k : Fin (k0_t3_loop v1).trips) : k0_off134 v1 k 0 = k.val + 2 := toNat_iv2 k.val (t3_lt v1 k)
theorem off144_val (v1 : BitVec 32) (k : Fin (k0_t3_loop v1).trips) : k0_off144 v1 k 0 = k.val + 2 := toNat_iv2 k.val (t3_lt v1 k)
theorem off154_val (v1 : BitVec 32) (k : Fin (k0_t3_loop v1).trips) : k0_off154 v1 k 0 = k.val + 2 := toNat_iv2 k.val (t3_lt v1 k)
theorem off164_val (v1 : BitVec 32) (k : Fin (k0_t3_loop v1).trips) : k0_off164 v1 k 0 = k.val + 2 := toNat_iv2 k.val (t3_lt v1 k)

/-- An element with a proof about it, the element left to the proof. -/
abbrev mkElem {A : Type} {P : A → Prop} {pay : A} (h : P pay) : {x // P x} := ⟨pay, h⟩

set_option maxHeartbeats 8000000 in
/-- One trip of the expert loop up to the copy out of its row: it lands the eight chunks of the expert's weights,
    starts the next but one expert's, and leaves the row in the staging buffer. -/
def trip1 (c : Dev nD) (v1 : BitVec 32) (hw18 : k0_chk18 v1) (k : Fin (k0_t3_loop v1).trips) (e : Fin 16)
    (fx : Buf (Elt F) (sX.view.loc (c : Thread nD τ))) (fws : Buf (Elt F) (sWs.view.loc (c : Thread nD τ)))
    (fa : Buf (Elt F) (sAct.view.loc (c : Thread nD τ))) (hv : v1.toNat < 17) (hact : ∀ i : S17.Idx, (i 0).val < (k0_t3_loop v1).trips → (fa i : BitVec 32).toNat < 16)
    (fg : Buf (Elt F) (sGs.view.loc (c : Thread nD τ)))
    (fw : Buf (Elt F) (mW.view.loc (c : Thread nD τ))) :
    { p : Vec F S1x8x3072 .bf16 // actIs fa k.val e → ∀ h₁ h₂ hin,
      ∀ (fxq : Buf (Elt F) (sXq.view.loc (c : Thread nD τ))) (fse : Buf (Elt F) (sSe.view.loc (c : Thread nD τ)))
        (W : Waits sig Unit) (fob : Buf (Elt F) ((obrow e).view.loc (c : Thread nD τ))) (K : Unit → sProp 𝕄),
      iprop(ptsW c sX fx ∗ ptsW c sWs fws ∗ ptsW c sAct fa ∗ ptsW c sGs fg ∗ ptsW c sXq fxq ∗ ptsW c sSe fse
        ∗ wfly c fw (par k.val) e 0 ∗ wfly c fw (par k.val) e 1 ∗ wfly c fw (par k.val) e 2 ∗ wfly c fw (par k.val) e 3 ∗ wfly c fw (par k.val) e 4 ∗ wfly c fw (par k.val) e 5 ∗ wfly c fw (par k.val) e 6 ∗ wfly c fw (par k.val) e 7
        ∗ ptsS c (obrow e) fob ∗ owes (c : Thread nD τ) 0 W
        ∗ (iprop(ptsW c sX fx ∗ ptsW c sWs fws ∗ ptsW c sAct fa ∗ ptsW c sGs fg ∗ (∃ f, ptsW c sXq f) ∗ (∃ f, ptsW c sSe f)
            ∗ wst c fw fa (k0_cond11 v1 k = 1#1) (k.val + 2) 0 ∗ wst c fw fa (k0_cond11 v1 k = 1#1) (k.val + 2) 1 ∗ wst c fw fa (k0_cond11 v1 k = 1#1) (k.val + 2) 2 ∗ wst c fw fa (k0_cond11 v1 k = 1#1) (k.val + 2) 3 ∗ wst c fw fa (k0_cond11 v1 k = 1#1) (k.val + 2) 4 ∗ wst c fw fa (k0_cond11 v1 k = 1#1) (k.val + 2) 5 ∗ wst c fw fa (k0_cond11 v1 k = 1#1) (k.val + 2) 6 ∗ wst c fw fa (k0_cond11 v1 k = 1#1) (k.val + 2) 7
            ∗ ptsS c (obrow e) (View.write (Elt F) (sOb.access (Rect.unit (s := S16x8x3072) (k0_off169 (tword c v1 hw18 k fa)) S1x8x3072.size hin)) fob p Finset.univ) ∗ (∃ W, owes (c : Thread nD τ) 0 W))
          -∗ wp frame (wpE (defs₀ (F := F)) Variants.none (c : Thread nD τ) none) Set.univ (tripTail (ex (tword c v1 hw18 k fa)) h₁ h₂) K))
      ⊢ wp frame (wpE (defs₀ (F := F)) Variants.none (c : Thread nD τ) none) Set.univ
          (k0_t3_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 v1 hw18 k ()) K } := by
  apply mkElem
  intro hea h₁ h₂ hin fxq fse W fob K
  unfold k0_t3_body
  iintro ⟨HX, HWs, HA, HG, HXq, HSe, ⟨⟨%f0, Hfl0⟩, Ht0⟩, ⟨⟨%f1, Hfl1⟩, Ht1⟩, ⟨⟨%f2, Hfl2⟩, Ht2⟩, ⟨⟨%f3, Hfl3⟩, Ht3⟩, ⟨⟨%f4, Hfl4⟩, Ht4⟩, ⟨⟨%f5, Hfl5⟩, Ht5⟩, ⟨⟨%f6, Hfl6⟩, Ht6⟩, ⟨⟨%f7, Hfl7⟩, Ht7⟩, HOb, HO, HK⟩
  sl_exec_parts (disch := (first | (refine chk19_of _ ?_; exact rd_lt fa hact k.val k.isLt _ (toNat_iv01 k.val (by have := t3_lt v1 k; omega)) _ _) | (refine chk20_of _ ?_; exact rd_lt fa hact k.val k.isLt _ (toNat_iv01 k.val (by have := t3_lt v1 k; omega)) _ _) | (refine chk22_of _ ?_; exact rd_lt fa hact k.val k.isLt _ (toNat_iv01 k.val (by have := t3_lt v1 k; omega)) _ _) | (refine chk24_of _ ?_; exact rd_lt fa hact k.val k.isLt _ (toNat_iv01 k.val (by have := t3_lt v1 k; omega)) _ _) | (refine chk26_of _ ?_; exact rd_lt fa hact k.val k.isLt _ (toNat_iv01 k.val (by have := t3_lt v1 k; omega)) _ _) | (refine chk28_of _ ?_; exact rd_lt fa hact k.val k.isLt _ (toNat_iv01 k.val (by have := t3_lt v1 k; omega)) _ _) | (refine chk30_of _ ?_; exact rd_lt fa hact k.val k.isLt _ (toNat_iv01 k.val (by have := t3_lt v1 k; omega)) _ _) | (refine chk32_of _ ?_; exact rd_lt fa hact k.val k.isLt _ (toNat_iv01 k.val (by have := t3_lt v1 k; omega)) _ _) | (refine chk34_of _ ?_; exact rd_lt fa hact k.val k.isLt _ (toNat_iv01 k.val (by have := t3_lt v1 k; omega)) _ _) | (refine chk21_of _ _ _ ?_; intro hc; exact rd_lt fa hact (k.val+2) ((cond_lt hv k).mp hc) _ (toNat_iv2 k.val (t3_lt v1 k)) _ _) | (refine chk23_of _ _ _ ?_; intro hc; exact rd_lt fa hact (k.val+2) ((cond_lt hv k).mp hc) _ (toNat_iv2 k.val (t3_lt v1 k)) _ _) | (refine chk25_of _ _ _ ?_; intro hc; exact rd_lt fa hact (k.val+2) ((cond_lt hv k).mp hc) _ (toNat_iv2 k.val (t3_lt v1 k)) _ _) | (refine chk27_of _ _ _ ?_; intro hc; exact rd_lt fa hact (k.val+2) ((cond_lt hv k).mp hc) _ (toNat_iv2 k.val (t3_lt v1 k)) _ _) | (refine chk29_of _ _ _ ?_; intro hc; exact rd_lt fa hact (k.val+2) ((cond_lt hv k).mp hc) _ (toNat_iv2 k.val (t3_lt v1 k)) _ _) | (refine chk31_of _ _ _ ?_; intro hc; exact rd_lt fa hact (k.val+2) ((cond_lt hv k).mp hc) _ (toNat_iv2 k.val (t3_lt v1 k)) _ _) | (refine chk33_of _ _ _ ?_; intro hc; exact rd_lt fa hact (k.val+2) ((cond_lt hv k).mp hc) _ (toNat_iv2 k.val (t3_lt v1 k)) _ _) | (refine chk35_of _ _ _ ?_; intro hc; exact rd_lt fa hact (k.val+2) ((cond_lt hv k).mp hc) _ (toNat_iv2 k.val (t3_lt v1 k)) _ _)))
  have he : (Cert.Kernel.Gen.trip1.sl.r c v1 hw18 k fa).toNat = e.val := tword_eq c v1 hw18 k fa e hea
  sl_exec
  delta Cert.Kernel.Gen.trip1.sl.HOb_w1
  have hp_eq : ?pay = k0_pay394 (Cert.Kernel.Gen.trip1.sl.r_282 c v1 hw18 k e fx fws fa hact fw) (Cert.Kernel.Gen.trip1.sl.r_284 c v1 hw18 k fa hact fg) := rfl
  by_cases hc : k0_cond11 v1 k = 1#1
  · skip
    have a0 : actIs fa (k.val + 2) (ex (Cert.Kernel.Gen.trip1.sl.r_251 c v1 hw18 k fa hc)) := by
      delta Cert.Kernel.Gen.trip1.sl.r_251
      exact actIs_read fa hact _ ((cond_lt hv k).mp hc) _ (off94_val v1 k) _ _
    have d0 : Cert.Kernel.Gen.trip1.sl.dma156 c v1 hw18 k fa fw hc = ReadAs.same.apply ((wsrc (ex (Cert.Kernel.Gen.trip1.sl.r_251 c v1 hw18 k fa hc)) 0).view.read (Elt F) fw) := by
      delta Cert.Kernel.Gen.trip1.sl.dma156; rfl
    have a1 : actIs fa (k.val + 2) (ex (Cert.Kernel.Gen.trip1.sl.r_257 c v1 hw18 k fa hc)) := by
      delta Cert.Kernel.Gen.trip1.sl.r_257
      exact actIs_read fa hact _ ((cond_lt hv k).mp hc) _ (off104_val v1 k) _ _
    have d1 : Cert.Kernel.Gen.trip1.sl.dma166 c v1 hw18 k fa fw hc = ReadAs.same.apply ((wsrc (ex (Cert.Kernel.Gen.trip1.sl.r_257 c v1 hw18 k fa hc)) 1).view.read (Elt F) fw) := by
      delta Cert.Kernel.Gen.trip1.sl.dma166; rfl
    have a2 : actIs fa (k.val + 2) (ex (Cert.Kernel.Gen.trip1.sl.r_261 c v1 hw18 k fa hc)) := by
      delta Cert.Kernel.Gen.trip1.sl.r_261
      exact actIs_read fa hact _ ((cond_lt hv k).mp hc) _ (off114_val v1 k) _ _
    have d2 : Cert.Kernel.Gen.trip1.sl.dma176 c v1 hw18 k fa fw hc = ReadAs.same.apply ((wsrc (ex (Cert.Kernel.Gen.trip1.sl.r_261 c v1 hw18 k fa hc)) 2).view.read (Elt F) fw) := by
      delta Cert.Kernel.Gen.trip1.sl.dma176; rfl
    have a3 : actIs fa (k.val + 2) (ex (Cert.Kernel.Gen.trip1.sl.r_266 c v1 hw18 k fa hc)) := by
      delta Cert.Kernel.Gen.trip1.sl.r_266
      exact actIs_read fa hact _ ((cond_lt hv k).mp hc) _ (off124_val v1 k) _ _
    have d3 : Cert.Kernel.Gen.trip1.sl.dma186 c v1 hw18 k fa fw hc = ReadAs.same.apply ((wsrc (ex (Cert.Kernel.Gen.trip1.sl.r_266 c v1 hw18 k fa hc)) 3).view.read (Elt F) fw) := by
      delta Cert.Kernel.Gen.trip1.sl.dma186; rfl
    have a4 : actIs fa (k.val + 2) (ex (Cert.Kernel.Gen.trip1.sl.r_270 c v1 hw18 k fa hc)) := by
      delta Cert.Kernel.Gen.trip1.sl.r_270
      exact actIs_read fa hact _ ((cond_lt hv k).mp hc) _ (off134_val v1 k) _ _
    have d4 : Cert.Kernel.Gen.trip1.sl.dma196 c v1 hw18 k fa fw hc = ReadAs.same.apply ((wsrc (ex (Cert.Kernel.Gen.trip1.sl.r_270 c v1 hw18 k fa hc)) 4).view.read (Elt F) fw) := by
      delta Cert.Kernel.Gen.trip1.sl.dma196; rfl
    have a5 : actIs fa (k.val + 2) (ex (Cert.Kernel.Gen.trip1.sl.r_274 c v1 hw18 k fa hc)) := by
      delta Cert.Kernel.Gen.trip1.sl.r_274
      exact actIs_read fa hact _ ((cond_lt hv k).mp hc) _ (off144_val v1 k) _ _
    have d5 : Cert.Kernel.Gen.trip1.sl.dma206 c v1 hw18 k fa fw hc = ReadAs.same.apply ((wsrc (ex (Cert.Kernel.Gen.trip1.sl.r_274 c v1 hw18 k fa hc)) 5).view.read (Elt F) fw) := by
      delta Cert.Kernel.Gen.trip1.sl.dma206; rfl
    have a6 : actIs fa (k.val + 2) (ex (Cert.Kernel.Gen.trip1.sl.r_279 c v1 hw18 k fa hc)) := by
      delta Cert.Kernel.Gen.trip1.sl.r_279
      exact actIs_read fa hact _ ((cond_lt hv k).mp hc) _ (off154_val v1 k) _ _
    have d6 : Cert.Kernel.Gen.trip1.sl.dma216 c v1 hw18 k fa fw hc = ReadAs.same.apply ((wsrc (ex (Cert.Kernel.Gen.trip1.sl.r_279 c v1 hw18 k fa hc)) 6).view.read (Elt F) fw) := by
      delta Cert.Kernel.Gen.trip1.sl.dma216; rfl
    have a7 : actIs fa (k.val + 2) (ex (Cert.Kernel.Gen.trip1.sl.r_283 c v1 hw18 k fa hc)) := by
      delta Cert.Kernel.Gen.trip1.sl.r_283
      exact actIs_read fa hact _ ((cond_lt hv k).mp hc) _ (off164_val v1 k) _ _
    have d7 : Cert.Kernel.Gen.trip1.sl.dma226 c v1 hw18 k fa fw hc = ReadAs.same.apply ((wsrc (ex (Cert.Kernel.Gen.trip1.sl.r_283 c v1 hw18 k fa hc)) 7).view.read (Elt F) fw) := by
      delta Cert.Kernel.Gen.trip1.sl.dma226; rfl
    simp only [Guarded, gset, hc, ↓reduceDIte, ↓reduceIte, Finset.sdiff_empty]
    icases if8 with ⟨R0, R1, R2, R3, R4, R5, R6, R7⟩
    iapply HK
    isplitl [HX]; iexact HX
    isplitl [HWs]; iexact HWs
    isplitl [HA]; iexact HA
    isplitl [HG]; iexact HG
    isplitl [HXq]; iexists _; iexact HXq
    isplitl [HSe]; iexists _; iexact HSe
    isplitl [R0 Ht0]
    · iapply (restart_wst c fw fa k.val 0 (ex (Cert.Kernel.Gen.trip1.sl.r_251 c v1 hw18 k fa hc)) a0 _ (by first | exact hc | trivial) _ _ _ d0)
      isplitl [R0]; iexact R0; iexact Ht0
    isplitl [R1 Ht1]
    · iapply (restart_wst c fw fa k.val 1 (ex (Cert.Kernel.Gen.trip1.sl.r_257 c v1 hw18 k fa hc)) a1 _ (by first | exact hc | trivial) _ _ _ d1)
      isplitl [R1]; iexact R1; iexact Ht1
    isplitl [R2 Ht2]
    · iapply (restart_wst c fw fa k.val 2 (ex (Cert.Kernel.Gen.trip1.sl.r_261 c v1 hw18 k fa hc)) a2 _ (by first | exact hc | trivial) _ _ _ d2)
      isplitl [R2]; iexact R2; iexact Ht2
    isplitl [R3 Ht3]
    · iapply (restart_wst c fw fa k.val 3 (ex (Cert.Kernel.Gen.trip1.sl.r_266 c v1 hw18 k fa hc)) a3 _ (by first | exact hc | trivial) _ _ _ d3)
      isplitl [R3]; iexact R3; iexact Ht3
    isplitl [R4 Ht4]
    · iapply (restart_wst c fw fa k.val 4 (ex (Cert.Kernel.Gen.trip1.sl.r_270 c v1 hw18 k fa hc)) a4 _ (by first | exact hc | trivial) _ _ _ d4)
      isplitl [R4]; iexact R4; iexact Ht4
    isplitl [R5 Ht5]
    · iapply (restart_wst c fw fa k.val 5 (ex (Cert.Kernel.Gen.trip1.sl.r_274 c v1 hw18 k fa hc)) a5 _ (by first | exact hc | trivial) _ _ _ d5)
      isplitl [R5]; iexact R5; iexact Ht5
    isplitl [R6 Ht6]
    · iapply (restart_wst c fw fa k.val 6 (ex (Cert.Kernel.Gen.trip1.sl.r_279 c v1 hw18 k fa hc)) a6 _ (by first | exact hc | trivial) _ _ _ d6)
      isplitl [R6]; iexact R6; iexact Ht6
    isplitl [R7 Ht7]
    · iapply (restart_wst c fw fa k.val 7 (ex (Cert.Kernel.Gen.trip1.sl.r_283 c v1 hw18 k fa hc)) a7 _ (by first | exact hc | trivial) _ _ _ d7)
      isplitl [R7]; iexact R7; iexact Ht7
    isplitl [HOb]; iexact HOb
    iexists _; iexact HO
  · simp only [wst, par_add2]
    simp only [Guarded, gset, hc, ↓reduceDIte, ↓reduceIte, Finset.sdiff_empty]
    icases if8 with ⟨R0, C0, R1, C1, R2, C2, R3, C3, R4, C4, R5, C5, R6, C6, R7, C7⟩
    iapply HK
    isplitl [HX]; iexact HX
    isplitl [HWs]; iexact HWs
    isplitl [HA]; iexact HA
    isplitl [HG]; iexact HG
    isplitl [HXq]; iexists _; iexact HXq
    isplitl [HSe]; iexists _; iexact HSe
    isplitl [R0 C0 Ht0]; isplitl [C0]; iexact C0; isplitl [R0]; iexists _; iexact R0; iexact Ht0
    isplitl [R1 C1 Ht1]; isplitl [C1]; iexact C1; isplitl [R1]; iexists _; iexact R1; iexact Ht1
    isplitl [R2 C2 Ht2]; isplitl [C2]; iexact C2; isplitl [R2]; iexists _; iexact R2; iexact Ht2
    isplitl [R3 C3 Ht3]; isplitl [C3]; iexact C3; isplitl [R3]; iexists _; iexact R3; iexact Ht3
    isplitl [R4 C4 Ht4]; isplitl [C4]; iexact C4; isplitl [R4]; iexists _; iexact R4; iexact Ht4
    isplitl [R5 C5 Ht5]; isplitl [C5]; iexact C5; isplitl [R5]; iexists _; iexact R5; iexact Ht5
    isplitl [R6 C6 Ht6]; isplitl [C6]; iexact C6; isplitl [R6]; iexists _; iexact R6; iexact Ht6
    isplitl [R7 C7 Ht7]; isplitl [C7]; iexact C7; isplitl [R7]; iexists _; iexact R7; iexact Ht7
    isplitl [HOb]; iexact HOb
    iexists _; iexact HO

end Cert.Kernel.Gen

end
-- ==== Proof.K.Step3.lean ====
module

public import proofs.«01_k».proof.Proof.K.Start
public import proofs.«01_k».proof.Proof.K.Trip

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The eight chunks at position `n` of the list. -/
def wst8 (c : Dev nD) (fw : Buf (Elt F) (mW.view.loc (c : Thread nD τ))) (fa : Buf (Elt F) (sAct.view.loc (c : Thread nD τ))) (b : Prop) [Decidable b] (n : Nat) : sProp 𝕄 :=
  iprop(wst c fw fa (b) (n) 0 ∗ wst c fw fa (b) (n) 1 ∗ wst c fw fa (b) (n) 2 ∗ wst c fw fa (b) (n) 3 ∗ wst c fw fa (b) (n) 4 ∗ wst c fw fa (b) (n) 5 ∗ wst c fw fa (b) (n) 6 ∗ wst c fw fa (b) (n) 7)
theorem wst8_congr (c : Dev nD) (fw : Buf (Elt F) (mW.view.loc (c : Thread nD τ))) (fa : Buf (Elt F) (sAct.view.loc (c : Thread nD τ))) (b b' : Prop) [Decidable b] [Decidable b'] (h : b ↔ b') (n : Nat) :
    wst8 c fw fa b n = wst8 c fw fa b' n := by
  obtain rfl := propext h
  congr

/-- A chunk in flight for an entry of the list is in flight for the expert the entry names. -/
theorem wst_fly (c : Dev nD) (fw : Buf (Elt F) (mW.view.loc (c : Thread nD τ))) (fa : Buf (Elt F) (sAct.view.loc (c : Thread nD τ))) (b : Prop) [Decidable b] (hb : b) (n : Nat) (hn : n < 17) (e : Fin 16) (hea : actIs fa n e) (j : Fin 8) :
    wst c fw fa b n j ⊢ wfly c fw (par n) e j := by
  unfold wst
  rw [if_pos hb]
  iintro ⟨%e', %he, H⟩
  obtain rfl : e' = e := Fin.ext (by
    have h1 := he (fun a => ⟨n, by obtain rfl : a = 0 := Subsingleton.elim _ _; exact hn⟩ : S17.Idx) rfl
    have h2 := hea (fun a => ⟨n, by obtain rfl : a = 0 := Subsingleton.elim _ _; exact hn⟩ : S17.Idx) rfl
    omega)
  iexact H
theorem wst8_fly (c : Dev nD) (fw : Buf (Elt F) (mW.view.loc (c : Thread nD τ))) (fa : Buf (Elt F) (sAct.view.loc (c : Thread nD τ))) (b : Prop) [Decidable b] (hb : b) (n : Nat) (hn : n < 17) (e : Fin 16) (hea : actIs fa n e) :
    wst8 c fw fa b n ⊢ iprop(wfly c fw (par n) e 0 ∗ wfly c fw (par n) e 1 ∗ wfly c fw (par n) e 2 ∗ wfly c fw (par n) e 3 ∗ wfly c fw (par n) e 4 ∗ wfly c fw (par n) e 5 ∗ wfly c fw (par n) e 6 ∗ wfly c fw (par n) e 7) := by
  unfold wst8
  iintro ⟨H0, H1, H2, H3, H4, H5, H6, H7⟩
  isplitl [H0]; iapply (wst_fly c fw fa b hb n hn e hea 0); iexact H0
  isplitl [H1]; iapply (wst_fly c fw fa b hb n hn e hea 1); iexact H1
  isplitl [H2]; iapply (wst_fly c fw fa b hb n hn e hea 2); iexact H2
  isplitl [H3]; iapply (wst_fly c fw fa b hb n hn e hea 3); iexact H3
  isplitl [H4]; iapply (wst_fly c fw fa b hb n hn e hea 4); iexact H4
  isplitl [H5]; iapply (wst_fly c fw fa b hb n hn e hea 5); iexact H5
  isplitl [H6]; iapply (wst_fly c fw fa b hb n hn e hea 6); iexact H6
  iapply (wst_fly c fw fa b hb n hn e hea 7); iexact H7

theorem tail_issue2 (c : Dev nD) (p : Nat → Bool) (fo : Buf (Elt F) (mOut.view.loc (c : Thread nD τ))) (Pt : Fin 16 → Vec F S1x8x3072 .bf16) (j : Nat) (hj : j < 16) (e : Fin 16) (he : ord p ⟨j, hj⟩ = e) (h₁ h₂) (K : Unit → sProp 𝕄) :
    iprop(ptsS c (obrow e) (obP (Pt ⟨j, hj⟩)) ∗ ptsS c (outrow e) fo ∗ obatch c p fo Pt j 0 ∗ (obatch c p fo Pt (j + 1) 0 -∗ K ()))
      ⊢ wp frame (wpE (defs₀ (F := F)) Variants.none (c : Thread nD τ) none) Set.univ (tripTail e h₁ h₂) K := tail_issue c p fo Pt j hj e he h₁ h₂ K

/-- Before trip `k` of the expert loop: the chunks of entries `k` and `k+1` in flight, as far as the list goes, and the
    copies out of the experts without tokens and of the first `k` experts of the list started. -/
def t3Inv (c : Dev nD) (p : Nat → Bool) (T : Nat) (fx : Buf (Elt F) (sX.view.loc (c : Thread nD τ))) (fws : Buf (Elt F) (sWs.view.loc (c : Thread nD τ))) (fa : Buf (Elt F) (sAct.view.loc (c : Thread nD τ))) (fg : Buf (Elt F) (sGs.view.loc (c : Thread nD τ)))
    (fw : Buf (Elt F) (mW.view.loc (c : Thread nD τ))) (fo : Buf (Elt F) (mOut.view.loc (c : Thread nD τ))) (Pt : Fin 16 → Vec F S1x8x3072 .bf16) (k : Nat) (_ : Unit) : sProp 𝕄 :=
  iprop(⌜k ≤ T⌝ ∗ ptsW c sX fx ∗ ptsW c sWs fws ∗ ptsW c sAct fa ∗ ptsW c sGs fg ∗ (∃ f, ptsW c sXq f) ∗ (∃ f, ptsW c sSe f)
    ∗ wst8 c fw fa (k < T) k ∗ wst8 c fw fa (k + 1 < T) (k + 1)
    ∗ obatch c p fo Pt (nE p + k) 0 ∗ orows c p fo (nE p + k) ∗ (∃ W, owes (c : Thread nD τ) 0 W))

theorem off169_eq (v : BitVec 32) (e : Fin 16) (h : v.toNat = e.val) : k0_off169 v = ![e.val, 0, 0] := by
  rw [← h]; rfl

theorem t3_step (c : Dev nD) (p : Nat → Bool) (v1 : BitVec 32) (hw18 : k0_chk18 v1) (fx : Buf (Elt F) (sX.view.loc (c : Thread nD τ))) (fws : Buf (Elt F) (sWs.view.loc (c : Thread nD τ))) (fa : Buf (Elt F) (sAct.view.loc (c : Thread nD τ))) (hv : v1.toNat < 17) (hsp : actSpec fa p 16 v1)
    (hact : ∀ i : S17.Idx, (i 0).val < (k0_t3_loop v1).trips → (fa i : BitVec 32).toNat < 16)
    (fg : Buf (Elt F) (sGs.view.loc (c : Thread nD τ)))
    (fw : Buf (Elt F) (mW.view.loc (c : Thread nD τ))) (fo : Buf (Elt F) (mOut.view.loc (c : Thread nD τ))) (Pt : Fin 16 → Vec F S1x8x3072 .bf16)
    (hPt : ∀ (k : Fin (k0_t3_loop v1).trips) (hk : nE p + k.val < 16), Pt ⟨nE p + k.val, hk⟩ = (trip1 c v1 hw18 k (ord p ⟨nE p + k.val, hk⟩) fx fws fa hv hact fg fw).1)
    (k : Fin (k0_t3_loop v1).trips) (a : Unit) :
    t3Inv c p (k0_t3_loop v1).trips fx fws fa fg fw fo Pt k.val a ⊢ wp frame (wpE (defs₀ (F := F)) Variants.none (c : Thread nD τ) none) Set.univ
          (k0_t3_body (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12 v1 hw18 k a) (t3Inv c p (k0_t3_loop v1).trips fx fws fa fg fw fo Pt (k.val + 1)) := by
  have hT := trips_of v1 hv
  have hk := k.isLt
  have hj : nE p + k.val < 16 := by have h1 := nE_add p; have h2 := hsp.1; omega
  have hea := actIs_read fa hact k.val hk (k0_off54 v1 k) (off54_eq v1 k) (k0_off54_inb v1 hw18 k) (Nat.lt_of_lt_of_eq Nat.zero_lt_one numel1_S1.symm)
  have he0 := actSpec_is hsp k.val hj
  have hte := tword_eq c v1 hw18 k fa _ he0
  have hoe : ord p ⟨nE p + k.val, hj⟩ = ex (tword c v1 hw18 k fa) := Fin.ext (by rw [ex_val _ (by rw [hte]; exact Fin.isLt _), hte])
  have hP := hPt k hj
  rw [hoe] at hP
  have hoff := off169_eq (tword c v1 hw18 k fa) (ex (tword c v1 hw18 k fa)) (by rw [ex_val _ (by rw [hte]; exact Fin.isLt _)])
  have hin : ∀ a, k0_off169 (tword c v1 hw18 k fa) a + S1x8x3072.size a ≤ S16x8x3072.size a := by rw [hoff]; exact row_inb _
  unfold t3Inv orows
  rw [Ring.bigSep_rangeSet_head hj hj, hoe]
  iintro ⟨-, HX, HWs, HA, HG, ⟨%fxq, HXq⟩, ⟨%fse, HSe⟩, HW0, HW1, HB, ⟨⟨⟨%fob, Hob⟩, Hout⟩, HR⟩, ⟨%W, HO⟩⟩
  ihave HW0 := (wst8_fly c fw fa _ hk k.val (by omega) _ hea) $$ HW0
  icases HW0 with ⟨H0, H1, H2, H3, H4, H5, H6, H7⟩
  iapply ((trip1 c v1 hw18 k (ex (tword c v1 hw18 k fa)) fx fws fa hv hact fg fw).2 hea (obrow_we _) (outrow_we _) hin fxq fse W fob _)
  isplitl [HX]; iexact HX
  isplitl [HWs]; iexact HWs
  isplitl [HA]; iexact HA
  isplitl [HG]; iexact HG
  isplitl [HXq]; iexact HXq
  isplitl [HSe]; iexact HSe
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [Hob]; iexact Hob
  isplitl [HO]; iexact HO
  iintro ⟨HX, HWs, HA, HG, HXq, HSe, H0, H1, H2, H3, H4, H5, H6, H7, Hob, HO⟩
  ihave Hob := (Entails.of_eq (store_row c _ _ hoff hin fob _)) $$ Hob
  iapply (tail_issue2 c p fo Pt _ hj _ hoe (obrow_we _) (outrow_we _) _)
  rw [hP]
  isplitl [Hob]; iexact Hob
  isplitl [Hout]; iexact Hout
  isplitl [HB]; iexact HB
  iintro HB
  isplitr; ipureintro; omega
  isplitl [HX]; iexact HX
  isplitl [HWs]; iexact HWs
  isplitl [HA]; iexact HA
  isplitl [HG]; iexact HG
  isplitl [HXq]; iexact HXq
  isplitl [HSe]; iexact HSe
  isplitl [HW1]; iexact HW1
  isplitl [H0 H1 H2 H3 H4 H5 H6 H7]
  · iapply (Entails.of_eq (wst8_congr c fw fa _ _ (cond_lt hv k) (k.val + 2)))
    unfold wst8
    isplitl [H0]; iexact H0
    isplitl [H1]; iexact H1
    isplitl [H2]; iexact H2
    isplitl [H3]; iexact H3
    isplitl [H4]; iexact H4
    isplitl [H5]; iexact H5
    isplitl [H6]; iexact H6
    iexact H7
  isplitl [HB]; iexact HB
  isplitl [HR]; iexact HR
  iexact HO

end Cert.Kernel.Gen

end
-- ==== Proof.K.Run.lean ====
module

public import proofs.«01_k».proof.Proof.K.Step3

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem act_rd {c : Dev nD} (fa : Buf (Elt F) (sAct.view.loc (c : Thread nD τ))) {T : Nat} (hact : ∀ i : S17.Idx, (i 0).val < T → (fa i : BitVec 32).toNat < 16) (n : Nat) (hn : n < T) (off : Fin 1 → Nat) (ho : off 0 = n)
    (hi) (p) : (View.readAt (Elt F) sAct.view (Rect.unit (s := S17) off S1.size hi).toLoadRect fa (Shape.Idx.first p) : BitVec 32).toNat < 16 := by
  have h2 : (Shape.Idx.first p 0).val < 1 := (Shape.Idx.first p 0).isLt
  refine hact (sAct.view.emb ((Rect.unit (s := S17) off S1.size hi).toLoadRect.idx (Shape.Idx.first p))) ?_
  show off 0 + 1 * (Shape.Idx.first p 0).val < T
  omega
theorem wr_gs (c : Dev nD) (gg : Buf (Elt F) (sGs.view.loc (c : Thread nD τ))) (fg0 : Buf (Elt F) (mGs.view.loc (c : Thread nD τ))) :
    View.write (Elt F) sGs.view gg (ReadAs.same.apply (mGs.view.read (Elt F) fg0)) Finset.univ = (fun i : S16.Idx => fg0 i) :=
  funext fun (y : S16.Idx) => (View.write_emb_of_mem (v := sGs.view) gg _ (Finset.mem_univ y)).trans rfl
theorem wr_x (c : Dev nD) (gg : Buf (Elt F) (sX.view.loc (c : Thread nD τ))) (fg0 : Buf (Elt F) (mX.view.loc (c : Thread nD τ))) :
    View.write (Elt F) sX.view gg (ReadAs.same.apply (mX.view.read (Elt F) fg0)) Finset.univ = (fun i : S16x8x4096.Idx => fg0 i) :=
  funext fun (y : S16x8x4096.Idx) => (View.write_emb_of_mem (v := sX.view) gg _ (Finset.mem_univ y)).trans rfl
theorem wr_ws (c : Dev nD) (gg : Buf (Elt F) (sWs.view.loc (c : Thread nD τ))) (fg0 : Buf (Elt F) (mWs.view.loc (c : Thread nD τ))) :
    View.write (Elt F) sWs.view gg (ReadAs.same.apply (mWs.view.read (Elt F) fg0)) Finset.univ = (fun i : S16x32x24.Idx => fg0 i) :=
  funext fun (y : S16x32x24.Idx) => (View.write_emb_of_mem (v := sWs.view) gg _ (Finset.mem_univ y)).trans rfl

/-- The eight chunks of slot `s`, at rest. -/
def wfree8 (c : Dev nD) (fw : Buf (Elt F) (mW.view.loc (c : Thread nD τ))) (s : Fin 2) : sProp 𝕄 := iprop(wfree c fw s 0 ∗ wfree c fw s 1 ∗ wfree c fw s 2 ∗ wfree c fw s 3 ∗ wfree c fw s 4 ∗ wfree c fw s 5 ∗ wfree c fw s 6 ∗ wfree c fw s 7)
theorem wst8_free (c : Dev nD) (fw : Buf (Elt F) (mW.view.loc (c : Thread nD τ))) (fa : Buf (Elt F) (sAct.view.loc (c : Thread nD τ))) (b : Prop) [Decidable b] (h : ¬b) (n : Nat) :
    wst8 c fw fa b n = wfree8 c fw (par n) := by
  unfold wst8 wfree8 wst
  simp only [if_neg h]
theorem wfree8_par (c : Dev nD) (fw : Buf (Elt F) (mW.view.loc (c : Thread nD τ))) (n : Nat) :
    iprop(wfree8 c fw (par n) ∗ wfree8 c fw (par (n + 1))) ⊢ (iprop(wfree8 c fw 0 ∗ wfree8 c fw 1) : sProp 𝕄) := by
  rcases Nat.mod_two_eq_zero_or_one n with h | h
  · rw [show par n = 0 from Fin.ext h, show par (n + 1) = 1 from Fin.ext (by show (n + 1) % 2 = 1; omega)]
  · rw [show par n = 1 from Fin.ext h, show par (n + 1) = 0 from Fin.ext (by show (n + 1) % 2 = 0; omega)]
    iintro ⟨H1, H2⟩; isplitl [H2]; iexact H2; iexact H1

theorem orows_init (c : Dev nD) (p : Nat → Bool) (fo : Buf (Elt F) (mOut.view.loc (c : Thread nD τ))) (fob : Buf (Elt F) (sOb.view.loc (c : Thread nD τ))) :
    iprop(ptsW c sOb fob ∗ ptsW c mOut fo) ⊢ (orows c p fo 0 : sProp 𝕄) := by
  have hE := BI.bigSep_univ_equiv (ordE p) (fun e => (iprop((∃ f, ptsS c (obrow e) f) ∗ ptsS c (outrow e) fo) : sProp 𝕄))
  have hS : (bigSep Finset.univ fun e => (iprop((∃ f, ptsS c (obrow e) f) ∗ ptsS c (outrow e) fo) : sProp 𝕄)) = iprop((bigSep Finset.univ fun e => (iprop(∃ f, ptsS c (obrow e) f) : sProp 𝕄)) ∗ (bigSep Finset.univ fun e => (ptsS c (outrow e) fo : sProp 𝕄))) := BI.bigSep_sep _ _ _
  have hO : (ptsW c sOb fob : sProp 𝕄) ⊢ bigSep Finset.univ (fun e => (iprop(∃ f, ptsS c (obrow e) f) : sProp 𝕄)) :=
    BIBase.Entails.trans (Entails.of_eq (ob_rows c fob)) (BI.bigSep_mono fun e _ => by
      show ptsS c (obrow e) fob ⊢ (iprop(∃ f, ptsS c (obrow e) f) : sProp 𝕄)
      iintro H; iexists fob; iexact H)
  unfold orows
  rw [show Ring.rangeSet 16 0 16 = Finset.univ from Ring.rangeSet_univ]
  iintro ⟨H1, H2⟩
  ihave H1 := hO $$ H1
  ihave H2 := (Entails.of_eq (out_rows c fo)) $$ H2
  iapply (Entails.of_eq hE)
  iapply (Entails.of_eq hS.symm)
  isplitl [H1]; iexact H1; iexact H2

/-- The output when all the copies have landed: row `e` is what the copy of `e` carried. -/
def outG (c : Dev nD) (p : Nat → Bool) (Pt : Fin 16 → Vec F S1x8x3072 .bf16) : Buf (Elt F) (mOut.view.loc (c : Thread nD τ)) :=
  fun y : S16x8x3072.Idx => Pt ((ordE p).symm (y 0)) (inrow y)

theorem ob_alloc (c : Dev nD) (p : Nat → Bool) (fo : Buf (Elt F) (mOut.view.loc (c : Thread nD τ))) (Pt : Fin 16 → Vec F S1x8x3072 .bf16) :
    (semVal ((c : Thread nD τ), SemLoc.dma cc0_scratch12.sem) 0 : sProp 𝕄) ⊢ |={Set.univ}=> obatch c p fo Pt 0 0 :=
  Transfers.batch_alloc' (countersEmb (U := Pipeline.UD sig nD τ)) (c : Thread nD τ) () 1536 (dlv c p fo Pt)

theorem outG_row (c : Dev nD) (p : Nat → Bool) (Pt : Fin 16 → Vec F S1x8x3072 .bf16) (t : Fin 16) (y : S16x8x3072.Idx) (hy : (y 0).val = (ord p t).val) :
    outG c p Pt y = Pt t (inrow y) := by
  have h1 : (ordE p).symm (y 0) = t := (Equiv.symm_apply_eq (ordE p)).mpr (Fin.ext hy)
  show Pt ((ordE p).symm (y 0)) (inrow y) = Pt t (inrow y)
  exact congrArg (fun t => Pt t (inrow y)) h1

theorem dlv_one (c : Dev nD) (p : Nat → Bool) (fo : Buf (Elt F) (mOut.view.loc (c : Thread nD τ))) (Pt : Fin 16 → Vec F S1x8x3072 .bf16) (t : Fin 16) :
    dlv c p fo Pt t ⊢ (iprop((∃ f, ptsS c (obrow (ord p t)) f) ∗ ptsS c (outrow (ord p t)) (outG c p Pt)) : sProp 𝕄) := by
  unfold dlv
  iintro ⟨H1, H2⟩
  isplitl [H2]; iexists _; iexact H2
  iapply (Entails.of_eq (landed_row c (ord p t) fo (Pt t) (outG c p Pt) (fun y hy => outG_row c p Pt t y hy)))
  iexact H1

theorem dlv_all (c : Dev nD) (p : Nat → Bool) (fo : Buf (Elt F) (mOut.view.loc (c : Thread nD τ))) (Pt : Fin 16 → Vec F S1x8x3072 .bf16) :
    (bigSep Finset.univ (dlv c p fo Pt)) ⊢ (iprop((∃ f, ptsW c sOb f) ∗ ptsW c mOut (outG c p Pt)) : sProp 𝕄) := by
  have hE := BI.bigSep_univ_equiv (ordE p) (fun e => (iprop((∃ f, ptsS c (obrow e) f) ∗ ptsS c (outrow e) (outG c p Pt)) : sProp 𝕄))
  have hS : (bigSep Finset.univ fun e => (iprop((∃ f, ptsS c (obrow e) f) ∗ ptsS c (outrow e) (outG c p Pt)) : sProp 𝕄)) = iprop((bigSep Finset.univ fun e => (iprop(∃ f, ptsS c (obrow e) f) : sProp 𝕄)) ∗ (bigSep Finset.univ fun e => (ptsS c (outrow e) (outG c p Pt) : sProp 𝕄))) := BI.bigSep_sep _ _ _
  refine BIBase.Entails.trans (BI.bigSep_mono fun t _ => dlv_one c p fo Pt t) (BIBase.Entails.trans (Entails.of_eq (hE.symm.trans hS)) ?_)
  iintro ⟨H1, H2⟩
  isplitl [H1]
  · iapply (ob_join c); iexact H1
  · iapply (Entails.of_eq (out_rows c (outG c p Pt)).symm); iexact H2

/-- What the copy out number `t` carries: zeros for an expert without tokens, else the row its trip computed. -/
def payOf (c : Dev nD) (p : Nat → Bool) (v1 : BitVec 32) (hw18 : k0_chk18 v1) (fx : Buf (Elt F) (sX.view.loc (c : Thread nD τ))) (fws : Buf (Elt F) (sWs.view.loc (c : Thread nD τ))) (fa : Buf (Elt F) (sAct.view.loc (c : Thread nD τ))) (hv : v1.toNat < 17)
    (hact : ∀ i : S17.Idx, (i 0).val < (k0_t3_loop v1).trips → (fa i : BitVec 32).toNat < 16)
    (fg : Buf (Elt F) (sGs.view.loc (c : Thread nD τ))) (fw : Buf (Elt F) (mW.view.loc (c : Thread nD τ))) (t : Fin 16) : Vec F S1x8x3072 .bf16 :=
  if h : nE p ≤ t.val ∧ t.val - nE p < (k0_t3_loop v1).trips then
    (trip1 c v1 hw18 ⟨t.val - nE p, h.2⟩ (ord p t) fx fws fa hv hact fg fw).1
  else k0_pay1

theorem payOf_act (c : Dev nD) (p : Nat → Bool) (v1 : BitVec 32) (hw18 : k0_chk18 v1) (fx : Buf (Elt F) (sX.view.loc (c : Thread nD τ))) (fws : Buf (Elt F) (sWs.view.loc (c : Thread nD τ))) (fa : Buf (Elt F) (sAct.view.loc (c : Thread nD τ))) (hv : v1.toNat < 17)
    (hact : ∀ i : S17.Idx, (i 0).val < (k0_t3_loop v1).trips → (fa i : BitVec 32).toNat < 16)
    (fg : Buf (Elt F) (sGs.view.loc (c : Thread nD τ))) (fw : Buf (Elt F) (mW.view.loc (c : Thread nD τ))) (k : Fin (k0_t3_loop v1).trips) (hk : nE p + k.val < 16) :
    payOf c p v1 hw18 fx fws fa hv hact fg fw ⟨nE p + k.val, hk⟩ = (trip1 c v1 hw18 k (ord p ⟨nE p + k.val, hk⟩) fx fws fa hv hact fg fw).1 := by
  have e0 : nE p + k.val - nE p = k.val := Nat.add_sub_cancel_left _ _
  unfold payOf
  rw [dif_pos (show nE p ≤ nE p + k.val ∧ nE p + k.val - nE p < (k0_t3_loop v1).trips from ⟨Nat.le_add_right _ _, by rw [e0]; exact k.isLt⟩)]
  have key : ∀ k' : Fin (k0_t3_loop v1).trips, k' = k → (trip1 c v1 hw18 k' (ord p ⟨nE p + k.val, hk⟩) fx fws fa hv hact fg fw).1 = (trip1 c v1 hw18 k (ord p ⟨nE p + k.val, hk⟩) fx fws fa hv hact fg fw).1 := by
    rintro _ rfl; rfl
  exact key _ (Fin.ext e0)

/-- What the body leaves: everything back where it was, and every output row filled. -/
def runPost (c : Dev nD) (fx0 : Buf (Elt F) (mX.view.loc (c : Thread nD τ))) (fg0 : Buf (Elt F) (mGs.view.loc (c : Thread nD τ)))
    (fws0 : Buf (Elt F) (mWs.view.loc (c : Thread nD τ))) (fw : Buf (Elt F) (mW.view.loc (c : Thread nD τ))) : sProp 𝕄 :=
  iprop(ptsW c mX fx0 ∗ ptsW c mGs fg0 ∗ ptsW c mWs fws0 ∗ (∃ f, ptsW c sX f) ∗ (∃ f, ptsW c sGs f) ∗ (∃ f, ptsW c sWs f) ∗ (∃ f, ptsW c sAct f)
      ∗ (∃ f, ptsW c sXq f) ∗ (∃ f, ptsW c sSe f) ∗ (∃ f, ptsW c sOb f)
      ∗ semVal ((c : Thread nD τ), SemLoc.dma cc0_scratch8.sem) 0 ∗ semVal ((c : Thread nD τ), SemLoc.dma cc0_scratch9.sem) 0
      ∗ semVal ((c : Thread nD τ), SemLoc.dma cc0_scratch10.sem) 0 ∗ semVal ((c : Thread nD τ), SemLoc.dma cc0_scratch12.sem) 0
      ∗ wfree8 c fw 0 ∗ wfree8 c fw 1 ∗ (∃ W, owes (c : Thread nD τ) 0 W)
      ∗ ∃ (v1 : BitVec 32) (hw18 : k0_chk18 v1) (fa : Buf (Elt F) (sAct.view.loc (c : Thread nD τ))) (hv : v1.toNat < 17) (hact : ∀ i : S17.Idx, (i 0).val < (k0_t3_loop v1).trips → (fa i : BitVec 32).toNat < 16),
          ⌜actSpec fa (isAct (c := c) (fun i : S16.Idx => fg0 i)) 16 v1⌝ ∗
          ptsW c mOut (outG c (isAct (c := c) (fun i : S16.Idx => fg0 i)) (payOf c (isAct (c := c) (fun i : S16.Idx => fg0 i)) v1 hw18 (fun i : S16x8x4096.Idx => fx0 i) (fun i : S16x32x24.Idx => fws0 i) fa hv hact (fun i : S16.Idx => fg0 i) fw)))

set_option maxHeartbeats 8000000 in
theorem run_body (c : Dev nD) (fx0 : Buf (Elt F) (mX.view.loc (c : Thread nD τ))) (fg0 : Buf (Elt F) (mGs.view.loc (c : Thread nD τ)))
    (fws0 : Buf (Elt F) (mWs.view.loc (c : Thread nD τ))) (fw : Buf (Elt F) (mW.view.loc (c : Thread nD τ))) (fo : Buf (Elt F) (mOut.view.loc (c : Thread nD τ)))
    (gx : Buf (Elt F) (sX.view.loc (c : Thread nD τ))) (gg : Buf (Elt F) (sGs.view.loc (c : Thread nD τ)))
    (gws : Buf (Elt F) (sWs.view.loc (c : Thread nD τ))) (fa : Buf (Elt F) (sAct.view.loc (c : Thread nD τ)))
    (fxq : Buf (Elt F) (sXq.view.loc (c : Thread nD τ))) (fse : Buf (Elt F) (sSe.view.loc (c : Thread nD τ))) (fob : Buf (Elt F) (sOb.view.loc (c : Thread nD τ)))
    (W : Waits sig Unit) (K : Unit → sProp 𝕄) :
    iprop(ptsW c mX fx0 ∗ ptsW c mGs fg0 ∗ ptsW c mWs fws0 ∗ ptsW c mOut fo ∗ ptsW c sX gx ∗ ptsW c sGs gg ∗ ptsW c sWs gws ∗ ptsW c sAct fa
      ∗ ptsW c sXq fxq ∗ ptsW c sSe fse ∗ ptsW c sOb fob
      ∗ semVal ((c : Thread nD τ), SemLoc.dma cc0_scratch8.sem) 0 ∗ semVal ((c : Thread nD τ), SemLoc.dma cc0_scratch9.sem) 0
      ∗ semVal ((c : Thread nD τ), SemLoc.dma cc0_scratch10.sem) 0 ∗ semVal ((c : Thread nD τ), SemLoc.dma cc0_scratch12.sem) 0
      ∗ wfree8 c fw 0 ∗ wfree8 c fw 1 ∗ owes (c : Thread nD τ) 0 W ∗ (runPost c fx0 fg0 fws0 fw -∗ K ()))
      ⊢ wp frame (wpE (defs₀ (F := F)) Variants.none (c : Thread nD τ) none) Set.univ
          (cc0_grouped_fp8_matmul (F := F) mX (Memref.isWhole_whole _) mGs (Memref.isWhole_whole _) mW (Memref.isWhole_whole _) mWs (Memref.isWhole_whole _) mOut (Memref.isWhole_whole _) sX (Memref.isWhole_whole _) sWs (Memref.isWhole_whole _) sGs (Memref.isWhole_whole _) sAct (Memref.isWhole_whole _) sW (Memref.isWhole_whole _) sXq (Memref.isWhole_whole _) sSe (Memref.isWhole_whole _) sOb (Memref.isWhole_whole _) cc0_scratch8 cc0_scratch9 cc0_scratch10 cc0_scratch11 cc0_scratch12) K := by
  simp only [cc0_grouped_fp8_matmul_eq_skeleton]; unfold cc0_grouped_fp8_matmul_skel
  unfold wfree8
  iintro ⟨HmX, HmG, HmWs, Hout, HX, HG, HWs, HA, HXq, HSe, Hob, HcX, HcWs, HcG, HcO, ⟨⟨Hc00, ⟨%w00, Hs00⟩, Ht00⟩, ⟨Hc01, ⟨%w01, Hs01⟩, Ht01⟩, ⟨Hc02, ⟨%w02, Hs02⟩, Ht02⟩, ⟨Hc03, ⟨%w03, Hs03⟩, Ht03⟩, ⟨Hc04, ⟨%w04, Hs04⟩, Ht04⟩, ⟨Hc05, ⟨%w05, Hs05⟩, Ht05⟩, ⟨Hc06, ⟨%w06, Hs06⟩, Ht06⟩, ⟨Hc07, ⟨%w07, Hs07⟩, Ht07⟩⟩, ⟨⟨Hc10, ⟨%w10, Hs10⟩, Ht10⟩, ⟨Hc11, ⟨%w11, Hs11⟩, Ht11⟩, ⟨Hc12, ⟨%w12, Hs12⟩, Ht12⟩, ⟨Hc13, ⟨%w13, Hs13⟩, Ht13⟩, ⟨Hc14, ⟨%w14, Hs14⟩, Ht14⟩, ⟨Hc15, ⟨%w15, Hs15⟩, Ht15⟩, ⟨Hc16, ⟨%w16, Hs16⟩, Ht16⟩, ⟨Hc17, ⟨%w17, Hs17⟩, Ht17⟩⟩, HO, HK⟩
  sl_exec
  delta Cert.Kernel.Gen.run_body.sl.dma0
  ihave HG := (Entails.of_eq (congrArg (fun f => ptsW c sGs f) (wr_gs c gg fg0))) $$ HG
  sl_for (t1Inv c (fun i : S16.Idx => fg0 i)) $$ [HG HA]
  · intro k v; exact t1_step c _ k v
  · unfold t1Inv; isplitl [HG]; iexact HG
    iexists _; isplitl [HA]; iexact HA
    ipureintro; exact ⟨Nat.zero_le _, rfl, fun i e h => by simp [fl] at h⟩
  iintro %v1 HL
  unfold t1Inv
  icases HL with ⟨HG, %fa1, HA, %hsp0⟩
  have hsp : actSpec fa1 (isAct (c := c) (fun i : S16.Idx => fg0 i)) 16 v1 := hsp0.2
  have hv : v1.toNat < 17 := actSpec_lt hsp
  have hact := actSpec_act hsp
  have hw18 := chk18_of v1 hv
  have hact' : ∀ i : S17.Idx, (i 0).val < (k0_t3_loop v1).trips → (fa1 i : BitVec 32).toNat < 16 := by rw [trips_of v1 hv]; exact hact
  sl_exec_parts (disch := first | with_reducible exact chk18_of v1 hv | ((with_reducible refine chk2_of v1 _ ?_); intro hc; exact act_rd fa1 hact 0 ((cond1_lt hv).mp hc) _ rfl _ _) | ((with_reducible refine chk3_of v1 _ ?_); intro hc; exact act_rd fa1 hact 0 ((cond1_lt hv).mp hc) _ rfl _ _) | ((with_reducible refine chk4_of v1 _ ?_); intro hc; exact act_rd fa1 hact 0 ((cond1_lt hv).mp hc) _ rfl _ _) | ((with_reducible refine chk5_of v1 _ ?_); intro hc; exact act_rd fa1 hact 0 ((cond1_lt hv).mp hc) _ rfl _ _) | ((with_reducible refine chk6_of v1 _ ?_); intro hc; exact act_rd fa1 hact 0 ((cond1_lt hv).mp hc) _ rfl _ _) | ((with_reducible refine chk7_of v1 _ ?_); intro hc; exact act_rd fa1 hact 0 ((cond1_lt hv).mp hc) _ rfl _ _) | ((with_reducible refine chk8_of v1 _ ?_); intro hc; exact act_rd fa1 hact 0 ((cond1_lt hv).mp hc) _ rfl _ _) | ((with_reducible refine chk9_of v1 _ ?_); intro hc; exact act_rd fa1 hact 0 ((cond1_lt hv).mp hc) _ rfl _ _) | ((with_reducible refine chk10_of v1 _ ?_); intro hc; exact act_rd fa1 hact 1 ((cond2_lt hv).mp hc) _ rfl _ _) | ((with_reducible refine chk11_of v1 _ ?_); intro hc; exact act_rd fa1 hact 1 ((cond2_lt hv).mp hc) _ rfl _ _) | ((with_reducible refine chk12_of v1 _ ?_); intro hc; exact act_rd fa1 hact 1 ((cond2_lt hv).mp hc) _ rfl _ _) | ((with_reducible refine chk13_of v1 _ ?_); intro hc; exact act_rd fa1 hact 1 ((cond2_lt hv).mp hc) _ rfl _ _) | ((with_reducible refine chk14_of v1 _ ?_); intro hc; exact act_rd fa1 hact 1 ((cond2_lt hv).mp hc) _ rfl _ _) | ((with_reducible refine chk15_of v1 _ ?_); intro hc; exact act_rd fa1 hact 1 ((cond2_lt hv).mp hc) _ rfl _ _) | ((with_reducible refine chk16_of v1 _ ?_); intro hc; exact act_rd fa1 hact 1 ((cond2_lt hv).mp hc) _ rfl _ _) | ((with_reducible refine chk17_of v1 _ ?_); intro hc; exact act_rd fa1 hact 1 ((cond2_lt hv).mp hc) _ rfl _ _))
  ihave HW0 := (start_wst c fw fa1 0 0 rfl (k0_cond1 v1 = 1#1) (fun hc => ex (Cert.Kernel.Gen.run_body.sl.r c fa1)) (fun hc => ex (Cert.Kernel.Gen.run_body.sl.r c fa1)) (fun hc => ex (Cert.Kernel.Gen.run_body.sl.r c fa1)) (fun hc => ex (Cert.Kernel.Gen.run_body.sl.r c fa1)) (fun hc => ex (Cert.Kernel.Gen.run_body.sl.r c fa1)) (fun hc => ex (Cert.Kernel.Gen.run_body.sl.r c fa1)) (fun hc => ex (Cert.Kernel.Gen.run_body.sl.r c fa1)) (fun hc => ex (Cert.Kernel.Gen.run_body.sl.r_1 c fa1))
     (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) (fun hc => actIs_read fa1 hact 0 ((cond1_lt hv).mp hc) _ rfl _ _) w00 w01 w02 w03 w04 w05 w06 w07) $$ [if1 Ht00 Ht01 Ht02 Ht03 Ht04 Ht05 Ht06 Ht07]
  · isplitl [if1]; iexact if1
    isplitl [Ht00]; iexact Ht00
    isplitl [Ht01]; iexact Ht01
    isplitl [Ht02]; iexact Ht02
    isplitl [Ht03]; iexact Ht03
    isplitl [Ht04]; iexact Ht04
    isplitl [Ht05]; iexact Ht05
    isplitl [Ht06]; iexact Ht06
    iexact Ht07
  ihave HW1 := (start_wst c fw fa1 1 1 rfl (k0_cond2 v1 = 1#1) (fun hc => ex (Cert.Kernel.Gen.run_body.sl.r_2 c fa1)) (fun hc => ex (Cert.Kernel.Gen.run_body.sl.r_2 c fa1)) (fun hc => ex (Cert.Kernel.Gen.run_body.sl.r_2 c fa1)) (fun hc => ex (Cert.Kernel.Gen.run_body.sl.r_2 c fa1)) (fun hc => ex (Cert.Kernel.Gen.run_body.sl.r_2 c fa1)) (fun hc => ex (Cert.Kernel.Gen.run_body.sl.r_2 c fa1)) (fun hc => ex (Cert.Kernel.Gen.run_body.sl.r_2 c fa1)) (fun hc => ex (Cert.Kernel.Gen.run_body.sl.r_3 c fa1))
     (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) (fun hc => actIs_read fa1 hact 1 ((cond2_lt hv).mp hc) _ rfl _ _) w10 w11 w12 w13 w14 w15 w16 w17) $$ [if2 Ht10 Ht11 Ht12 Ht13 Ht14 Ht15 Ht16 Ht17]
  · isplitl [if2]; iexact if2
    isplitl [Ht10]; iexact Ht10
    isplitl [Ht11]; iexact Ht11
    isplitl [Ht12]; iexact Ht12
    isplitl [Ht13]; iexact Ht13
    isplitl [Ht14]; iexact Ht14
    isplitl [Ht15]; iexact Ht15
    isplitl [Ht16]; iexact Ht16
    iexact Ht17
  ihave HR := (orows_init c (isAct (c := c) (fun i : S16.Idx => fg0 i)) fo fob) $$ [Hob Hout]
  · isplitl [Hob]; iexact Hob; iexact Hout
  have hT := trips_of v1 hv
  have hE : nE (isAct (c := c) (fun i : S16.Idx => fg0 i)) + (k0_t3_loop v1).trips = 16 := by
    have h1 := nE_add (isAct (c := c) (fun i : S16.Idx => fg0 i)); have h2 := hsp.1; omega
  generalize hPt : payOf c (isAct (c := c) (fun i : S16.Idx => fg0 i)) v1 hw18 (fun i : S16x8x4096.Idx => fx0 i) (fun i : S16x32x24.Idx => fws0 i) fa1 hv hact' (fun i : S16.Idx => fg0 i) fw = Pt
  imod (ob_alloc c (isAct (c := c) (fun i : S16.Idx => fg0 i)) fo Pt) $$ HcO with HB
  sl_for (t2Inv c (fun i : S16.Idx => fg0 i) fo Pt) $$ [HG HB HR]
  · intro k a
    refine t2_step c _ fo Pt ?_ k a
    intro t ht
    subst hPt
    unfold payOf
    rw [dif_neg (by omega)]
  · unfold t2Inv; isplitl [HG]; iexact HG
    isplitl [HB]; iexact HB
    iexact HR
  iintro %_a2 HL
  unfold t2Inv
  icases HL with ⟨HG, HB, HR⟩
  sl_exec
  delta Cert.Kernel.Gen.run_body.sl.dma0_1 Cert.Kernel.Gen.run_body.sl.dma0_2
  ihave HX := (Entails.of_eq (congrArg (fun f => ptsW c sX f) (wr_x c gx fx0))) $$ HX
  ihave HWs := (Entails.of_eq (congrArg (fun f => ptsW c sWs f) (wr_ws c gws fws0))) $$ HWs
  ihave HW0 := (Entails.of_eq (wst8_congr c fw fa1 (k0_cond1 v1 = 1#1) (0 < (k0_t3_loop v1).trips) (by rw [hT]; exact cond1_lt hv) 0)) $$ [HW0]
  · unfold wst8; iexact HW0
  ihave HW1 := (Entails.of_eq (wst8_congr c fw fa1 (k0_cond2 v1 = 1#1) (0 + 1 < (k0_t3_loop v1).trips) (by rw [hT]; exact cond2_lt hv) (0 + 1))) $$ [HW1]
  · unfold wst8; iexact HW1
  sl_for (t3Inv c (isAct (c := c) (fun i : S16.Idx => fg0 i)) (k0_t3_loop v1).trips (fun i : S16x8x4096.Idx => fx0 i) (fun i : S16x32x24.Idx => fws0 i) fa1 (fun i : S16.Idx => fg0 i) fw fo Pt) $$ [HX HWs HA HG HXq HSe HW0 HW1 HB HR HO]
  · intro k a
    refine t3_step c _ v1 hw18 _ _ fa1 hv hsp hact' _ fw fo Pt ?_ k a
    intro k hk
    subst hPt
    exact payOf_act c _ v1 hw18 _ _ fa1 hv hact' _ fw k hk
  · unfold t3Inv
    isplitr; ipureintro; exact Nat.zero_le _
    isplitl [HX]; iexact HX
    isplitl [HWs]; iexact HWs
    isplitl [HA]; iexact HA
    isplitl [HG]; iexact HG
    isplitl [HXq]; iexists _; iexact HXq
    isplitl [HSe]; iexists _; iexact HSe
    isplitl [HW0]; iexact HW0
    isplitl [HW1]; iexact HW1
    isplitl [HB]; iexact HB
    isplitl [HR]; iexact HR
    iexists _; iexact HO
  iintro %_a3 HL
  unfold t3Inv
  icases HL with ⟨-, HX, HWs, HA, HG, HXq, HSe, HW0, HW1, HB, HR, ⟨%W3, HO⟩⟩
  ihave HW0 := (Entails.of_eq (wst8_free c fw fa1 _ (lt_irrefl _) _)) $$ HW0
  ihave HW1 := (Entails.of_eq (wst8_free c fw fa1 _ (Nat.not_lt.mpr (Nat.le_succ _)) _)) $$ HW1
  ihave HW := (wfree8_par c fw _) $$ [HW0 HW1]
  · isplitl [HW0]; iexact HW0; iexact HW1
  icases HW with ⟨HW0, HW1⟩
  sl_exec
  ihave HB := (Entails.of_eq (congrArg (fun n => obatch c (isAct (c := c) (fun i : S16.Idx => fg0 i)) fo Pt n 0) hE)) $$ HB
  sl_for (t5Inv c (isAct (c := c) (fun i : S16.Idx => fg0 i)) fo Pt) $$ [HB HO]
  · intro k a; exact t5_step c _ fo Pt k a
  · unfold t5Inv
    isplitr; ipureintro; exact Nat.zero_le _
    isplitl [HO]; iexists _; iexact HO
    rw [if_pos (by decide)]
    iexact HB
  iintro %_a5 HL
  unfold t5Inv
  rw [if_neg (by decide)]
  icases HL with ⟨-, ⟨%W5, HO⟩, HcO, HB⟩
  ihave HB := (dlv_all c _ fo Pt) $$ HB
  icases HB with ⟨Hob, Hout⟩
  sl_exec
  sl_step
  iapply HK
  unfold runPost
  subst hPt
  isplitl [HmX]; iexact HmX
  isplitl [HmG]; iexact HmG
  isplitl [HmWs]; iexact HmWs
  isplitl [HX]; iexists _; iexact HX
  isplitl [HG]; iexists _; iexact HG
  isplitl [HWs]; iexists _; iexact HWs
  isplitl [HA]; iexists _; iexact HA
  isplitl [HXq]; iexact HXq
  isplitl [HSe]; iexact HSe
  isplitl [Hob]; iexact Hob
  isplitl [HcX]; iexact HcX
  isplitl [HcWs]; iexact HcWs
  isplitl [HcG]; iexact HcG
  isplitl [HcO]; iexact HcO
  isplitl [HW0]; iexact HW0
  isplitl [HW1]; iexact HW1
  isplitl [HO]; iexists _; iexact HO
  iexists v1, hw18, fa1, hv, hact'
  isplitr; ipureintro; exact hsp
  iexact Hout

end Cert.Kernel.Gen

end
-- ==== Proof.K.Fin.lean ====
module

public import proofs.«01_k».proof.Proof.K.Run

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem toks_list (c : Dev nD) (fw : Buf (Elt F) (mW.view.loc (c : Thread nD τ))) :
    (bigSep Finset.univ (fun i : Fin 20 => (mW.view.loc (c : Thread nD τ) ↦{Transfers.shareTok fullShare 20 i} fw)) : sProp 𝕄)
      = iprop((mW.view.loc (c : Thread nD τ) ↦{Transfers.shareTok fullShare 20 (0 : Fin 20)} fw) ∗ (mW.view.loc (c : Thread nD τ) ↦{Transfers.shareTok fullShare 20 (1 : Fin 20)} fw) ∗ (mW.view.loc (c : Thread nD τ) ↦{Transfers.shareTok fullShare 20 (2 : Fin 20)} fw) ∗ (mW.view.loc (c : Thread nD τ) ↦{Transfers.shareTok fullShare 20 (3 : Fin 20)} fw) ∗ (mW.view.loc (c : Thread nD τ) ↦{Transfers.shareTok fullShare 20 (4 : Fin 20)} fw) ∗ (mW.view.loc (c : Thread nD τ) ↦{Transfers.shareTok fullShare 20 (5 : Fin 20)} fw) ∗ (mW.view.loc (c : Thread nD τ) ↦{Transfers.shareTok fullShare 20 (6 : Fin 20)} fw) ∗ (mW.view.loc (c : Thread nD τ) ↦{Transfers.shareTok fullShare 20 (7 : Fin 20)} fw) ∗ (mW.view.loc (c : Thread nD τ) ↦{Transfers.shareTok fullShare 20 (8 : Fin 20)} fw) ∗ (mW.view.loc (c : Thread nD τ) ↦{Transfers.shareTok fullShare 20 (9 : Fin 20)} fw) ∗ (mW.view.loc (c : Thread nD τ) ↦{Transfers.shareTok fullShare 20 (10 : Fin 20)} fw) ∗ (mW.view.loc (c : Thread nD τ) ↦{Transfers.shareTok fullShare 20 (11 : Fin 20)} fw) ∗ (mW.view.loc (c : Thread nD τ) ↦{Transfers.shareTok fullShare 20 (12 : Fin 20)} fw) ∗ (mW.view.loc (c : Thread nD τ) ↦{Transfers.shareTok fullShare 20 (13 : Fin 20)} fw) ∗ (mW.view.loc (c : Thread nD τ) ↦{Transfers.shareTok fullShare 20 (14 : Fin 20)} fw) ∗ (mW.view.loc (c : Thread nD τ) ↦{Transfers.shareTok fullShare 20 (15 : Fin 20)} fw) ∗ (mW.view.loc (c : Thread nD τ) ↦{Transfers.shareTok fullShare 20 (16 : Fin 20)} fw) ∗ (mW.view.loc (c : Thread nD τ) ↦{Transfers.shareTok fullShare 20 (17 : Fin 20)} fw) ∗ (mW.view.loc (c : Thread nD τ) ↦{Transfers.shareTok fullShare 20 (18 : Fin 20)} fw) ∗ (mW.view.loc (c : Thread nD τ) ↦{Transfers.shareTok fullShare 20 (19 : Fin 20)} fw)) := by
  rw [BI.bigSep_eq_bigSepL_of_eq [0, 1, 2, 3, 4, 5, 6, 7, 8, 9, 10, 11, 12, 13, 14, 15, 16, 17, 18, 19] (by decide) (by decide)]; rfl
theorem slots_list (c : Dev nD) :
    (bigSep Finset.univ (fun p : Fin 2 × Fin 8 => iprop(∃ f, ptsS c (wslot p.1 p.2) f)) : sProp 𝕄)
      = iprop((∃ f, ptsS c (wslot 0 0) f) ∗ (∃ f, ptsS c (wslot 0 1) f) ∗ (∃ f, ptsS c (wslot 0 2) f) ∗ (∃ f, ptsS c (wslot 0 3) f) ∗ (∃ f, ptsS c (wslot 0 4) f) ∗ (∃ f, ptsS c (wslot 0 5) f) ∗ (∃ f, ptsS c (wslot 0 6) f) ∗ (∃ f, ptsS c (wslot 0 7) f) ∗ (∃ f, ptsS c (wslot 1 0) f) ∗ (∃ f, ptsS c (wslot 1 1) f) ∗ (∃ f, ptsS c (wslot 1 2) f) ∗ (∃ f, ptsS c (wslot 1 3) f) ∗ (∃ f, ptsS c (wslot 1 4) f) ∗ (∃ f, ptsS c (wslot 1 5) f) ∗ (∃ f, ptsS c (wslot 1 6) f) ∗ (∃ f, ptsS c (wslot 1 7) f)) := by
  rw [BI.bigSep_eq_bigSepL_of_eq [(((0 : Fin 2), (0 : Fin 8)) : Fin 2 × Fin 8), (((0 : Fin 2), (1 : Fin 8)) : Fin 2 × Fin 8), (((0 : Fin 2), (2 : Fin 8)) : Fin 2 × Fin 8), (((0 : Fin 2), (3 : Fin 8)) : Fin 2 × Fin 8), (((0 : Fin 2), (4 : Fin 8)) : Fin 2 × Fin 8), (((0 : Fin 2), (5 : Fin 8)) : Fin 2 × Fin 8), (((0 : Fin 2), (6 : Fin 8)) : Fin 2 × Fin 8), (((0 : Fin 2), (7 : Fin 8)) : Fin 2 × Fin 8), (((1 : Fin 2), (0 : Fin 8)) : Fin 2 × Fin 8), (((1 : Fin 2), (1 : Fin 8)) : Fin 2 × Fin 8), (((1 : Fin 2), (2 : Fin 8)) : Fin 2 × Fin 8), (((1 : Fin 2), (3 : Fin 8)) : Fin 2 × Fin 8), (((1 : Fin 2), (4 : Fin 8)) : Fin 2 × Fin 8), (((1 : Fin 2), (5 : Fin 8)) : Fin 2 × Fin 8), (((1 : Fin 2), (6 : Fin 8)) : Fin 2 × Fin 8), (((1 : Fin 2), (7 : Fin 8)) : Fin 2 × Fin 8)] (by decide) (by decide)]; rfl

/-- The shares of the weights no chunk reads by. -/
def wrest (c : Dev nD) (fw : Buf (Elt F) (mW.view.loc (c : Thread nD τ))) : sProp 𝕄 := iprop((mW.view.loc (c : Thread nD τ) ↦{Transfers.shareDrop fullShare 20} fw) ∗ (mW.view.loc (c : Thread nD τ) ↦{Transfers.shareTok fullShare 20 (0 : Fin 20)} fw) ∗ (mW.view.loc (c : Thread nD τ) ↦{Transfers.shareTok fullShare 20 (1 : Fin 20)} fw) ∗ (mW.view.loc (c : Thread nD τ) ↦{Transfers.shareTok fullShare 20 (2 : Fin 20)} fw) ∗ (mW.view.loc (c : Thread nD τ) ↦{Transfers.shareTok fullShare 20 (19 : Fin 20)} fw))

theorem glue_in (c : Dev nD) (fw : Buf (Elt F) (mW.view.loc (c : Thread nD τ))) (f : Buf (Elt F) (sW.view.loc (c : Thread nD τ))) :
    iprop(ptsW c sW f ∗ ptsW c mW fw ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0) ⊢ (iprop(wfree8 c fw 0 ∗ wfree8 c fw 1 ∗ wrest c fw) : sProp 𝕄) := by
  iintro ⟨HS, HW, C00, C01, C02, C03, C04, C05, C06, C07, C10, C11, C12, C13, C14, C15, C16, C17⟩
  ihave HS := (w_slots c f) $$ HS
  ihave HS := (Entails.of_eq (slots_list c)) $$ HS
  icases HS with ⟨S00, S01, S02, S03, S04, S05, S06, S07, S10, S11, S12, S13, S14, S15, S16, S17⟩
  ihave HW := (Transfers.pointsTo_toks_split fullShare 20) $$ HW
  icases HW with ⟨HD, HT⟩
  ihave HT := (Entails.of_eq (toks_list c fw)) $$ HT
  icases HT with ⟨T0, T1, T2, T3, T4, T5, T6, T7, T8, T9, T10, T11, T12, T13, T14, T15, T16, T17, T18, T19⟩
  unfold wfree8 wrest
  isplitl [C00 S00 T3 C01 S01 T4 C02 S02 T5 C03 S03 T6 C04 S04 T7 C05 S05 T8 C06 S06 T9 C07 S07 T10]
  · skip
    isplitl [C00 S00 T3]
    · isplitl [C00]; iexact C00; isplitl [S00]; iexact S00; iexact T3
    isplitl [C01 S01 T4]
    · isplitl [C01]; iexact C01; isplitl [S01]; iexact S01; iexact T4
    isplitl [C02 S02 T5]
    · isplitl [C02]; iexact C02; isplitl [S02]; iexact S02; iexact T5
    isplitl [C03 S03 T6]
    · isplitl [C03]; iexact C03; isplitl [S03]; iexact S03; iexact T6
    isplitl [C04 S04 T7]
    · isplitl [C04]; iexact C04; isplitl [S04]; iexact S04; iexact T7
    isplitl [C05 S05 T8]
    · isplitl [C05]; iexact C05; isplitl [S05]; iexact S05; iexact T8
    isplitl [C06 S06 T9]
    · isplitl [C06]; iexact C06; isplitl [S06]; iexact S06; iexact T9
    · isplitl [C07]; iexact C07; isplitl [S07]; iexact S07; iexact T10
  isplitl [C10 S10 T11 C11 S11 T12 C12 S12 T13 C13 S13 T14 C14 S14 T15 C15 S15 T16 C16 S16 T17 C17 S17 T18]
  · skip
    isplitl [C10 S10 T11]
    · isplitl [C10]; iexact C10; isplitl [S10]; iexact S10; iexact T11
    isplitl [C11 S11 T12]
    · isplitl [C11]; iexact C11; isplitl [S11]; iexact S11; iexact T12
    isplitl [C12 S12 T13]
    · isplitl [C12]; iexact C12; isplitl [S12]; iexact S12; iexact T13
    isplitl [C13 S13 T14]
    · isplitl [C13]; iexact C13; isplitl [S13]; iexact S13; iexact T14
    isplitl [C14 S14 T15]
    · isplitl [C14]; iexact C14; isplitl [S14]; iexact S14; iexact T15
    isplitl [C15 S15 T16]
    · isplitl [C15]; iexact C15; isplitl [S15]; iexact S15; iexact T16
    isplitl [C16 S16 T17]
    · isplitl [C16]; iexact C16; isplitl [S16]; iexact S16; iexact T17
    · isplitl [C17]; iexact C17; isplitl [S17]; iexact S17; iexact T18
  isplitl [HD]; iexact HD
  isplitl [T0]; iexact T0
  isplitl [T1]; iexact T1
  isplitl [T2]; iexact T2
  iexact T19

theorem glue_out (c : Dev nD) (fw : Buf (Elt F) (mW.view.loc (c : Thread nD τ))) :
    iprop(wfree8 c fw 0 ∗ wfree8 c fw 1 ∗ wrest c fw) ⊢ (iprop((∃ f, ptsW c sW f) ∗ ptsW c mW fw ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0) : sProp 𝕄) := by
  unfold wfree8 wrest
  iintro ⟨⟨⟨C00, S00, T3⟩, ⟨C01, S01, T4⟩, ⟨C02, S02, T5⟩, ⟨C03, S03, T6⟩, ⟨C04, S04, T7⟩, ⟨C05, S05, T8⟩, ⟨C06, S06, T9⟩, ⟨C07, S07, T10⟩⟩, ⟨⟨C10, S10, T11⟩, ⟨C11, S11, T12⟩, ⟨C12, S12, T13⟩, ⟨C13, S13, T14⟩, ⟨C14, S14, T15⟩, ⟨C15, S15, T16⟩, ⟨C16, S16, T17⟩, ⟨C17, S17, T18⟩⟩, HD, T0, T1, T2, T19⟩
  ihave HS := (Entails.of_eq (slots_list c).symm) $$ [S00 S01 S02 S03 S04 S05 S06 S07 S10 S11 S12 S13 S14 S15 S16 S17]
  · skip
    isplitl [S00]; iexact S00
    isplitl [S01]; iexact S01
    isplitl [S02]; iexact S02
    isplitl [S03]; iexact S03
    isplitl [S04]; iexact S04
    isplitl [S05]; iexact S05
    isplitl [S06]; iexact S06
    isplitl [S07]; iexact S07
    isplitl [S10]; iexact S10
    isplitl [S11]; iexact S11
    isplitl [S12]; iexact S12
    isplitl [S13]; iexact S13
    isplitl [S14]; iexact S14
    isplitl [S15]; iexact S15
    isplitl [S16]; iexact S16
    iexact S17
  ihave HS := (w_slots_join c) $$ HS
  ihave HT := (Entails.of_eq (toks_list c fw).symm) $$ [T0 T1 T2 T3 T4 T5 T6 T7 T8 T9 T10 T11 T12 T13 T14 T15 T16 T17 T18 T19]
  · skip
    isplitl [T0]; iexact T0
    isplitl [T1]; iexact T1
    isplitl [T2]; iexact T2
    isplitl [T3]; iexact T3
    isplitl [T4]; iexact T4
    isplitl [T5]; iexact T5
    isplitl [T6]; iexact T6
    isplitl [T7]; iexact T7
    isplitl [T8]; iexact T8
    isplitl [T9]; iexact T9
    isplitl [T10]; iexact T10
    isplitl [T11]; iexact T11
    isplitl [T12]; iexact T12
    isplitl [T13]; iexact T13
    isplitl [T14]; iexact T14
    isplitl [T15]; iexact T15
    isplitl [T16]; iexact T16
    isplitl [T17]; iexact T17
    isplitl [T18]; iexact T18
    iexact T19
  ihave HW := (Transfers.pointsTo_toks_join fullShare 20) $$ [HD HT]
  · isplitl [HD]; iexact HD; iexact HT
  isplitl [HS]; iexact HS
  isplitl [HW]; iexact HW
  isplitl [C00]; iexact C00
  isplitl [C01]; iexact C01
  isplitl [C02]; iexact C02
  isplitl [C03]; iexact C03
  isplitl [C04]; iexact C04
  isplitl [C05]; iexact C05
  isplitl [C06]; iexact C06
  isplitl [C07]; iexact C07
  isplitl [C10]; iexact C10
  isplitl [C11]; iexact C11
  isplitl [C12]; iexact C12
  isplitl [C13]; iexact C13
  isplitl [C14]; iexact C14
  isplitl [C15]; iexact C15
  isplitl [C16]; iexact C16
  iexact C17

variable (m : (ℓ : Loc nD τ sig) → Buf (Elt F) ℓ) (ρ : Dev nD → PrngReg)

/-- The buffer the body writes itself: the result. -/
def R0 : Finset (Ref sig .tc) := {main_v0}
abbrev VD (c : Dev nD) (b : Ref sig .tc) : Buf (Elt F) ((c : Thread nD τ).loc b) := m ((c : Thread nD τ).loc b)

theorem hmainD (𝒱₀ : Variants) : Pipeline.HMain (Ix := Unit) (Name := ℕ) (U := Pipeline.UD sig nD τ) (Lvl := ℕ) cfgs 0 defs₀ 𝒱₀ m (main (F := F)) (VD m) :=
  Pipeline.hmain_region cfgs 0 defs₀ 𝒱₀ m main fun c => (main_chain c).trans rfl

theorem frame_ofD (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePostR cfgs dats 0 R0 (VD m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)),
      ((h.1 c).2 main_arg1 (Finset.mem_sdiff.mpr ⟨Pipeline.mem_restRefs_of main_arg1 (by decide) (by decide), by decide⟩)),
      ((h.1 c).2 main_arg2 (Finset.mem_sdiff.mpr ⟨Pipeline.mem_restRefs_of main_arg2 (by decide) (by decide), by decide⟩)),
      ((h.1 c).2 main_arg3 (Finset.mem_sdiff.mpr ⟨Pipeline.mem_restRefs_of main_arg3 (by decide) (by decide), by decide⟩))⟩, h.2⟩) h

/-- The body's DMA semaphores. -/
abbrev osem0 : Fin 20 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), (SemLoc.dma 0 : SemLoc sig)) 0 ∗ semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0 ∗ semVal ((c : Thread nD τ), (SemLoc.dma 19 : SemLoc sig)) 0) := by
  rw [Pipeline.ownSems0_eq_of_list c osem0 [0, 1, 2, 3, 4, 5, 6, 7, 8, 9, 10, 11, 12, 13, 14, 15, 16, 17, 18, 19] (by decide) (by decide)]; rfl
def H0 : Finset (Ref sig .tc) := {main_arg0, main_arg1, main_arg2, main_arg3}
theorem H0_sub : H0 ⊆ Pipeline.restRefs sig (cfg0.spec) := by decide
theorem hbmPts0_eq (c : Dev nD) :
    (bigSep H0 (fun b => ((c : Thread nD τ).loc b) ↦{fullShare} VD m c b) : sProp 𝕄)
      = iprop(ptsW c mX (VD m c main_arg0) ∗ ptsW c mGs (VD m c main_arg1) ∗ ptsW c mW (VD m c main_arg2) ∗ ptsW c mWs (VD m c main_arg3)) := by
  rw [BI.bigSep_eq_bigSepL_of_eq [main_arg0, main_arg1, main_arg2, main_arg3] (by decide) (by decide)]; rfl
theorem R0_sub : R0 ⊆ Pipeline.restRefs sig (cfg0.spec) \ H0 := by decide
theorem ownedPts0_eq (c : Dev nD) :
    (Pipeline.owned R0 c : sProp 𝕄) = iprop(∃ f, ptsW c mOut f) := by
  unfold Pipeline.owned; rw [BI.bigSep_eq_bigSepL_of_eq [main_v0] (by decide) (by decide)]; rfl
theorem PhiDR0_eq (c : Dev nD) :
    (Pipeline.ΦDR osem0 (cfg0.spec) H0 R0 (VD m) c : sProp 𝕄)
      = iprop(iprop((∃ f, ptsW c sX f) ∗ (∃ f, ptsW c sWs f) ∗ (∃ f, ptsW c sW f) ∗ (∃ f, ptsW c sXq f) ∗ (∃ f, ptsW c sSe f) ∗ (∃ f, ptsW c sOb f) ∗ (∃ f, ptsW c sGs f) ∗ (∃ f, ptsW c sAct f))
          ∗ (∃ r, prngReg c r)
          ∗ iprop(semVal ((c : Thread nD τ), (SemLoc.dma 0 : SemLoc sig)) 0 ∗ semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0 ∗ semVal ((c : Thread nD τ), (SemLoc.dma 19 : SemLoc sig)) 0)
          ∗ iprop(ptsW c mX (VD m c main_arg0) ∗ ptsW c mGs (VD m c main_arg1) ∗ ptsW c mW (VD m c main_arg2) ∗ ptsW c mWs (VD m c main_arg3))
          ∗ iprop(∃ f, ptsW c mOut f)) := by
  rw [Pipeline.ΦDR_eq, scopedRest0_eq, ownSems00_eq, hbmPts0_eq, ownedPts0_eq]; try rfl

/-- The proof data of the one region: nothing staged, nothing owed. -/
def dats (_ : Fin 1) (c : Dev nD) : Dat τ (Elt F) Unit ℕ (Pipeline.UD sig nD τ) ℕ cfg0 c where
  A w := VD m c (Pipeline.arrRef (cfg0.spec) w)
  after w t := w.elim0
  Φ _ := Pipeline.ΦDR osem0 (cfg0.spec) H0 R0 (VD m) c
  q _ := fullShare
  owed _ := 0

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (VD m) c from rfl, PhiDR0_eq]
  unfold Dat.owesAt Pipeline.owesWithin
  rw [show (dats m 0 c).owed t.castSucc = 0 from rfl, show (dats m 0 c).owed t.succ = 0 from rfl]
  iintro ⟨⟨⟨⟨%gx, HX⟩, ⟨%gws, HWs⟩, ⟨%gw, HSW⟩, ⟨%gxq, HXq⟩, ⟨%gse, HSe⟩, ⟨%gob, HOb⟩, ⟨%gg, HG⟩, ⟨%ga, HA⟩⟩, Hg, ⟨Hq0, Hq1, Hq2, Hq3, Hq4, Hq5, Hq6, Hq7, Hq8, Hq9, Hq10, Hq11, Hq12, Hq13, Hq14, Hq15, Hq16, Hq17, Hq18, Hq19⟩, ⟨HmX, HmG, HmW, HmWs⟩, ⟨%fo, Hout⟩⟩, ⟨%W, -, HO⟩⟩
  ihave HW := (glue_in c (VD m c main_arg2) gw) $$ [HSW HmW Hq3 Hq4 Hq5 Hq6 Hq7 Hq8 Hq9 Hq10 Hq11 Hq12 Hq13 Hq14 Hq15 Hq16 Hq17 Hq18]
  · isplitl [HSW]; iexact HSW
    isplitl [HmW]; iexact HmW
    isplitl [Hq3]; iexact Hq3
    isplitl [Hq4]; iexact Hq4
    isplitl [Hq5]; iexact Hq5
    isplitl [Hq6]; iexact Hq6
    isplitl [Hq7]; iexact Hq7
    isplitl [Hq8]; iexact Hq8
    isplitl [Hq9]; iexact Hq9
    isplitl [Hq10]; iexact Hq10
    isplitl [Hq11]; iexact Hq11
    isplitl [Hq12]; iexact Hq12
    isplitl [Hq13]; iexact Hq13
    isplitl [Hq14]; iexact Hq14
    isplitl [Hq15]; iexact Hq15
    isplitl [Hq16]; iexact Hq16
    isplitl [Hq17]; iexact Hq17
    iexact Hq18
  icases HW with ⟨HW0, HW1, HWr⟩
  iapply (run_body c (VD m c main_arg0) (VD m c main_arg1) (VD m c main_arg3) (VD m c main_arg2) fo gx gg gws ga gxq gse gob W _)
  isplitl [HmX]; iexact HmX
  isplitl [HmG]; iexact HmG
  isplitl [HmWs]; iexact HmWs
  isplitl [Hout]; iexact Hout
  isplitl [HX]; iexact HX
  isplitl [HG]; iexact HG
  isplitl [HWs]; iexact HWs
  isplitl [HA]; iexact HA
  isplitl [HXq]; iexact HXq
  isplitl [HSe]; iexact HSe
  isplitl [HOb]; iexact HOb
  isplitl [Hq0]; iexact Hq0
  isplitl [Hq1]; iexact Hq1
  isplitl [Hq2]; iexact Hq2
  isplitl [Hq19]; iexact Hq19
  isplitl [HW0]; iexact HW0
  isplitl [HW1]; iexact HW1
  isplitl [HO]; iexact HO
  unfold runPost
  iintro ⟨HmX, HmG, HmWs, HX, HG, HWs, HA, HXq, HSe, HOb, Hq0, Hq1, Hq2, Hq19, HW0, HW1, ⟨%W', HO⟩, ⟨%v1, %hw18, %fa, %hv, %hact, -, Hout⟩⟩
  ihave HW := (glue_out c (VD m c main_arg2)) $$ [HW0 HW1 HWr]
  · isplitl [HW0]; iexact HW0
    isplitl [HW1]; iexact HW1
    iexact HWr
  icases HW with ⟨HSW, HmW, Hq3, Hq4, Hq5, Hq6, Hq7, Hq8, Hq9, Hq10, Hq11, Hq12, Hq13, Hq14, Hq15, Hq16, Hq17, Hq18⟩
  isplitr [HO]
  · isplitl [HX HWs HSW HXq HSe HOb HG HA]
    · isplitl [HX]; iexact HX
      isplitl [HWs]; iexact HWs
      isplitl [HSW]; iexact HSW
      isplitl [HXq]; iexact HXq
      isplitl [HSe]; iexact HSe
      isplitl [HOb]; iexact HOb
      isplitl [HG]; iexact HG
      iexact HA
    isplitl [Hg]; iexact Hg
    isplitl [Hq0 Hq1 Hq2 Hq3 Hq4 Hq5 Hq6 Hq7 Hq8 Hq9 Hq10 Hq11 Hq12 Hq13 Hq14 Hq15 Hq16 Hq17 Hq18 Hq19]
    · skip
      isplitl [Hq0]; iexact Hq0
      isplitl [Hq1]; iexact Hq1
      isplitl [Hq2]; iexact Hq2
      isplitl [Hq3]; iexact Hq3
      isplitl [Hq4]; iexact Hq4
      isplitl [Hq5]; iexact Hq5
      isplitl [Hq6]; iexact Hq6
      isplitl [Hq7]; iexact Hq7
      isplitl [Hq8]; iexact Hq8
      isplitl [Hq9]; iexact Hq9
      isplitl [Hq10]; iexact Hq10
      isplitl [Hq11]; iexact Hq11
      isplitl [Hq12]; iexact Hq12
      isplitl [Hq13]; iexact Hq13
      isplitl [Hq14]; iexact Hq14
      isplitl [Hq15]; iexact Hq15
      isplitl [Hq16]; iexact Hq16
      isplitl [Hq17]; iexact Hq17
      isplitl [Hq18]; iexact Hq18
      iexact Hq19
    isplitl [HmX HmG HmW HmWs]
    · isplitl [HmX]; iexact HmX
      isplitl [HmG]; iexact HmG
      isplitl [HmW]; iexact HmW
      iexact HmWs
    iexists _; iexact Hout
  iexists W'; isplitr; · ipureintro; exact fun _ _ => Or.inl trivial
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · unfold bodyPre; iintro ⟨H1, H2, -⟩; isplitl [H1]; iexact H1; iexact H2
  · unfold bodyPost; iintro ⟨H1, H2⟩; isplitl [H1]; iexact H1; isplitl [H2]; iexact H2; iempintro

set_option backward.isDefEq.respectTransparency.types false in
theorem run_main : θ_run defs (onTc (τ := τ) (main (F := F))) (s₀ m ρ) (fun r => Pipeline.FramePostR cfgs (dats m) 0 R0 (VD m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := VD m) (hmain := hmainD m Variants.none) (hA := fun c w => w.elim0)
    (hin := fun _ => .rfl) (hout := fun _ => .rfl)

/-- The program runs, its arguments end as they began, and every semaphore ends at zero. -/
theorem frameD : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_ofD m ρ (dats m) (run_main m ρ)

end Cert.Kernel.Gen

end
-- ==== Proof.Quant.lean ====
module

public import proofs.«01_k».proof.Proof.Trip

@[expose] public section

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- One step of the search for a block's biased exponent: the bit of weight `n` is kept if the power of two stays below. -/
def qstep (a : FVec F S8x128 .f32) (b : IVec S8x128 32) (n : BitVec 32) : IVec S8x128 32 :=
  select (cmpf .olt a (bitcastToFloat .f32 (shli (addi b (broadcast S8x128 n)) (broadcast S8x128 23#32)))) b (addi b (broadcast S8x128 n))

/-- The biased exponent. -/
def qbias (a : FVec F S8x128 .f32) : IVec S8x128 32 :=
  qstep a (qstep a (qstep a (qstep a (qstep a (qstep a (qstep a (qstep a (broadcast S8x128 0#32) 128#32) 64#32) 32#32) 16#32) 8#32) 4#32) 2#32) 1#32

/-- The exponent of a block's scale. -/
def qexp (b : IVec S8x128 32) : IVec S8x128 32 :=
  select (ori (cmpi .eq b (broadcast S8x128 0#32)) (cmpi .eq b (broadcast S8x128 255#32))) (broadcast S8x128 0#32) (subi b (broadcast S8x128 126#32))

/-- A block of activations. -/
def qx (v : Vec F S1x8x128 .bf16) : FVec F S8x128 .f32 := extf .f32 (shapeCast S8x128 v shapeCasts_S1x8x128_S8x128) bitsLt_bf16_f32

/-- The largest magnitude of each row of a block, over 448. -/
def qamax (v : Vec F S1x8x128 .bf16) : FVec F S8x128 .f32 :=
  mulf (broadcastTo S8x128 (shapeCast S8x1 (shapeCast S8x1 (multiReduction .maximumf [1] S8 (absf (qx v)) 0xFF800000#32 reduces_S8x128_S8 (.inl rfl) rfl) shapeCasts_S8_S8x1) shapeCasts_S8x1_S8x1) broadcasts_S8x1_S8x128)
    (broadcast S8x128 (Scalar.ofBits .f32 0x3B124925#32 : F .f32))

/-- The block's scale. -/
def qscale (v : Vec F S1x8x128 .bf16) : FVec F S8x128 .f32 :=
  bitcastToFloat .f32 (shli (addi (broadcast S8x128 127#32) (qexp (qbias (qamax v)))) (broadcast S8x128 23#32))

/-- The block over its scale, clipped. -/
def qclip (v : Vec F S1x8x128 .bf16) : FVec F S8x128 .f32 :=
  minimumf (broadcast S8x128 (Scalar.ofBits .f32 0x43E00000#32 : F .f32)) (maximumf (broadcast S8x128 (Scalar.ofBits .f32 0xC3E00000#32 : F .f32))
    (mulf (qx v) (bitcastToFloat .f32 (shli (subi (broadcast S8x128 127#32) (qexp (qbias (qamax v)))) (broadcast S8x128 23#32)))))

/-- Four clipped blocks through the eight-bit format. -/
def qcodes (v₀ v₁ v₂ v₃ : Vec F S1x8x128 .bf16) : FVec F S32x128 .f32 :=
  extf .f32 (truncf .fp8e4m3 (concatenate S32x128 0 [⟨S8x128, qclip v₀⟩, ⟨S8x128, qclip v₁⟩, ⟨S8x128, qclip v₂⟩, ⟨S8x128, qclip v₃⟩] concatenates_S8x128_S8x128_S8x128_S8x128_S32x128_d0) bitsLt_fp8e4m3_f32) bitsLt_fp8e4m3_f32

/-- The rows a block of even number stores: the block, then zeros. -/
def qeven (q s : FVec F S8x128 .f32) : FVec F S1x16x128 .bf16 :=
  shapeCast S1x16x128 (truncf .bf16 (concatenate S16x128 0 [⟨S8x128, mulf q s⟩, ⟨S8x128, k0_pay2⟩] concatenates_S8x128_S8x128_S16x128_d0) bitsLt_bf16_f32) shapeCasts_S16x128_S1x16x128
/-- The rows a block of odd number stores: zeros, then the block. -/
def qodd (q s : FVec F S8x128 .f32) : FVec F S1x16x128 .bf16 :=
  shapeCast S1x16x128 (truncf .bf16 (concatenate S16x128 0 [⟨S8x128, k0_pay2⟩, ⟨S8x128, mulf q s⟩] concatenates_S8x128_S8x128_S16x128_d0) bitsLt_bf16_f32) shapeCasts_S16x128_S1x16x128

variable (c : Dev nD) (v1 : BitVec 32) (hw18 : k0_chk18 v1) (k : Fin (k0_t3_loop v1).trips) (fx : Buf (Elt F) (sX.view.loc (c : Thread nD τ)))
    (fa : Buf (Elt F) (sAct.view.loc (c : Thread nD τ))) (hact : ∀ i : S17.Idx, (i 0).val < (k0_t3_loop v1).trips → (fa i : BitVec 32).toNat < 16)

theorem qpiece0 :
    k0_pay45 k0_pay2 (trip1.sl.r_9 c v1 hw18 k fx fa hact) (trip1.sl.r_33 c v1 hw18 k fx fa hact) = qeven (extractStridedSlice S8x128 ![0, 0] (qcodes (trip1.sl.v20 c v1 hw18 k fx fa hact) (trip1.sl.v128 c v1 hw18 k fx fa hact) (trip1.sl.v236 c v1 hw18 k fx fa hact) (trip1.sl.v344 c v1 hw18 k fx fa hact)) slices_S32x128_o0_0_S8x128) (qscale (trip1.sl.v20 c v1 hw18 k fx fa hact)) := rfl
theorem qpiece1 :
    k0_pay46 k0_pay2 (trip1.sl.r_16 c v1 hw18 k fx fa hact) (trip1.sl.r_32 c v1 hw18 k fx fa hact) = qodd (extractStridedSlice S8x128 ![8, 0] (qcodes (trip1.sl.v20 c v1 hw18 k fx fa hact) (trip1.sl.v128 c v1 hw18 k fx fa hact) (trip1.sl.v236 c v1 hw18 k fx fa hact) (trip1.sl.v344 c v1 hw18 k fx fa hact)) slices_S32x128_o8_0_S8x128) (qscale (trip1.sl.v128 c v1 hw18 k fx fa hact)) := rfl
theorem qpiece2 :
    k0_pay47 k0_pay2 (trip1.sl.r_25 c v1 hw18 k fx fa hact) (trip1.sl.r_32 c v1 hw18 k fx fa hact) = qeven (extractStridedSlice S8x128 ![16, 0] (qcodes (trip1.sl.v20 c v1 hw18 k fx fa hact) (trip1.sl.v128 c v1 hw18 k fx fa hact) (trip1.sl.v236 c v1 hw18 k fx fa hact) (trip1.sl.v344 c v1 hw18 k fx fa hact)) slices_S32x128_o16_0_S8x128) (qscale (trip1.sl.v236 c v1 hw18 k fx fa hact)) := rfl
theorem qpiece3 :
    k0_pay48 k0_pay2 (trip1.sl.r_31 c v1 hw18 k fx fa hact) (trip1.sl.r_32 c v1 hw18 k fx fa hact) = qodd (extractStridedSlice S8x128 ![24, 0] (qcodes (trip1.sl.v20 c v1 hw18 k fx fa hact) (trip1.sl.v128 c v1 hw18 k fx fa hact) (trip1.sl.v236 c v1 hw18 k fx fa hact) (trip1.sl.v344 c v1 hw18 k fx fa hact)) slices_S32x128_o24_0_S8x128) (qscale (trip1.sl.v344 c v1 hw18 k fx fa hact)) := rfl
theorem qpiece4 :
    k0_pay85 k0_pay2 (trip1.sl.r_37 c v1 hw18 k fx fa hact) (trip1.sl.r_39 c v1 hw18 k fx fa hact) (trip1.sl.r_47 c v1 hw18 k fx fa hact) (trip1.sl.r_54 c v1 hw18 k fx fa hact) (trip1.sl.r_55 c v1 hw18 k fx fa hact) (trip1.sl.r_59 c v1 hw18 k fx fa hact) (trip1.sl.r_60 c v1 hw18 k fx fa hact) = qeven (extractStridedSlice S8x128 ![0, 0] (qcodes (trip1.sl.v483 c v1 hw18 k fx fa hact) (trip1.sl.v591 c v1 hw18 k fx fa hact) (trip1.sl.v699 c v1 hw18 k fx fa hact) (trip1.sl.v807 c v1 hw18 k fx fa hact)) slices_S32x128_o0_0_S8x128) (qscale (trip1.sl.v483 c v1 hw18 k fx fa hact)) := rfl
theorem qpiece5 :
    k0_pay86 k0_pay2 (trip1.sl.r_39 c v1 hw18 k fx fa hact) (trip1.sl.r_46 c v1 hw18 k fx fa hact) (trip1.sl.r_47 c v1 hw18 k fx fa hact) (trip1.sl.r_54 c v1 hw18 k fx fa hact) (trip1.sl.r_55 c v1 hw18 k fx fa hact) (trip1.sl.r_59 c v1 hw18 k fx fa hact) (trip1.sl.r_60 c v1 hw18 k fx fa hact) = qodd (extractStridedSlice S8x128 ![8, 0] (qcodes (trip1.sl.v483 c v1 hw18 k fx fa hact) (trip1.sl.v591 c v1 hw18 k fx fa hact) (trip1.sl.v699 c v1 hw18 k fx fa hact) (trip1.sl.v807 c v1 hw18 k fx fa hact)) slices_S32x128_o8_0_S8x128) (qscale (trip1.sl.v591 c v1 hw18 k fx fa hact)) := rfl
theorem qpiece6 :
    k0_pay88 (trip1.sl.r_63 c v1 hw18 k fx fa hact) = qeven (extractStridedSlice S8x128 ![16, 0] (qcodes (trip1.sl.v483 c v1 hw18 k fx fa hact) (trip1.sl.v591 c v1 hw18 k fx fa hact) (trip1.sl.v699 c v1 hw18 k fx fa hact) (trip1.sl.v807 c v1 hw18 k fx fa hact)) slices_S32x128_o16_0_S8x128) (qscale (trip1.sl.v699 c v1 hw18 k fx fa hact)) := rfl
theorem qpiece7 :
    k0_pay89 k0_pay2 (trip1.sl.r_61 c v1 hw18 k fx fa hact) (trip1.sl.r_62 c v1 hw18 k fx fa hact) = qodd (extractStridedSlice S8x128 ![24, 0] (qcodes (trip1.sl.v483 c v1 hw18 k fx fa hact) (trip1.sl.v591 c v1 hw18 k fx fa hact) (trip1.sl.v699 c v1 hw18 k fx fa hact) (trip1.sl.v807 c v1 hw18 k fx fa hact)) slices_S32x128_o24_0_S8x128) (qscale (trip1.sl.v807 c v1 hw18 k fx fa hact)) := rfl
theorem qpiece8 :
    k0_pay125 k0_pay2 (trip1.sl.r_68 c v1 hw18 k fx fa hact) (trip1.sl.r_69 c v1 hw18 k fx fa hact) (trip1.sl.r_76 c v1 hw18 k fx fa hact) (trip1.sl.r_84 c v1 hw18 k fx fa hact) (trip1.sl.r_90 c v1 hw18 k fx fa hact) = qeven (extractStridedSlice S8x128 ![0, 0] (qcodes (trip1.sl.v946 c v1 hw18 k fx fa hact) (trip1.sl.v1054 c v1 hw18 k fx fa hact) (trip1.sl.v1162 c v1 hw18 k fx fa hact) (trip1.sl.v1270 c v1 hw18 k fx fa hact)) slices_S32x128_o0_0_S8x128) (qscale (trip1.sl.v946 c v1 hw18 k fx fa hact)) := rfl
theorem qpiece9 :
    k0_pay126 k0_pay2 (trip1.sl.r_69 c v1 hw18 k fx fa hact) (trip1.sl.r_75 c v1 hw18 k fx fa hact) (trip1.sl.r_76 c v1 hw18 k fx fa hact) (trip1.sl.r_84 c v1 hw18 k fx fa hact) (trip1.sl.r_90 c v1 hw18 k fx fa hact) = qodd (extractStridedSlice S8x128 ![8, 0] (qcodes (trip1.sl.v946 c v1 hw18 k fx fa hact) (trip1.sl.v1054 c v1 hw18 k fx fa hact) (trip1.sl.v1162 c v1 hw18 k fx fa hact) (trip1.sl.v1270 c v1 hw18 k fx fa hact)) slices_S32x128_o8_0_S8x128) (qscale (trip1.sl.v1054 c v1 hw18 k fx fa hact)) := rfl
theorem qpiece10 :
    k0_pay127 k0_pay2 (trip1.sl.r_69 c v1 hw18 k fx fa hact) (trip1.sl.r_76 c v1 hw18 k fx fa hact) (trip1.sl.r_83 c v1 hw18 k fx fa hact) (trip1.sl.r_84 c v1 hw18 k fx fa hact) (trip1.sl.r_90 c v1 hw18 k fx fa hact) = qeven (extractStridedSlice S8x128 ![16, 0] (qcodes (trip1.sl.v946 c v1 hw18 k fx fa hact) (trip1.sl.v1054 c v1 hw18 k fx fa hact) (trip1.sl.v1162 c v1 hw18 k fx fa hact) (trip1.sl.v1270 c v1 hw18 k fx fa hact)) slices_S32x128_o16_0_S8x128) (qscale (trip1.sl.v1162 c v1 hw18 k fx fa hact)) := rfl
theorem qpiece11 :
    k0_pay128 k0_pay2 (trip1.sl.r_69 c v1 hw18 k fx fa hact) (trip1.sl.r_76 c v1 hw18 k fx fa hact) (trip1.sl.r_84 c v1 hw18 k fx fa hact) (trip1.sl.r_89 c v1 hw18 k fx fa hact) (trip1.sl.r_90 c v1 hw18 k fx fa hact) = qodd (extractStridedSlice S8x128 ![24, 0] (qcodes (trip1.sl.v946 c v1 hw18 k fx fa hact) (trip1.sl.v1054 c v1 hw18 k fx fa hact) (trip1.sl.v1162 c v1 hw18 k fx fa hact) (trip1.sl.v1270 c v1 hw18 k fx fa hact)) slices_S32x128_o24_0_S8x128) (qscale (trip1.sl.v1270 c v1 hw18 k fx fa hact)) := rfl
theorem qpiece12 :
    k0_pay167 k0_pay2 (trip1.sl.r_96 c v1 hw18 k fx fa hact) (trip1.sl.r_97 c v1 hw18 k fx fa hact) (trip1.sl.r_107 c v1 hw18 k fx fa hact) (trip1.sl.r_115 c v1 hw18 k fx fa hact) (trip1.sl.r_116 c v1 hw18 k fx fa hact) (trip1.sl.r_117 c v1 hw18 k fx fa hact) (trip1.sl.r_120 c v1 hw18 k fx fa hact) (trip1.sl.r_121 c v1 hw18 k fx fa hact) k0_pay163 = qeven (extractStridedSlice S8x128 ![0, 0] (qcodes (trip1.sl.v1409 c v1 hw18 k fx fa hact) (trip1.sl.v1517 c v1 hw18 k fx fa hact) (trip1.sl.v1625 c v1 hw18 k fx fa hact) (trip1.sl.v1733 c v1 hw18 k fx fa hact)) slices_S32x128_o0_0_S8x128) (qscale (trip1.sl.v1409 c v1 hw18 k fx fa hact)) := rfl
theorem qpiece13 :
    k0_pay169 (trip1.sl.r_124 c v1 hw18 k fx fa hact) = qodd (extractStridedSlice S8x128 ![8, 0] (qcodes (trip1.sl.v1409 c v1 hw18 k fx fa hact) (trip1.sl.v1517 c v1 hw18 k fx fa hact) (trip1.sl.v1625 c v1 hw18 k fx fa hact) (trip1.sl.v1733 c v1 hw18 k fx fa hact)) slices_S32x128_o8_0_S8x128) (qscale (trip1.sl.v1517 c v1 hw18 k fx fa hact)) := rfl
theorem qpiece14 :
    k0_pay170 k0_pay2 (trip1.sl.r_114 c v1 hw18 k fx fa hact) (trip1.sl.r_123 c v1 hw18 k fx fa hact) = qeven (extractStridedSlice S8x128 ![16, 0] (qcodes (trip1.sl.v1409 c v1 hw18 k fx fa hact) (trip1.sl.v1517 c v1 hw18 k fx fa hact) (trip1.sl.v1625 c v1 hw18 k fx fa hact) (trip1.sl.v1733 c v1 hw18 k fx fa hact)) slices_S32x128_o16_0_S8x128) (qscale (trip1.sl.v1625 c v1 hw18 k fx fa hact)) := rfl
theorem qpiece15 :
    k0_pay171 k0_pay2 (trip1.sl.r_122 c v1 hw18 k fx fa hact) (trip1.sl.r_123 c v1 hw18 k fx fa hact) = qodd (extractStridedSlice S8x128 ![24, 0] (qcodes (trip1.sl.v1409 c v1 hw18 k fx fa hact) (trip1.sl.v1517 c v1 hw18 k fx fa hact) (trip1.sl.v1625 c v1 hw18 k fx fa hact) (trip1.sl.v1733 c v1 hw18 k fx fa hact)) slices_S32x128_o24_0_S8x128) (qscale (trip1.sl.v1733 c v1 hw18 k fx fa hact)) := rfl
theorem qpiece16 :
    k0_pay210 k0_pay2 (trip1.sl.r_131 c v1 hw18 k fx fa hact) (trip1.sl.r_132 c v1 hw18 k fx fa hact) (trip1.sl.r_140 c v1 hw18 k fx fa hact) (trip1.sl.r_148 c v1 hw18 k fx fa hact) (trip1.sl.r_149 c v1 hw18 k fx fa hact) (trip1.sl.r_154 c v1 hw18 k fx fa hact) = qeven (extractStridedSlice S8x128 ![0, 0] (qcodes (trip1.sl.v1872 c v1 hw18 k fx fa hact) (trip1.sl.v1980 c v1 hw18 k fx fa hact) (trip1.sl.v2088 c v1 hw18 k fx fa hact) (trip1.sl.v2196 c v1 hw18 k fx fa hact)) slices_S32x128_o0_0_S8x128) (qscale (trip1.sl.v1872 c v1 hw18 k fx fa hact)) := rfl
theorem qpiece17 :
    k0_pay211 k0_pay2 (trip1.sl.r_132 c v1 hw18 k fx fa hact) (trip1.sl.r_139 c v1 hw18 k fx fa hact) (trip1.sl.r_140 c v1 hw18 k fx fa hact) (trip1.sl.r_148 c v1 hw18 k fx fa hact) (trip1.sl.r_149 c v1 hw18 k fx fa hact) (trip1.sl.r_154 c v1 hw18 k fx fa hact) = qodd (extractStridedSlice S8x128 ![8, 0] (qcodes (trip1.sl.v1872 c v1 hw18 k fx fa hact) (trip1.sl.v1980 c v1 hw18 k fx fa hact) (trip1.sl.v2088 c v1 hw18 k fx fa hact) (trip1.sl.v2196 c v1 hw18 k fx fa hact)) slices_S32x128_o8_0_S8x128) (qscale (trip1.sl.v1980 c v1 hw18 k fx fa hact)) := rfl
theorem qpiece18 :
    k0_pay212 k0_pay2 (trip1.sl.r_132 c v1 hw18 k fx fa hact) (trip1.sl.r_140 c v1 hw18 k fx fa hact) (trip1.sl.r_147 c v1 hw18 k fx fa hact) (trip1.sl.r_148 c v1 hw18 k fx fa hact) (trip1.sl.r_149 c v1 hw18 k fx fa hact) (trip1.sl.r_154 c v1 hw18 k fx fa hact) = qeven (extractStridedSlice S8x128 ![16, 0] (qcodes (trip1.sl.v1872 c v1 hw18 k fx fa hact) (trip1.sl.v1980 c v1 hw18 k fx fa hact) (trip1.sl.v2088 c v1 hw18 k fx fa hact) (trip1.sl.v2196 c v1 hw18 k fx fa hact)) slices_S32x128_o16_0_S8x128) (qscale (trip1.sl.v2088 c v1 hw18 k fx fa hact)) := rfl
theorem qpiece19 :
    k0_pay214 (trip1.sl.r_156 c v1 hw18 k fx fa hact) = qodd (extractStridedSlice S8x128 ![24, 0] (qcodes (trip1.sl.v1872 c v1 hw18 k fx fa hact) (trip1.sl.v1980 c v1 hw18 k fx fa hact) (trip1.sl.v2088 c v1 hw18 k fx fa hact) (trip1.sl.v2196 c v1 hw18 k fx fa hact)) slices_S32x128_o24_0_S8x128) (qscale (trip1.sl.v2196 c v1 hw18 k fx fa hact)) := rfl
theorem qpiece20 :
    k0_pay252 (trip1.sl.r_187 c v1 hw18 k fx fa hact) = qeven (extractStridedSlice S8x128 ![0, 0] (qcodes (trip1.sl.v2335 c v1 hw18 k fx fa hact) (trip1.sl.v2443 c v1 hw18 k fx fa hact) (trip1.sl.v2551 c v1 hw18 k fx fa hact) (trip1.sl.v2659 c v1 hw18 k fx fa hact)) slices_S32x128_o0_0_S8x128) (qscale (trip1.sl.v2335 c v1 hw18 k fx fa hact)) := rfl
theorem qpiece21 :
    k0_pay253 k0_pay2 (trip1.sl.r_169 c v1 hw18 k fx fa hact) (trip1.sl.r_186 c v1 hw18 k fx fa hact) = qodd (extractStridedSlice S8x128 ![8, 0] (qcodes (trip1.sl.v2335 c v1 hw18 k fx fa hact) (trip1.sl.v2443 c v1 hw18 k fx fa hact) (trip1.sl.v2551 c v1 hw18 k fx fa hact) (trip1.sl.v2659 c v1 hw18 k fx fa hact)) slices_S32x128_o8_0_S8x128) (qscale (trip1.sl.v2443 c v1 hw18 k fx fa hact)) := rfl
theorem qpiece22 :
    k0_pay254 k0_pay2 (trip1.sl.r_177 c v1 hw18 k fx fa hact) (trip1.sl.r_186 c v1 hw18 k fx fa hact) = qeven (extractStridedSlice S8x128 ![16, 0] (qcodes (trip1.sl.v2335 c v1 hw18 k fx fa hact) (trip1.sl.v2443 c v1 hw18 k fx fa hact) (trip1.sl.v2551 c v1 hw18 k fx fa hact) (trip1.sl.v2659 c v1 hw18 k fx fa hact)) slices_S32x128_o16_0_S8x128) (qscale (trip1.sl.v2551 c v1 hw18 k fx fa hact)) := rfl
theorem qpiece23 :
    k0_pay255 k0_pay2 (trip1.sl.r_185 c v1 hw18 k fx fa hact) (trip1.sl.r_186 c v1 hw18 k fx fa hact) = qodd (extractStridedSlice S8x128 ![24, 0] (qcodes (trip1.sl.v2335 c v1 hw18 k fx fa hact) (trip1.sl.v2443 c v1 hw18 k fx fa hact) (trip1.sl.v2551 c v1 hw18 k fx fa hact) (trip1.sl.v2659 c v1 hw18 k fx fa hact)) slices_S32x128_o24_0_S8x128) (qscale (trip1.sl.v2659 c v1 hw18 k fx fa hact)) := rfl
theorem qpiece24 :
    k0_pay297 k0_pay2 (trip1.sl.r_192 c v1 hw18 k fx fa hact) (trip1.sl.r_194 c v1 hw18 k fx fa hact) (trip1.sl.r_200 c v1 hw18 k fx fa hact) (trip1.sl.r_208 c v1 hw18 k fx fa hact) (trip1.sl.r_209 c v1 hw18 k fx fa hact) (trip1.sl.r_213 c v1 hw18 k fx fa hact) (trip1.sl.r_214 c v1 hw18 k fx fa hact) 126#32 = qeven (extractStridedSlice S8x128 ![0, 0] (qcodes (trip1.sl.v2798 c v1 hw18 k fx fa hact) (trip1.sl.v2906 c v1 hw18 k fx fa hact) (trip1.sl.v3014 c v1 hw18 k fx fa hact) (trip1.sl.v3122 c v1 hw18 k fx fa hact)) slices_S32x128_o0_0_S8x128) (qscale (trip1.sl.v2798 c v1 hw18 k fx fa hact)) := rfl
theorem qpiece25 :
    k0_pay298 k0_pay2 (trip1.sl.r_194 c v1 hw18 k fx fa hact) (trip1.sl.r_199 c v1 hw18 k fx fa hact) (trip1.sl.r_200 c v1 hw18 k fx fa hact) (trip1.sl.r_208 c v1 hw18 k fx fa hact) (trip1.sl.r_209 c v1 hw18 k fx fa hact) (trip1.sl.r_213 c v1 hw18 k fx fa hact) (trip1.sl.r_214 c v1 hw18 k fx fa hact) 126#32 = qodd (extractStridedSlice S8x128 ![8, 0] (qcodes (trip1.sl.v2798 c v1 hw18 k fx fa hact) (trip1.sl.v2906 c v1 hw18 k fx fa hact) (trip1.sl.v3014 c v1 hw18 k fx fa hact) (trip1.sl.v3122 c v1 hw18 k fx fa hact)) slices_S32x128_o8_0_S8x128) (qscale (trip1.sl.v2906 c v1 hw18 k fx fa hact)) := rfl
theorem qpiece26 :
    k0_pay300 (trip1.sl.r_217 c v1 hw18 k fx fa hact) = qeven (extractStridedSlice S8x128 ![16, 0] (qcodes (trip1.sl.v2798 c v1 hw18 k fx fa hact) (trip1.sl.v2906 c v1 hw18 k fx fa hact) (trip1.sl.v3014 c v1 hw18 k fx fa hact) (trip1.sl.v3122 c v1 hw18 k fx fa hact)) slices_S32x128_o16_0_S8x128) (qscale (trip1.sl.v3014 c v1 hw18 k fx fa hact)) := rfl
theorem qpiece27 :
    k0_pay301 k0_pay2 (trip1.sl.r_215 c v1 hw18 k fx fa hact) (trip1.sl.r_216 c v1 hw18 k fx fa hact) = qodd (extractStridedSlice S8x128 ![24, 0] (qcodes (trip1.sl.v2798 c v1 hw18 k fx fa hact) (trip1.sl.v2906 c v1 hw18 k fx fa hact) (trip1.sl.v3014 c v1 hw18 k fx fa hact) (trip1.sl.v3122 c v1 hw18 k fx fa hact)) slices_S32x128_o24_0_S8x128) (qscale (trip1.sl.v3122 c v1 hw18 k fx fa hact)) := rfl
theorem qpiece28 :
    k0_pay339 k0_pay2 (trip1.sl.r_224 c v1 hw18 k fx fa hact) (trip1.sl.r_225 c v1 hw18 k fx fa hact) (trip1.sl.r_232 c v1 hw18 k fx fa hact) (trip1.sl.r_238 c v1 hw18 k fx fa hact) (trip1.sl.r_245 c v1 hw18 k fx fa hact) k0_pay337 = qeven (extractStridedSlice S8x128 ![0, 0] (qcodes (trip1.sl.v3261 c v1 hw18 k fx fa hact) (trip1.sl.v3369 c v1 hw18 k fx fa hact) (trip1.sl.v3477 c v1 hw18 k fx fa hact) (trip1.sl.v3585 c v1 hw18 k fx fa hact)) slices_S32x128_o0_0_S8x128) (qscale (trip1.sl.v3261 c v1 hw18 k fx fa hact)) := rfl
theorem qpiece29 :
    k0_pay340 k0_pay2 (trip1.sl.r_225 c v1 hw18 k fx fa hact) (trip1.sl.r_230 c v1 hw18 k fx fa hact) (trip1.sl.r_232 c v1 hw18 k fx fa hact) (trip1.sl.r_238 c v1 hw18 k fx fa hact) (trip1.sl.r_245 c v1 hw18 k fx fa hact) k0_pay337 = qodd (extractStridedSlice S8x128 ![8, 0] (qcodes (trip1.sl.v3261 c v1 hw18 k fx fa hact) (trip1.sl.v3369 c v1 hw18 k fx fa hact) (trip1.sl.v3477 c v1 hw18 k fx fa hact) (trip1.sl.v3585 c v1 hw18 k fx fa hact)) slices_S32x128_o8_0_S8x128) (qscale (trip1.sl.v3369 c v1 hw18 k fx fa hact)) := rfl
theorem qpiece30 :
    k0_pay341 k0_pay2 (trip1.sl.r_225 c v1 hw18 k fx fa hact) (trip1.sl.r_232 c v1 hw18 k fx fa hact) (trip1.sl.r_237 c v1 hw18 k fx fa hact) (trip1.sl.r_238 c v1 hw18 k fx fa hact) (trip1.sl.r_245 c v1 hw18 k fx fa hact) k0_pay337 = qeven (extractStridedSlice S8x128 ![16, 0] (qcodes (trip1.sl.v3261 c v1 hw18 k fx fa hact) (trip1.sl.v3369 c v1 hw18 k fx fa hact) (trip1.sl.v3477 c v1 hw18 k fx fa hact) (trip1.sl.v3585 c v1 hw18 k fx fa hact)) slices_S32x128_o16_0_S8x128) (qscale (trip1.sl.v3477 c v1 hw18 k fx fa hact)) := rfl
theorem qpiece31 :
    k0_pay342 k0_pay2 (trip1.sl.r_225 c v1 hw18 k fx fa hact) (trip1.sl.r_232 c v1 hw18 k fx fa hact) (trip1.sl.r_238 c v1 hw18 k fx fa hact) (trip1.sl.r_244 c v1 hw18 k fx fa hact) (trip1.sl.r_245 c v1 hw18 k fx fa hact) k0_pay337 = qodd (extractStridedSlice S8x128 ![24, 0] (qcodes (trip1.sl.v3261 c v1 hw18 k fx fa hact) (trip1.sl.v3369 c v1 hw18 k fx fa hact) (trip1.sl.v3477 c v1 hw18 k fx fa hact) (trip1.sl.v3585 c v1 hw18 k fx fa hact)) slices_S32x128_o24_0_S8x128) (qscale (trip1.sl.v3585 c v1 hw18 k fx fa hact)) := rfl

end Cert.KernelIdeal.Gen
-- ==== Proof.Mix.lean ====
module

public import proofs.«01_k».proof.Proof.Quant

@[expose] public section

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- Two groups of the contraction added to the sum: sixteen rows times a chunk of weights, each half times its scales. -/
def kstep (acc : FVec F S8x3072 .f32) (X : Vec F S1x16x256 .bf16) (W : Vec F S1x1x256x3072 .fp8e4m3) (s₀ s₁ : Vec F S1x3072 .f32) : FVec F S8x3072 .f32 :=
  addf (addf acc (mulf (extractStridedSlice S8x3072 ![0, 0] (matmul (φ₁ := .bf16) (φ₂ := .fp8e4m3) dot_S16x256_S256x3072_S16x3072_1_0_0_1_n_n none (shapeCast S16x256 X shapeCasts_S1x16x256_S16x256) (shapeCast S256x3072 W shapeCasts_S1x1x256x3072_S256x3072) (constant S16x3072 .f32 0x00000000#32)) slices_S16x3072_o0_0_S8x3072) (broadcastTo S8x3072 s₀ broadcasts_S1x3072_S8x3072)))
    (mulf (extractStridedSlice S8x3072 ![8, 0] (matmul (φ₁ := .bf16) (φ₂ := .fp8e4m3) dot_S16x256_S256x3072_S16x3072_1_0_0_1_n_n none (shapeCast S16x256 X shapeCasts_S1x16x256_S16x256) (shapeCast S256x3072 W shapeCasts_S1x1x256x3072_S256x3072) (constant S16x3072 .f32 0x00000000#32)) slices_S16x3072_o8_0_S8x3072) (broadcastTo S8x3072 s₁ broadcasts_S1x3072_S8x3072))

/-- A column of an expert's scales, spread over the 128 columns it scales. -/
def secol (v : FVec F S32x24 .f32) (j : Nat) (h : S32x24.Slices ![0, j] S32x1) : FVec F S32x128 .f32 :=
  shapeCast S32x128 (broadcastTo S32x128 (shapeCast S32x1 (extractStridedSlice S32x1 ![0, j] v h) shapeCasts_S32x1_S32x1) broadcasts_S32x1_S32x128) shapeCasts_S32x128_S32x128

/-- The sum after 2 groups. -/
def racc1 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep k0_pay372 (trip1.sl.v3880 c v1 hw18 k fx fa hact) (trip1.sl.v3883 c v1 hw18 k e fw) (trip1.sl.v3887 c v1 hw18 k fws fa hact) (trip1.sl.v3892 c v1 hw18 k fws fa hact)
/-- The sum after 4 groups. -/
def racc2 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc1 c v1 hw18 k e fx fws fa hact fw) (trip1.sl.v3896 c v1 hw18 k fx fa hact) (trip1.sl.v3899 c v1 hw18 k e fw) (trip1.sl.v3903 c v1 hw18 k fws fa hact) (trip1.sl.v3908 c v1 hw18 k fws fa hact)
/-- The sum after 6 groups. -/
def racc3 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc2 c v1 hw18 k e fx fws fa hact fw) (trip1.sl.v3925 c v1 hw18 k fx fa hact) (trip1.sl.v3928 c v1 hw18 k e fw) (trip1.sl.v3932 c v1 hw18 k fws fa hact) (trip1.sl.v3937 c v1 hw18 k fws fa hact)
/-- The sum after 8 groups. -/
def racc4 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc3 c v1 hw18 k e fx fws fa hact fw) (trip1.sl.v3941 c v1 hw18 k fx fa hact) (trip1.sl.v3944 c v1 hw18 k e fw) (trip1.sl.v3948 c v1 hw18 k fws fa hact) (trip1.sl.v3953 c v1 hw18 k fws fa hact)
/-- The sum after 10 groups. -/
def racc5 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc4 c v1 hw18 k e fx fws fa hact fw) (trip1.sl.v3970 c v1 hw18 k fx fa hact) (trip1.sl.v3973 c v1 hw18 k e fw) (trip1.sl.v3977 c v1 hw18 k fws fa hact) (trip1.sl.v3982 c v1 hw18 k fws fa hact)
/-- The sum after 12 groups. -/
def racc6 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc5 c v1 hw18 k e fx fws fa hact fw) (trip1.sl.v3986 c v1 hw18 k fx fa hact) (trip1.sl.v3989 c v1 hw18 k e fw) (trip1.sl.v3993 c v1 hw18 k fws fa hact) (trip1.sl.v3998 c v1 hw18 k fws fa hact)
/-- The sum after 14 groups. -/
def racc7 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc6 c v1 hw18 k e fx fws fa hact fw) (trip1.sl.v4015 c v1 hw18 k fx fa hact) (trip1.sl.v4018 c v1 hw18 k e fw) (trip1.sl.v4022 c v1 hw18 k fws fa hact) (trip1.sl.v4027 c v1 hw18 k fws fa hact)
/-- The sum after 16 groups. -/
def racc8 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc7 c v1 hw18 k e fx fws fa hact fw) (trip1.sl.v4031 c v1 hw18 k fx fa hact) (trip1.sl.v4034 c v1 hw18 k e fw) (trip1.sl.v4038 c v1 hw18 k fws fa hact) (trip1.sl.v4043 c v1 hw18 k fws fa hact)
/-- The sum after 18 groups. -/
def racc9 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc8 c v1 hw18 k e fx fws fa hact fw) (trip1.sl.v4060 c v1 hw18 k fx fa hact) (trip1.sl.v4063 c v1 hw18 k e fw) (trip1.sl.v4067 c v1 hw18 k fws fa hact) (trip1.sl.v4072 c v1 hw18 k fws fa hact)
/-- The sum after 20 groups. -/
def racc10 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc9 c v1 hw18 k e fx fws fa hact fw) (trip1.sl.v4076 c v1 hw18 k fx fa hact) (trip1.sl.v4079 c v1 hw18 k e fw) (trip1.sl.v4083 c v1 hw18 k fws fa hact) (trip1.sl.v4088 c v1 hw18 k fws fa hact)
/-- The sum after 22 groups. -/
def racc11 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc10 c v1 hw18 k e fx fws fa hact fw) (trip1.sl.v4105 c v1 hw18 k fx fa hact) (trip1.sl.v4108 c v1 hw18 k e fw) (trip1.sl.v4112 c v1 hw18 k fws fa hact) (trip1.sl.v4117 c v1 hw18 k fws fa hact)
/-- The sum after 24 groups. -/
def racc12 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc11 c v1 hw18 k e fx fws fa hact fw) (trip1.sl.v4121 c v1 hw18 k fx fa hact) (trip1.sl.v4124 c v1 hw18 k e fw) (trip1.sl.v4128 c v1 hw18 k fws fa hact) (trip1.sl.v4133 c v1 hw18 k fws fa hact)
/-- The sum after 26 groups. -/
def racc13 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc12 c v1 hw18 k e fx fws fa hact fw) (trip1.sl.v4150 c v1 hw18 k fx fa hact) (trip1.sl.v4153 c v1 hw18 k e fw) (trip1.sl.v4157 c v1 hw18 k fws fa hact) (trip1.sl.v4162 c v1 hw18 k fws fa hact)
/-- The sum after 28 groups. -/
def racc14 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc13 c v1 hw18 k e fx fws fa hact fw) (trip1.sl.v4166 c v1 hw18 k fx fa hact) (trip1.sl.v4169 c v1 hw18 k e fw) (trip1.sl.v4173 c v1 hw18 k fws fa hact) (trip1.sl.v4178 c v1 hw18 k fws fa hact)
/-- The sum after 30 groups. -/
def racc15 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc14 c v1 hw18 k e fx fws fa hact fw) (trip1.sl.v4195 c v1 hw18 k fx fa hact) (trip1.sl.v4198 c v1 hw18 k e fw) (trip1.sl.v4202 c v1 hw18 k fws fa hact) (trip1.sl.v4207 c v1 hw18 k fws fa hact)
/-- The sum after 32 groups. -/
def racc16 (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) : FVec F S8x3072 .f32 :=
  kstep (racc15 c v1 hw18 k e fx fws fa hact fw) (trip1.sl.v4211 c v1 hw18 k fx fa hact) (trip1.sl.v4214 c v1 hw18 k e fw) (trip1.sl.v4218 c v1 hw18 k fws fa hact) (trip1.sl.v4223 c v1 hw18 k fws fa hact)
theorem r_282_eq (c : Dev nD) (v1 : BitVec 32) (hw18 : k0_chk18 v1) (k : Fin (k0_t3_loop v1).trips) (e : Fin 16) (fx : Buf (Elt F) (sX.view.loc (c : Thread nD τ)))
    (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16)
    (fw : Buf (Elt F) (mW.view.loc (c : Thread nD τ))) :
    trip1.sl.r_282 c v1 hw18 k e fx fws fa hact fw = racc16 c v1 hw18 k e fx fws fa hact fw := rfl
theorem sepiece0 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3731 c v1 hw18 k fws fa hact = secol (trip1.sl.r_246 c v1 hw18 k fws fa hact) 0 slices_S32x24_o0_0_S32x1 := rfl
theorem sepiece1 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3737 c v1 hw18 k fws fa hact = secol (trip1.sl.r_246 c v1 hw18 k fws fa hact) 1 slices_S32x24_o0_1_S32x1 := rfl
theorem sepiece2 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3743 c v1 hw18 k fws fa hact = secol (trip1.sl.r_246 c v1 hw18 k fws fa hact) 2 slices_S32x24_o0_2_S32x1 := rfl
theorem sepiece3 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3749 c v1 hw18 k fws fa hact = secol (trip1.sl.r_246 c v1 hw18 k fws fa hact) 3 slices_S32x24_o0_3_S32x1 := rfl
theorem sepiece4 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3755 c v1 hw18 k fws fa hact = secol (trip1.sl.r_246 c v1 hw18 k fws fa hact) 4 slices_S32x24_o0_4_S32x1 := rfl
theorem sepiece5 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3761 c v1 hw18 k fws fa hact = secol (trip1.sl.r_246 c v1 hw18 k fws fa hact) 5 slices_S32x24_o0_5_S32x1 := rfl
theorem sepiece6 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3767 c v1 hw18 k fws fa hact = secol (trip1.sl.r_246 c v1 hw18 k fws fa hact) 6 slices_S32x24_o0_6_S32x1 := rfl
theorem sepiece7 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3773 c v1 hw18 k fws fa hact = secol (trip1.sl.r_246 c v1 hw18 k fws fa hact) 7 slices_S32x24_o0_7_S32x1 := rfl
theorem sepiece8 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3779 c v1 hw18 k fws fa hact = secol (trip1.sl.r_246 c v1 hw18 k fws fa hact) 8 slices_S32x24_o0_8_S32x1 := rfl
theorem sepiece9 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3785 c v1 hw18 k fws fa hact = secol (trip1.sl.r_246 c v1 hw18 k fws fa hact) 9 slices_S32x24_o0_9_S32x1 := rfl
theorem sepiece10 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3791 c v1 hw18 k fws fa hact = secol (trip1.sl.r_246 c v1 hw18 k fws fa hact) 10 slices_S32x24_o0_10_S32x1 := rfl
theorem sepiece11 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3797 c v1 hw18 k fws fa hact = secol (trip1.sl.r_246 c v1 hw18 k fws fa hact) 11 slices_S32x24_o0_11_S32x1 := rfl
theorem sepiece12 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3803 c v1 hw18 k fws fa hact = secol (trip1.sl.r_246 c v1 hw18 k fws fa hact) 12 slices_S32x24_o0_12_S32x1 := rfl
theorem sepiece13 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3809 c v1 hw18 k fws fa hact = secol (trip1.sl.r_246 c v1 hw18 k fws fa hact) 13 slices_S32x24_o0_13_S32x1 := rfl
theorem sepiece14 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3815 c v1 hw18 k fws fa hact = secol (trip1.sl.r_246 c v1 hw18 k fws fa hact) 14 slices_S32x24_o0_14_S32x1 := rfl
theorem sepiece15 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3821 c v1 hw18 k fws fa hact = secol (trip1.sl.r_246 c v1 hw18 k fws fa hact) 15 slices_S32x24_o0_15_S32x1 := rfl
theorem sepiece16 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3827 c v1 hw18 k fws fa hact = secol (trip1.sl.r_246 c v1 hw18 k fws fa hact) 16 slices_S32x24_o0_16_S32x1 := rfl
theorem sepiece17 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3833 c v1 hw18 k fws fa hact = secol (trip1.sl.r_246 c v1 hw18 k fws fa hact) 17 slices_S32x24_o0_17_S32x1 := rfl
theorem sepiece18 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3839 c v1 hw18 k fws fa hact = secol (trip1.sl.r_246 c v1 hw18 k fws fa hact) 18 slices_S32x24_o0_18_S32x1 := rfl
theorem sepiece19 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    trip1.sl.v3845 c v1 hw18 k fws fa hact = secol (trip1.sl.r_246 c v1 hw18 k fws fa hact) 19 slices_S32x24_o0_19_S32x1 := rfl
theorem sepiece20 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    k0_pay368 (trip1.sl.v3848 c v1 hw18 k fws fa hact) = secol (trip1.sl.r_246 c v1 hw18 k fws fa hact) 20 slices_S32x24_o0_20_S32x1 := rfl
theorem sepiece21 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    k0_pay369 (trip1.sl.r_246 c v1 hw18 k fws fa hact) = secol (trip1.sl.r_246 c v1 hw18 k fws fa hact) 21 slices_S32x24_o0_21_S32x1 := rfl
theorem sepiece22 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    k0_pay370 (trip1.sl.r_246 c v1 hw18 k fws fa hact) = secol (trip1.sl.r_246 c v1 hw18 k fws fa hact) 22 slices_S32x24_o0_22_S32x1 := rfl
theorem sepiece23 (c : Dev nD) (v1 : BitVec 32) (hw18 : k0_chk18 v1) (k : Fin (k0_t3_loop v1).trips) (fws : Buf (Elt F) (sWs.view.loc (c : Thread nD τ))) (fa : Buf (Elt F) (sAct.view.loc (c : Thread nD τ))) (hact : ∀ i : S17.Idx, (i 0).val < (k0_t3_loop v1).trips → (fa i : BitVec 32).toNat < 16) :
    k0_pay371 (trip1.sl.r_246 c v1 hw18 k fws fa hact) = secol (trip1.sl.r_246 c v1 hw18 k fws fa hact) 23 slices_S32x24_o0_23_S32x1 := rfl

end Cert.KernelIdeal.Gen
-- ==== Proof.Reads.lean ====
module

public import proofs.«01_k».proof.Proof.Mix
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- A load of a block of activations. -/
theorem x_read {c : Dev nD} (fx : Buf (Elt F) (sX.view.loc (c : Thread nD τ))) (e : Fin 16) (g : Nat) (hg : g < 32) (off : Fin 3 → Nat) (ho : off = ![e.val, 0, 128 * g]) (hi) (r : Fin 8) (l : Fin 128) :
    View.readAt (Elt F) sX.view (Rect.unit (s := S16x8x4096) off S1x8x128.size hi).toLoadRect fx (ix3 0 r l) = (fx : S16x8x4096.Idx → F .bf16) (ix3 e r ⟨128 * g + l.val, by omega⟩) := by
  subst ho
  refine congrArg (fx : S16x8x4096.Idx → F .bf16) ?_
  funext a
  refine Fin.ext ?_
  fin_cases a
  · show e.val + 1 * 0 = e.val; omega
  · show 0 + 1 * r.val = r.val; omega
  · show 128 * g + 1 * l.val = 128 * g + l.val; omega

/-- A load of an expert's scales. -/
theorem ws_read {c : Dev nD} (fws : Buf (Elt F) (sWs.view.loc (c : Thread nD τ))) (e : Fin 16) (off : Fin 3 → Nat) (ho : off = ![e.val, 0, 0]) (hi) (r : Fin 32) (l : Fin 24) :
    View.readAt (Elt F) sWs.view (Rect.unit (s := S16x32x24) off S1x32x24.size hi).toLoadRect fws (ix3 0 r l) = (fws : S16x32x24.Idx → F .f32) (ix3 e r l) := by
  subst ho
  refine congrArg (fws : S16x32x24.Idx → F .f32) ?_
  funext a
  refine Fin.ext ?_
  fin_cases a
  · show e.val + 1 * 0 = e.val; omega
  · show 0 + 1 * r.val = r.val; omega
  · show 0 + 1 * l.val = l.val; omega

theorem slot_idx (x : Fin 512) (z : Fin 3072) : Shape.reshapeEquiv (squeezes_S1x1x512x3072_S512x3072.numel_eq) (ix2 x z : S512x3072.Idx) = (ix4 0 0 x z : S1x1x512x3072.Idx) := by
  pointwise
theorem src_idx (x : Fin 512) (z : Fin 3072) : Shape.reshapeEquiv (squeezes_S1x512x3072_S512x3072.numel_eq) (ix2 x z : S512x3072.Idx) = (ix3 0 x z : S1x512x3072.Idx) := by
  pointwise

/-- A load of half a chunk of weights reads what stands in the chunk. -/
theorem w_load {c : Dev nD} (f : Buf (Elt F) (sW.view.loc (c : Thread nD τ))) (p : Fin 2) (j : Fin 8) (h : Nat) (hh : h < 2) (off : Fin 4 → Nat) (ho : off = ![p.val, j.val, 256 * h, 0]) (hi) (x : Fin 256) (z : Fin 3072) :
    View.readAt (Elt F) sW.view (Rect.unit (s := S2x8x512x3072) off S1x1x256x3072.size hi).toLoadRect f (ix4 0 0 x z)
      = (wslot p j).view.read (Elt F) f (ix2 ⟨256 * h + x.val, by omega⟩ z : S512x3072.Idx) := by
  subst ho
  have e1 : sW.view.emb ((Rect.unit (s := S2x8x512x3072) ![p.val, j.val, 256 * h, 0] S1x1x256x3072.size hi).toLoadRect.idx (ix4 0 0 x z))
      = (wslot p j).view.emb (ix2 ⟨256 * h + x.val, by omega⟩ z : S512x3072.Idx) := by
    have e2 : (wslot p j).view.emb (ix2 ⟨256 * h + x.val, by omega⟩ z : S512x3072.Idx)
        = (Rect.unit (s := S2x8x512x3072) ![p.val, j.val, 0, 0] S1x1x512x3072.size (slot_inb p j)).emb (Shape.reshapeEquiv (squeezes_S1x1x512x3072_S512x3072.numel_eq) (ix2 ⟨256 * h + x.val, by omega⟩ z : S512x3072.Idx)) := rfl
    rw [e2, slot_idx]
    funext a
    refine Fin.ext ?_
    fin_cases a
    · show p.val + 1 * 0 = p.val + 1 * 0; rfl
    · show j.val + 1 * 0 = j.val + 1 * 0; rfl
    · show 256 * h + 1 * x.val = 0 + 1 * (256 * h + x.val); omega
    · show 0 + 1 * z.val = 0 + 1 * z.val; rfl
  exact congrArg (f : S2x8x512x3072.Idx → F .fp8e4m3) e1

/-- A chunk of an expert's weights, where it comes from. -/
theorem w_src {c : Dev nD} (fw : Buf (Elt F) (mW.view.loc (c : Thread nD τ))) (e : Fin 16) (j : Fin 8) (x : Fin 512) (z : Fin 3072) :
    (View.read (Elt F) (wsrc e j).view fw) (ix2 x z : S512x3072.Idx) = (fw : S16x4096x3072.Idx → F .fp8e4m3) (ix3 e ⟨512 * j.val + x.val, by omega⟩ z) := by
  have e4 : (wsrc e j).view.emb (ix2 x z : S512x3072.Idx) = (ix3 e ⟨512 * j.val + x.val, by omega⟩ z : S16x4096x3072.Idx) := by
    have e2 : (wsrc e j).view.emb (ix2 x z : S512x3072.Idx)
        = (Rect.unit (s := S16x4096x3072) ![e.val, 512 * j.val, 0] S1x512x3072.size (src_inb e j)).emb (Shape.reshapeEquiv (squeezes_S1x512x3072_S512x3072.numel_eq) (ix2 x z : S512x3072.Idx)) := rfl
    rw [e2, src_idx]
    funext a
    refine Fin.ext ?_
    fin_cases a
    · show e.val + 1 * 0 = e.val; omega
    · show 512 * j.val + 1 * x.val = 512 * j.val + x.val; omega
    · show 0 + 1 * z.val = z.val; omega
  exact congrArg (fw : S16x4096x3072.Idx → F .fp8e4m3) e4

/-- A load of half a chunk of weights, once the chunk has landed. -/
theorem w_read {c : Dev nD} (fw : Buf (Elt F) (mW.view.loc (c : Thread nD τ))) (p : Fin 2) (e : Fin 16) (j : Fin 8) (h : Nat) (hh : h < 2) (off : Fin 4 → Nat) (ho : off = ![p.val, j.val, 256 * h, 0]) (hi) (x : Fin 256) (z : Fin 3072) :
    View.readAt (Elt F) sW.view (Rect.unit (s := S2x8x512x3072) off S1x1x256x3072.size hi).toLoadRect
      ((wslot p j).view.writes (Elt F) (wslot p j).view.junk [⟨Rect.whole S512x3072, ReadAs.same.apply (View.read (Elt F) (wsrc e j).view fw)⟩]) (ix4 0 0 x z)
      = (fw : S16x4096x3072.Idx → F .fp8e4m3) (ix3 e ⟨512 * j.val + (256 * h + x.val), by omega⟩ z) := by
  refine (w_load (c := c) _ p j h hh off ho hi x z).trans ?_
  rw [View.read_writes_whole]
  exact w_src fw e j ⟨256 * h + x.val, by omega⟩ z

end Cert.KernelIdeal.Gen
-- ==== Proof.Exps.lean ====
module

public import Idealize.ShloMosaic.Lib.Pointwise

@[expose] public section

set_option maxRecDepth 16384

noncomputable section

namespace Cert.Exps

open Idealize.ShloMosaic

/-- The word whose exponent field is `m` and whose other bits are zero. -/
def pw (m : Nat) : BitVec 32 := IntOp.shli .vector (BitVec.ofNat 32 m) 23#32

theorem pw_toNat (m : Nat) (h : m ≤ 255) : (pw m).toNat = m * 2 ^ 23 := by
  show (BitVec.ofNat 32 m <<< (23#32 : BitVec 32)).toNat = _
  rw [BitVec.shiftLeft_eq', BitVec.toNat_shiftLeft, BitVec.toNat_ofNat, Nat.shiftLeft_eq]
  have h1 : (23#32 : BitVec 32).toNat = 23 := rfl
  rw [h1]
  omega

theorem pw_ex (m : Nat) (h : m ≤ 255) : ((pw m).extractLsb' 23 8).toNat = m := by
  rw [BitVec.extractLsb'_toNat, pw_toNat m h, Nat.shiftRight_eq_div_pow]; omega
theorem pw_fr (m : Nat) (h : m ≤ 255) : ((pw m).extractLsb' 0 23).toNat = 0 := by
  rw [BitVec.extractLsb'_toNat, pw_toNat m h, Nat.shiftRight_eq_div_pow]; omega
theorem pw_sg (m : Nat) (h : m ≤ 255) : ((pw m).extractLsb' (8 + 23) 1 == 1#1) = false := by
  have : ((pw m).extractLsb' (8 + 23) 1).toNat = 0 := by
    rw [BitVec.extractLsb'_toNat, pw_toNat m h, Nat.shiftRight_eq_div_pow]; omega
  rw [beq_eq_false_iff_ne]; intro hh; rw [hh] at this; exact absurd this (by decide)

/-- That word denotes a power of two. -/
theorem ofBits_pw (m : Nat) (h1 : 1 ≤ m) (h : m ≤ 254) : Ideal.ofBits .f32 (pw m) = (((2 : ℝ) ^ ((m : ℤ) - 127) : ℝ) : EReal) := by
  show Ideal.ieee 8 23 (pw m) = _
  unfold Ideal.ieee
  rw [pw_ex m (by omega), pw_fr m (by omega), pw_sg m (by omega)]
  dsimp only
  rw [if_neg (by omega), if_neg (by omega)]
  congr 1
  rw [if_neg (by decide)]
  have e1 : ((m : ℤ) - (2 ^ (8 - 1) - 1 : ℤ) - ((23 : ℕ) : ℤ)) = ((m : ℤ) - 127) - 23 := by norm_num
  rw [e1, zpow_sub₀ (by norm_num : (2 : ℝ) ≠ 0) ((m : ℤ) - 127) 23]
  norm_num
  exact mul_div_cancel₀ _ (by norm_num)

theorem ofBits_pw_top : Ideal.ofBits .f32 (pw 255) = ⊤ := by
  show Ideal.ieee 8 23 (pw 255) = _
  unfold Ideal.ieee
  rw [pw_ex 255 (by omega), pw_fr 255 (by omega), pw_sg 255 (by omega)]
  rfl

theorem ofBits_126 : Ideal.ofBits .f32 0x42FC0000#32 = ((126 : ℝ) : EReal) := by
  show Ideal.ieee 8 23 0x42FC0000#32 = _
  unfold Ideal.ieee
  have h1 : ((0x42FC0000#32 : BitVec 32).extractLsb' 23 8).toNat = 133 := by decide
  have h2 : ((0x42FC0000#32 : BitVec 32).extractLsb' 0 23).toNat = 0x7C0000 := by decide
  have h3 : ((0x42FC0000#32 : BitVec 32).extractLsb' (8 + 23) 1 == 1#1) = false := by decide
  rw [h1, h2, h3]
  dsimp only
  rw [if_neg (by omega), if_neg (by omega)]
  congr 1
  norm_num [zpow_neg]

/-- The power of two of exponent `m - 127`. -/
def U (m : Nat) : EReal := (((2 : ℝ) ^ ((m : ℤ) - 127) : ℝ) : EReal)

theorem U_mono {m n : Nat} (h : m ≤ n) : U m ≤ U n := by
  unfold U
  rw [EReal.coe_le_coe_iff]
  exact zpow_le_zpow_right₀ (by norm_num) (by omega)

/-- How many powers of two a value below 2¹²⁶ reaches. -/
theorem cut (a : EReal) (ha : a < U 253) : ∃ c : Nat, c ≤ 252 ∧ ∀ m : Nat, 1 ≤ m → (U m ≤ a ↔ m ≤ c) := by
  classical
  have hex : ∃ m : Nat, ¬ (U (m + 1) ≤ a) := ⟨252, not_le.mpr ha⟩
  refine ⟨Nat.find hex, Nat.find_min' hex (not_le.mpr ha), fun m hm => ⟨fun h => ?_, fun h => ?_⟩⟩
  · by_contra hc
    exact Nat.find_spec hex ((U_mono (by omega)).trans h)
  · have := Nat.find_min hex (m := m - 1) (by omega)
    rw [not_not] at this
    rwa [Nat.sub_add_cancel hm] at this

/-- One step of the search. -/
def sstep (a : EReal) (b n : BitVec 32) : BitVec 32 :=
  Scalar.select (FloatOps.cmpf (F := Ideal) .olt (φ := .f32) a (Ideal.ofBits .f32 (IntOp.shli .vector (IntOp.addi b n) 23#32))) b (IntOp.addi b n)

theorem sstep_eq (a : EReal) (c : Nat) (hc : c ≤ 252) (h : ∀ m : Nat, 1 ≤ m → (U m ≤ a ↔ m ≤ c)) (b n : Nat) (hn : 1 ≤ n) (hb : b + n ≤ 255) :
    sstep a (BitVec.ofNat 32 b) (BitVec.ofNat 32 n) = BitVec.ofNat 32 (if b + n ≤ c then b + n else b) := by
  have e1 : IntOp.addi (BitVec.ofNat 32 b) (BitVec.ofNat 32 n) = BitVec.ofNat 32 (b + n) := (BitVec.ofNat_add b n).symm
  unfold sstep
  rw [e1]
  show Scalar.select (FloatOps.cmpf (F := Ideal) .olt (φ := .f32) a (Ideal.ofBits .f32 (pw (b + n)))) _ _ = _
  have hlt : a < Ideal.ofBits .f32 (pw (b + n)) ↔ ¬ (b + n ≤ c) := by
    by_cases h5 : b + n = 255
    · rw [h5, ofBits_pw_top]
      have : a < ⊤ := by
        have h6 : ¬ (U 253 ≤ a) := fun hh => by have := (h 253 (by omega)).mp hh; omega
        exact lt_of_lt_of_le (not_le.mp h6) le_top
      exact ⟨fun _ => by omega, fun _ => this⟩
    · rw [ofBits_pw (b + n) (by omega) (by omega)]
      rw [← h (b + n) (by omega)]
      exact not_le.symm
  show Scalar.select (BitVec.ofBool (decide (a < Ideal.ofBits .f32 (pw (b + n))))) _ _ = _
  by_cases hh : b + n ≤ c
  · rw [if_pos hh, decide_eq_false (by rw [hlt]; exact fun k => k hh)]; rfl
  · rw [if_neg hh, decide_eq_true (hlt.mpr hh)]; rfl

/-- The whole search. -/
def search (a : EReal) : BitVec 32 :=
  sstep a (sstep a (sstep a (sstep a (sstep a (sstep a (sstep a (sstep a 0#32 128#32) 64#32) 32#32) 16#32) 8#32) 4#32) 2#32) 1#32

theorem search_eq (a : EReal) (c : Nat) (hc : c ≤ 252) (h : ∀ m : Nat, 1 ≤ m → (U m ≤ a ↔ m ≤ c)) : search a = BitVec.ofNat 32 c := by
  have key : ∀ (w : BitVec 32) (b n : Nat), 1 ≤ n → b ≤ c → c < b + 2 * n → b + 2 * n ≤ 256 → w = BitVec.ofNat 32 b →
      ∃ b' : Nat, b' ≤ c ∧ c < b' + n ∧ b' + n ≤ 256 ∧ sstep a w (BitVec.ofNat 32 n) = BitVec.ofNat 32 b' := by
    rintro w b n hn hb1 hb2 hb3 rfl
    rw [sstep_eq a c hc h b n hn (by omega)]
    by_cases hh : b + n ≤ c
    · exact ⟨b + n, hh, by omega, by omega, by rw [if_pos hh]⟩
    · exact ⟨b, hb1, by omega, by omega, by rw [if_neg hh]⟩
  obtain ⟨b1, p1, q1, r1, e1⟩ := key 0#32 0 128 (by omega) (by omega) (by omega) (by omega) rfl
  obtain ⟨b2, p2, q2, r2, e2⟩ := key _ b1 64 (by omega) p1 q1 r1 e1
  obtain ⟨b3, p3, q3, r3, e3⟩ := key _ b2 32 (by omega) p2 q2 r2 e2
  obtain ⟨b4, p4, q4, r4, e4⟩ := key _ b3 16 (by omega) p3 q3 r3 e3
  obtain ⟨b5, p5, q5, r5, e5⟩ := key _ b4 8 (by omega) p4 q4 r4 e4
  obtain ⟨b6, p6, q6, r6, e6⟩ := key _ b5 4 (by omega) p5 q5 r5 e5
  obtain ⟨b7, p7, q7, r7, e7⟩ := key _ b6 2 (by omega) p6 q6 r6 e6
  obtain ⟨b8, p8, q8, r8, e8⟩ := key _ b7 1 (by omega) p7 q7 r7 e7
  have : b8 = c := by omega
  rw [← this]; exact e8

/-- The exponent a biased exponent stands for. -/
def xword (b : BitVec 32) : BitVec 32 :=
  Scalar.select (IntOp.ori (IntOp.cmpi .eq b 0#32) (IntOp.cmpi .eq b 255#32)) 0#32 (IntOp.subi b 126#32)

theorem xword_zero : xword (BitVec.ofNat 32 0) = 0#32 := by decide
theorem xword_pos (c : Nat) (h1 : 1 ≤ c) (h : c ≤ 252) : xword (BitVec.ofNat 32 c) = BitVec.ofNat 32 c - 126#32 := by
  have h0 : IntOp.cmpi .eq (BitVec.ofNat 32 c) 0#32 = 0#1 := by
    show BitVec.ofBool (BitVec.ofNat 32 c == 0#32) = 0#1
    have : (BitVec.ofNat 32 c == 0#32) = false := by
      rw [beq_eq_false_iff_ne]; intro hh
      have := congrArg BitVec.toNat hh; rw [BitVec.toNat_ofNat, BitVec.toNat_ofNat] at this; omega
    rw [this]; rfl
  have h5 : IntOp.cmpi .eq (BitVec.ofNat 32 c) 255#32 = 0#1 := by
    show BitVec.ofBool (BitVec.ofNat 32 c == 255#32) = 0#1
    have : (BitVec.ofNat 32 c == 255#32) = false := by
      rw [beq_eq_false_iff_ne]; intro hh
      have := congrArg BitVec.toNat hh; rw [BitVec.toNat_ofNat, BitVec.toNat_ofNat] at this; omega
    rw [this]; rfl
  unfold xword
  rw [h0, h5]; rfl

/-- The scale and its inverse, by the bits. -/
def kscale (a : EReal) : EReal := Ideal.ofBits .f32 (IntOp.shli .vector (IntOp.addi 127#32 (xword (search a))) 23#32)
def kinv (a : EReal) : EReal := Ideal.ofBits .f32 (IntOp.shli .vector (IntOp.subi 127#32 (xword (search a))) 23#32)

/-- The count of powers of two, the exponent by it. -/
def rcount (a : EReal) : EReal := ∑ x : Fin 256, if Ideal.exp2 ((((BitVec.ofNat 32 x.val).toInt : ℝ) : EReal) - Ideal.ofBits .f32 0x42FC0000#32) ≤ a then (1 : EReal) else 0
def rexp (a : EReal) : EReal := if rcount a = 0 then 0 else rcount a - Ideal.ofBits .f32 0x42FC0000#32

theorem sum_ind (c n : Nat) : (∑ x ∈ Finset.range n, if x < c then (1 : EReal) else 0) = ((min n c : Nat) : EReal) := by
  induction n with
  | zero => simp
  | succ n ih =>
    rw [Finset.sum_range_succ, ih]
    by_cases h : n < c
    · rw [if_pos h, show min (n + 1) c = min n c + 1 by omega]; push_cast; rfl
    · rw [if_neg h, show min (n + 1) c = min n c by omega, add_zero]

theorem exp2_int (z : ℤ) : Ideal.exp2 (((z : ℝ)) : EReal) = (((2 : ℝ) ^ z : ℝ) : EReal) := by
  rw [Ideal.exp2_coe]
  congr 1
  exact Real.rpow_intCast 2 z

theorem rcount_eq (a : EReal) (c : Nat) (hc : c ≤ 252) (h : ∀ m : Nat, 1 ≤ m → (U m ≤ a ↔ m ≤ c)) : rcount a = (c : EReal) := by
  have e : ∀ x : Fin 256, (if Ideal.exp2 ((((BitVec.ofNat 32 x.val).toInt : ℝ) : EReal) - Ideal.ofBits .f32 0x42FC0000#32) ≤ a then (1 : EReal) else 0) = if x.val < c then 1 else 0 := by
    intro x
    have h1 : (BitVec.ofNat 32 x.val).toInt = (x.val : ℤ) := by
      rw [BitVec.toInt_eq_toNat_of_lt (by rw [BitVec.toNat_ofNat]; have := x.isLt; omega), BitVec.toNat_ofNat, Nat.mod_eq_of_lt (by have := x.isLt; omega)]
    have h2 : ((((BitVec.ofNat 32 x.val).toInt : ℝ) : EReal) - Ideal.ofBits .f32 0x42FC0000#32) = ((((((x.val + 1 : Nat) : ℤ) - 127 : ℤ)) : ℝ) : EReal) := by
      rw [h1, ofBits_126, ← EReal.coe_sub]
      congr 1; push_cast; ring
    rw [h2, exp2_int]
    have h3 := h (x.val + 1) (by omega)
    unfold U at h3
    by_cases h4 : x.val < c
    · rw [if_pos h4, if_pos (h3.mpr (by omega))]
    · rw [if_neg h4, if_neg (fun hh => h4 (by have := h3.mp hh; omega))]
  unfold rcount
  rw [Finset.sum_congr rfl fun x _ => e x, Fin.sum_univ_eq_sum_range (fun x => if x < c then (1 : EReal) else 0) 256, sum_ind, Nat.min_eq_right (by omega)]

theorem word_scale (c : Nat) (h1 : 1 ≤ c) (h : c ≤ 252) : IntOp.addi 127#32 (BitVec.ofNat 32 c - 126#32) = BitVec.ofNat 32 (c + 1) := by
  show 127#32 + (BitVec.ofNat 32 c - 126#32) = _
  apply BitVec.eq_of_toNat_eq
  simp only [BitVec.toNat_add, BitVec.toNat_sub, BitVec.toNat_ofNat]
  omega
theorem word_inv (c : Nat) (h1 : 1 ≤ c) (h : c ≤ 252) : IntOp.subi 127#32 (BitVec.ofNat 32 c - 126#32) = BitVec.ofNat 32 (253 - c) := by
  show 127#32 - (BitVec.ofNat 32 c - 126#32) = _
  apply BitVec.eq_of_toNat_eq
  simp only [BitVec.toNat_sub, BitVec.toNat_ofNat]
  omega

/-- Below 2¹²⁶ the scale of the search is the scale of the count, and so its inverse. -/
theorem scales (a : EReal) (ha : a < U 253) : kscale a = Ideal.exp2 (rexp a) ∧ kinv a = Ideal.exp2 (0 - rexp a) := by
  obtain ⟨c, hc, h⟩ := cut a ha
  have hs := search_eq a c hc h
  have hr := rcount_eq a c hc h
  unfold kscale kinv rexp
  rw [hs, hr]
  by_cases h0 : c = 0
  · subst h0
    rw [xword_zero]
    have e0 : ((0 : Nat) : EReal) = 0 := Nat.cast_zero
    have e1 : Ideal.exp2 0 = 1 := by
      rw [show (0 : EReal) = ((((0 : ℤ)) : ℝ) : EReal) by simp, exp2_int]; simp
    have e2 : Ideal.ofBits .f32 (pw 127) = 1 := by
      rw [ofBits_pw 127 (by omega) (by omega)]; simp
    rw [if_pos e0, sub_zero, e1]
    exact ⟨e2, e2⟩
  · rw [xword_pos c (by omega) hc, word_scale c (by omega) hc, word_inv c (by omega) hc]
    have e0 : ¬ ((c : EReal) = 0) := by
      rw [Nat.cast_eq_zero]; exact h0
    have e1 : ((c : EReal) - Ideal.ofBits .f32 0x42FC0000#32) = ((((c : ℤ) - 126 : ℤ) : ℝ) : EReal) := by
      rw [ofBits_126, show (c : EReal) = ((c : ℝ) : EReal) from (EReal.coe_natCast).symm, ← EReal.coe_sub]
      congr 1; push_cast; ring
    rw [if_neg e0, e1]
    have e2 : (0 : EReal) - ((((c : ℤ) - 126 : ℤ) : ℝ) : EReal) = (((126 - (c : ℤ) : ℤ) : ℝ) : EReal) := by
      rw [← EReal.coe_zero, ← EReal.coe_sub]
      congr 1; push_cast; ring
    rw [e2, exp2_int, exp2_int]
    refine ⟨?_, ?_⟩
    · show Ideal.ofBits .f32 (pw (c + 1)) = _
      rw [ofBits_pw (c + 1) (by omega) (by omega)]
      congr 2; push_cast; ring
    · show Ideal.ofBits .f32 (pw (253 - c)) = _
      rw [ofBits_pw (253 - c) (by omega) (by omega)]
      congr 2; omega

end Cert.Exps
-- ==== Proof.Blocks.lean ====
module

public import proofs.«01_k».proof.Proof.Reads
public import proofs.«01_k».proof.Proof.Exps
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.Sem
open Cert.Exps (search kscale kinv)

/-- The largest magnitude of a row of a block, over 448. -/
def amax (X : Nat → Nat → EReal) (r g : Nat) : EReal :=
  Finset.fold max (Ideal.ofBits .f32 0xFF800000#32) (fun i : Fin 128 => FloatOps.absf (F := Ideal) (φ := .f32) (X r (128 * g + i.val))) Finset.univ * Ideal.ofBits .f32 0x3B124925#32

/-- A value over a scale, clipped, times the scale. -/
def qdq (s i x : EReal) : EReal := min (Ideal.ofBits .f32 0x43E00000#32) (max (Ideal.ofBits .f32 0xC3E00000#32) (x * i)) * s

/-- An activation as the kernel quantises it. -/
def qval (X : Nat → Nat → EReal) (r n : Nat) : EReal := qdq (kscale (amax X r (n / 128))) (kinv (amax X r (n / 128))) (X r n)

/-- What the sixteen tiles of quantised activations hold. -/
def tiles (X : Nat → Nat → EReal) (j : S16x16x256.Idx) : EReal :=
  if (j 2).val < 128 then (if (j 1).val < 8 then qval X (j 1).val (256 * (j 0).val + (j 2).val) else 0)
  else (if (j 1).val < 8 then 0 else qval X ((j 1).val - 8) (256 * (j 0).val + (j 2).val))

/-- What the spread scales hold. -/
def spread (S : Nat → Nat → EReal) (j : S32x3072.Idx) : EReal := S (j 0).val ((j 1).val / 128)

section Quantiser

theorem qstep_at (a : FVec Ideal S8x128 .f32) (b : IVec S8x128 32) (n : BitVec 32) (j : S8x128.Idx) : qstep a b n j = Cert.Exps.sstep (a j) (b j) n := rfl
theorem qbias_search (a : FVec Ideal S8x128 .f32) (j : S8x128.Idx) : qbias a j = search (a j) := by
  unfold qbias search
  rw [qstep_at, qstep_at, qstep_at, qstep_at, qstep_at, qstep_at, qstep_at, qstep_at]
  rfl
theorem qexp_xword (b : IVec S8x128 32) (j : S8x128.Idx) : qexp b j = Cert.Exps.xword (b j) := rfl

variable (v : Vec Ideal S1x8x128 .bf16) (X : Nat → Nat → EReal) (g : Nat) (hv : ∀ (r : Fin 8) (l : Fin 128), v (ix3 0 r l) = X r.val (128 * g + l.val))
include hv

theorem qamax_at (r : Fin 8) (l : Fin 128) : qamax v (ix2 r l) = amax X r.val g := by
  pointwise [qamax, qx]
  simp only [hv]
  rfl

theorem qbias_at (r : Fin 8) (l : Fin 128) : qbias (qamax v) (ix2 r l) = search (amax X r.val g) := by
  rw [← qamax_at v X g hv r l]; exact qbias_search _ _

theorem qscale_at (r : Fin 8) (l : Fin 128) : qscale v (ix2 r l) = kscale (amax X r.val g) := by
  unfold kscale
  rw [← qbias_at v X g hv r l, ← qexp_xword]
  generalize hb : qexp (qbias (qamax v)) = b
  unfold qscale
  rw [hb]; rfl

theorem qclip_at (r : Fin 8) (l : Fin 128) : qclip v (ix2 r l) = min (Ideal.ofBits .f32 0x43E00000#32) (max (Ideal.ofBits .f32 0xC3E00000#32) (X r.val (128 * g + l.val) * kinv (amax X r.val g))) := by
  rw [← hv r l]
  unfold kinv
  rw [← qbias_at v X g hv r l, ← qexp_xword]
  generalize hb : qexp (qbias (qamax v)) = b
  pointwise [qclip, qx]
  rw [hb]

theorem prod_at (q : FVec Ideal S8x128 .f32) (hq : ∀ (r : Fin 8) (l : Fin 128), q (ix2 r l) = qclip v (ix2 r l)) (r : Fin 8) (l : Fin 128) :
    q (ix2 r l) * qscale v (ix2 r l) = qval X r.val (128 * g + l.val) := by
  have e : (128 * g + l.val) / 128 = g := by omega
  rw [hq, qclip_at v X g hv, qscale_at v X g hv]
  unfold qval qdq
  rw [e]

theorem even_at (q : FVec Ideal S8x128 .f32) (hq : ∀ (r : Fin 8) (l : Fin 128), q (ix2 r l) = qclip v (ix2 r l)) (t : Nat) (ht : g = 2 * t) (hi) :
    ∀ x : S1x16x128.Idx, qeven q (qscale v) x = tiles X ((Rect.unit (s := S16x16x256) ![t, 0, 0] S1x16x128.size hi).emb x) := by
  intro x
  have h0 : (x 0).val = 0 := by have : (x 0).val < 1 := (x 0).isLt; omega
  have hx : (x 2).val < 128 := (x 2).isLt
  have e0 : (((Rect.unit (s := S16x16x256) ![t, 0, 0] S1x16x128.size hi).emb x) 0).val = t := by show t + 1 * (x 0).val = t; omega
  have e1 : (((Rect.unit (s := S16x16x256) ![t, 0, 0] S1x16x128.size hi).emb x) 1).val = (x 1).val := by show 0 + 1 * (x 1).val = _; omega
  have e2 : (((Rect.unit (s := S16x16x256) ![t, 0, 0] S1x16x128.size hi).emb x) 2).val = (x 2).val := by show 0 + 1 * (x 2).val = _; omega
  unfold tiles
  rw [e0, e1, e2, if_pos hx]
  clear e0 e1 e2
  idx_vars x
  pointwise [qeven, k0_pay2]
  have e : 256 * t + x2.val = 128 * g + x2.val := by omega
  by_cases hy : x1.val < 8
  · rw [if_pos hy, dif_pos hy, e]
    exact prod_at v X g hv q hq ⟨x1.val, hy⟩ x2
  · rw [if_neg hy, dif_neg hy]

theorem odd_at (q : FVec Ideal S8x128 .f32) (hq : ∀ (r : Fin 8) (l : Fin 128), q (ix2 r l) = qclip v (ix2 r l)) (t : Nat) (ht : g = 2 * t + 1) (hi) :
    ∀ x : S1x16x128.Idx, qodd q (qscale v) x = tiles X ((Rect.unit (s := S16x16x256) ![t, 0, 128] S1x16x128.size hi).emb x) := by
  intro x
  have h0 : (x 0).val = 0 := by have : (x 0).val < 1 := (x 0).isLt; omega
  have hx : (x 2).val < 128 := (x 2).isLt
  have e0 : (((Rect.unit (s := S16x16x256) ![t, 0, 128] S1x16x128.size hi).emb x) 0).val = t := by show t + 1 * (x 0).val = t; omega
  have e1 : (((Rect.unit (s := S16x16x256) ![t, 0, 128] S1x16x128.size hi).emb x) 1).val = (x 1).val := by show 0 + 1 * (x 1).val = _; omega
  have e2 : (((Rect.unit (s := S16x16x256) ![t, 0, 128] S1x16x128.size hi).emb x) 2).val = 128 + (x 2).val := by show 128 + 1 * (x 2).val = _; omega
  unfold tiles
  rw [e0, e1, e2, if_neg (by omega)]
  clear e0 e1 e2
  idx_vars x
  pointwise [qodd, k0_pay2]
  have e : 256 * t + (128 + x2.val) = 128 * g + x2.val := by omega
  by_cases hy : x1.val < 8
  · rw [if_pos hy]
    rw [dif_pos hy]
  · rw [if_neg hy, e]
    have hb : x1.val < 16 := x1.isLt
    rw [dif_neg hy]
    exact prod_at v X g hv q hq ⟨x1.val - 8, by omega⟩ x2

end Quantiser

theorem codes0 (v₀ v₁ v₂ v₃ : Vec Ideal S1x8x128 .bf16) (r : Fin 8) (l : Fin 128) : extractStridedSlice S8x128 ![0, 0] (qcodes v₀ v₁ v₂ v₃) slices_S32x128_o0_0_S8x128 (ix2 r l) = qclip v₀ (ix2 r l) := by
  pointwise [qcodes]
theorem codes1 (v₀ v₁ v₂ v₃ : Vec Ideal S1x8x128 .bf16) (r : Fin 8) (l : Fin 128) : extractStridedSlice S8x128 ![8, 0] (qcodes v₀ v₁ v₂ v₃) slices_S32x128_o8_0_S8x128 (ix2 r l) = qclip v₁ (ix2 r l) := by
  pointwise [qcodes]
theorem codes2 (v₀ v₁ v₂ v₃ : Vec Ideal S1x8x128 .bf16) (r : Fin 8) (l : Fin 128) : extractStridedSlice S8x128 ![16, 0] (qcodes v₀ v₁ v₂ v₃) slices_S32x128_o16_0_S8x128 (ix2 r l) = qclip v₂ (ix2 r l) := by
  pointwise [qcodes]
  rw [dif_neg (by omega), dif_neg (by omega), dif_pos (by omega)]
  exact congrArg (fun r : Fin 8 => qclip v₂ (ix2 r l)) (Fin.ext (by show 16 + r.val - 8 - 8 = r.val; omega))
theorem codes3 (v₀ v₁ v₂ v₃ : Vec Ideal S1x8x128 .bf16) (r : Fin 8) (l : Fin 128) : extractStridedSlice S8x128 ![24, 0] (qcodes v₀ v₁ v₂ v₃) slices_S32x128_o24_0_S8x128 (ix2 r l) = qclip v₃ (ix2 r l) := by
  pointwise [qcodes]
  rw [dif_neg (by omega), dif_neg (by omega), dif_neg (by omega)]
  exact congrArg (fun r : Fin 8 => qclip v₃ (ix2 r l)) (Fin.ext (by show 24 + r.val - 8 - 8 - 8 = r.val; omega))

theorem secol_at (v : FVec Ideal S32x24 .f32) (S : Nat → Nat → EReal) (hv : ∀ (r : Fin 32) (l : Fin 24), v (ix2 r l) = S r.val l.val) (j : Nat) (hj : j < 24) (o : Nat) (ho : o = 128 * j) (h) (hi) :
    ∀ x : S32x128.Idx, secol v j h x = spread S ((Rect.unit (s := S32x3072) ![0, o] S32x128.size hi).emb x) := by
  intro x
  have hx : (x 1).val < 128 := (x 1).isLt
  have e0 : (((Rect.unit (s := S32x3072) ![0, o] S32x128.size hi).emb x) 0).val = (x 0).val := by show 0 + 1 * (x 0).val = _; omega
  have e1 : (((Rect.unit (s := S32x3072) ![0, o] S32x128.size hi).emb x) 1).val = o + (x 1).val := by show o + 1 * (x 1).val = _; omega
  unfold spread
  rw [e0, e1, show (o + (x 1).val) / 128 = j by omega]
  clear e0 e1
  idx_vars x
  pointwise [secol]
  exact hv x0 ⟨j, hj⟩

/-- The `kb`-th term of a result: a group of quantised activations times its weights, times its scale. -/
def term (X W S : Nat → Nat → EReal) (y z kb : Nat) : EReal := (∑ i : Fin 128, qval X y (128 * kb + i.val) * W (128 * kb + i.val) z) * S kb (z / 128)

theorem kstep_at (acc : FVec Ideal S8x3072 .f32) (Xv : Vec Ideal S1x16x256 .bf16) (Wv : Vec Ideal S1x1x256x3072 .fp8e4m3) (s₀ s₁ : Vec Ideal S1x3072 .f32) (X W S : Nat → Nat → EReal) (t : Nat) (ht : t < 16)
    (hX : ∀ (r : Fin 16) (l : Fin 256), Xv (ix3 0 r l) = tiles X (ix3 ⟨t, ht⟩ r l)) (hW : ∀ (x : Fin 256) (z : Fin 3072), Wv (ix4 0 0 x z) = W (256 * t + x.val) z.val)
    (h0 : ∀ z : Fin 3072, s₀ (ix2 0 z) = S (2 * t) (z.val / 128)) (h1 : ∀ z : Fin 3072, s₁ (ix2 0 z) = S (2 * t + 1) (z.val / 128)) (y : Fin 8) (z : Fin 3072) :
    kstep acc Xv Wv s₀ s₁ (ix2 y z) = acc (ix2 y z) + term X W S y.val z.val (2 * t) + term X W S y.val z.val (2 * t + 1) := by
  have split (f : Fin 256 → EReal) : (∑ x : Fin 256, f x) = (∑ i : Fin 128, f ⟨i.val, by omega⟩) + ∑ i : Fin 128, f ⟨128 + i.val, by omega⟩ :=
    Fin.sum_univ_add (a := 128) (b := 128) f
  have lo (r l : Nat) (hr : r < 16) (hl : l < 256) : tiles X (ix3 ⟨t, ht⟩ ⟨r, hr⟩ ⟨l, hl⟩) = if l < 128 then (if r < 8 then qval X r (256 * t + l) else 0) else (if r < 8 then 0 else qval X (r - 8) (256 * t + l)) := rfl
  have hy : y.val < 8 := y.isLt
  pointwise [kstep]
  simp only [hX, hW, h0, h1]
  rw [split, split]
  simp only [lo]
  have c1 (i : Fin 128) : (i.val < 128) = True := by simp
  have c2 (i : Fin 128) : (128 + i.val < 128) = False := by simp
  have c3 : (y.val < 8) = True := by simp
  have c4 : (8 + y.val < 8) = False := by simp
  have c5 : 8 + y.val - 8 = y.val := by omega
  simp only [c1, c2, c3, c4, c5, if_true, if_false, zero_mul, Finset.sum_const_zero, add_zero, zero_add]
  unfold term
  have e1 (i : Fin 128) : 256 * t + i.val = 128 * (2 * t) + i.val := by omega
  have e2 (i : Fin 128) : 256 * t + (128 + i.val) = 128 * (2 * t + 1) + i.val := by omega
  simp only [e1, e2]

end Cert.KernelIdeal.Gen
-- ==== Proof.Val.lean ====
module

public import proofs.«01_k».proof.Proof.Fin
public import Idealize.ShloMosaic.Lib.Pipeline.FrameValue

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result is what the copies out carried, for some run of the list of active experts. -/
def Final (c : Dev nD) (f : Buf (Elt F) (mOut.view.loc (c : Thread nD τ))) : Prop :=
  ∃ (v1 : BitVec 32) (hw18 : k0_chk18 v1) (fa : Buf (Elt F) (sAct.view.loc (c : Thread nD τ))) (hv : v1.toNat < 17) (hact : ∀ i : S17.Idx, (i 0).val < (k0_t3_loop v1).trips → (fa i : BitVec 32).toNat < 16),
    actSpec fa (isAct (c := c) (fun i : S16.Idx => VD m c main_arg1 i)) 16 v1
    ∧ f = outG c (isAct (c := c) (fun i : S16.Idx => VD m c main_arg1 i)) (payOf c (isAct (c := c) (fun i : S16.Idx => VD m c main_arg1 i)) v1 hw18 (fun i : S16x8x4096.Idx => VD m c main_arg0 i) (fun i : S16x32x24.Idx => VD m c main_arg3 i) fa hv hact (fun i : S16.Idx => VD m c main_arg1 i) (VD m c main_arg2))

/-- What stands between points: the result is final once a point has been run. -/
def PhiV (n : Nat) (c : Dev nD) : sProp 𝕄 :=
  iprop(Pipeline.ΦD osem0 (cfg0.spec) H0 (VD m) c ∗ ∃ f, ⌜n = 0 ∨ Final m c f⌝ ∗ ptsW c mOut f)

theorem PhiV_eq (n : Nat) (c : Dev nD) :
    (PhiV m n c : sProp 𝕄)
      = iprop(iprop((∃ f, ptsW c sX f) ∗ (∃ f, ptsW c sWs f) ∗ (∃ f, ptsW c sW f) ∗ (∃ f, ptsW c sXq f) ∗ (∃ f, ptsW c sSe f) ∗ (∃ f, ptsW c sOb f) ∗ (∃ f, ptsW c sGs f) ∗ (∃ f, ptsW c sAct f))
          ∗ (∃ r, prngReg c r)
          ∗ iprop(semVal ((c : Thread nD τ), (SemLoc.dma 0 : SemLoc sig)) 0 ∗ semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0 ∗ semVal ((c : Thread nD τ), (SemLoc.dma 13 : SemLoc sig)) 0 ∗ semVal ((c : Thread nD τ), (SemLoc.dma 14 : SemLoc sig)) 0 ∗ semVal ((c : Thread nD τ), (SemLoc.dma 15 : SemLoc sig)) 0 ∗ semVal ((c : Thread nD τ), (SemLoc.dma 16 : SemLoc sig)) 0 ∗ semVal ((c : Thread nD τ), (SemLoc.dma 17 : SemLoc sig)) 0 ∗ semVal ((c : Thread nD τ), (SemLoc.dma 18 : SemLoc sig)) 0 ∗ semVal ((c : Thread nD τ), (SemLoc.dma 19 : SemLoc sig)) 0)
          ∗ iprop(ptsW c mX (VD m c main_arg0) ∗ ptsW c mGs (VD m c main_arg1) ∗ ptsW c mW (VD m c main_arg2) ∗ ptsW c mWs (VD m c main_arg3))
          ∗ iprop(∃ f, ⌜n = 0 ∨ Final m c f⌝ ∗ ptsW c mOut f)) := by
  have assoc : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  unfold PhiV
  rw [Pipeline.ΦD_eq, assoc, assoc, assoc, scopedRest0_eq, ownSems00_eq, hbmPts0_eq]; try rfl

/-- The proof data of the one region: nothing staged, nothing owed. -/
def datsV (_ : Fin 1) (c : Dev nD) : Dat τ (Elt F) Unit ℕ (Pipeline.UD sig nD τ) ℕ cfg0 c where
  A w := VD m c (Pipeline.arrRef (cfg0.spec) w)
  after w t := w.elim0
  Φ t := PhiV m t.val c
  q _ := fullShare
  owed _ := 0

def bodyPreV (c : Dev nD) (t : Fin cfg0.N) : sProp 𝕄 :=
  iprop((datsV m 0 c).Φ t.castSucc ∗ (datsV m 0 c).owesAt () t.castSucc)
def bodyPostV (c : Dev nD) (t : Fin cfg0.N) : sProp 𝕄 :=
  iprop((datsV m 0 c).Φ t.succ ∗ (datsV m 0 c).owesAt () t.succ)

set_option maxHeartbeats 1000000 in
theorem sound_bodyV (c : Dev nD) (t : Fin cfg0.N) :
    bodyPreV m c t ⊢ wp frame (wpE (defs₀ (F := F)) Variants.none c none) Set.univ (bodyAt0 t) (fun _ => bodyPostV m c t) := by
  unfold bodyPreV bodyPostV bodyAt0
  rw [show (datsV m 0 c).Φ t.succ = PhiV m (t.val + 1) c from rfl, show (datsV m 0 c).Φ t.castSucc = PhiV m t.val c from rfl, PhiV_eq, PhiV_eq]
  unfold Dat.owesAt Pipeline.owesWithin
  rw [show (datsV m 0 c).owed t.castSucc = 0 from rfl, show (datsV m 0 c).owed t.succ = 0 from rfl]
  iintro ⟨⟨⟨⟨%gx, HX⟩, ⟨%gws, HWs⟩, ⟨%gw, HSW⟩, ⟨%gxq, HXq⟩, ⟨%gse, HSe⟩, ⟨%gob, HOb⟩, ⟨%gg, HG⟩, ⟨%ga, HA⟩⟩, Hg, ⟨Hq0, Hq1, Hq2, Hq3, Hq4, Hq5, Hq6, Hq7, Hq8, Hq9, Hq10, Hq11, Hq12, Hq13, Hq14, Hq15, Hq16, Hq17, Hq18, Hq19⟩, ⟨HmX, HmG, HmW, HmWs⟩, ⟨%fo, -, Hout⟩⟩, ⟨%W, -, HO⟩⟩
  ihave HW := (glue_in c (VD m c main_arg2) gw) $$ [HSW HmW Hq3 Hq4 Hq5 Hq6 Hq7 Hq8 Hq9 Hq10 Hq11 Hq12 Hq13 Hq14 Hq15 Hq16 Hq17 Hq18]
  · isplitl [HSW]; iexact HSW
    isplitl [HmW]; iexact HmW
    isplitl [Hq3]; iexact Hq3
    isplitl [Hq4]; iexact Hq4
    isplitl [Hq5]; iexact Hq5
    isplitl [Hq6]; iexact Hq6
    isplitl [Hq7]; iexact Hq7
    isplitl [Hq8]; iexact Hq8
    isplitl [Hq9]; iexact Hq9
    isplitl [Hq10]; iexact Hq10
    isplitl [Hq11]; iexact Hq11
    isplitl [Hq12]; iexact Hq12
    isplitl [Hq13]; iexact Hq13
    isplitl [Hq14]; iexact Hq14
    isplitl [Hq15]; iexact Hq15
    isplitl [Hq16]; iexact Hq16
    isplitl [Hq17]; iexact Hq17
    iexact Hq18
  icases HW with ⟨HW0, HW1, HWr⟩
  iapply (run_body c (VD m c main_arg0) (VD m c main_arg1) (VD m c main_arg3) (VD m c main_arg2) fo gx gg gws ga gxq gse gob W _)
  isplitl [HmX]; iexact HmX
  isplitl [HmG]; iexact HmG
  isplitl [HmWs]; iexact HmWs
  isplitl [Hout]; iexact Hout
  isplitl [HX]; iexact HX
  isplitl [HG]; iexact HG
  isplitl [HWs]; iexact HWs
  isplitl [HA]; iexact HA
  isplitl [HXq]; iexact HXq
  isplitl [HSe]; iexact HSe
  isplitl [HOb]; iexact HOb
  isplitl [Hq0]; iexact Hq0
  isplitl [Hq1]; iexact Hq1
  isplitl [Hq2]; iexact Hq2
  isplitl [Hq19]; iexact Hq19
  isplitl [HW0]; iexact HW0
  isplitl [HW1]; iexact HW1
  isplitl [HO]; iexact HO
  unfold runPost
  iintro ⟨HmX, HmG, HmWs, HX, HG, HWs, HA, HXq, HSe, HOb, Hq0, Hq1, Hq2, Hq19, HW0, HW1, ⟨%W', HO⟩, ⟨%v1, %hw18, %fa, %hv, %hact, %hsp, Hout⟩⟩
  ihave HW := (glue_out c (VD m c main_arg2)) $$ [HW0 HW1 HWr]
  · isplitl [HW0]; iexact HW0
    isplitl [HW1]; iexact HW1
    iexact HWr
  icases HW with ⟨HSW, HmW, Hq3, Hq4, Hq5, Hq6, Hq7, Hq8, Hq9, Hq10, Hq11, Hq12, Hq13, Hq14, Hq15, Hq16, Hq17, Hq18⟩
  isplitr [HO]
  · isplitl [HX HWs HSW HXq HSe HOb HG HA]
    · isplitl [HX]; iexact HX
      isplitl [HWs]; iexact HWs
      isplitl [HSW]; iexact HSW
      isplitl [HXq]; iexact HXq
      isplitl [HSe]; iexact HSe
      isplitl [HOb]; iexact HOb
      isplitl [HG]; iexact HG
      iexact HA
    isplitl [Hg]; iexact Hg
    isplitl [Hq0 Hq1 Hq2 Hq3 Hq4 Hq5 Hq6 Hq7 Hq8 Hq9 Hq10 Hq11 Hq12 Hq13 Hq14 Hq15 Hq16 Hq17 Hq18 Hq19]
    · skip
      isplitl [Hq0]; iexact Hq0
      isplitl [Hq1]; iexact Hq1
      isplitl [Hq2]; iexact Hq2
      isplitl [Hq3]; iexact Hq3
      isplitl [Hq4]; iexact Hq4
      isplitl [Hq5]; iexact Hq5
      isplitl [Hq6]; iexact Hq6
      isplitl [Hq7]; iexact Hq7
      isplitl [Hq8]; iexact Hq8
      isplitl [Hq9]; iexact Hq9
      isplitl [Hq10]; iexact Hq10
      isplitl [Hq11]; iexact Hq11
      isplitl [Hq12]; iexact Hq12
      isplitl [Hq13]; iexact Hq13
      isplitl [Hq14]; iexact Hq14
      isplitl [Hq15]; iexact Hq15
      isplitl [Hq16]; iexact Hq16
      isplitl [Hq17]; iexact Hq17
      isplitl [Hq18]; iexact Hq18
      iexact Hq19
    isplitl [HmX HmG HmW HmWs]
    · isplitl [HmX]; iexact HmX
      isplitl [HmG]; iexact HmG
      isplitl [HmW]; iexact HmW
      iexact HmWs
    iexists _; isplitr
    · ipureintro; exact Or.inr ⟨v1, hw18, fa, hv, hact, hsp, rfl⟩
    iexact Hout
  iexists W'; isplitr; · ipureintro; exact fun _ _ => Or.inl trivial
  iexact HO

theorem body_obligationV (c : Dev nD) : BodyObligation (datsV (F := F) m 0 c) (defs₀ (F := F)) Variants.none () Set.univ := fun t => by
  rw [defs₀_row]
  refine triple_restated (sound_bodyV m c t) rfl ?_ fun _ => ?_
  · unfold bodyPreV; iintro ⟨H1, H2, -⟩; isplitl [H1]; iexact H1; iexact H2
  · unfold bodyPostV; iintro ⟨H1, H2⟩; isplitl [H1]; iexact H1; isplitl [H2]; iexact H2; iempintro

theorem phi_in (c : Dev nD) : Pipeline.ΦDRG osem0 (cfg0.spec) H0 R0 (VD m) (VD m) c ⊢ (PhiV m 0 c : sProp 𝕄) := by
  unfold Pipeline.ΦDRG PhiV Pipeline.routed R0
  rw [BI.bigSep_singleton]
  iintro ⟨H1, H2⟩
  isplitl [H1]; iexact H1
  iexists (VD m c main_v0); isplitr
  · ipureintro; exact Or.inl rfl
  iexact H2

theorem phi_out (c : Dev nD) (n : Nat) (hn : n ≠ 0) : PhiV m n c ⊢ (iprop(Pipeline.ΦD osem0 (cfg0.spec) H0 (VD m) c
    ∗ Pipeline.routedSat R0 c (fun W => Final m c (W main_v0))) : sProp 𝕄) := by
  unfold PhiV Pipeline.routedSat Pipeline.routed R0
  iintro ⟨H1, ⟨%f, %hf, H2⟩⟩
  isplitl [H1]; iexact H1
  iexists (Function.update (VD m c) main_v0 f)
  isplitr
  · ipureintro
    show Final m c (Function.update (VD m c) main_v0 f main_v0)
    rw [Function.update_self]
    exact hf.resolve_left hn
  rw [BI.bigSep_singleton, Function.update_self]
  iexact H2

set_option backward.isDefEq.respectTransparency.types false in
theorem run_mainV : θ_run defs (onTc (τ := τ) (main (F := F))) (s₀ m ρ) (fun r =>
    (∀ c : Dev nD, ∀ b ∈ Pipeline.restRefs sig (cfg0.spec) \ R0, r.2.mem ((c : Thread nD τ).loc b) = VD m c b)
    ∧ ∀ c : Dev nD, Final m c (r.2.mem ((c : Thread nD τ).loc main_v0))) :=
  have hrest : Pipeline.restRefs sig (cfg0.spec) ⊆ Pipeline.restRefsP sig Pipeline.Prefetch.none (cfg0.spec) :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (datsV m 0 c).toR) ownSemFacts0 H0 R0 (H0_sub.trans hrest) (R0_sub.trans (Finset.sdiff_subset_sdiff hrest subset_rfl)) m ρ main
    (hbody := fun c => (body_obligationV m c).loose.toR) (hq := fun c w => w.elim0)
    (howed := fun _ _ => rfl) (V := VD m) (hmain := hmainD m Variants.none) (hA := fun c w => w.elim0) (hpf := fun _ k => k.elim0)
    (PG := fun c W => Final m c (W main_v0))
    (hin := fun c => by
      refine BIBase.Entails.trans ?_ (phi_in m c)
      iintro ⟨H, -⟩; iexact H)
    (hout := fun c => phi_out m c cfg0.N (by decide))
    (Q' := _)
    (hQ' := fun r h => ⟨fun c => (h.1.1 c).2, fun c => by
      obtain ⟨W, hW, hb⟩ := h.1.2 c
      rw [hb main_v0 (Finset.mem_singleton_self _)]
      exact hW⟩)

/-- The program runs, its arguments end as they began, and the result is what the copies out carried. -/
theorem finalD : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ Final m c (r.2.mem ((c.tc : Thread nD τ).loc main_v0))) :=
  (θ_run defs _ _).mono (fun _ h c => ⟨(h.1 c main_arg0 (Finset.mem_sdiff.mpr ⟨Pipeline.mem_restRefs_of main_arg0 (by decide) (by decide), by decide⟩)),
      (h.1 c main_arg1 (Finset.mem_sdiff.mpr ⟨Pipeline.mem_restRefs_of main_arg1 (by decide) (by decide), by decide⟩)),
      (h.1 c main_arg2 (Finset.mem_sdiff.mpr ⟨Pipeline.mem_restRefs_of main_arg2 (by decide) (by decide), by decide⟩)),
      (h.1 c main_arg3 (Finset.mem_sdiff.mpr ⟨Pipeline.mem_restRefs_of main_arg3 (by decide) (by decide), by decide⟩)), h.2 c⟩) (run_mainV m ρ)

end Cert.KernelIdeal.Gen

end
-- ==== Proof.Tiles.lean ====
module

public import proofs.«01_k».proof.Proof.Blocks
public import proofs.«01_k».proof.Proof.Val

@[expose] public section

set_option maxRecDepth 16384

noncomputable section

namespace Cert.KernelIdeal.Gen

open Idealize.ShloMosaic Idealize.ShloMosaic.TcCoe Idealize.ShloMosaic.Tactic
open Idealize.SL Idealize.SL.Sem

/-- The first `n` blocks stored are those of one array, and nothing else is stored. -/
def TilesOk (X : Nat → Nat → EReal) (L : List (View.Piece (Elt Ideal) S16x16x256 .bf16)) (n : Nat) : Prop :=
  (∀ p ∈ L, ∀ x : p.1.shape.Idx, p.2 x = tiles X (p.1.emb x)) ∧ ∀ y : S16x16x256.Idx, 2 * (y 0).val + (y 2).val / 128 < n → ∃ p ∈ L, y ∈ p.1.set

theorem tiles_nil (X : Nat → Nat → EReal) : TilesOk X [] 0 := ⟨fun p hp => absurd hp List.not_mem_nil, fun y h => absurd h (by omega)⟩

theorem tiles_cons (X : Nat → Nat → EReal) (t b o n : Nat) (ho : o = 128 * b) (hb : b < 2) (hn : n = 2 * t + b) (hi) (w) (L : List (View.Piece (Elt Ideal) S16x16x256 .bf16))
    (hw : ∀ x : S1x16x128.Idx, w x = tiles X ((Rect.unit (s := S16x16x256) ![t, 0, o] S1x16x128.size hi).emb x)) (h : TilesOk X L n) :
    TilesOk X ((⟨Rect.unit (s := S16x16x256) ![t, 0, o] S1x16x128.size hi, w⟩ : View.Piece (Elt Ideal) S16x16x256 .bf16) :: L) (n + 1) := by
  refine ⟨List.forall_mem_cons.mpr ⟨hw, h.1⟩, fun y hy => ?_⟩
  by_cases hlt : 2 * (y 0).val + (y 2).val / 128 < n
  · obtain ⟨p, hp, hyp⟩ := h.2 y hlt
    exact ⟨p, List.mem_cons_of_mem _ hp, hyp⟩
  · refine ⟨_, List.mem_cons_self, ?_⟩
    rw [Rect.mem_set_unit]
    have h1 : (y 1).val < 16 := (y 1).isLt
    have h2 : (y 2).val < 256 := (y 2).isLt
    intro a
    fin_cases a
    · show t ≤ (y 0).val ∧ (y 0).val < t + 1; omega
    · show 0 ≤ (y 1).val ∧ (y 1).val < 0 + 16; omega
    · show o ≤ (y 2).val ∧ (y 2).val < o + 128; omega

theorem tile_read (X : Nat → Nat → EReal) (L : List (View.Piece (Elt Ideal) S16x16x256 .bf16)) (h : TilesOk X L 32) (t : Nat) (ht : t < 16) (hi) (r : Fin 16) (l : Fin 256) :
    sXq.view.readCov L (Rect.unit (s := S16x16x256) ![t, 0, 0] S1x16x256.size hi).toLoadRect (ix3 0 r l) = tiles X (ix3 ⟨t, ht⟩ r l) := by
  have e : (Rect.unit (s := S16x16x256) ![t, 0, 0] S1x16x256.size hi).toLoadRect.idx (ix3 0 r l) = (ix3 ⟨t, ht⟩ r l : S16x16x256.Idx) := by
    funext a
    refine Fin.ext ?_
    fin_cases a
    · show t + 1 * 0 = t; omega
    · show 0 + 1 * r.val = r.val; omega
    · show 0 + 1 * l.val = l.val; omega
  refine (congrFun (View.readCov_eq_canon' sXq.view L (Rect.unit (s := S16x16x256) ![t, 0, 0] S1x16x256.size hi).toLoadRect) (ix3 0 r l)).trans ?_
  refine (congrArg (View.canon L) e).trans ?_
  exact View.canon_apply_of_pieces (tiles X) L h.1 (ix3 ⟨t, ht⟩ r l) (h.2 (ix3 ⟨t, ht⟩ r l) (by show 2 * t + l.val / 128 < 32; omega))

/-- The same of the spread scales. -/
def SpreadOk (S : Nat → Nat → EReal) (L : List (View.Piece (Elt Ideal) S32x3072 .f32)) (n : Nat) : Prop :=
  (∀ p ∈ L, ∀ x : p.1.shape.Idx, p.2 x = spread S (p.1.emb x)) ∧ ∀ y : S32x3072.Idx, (y 1).val / 128 < n → ∃ p ∈ L, y ∈ p.1.set

theorem spread_nil (S : Nat → Nat → EReal) : SpreadOk S [] 0 := ⟨fun p hp => absurd hp List.not_mem_nil, fun y h => absurd h (by omega)⟩

theorem spread_cons (S : Nat → Nat → EReal) (o n : Nat) (ho : o = 128 * n) (hi) (w) (L : List (View.Piece (Elt Ideal) S32x3072 .f32))
    (hw : ∀ x : S32x128.Idx, w x = spread S ((Rect.unit (s := S32x3072) ![0, o] S32x128.size hi).emb x)) (h : SpreadOk S L n) :
    SpreadOk S ((⟨Rect.unit (s := S32x3072) ![0, o] S32x128.size hi, w⟩ : View.Piece (Elt Ideal) S32x3072 .f32) :: L) (n + 1) := by
  refine ⟨List.forall_mem_cons.mpr ⟨hw, h.1⟩, fun y hy => ?_⟩
  by_cases hlt : (y 1).val / 128 < n
  · obtain ⟨p, hp, hyp⟩ := h.2 y hlt
    exact ⟨p, List.mem_cons_of_mem _ hp, hyp⟩
  · refine ⟨_, List.mem_cons_self, ?_⟩
    rw [Rect.mem_set_unit]
    have h0 : (y 0).val < 32 := (y 0).isLt
    intro a
    fin_cases a
    · show 0 ≤ (y 0).val ∧ (y 0).val < 0 + 32; omega
    · show o ≤ (y 1).val ∧ (y 1).val < o + 128; omega

theorem spread_read (S : Nat → Nat → EReal) (L : List (View.Piece (Elt Ideal) S32x3072 .f32)) (h : SpreadOk S L 24) (kb : Nat) (hk : kb < 32) (hi) (z : Fin 3072) :
    sSe.view.readCov L (Rect.unit (s := S32x3072) ![kb, 0] S1x3072.size hi).toLoadRect (ix2 0 z) = S kb (z.val / 128) := by
  have e : (Rect.unit (s := S32x3072) ![kb, 0] S1x3072.size hi).toLoadRect.idx (ix2 0 z) = (ix2 ⟨kb, hk⟩ z : S32x3072.Idx) := by
    funext a
    refine Fin.ext ?_
    fin_cases a
    · show kb + 1 * 0 = kb; omega
    · show 0 + 1 * z.val = z.val; omega
  refine (congrFun (View.readCov_eq_canon' sSe.view L (Rect.unit (s := S32x3072) ![kb, 0] S1x3072.size hi).toLoadRect) (ix2 0 z)).trans ?_
  refine (congrArg (View.canon L) e).trans ?_
  exact View.canon_apply_of_pieces (spread S) L h.1 (ix2 ⟨kb, hk⟩ z) (h.2 (ix2 ⟨kb, hk⟩ z) (by show z.val / 128 < 24; omega))

/-- An expert's activations, weights and scales by row and column. -/
def rowsX (fx : S16x8x4096.Idx → EReal) (e : Fin 16) (r n : Nat) : EReal := if h : r < 8 ∧ n < 4096 then fx (ix3 e ⟨r, h.1⟩ ⟨n, h.2⟩) else 0
def rowsW (fw : S16x4096x3072.Idx → EReal) (e : Fin 16) (r n : Nat) : EReal := if h : r < 4096 ∧ n < 3072 then fw (ix3 e ⟨r, h.1⟩ ⟨n, h.2⟩) else 0
def rowsS (fs : S16x32x24.Idx → EReal) (e : Fin 16) (r n : Nat) : EReal := if h : r < 32 ∧ n < 24 then fs (ix3 e ⟨r, h.1⟩ ⟨n, h.2⟩) else 0
theorem rowsX_at (fx) (e : Fin 16) (r n : Nat) (hr : r < 8) (hn : n < 4096) : rowsX fx e r n = fx (ix3 e ⟨r, hr⟩ ⟨n, hn⟩) := dif_pos ⟨hr, hn⟩
theorem rowsW_at (fw) (e : Fin 16) (r n : Nat) (hr : r < 4096) (hn : n < 3072) : rowsW fw e r n = fw (ix3 e ⟨r, hr⟩ ⟨n, hn⟩) := dif_pos ⟨hr, hn⟩
theorem rowsS_at (fs) (e : Fin 16) (r n : Nat) (hr : r < 32) (hn : n < 24) : rowsS fs e r n = fs (ix3 e ⟨r, hr⟩ ⟨n, hn⟩) := dif_pos ⟨hr, hn⟩

section Trip

variable (c : Dev nD) (v1 : BitVec 32) (hw18 : k0_chk18 v1) (k : Fin (k0_t3_loop v1).trips) (e : Fin 16) (fx : Buf (Elt Ideal) (sX.view.loc (c : Thread nD τ)))
    (fws : Buf (Elt Ideal) (sWs.view.loc (c : Thread nD τ))) (fa : Buf (Elt Ideal) (sAct.view.loc (c : Thread nD τ))) (hact : ∀ i : S17.Idx, (i 0).val < (k0_t3_loop v1).trips → (fa i : BitVec 32).toNat < 16)
    (fw : Buf (Elt Ideal) (mW.view.loc (c : Thread nD τ))) (hea : actIs fa k.val e)
include hea

theorem xblk0 (r : Fin 8) (l : Fin 128) : trip1.sl.v20 c v1 hw18 k fx fa hact (ix3 0 r l) = rowsX fx e r.val (128 * 0 + l.val) :=
  (x_read fx e 0 (by decide) _ (by rw [← tword_eq c v1 hw18 k fa e hea]; rfl) _ r l).trans (rowsX_at fx e _ _ _ _).symm
theorem xblk1 (r : Fin 8) (l : Fin 128) : trip1.sl.v128 c v1 hw18 k fx fa hact (ix3 0 r l) = rowsX fx e r.val (128 * 1 + l.val) :=
  (x_read fx e 1 (by decide) _ (by rw [← tword_eq c v1 hw18 k fa e hea]; rfl) _ r l).trans (rowsX_at fx e _ _ _ _).symm
theorem xblk2 (r : Fin 8) (l : Fin 128) : trip1.sl.v236 c v1 hw18 k fx fa hact (ix3 0 r l) = rowsX fx e r.val (128 * 2 + l.val) :=
  (x_read fx e 2 (by decide) _ (by rw [← tword_eq c v1 hw18 k fa e hea]; rfl) _ r l).trans (rowsX_at fx e _ _ _ _).symm
theorem xblk3 (r : Fin 8) (l : Fin 128) : trip1.sl.v344 c v1 hw18 k fx fa hact (ix3 0 r l) = rowsX fx e r.val (128 * 3 + l.val) :=
  (x_read fx e 3 (by decide) _ (by rw [← tword_eq c v1 hw18 k fa e hea]; rfl) _ r l).trans (rowsX_at fx e _ _ _ _).symm
theorem xblk4 (r : Fin 8) (l : Fin 128) : trip1.sl.v483 c v1 hw18 k fx fa hact (ix3 0 r l) = rowsX fx e r.val (128 * 4 + l.val) :=
  (x_read fx e 4 (by decide) _ (by rw [← tword_eq c v1 hw18 k fa e hea]; rfl) _ r l).trans (rowsX_at fx e _ _ _ _).symm
theorem xblk5 (r : Fin 8) (l : Fin 128) : trip1.sl.v591 c v1 hw18 k fx fa hact (ix3 0 r l) = rowsX fx e r.val (128 * 5 + l.val) :=
  (x_read fx e 5 (by decide) _ (by rw [← tword_eq c v1 hw18 k fa e hea]; rfl) _ r l).trans (rowsX_at fx e _ _ _ _).symm
theorem xblk6 (r : Fin 8) (l : Fin 128) : trip1.sl.v699 c v1 hw18 k fx fa hact (ix3 0 r l) = rowsX fx e r.val (128 * 6 + l.val) :=
  (x_read fx e 6 (by decide) _ (by rw [← tword_eq c v1 hw18 k fa e hea]; rfl) _ r l).trans (rowsX_at fx e _ _ _ _).symm
theorem xblk7 (r : Fin 8) (l : Fin 128) : trip1.sl.v807 c v1 hw18 k fx fa hact (ix3 0 r l) = rowsX fx e r.val (128 * 7 + l.val) :=
  (x_read fx e 7 (by decide) _ (by rw [← tword_eq c v1 hw18 k fa e hea]; rfl) _ r l).trans (rowsX_at fx e _ _ _ _).symm
theorem xblk8 (r : Fin 8) (l : Fin 128) : trip1.sl.v946 c v1 hw18 k fx fa hact (ix3 0 r l) = rowsX fx e r.val (128 * 8 + l.val) :=
  (x_read fx e 8 (by decide) _ (by rw [← tword_eq c v1 hw18 k fa e hea]; rfl) _ r l).trans (rowsX_at fx e _ _ _ _).symm
theorem xblk9 (r : Fin 8) (l : Fin 128) : trip1.sl.v1054 c v1 hw18 k fx fa hact (ix3 0 r l) = rowsX fx e r.val (128 * 9 + l.val) :=
  (x_read fx e 9 (by decide) _ (by rw [← tword_eq c v1 hw18 k fa e hea]; rfl) _ r l).trans (rowsX_at fx e _ _ _ _).symm
theorem xblk10 (r : Fin 8) (l : Fin 128) : trip1.sl.v1162 c v1 hw18 k fx fa hact (ix3 0 r l) = rowsX fx e r.val (128 * 10 + l.val) :=
  (x_read fx e 10 (by decide) _ (by rw [← tword_eq c v1 hw18 k fa e hea]; rfl) _ r l).trans (rowsX_at fx e _ _ _ _).symm
theorem xblk11 (r : Fin 8) (l : Fin 128) : trip1.sl.v1270 c v1 hw18 k fx fa hact (ix3 0 r l) = rowsX fx e r.val (128 * 11 + l.val) :=
  (x_read fx e 11 (by decide) _ (by rw [← tword_eq c v1 hw18 k fa e hea]; rfl) _ r l).trans (rowsX_at fx e _ _ _ _).symm
theorem xblk12 (r : Fin 8) (l : Fin 128) : trip1.sl.v1409 c v1 hw18 k fx fa hact (ix3 0 r l) = rowsX fx e r.val (128 * 12 + l.val) :=
  (x_read fx e 12 (by decide) _ (by rw [← tword_eq c v1 hw18 k fa e hea]; rfl) _ r l).trans (rowsX_at fx e _ _ _ _).symm
theorem xblk13 (r : Fin 8) (l : Fin 128) : trip1.sl.v1517 c v1 hw18 k fx fa hact (ix3 0 r l) = rowsX fx e r.val (128 * 13 + l.val) :=
  (x_read fx e 13 (by decide) _ (by rw [← tword_eq c v1 hw18 k fa e hea]; rfl) _ r l).trans (rowsX_at fx e _ _ _ _).symm
theorem xblk14 (r : Fin 8) (l : Fin 128) : trip1.sl.v1625 c v1 hw18 k fx fa hact (ix3 0 r l) = rowsX fx e r.val (128 * 14 + l.val) :=
  (x_read fx e 14 (by decide) _ (by rw [← tword_eq c v1 hw18 k fa e hea]; rfl) _ r l).trans (rowsX_at fx e _ _ _ _).symm
theorem xblk15 (r : Fin 8) (l : Fin 128) : trip1.sl.v1733 c v1 hw18 k fx fa hact (ix3 0 r l) = rowsX fx e r.val (128 * 15 + l.val) :=
  (x_read fx e 15 (by decide) _ (by rw [← tword_eq c v1 hw18 k fa e hea]; rfl) _ r l).trans (rowsX_at fx e _ _ _ _).symm
theorem xblk16 (r : Fin 8) (l : Fin 128) : trip1.sl.v1872 c v1 hw18 k fx fa hact (ix3 0 r l) = rowsX fx e r.val (128 * 16 + l.val) :=
  (x_read fx e 16 (by decide) _ (by rw [← tword_eq c v1 hw18 k fa e hea]; rfl) _ r l).trans (rowsX_at fx e _ _ _ _).symm
theorem xblk17 (r : Fin 8) (l : Fin 128) : trip1.sl.v1980 c v1 hw18 k fx fa hact (ix3 0 r l) = rowsX fx e r.val (128 * 17 + l.val) :=
  (x_read fx e 17 (by decide) _ (by rw [← tword_eq c v1 hw18 k fa e hea]; rfl) _ r l).trans (rowsX_at fx e _ _ _ _).symm
theorem xblk18 (r : Fin 8) (l : Fin 128) : trip1.sl.v2088 c v1 hw18 k fx fa hact (ix3 0 r l) = rowsX fx e r.val (128 * 18 + l.val) :=
  (x_read fx e 18 (by decide) _ (by rw [← tword_eq c v1 hw18 k fa e hea]; rfl) _ r l).trans (rowsX_at fx e _ _ _ _).symm
theorem xblk19 (r : Fin 8) (l : Fin 128) : trip1.sl.v2196 c v1 hw18 k fx fa hact (ix3 0 r l) = rowsX fx e r.val (128 * 19 + l.val) :=
  (x_read fx e 19 (by decide) _ (by rw [← tword_eq c v1 hw18 k fa e hea]; rfl) _ r l).trans (rowsX_at fx e _ _ _ _).symm
theorem xblk20 (r : Fin 8) (l : Fin 128) : trip1.sl.v2335 c v1 hw18 k fx fa hact (ix3 0 r l) = rowsX fx e r.val (128 * 20 + l.val) :=
  (x_read fx e 20 (by decide) _ (by rw [← tword_eq c v1 hw18 k fa e hea]; rfl) _ r l).trans (rowsX_at fx e _ _ _ _).symm
theorem xblk21 (r : Fin 8) (l : Fin 128) : trip1.sl.v2443 c v1 hw18 k fx fa hact (ix3 0 r l) = rowsX fx e r.val (128 * 21 + l.val) :=
  (x_read fx e 21 (by decide) _ (by rw [← tword_eq c v1 hw18 k fa e hea]; rfl) _ r l).trans (rowsX_at fx e _ _ _ _).symm
theorem xblk22 (r : Fin 8) (l : Fin 128) : trip1.sl.v2551 c v1 hw18 k fx fa hact (ix3 0 r l) = rowsX fx e r.val (128 * 22 + l.val) :=
  (x_read fx e 22 (by decide) _ (by rw [← tword_eq c v1 hw18 k fa e hea]; rfl) _ r l).trans (rowsX_at fx e _ _ _ _).symm
theorem xblk23 (r : Fin 8) (l : Fin 128) : trip1.sl.v2659 c v1 hw18 k fx fa hact (ix3 0 r l) = rowsX fx e r.val (128 * 23 + l.val) :=
  (x_read fx e 23 (by decide) _ (by rw [← tword_eq c v1 hw18 k fa e hea]; rfl) _ r l).trans (rowsX_at fx e _ _ _ _).symm
theorem xblk24 (r : Fin 8) (l : Fin 128) : trip1.sl.v2798 c v1 hw18 k fx fa hact (ix3 0 r l) = rowsX fx e r.val (128 * 24 + l.val) :=
  (x_read fx e 24 (by decide) _ (by rw [← tword_eq c v1 hw18 k fa e hea]; rfl) _ r l).trans (rowsX_at fx e _ _ _ _).symm
theorem xblk25 (r : Fin 8) (l : Fin 128) : trip1.sl.v2906 c v1 hw18 k fx fa hact (ix3 0 r l) = rowsX fx e r.val (128 * 25 + l.val) :=
  (x_read fx e 25 (by decide) _ (by rw [← tword_eq c v1 hw18 k fa e hea]; rfl) _ r l).trans (rowsX_at fx e _ _ _ _).symm
theorem xblk26 (r : Fin 8) (l : Fin 128) : trip1.sl.v3014 c v1 hw18 k fx fa hact (ix3 0 r l) = rowsX fx e r.val (128 * 26 + l.val) :=
  (x_read fx e 26 (by decide) _ (by rw [← tword_eq c v1 hw18 k fa e hea]; rfl) _ r l).trans (rowsX_at fx e _ _ _ _).symm
theorem xblk27 (r : Fin 8) (l : Fin 128) : trip1.sl.v3122 c v1 hw18 k fx fa hact (ix3 0 r l) = rowsX fx e r.val (128 * 27 + l.val) :=
  (x_read fx e 27 (by decide) _ (by rw [← tword_eq c v1 hw18 k fa e hea]; rfl) _ r l).trans (rowsX_at fx e _ _ _ _).symm
theorem xblk28 (r : Fin 8) (l : Fin 128) : trip1.sl.v3261 c v1 hw18 k fx fa hact (ix3 0 r l) = rowsX fx e r.val (128 * 28 + l.val) :=
  (x_read fx e 28 (by decide) _ (by rw [← tword_eq c v1 hw18 k fa e hea]; rfl) _ r l).trans (rowsX_at fx e _ _ _ _).symm
theorem xblk29 (r : Fin 8) (l : Fin 128) : trip1.sl.v3369 c v1 hw18 k fx fa hact (ix3 0 r l) = rowsX fx e r.val (128 * 29 + l.val) :=
  (x_read fx e 29 (by decide) _ (by rw [← tword_eq c v1 hw18 k fa e hea]; rfl) _ r l).trans (rowsX_at fx e _ _ _ _).symm
theorem xblk30 (r : Fin 8) (l : Fin 128) : trip1.sl.v3477 c v1 hw18 k fx fa hact (ix3 0 r l) = rowsX fx e r.val (128 * 30 + l.val) :=
  (x_read fx e 30 (by decide) _ (by rw [← tword_eq c v1 hw18 k fa e hea]; rfl) _ r l).trans (rowsX_at fx e _ _ _ _).symm
theorem xblk31 (r : Fin 8) (l : Fin 128) : trip1.sl.v3585 c v1 hw18 k fx fa hact (ix3 0 r l) = rowsX fx e r.val (128 * 31 + l.val) :=
  (x_read fx e 31 (by decide) _ (by rw [← tword_eq c v1 hw18 k fa e hea]; rfl) _ r l).trans (rowsX_at fx e _ _ _ _).symm
theorem ok_HXq_4 : TilesOk (rowsX fx e) (trip1.sl.HXq_4 c v1 hw18 k fx fa hact) 4 := by
  delta trip1.sl.HXq_4
  refine tiles_cons (rowsX fx e) 1 1 _ 3 rfl (by decide) rfl _ _ _ (fun x => (congrFun (qpiece3 c v1 hw18 k fx fa hact) x).trans (odd_at _ (rowsX fx e) 3 (xblk3 c v1 hw18 k e fx fa hact hea) _ (codes3 _ _ _ _) 1 rfl _ x)) ?_
  refine tiles_cons (rowsX fx e) 1 0 _ 2 rfl (by decide) rfl _ _ _ (fun x => (congrFun (qpiece2 c v1 hw18 k fx fa hact) x).trans (even_at _ (rowsX fx e) 2 (xblk2 c v1 hw18 k e fx fa hact hea) _ (codes2 _ _ _ _) 1 rfl _ x)) ?_
  refine tiles_cons (rowsX fx e) 0 1 _ 1 rfl (by decide) rfl _ _ _ (fun x => (congrFun (qpiece1 c v1 hw18 k fx fa hact) x).trans (odd_at _ (rowsX fx e) 1 (xblk1 c v1 hw18 k e fx fa hact hea) _ (codes1 _ _ _ _) 0 rfl _ x)) ?_
  refine tiles_cons (rowsX fx e) 0 0 _ 0 rfl (by decide) rfl _ _ _ (fun x => (congrFun (qpiece0 c v1 hw18 k fx fa hact) x).trans (even_at _ (rowsX fx e) 0 (xblk0 c v1 hw18 k e fx fa hact hea) _ (codes0 _ _ _ _) 0 rfl _ x)) ?_
  exact tiles_nil _
theorem ok_HXq_6 : TilesOk (rowsX fx e) (trip1.sl.HXq_6 c v1 hw18 k fx fa hact) 6 := by
  delta trip1.sl.HXq_6
  refine tiles_cons (rowsX fx e) 2 1 _ 5 rfl (by decide) rfl _ _ _ (fun x => (congrFun (qpiece5 c v1 hw18 k fx fa hact) x).trans (odd_at _ (rowsX fx e) 5 (xblk5 c v1 hw18 k e fx fa hact hea) _ (codes1 _ _ _ _) 2 rfl _ x)) ?_
  refine tiles_cons (rowsX fx e) 2 0 _ 4 rfl (by decide) rfl _ _ _ (fun x => (congrFun (qpiece4 c v1 hw18 k fx fa hact) x).trans (even_at _ (rowsX fx e) 4 (xblk4 c v1 hw18 k e fx fa hact hea) _ (codes0 _ _ _ _) 2 rfl _ x)) ?_
  exact ok_HXq_4 c v1 hw18 k e fx fa hact hea
theorem ok_HXq_8 : TilesOk (rowsX fx e) (trip1.sl.HXq_8 c v1 hw18 k fx fa hact) 8 := by
  delta trip1.sl.HXq_8
  refine tiles_cons (rowsX fx e) 3 1 _ 7 rfl (by decide) rfl _ _ _ (fun x => (congrFun (qpiece7 c v1 hw18 k fx fa hact) x).trans (odd_at _ (rowsX fx e) 7 (xblk7 c v1 hw18 k e fx fa hact hea) _ (codes3 _ _ _ _) 3 rfl _ x)) ?_
  refine tiles_cons (rowsX fx e) 3 0 _ 6 rfl (by decide) rfl _ _ _ (fun x => (congrFun (qpiece6 c v1 hw18 k fx fa hact) x).trans (even_at _ (rowsX fx e) 6 (xblk6 c v1 hw18 k e fx fa hact hea) _ (codes2 _ _ _ _) 3 rfl _ x)) ?_
  exact ok_HXq_6 c v1 hw18 k e fx fa hact hea
theorem ok_HXq_12 : TilesOk (rowsX fx e) (trip1.sl.HXq_12 c v1 hw18 k fx fa hact) 12 := by
  delta trip1.sl.HXq_12
  refine tiles_cons (rowsX fx e) 5 1 _ 11 rfl (by decide) rfl _ _ _ (fun x => (congrFun (qpiece11 c v1 hw18 k fx fa hact) x).trans (odd_at _ (rowsX fx e) 11 (xblk11 c v1 hw18 k e fx fa hact hea) _ (codes3 _ _ _ _) 5 rfl _ x)) ?_
  refine tiles_cons (rowsX fx e) 5 0 _ 10 rfl (by decide) rfl _ _ _ (fun x => (congrFun (qpiece10 c v1 hw18 k fx fa hact) x).trans (even_at _ (rowsX fx e) 10 (xblk10 c v1 hw18 k e fx fa hact hea) _ (codes2 _ _ _ _) 5 rfl _ x)) ?_
  refine tiles_cons (rowsX fx e) 4 1 _ 9 rfl (by decide) rfl _ _ _ (fun x => (congrFun (qpiece9 c v1 hw18 k fx fa hact) x).trans (odd_at _ (rowsX fx e) 9 (xblk9 c v1 hw18 k e fx fa hact hea) _ (codes1 _ _ _ _) 4 rfl _ x)) ?_
  refine tiles_cons (rowsX fx e) 4 0 _ 8 rfl (by decide) rfl _ _ _ (fun x => (congrFun (qpiece8 c v1 hw18 k fx fa hact) x).trans (even_at _ (rowsX fx e) 8 (xblk8 c v1 hw18 k e fx fa hact hea) _ (codes0 _ _ _ _) 4 rfl _ x)) ?_
  exact ok_HXq_8 c v1 hw18 k e fx fa hact hea
theorem ok_HXq_13 : TilesOk (rowsX fx e) (trip1.sl.HXq_13 c v1 hw18 k fx fa hact) 13 := by
  delta trip1.sl.HXq_13
  refine tiles_cons (rowsX fx e) 6 0 _ 12 rfl (by decide) rfl _ _ _ (fun x => (congrFun (qpiece12 c v1 hw18 k fx fa hact) x).trans (even_at _ (rowsX fx e) 12 (xblk12 c v1 hw18 k e fx fa hact hea) _ (codes0 _ _ _ _) 6 rfl _ x)) ?_
  exact ok_HXq_12 c v1 hw18 k e fx fa hact hea
theorem ok_HXq_16 : TilesOk (rowsX fx e) (trip1.sl.HXq_16 c v1 hw18 k fx fa hact) 16 := by
  delta trip1.sl.HXq_16
  refine tiles_cons (rowsX fx e) 7 1 _ 15 rfl (by decide) rfl _ _ _ (fun x => (congrFun (qpiece15 c v1 hw18 k fx fa hact) x).trans (odd_at _ (rowsX fx e) 15 (xblk15 c v1 hw18 k e fx fa hact hea) _ (codes3 _ _ _ _) 7 rfl _ x)) ?_
  refine tiles_cons (rowsX fx e) 7 0 _ 14 rfl (by decide) rfl _ _ _ (fun x => (congrFun (qpiece14 c v1 hw18 k fx fa hact) x).trans (even_at _ (rowsX fx e) 14 (xblk14 c v1 hw18 k e fx fa hact hea) _ (codes2 _ _ _ _) 7 rfl _ x)) ?_
  refine tiles_cons (rowsX fx e) 6 1 _ 13 rfl (by decide) rfl _ _ _ (fun x => (congrFun (qpiece13 c v1 hw18 k fx fa hact) x).trans (odd_at _ (rowsX fx e) 13 (xblk13 c v1 hw18 k e fx fa hact hea) _ (codes1 _ _ _ _) 6 rfl _ x)) ?_
  exact ok_HXq_13 c v1 hw18 k e fx fa hact hea
theorem ok_HXq_19 : TilesOk (rowsX fx e) (trip1.sl.HXq_19 c v1 hw18 k fx fa hact) 19 := by
  delta trip1.sl.HXq_19
  refine tiles_cons (rowsX fx e) 9 0 _ 18 rfl (by decide) rfl _ _ _ (fun x => (congrFun (qpiece18 c v1 hw18 k fx fa hact) x).trans (even_at _ (rowsX fx e) 18 (xblk18 c v1 hw18 k e fx fa hact hea) _ (codes2 _ _ _ _) 9 rfl _ x)) ?_
  refine tiles_cons (rowsX fx e) 8 1 _ 17 rfl (by decide) rfl _ _ _ (fun x => (congrFun (qpiece17 c v1 hw18 k fx fa hact) x).trans (odd_at _ (rowsX fx e) 17 (xblk17 c v1 hw18 k e fx fa hact hea) _ (codes1 _ _ _ _) 8 rfl _ x)) ?_
  refine tiles_cons (rowsX fx e) 8 0 _ 16 rfl (by decide) rfl _ _ _ (fun x => (congrFun (qpiece16 c v1 hw18 k fx fa hact) x).trans (even_at _ (rowsX fx e) 16 (xblk16 c v1 hw18 k e fx fa hact hea) _ (codes0 _ _ _ _) 8 rfl _ x)) ?_
  exact ok_HXq_16 c v1 hw18 k e fx fa hact hea
theorem ok_HXq_20 : TilesOk (rowsX fx e) (trip1.sl.HXq_20 c v1 hw18 k fx fa hact) 20 := by
  delta trip1.sl.HXq_20
  refine tiles_cons (rowsX fx e) 9 1 _ 19 rfl (by decide) rfl _ _ _ (fun x => (congrFun (qpiece19 c v1 hw18 k fx fa hact) x).trans (odd_at _ (rowsX fx e) 19 (xblk19 c v1 hw18 k e fx fa hact hea) _ (codes3 _ _ _ _) 9 rfl _ x)) ?_
  exact ok_HXq_19 c v1 hw18 k e fx fa hact hea
theorem ok_HXq_24 : TilesOk (rowsX fx e) (trip1.sl.HXq_24 c v1 hw18 k fx fa hact) 24 := by
  delta trip1.sl.HXq_24
  refine tiles_cons (rowsX fx e) 11 1 _ 23 rfl (by decide) rfl _ _ _ (fun x => (congrFun (qpiece23 c v1 hw18 k fx fa hact) x).trans (odd_at _ (rowsX fx e) 23 (xblk23 c v1 hw18 k e fx fa hact hea) _ (codes3 _ _ _ _) 11 rfl _ x)) ?_
  refine tiles_cons (rowsX fx e) 11 0 _ 22 rfl (by decide) rfl _ _ _ (fun x => (congrFun (qpiece22 c v1 hw18 k fx fa hact) x).trans (even_at _ (rowsX fx e) 22 (xblk22 c v1 hw18 k e fx fa hact hea) _ (codes2 _ _ _ _) 11 rfl _ x)) ?_
  refine tiles_cons (rowsX fx e) 10 1 _ 21 rfl (by decide) rfl _ _ _ (fun x => (congrFun (qpiece21 c v1 hw18 k fx fa hact) x).trans (odd_at _ (rowsX fx e) 21 (xblk21 c v1 hw18 k e fx fa hact hea) _ (codes1 _ _ _ _) 10 rfl _ x)) ?_
  refine tiles_cons (rowsX fx e) 10 0 _ 20 rfl (by decide) rfl _ _ _ (fun x => (congrFun (qpiece20 c v1 hw18 k fx fa hact) x).trans (even_at _ (rowsX fx e) 20 (xblk20 c v1 hw18 k e fx fa hact hea) _ (codes0 _ _ _ _) 10 rfl _ x)) ?_
  exact ok_HXq_20 c v1 hw18 k e fx fa hact hea
theorem ok_HXq_26 : TilesOk (rowsX fx e) (trip1.sl.HXq_26 c v1 hw18 k fx fa hact) 26 := by
  delta trip1.sl.HXq_26
  refine tiles_cons (rowsX fx e) 12 1 _ 25 rfl (by decide) rfl _ _ _ (fun x => (congrFun (qpiece25 c v1 hw18 k fx fa hact) x).trans (odd_at _ (rowsX fx e) 25 (xblk25 c v1 hw18 k e fx fa hact hea) _ (codes1 _ _ _ _) 12 rfl _ x)) ?_
  refine tiles_cons (rowsX fx e) 12 0 _ 24 rfl (by decide) rfl _ _ _ (fun x => (congrFun (qpiece24 c v1 hw18 k fx fa hact) x).trans (even_at _ (rowsX fx e) 24 (xblk24 c v1 hw18 k e fx fa hact hea) _ (codes0 _ _ _ _) 12 rfl _ x)) ?_
  exact ok_HXq_24 c v1 hw18 k e fx fa hact hea
theorem ok_HXq_28 : TilesOk (rowsX fx e) (trip1.sl.HXq_28 c v1 hw18 k fx fa hact) 28 := by
  delta trip1.sl.HXq_28
  refine tiles_cons (rowsX fx e) 13 1 _ 27 rfl (by decide) rfl _ _ _ (fun x => (congrFun (qpiece27 c v1 hw18 k fx fa hact) x).trans (odd_at _ (rowsX fx e) 27 (xblk27 c v1 hw18 k e fx fa hact hea) _ (codes3 _ _ _ _) 13 rfl _ x)) ?_
  refine tiles_cons (rowsX fx e) 13 0 _ 26 rfl (by decide) rfl _ _ _ (fun x => (congrFun (qpiece26 c v1 hw18 k fx fa hact) x).trans (even_at _ (rowsX fx e) 26 (xblk26 c v1 hw18 k e fx fa hact hea) _ (codes2 _ _ _ _) 13 rfl _ x)) ?_
  exact ok_HXq_26 c v1 hw18 k e fx fa hact hea
theorem ok_HXq_32 : TilesOk (rowsX fx e) (trip1.sl.HXq_32 c v1 hw18 k fx fa hact) 32 := by
  delta trip1.sl.HXq_32
  refine tiles_cons (rowsX fx e) 15 1 _ 31 rfl (by decide) rfl _ _ _ (fun x => (congrFun (qpiece31 c v1 hw18 k fx fa hact) x).trans (odd_at _ (rowsX fx e) 31 (xblk31 c v1 hw18 k e fx fa hact hea) _ (codes3 _ _ _ _) 15 rfl _ x)) ?_
  refine tiles_cons (rowsX fx e) 15 0 _ 30 rfl (by decide) rfl _ _ _ (fun x => (congrFun (qpiece30 c v1 hw18 k fx fa hact) x).trans (even_at _ (rowsX fx e) 30 (xblk30 c v1 hw18 k e fx fa hact hea) _ (codes2 _ _ _ _) 15 rfl _ x)) ?_
  refine tiles_cons (rowsX fx e) 14 1 _ 29 rfl (by decide) rfl _ _ _ (fun x => (congrFun (qpiece29 c v1 hw18 k fx fa hact) x).trans (odd_at _ (rowsX fx e) 29 (xblk29 c v1 hw18 k e fx fa hact hea) _ (codes1 _ _ _ _) 14 rfl _ x)) ?_
  refine tiles_cons (rowsX fx e) 14 0 _ 28 rfl (by decide) rfl _ _ _ (fun x => (congrFun (qpiece28 c v1 hw18 k fx fa hact) x).trans (even_at _ (rowsX fx e) 28 (xblk28 c v1 hw18 k e fx fa hact hea) _ (codes0 _ _ _ _) 14 rfl _ x)) ?_
  exact ok_HXq_28 c v1 hw18 k e fx fa hact hea
theorem sblk (r : Fin 32) (l : Fin 24) : trip1.sl.r_246 c v1 hw18 k fws fa hact (ix2 r l) = rowsS fws e r.val l.val := by
  have h : trip1.sl.r_246 c v1 hw18 k fws fa hact (ix2 r l) = trip1.sl.v3724 c v1 hw18 k fws fa hact (ix3 0 r l) := by
    delta trip1.sl.r_246
    pointwise [k0_pay343]
  exact h.trans ((ws_read fws e _ (by rw [← tword_eq c v1 hw18 k fa e hea]; rfl) _ r l).trans (rowsS_at fws e _ _ _ _).symm)
theorem ok_HSe_7 : SpreadOk (rowsS fws e) (trip1.sl.HSe_7 c v1 hw18 k fws fa hact) 7 := by
  delta trip1.sl.HSe_7
  refine spread_cons (rowsS fws e) _ 6 rfl _ _ _ (fun x => (congrFun (sepiece6 c v1 hw18 k fws fa hact) x).trans (secol_at _ (rowsS fws e) (sblk c v1 hw18 k e fws fa hact hea) 6 (by decide) _ rfl _ _ x)) ?_
  refine spread_cons (rowsS fws e) _ 5 rfl _ _ _ (fun x => (congrFun (sepiece5 c v1 hw18 k fws fa hact) x).trans (secol_at _ (rowsS fws e) (sblk c v1 hw18 k e fws fa hact hea) 5 (by decide) _ rfl _ _ x)) ?_
  refine spread_cons (rowsS fws e) _ 4 rfl _ _ _ (fun x => (congrFun (sepiece4 c v1 hw18 k fws fa hact) x).trans (secol_at _ (rowsS fws e) (sblk c v1 hw18 k e fws fa hact hea) 4 (by decide) _ rfl _ _ x)) ?_
  refine spread_cons (rowsS fws e) _ 3 rfl _ _ _ (fun x => (congrFun (sepiece3 c v1 hw18 k fws fa hact) x).trans (secol_at _ (rowsS fws e) (sblk c v1 hw18 k e fws fa hact hea) 3 (by decide) _ rfl _ _ x)) ?_
  refine spread_cons (rowsS fws e) _ 2 rfl _ _ _ (fun x => (congrFun (sepiece2 c v1 hw18 k fws fa hact) x).trans (secol_at _ (rowsS fws e) (sblk c v1 hw18 k e fws fa hact hea) 2 (by decide) _ rfl _ _ x)) ?_
  refine spread_cons (rowsS fws e) _ 1 rfl _ _ _ (fun x => (congrFun (sepiece1 c v1 hw18 k fws fa hact) x).trans (secol_at _ (rowsS fws e) (sblk c v1 hw18 k e fws fa hact hea) 1 (by decide) _ rfl _ _ x)) ?_
  refine spread_cons (rowsS fws e) _ 0 rfl _ _ _ (fun x => (congrFun (sepiece0 c v1 hw18 k fws fa hact) x).trans (secol_at _ (rowsS fws e) (sblk c v1 hw18 k e fws fa hact hea) 0 (by decide) _ rfl _ _ x)) ?_
  exact spread_nil _
theorem ok_HSe_14 : SpreadOk (rowsS fws e) (trip1.sl.HSe_14 c v1 hw18 k fws fa hact) 14 := by
  delta trip1.sl.HSe_14
  refine spread_cons (rowsS fws e) _ 13 rfl _ _ _ (fun x => (congrFun (sepiece13 c v1 hw18 k fws fa hact) x).trans (secol_at _ (rowsS fws e) (sblk c v1 hw18 k e fws fa hact hea) 13 (by decide) _ rfl _ _ x)) ?_
  refine spread_cons (rowsS fws e) _ 12 rfl _ _ _ (fun x => (congrFun (sepiece12 c v1 hw18 k fws fa hact) x).trans (secol_at _ (rowsS fws e) (sblk c v1 hw18 k e fws fa hact hea) 12 (by decide) _ rfl _ _ x)) ?_
  refine spread_cons (rowsS fws e) _ 11 rfl _ _ _ (fun x => (congrFun (sepiece11 c v1 hw18 k fws fa hact) x).trans (secol_at _ (rowsS fws e) (sblk c v1 hw18 k e fws fa hact hea) 11 (by decide) _ rfl _ _ x)) ?_
  refine spread_cons (rowsS fws e) _ 10 rfl _ _ _ (fun x => (congrFun (sepiece10 c v1 hw18 k fws fa hact) x).trans (secol_at _ (rowsS fws e) (sblk c v1 hw18 k e fws fa hact hea) 10 (by decide) _ rfl _ _ x)) ?_
  refine spread_cons (rowsS fws e) _ 9 rfl _ _ _ (fun x => (congrFun (sepiece9 c v1 hw18 k fws fa hact) x).trans (secol_at _ (rowsS fws e) (sblk c v1 hw18 k e fws fa hact hea) 9 (by decide) _ rfl _ _ x)) ?_
  refine spread_cons (rowsS fws e) _ 8 rfl _ _ _ (fun x => (congrFun (sepiece8 c v1 hw18 k fws fa hact) x).trans (secol_at _ (rowsS fws e) (sblk c v1 hw18 k e fws fa hact hea) 8 (by decide) _ rfl _ _ x)) ?_
  refine spread_cons (rowsS fws e) _ 7 rfl _ _ _ (fun x => (congrFun (sepiece7 c v1 hw18 k fws fa hact) x).trans (secol_at _ (rowsS fws e) (sblk c v1 hw18 k e fws fa hact hea) 7 (by decide) _ rfl _ _ x)) ?_
  exact ok_HSe_7 c v1 hw18 k e fws fa hact hea
theorem ok_HSe_20 : SpreadOk (rowsS fws e) (trip1.sl.HSe_20 c v1 hw18 k fws fa hact) 20 := by
  delta trip1.sl.HSe_20
  refine spread_cons (rowsS fws e) _ 19 rfl _ _ _ (fun x => (congrFun (sepiece19 c v1 hw18 k fws fa hact) x).trans (secol_at _ (rowsS fws e) (sblk c v1 hw18 k e fws fa hact hea) 19 (by decide) _ rfl _ _ x)) ?_
  refine spread_cons (rowsS fws e) _ 18 rfl _ _ _ (fun x => (congrFun (sepiece18 c v1 hw18 k fws fa hact) x).trans (secol_at _ (rowsS fws e) (sblk c v1 hw18 k e fws fa hact hea) 18 (by decide) _ rfl _ _ x)) ?_
  refine spread_cons (rowsS fws e) _ 17 rfl _ _ _ (fun x => (congrFun (sepiece17 c v1 hw18 k fws fa hact) x).trans (secol_at _ (rowsS fws e) (sblk c v1 hw18 k e fws fa hact hea) 17 (by decide) _ rfl _ _ x)) ?_
  refine spread_cons (rowsS fws e) _ 16 rfl _ _ _ (fun x => (congrFun (sepiece16 c v1 hw18 k fws fa hact) x).trans (secol_at _ (rowsS fws e) (sblk c v1 hw18 k e fws fa hact hea) 16 (by decide) _ rfl _ _ x)) ?_
  refine spread_cons (rowsS fws e) _ 15 rfl _ _ _ (fun x => (congrFun (sepiece15 c v1 hw18 k fws fa hact) x).trans (secol_at _ (rowsS fws e) (sblk c v1 hw18 k e fws fa hact hea) 15 (by decide) _ rfl _ _ x)) ?_
  refine spread_cons (rowsS fws e) _ 14 rfl _ _ _ (fun x => (congrFun (sepiece14 c v1 hw18 k fws fa hact) x).trans (secol_at _ (rowsS fws e) (sblk c v1 hw18 k e fws fa hact hea) 14 (by decide) _ rfl _ _ x)) ?_
  exact ok_HSe_14 c v1 hw18 k e fws fa hact hea
theorem ok_HSe_24 : SpreadOk (rowsS fws e) (trip1.sl.HSe_24 c v1 hw18 k fws fa hact) 24 := by
  delta trip1.sl.HSe_24
  refine spread_cons (rowsS fws e) _ 23 rfl _ _ _ (fun x => (congrFun (sepiece23 c v1 hw18 k fws fa hact) x).trans (secol_at _ (rowsS fws e) (sblk c v1 hw18 k e fws fa hact hea) 23 (by decide) _ rfl _ _ x)) ?_
  refine spread_cons (rowsS fws e) _ 22 rfl _ _ _ (fun x => (congrFun (sepiece22 c v1 hw18 k fws fa hact) x).trans (secol_at _ (rowsS fws e) (sblk c v1 hw18 k e fws fa hact hea) 22 (by decide) _ rfl _ _ x)) ?_
  refine spread_cons (rowsS fws e) _ 21 rfl _ _ _ (fun x => (congrFun (sepiece21 c v1 hw18 k fws fa hact) x).trans (secol_at _ (rowsS fws e) (sblk c v1 hw18 k e fws fa hact hea) 21 (by decide) _ rfl _ _ x)) ?_
  refine spread_cons (rowsS fws e) _ 20 rfl _ _ _ (fun x => (congrFun (sepiece20 c v1 hw18 k fws fa hact) x).trans (secol_at _ (rowsS fws e) (sblk c v1 hw18 k e fws fa hact hea) 20 (by decide) _ rfl _ _ x)) ?_
  exact ok_HSe_20 c v1 hw18 k e fws fa hact hea
theorem wblk0 (x : Fin 256) (z : Fin 3072) : trip1.sl.v3883 c v1 hw18 k e fw (ix4 0 0 x z) = rowsW fw e (256 * 0 + x.val) z.val := by
  refine (w_read fw (par k.val) e 0 0 (by decide) _ (off92_eq v1 k) _ x z).trans ?_
  rw [rowsW_at fw e _ _ (by omega) z.isLt]
  exact congrArg (fun n : Fin 4096 => fw (ix3 e n z : S16x4096x3072.Idx)) (Fin.ext (by show 512 * 0 + (256 * 0 + x.val) = 256 * 0 + x.val; omega))
theorem wblk1 (x : Fin 256) (z : Fin 3072) : trip1.sl.v3899 c v1 hw18 k e fw (ix4 0 0 x z) = rowsW fw e (256 * 1 + x.val) z.val := by
  refine (w_read fw (par k.val) e 0 1 (by decide) _ (off93_eq v1 k) _ x z).trans ?_
  rw [rowsW_at fw e _ _ (by omega) z.isLt]
  exact congrArg (fun n : Fin 4096 => fw (ix3 e n z : S16x4096x3072.Idx)) (Fin.ext (by show 512 * 0 + (256 * 1 + x.val) = 256 * 1 + x.val; omega))
theorem wblk2 (x : Fin 256) (z : Fin 3072) : trip1.sl.v3928 c v1 hw18 k e fw (ix4 0 0 x z) = rowsW fw e (256 * 2 + x.val) z.val := by
  refine (w_read fw (par k.val) e 1 0 (by decide) _ (off102_eq v1 k) _ x z).trans ?_
  rw [rowsW_at fw e _ _ (by omega) z.isLt]
  exact congrArg (fun n : Fin 4096 => fw (ix3 e n z : S16x4096x3072.Idx)) (Fin.ext (by show 512 * 1 + (256 * 0 + x.val) = 256 * 2 + x.val; omega))
theorem wblk3 (x : Fin 256) (z : Fin 3072) : trip1.sl.v3944 c v1 hw18 k e fw (ix4 0 0 x z) = rowsW fw e (256 * 3 + x.val) z.val := by
  refine (w_read fw (par k.val) e 1 1 (by decide) _ (off103_eq v1 k) _ x z).trans ?_
  rw [rowsW_at fw e _ _ (by omega) z.isLt]
  exact congrArg (fun n : Fin 4096 => fw (ix3 e n z : S16x4096x3072.Idx)) (Fin.ext (by show 512 * 1 + (256 * 1 + x.val) = 256 * 3 + x.val; omega))
theorem wblk4 (x : Fin 256) (z : Fin 3072) : trip1.sl.v3973 c v1 hw18 k e fw (ix4 0 0 x z) = rowsW fw e (256 * 4 + x.val) z.val := by
  refine (w_read fw (par k.val) e 2 0 (by decide) _ (off112_eq v1 k) _ x z).trans ?_
  rw [rowsW_at fw e _ _ (by omega) z.isLt]
  exact congrArg (fun n : Fin 4096 => fw (ix3 e n z : S16x4096x3072.Idx)) (Fin.ext (by show 512 * 2 + (256 * 0 + x.val) = 256 * 4 + x.val; omega))
theorem wblk5 (x : Fin 256) (z : Fin 3072) : trip1.sl.v3989 c v1 hw18 k e fw (ix4 0 0 x z) = rowsW fw e (256 * 5 + x.val) z.val := by
  refine (w_read fw (par k.val) e 2 1 (by decide) _ (off113_eq v1 k) _ x z).trans ?_
  rw [rowsW_at fw e _ _ (by omega) z.isLt]
  exact congrArg (fun n : Fin 4096 => fw (ix3 e n z : S16x4096x3072.Idx)) (Fin.ext (by show 512 * 2 + (256 * 1 + x.val) = 256 * 5 + x.val; omega))
theorem wblk6 (x : Fin 256) (z : Fin 3072) : trip1.sl.v4018 c v1 hw18 k e fw (ix4 0 0 x z) = rowsW fw e (256 * 6 + x.val) z.val := by
  refine (w_read fw (par k.val) e 3 0 (by decide) _ (off122_eq v1 k) _ x z).trans ?_
  rw [rowsW_at fw e _ _ (by omega) z.isLt]
  exact congrArg (fun n : Fin 4096 => fw (ix3 e n z : S16x4096x3072.Idx)) (Fin.ext (by show 512 * 3 + (256 * 0 + x.val) = 256 * 6 + x.val; omega))
theorem wblk7 (x : Fin 256) (z : Fin 3072) : trip1.sl.v4034 c v1 hw18 k e fw (ix4 0 0 x z) = rowsW fw e (256 * 7 + x.val) z.val := by
  refine (w_read fw (par k.val) e 3 1 (by decide) _ (off123_eq v1 k) _ x z).trans ?_
  rw [rowsW_at fw e _ _ (by omega) z.isLt]
  exact congrArg (fun n : Fin 4096 => fw (ix3 e n z : S16x4096x3072.Idx)) (Fin.ext (by show 512 * 3 + (256 * 1 + x.val) = 256 * 7 + x.val; omega))
theorem wblk8 (x : Fin 256) (z : Fin 3072) : trip1.sl.v4063 c v1 hw18 k e fw (ix4 0 0 x z) = rowsW fw e (256 * 8 + x.val) z.val := by
  refine (w_read fw (par k.val) e 4 0 (by decide) _ (off132_eq v1 k) _ x z).trans ?_
  rw [rowsW_at fw e _ _ (by omega) z.isLt]
  exact congrArg (fun n : Fin 4096 => fw (ix3 e n z : S16x4096x3072.Idx)) (Fin.ext (by show 512 * 4 + (256 * 0 + x.val) = 256 * 8 + x.val; omega))
theorem wblk9 (x : Fin 256) (z : Fin 3072) : trip1.sl.v4079 c v1 hw18 k e fw (ix4 0 0 x z) = rowsW fw e (256 * 9 + x.val) z.val := by
  refine (w_read fw (par k.val) e 4 1 (by decide) _ (off133_eq v1 k) _ x z).trans ?_
  rw [rowsW_at fw e _ _ (by omega) z.isLt]
  exact congrArg (fun n : Fin 4096 => fw (ix3 e n z : S16x4096x3072.Idx)) (Fin.ext (by show 512 * 4 + (256 * 1 + x.val) = 256 * 9 + x.val; omega))
theorem wblk10 (x : Fin 256) (z : Fin 3072) : trip1.sl.v4108 c v1 hw18 k e fw (ix4 0 0 x z) = rowsW fw e (256 * 10 + x.val) z.val := by
  refine (w_read fw (par k.val) e 5 0 (by decide) _ (off142_eq v1 k) _ x z).trans ?_
  rw [rowsW_at fw e _ _ (by omega) z.isLt]
  exact congrArg (fun n : Fin 4096 => fw (ix3 e n z : S16x4096x3072.Idx)) (Fin.ext (by show 512 * 5 + (256 * 0 + x.val) = 256 * 10 + x.val; omega))
theorem wblk11 (x : Fin 256) (z : Fin 3072) : trip1.sl.v4124 c v1 hw18 k e fw (ix4 0 0 x z) = rowsW fw e (256 * 11 + x.val) z.val := by
  refine (w_read fw (par k.val) e 5 1 (by decide) _ (off143_eq v1 k) _ x z).trans ?_
  rw [rowsW_at fw e _ _ (by omega) z.isLt]
  exact congrArg (fun n : Fin 4096 => fw (ix3 e n z : S16x4096x3072.Idx)) (Fin.ext (by show 512 * 5 + (256 * 1 + x.val) = 256 * 11 + x.val; omega))
theorem wblk12 (x : Fin 256) (z : Fin 3072) : trip1.sl.v4153 c v1 hw18 k e fw (ix4 0 0 x z) = rowsW fw e (256 * 12 + x.val) z.val := by
  refine (w_read fw (par k.val) e 6 0 (by decide) _ (off152_eq v1 k) _ x z).trans ?_
  rw [rowsW_at fw e _ _ (by omega) z.isLt]
  exact congrArg (fun n : Fin 4096 => fw (ix3 e n z : S16x4096x3072.Idx)) (Fin.ext (by show 512 * 6 + (256 * 0 + x.val) = 256 * 12 + x.val; omega))
theorem wblk13 (x : Fin 256) (z : Fin 3072) : trip1.sl.v4169 c v1 hw18 k e fw (ix4 0 0 x z) = rowsW fw e (256 * 13 + x.val) z.val := by
  refine (w_read fw (par k.val) e 6 1 (by decide) _ (off153_eq v1 k) _ x z).trans ?_
  rw [rowsW_at fw e _ _ (by omega) z.isLt]
  exact congrArg (fun n : Fin 4096 => fw (ix3 e n z : S16x4096x3072.Idx)) (Fin.ext (by show 512 * 6 + (256 * 1 + x.val) = 256 * 13 + x.val; omega))
theorem wblk14 (x : Fin 256) (z : Fin 3072) : trip1.sl.v4198 c v1 hw18 k e fw (ix4 0 0 x z) = rowsW fw e (256 * 14 + x.val) z.val := by
  refine (w_read fw (par k.val) e 7 0 (by decide) _ (off162_eq v1 k) _ x z).trans ?_
  rw [rowsW_at fw e _ _ (by omega) z.isLt]
  exact congrArg (fun n : Fin 4096 => fw (ix3 e n z : S16x4096x3072.Idx)) (Fin.ext (by show 512 * 7 + (256 * 0 + x.val) = 256 * 14 + x.val; omega))
theorem wblk15 (x : Fin 256) (z : Fin 3072) : trip1.sl.v4214 c v1 hw18 k e fw (ix4 0 0 x z) = rowsW fw e (256 * 15 + x.val) z.val := by
  refine (w_read fw (par k.val) e 7 1 (by decide) _ (off163_eq v1 k) _ x z).trans ?_
  rw [rowsW_at fw e _ _ (by omega) z.isLt]
  exact congrArg (fun n : Fin 4096 => fw (ix3 e n z : S16x4096x3072.Idx)) (Fin.ext (by show 512 * 7 + (256 * 1 + x.val) = 256 * 15 + x.val; omega))

/-- The sum after each pair of groups. -/
theorem racc1_at (y : Fin 8) (z : Fin 3072) : racc1 c v1 hw18 k e fx fws fa hact fw (ix2 y z) = ∑ kb ∈ Finset.range 2, term (rowsX fx e) (rowsW fw e) (rowsS fws e) y.val z.val kb := by
  rw [Finset.sum_range_succ, Finset.sum_range_succ]
  refine (kstep_at _ _ _ _ _ (rowsX fx e) (rowsW fw e) (rowsS fws e) 0 (by decide) (tile_read _ _ (ok_HXq_32 c v1 hw18 k e fx fa hact hea) 0 (by decide) _) (wblk0 c v1 hw18 k e fa fw hea)
    (spread_read _ _ (ok_HSe_24 c v1 hw18 k e fws fa hact hea) 0 (by decide) _) (spread_read _ _ (ok_HSe_24 c v1 hw18 k e fws fa hact hea) 1 (by decide) _) y z).trans ?_
  have h0 : k0_pay372 (F := Ideal) (ix2 y z) = 0 := by pointwise [k0_pay372]
  rw [h0, Finset.sum_range_zero]
theorem racc2_at (y : Fin 8) (z : Fin 3072) : racc2 c v1 hw18 k e fx fws fa hact fw (ix2 y z) = ∑ kb ∈ Finset.range 4, term (rowsX fx e) (rowsW fw e) (rowsS fws e) y.val z.val kb := by
  rw [Finset.sum_range_succ, Finset.sum_range_succ]
  refine (kstep_at _ _ _ _ _ (rowsX fx e) (rowsW fw e) (rowsS fws e) 1 (by decide) (tile_read _ _ (ok_HXq_32 c v1 hw18 k e fx fa hact hea) 1 (by decide) _) (wblk1 c v1 hw18 k e fa fw hea)
    (spread_read _ _ (ok_HSe_24 c v1 hw18 k e fws fa hact hea) 2 (by decide) _) (spread_read _ _ (ok_HSe_24 c v1 hw18 k e fws fa hact hea) 3 (by decide) _) y z).trans ?_
  rw [racc1_at c v1 hw18 k e fx fws fa hact fw hea y z]
theorem racc3_at (y : Fin 8) (z : Fin 3072) : racc3 c v1 hw18 k e fx fws fa hact fw (ix2 y z) = ∑ kb ∈ Finset.range 6, term (rowsX fx e) (rowsW fw e) (rowsS fws e) y.val z.val kb := by
  rw [Finset.sum_range_succ, Finset.sum_range_succ]
  refine (kstep_at _ _ _ _ _ (rowsX fx e) (rowsW fw e) (rowsS fws e) 2 (by decide) (tile_read _ _ (ok_HXq_32 c v1 hw18 k e fx fa hact hea) 2 (by decide) _) (wblk2 c v1 hw18 k e fa fw hea)
    (spread_read _ _ (ok_HSe_24 c v1 hw18 k e fws fa hact hea) 4 (by decide) _) (spread_read _ _ (ok_HSe_24 c v1 hw18 k e fws fa hact hea) 5 (by decide) _) y z).trans ?_
  rw [racc2_at c v1 hw18 k e fx fws fa hact fw hea y z]
theorem racc4_at (y : Fin 8) (z : Fin 3072) : racc4 c v1 hw18 k e fx fws fa hact fw (ix2 y z) = ∑ kb ∈ Finset.range 8, term (rowsX fx e) (rowsW fw e) (rowsS fws e) y.val z.val kb := by
  rw [Finset.sum_range_succ, Finset.sum_range_succ]
  refine (kstep_at _ _ _ _ _ (rowsX fx e) (rowsW fw e) (rowsS fws e) 3 (by decide) (tile_read _ _ (ok_HXq_32 c v1 hw18 k e fx fa hact hea) 3 (by decide) _) (wblk3 c v1 hw18 k e fa fw hea)
    (spread_read _ _ (ok_HSe_24 c v1 hw18 k e fws fa hact hea) 6 (by decide) _) (spread_read _ _ (ok_HSe_24 c v1 hw18 k e fws fa hact hea) 7 (by decide) _) y z).trans ?_
  rw [racc3_at c v1 hw18 k e fx fws fa hact fw hea y z]
theorem racc5_at (y : Fin 8) (z : Fin 3072) : racc5 c v1 hw18 k e fx fws fa hact fw (ix2 y z) = ∑ kb ∈ Finset.range 10, term (rowsX fx e) (rowsW fw e) (rowsS fws e) y.val z.val kb := by
  rw [Finset.sum_range_succ, Finset.sum_range_succ]
  refine (kstep_at _ _ _ _ _ (rowsX fx e) (rowsW fw e) (rowsS fws e) 4 (by decide) (tile_read _ _ (ok_HXq_32 c v1 hw18 k e fx fa hact hea) 4 (by decide) _) (wblk4 c v1 hw18 k e fa fw hea)
    (spread_read _ _ (ok_HSe_24 c v1 hw18 k e fws fa hact hea) 8 (by decide) _) (spread_read _ _ (ok_HSe_24 c v1 hw18 k e fws fa hact hea) 9 (by decide) _) y z).trans ?_
  rw [racc4_at c v1 hw18 k e fx fws fa hact fw hea y z]
theorem racc6_at (y : Fin 8) (z : Fin 3072) : racc6 c v1 hw18 k e fx fws fa hact fw (ix2 y z) = ∑ kb ∈ Finset.range 12, term (rowsX fx e) (rowsW fw e) (rowsS fws e) y.val z.val kb := by
  rw [Finset.sum_range_succ, Finset.sum_range_succ]
  refine (kstep_at _ _ _ _ _ (rowsX fx e) (rowsW fw e) (rowsS fws e) 5 (by decide) (tile_read _ _ (ok_HXq_32 c v1 hw18 k e fx fa hact hea) 5 (by decide) _) (wblk5 c v1 hw18 k e fa fw hea)
    (spread_read _ _ (ok_HSe_24 c v1 hw18 k e fws fa hact hea) 10 (by decide) _) (spread_read _ _ (ok_HSe_24 c v1 hw18 k e fws fa hact hea) 11 (by decide) _) y z).trans ?_
  rw [racc5_at c v1 hw18 k e fx fws fa hact fw hea y z]
theorem racc7_at (y : Fin 8) (z : Fin 3072) : racc7 c v1 hw18 k e fx fws fa hact fw (ix2 y z) = ∑ kb ∈ Finset.range 14, term (rowsX fx e) (rowsW fw e) (rowsS fws e) y.val z.val kb := by
  rw [Finset.sum_range_succ, Finset.sum_range_succ]
  refine (kstep_at _ _ _ _ _ (rowsX fx e) (rowsW fw e) (rowsS fws e) 6 (by decide) (tile_read _ _ (ok_HXq_32 c v1 hw18 k e fx fa hact hea) 6 (by decide) _) (wblk6 c v1 hw18 k e fa fw hea)
    (spread_read _ _ (ok_HSe_24 c v1 hw18 k e fws fa hact hea) 12 (by decide) _) (spread_read _ _ (ok_HSe_24 c v1 hw18 k e fws fa hact hea) 13 (by decide) _) y z).trans ?_
  rw [racc6_at c v1 hw18 k e fx fws fa hact fw hea y z]
theorem racc8_at (y : Fin 8) (z : Fin 3072) : racc8 c v1 hw18 k e fx fws fa hact fw (ix2 y z) = ∑ kb ∈ Finset.range 16, term (rowsX fx e) (rowsW fw e) (rowsS fws e) y.val z.val kb := by
  rw [Finset.sum_range_succ, Finset.sum_range_succ]
  refine (kstep_at _ _ _ _ _ (rowsX fx e) (rowsW fw e) (rowsS fws e) 7 (by decide) (tile_read _ _ (ok_HXq_32 c v1 hw18 k e fx fa hact hea) 7 (by decide) _) (wblk7 c v1 hw18 k e fa fw hea)
    (spread_read _ _ (ok_HSe_24 c v1 hw18 k e fws fa hact hea) 14 (by decide) _) (spread_read _ _ (ok_HSe_24 c v1 hw18 k e fws fa hact hea) 15 (by decide) _) y z).trans ?_
  rw [racc7_at c v1 hw18 k e fx fws fa hact fw hea y z]
theorem racc9_at (y : Fin 8) (z : Fin 3072) : racc9 c v1 hw18 k e fx fws fa hact fw (ix2 y z) = ∑ kb ∈ Finset.range 18, term (rowsX fx e) (rowsW fw e) (rowsS fws e) y.val z.val kb := by
  rw [Finset.sum_range_succ, Finset.sum_range_succ]
  refine (kstep_at _ _ _ _ _ (rowsX fx e) (rowsW fw e) (rowsS fws e) 8 (by decide) (tile_read _ _ (ok_HXq_32 c v1 hw18 k e fx fa hact hea) 8 (by decide) _) (wblk8 c v1 hw18 k e fa fw hea)
    (spread_read _ _ (ok_HSe_24 c v1 hw18 k e fws fa hact hea) 16 (by decide) _) (spread_read _ _ (ok_HSe_24 c v1 hw18 k e fws fa hact hea) 17 (by decide) _) y z).trans ?_
  rw [racc8_at c v1 hw18 k e fx fws fa hact fw hea y z]
theorem racc10_at (y : Fin 8) (z : Fin 3072) : racc10 c v1 hw18 k e fx fws fa hact fw (ix2 y z) = ∑ kb ∈ Finset.range 20, term (rowsX fx e) (rowsW fw e) (rowsS fws e) y.val z.val kb := by
  rw [Finset.sum_range_succ, Finset.sum_range_succ]
  refine (kstep_at _ _ _ _ _ (rowsX fx e) (rowsW fw e) (rowsS fws e) 9 (by decide) (tile_read _ _ (ok_HXq_32 c v1 hw18 k e fx fa hact hea) 9 (by decide) _) (wblk9 c v1 hw18 k e fa fw hea)
    (spread_read _ _ (ok_HSe_24 c v1 hw18 k e fws fa hact hea) 18 (by decide) _) (spread_read _ _ (ok_HSe_24 c v1 hw18 k e fws fa hact hea) 19 (by decide) _) y z).trans ?_
  rw [racc9_at c v1 hw18 k e fx fws fa hact fw hea y z]
theorem racc11_at (y : Fin 8) (z : Fin 3072) : racc11 c v1 hw18 k e fx fws fa hact fw (ix2 y z) = ∑ kb ∈ Finset.range 22, term (rowsX fx e) (rowsW fw e) (rowsS fws e) y.val z.val kb := by
  rw [Finset.sum_range_succ, Finset.sum_range_succ]
  refine (kstep_at _ _ _ _ _ (rowsX fx e) (rowsW fw e) (rowsS fws e) 10 (by decide) (tile_read _ _ (ok_HXq_32 c v1 hw18 k e fx fa hact hea) 10 (by decide) _) (wblk10 c v1 hw18 k e fa fw hea)
    (spread_read _ _ (ok_HSe_24 c v1 hw18 k e fws fa hact hea) 20 (by decide) _) (spread_read _ _ (ok_HSe_24 c v1 hw18 k e fws fa hact hea) 21 (by decide) _) y z).trans ?_
  rw [racc10_at c v1 hw18 k e fx fws fa hact fw hea y z]
theorem racc12_at (y : Fin 8) (z : Fin 3072) : racc12 c v1 hw18 k e fx fws fa hact fw (ix2 y z) = ∑ kb ∈ Finset.range 24, term (rowsX fx e) (rowsW fw e) (rowsS fws e) y.val z.val kb := by
  rw [Finset.sum_range_succ, Finset.sum_range_succ]
  refine (kstep_at _ _ _ _ _ (rowsX fx e) (rowsW fw e) (rowsS fws e) 11 (by decide) (tile_read _ _ (ok_HXq_32 c v1 hw18 k e fx fa hact hea) 11 (by decide) _) (wblk11 c v1 hw18 k e fa fw hea)
    (spread_read _ _ (ok_HSe_24 c v1 hw18 k e fws fa hact hea) 22 (by decide) _) (spread_read _ _ (ok_HSe_24 c v1 hw18 k e fws fa hact hea) 23 (by decide) _) y z).trans ?_
  rw [racc11_at c v1 hw18 k e fx fws fa hact fw hea y z]
theorem racc13_at (y : Fin 8) (z : Fin 3072) : racc13 c v1 hw18 k e fx fws fa hact fw (ix2 y z) = ∑ kb ∈ Finset.range 26, term (rowsX fx e) (rowsW fw e) (rowsS fws e) y.val z.val kb := by
  rw [Finset.sum_range_succ, Finset.sum_range_succ]
  refine (kstep_at _ _ _ _ _ (rowsX fx e) (rowsW fw e) (rowsS fws e) 12 (by decide) (tile_read _ _ (ok_HXq_32 c v1 hw18 k e fx fa hact hea) 12 (by decide) _) (wblk12 c v1 hw18 k e fa fw hea)
    (spread_read _ _ (ok_HSe_24 c v1 hw18 k e fws fa hact hea) 24 (by decide) _) (spread_read _ _ (ok_HSe_24 c v1 hw18 k e fws fa hact hea) 25 (by decide) _) y z).trans ?_
  rw [racc12_at c v1 hw18 k e fx fws fa hact fw hea y z]
theorem racc14_at (y : Fin 8) (z : Fin 3072) : racc14 c v1 hw18 k e fx fws fa hact fw (ix2 y z) = ∑ kb ∈ Finset.range 28, term (rowsX fx e) (rowsW fw e) (rowsS fws e) y.val z.val kb := by
  rw [Finset.sum_range_succ, Finset.sum_range_succ]
  refine (kstep_at _ _ _ _ _ (rowsX fx e) (rowsW fw e) (rowsS fws e) 13 (by decide) (tile_read _ _ (ok_HXq_32 c v1 hw18 k e fx fa hact hea) 13 (by decide) _) (wblk13 c v1 hw18 k e fa fw hea)
    (spread_read _ _ (ok_HSe_24 c v1 hw18 k e fws fa hact hea) 26 (by decide) _) (spread_read _ _ (ok_HSe_24 c v1 hw18 k e fws fa hact hea) 27 (by decide) _) y z).trans ?_
  rw [racc13_at c v1 hw18 k e fx fws fa hact fw hea y z]
theorem racc15_at (y : Fin 8) (z : Fin 3072) : racc15 c v1 hw18 k e fx fws fa hact fw (ix2 y z) = ∑ kb ∈ Finset.range 30, term (rowsX fx e) (rowsW fw e) (rowsS fws e) y.val z.val kb := by
  rw [Finset.sum_range_succ, Finset.sum_range_succ]
  refine (kstep_at _ _ _ _ _ (rowsX fx e) (rowsW fw e) (rowsS fws e) 14 (by decide) (tile_read _ _ (ok_HXq_32 c v1 hw18 k e fx fa hact hea) 14 (by decide) _) (wblk14 c v1 hw18 k e fa fw hea)
    (spread_read _ _ (ok_HSe_24 c v1 hw18 k e fws fa hact hea) 28 (by decide) _) (spread_read _ _ (ok_HSe_24 c v1 hw18 k e fws fa hact hea) 29 (by decide) _) y z).trans ?_
  rw [racc14_at c v1 hw18 k e fx fws fa hact fw hea y z]
theorem racc16_at (y : Fin 8) (z : Fin 3072) : racc16 c v1 hw18 k e fx fws fa hact fw (ix2 y z) = ∑ kb ∈ Finset.range 32, term (rowsX fx e) (rowsW fw e) (rowsS fws e) y.val z.val kb := by
  rw [Finset.sum_range_succ, Finset.sum_range_succ]
  refine (kstep_at _ _ _ _ _ (rowsX fx e) (rowsW fw e) (rowsS fws e) 15 (by decide) (tile_read _ _ (ok_HXq_32 c v1 hw18 k e fx fa hact hea) 15 (by decide) _) (wblk15 c v1 hw18 k e fa fw hea)
    (spread_read _ _ (ok_HSe_24 c v1 hw18 k e fws fa hact hea) 30 (by decide) _) (spread_read _ _ (ok_HSe_24 c v1 hw18 k e fws fa hact hea) 31 (by decide) _) y z).trans ?_
  rw [racc15_at c v1 hw18 k e fx fws fa hact fw hea y z]

/-- The row an active expert's trip stores. -/
theorem trip_at (hv : v1.toNat < 17) (fg : Buf (Elt Ideal) (sGs.view.loc (c : Thread nD τ))) (y : Fin 8) (z : Fin 3072) :
    (trip1 c v1 hw18 k e fx fws fa hv hact fg fw).1 (ix3 0 y z)
      = Scalar.select (IntOp.cmpi .slt (BitVec.ofNat 32 y.val) (fg (ix16 e.val e.isLt))) (∑ kb ∈ Finset.range 32, term (rowsX fx e) (rowsW fw e) (rowsS fws e) y.val z.val kb) 0 := by
  have hp : (trip1 c v1 hw18 k e fx fws fa hv hact fg fw).1 = k0_pay394 (trip1.sl.r_282 c v1 hw18 k e fx fws fa hact fw) (trip1.sl.r_284 c v1 hw18 k fa hact fg) := rfl
  have hg : (trip1.sl.r_284 c v1 hw18 k fa hact fg : BitVec 32) = fg (ix16 e.val e.isLt) := by
    delta trip1.sl.r_284
    exact gs_read fg e.val e.isLt _ (tword_eq c v1 hw18 k fa e hea) _ _
  rw [hp, hg, r_282_eq]
  have h (acc : FVec Ideal S8x3072 .f32) (g : BitVec 32) : k0_pay394 acc g (ix3 0 y z) = Scalar.select (IntOp.cmpi .slt (BitVec.ofNat 32 y.val) g) (acc (ix2 y z)) 0 := by
    pointwise [k0_pay394]
  rw [h, racc16_at c v1 hw18 k e fx fws fa hact fw hea y z]

end Trip

end Cert.KernelIdeal.Gen

end
-- ==== Proof.Eq.lean ====
module

public import proofs.«01_k».proof.Proof.Tiles
public import proofs.«01_k».proof.Proof.Gen.ReferenceIdeal.Value
public import proofs.«01_k».proof.Defs

@[expose] public section

set_option maxRecDepth 16384

noncomputable section

namespace Cert.KernelIdeal.Gen

open Idealize.ShloMosaic Idealize.ShloMosaic.TcCoe Idealize.ShloMosaic.Tactic
open Idealize.SL Idealize.SL.Sem
open Cert.Exps (kscale kinv rexp rcount U)

/-- The largest number of bf16, and a little more than 1/448. -/
theorem ofBits_big : Ideal.ofBits .f32 0x7F7F0000#32 = (((2 : ℝ) ^ (127 : ℤ) * (255 / 128) : ℝ) : EReal) := by
  show Ideal.ieee 8 23 0x7F7F0000#32 = _
  unfold Ideal.ieee
  have h1 : ((0x7F7F0000#32 : BitVec 32).extractLsb' 23 8).toNat = 254 := by decide
  have h2 : ((0x7F7F0000#32 : BitVec 32).extractLsb' 0 23).toNat = 0x7F0000 := by decide
  have h3 : ((0x7F7F0000#32 : BitVec 32).extractLsb' (8 + 23) 1 == 1#1) = false := by decide
  rw [h1, h2, h3]
  dsimp only
  rw [if_neg (by omega), if_neg (by omega)]
  congr 1
  rw [if_neg (by decide)]
  norm_num
theorem ofBits_inv : Ideal.ofBits .f32 0x3B124925#32 = (((9586981 : ℝ) / 2 ^ 32 : ℝ) : EReal) := by
  show Ideal.ieee 8 23 0x3B124925#32 = _
  unfold Ideal.ieee
  have h1 : ((0x3B124925#32 : BitVec 32).extractLsb' 23 8).toNat = 118 := by decide
  have h2 : ((0x3B124925#32 : BitVec 32).extractLsb' 0 23).toNat = 0x124925 := by decide
  have h3 : ((0x3B124925#32 : BitVec 32).extractLsb' (8 + 23) 1 == 1#1) = false := by decide
  rw [h1, h2, h3]
  dsimp only
  rw [if_neg (by omega), if_neg (by omega)]
  congr 1
  rw [if_neg (by decide)]
  norm_num
theorem ofBits_bot : Ideal.ofBits .f32 0xFF800000#32 = ⊥ := by
  show Ideal.ieee 8 23 0xFF800000#32 = _
  unfold Ideal.ieee
  have h1 : ((0xFF800000#32 : BitVec 32).extractLsb' 23 8).toNat = 255 := by decide
  have h2 : ((0xFF800000#32 : BitVec 32).extractLsb' 0 23).toNat = 0 := by decide
  have h3 : ((0xFF800000#32 : BitVec 32).extractLsb' (8 + 23) 1 == 1#1) = true := by decide
  rw [h1, h2, h3]
  rfl

/-- Under the precondition the largest magnitude of a block, over 448, is below 2^126. -/
theorem amax_lt (X : Nat → Nat → EReal) (r g : Nat) (h : ∀ i : Fin 128, FloatOps.absf (F := Ideal) (φ := .f32) (X r (128 * g + i.val)) ≤ Ideal.ofBits .f32 0x7F7F0000#32) : amax X r g < U 253 := by
  have h1 : Finset.fold max (Ideal.ofBits .f32 0xFF800000#32) (fun i : Fin 128 => FloatOps.absf (F := Ideal) (φ := .f32) (X r (128 * g + i.val))) Finset.univ ≤ Ideal.ofBits .f32 0x7F7F0000#32 :=
    (Finset.fold_max_le _).mpr ⟨by rw [ofBits_bot]; exact bot_le, fun i _ => h i⟩
  have h2 : (0 : EReal) ≤ Ideal.ofBits .f32 0x3B124925#32 := by rw [ofBits_inv]; exact EReal.coe_nonneg.mpr (by norm_num)
  refine lt_of_le_of_lt (mul_le_mul_of_nonneg_right h1 h2) ?_
  rw [ofBits_big, ofBits_inv, ← EReal.coe_mul]
  unfold U
  rw [EReal.coe_lt_coe_iff]
  norm_num

section Reference

variable (x : Vec Ideal S16x8x4096 .bf16) (w : Vec Ideal S16x4096x3072 .fp8e4m3) (ws : Vec Ideal S16x32x24 .f32) (gs : Vec Ideal S16 .i32)

/-- The reference's quantised activations. -/
theorem ref_q (e : Fin 16) (kb : Fin 32) (y : Fin 8) (i : Fin 128) (he : e.val * 32 + kb.val < 512) (h : amax (rowsX x e) y.val kb.val < U 253) :
    Cert.ReferenceIdeal.Gen.k0_pay2 (F := Ideal) x (ix3 ⟨e.val * 32 + kb.val, he⟩ y i) = qval (rowsX x e) y.val (128 * kb.val + i.val) := by
  have hd : (128 * kb.val + i.val) / 128 = kb.val := by omega
  unfold qval qdq
  rw [hd, (Cert.Exps.scales _ h).1, (Cert.Exps.scales _ h).2]
  have hx (j : Fin 128) : x (ix3 e y ⟨kb.val * 128 + j.val, by omega⟩) = rowsX x e y.val (128 * kb.val + j.val) := by
    rw [rowsX_at x e _ _ y.isLt (by omega)]
    exact congrArg (fun n : Fin 4096 => x (ix3 e y n)) (Fin.ext (by show kb.val * 128 + j.val = 128 * kb.val + j.val; omega))
  pointwise [Cert.ReferenceIdeal.Gen.k0_pay2]
  simp only [hx]
  rfl

theorem ref_at (e : Fin 16) (y : Fin 8) (z : Fin 3072) (h : ∀ kb : Fin 32, amax (rowsX x e) y.val kb.val < U 253) :
    Cert.ReferenceIdeal.Gen.k0_pay1 (Cert.ReferenceIdeal.Gen.k0_pay2 (F := Ideal) x) w ws gs (ix3 e y z)
      = Scalar.select (IntOp.cmpi .slt (BitVec.ofNat 32 y.val) (gs (ix1 e))) (∑ kb ∈ Finset.range 32, term (rowsX x e) (rowsW w e) (rowsS ws e) y.val z.val kb) 0 := by
  rw [Finset.sum_range]
  pointwise [Cert.ReferenceIdeal.Gen.k0_pay1]
  refine congrArg (fun a : EReal => Scalar.select (IntOp.cmpi .slt (BitVec.ofNat 32 y.val) (gs (ix1 e))) a 0) (Finset.sum_congr rfl fun kb _ => ?_)
  unfold term
  refine congrArg₂ (· * ·) (Finset.sum_congr rfl fun i _ => congrArg₂ (· * ·) (ref_q x e kb y i (by omega) (h kb)) ?_) ?_
  · rw [rowsW_at w e _ _ (by omega) z.isLt]
    exact congrArg (fun n : Fin 4096 => w (ix3 e n z)) (Fin.ext (by show (e.val * 32 + kb.val) % 32 * 128 + i.val = 128 * kb.val + i.val; omega))
  · rw [rowsS_at ws e _ _ kb.isLt (by omega)]

end Reference

theorem ix16_eq (n : Nat) (h : n < 16) : ix16 n h = ix1 ⟨n, h⟩ := by
  funext a
  obtain rfl : a = 0 := Subsingleton.elim _ _
  rfl

theorem slt_off (n : Nat) (hn : n < 8) (g : BitVec 32) (h : g.toInt ≤ n) : IntOp.cmpi .slt (BitVec.ofNat 32 n) g = 0#1 := by
  have h1 : (BitVec.ofNat 32 n).toInt = n := by
    rw [BitVec.toInt_eq_toNat_of_lt (by simp [BitVec.toNat_ofNat]; omega), BitVec.toNat_ofNat, Nat.mod_eq_of_lt (by omega)]
  show BitVec.ofBool (decide ((BitVec.ofNat 32 n).toInt < g.toInt)) = 0#1
  rw [h1, decide_eq_false (by omega)]; rfl

theorem inrow_eq (e : Fin 16) (y : Fin 8) (z : Fin 3072) : inrow (ix3 e y z : S16x8x3072.Idx) = ix3 0 y z := by
  funext a
  refine Fin.ext ?_
  fin_cases a <;> rfl

theorem pay1_at (y : Fin 8) (z : Fin 3072) : k0_pay1 (F := Ideal) (ix3 0 y z) = 0 := by
  pointwise [k0_pay1]

/-- An expert past the empty ones is worked on; one before them has no rows. -/
theorem payOf_at (c : Dev nD) (fg : Buf (Elt Ideal) (sGs.view.loc (c : Thread nD τ))) (v1 : BitVec 32) (hw18 : k0_chk18 v1)
    (fx : Buf (Elt Ideal) (sX.view.loc (c : Thread nD τ))) (fws : Buf (Elt Ideal) (sWs.view.loc (c : Thread nD τ)))
    (fa : Buf (Elt Ideal) (sAct.view.loc (c : Thread nD τ))) (hv : v1.toNat < 17) (hact : ∀ i : S17.Idx, (i 0).val < (k0_t3_loop v1).trips → (fa i : BitVec 32).toNat < 16)
    (fw : Buf (Elt Ideal) (mW.view.loc (c : Thread nD τ))) (hsp : actSpec fa (isAct fg) 16 v1) (e : Fin 16) (y : Fin 8) (z : Fin 3072) :
    (outG c (isAct fg) (payOf c (isAct fg) v1 hw18 fx fws fa hv hact fg fw) : S16x8x3072.Idx → EReal) (ix3 e y z)
      = Scalar.select (IntOp.cmpi .slt (BitVec.ofNat 32 y.val) (fg (ix16 e.val e.isLt))) (∑ kb ∈ Finset.range 32, term (rowsX fx e) (rowsW fw e) (rowsS fws e) y.val z.val kb) 0 := by
  have ho : ord (isAct fg) ((ordE (isAct fg)).symm e) = e := (ordE (isAct fg)).apply_symm_apply e
  show payOf c (isAct fg) v1 hw18 fx fws fa hv hact fg fw ((ordE (isAct fg)).symm e) (inrow (ix3 e y z : S16x8x3072.Idx)) = _
  rw [inrow_eq]
  generalize (ordE (isAct fg)).symm e = t at ho
  unfold payOf
  split
  · rename_i ht
    have hk : nE (isAct fg) + (t.val - nE (isAct fg)) < 16 := by have := t.isLt; omega
    have ha := actSpec_is hsp (t.val - nE (isAct fg)) hk
    rw [show (⟨nE (isAct fg) + (t.val - nE (isAct fg)), hk⟩ : Fin 16) = t from Fin.ext (Nat.add_sub_cancel' ht.1), ho] at ha
    rw [ho]
    exact trip_at c v1 hw18 ⟨t.val - nE (isAct fg), ht.2⟩ e fx fws fa hact fw ha hv fg y z
  · rename_i ht
    have hoff : isAct fg e.val = false := by
      by_contra hne
      have hon : isAct fg e.val = true := by simpa using hne
      have hT := trips_of v1 hv
      have hn := nE_add (isAct fg)
      have h1 := hsp.1
      have htl := t.isLt
      have hlt : t.val < (fl (fun i => !isAct fg i) 16).length := by
        show t.val < nE (isAct fg)
        omega
      have hget : (ordL (isAct fg))[t.val]? = some e.val := by
        rw [← ho]; exact List.getElem?_eq_getElem _
      unfold ordL at hget
      rw [List.getElem?_append_left hlt] at hget
      have := fl_p _ hget
      rw [hon] at this
      exact absurd this (by decide)
    have hle : (fg (ix16 e.val e.isLt) : BitVec 32).toInt ≤ y.val := by
      unfold isAct at hoff
      rw [dif_pos e.isLt] at hoff
      have := of_decide_eq_false hoff
      omega
    rw [pay1_at, slt_off y.val y.isLt _ hle]
    rfl

/-- The result is the reference's. -/
theorem final_eq (m : (ℓ : Loc nD τ sig) → Buf (Elt Ideal) ℓ) (c : Dev nD)
    (hpre : ∀ j : S16x8x4096.Idx, FloatOps.absf (F := Ideal) (φ := .f32) ((m ((c.tc : Thread nD τ).loc main_arg0) : S16x8x4096.Idx → EReal) j) ≤ Ideal.ofBits .f32 0x7F7F0000#32)
    (f : Buf (Elt Ideal) (mOut.view.loc (c : Thread nD τ))) (h : Final m c f) :
    f = Cert.ReferenceIdeal.Value.G4 (F := Ideal) (m ((c.tc : Thread nD τ).loc main_arg0)) (m ((c.tc : Thread nD τ).loc main_arg1)) (m ((c.tc : Thread nD τ).loc main_arg2)) (m ((c.tc : Thread nD τ).loc main_arg3)) := by
  obtain ⟨v1, hw18, fa, hv, hact, hsp, rfl⟩ := h
  refine funext fun j : S16x8x3072.Idx => ?_
  rw [eq_ix3 j]
  refine (payOf_at c (fun i : S16.Idx => VD m c main_arg1 i) v1 hw18 (fun i : S16x8x4096.Idx => VD m c main_arg0 i) (fun i : S16x32x24.Idx => VD m c main_arg3 i) fa hv hact (VD m c main_arg2) hsp (j 0) (j 1) (j 2)).trans ?_
  refine Eq.trans ?_ (ref_at (m ((c.tc : Thread nD τ).loc main_arg0)) (m ((c.tc : Thread nD τ).loc main_arg2)) (m ((c.tc : Thread nD τ).loc main_arg3)) (m ((c.tc : Thread nD τ).loc main_arg1)) (j 0) (j 1) (j 2) (fun kb => amax_lt _ _ _ fun i => ?_)).symm
  · rw [ix16_eq]; rfl
  · have hj : (j 1).val < 8 := (j 1).isLt
    rw [rowsX_at _ (j 0) _ _ hj (by omega)]
    exact hpre _

theorem pre_abs [Cert.Pre_finite.Facts] (x : Vec Ideal S16x8x4096 .bf16) (gs : Vec Ideal S16 .i32) (w : Vec Ideal S16x4096x3072 .fp8e4m3) (ws : Vec Ideal S16x32x24 .f32) (h : Cert.Pre_finite.fn (F := Ideal) x gs w ws = fun _ => 1#1)
    (j : S16x8x4096.Idx) : FloatOps.absf (F := Ideal) (φ := .f32) (x j) ≤ Ideal.ofBits .f32 0x7F7F0000#32 := by
  have h1 : BitVec.ofBool (decide (FloatOps.absf (F := Ideal) (φ := .f32) (x j) ≤ Ideal.ofBits .f32 0x7F7F0000#32)) = 1#1 := congrFun h j
  by_contra hne
  rw [decide_eq_false hne] at h1
  exact absurd h1 (by decide)

end Cert.KernelIdeal.Gen

end
-- ==== Proof.lean ====
module

public import proofs.«01_k».proof.Defs
public import proofs.«01_k».proof.Proof.Fin
public import proofs.«01_k».proof.Proof.K.Fin
public import proofs.«01_k».proof.Proof.Eq
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The kernel runs without a fault, its arguments end as they began and every semaphore ends at zero. -/
theorem kernel_frame : @Cert.quiescent_Kernel Cert.Kernel.Gen.facts := fun m g _ => Cert.Kernel.Gen.frameD m g

/-- The same of the kernel over the reals. -/
theorem kernelIdeal_frame : @Cert.quiescent_KernelIdeal Cert.KernelIdeal.Gen.facts := fun m g _ => Cert.KernelIdeal.Gen.frameD m g

/-- The same of the reference over the reals. -/
theorem referenceIdeal_frame : @Cert.quiescent_ReferenceIdeal Cert.ReferenceIdeal.Gen.facts := fun m g _ => Cert.ReferenceIdeal.Gen.frame m g

/-- The side conditions of the precondition's operations. -/
theorem finiteFacts : Cert.Pre_finite.Facts := ⟨by decide, by decide⟩

/-- Over the reals the kernel's result is the reference's. -/
theorem kernel_reference : @Cert.algebraic_KernelIdeal_ReferenceIdeal_pre_finite Cert.KernelIdeal.Gen.facts Cert.ReferenceIdeal.Gen.facts finiteFacts := by
  intro m g m' g' hpre harg
  refine ⟨fun c => Cert.ReferenceIdeal.Value.G4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (Cert.KernelIdeal.Gen.finalD (F := Ideal) m g)
    obtain ⟨h0, h1, h2, h3, hf⟩ := h c
    exact ⟨Cert.KernelIdeal.Gen.final_eq m c (fun j => @Cert.KernelIdeal.Gen.pre_abs finiteFacts _ _ _ _ (hpre c) j) _ hf, h0, h1, h2, h3⟩
  · refine (θ_run _ _ _).mono (fun r h c => ?_) (Cert.ReferenceIdeal.Value.run (F := Ideal) m' g')
    obtain ⟨hv, h0, h1, h2, h3⟩ := h c
    obtain ⟨a0, a1, a2, a3⟩ := harg c
    refine ⟨hv.trans ?_, h0, h1, h2, h3⟩
    rw [a0, a1, a2, a3]

/-- The claims. -/
theorem claim : Cert.Claim := ⟨Cert.Kernel.Gen.facts, Cert.KernelIdeal.Gen.facts, Cert.ReferenceIdeal.Gen.facts, finiteFacts, kernel_frame, kernelIdeal_frame, fun m g _ => kernelIdeal_frame m g trivial,
  referenceIdeal_frame, fun m g _ => referenceIdeal_frame m g trivial, trivial, kernel_reference⟩

end Cert.Proof

end
